-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_bwd_finite [hPre_ffn_bwd_finite : Cert.Pre_ffn_bwd_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_bwd_finite [hPre_ffn_bwd_finite : Cert.Pre_ffn_bwd_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_bwd_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_bwd_finite [hPre_pool_bwd_finite : Cert.Pre_pool_bwd_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_bwd_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4)) (m ((c.tc : Thread Cert.PoolBwdIdeal.nD Cert.PoolBwdIdeal.τ).loc Cert.PoolBwdIdeal.main_arg5))) = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_bwd_finite [hPre_pool_bwd_finite : Cert.Pre_pool_bwd_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_bwd_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4)) (m ((c.tc : Thread Cert.PoolBwdRefIdeal.nD Cert.PoolBwdRefIdeal.τ).loc Cert.PoolBwdRefIdeal.main_arg5))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_bwd_finite [hPre_mix_bwd_finite : Cert.Pre_mix_bwd_finite.Facts] (m : (ℓ : Loc Cert.MixIdeal.nD Cert.MixIdeal.τ Cert.MixIdeal.sig) → Buf (Elt Ideal) ℓ) : Prop :=
  ∀ c : Dev Cert.MixIdeal.nD,
    (Cert.Pre_mix_bwd_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_bwd_finite [hPre_mix_bwd_finite : Cert.Pre_mix_bwd_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_bwd_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_ffn_bwd_finite [hFfnBwdIdeal : Cert.FfnBwdIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_bwd_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_ffn_bwd_finite [hFfnBwdRefIdeal : Cert.FfnBwdRefIdeal.Facts] [hPre_ffn_bwd_finite : Cert.Pre_ffn_bwd_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_bwd_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4)
      ∧ r.2.mem ((c.tc : Thread Cert.PoolBwd.nD Cert.PoolBwd.τ).loc Cert.PoolBwd.main_arg5) = m ((c.tc : Thread Cert.PoolBwd.nD Cert.PoolBwd.τ).loc Cert.PoolBwd.main_arg5))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
      ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5))
      ∧ r.2.sem = fun _ => 0)

def quiescent_PoolBwdIdeal_pre_pool_bwd_finite [hPoolBwdIdeal : Cert.PoolBwdIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_bwd_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
      ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4)
      ∧ r.2.mem ((c.tc : Thread Cert.PoolBwdRefIdeal.nD Cert.PoolBwdRefIdeal.τ).loc Cert.PoolBwdRefIdeal.main_arg5) = m ((c.tc : Thread Cert.PoolBwdRefIdeal.nD Cert.PoolBwdRefIdeal.τ).loc Cert.PoolBwdRefIdeal.main_arg5))
      ∧ r.2.sem = fun _ => 0)

def quiescent_PoolBwdRefIdeal_pre_pool_bwd_finite [hPoolBwdRefIdeal : Cert.PoolBwdRefIdeal.Facts] [hPre_pool_bwd_finite : Cert.Pre_pool_bwd_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_bwd_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4)
      ∧ r.2.mem ((c.tc : Thread Cert.PoolBwdRefIdeal.nD Cert.PoolBwdRefIdeal.τ).loc Cert.PoolBwdRefIdeal.main_arg5) = m ((c.tc : Thread Cert.PoolBwdRefIdeal.nD Cert.PoolBwdRefIdeal.τ).loc Cert.PoolBwdRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_mix_bwd_finite [hMixIdeal : Cert.MixIdeal.Facts] [hPre_mix_bwd_finite : Cert.Pre_mix_bwd_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_bwd_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_mix_bwd_finite [hMixRefIdeal : Cert.MixRefIdeal.Facts] [hPre_mix_bwd_finite : Cert.Pre_mix_bwd_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_bwd_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v68) = v0 c
          ∧ r.2.mem ((c.tc : Thread Cert.LossRefIdeal.nD Cert.LossRefIdeal.τ).loc Cert.LossRefIdeal.main_v72) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v13_0)) (v1 : (c : Dev Cert.InProjIdeal.nD) → Buf (Elt Ideal) ((c.tc : Thread Cert.InProjIdeal.nD Cert.InProjIdeal.τ).loc Cert.InProjIdeal.main_v13_1)) (v2 : (c : Dev Cert.InProjIdeal.nD) → Buf (Elt Ideal) ((c.tc : Thread Cert.InProjIdeal.nD Cert.InProjIdeal.τ).loc Cert.InProjIdeal.main_v13_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v13_0) = v0 c
          ∧ r.2.mem ((c.tc : Thread Cert.InProjIdeal.nD Cert.InProjIdeal.τ).loc Cert.InProjIdeal.main_v13_1) = v1 c
          ∧ r.2.mem ((c.tc : Thread Cert.InProjIdeal.nD Cert.InProjIdeal.τ).loc Cert.InProjIdeal.main_v13_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v73) = v0 c
          ∧ r.2.mem ((c.tc : Thread Cert.InProjRefIdeal.nD Cert.InProjRefIdeal.τ).loc Cert.InProjRefIdeal.main_v75) = v1 c
          ∧ r.2.mem ((c.tc : Thread Cert.InProjRefIdeal.nD Cert.InProjRefIdeal.τ).loc Cert.InProjRefIdeal.main_v72) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v7_0)) (v1 : (c : Dev Cert.OutProjIdeal.nD) → Buf (Elt Ideal) ((c.tc : Thread Cert.OutProjIdeal.nD Cert.OutProjIdeal.τ).loc Cert.OutProjIdeal.main_v9_0)) (v2 : (c : Dev Cert.OutProjIdeal.nD) → Buf (Elt Ideal) ((c.tc : Thread Cert.OutProjIdeal.nD Cert.OutProjIdeal.τ).loc Cert.OutProjIdeal.main_v9_1)) (v3 : (c : Dev Cert.OutProjIdeal.nD) → Buf (Elt Ideal) ((c.tc : Thread Cert.OutProjIdeal.nD Cert.OutProjIdeal.τ).loc Cert.OutProjIdeal.main_v9_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7_0) = v0 c
          ∧ r.2.mem ((c.tc : Thread Cert.OutProjIdeal.nD Cert.OutProjIdeal.τ).loc Cert.OutProjIdeal.main_v9_0) = v1 c
          ∧ r.2.mem ((c.tc : Thread Cert.OutProjIdeal.nD Cert.OutProjIdeal.τ).loc Cert.OutProjIdeal.main_v9_1) = v2 c
          ∧ r.2.mem ((c.tc : Thread Cert.OutProjIdeal.nD Cert.OutProjIdeal.τ).loc Cert.OutProjIdeal.main_v9_2) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v18) = v0 c
          ∧ r.2.mem ((c.tc : Thread Cert.OutProjRefIdeal.nD Cert.OutProjRefIdeal.τ).loc Cert.OutProjRefIdeal.main_v20) = v1 c
          ∧ r.2.mem ((c.tc : Thread Cert.OutProjRefIdeal.nD Cert.OutProjRefIdeal.τ).loc Cert.OutProjRefIdeal.main_v22) = v2 c
          ∧ r.2.mem ((c.tc : Thread Cert.OutProjRefIdeal.nD Cert.OutProjRefIdeal.τ).loc Cert.OutProjRefIdeal.main_v17) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_FfnBwd_FfnBwdIdeal : Prop :=
  True

def algebraic_FfnBwdIdeal_FfnBwdRefIdeal_pre_ffn_bwd_finite [hFfnBwdIdeal : Cert.FfnBwdIdeal.Facts] [hFfnBwdRefIdeal : Cert.FfnBwdRefIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_ffn_bwd_finite m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v49_0)) (v1 : (c : Dev Cert.FfnBwdIdeal.nD) → Buf (Elt Ideal) ((c.tc : Thread Cert.FfnBwdIdeal.nD Cert.FfnBwdIdeal.τ).loc Cert.FfnBwdIdeal.main_v49_1)) (v2 : (c : Dev Cert.FfnBwdIdeal.nD) → Buf (Elt Ideal) ((c.tc : Thread Cert.FfnBwdIdeal.nD Cert.FfnBwdIdeal.τ).loc Cert.FfnBwdIdeal.main_v49_2)) (v3 : (c : Dev Cert.FfnBwdIdeal.nD) → Buf (Elt Ideal) ((c.tc : Thread Cert.FfnBwdIdeal.nD Cert.FfnBwdIdeal.τ).loc Cert.FfnBwdIdeal.main_v49_3)) (v4 : (c : Dev Cert.FfnBwdIdeal.nD) → Buf (Elt Ideal) ((c.tc : Thread Cert.FfnBwdIdeal.nD Cert.FfnBwdIdeal.τ).loc Cert.FfnBwdIdeal.main_v49_4)) (v5 : (c : Dev Cert.FfnBwdIdeal.nD) → Buf (Elt Ideal) ((c.tc : Thread Cert.FfnBwdIdeal.nD Cert.FfnBwdIdeal.τ).loc Cert.FfnBwdIdeal.main_v49_5)) (v6 : (c : Dev Cert.FfnBwdIdeal.nD) → Buf (Elt Ideal) ((c.tc : Thread Cert.FfnBwdIdeal.nD Cert.FfnBwdIdeal.τ).loc Cert.FfnBwdIdeal.main_v49_6)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v49_0) = v0 c
          ∧ r.2.mem ((c.tc : Thread Cert.FfnBwdIdeal.nD Cert.FfnBwdIdeal.τ).loc Cert.FfnBwdIdeal.main_v49_1) = v1 c
          ∧ r.2.mem ((c.tc : Thread Cert.FfnBwdIdeal.nD Cert.FfnBwdIdeal.τ).loc Cert.FfnBwdIdeal.main_v49_2) = v2 c
          ∧ r.2.mem ((c.tc : Thread Cert.FfnBwdIdeal.nD Cert.FfnBwdIdeal.τ).loc Cert.FfnBwdIdeal.main_v49_3) = v3 c
          ∧ r.2.mem ((c.tc : Thread Cert.FfnBwdIdeal.nD Cert.FfnBwdIdeal.τ).loc Cert.FfnBwdIdeal.main_v49_4) = v4 c
          ∧ r.2.mem ((c.tc : Thread Cert.FfnBwdIdeal.nD Cert.FfnBwdIdeal.τ).loc Cert.FfnBwdIdeal.main_v49_5) = v5 c
          ∧ r.2.mem ((c.tc : Thread Cert.FfnBwdIdeal.nD Cert.FfnBwdIdeal.τ).loc Cert.FfnBwdIdeal.main_v49_6) = v6 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v93) = v0 c
          ∧ r.2.mem ((c.tc : Thread Cert.FfnBwdRefIdeal.nD Cert.FfnBwdRefIdeal.τ).loc Cert.FfnBwdRefIdeal.main_v96) = v1 c
          ∧ r.2.mem ((c.tc : Thread Cert.FfnBwdRefIdeal.nD Cert.FfnBwdRefIdeal.τ).loc Cert.FfnBwdRefIdeal.main_v99) = v2 c
          ∧ r.2.mem ((c.tc : Thread Cert.FfnBwdRefIdeal.nD Cert.FfnBwdRefIdeal.τ).loc Cert.FfnBwdRefIdeal.main_v101) = v3 c
          ∧ r.2.mem ((c.tc : Thread Cert.FfnBwdRefIdeal.nD Cert.FfnBwdRefIdeal.τ).loc Cert.FfnBwdRefIdeal.main_v103) = v4 c
          ∧ r.2.mem ((c.tc : Thread Cert.FfnBwdRefIdeal.nD Cert.FfnBwdRefIdeal.τ).loc Cert.FfnBwdRefIdeal.main_v105) = v5 c
          ∧ r.2.mem ((c.tc : Thread Cert.FfnBwdRefIdeal.nD Cert.FfnBwdRefIdeal.τ).loc Cert.FfnBwdRefIdeal.main_v91) = v6 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v11_0)) (v1 : (c : Dev Cert.FfnFwdIdeal.nD) → Buf (Elt Ideal) ((c.tc : Thread Cert.FfnFwdIdeal.nD Cert.FfnFwdIdeal.τ).loc Cert.FfnFwdIdeal.main_v11_1)) (v2 : (c : Dev Cert.FfnFwdIdeal.nD) → Buf (Elt Ideal) ((c.tc : Thread Cert.FfnFwdIdeal.nD Cert.FfnFwdIdeal.τ).loc Cert.FfnFwdIdeal.main_v11_2)) (v3 : (c : Dev Cert.FfnFwdIdeal.nD) → Buf (Elt Ideal) ((c.tc : Thread Cert.FfnFwdIdeal.nD Cert.FfnFwdIdeal.τ).loc Cert.FfnFwdIdeal.main_v11_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v11_0) = v0 c
          ∧ r.2.mem ((c.tc : Thread Cert.FfnFwdIdeal.nD Cert.FfnFwdIdeal.τ).loc Cert.FfnFwdIdeal.main_v11_1) = v1 c
          ∧ r.2.mem ((c.tc : Thread Cert.FfnFwdIdeal.nD Cert.FfnFwdIdeal.τ).loc Cert.FfnFwdIdeal.main_v11_2) = v2 c
          ∧ r.2.mem ((c.tc : Thread Cert.FfnFwdIdeal.nD Cert.FfnFwdIdeal.τ).loc Cert.FfnFwdIdeal.main_v11_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v36) = v0 c
          ∧ r.2.mem ((c.tc : Thread Cert.FfnFwdRefIdeal.nD Cert.FfnFwdRefIdeal.τ).loc Cert.FfnFwdRefIdeal.main_v38) = v1 c
          ∧ r.2.mem ((c.tc : Thread Cert.FfnFwdRefIdeal.nD Cert.FfnFwdRefIdeal.τ).loc Cert.FfnFwdRefIdeal.main_v40) = v2 c
          ∧ r.2.mem ((c.tc : Thread Cert.FfnFwdRefIdeal.nD Cert.FfnFwdRefIdeal.τ).loc Cert.FfnFwdRefIdeal.main_v42) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_PoolBwd_PoolBwdIdeal : Prop :=
  True

def algebraic_PoolBwdIdeal_PoolBwdRefIdeal_pre_pool_bwd_finite [hPoolBwdIdeal : Cert.PoolBwdIdeal.Facts] [hPoolBwdRefIdeal : Cert.PoolBwdRefIdeal.Facts] [hPre_pool_bwd_finite : Cert.Pre_pool_bwd_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_bwd_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)
      ∧ m' ((c.tc : Thread Cert.PoolBwdRefIdeal.nD Cert.PoolBwdRefIdeal.τ).loc Cert.PoolBwdRefIdeal.main_arg4) = m ((c.tc : Thread Cert.PoolBwdIdeal.nD Cert.PoolBwdIdeal.τ).loc Cert.PoolBwdIdeal.main_arg4)
      ∧ m' ((c.tc : Thread Cert.PoolBwdRefIdeal.nD Cert.PoolBwdRefIdeal.τ).loc Cert.PoolBwdRefIdeal.main_arg5) = m ((c.tc : Thread Cert.PoolBwdIdeal.nD Cert.PoolBwdIdeal.τ).loc Cert.PoolBwdIdeal.main_arg5)) →
    ∃ (v0 : (c : Dev Cert.PoolBwdIdeal.nD) → Buf (Elt Ideal) ((c.tc : Thread Cert.PoolBwdIdeal.nD Cert.PoolBwdIdeal.τ).loc Cert.PoolBwdIdeal.main_v115_0)) (v1 : (c : Dev Cert.PoolBwdIdeal.nD) → Buf (Elt Ideal) ((c.tc : Thread Cert.PoolBwdIdeal.nD Cert.PoolBwdIdeal.τ).loc Cert.PoolBwdIdeal.main_v115_1)) (v2 : (c : Dev Cert.PoolBwdIdeal.nD) → Buf (Elt Ideal) ((c.tc : Thread Cert.PoolBwdIdeal.nD Cert.PoolBwdIdeal.τ).loc Cert.PoolBwdIdeal.main_v115_2)) (v3 : (c : Dev Cert.PoolBwdIdeal.nD) → Buf (Elt Ideal) ((c.tc : Thread Cert.PoolBwdIdeal.nD Cert.PoolBwdIdeal.τ).loc Cert.PoolBwdIdeal.main_v115_3)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v115_0) = v0 c
          ∧ r.2.mem ((c.tc : Thread Cert.PoolBwdIdeal.nD Cert.PoolBwdIdeal.τ).loc Cert.PoolBwdIdeal.main_v115_1) = v1 c
          ∧ r.2.mem ((c.tc : Thread Cert.PoolBwdIdeal.nD Cert.PoolBwdIdeal.τ).loc Cert.PoolBwdIdeal.main_v115_2) = v2 c
          ∧ r.2.mem ((c.tc : Thread Cert.PoolBwdIdeal.nD Cert.PoolBwdIdeal.τ).loc Cert.PoolBwdIdeal.main_v115_3) = v3 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
          ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v241) = v0 c
          ∧ r.2.mem ((c.tc : Thread Cert.PoolBwdRefIdeal.nD Cert.PoolBwdRefIdeal.τ).loc Cert.PoolBwdRefIdeal.main_v242) = v1 c
          ∧ r.2.mem ((c.tc : Thread Cert.PoolBwdRefIdeal.nD Cert.PoolBwdRefIdeal.τ).loc Cert.PoolBwdRefIdeal.main_v243) = v2 c
          ∧ r.2.mem ((c.tc : Thread Cert.PoolBwdRefIdeal.nD Cert.PoolBwdRefIdeal.τ).loc Cert.PoolBwdRefIdeal.main_v240) = v3 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3)
          ∧ r.2.mem ((c.tc : Thread Cert.PoolBwdRefIdeal.nD Cert.PoolBwdRefIdeal.τ).loc Cert.PoolBwdRefIdeal.main_arg4) = m' ((c.tc : Thread Cert.PoolBwdRefIdeal.nD Cert.PoolBwdRefIdeal.τ).loc Cert.PoolBwdRefIdeal.main_arg4)
          ∧ r.2.mem ((c.tc : Thread Cert.PoolBwdRefIdeal.nD Cert.PoolBwdRefIdeal.τ).loc Cert.PoolBwdRefIdeal.main_arg5) = m' ((c.tc : Thread Cert.PoolBwdRefIdeal.nD Cert.PoolBwdRefIdeal.τ).loc Cert.PoolBwdRefIdeal.main_arg5))

def preserves_Mix_MixIdeal : Prop :=
  IdealRules.named_const.Statement Cert.MixIdeal.κ "gelu_cube" .f32 0x3D372713#32 ((8943 / 200000 : ℝ) : EReal)
  ∧ IdealRules.named_const.Statement Cert.MixIdeal.κ "gelu_cube_3" .f32 0x3E095D4F#32 ((26829 / 200000 : ℝ) : EReal)

def algebraic_MixIdeal_MixRefIdeal_pre_mix_bwd_finite [hMixIdeal : Cert.MixIdeal.Facts] [hMixRefIdeal : Cert.MixRefIdeal.Facts] [hPre_mix_bwd_finite : Cert.Pre_mix_bwd_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_bwd_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v8_0)) (v1 : (c : Dev Cert.MixIdeal.nD) → Buf (Elt Ideal) ((c.tc : Thread Cert.MixIdeal.nD Cert.MixIdeal.τ).loc Cert.MixIdeal.main_v8_1)) (v2 : (c : Dev Cert.MixIdeal.nD) → Buf (Elt Ideal) ((c.tc : Thread Cert.MixIdeal.nD Cert.MixIdeal.τ).loc Cert.MixIdeal.main_v8_2)) (v3 : (c : Dev Cert.MixIdeal.nD) → Buf (Elt Ideal) ((c.tc : Thread Cert.MixIdeal.nD Cert.MixIdeal.τ).loc Cert.MixIdeal.main_v8_3)) (v4 : (c : Dev Cert.MixIdeal.nD) → Buf (Elt Ideal) ((c.tc : Thread Cert.MixIdeal.nD Cert.MixIdeal.τ).loc Cert.MixIdeal.main_v8_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8_0) = v0 c
          ∧ r.2.mem ((c.tc : Thread Cert.MixIdeal.nD Cert.MixIdeal.τ).loc Cert.MixIdeal.main_v8_1) = v1 c
          ∧ r.2.mem ((c.tc : Thread Cert.MixIdeal.nD Cert.MixIdeal.τ).loc Cert.MixIdeal.main_v8_2) = v2 c
          ∧ r.2.mem ((c.tc : Thread Cert.MixIdeal.nD Cert.MixIdeal.τ).loc Cert.MixIdeal.main_v8_3) = v3 c
          ∧ r.2.mem ((c.tc : Thread Cert.MixIdeal.nD Cert.MixIdeal.τ).loc Cert.MixIdeal.main_v8_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v233) = v0 c
          ∧ r.2.mem ((c.tc : Thread Cert.MixRefIdeal.nD Cert.MixRefIdeal.τ).loc Cert.MixRefIdeal.main_v234) = v1 c
          ∧ r.2.mem ((c.tc : Thread Cert.MixRefIdeal.nD Cert.MixRefIdeal.τ).loc Cert.MixRefIdeal.main_v169) = v2 c
          ∧ r.2.mem ((c.tc : Thread Cert.MixRefIdeal.nD Cert.MixRefIdeal.τ).loc Cert.MixRefIdeal.main_v235) = v3 c
          ∧ r.2.mem ((c.tc : Thread Cert.MixRefIdeal.nD Cert.MixRefIdeal.τ).loc Cert.MixRefIdeal.main_v153) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_MixFwd_MixFwdIdeal : Prop :=
  IdealRules.named_const.Statement Cert.MixFwdIdeal.κ "gelu_cube" .f32 0x3D372713#32 ((8943 / 200000 : ℝ) : EReal)

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)) →
    ∃ (v0 : (c : Dev Cert.MixFwdIdeal.nD) → Buf (Elt Ideal) ((c.tc : Thread Cert.MixFwdIdeal.nD Cert.MixFwdIdeal.τ).loc Cert.MixFwdIdeal.main_v6)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v6) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v98) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)) →
    ∃ (v0 : (c : Dev Cert.InFwdIdeal.nD) → Buf (Elt Ideal) ((c.tc : Thread Cert.InFwdIdeal.nD Cert.InFwdIdeal.τ).loc Cert.InFwdIdeal.main_v9)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v9) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v26) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3))

def Claim : Prop :=
  ∃ (hLoss : Cert.Loss.Facts) (hLossIdeal : Cert.LossIdeal.Facts) (hLossRefIdeal : Cert.LossRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFfnBwd : Cert.FfnBwd.Facts) (hFfnBwdIdeal : Cert.FfnBwdIdeal.Facts) (hFfnBwdRefIdeal : Cert.FfnBwdRefIdeal.Facts) (hFfnFwd : Cert.FfnFwd.Facts) (hFfnFwdIdeal : Cert.FfnFwdIdeal.Facts) (hFfnFwdRefIdeal : Cert.FfnFwdRefIdeal.Facts) (hPoolBwd : Cert.PoolBwd.Facts) (hPoolBwdIdeal : Cert.PoolBwdIdeal.Facts) (hPoolBwdRefIdeal : Cert.PoolBwdRefIdeal.Facts) (hMix : Cert.Mix.Facts) (hMixIdeal : Cert.MixIdeal.Facts) (hMixRefIdeal : Cert.MixRefIdeal.Facts) (hMixFwd : Cert.MixFwd.Facts) (hMixFwdIdeal : Cert.MixFwdIdeal.Facts) (hMixFwdRefIdeal : Cert.MixFwdRefIdeal.Facts) (hInFwd : Cert.InFwd.Facts) (hInFwdIdeal : Cert.InFwdIdeal.Facts) (hInFwdRefIdeal : Cert.InFwdRefIdeal.Facts) (hPre_ffn_bwd_finite : Cert.Pre_ffn_bwd_finite.Facts) (hPre_pool_bwd_finite : Cert.Pre_pool_bwd_finite.Facts) (hPre_mix_bwd_finite : Cert.Pre_mix_bwd_finite.Facts),
    quiescent_Loss (hLoss := hLoss)
    ∧ quiescent_LossIdeal (hLossIdeal := hLossIdeal)
    ∧ quiescent_LossRefIdeal (hLossRefIdeal := hLossRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnBwd (hFfnBwd := hFfnBwd)
    ∧ quiescent_FfnBwdIdeal (hFfnBwdIdeal := hFfnBwdIdeal)
    ∧ quiescent_FfnBwdIdeal_pre_ffn_bwd_finite (hFfnBwdIdeal := hFfnBwdIdeal) (hPre_ffn_bwd_finite := hPre_ffn_bwd_finite)
    ∧ quiescent_FfnBwdRefIdeal (hFfnBwdRefIdeal := hFfnBwdRefIdeal)
    ∧ quiescent_FfnBwdRefIdeal_pre_ffn_bwd_finite (hFfnBwdRefIdeal := hFfnBwdRefIdeal) (hPre_ffn_bwd_finite := hPre_ffn_bwd_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_PoolBwd (hPoolBwd := hPoolBwd)
    ∧ quiescent_PoolBwdIdeal (hPoolBwdIdeal := hPoolBwdIdeal)
    ∧ quiescent_PoolBwdIdeal_pre_pool_bwd_finite (hPoolBwdIdeal := hPoolBwdIdeal) (hPre_pool_bwd_finite := hPre_pool_bwd_finite)
    ∧ quiescent_PoolBwdRefIdeal (hPoolBwdRefIdeal := hPoolBwdRefIdeal)
    ∧ quiescent_PoolBwdRefIdeal_pre_pool_bwd_finite (hPoolBwdRefIdeal := hPoolBwdRefIdeal) (hPre_pool_bwd_finite := hPre_pool_bwd_finite)
    ∧ quiescent_Mix (hMix := hMix)
    ∧ quiescent_MixIdeal (hMixIdeal := hMixIdeal)
    ∧ quiescent_MixIdeal_pre_mix_bwd_finite (hMixIdeal := hMixIdeal) (hPre_mix_bwd_finite := hPre_mix_bwd_finite)
    ∧ quiescent_MixRefIdeal (hMixRefIdeal := hMixRefIdeal)
    ∧ quiescent_MixRefIdeal_pre_mix_bwd_finite (hMixRefIdeal := hMixRefIdeal) (hPre_mix_bwd_finite := hPre_mix_bwd_finite)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ preserves_Loss_LossIdeal
    ∧ algebraic_LossIdeal_LossRefIdeal (hLossIdeal := hLossIdeal) (hLossRefIdeal := hLossRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FfnBwd_FfnBwdIdeal
    ∧ algebraic_FfnBwdIdeal_FfnBwdRefIdeal_pre_ffn_bwd_finite (hFfnBwdIdeal := hFfnBwdIdeal) (hFfnBwdRefIdeal := hFfnBwdRefIdeal) (hPre_ffn_bwd_finite := hPre_ffn_bwd_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_PoolBwd_PoolBwdIdeal
    ∧ algebraic_PoolBwdIdeal_PoolBwdRefIdeal_pre_pool_bwd_finite (hPoolBwdIdeal := hPoolBwdIdeal) (hPoolBwdRefIdeal := hPoolBwdRefIdeal) (hPre_pool_bwd_finite := hPre_pool_bwd_finite)
    ∧ preserves_Mix_MixIdeal
    ∧ algebraic_MixIdeal_MixRefIdeal_pre_mix_bwd_finite (hMixIdeal := hMixIdeal) (hMixRefIdeal := hMixRefIdeal) (hPre_mix_bwd_finite := hPre_mix_bwd_finite)
    ∧ preserves_MixFwd_MixFwdIdeal
    ∧ algebraic_MixFwdIdeal_MixFwdRefIdeal (hMixFwdIdeal := hMixFwdIdeal) (hMixFwdRefIdeal := hMixFwdRefIdeal)
    ∧ preserves_InFwd_InFwdIdeal
    ∧ algebraic_InFwdIdeal_InFwdRefIdeal (hInFwdIdeal := hInFwdIdeal) (hInFwdRefIdeal := hInFwdRefIdeal)
-- ==== Pre_ffn_bwd_finite.lean ====
abbrev S1x2048x1024 : Shape := ⟨3, ![1, 2048, 1024]⟩
abbrev S1024 : Shape := ⟨1, ![1024]⟩
abbrev S1x3072 : Shape := ⟨2, ![1, 3072]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1x3072 : S_.BroadcastsInDim S1x3072 (![] : Fin 0 → Fin S1x3072.rank)
  reducesTo_S1x3072_S_d0_1 : S1x3072.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn_part1 {F : FTy → Type} [FloatOps F] (main_arg5 : FVec F S1x2048x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x2048x1024 .f32 := Host.absf main_arg5
  let main_cst_6 : FVec F S_ .f32 := constant S_ .f32 0x7F800000#32
  let main_v20 : FVec F S1x2048x1024 .f32 := broadcastInDim S1x2048x1024 ![] bcast_S_S1x2048x1024 main_cst_6
  let main_v21 : IVec S1x2048x1024 1 := cmpf .olt main_v19 main_v20
  let main_c_7 : IVec S_ 1 := constantI S_ 1 1#1
  let main_v22 : IVec S_ 1 := (fun x v => Host.reduce IntOp.andi x v reducesTo_S1x2048x1024_S_d0_1_2 h_S_) main_v21 main_c_7
  let main_v23 : IVec S_ 1 := andi main_v18 main_v22
  main_v23

def fn {F : FTy → Type} [FloatOps F] (main_arg0 : FVec F S1x2048x1024 .f32) (main_arg1 : FVec F S1024 .f32) (main_arg2 : FVec F S1x3072 .f32) (main_arg3 : FVec F S1024x5632 .f32) (main_arg4 : FVec F S2816x1024 .f32) (main_arg5 : FVec F S1x2048x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1x3072 .f32 := Host.absf main_arg2
  let main_cst_0 : FVec F S_ .f32 := constant S_ .f32 0x7F800000#32
  let main_v5 : FVec F S1x3072 .f32 := broadcastInDim S1x3072 ![] bcast_S_S1x3072 main_cst_0
  let main_v6 : IVec S1x3072 1 := cmpf .olt main_v4 main_v5
  let main_c_1 : IVec S_ 1 := constantI S_ 1 1#1
  let main_v7 : IVec S_ 1 := (fun x v => Host.reduce IntOp.andi x v reducesTo_S1x3072_S_d0_1 h_S_) main_v6 main_c_1
  let main_v8 : IVec S_ 1 := andi main_v3 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S2816x1024 .f32 := Host.absf main_arg4
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg5 main_v13 main_v16
-- ==== Pre_mix_bwd_finite.lean ====
abbrev S1x2048x2560 : Shape := ⟨3, ![1, 2048, 2560]⟩
abbrev S1x2048x1024 : Shape := ⟨3, ![1, 2048, 1024]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S_ : Shape := ⟨0, ![]⟩

class Facts : Prop where
  bcast_S_S1x2048x2560 : S_.BroadcastsInDim S1x2048x2560 (![] : Fin 0 → Fin S1x2048x2560.rank)
  reducesTo_S1x2048x2560_S_d0_1_2 : S1x2048x2560.ReducesTo [0, 1, 2] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S1x2048x2560 .f32) (main_arg1 : FVec F S1x2048x1024 .f32) (main_arg2 : FVec F S512 .f32) (main_arg3 : FVec F S4x128x128 .f32) (main_arg4 : FVec F S4x128 .f32) (main_arg5 : FVec F S3x512 .f32) : IVec S_ 1 :=
  let main_v0 : FVec F S1x2048x2560 .f32 := Host.absf main_arg0
  let main_cst : FVec F S_ .f32 := constant S_ .f32 0x7F800000#32
  let main_v1 : FVec F S1x2048x2560 .f32 := broadcastInDim S1x2048x2560 ![] bcast_S_S1x2048x2560 main_cst
  let main_v2 : IVec S1x2048x2560 1 := cmpf .olt main_v0 main_v1
  let main_c : IVec S_ 1 := constantI S_ 1 1#1
  let main_v3 : IVec S_ 1 := (fun x v => Host.reduce IntOp.andi x v reducesTo_S1x2048x2560_S_d0_1_2 h_S_) main_v2 main_c
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4x128x128 .f32 := Host.absf main_arg3
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg4 main_v13 main_v16
-- ==== Pre_pool_bwd_finite.lean ====
abbrev S1x2048x1024 : Shape := ⟨3, ![1, 2048, 1024]⟩
abbrev S1024 : Shape := ⟨1, ![1024]⟩
abbrev S1x3072 : Shape := ⟨2, ![1, 3072]⟩
abbrev S4x256x256 : Shape := ⟨3, ![4, 256, 256]⟩
abbrev S_ : Shape := ⟨0, ![]⟩

class Facts : Prop where
  bcast_S_S1x3072 : S_.BroadcastsInDim S1x3072 (![] : Fin 0 → Fin S1x3072.rank)
  reducesTo_S1x3072_S_d0_1 : S1x3072.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn_part1 {F : FTy → Type} [FloatOps F] (main_v13 : IVec S_ 1) (main_v16 : IVec S1x2048x1024 1) : IVec S_ 1 :=
  let main_c_5 : IVec S_ 1 := constantI S_ 1 1#1
  let main_v17 : IVec S_ 1 := (fun x v => Host.reduce IntOp.andi x v reducesTo_S1x2048x1024_S_d0_1_2 h_S_) main_v16 main_c_5
  let main_v18 : IVec S_ 1 := andi main_v13 main_v17
  main_v18

def fn {F : FTy → Type} [FloatOps F] (main_arg0 : FVec F S1x2048x1024 .f32) (main_arg1 : FVec F S1024 .f32) (main_arg2 : FVec F S1x3072 .f32) (main_arg3 : FVec F S4x256x256 .f32) (main_arg4 : FVec F S1024 .f32) (main_arg5 : FVec F S1x2048x1024 .f32) : IVec S_ 1 :=
  let main_v0 : FVec F S1x3072 .f32 := Host.absf main_arg2
  let main_cst : FVec F S_ .f32 := constant S_ .f32 0x7F800000#32
  let main_v1 : FVec F S1x3072 .f32 := broadcastInDim S1x3072 ![] bcast_S_S1x3072 main_cst
  let main_v2 : IVec S1x3072 1 := cmpf .olt main_v0 main_v1
  let main_c : IVec S_ 1 := constantI S_ 1 1#1
  let main_v3 : IVec S_ 1 := (fun x v => Host.reduce IntOp.andi x v reducesTo_S1x3072_S_d0_1 h_S_) main_v2 main_c
  let main_v4 : FVec F S4x256x256 .f32 := Host.absf main_arg3
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x2048x1024 .f32 := Host.absf main_arg5
  let main_cst_4 : FVec F S_ .f32 := constant S_ .f32 0x7F800000#32
  let main_v15 : FVec F S1x2048x1024 .f32 := broadcastInDim S1x2048x1024 ![] bcast_S_S1x2048x1024 main_cst_4
  let main_v16 : IVec S1x2048x1024 1 := cmpf .olt main_v14 main_v15
  fn_part1 (F := F) main_v13 main_v16
-- ==== Loss.lean ====
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S1x2048x1024 : Shape := ⟨3, ![1, 2048, 1024]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x1024 : Shape := ⟨2, ![1, 1024]⟩
abbrev S2048 : Shape := ⟨1, ![2048]⟩
abbrev S2048x1024 : Shape := ⟨2, ![2048, 1024]⟩
abbrev S6x1024 : Shape := ⟨2, ![6, 1024]⟩
abbrev S8x1024 : Shape := ⟨2, ![8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x2048x1024, .f32⟩
  | .hbm, ⟨3, _⟩ => ⟨S1x2048x1024, .f32⟩
  | .hbm, ⟨4, _⟩ => ⟨S_, .f32⟩
  | .hbm, ⟨5, _⟩ => ⟨S1x2048, .f32⟩
  | .hbm, ⟨6, _⟩ => ⟨S1x2048x1, .f32⟩
  | .hbm, ⟨7, _⟩ => ⟨S_, .f32⟩
  | .hbm, ⟨8, _⟩ => ⟨S1x2048x1, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1024, .f32⟩
  | .hbm, ⟨19, _⟩ => ⟨S1x2048x1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x2048x1024, .f32⟩
  | .hbm, ⟨24, _⟩ => ⟨S1x2048x1024, .f32⟩
  | .hbm, ⟨25, _⟩ => ⟨S_, .f32⟩
  | .hbm, ⟨26, _⟩ => ⟨S1x2048x1024, .f32⟩
  | .hbm, ⟨27, _⟩ => ⟨S1x2048x1024, .f32⟩
  | .hbm, ⟨28, _⟩ => ⟨S_, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x2048, .f32⟩
  | .hbm, ⟨41, _⟩ => ⟨S_, .f32⟩
  | .hbm, ⟨42, _⟩ => ⟨S1x2048, .f32⟩
  | .hbm, ⟨43, _⟩ => ⟨S1x2048, .f32⟩
  | .hbm, ⟨44, _⟩ => ⟨S1x2048x1024, .f32⟩
  | .hbm, ⟨45, _⟩ => ⟨S1x2048x1024, .f32⟩
  | .hbm, ⟨46, _⟩ => ⟨S1x2048x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x2048x1024, .f32⟩
  | .hbm, ⟨51, _⟩ => ⟨S1x2048x1024, .f32⟩
  | .hbm, ⟨52, _⟩ => ⟨S_, .f32⟩
  | .hbm, ⟨53, _⟩ => ⟨S1024, .f32⟩
  | .hbm, ⟨54, _⟩ => ⟨S1x2048x1024, .f32⟩
  | .hbm, ⟨55, _⟩ => ⟨S_, .f32⟩
  | .hbm, ⟨56, _⟩ => ⟨S1x2048, .f32⟩
  | .hbm, ⟨57, _⟩ => ⟨S1x2048x1, .f32⟩
  | .hbm, ⟨58, _⟩ => ⟨S1x2048x1024, .f32⟩
  | .hbm, ⟨59, _⟩ => ⟨S1x2048x1024, .f32⟩
  | .hbm, ⟨60, _⟩ => ⟨S1x2048x1, .f32⟩
  | .hbm, ⟨61, _⟩ => ⟨S_, .f32⟩
  | .hbm, ⟨62, _⟩ => ⟨S1x2048x1, .f32⟩
  | .hbm, ⟨63, _⟩ => ⟨S1x2048x1, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S1x2048x1024, .f32⟩
  | .hbm, ⟨68, _⟩ => ⟨S1x2048x1024, .f32⟩
  | .hbm, ⟨69, _⟩ => ⟨S1x2048x1024, .f32⟩
  | .hbm, ⟨70, _⟩ => ⟨S1x2048x1024, .f32⟩
  | .hbm, ⟨71, _⟩ => ⟨S1x2048x1024, .f32⟩
  | .hbm, ⟨72, _⟩ => ⟨S1x2048x1024, .f32⟩
  | .hbm, ⟨73, _⟩ => ⟨S_, .f32⟩
  | .hbm, ⟨74, _⟩ => ⟨S1x2048, .f32⟩
  | .hbm, ⟨75, _⟩ => ⟨S1x2048x1, .f32⟩
  | .hbm, ⟨76, _⟩ => ⟨S_, .f32⟩
  | .hbm, ⟨77, _⟩ => ⟨S1x2048x1, .f32⟩
  | .hbm, ⟨78, _⟩ => ⟨S1x2048x1, .f32⟩
  | .hbm, ⟨79, _⟩ => ⟨S_, .f32⟩
  | .hbm, ⟨80, _⟩ => ⟨S1x2048x1, .f32⟩
  | .hbm, ⟨81, _⟩ => ⟨S1x2048x1, .f32⟩
  | .hbm, ⟨82, _⟩ => ⟨S1x2048x1, .f32⟩
  | .hbm, ⟨83, _⟩ => ⟨S1x2048x1024, .f32⟩
  | .hbm, ⟨84, _⟩ => ⟨S1x2048x1024, .f32⟩
  | .hbm, ⟨85, _⟩ => ⟨S1x1x1024, .f32⟩
  | .hbm, ⟨86, _⟩ => ⟨S1x2048x1024, .f32⟩
  | .hbm, ⟨87, _⟩ => ⟨S1x2048x1024, .f32⟩
  | .hbm, ⟨88, _⟩ => ⟨S1x2048x1024, .f32⟩
  | .hbm, ⟨89, _⟩ => ⟨S1x2048x1024, .f32⟩
  | .hbm, ⟨90, _⟩ => ⟨S_, .f32⟩
  | .hbm, ⟨91, _⟩ => ⟨S1024, .f32⟩
  | .hbm, ⟨92, _⟩ => ⟨S2048x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S6x1024, .f32⟩
  | .hbm, ⟨97, _⟩ => ⟨S8x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩
abbrev main_cst_17 : Ref sig .tc := ⟨.hbm, 76, rfl⟩
abbrev main_v55 : Ref sig .tc := ⟨.hbm, 77, rfl⟩
abbrev main_v56 : Ref sig .tc := ⟨.hbm, 78, rfl⟩
abbrev main_cst_18 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_19 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_20 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== InProj.lean ====
abbrev S1x2048x1024 : Shape := ⟨3, ![1, 2048, 1024]⟩
abbrev S1024 : Shape := ⟨1, ![1024]⟩
abbrev S1x3072 : Shape := ⟨2, ![1, 3072]⟩
abbrev S1024x2560 : Shape := ⟨2, ![1024, 2560]⟩
abbrev S1x2048x2560 : Shape := ⟨3, ![1, 2048, 2560]⟩
abbrev S1x1024 : Shape := ⟨2, ![1, 1024]⟩
abbrev S_ : Shape := ⟨0, ![]⟩
abbrev S8x1024 : Shape := ⟨2, ![8, 1024]⟩
abbrev S1x1024x2560 : Shape := ⟨3, ![1, 1024, 2560]⟩
abbrev S2048x1024 : Shape := ⟨2, ![2048, 1024]⟩
abbrev S3072 : Shape := ⟨1, ![3072]⟩
abbrev S3x1024 : Shape := ⟨2, ![3, 1024]⟩
abbrev S1x512x1280 : Shape := ⟨3, ![1, 512, 1280]⟩
abbrev S1x1024x1280 : Shape := ⟨3, ![1, 1024, 1280]⟩
abbrev S512x1024 : Shape := ⟨2, ![512, 1024]⟩
abbrev S512x1280 : Shape := ⟨2, ![512, 1280]⟩
abbrev S1024x1280 : Shape := ⟨2, ![1024, 1280]⟩
abbrev S512 : Shape := ⟨1, ![512]⟩
abbrev S512x1 : Shape := ⟨2, ![512, 1]⟩

abbrev nBuf : Space → Nat
  | .hbm => 29
  | .vmem => 16
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x3072, .f32⟩
  | .hbm, ⟨3, _⟩ => ⟨S1024x2560, .f32⟩
  | .hbm, ⟨4, _⟩ => ⟨S1x2048x1024, .f32⟩
  | .hbm, ⟨5, _⟩ => ⟨S1024, .f32⟩
  | .hbm, ⟨6, _⟩ => ⟨S1x2048x2560, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S8x1024, .f32⟩
  | .hbm, ⟨11, _⟩ => ⟨S1x2048x2560, .bf16⟩
  | .hbm, ⟨12, _⟩ => ⟨S1x1024x2560, .f32⟩
  | .hbm, ⟨13, _⟩ => ⟨S1x1024x2560, .bf16⟩
  | .hbm, ⟨14, _⟩ => ⟨S2048x1024, .f32⟩
  | .hbm, ⟨15, _⟩ => ⟨S3072, .f32⟩
  | .hbm, ⟨16, _⟩ => ⟨S1x1024, .f32⟩
  | .hbm, ⟨17, _⟩ => ⟨S_, .i32⟩
  | .hbm, ⟨18, _⟩ => ⟨S_, .f32⟩
  | .hbm, ⟨19, _⟩ => ⟨S8x1024, .f32⟩
  | .hbm, ⟨20, _⟩ => ⟨S3x1024, .f32⟩
  | .hbm, ⟨21, _⟩ => ⟨S_, .i32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S2048x1024, .f32⟩
  | .hbm, ⟨26, _⟩ => ⟨S2048x1024, .f32⟩
  | .hbm, ⟨27, _⟩ => ⟨S2048x1024, .bf16⟩
  | .hbm, ⟨28, _⟩ => ⟨S8x1024, .f32⟩
  | .local _ .vmem, ⟨0, _⟩ => ⟨S1x512x1280, .bf16⟩
  | .local _ .vmem, ⟨1, _⟩ => ⟨S1x512x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | .local _ .vmem, ⟨15, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_call2_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_13 : BitVec 32 := 0#32
  let v20 : BitVec 1 := Scalar.cmpi .ne v19 c0_i32_13
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== InProjRefIdeal.lean ====
abbrev S1x2048x1024 : Shape := ⟨3, ![1, 2048, 1024]⟩
abbrev S1024 : Shape := ⟨1, ![1024]⟩
abbrev S1x3072 : Shape := ⟨2, ![1, 3072]⟩
abbrev S1024x2560 : Shape := ⟨2, ![1024, 2560]⟩
abbrev S1x2048x2560 : Shape := ⟨3, ![1, 2048, 2560]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S3x1024 : Shape := ⟨2, ![3, 1024]⟩
abbrev S4x1024 : Shape := ⟨2, ![4, 1024]⟩
abbrev S8x1024 : Shape := ⟨2, ![8, 1024]⟩
abbrev S2048x1024 : Shape := ⟨2, ![2048, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x3072, .f32⟩
  | .hbm, ⟨3, _⟩ => ⟨S1024x2560, .f32⟩
  | .hbm, ⟨4, _⟩ => ⟨S1x2048x1024, .f32⟩
  | .hbm, ⟨5, _⟩ => ⟨S1024, .f32⟩
  | .hbm, ⟨6, _⟩ => ⟨S1x2048x2560, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x2048x1024, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x1024, .f32⟩
  | .hbm, ⟨26, _⟩ => ⟨S1x2048x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x1x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S1x2048x1024, .f32⟩
  | .hbm, ⟨35, _⟩ => ⟨S1x2048x1024, .f32⟩
  | .hbm, ⟨36, _⟩ => ⟨S1x1x1024, .f32⟩
  | .hbm, ⟨37, _⟩ => ⟨S1x2048x1024, .f32⟩
  | .hbm, ⟨38, _⟩ => ⟨S1x2048x1024, .f32⟩
  | .hbm, ⟨39, _⟩ => ⟨S1x1x1024, .f32⟩
  | .hbm, ⟨40, _⟩ => ⟨S1x2048x2560, .f32⟩
  | .hbm, ⟨41, _⟩ => ⟨S1x1x1024, .f32⟩
  | .hbm, ⟨42, _⟩ => ⟨S_, .f32⟩
  | .hbm, ⟨43, _⟩ => ⟨S1x2048x1024, .f32⟩
  | .hbm, ⟨44, _⟩ => ⟨S1x2048x1024, .f32⟩
  | .hbm, ⟨45, _⟩ => ⟨S1x2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x2048x1024, .f32⟩
  | .hbm, ⟨56, _⟩ => ⟨S_, .f32⟩
  | .hbm, ⟨57, _⟩ => ⟨S1x1024, .f32⟩
  | .hbm, ⟨58, _⟩ => ⟨S1x1x1024, .f32⟩
  | .hbm, ⟨59, _⟩ => ⟨S1x2048x1024, .f32⟩
  | .hbm, ⟨60, _⟩ => ⟨S1x2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S1x2048x1024, .f32⟩
  | .hbm, ⟨65, _⟩ => ⟨S_, .f32⟩
  | .hbm, ⟨66, _⟩ => ⟨S1x1024, .f32⟩
  | .hbm, ⟨67, _⟩ => ⟨S1x1x1024, .f32⟩
  | .hbm, ⟨68, _⟩ => ⟨S1x2048x1024, .f32⟩
  | .hbm, ⟨69, _⟩ => ⟨S1x2048x1024, .f32⟩
  | .hbm, ⟨70, _⟩ => ⟨S_, .f32⟩
  | .hbm, ⟨71, _⟩ => ⟨S1024, .f32⟩
  | .hbm, ⟨72, _⟩ => ⟨S1x2048x1024, .f32⟩
  | .hbm, ⟨73, _⟩ => ⟨S_, .f32⟩
  | .hbm, ⟨74, _⟩ => ⟨S1x2048, .f32⟩
  | .hbm, ⟨75, _⟩ => ⟨S1x2048x1, .f32⟩
  | .hbm, ⟨76, _⟩ => ⟨S1x2048x1024, .f32⟩
  | .hbm, ⟨77, _⟩ => ⟨S1x2048x1024, .f32⟩
  | .hbm, ⟨78, _⟩ => ⟨S1x2048x1024, .f32⟩
  | .hbm, ⟨79, _⟩ => ⟨S1x2048x1, .f32⟩
  | .hbm, ⟨80, _⟩ => ⟨S_, .f32⟩
  | .hbm, ⟨81, _⟩ => ⟨S1x2048x1, .f32⟩
  | .hbm, ⟨82, _⟩ => ⟨S1x2048x1, .f32⟩
  | .hbm, ⟨83, _⟩ => ⟨S_, .f32⟩
  | .hbm, ⟨84, _⟩ => ⟨S2048, .f32⟩
  | .hbm, ⟨85, _⟩ => ⟨S1x2048, .f32⟩
  | .hbm, ⟨86, _⟩ => ⟨S1x2048x1024, .f32⟩
  | .hbm, ⟨87, _⟩ => ⟨S1x2048x1024, .f32⟩
  | .hbm, ⟨88, _⟩ => ⟨S1x2048x1024, .f32⟩
  | .hbm, ⟨89, _⟩ => ⟨S1x2048x1024, .f32⟩
  | .hbm, ⟨90, _⟩ => ⟨S1x2048x1024, .f32⟩
  | .hbm, ⟨91, _⟩ => ⟨S1x3072, .f32⟩
  | .hbm, ⟨92, _⟩ => ⟨S1x1024, .f32⟩
  | .hbm, ⟨93, _⟩ => ⟨S3x1024, .f32⟩
  | .hbm, ⟨94, _⟩ => ⟨S_, .f32⟩
  | .hbm, ⟨95, _⟩ => ⟨S4x1024, .f32⟩
  | .hbm, ⟨96, _⟩ => ⟨S8x1024, .f32⟩
  | .hbm, ⟨97, _⟩ => ⟨S2048x1024, .f32⟩
  | .hbm, ⟨98, _⟩ => ⟨S2048x1024, .f32⟩
  | .hbm, ⟨99, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_cst_14 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== OutProj.lean ====
abbrev S1x2048x1024 : Shape := ⟨3, ![1, 2048, 1024]⟩
abbrev S1x3072 : Shape := ⟨2, ![1, 3072]⟩
abbrev S1024x1024 : Shape := ⟨2, ![1024, 1024]⟩
abbrev S3x1024 : Shape := ⟨2, ![3, 1024]⟩
abbrev S_ : Shape := ⟨0, ![]⟩
abbrev S8x1024 : Shape := ⟨2, ![8, 1024]⟩
abbrev S1x1024x1024 : Shape := ⟨3, ![1, 1024, 1024]⟩
abbrev S2048x1024 : Shape := ⟨2, ![2048, 1024]⟩
abbrev S1x1024 : Shape := ⟨2, ![1, 1024]⟩
abbrev S1024 : Shape := ⟨1, ![1024]⟩

abbrev nBuf : Space → Nat
  | .hbm => 20
  | .vmem => 21
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x3072, .f32⟩
  | .hbm, ⟨3, _⟩ => ⟨S1024x1024, .f32⟩
  | .hbm, ⟨4, _⟩ => ⟨S1x2048x1024, .f32⟩
  | .hbm, ⟨5, _⟩ => ⟨S3x1024, .f32⟩
  | .hbm, ⟨6, _⟩ => ⟨S_, .i32⟩
  | .hbm, ⟨7, _⟩ => ⟨S_, .f32⟩
  | .hbm, ⟨8, _⟩ => ⟨S8x1024, .f32⟩
  | .hbm, ⟨9, _⟩ => ⟨S1x1024x1024, .f32⟩
  | .hbm, ⟨10, _⟩ => ⟨S1x1024x1024, .bf16⟩
  | .hbm, ⟨11, _⟩ => ⟨S2048x1024, .f32⟩
  | .hbm, ⟨12, _⟩ => ⟨S2048x1024, .bf16⟩
  | .hbm, ⟨13, _⟩ => ⟨S2048x1024, .f32⟩
  | .hbm, ⟨14, _⟩ => ⟨S2048x1024, .f32⟩
  | .hbm, ⟨15, _⟩ => ⟨S2048x1024, .bf16⟩
  | .hbm, ⟨16, _⟩ => ⟨S2048x1024, .f32⟩
  | .hbm, ⟨17, _⟩ => ⟨S2048x1024, .bf16⟩
  | .hbm, ⟨18, _⟩ => ⟨S2048x1024, .bf16⟩
  | .hbm, ⟨19, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S8x1024, .f32⟩
  | .local _ .vmem, ⟨15, _⟩ => ⟨S1x1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S8x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S8x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== OutProjRefIdeal.lean ====
abbrev S1x2048x1024 : Shape := ⟨3, ![1, 2048, 1024]⟩
abbrev S1x3072 : Shape := ⟨2, ![1, 3072]⟩
abbrev S1024x1024 : Shape := ⟨2, ![1024, 1024]⟩
abbrev S1x1024 : Shape := ⟨2, ![1, 1024]⟩
abbrev S1x1x1024 : Shape := ⟨3, ![1, 1, 1024]⟩
abbrev S_ : Shape := ⟨0, ![]⟩
abbrev S3x1024 : Shape := ⟨2, ![3, 1024]⟩
abbrev S4x1024 : Shape := ⟨2, ![4, 1024]⟩
abbrev S8x1024 : Shape := ⟨2, ![8, 1024]⟩
abbrev S2048x1024 : Shape := ⟨2, ![2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x3072, .f32⟩
  | .hbm, ⟨3, _⟩ => ⟨S1024x1024, .f32⟩
  | .hbm, ⟨4, _⟩ => ⟨S1x2048x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1x1024, .f32⟩
  | .hbm, ⟨9, _⟩ => ⟨S1x2048x1024, .f32⟩
  | .hbm, ⟨10, _⟩ => ⟨S1x2048x1024, .f32⟩
  | .hbm, ⟨11, _⟩ => ⟨S1x2048x1024, .f32⟩
  | .hbm, ⟨12, _⟩ => ⟨S1x2048x1024, .f32⟩
  | .hbm, ⟨13, _⟩ => ⟨S1x2048x1024, .f32⟩
  | .hbm, ⟨14, _⟩ => ⟨S1x2048x1024, .f32⟩
  | .hbm, ⟨15, _⟩ => ⟨S1x2048x1024, .f32⟩
  | .hbm, ⟨16, _⟩ => ⟨S_, .f32⟩
  | .hbm, ⟨17, _⟩ => ⟨S1x1024, .f32⟩
  | .hbm, ⟨18, _⟩ => ⟨S1x1x1024, .f32⟩
  | .hbm, ⟨19, _⟩ => ⟨S1x2048x1024, .f32⟩
  | .hbm, ⟨20, _⟩ => ⟨S_, .f32⟩
  | .hbm, ⟨21, _⟩ => ⟨S3x1024, .f32⟩
  | .hbm, ⟨22, _⟩ => ⟨S1x1024, .f32⟩
  | .hbm, ⟨23, _⟩ => ⟨S_, .f32⟩
  | .hbm, ⟨24, _⟩ => ⟨S4x1024, .f32⟩
  | .hbm, ⟨25, _⟩ => ⟨S8x1024, .f32⟩
  | .hbm, ⟨26, _⟩ => ⟨S2048x1024, .f32⟩
  | .hbm, ⟨27, _⟩ => ⟨S2048x1024, .f32⟩
  | .hbm, ⟨28, _⟩ => ⟨S2048x1024, .bf16⟩
  | .hbm, ⟨29, _⟩ => ⟨S2048x1024, .f32⟩
  | .hbm, ⟨30, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== FfnBwd.lean ====
abbrev S1x2048x1024 : Shape := ⟨3, ![1, 2048, 1024]⟩
abbrev S1024 : Shape := ⟨1, ![1024]⟩
abbrev S1x3072 : Shape := ⟨2, ![1, 3072]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5632 : Shape := ⟨3, ![1, 2048, 5632]⟩
abbrev S1x2048x2816 : Shape := ⟨3, ![1, 2048, 2816]⟩
abbrev S2048x2816 : Shape := ⟨2, ![2048, 2816]⟩
abbrev S2048x1024 : Shape := ⟨2, ![2048, 1024]⟩
abbrev S3072 : Shape := ⟨1, ![3072]⟩
abbrev S8x1024 : Shape := ⟨2, ![8, 1024]⟩
abbrev S3x1024 : Shape := ⟨2, ![3, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512x256 : Shape := ⟨2, ![512, 256]⟩
abbrev S1x1024x256 : Shape := ⟨3, ![1, 1024, 256]⟩
abbrev S1x256x1024 : Shape := ⟨3, ![1, 256, 1024]⟩
abbrev S256x1024 : Shape := ⟨2, ![256, 1024]⟩
abbrev S1024x256 : Shape := ⟨2, ![1024, 256]⟩
abbrev S512 : Shape := ⟨1, ![512]⟩
abbrev S512x1 : Shape := ⟨2, ![512, 1]⟩

abbrev nBuf : Space → Nat
  | .hbm => 78
  | .vmem => 31
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x3072, .f32⟩
  | .hbm, ⟨3, _⟩ => ⟨S1024x5632, .f32⟩
  | .hbm, ⟨4, _⟩ => ⟨S2816x1024, .f32⟩
  | .hbm, ⟨5, _⟩ => ⟨S1x2048x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x2048x1024, .f32⟩
  | .hbm, ⟨10, _⟩ => ⟨S_, .f32⟩
  | .hbm, ⟨11, _⟩ => ⟨S1x2048, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S1x2048x1024, .f32⟩
  | .hbm, ⟨21, _⟩ => ⟨S1x2048x1024, .f32⟩
  | .hbm, ⟨22, _⟩ => ⟨S1x1x1024, .f32⟩
  | .hbm, ⟨23, _⟩ => ⟨S1x2048x1024, .f32⟩
  | .hbm, ⟨24, _⟩ => ⟨S1x2048x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S1x2048x1024, .f32⟩
  | .hbm, ⟨30, _⟩ => ⟨S1x2048x1024, .f32⟩
  | .hbm, ⟨31, _⟩ => ⟨S1x1x1024, .f32⟩
  | .hbm, ⟨32, _⟩ => ⟨S1x2048x1024, .f32⟩
  | .hbm, ⟨33, _⟩ => ⟨S1x2048x1024, .f32⟩
  | .hbm, ⟨34, _⟩ => ⟨S1x1x1024, .f32⟩
  | .hbm, ⟨35, _⟩ => ⟨S1x2048x5632, .f32⟩
  | .hbm, ⟨36, _⟩ => ⟨S1x2048x2816, .f32⟩
  | .hbm, ⟨37, _⟩ => ⟨S1x2048x2816, .f32⟩
  | .hbm, ⟨38, _⟩ => ⟨S1x2048x2816, .f32⟩
  | .hbm, ⟨39, _⟩ => ⟨S1x2048x2816, .f32⟩
  | .hbm, ⟨40, _⟩ => ⟨S_, .f32⟩
  | .hbm, ⟨41, _⟩ => ⟨S1x2048x2816, .f32⟩
  | .hbm, ⟨42, _⟩ => ⟨S1x2048x2816, .f32⟩
  | .hbm, ⟨43, _⟩ => ⟨S_, .f32⟩
  | .hbm, ⟨44, _⟩ => ⟨S1x2048x2816, .f32⟩
  | .hbm, ⟨45, _⟩ => ⟨S1x2048x2816, .f32⟩
  | .hbm, ⟨46, _⟩ => ⟨S1x2048x2816, .f32⟩
  | .hbm, ⟨47, _⟩ => ⟨S1x2048x2816, .f32⟩
  | .hbm, ⟨48, _⟩ => ⟨S1x2048x1024, .f32⟩
  | .hbm, ⟨49, _⟩ => ⟨S2048x2816, .f32⟩
  | .hbm, ⟨50, _⟩ => ⟨S2048x2816, .bf16⟩
  | .hbm, ⟨51, _⟩ => ⟨S2048x2816, .f32⟩
  | .hbm, ⟨52, _⟩ => ⟨S2048x2816, .bf16⟩
  | .hbm, ⟨53, _⟩ => ⟨S2048x1024, .f32⟩
  | .hbm, ⟨54, _⟩ => ⟨S2048x1024, .bf16⟩
  | .hbm, ⟨55, _⟩ => ⟨S2048x1024, .f32⟩
  | .hbm, ⟨56, _⟩ => ⟨S2048x1024, .f32⟩
  | .hbm, ⟨57, _⟩ => ⟨S3072, .f32⟩
  | .hbm, ⟨58, _⟩ => ⟨S1x1024, .f32⟩
  | .hbm, ⟨59, _⟩ => ⟨S_, .i32⟩
  | .hbm, ⟨60, _⟩ => ⟨S_, .f32⟩
  | .hbm, ⟨61, _⟩ => ⟨S8x1024, .f32⟩
  | .hbm, ⟨62, _⟩ => ⟨S3x1024, .f32⟩
  | .hbm, ⟨63, _⟩ => ⟨S_, .i32⟩
  | .hbm, ⟨64, _⟩ => ⟨S_, .f32⟩
  | .hbm, ⟨65, _⟩ => ⟨S8x1024, .f32⟩
  | .hbm, ⟨66, _⟩ => ⟨S8x1024, .f32⟩
  | .hbm, ⟨67, _⟩ => ⟨S1x1024x5632, .f32⟩
  | .hbm, ⟨68, _⟩ => ⟨S1x1024x5632, .bf16⟩
  | .hbm, ⟨69, _⟩ => ⟨S1x2816x1024, .f32⟩
  | .hbm, ⟨70, _⟩ => ⟨S1x2816x1024, .bf16⟩
  | .hbm, ⟨71, _⟩ => ⟨S2048x1024, .f32⟩
  | .hbm, ⟨72, _⟩ => ⟨S2048x2816, .bf16⟩
  | .hbm, ⟨73, _⟩ => ⟨S2048x2816, .bf16⟩
  | .hbm, ⟨74, _⟩ => ⟨S2048x2816, .bf16⟩
  | .hbm, ⟨75, _⟩ => ⟨S2048x1024, .bf16⟩
  | .hbm, ⟨76, _⟩ => ⟨S2048x1024, .bf16⟩
  | .hbm, ⟨77, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x1024, .bf16⟩
  | .local _ .vmem, ⟨10, _⟩ => ⟨S512x1024, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x256x1024, .bf16⟩
  | .local _ .vmem, ⟨16, _⟩ => ⟨S1x256x1024, .bf16⟩
  | .local _ .vmem, ⟨17, _⟩ => ⟨S512x1024, .f32⟩
  | .local _ .vmem, ⟨18, _⟩ => ⟨S512x1024, .f32⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S8x1024, .f32⟩
  | .local _ .vmem, ⟨30, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c : Ref sig .tc := ⟨.hbm, 59, rfl⟩
abbrev main_call1_v0 : Ref sig .tc := ⟨.hbm, 60, rfl⟩
abbrev main_v41 : Ref sig .tc := ⟨.hbm, 61, rfl⟩
abbrev main_v42 : Ref sig .tc := ⟨.hbm, 62, rfl⟩
abbrev main_c_3 : Ref sig .tc := ⟨.hbm, 63, rfl⟩
abbrev main_call2_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev main_v49_3 : Ref sig .tc := ⟨.hbm, 74, rfl⟩
abbrev main_v49_4 : Ref sig .tc := ⟨.hbm, 75, rfl⟩
abbrev main_v49_5 : Ref sig .tc := ⟨.hbm, 76, rfl⟩
abbrev main_v49_6 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨2, ![4, 11], ![false, false]⟩

def k0_cond3 (i : grid0.Coords) : BitVec 1 :=
  let arg1 : BitVec 32 := BitVec.ofNat 32 (i 1).val
  let c10_i32 : BitVec 32 := 10#32
  let v55 : BitVec 1 := Scalar.cmpi .eq arg1 c10_i32
  let v56 : BitVec 32 := Scalar.extui v55
  let c0_i32_35 : BitVec 32 := 0#32
  let v57 : BitVec 1 := Scalar.cmpi .ne v56 c0_i32_35
  v57

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== FfnBwdRefIdeal.lean ====
abbrev S1x2048x1024 : Shape := ⟨3, ![1, 2048, 1024]⟩
abbrev S1024 : Shape := ⟨1, ![1024]⟩
abbrev S1x3072 : Shape := ⟨2, ![1, 3072]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5632 : Shape := ⟨3, ![1, 2048, 5632]⟩
abbrev S1x2048x2816 : Shape := ⟨3, ![1, 2048, 2816]⟩
abbrev S2048 : Shape := ⟨1, ![2048]⟩
abbrev S3x1024 : Shape := ⟨2, ![3, 1024]⟩
abbrev S4x1024 : Shape := ⟨2, ![4, 1024]⟩
abbrev S8x1024 : Shape := ⟨2, ![8, 1024]⟩
abbrev S2048x1024 : Shape := ⟨2, ![2048, 1024]⟩
abbrev S2048x2816 : Shape := ⟨2, ![2048, 2816]⟩

abbrev nBuf : Space → Nat
  | .hbm => 146
  | .vmem => 0
  | .smem => 0
  | _ => 0

abbrev hbmTy0_0 (i : Nat) : BufTy := match i % 128 with
  | 0 => ⟨S1x2048x1024, .f32⟩
  | 1 => ⟨S1024, .f32⟩
  | 2 => ⟨S1x3072, .f32⟩
  | 3 => ⟨S1024x5632, .f32⟩
  | 4 => ⟨S2816x1024, .f32⟩
  | 5 => ⟨S1x2048x1024, .f32⟩
  | 6 => ⟨S1x1024, .f32⟩
  | 7 => ⟨S1x1024, .f32⟩
  | 8 => ⟨S1x1024, .f32⟩
  | 9 => ⟨S1x2048x1024, .f32⟩
  | 10 => ⟨S_, .f32⟩
  | 11 => ⟨S1x2048, .f32⟩
  | 12 => ⟨S1x2048x1, .f32⟩
  | 13 => ⟨S_, .f32⟩
  | 14 => ⟨S1x2048x1, .f32⟩
  | 15 => ⟨S1x2048x1, .f32⟩
  | 16 => ⟨S_, .f32⟩
  | 17 => ⟨S1x2048x1, .f32⟩
  | 18 => ⟨S1x2048x1, .f32⟩
  | 19 => ⟨S1x2048x1, .f32⟩
  | 20 => ⟨S1x2048x1, .f32⟩
  | 21 => ⟨S_, .f32⟩
  | 22 => ⟨S1x2048x1, .f32⟩
  | 23 => ⟨S1x2048x1, .f32⟩
  | 24 => ⟨S1x2048x1024, .f32⟩
  | 25 => ⟨S1x2048x1024, .f32⟩
  | 26 => ⟨S1x1x1024, .f32⟩
  | 27 => ⟨S1x2048x1024, .f32⟩
  | 28 => ⟨S1x2048x1024, .f32⟩
  | 29 => ⟨S1x1x1024, .f32⟩
  | 30 => ⟨S_, .f32⟩
  | 31 => ⟨S1x1x1024, .f32⟩
  | 32 => ⟨S1x1x1024, .f32⟩
  | 33 => ⟨S1x2048x1024, .f32⟩
  | 34 => ⟨S1x2048x1024, .f32⟩
  | 35 => ⟨S1x1x1024, .f32⟩
  | 36 => ⟨S1x2048x1024, .f32⟩
  | 37 => ⟨S1x2048x1024, .f32⟩
  | 38 => ⟨S1x1x1024, .f32⟩
  | 39 => ⟨S1x2048x5632, .f32⟩
  | 40 => ⟨S1x2048x2816, .f32⟩
  | 41 => ⟨S1x2048x2816, .f32⟩
  | 42 => ⟨S1x2048x2816, .f32⟩
  | 43 => ⟨S1x2048x2816, .f32⟩
  | 44 => ⟨S_, .f32⟩
  | 45 => ⟨S1x2048x2816, .f32⟩
  | 46 => ⟨S1x2048x2816, .f32⟩
  | 47 => ⟨S_, .f32⟩
  | 48 => ⟨S1x2048x2816, .f32⟩
  | 49 => ⟨S1x2048x2816, .f32⟩
  | 50 => ⟨S_, .f32⟩
  | 51 => ⟨S1x2048x2816, .f32⟩
  | 52 => ⟨S1x2048x2816, .f32⟩
  | 53 => ⟨S1x2048x2816, .f32⟩
  | 54 => ⟨S1x2048x2816, .f32⟩
  | 55 => ⟨S1x2048x2816, .f32⟩
  | 56 => ⟨S1x2048x1024, .f32⟩
  | 57 => ⟨S_, .f32⟩
  | 58 => ⟨S1x1x1024, .f32⟩
  | 59 => ⟨S1x1x1024, .f32⟩
  | 60 => ⟨S1x2048x1024, .f32⟩
  | 61 => ⟨S1x2048x1024, .f32⟩
  | 62 => ⟨S1x2048x1024, .f32⟩
  | 63 => ⟨S1x2048x1024, .f32⟩
  | 64 => ⟨S1x2048x1024, .f32⟩
  | 65 => ⟨S1x2048x1024, .f32⟩
  | 66 => ⟨S1x2048x1024, .f32⟩
  | 67 => ⟨S_, .f32⟩
  | 68 => ⟨S1x1024, .f32⟩
  | 69 => ⟨S1x1x1024, .f32⟩
  | 70 => ⟨S_, .f32⟩
  | 71 => ⟨S1x1x1024, .f32⟩
  | 72 => ⟨S1x1x1024, .f32⟩
  | 73 => ⟨S1x2048x2816, .f32⟩
  | 74 => ⟨S1x2048x2816, .f32⟩
  | 75 => ⟨S1x2048x2816, .f32⟩
  | 76 => ⟨S1x2048x2816, .f32⟩
  | 77 => ⟨S1x2048x2816, .f32⟩
  | 78 => ⟨S1x2048x2816, .f32⟩
  | 79 => ⟨S1x2048x2816, .f32⟩
  | 80 => ⟨S1x2048x5632, .f32⟩
  | 81 => ⟨S1x2048x1024, .f32⟩
  | 82 => ⟨S_, .f32⟩
  | 83 => ⟨S1024, .f32⟩
  | 84 => ⟨S1x1024, .f32⟩
  | 85 => ⟨S_, .f32⟩
  | 86 => ⟨S1x1024, .f32⟩
  | 87 => ⟨S1x1x1024, .f32⟩
  | 88 => ⟨S_, .f32⟩
  | 89 => ⟨S1024, .f32⟩
  | 90 => ⟨S1x1024, .f32⟩
  | 91 => ⟨S1x2048x1024, .f32⟩
  | 92 => ⟨S_, .f32⟩
  | 93 => ⟨S1x1024, .f32⟩
  | 94 => ⟨S1x1x1024, .f32⟩
  | 95 => ⟨S1x2048x1024, .f32⟩
  | 96 => ⟨S1x2048x1024, .f32⟩
  | 97 => ⟨S_, .f32⟩
  | 98 => ⟨S1024, .f32⟩
  | 99 => ⟨S1x1024, .f32⟩
  | 100 => ⟨S1x2048x1024, .f32⟩
  | 101 => ⟨S_, .f32⟩
  | 102 => ⟨S1x1024, .f32⟩
  | 103 => ⟨S1x1x1024, .f32⟩
  | 104 => ⟨S1x2048x1024, .f32⟩
  | 105 => ⟨S1x2048x1024, .f32⟩
  | 106 => ⟨S_, .f32⟩
  | 107 => ⟨S1024, .f32⟩
  | 108 => ⟨S1x2048x1024, .f32⟩
  | 109 => ⟨S_, .f32⟩
  | 110 => ⟨S1x2048, .f32⟩
  | 111 => ⟨S1x2048x1, .f32⟩
  | 112 => ⟨S1x2048x1024, .f32⟩
  | 113 => ⟨S1x2048x1024, .f32⟩
  | 114 => ⟨S1x2048x1, .f32⟩
  | 115 => ⟨S_, .f32⟩
  | 116 => ⟨S1x2048x1, .f32⟩
  | 117 => ⟨S1x2048x1, .f32⟩
  | 118 => ⟨S_, .f32⟩
  | 119 => ⟨S2048, .f32⟩
  | 120 => ⟨S1x2048, .f32⟩
  | 121 => ⟨S1x2048x1024, .f32⟩
  | 122 => ⟨S1x2048x1024, .f32⟩
  | 123 => ⟨S1x2048x1024, .f32⟩
  | 124 => ⟨S1x2048x1024, .f32⟩
  | 125 => ⟨S1x2048x1024, .f32⟩
  | 126 => ⟨S1x3072, .f32⟩
  | 127 => ⟨S1x1024, .f32⟩
  | _ => ⟨S1x2048x1024, .f32⟩

abbrev hbmTy0_1 (i : Nat) : BufTy := match i % 128 with
  | 0 => ⟨S3x1024, .f32⟩
  | 1 => ⟨S_, .f32⟩
  | 2 => ⟨S4x1024, .f32⟩
  | 3 => ⟨S8x1024, .f32⟩
  | 4 => ⟨S1x2048x1024, .f32⟩
  | 5 => ⟨S2048x1024, .f32⟩
  | 6 => ⟨S1x2048x2816, .f32⟩
  | 7 => ⟨S2048x2816, .f32⟩
  | 8 => ⟨S2048x2816, .bf16⟩
  | 9 => ⟨S1x2048x2816, .f32⟩
  | 10 => ⟨S2048x2816, .f32⟩
  | 11 => ⟨S2048x2816, .bf16⟩
  | 12 => ⟨S2048x2816, .f32⟩
  | 13 => ⟨S2048x2816, .bf16⟩
  | 14 => ⟨S2048x1024, .f32⟩
  | 15 => ⟨S2048x1024, .bf16⟩
  | 16 => ⟨S2048x1024, .f32⟩
  | 17 => ⟨S2048x1024, .bf16⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_v32 : Ref sig .tc := ⟨.hbm, 55, rfl⟩
abbrev main_v33 : Ref sig .tc := ⟨.hbm, 56, rfl⟩
abbrev main_cst_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_17 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩

abbrev nD : Nat := 1
abbrev τ : Topo := Topo.v7x

variable {F : FTy → Type} [FloatOps F]
-- ==== FfnFwd.lean ====
abbrev S1x2048x1024 : Shape := ⟨3, ![1, 2048, 1024]⟩
abbrev S1024 : Shape := ⟨1, ![1024]⟩
abbrev S1x3072 : Shape := ⟨2, ![1, 3072]⟩
abbrev S1024x5632 : Shape := ⟨2, ![1024, 5632]⟩
abbrev S2816x1024 : Shape := ⟨2, ![2816, 1024]⟩
abbrev S2048x1024 : Shape := ⟨2, ![2048, 1024]⟩
abbrev S3072 : Shape := ⟨1, ![3072]⟩
abbrev S1x1024 : Shape := ⟨2, ![1, 1024]⟩
abbrev S_ : Shape := ⟨0, ![]⟩
abbrev S8x1024 : Shape := ⟨2, ![8, 1024]⟩
abbrev S3x1024 : Shape := ⟨2, ![3, 1024]⟩
abbrev S1x1024x5632 : Shape := ⟨3, ![1, 1024, 5632]⟩
abbrev S1x2816x1024 : Shape := ⟨3, ![1, 2816, 1024]⟩
abbrev S2048x2816 : Shape := ⟨2, ![2048, 2816]⟩
abbrev S1024x1024 : Shape := ⟨2, ![1024, 1024]⟩
abbrev S1x1024x256 : Shape := ⟨3, ![1, 1024, 256]⟩
abbrev S1x256x1024 : Shape := ⟨3, ![1, 256, 1024]⟩
abbrev S1024x256 : Shape := ⟨2, ![1024, 256]⟩
abbrev S1024x1 : Shape := ⟨2, ![1024, 1]⟩
abbrev S256x1024 : Shape := ⟨2, ![256, 1024]⟩

abbrev nBuf : Space → Nat
  | .hbm => 24
  | .vmem => 19
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x3072, .f32⟩
  | .hbm, ⟨3, _⟩ => ⟨S1024x5632, .f32⟩
  | .hbm, ⟨4, _⟩ => ⟨S2816x1024, .f32⟩
  | .hbm, ⟨5, _⟩ => ⟨S2048x1024, .f32⟩
  | .hbm, ⟨6, _⟩ => ⟨S3072, .f32⟩
  | .hbm, ⟨7, _⟩ => ⟨S1x1024, .f32⟩
  | .hbm, ⟨8, _⟩ => ⟨S_, .i32⟩
  | .hbm, ⟨9, _⟩ => ⟨S_, .f32⟩
  | .hbm, ⟨10, _⟩ => ⟨S8x1024, .f32⟩
  | .hbm, ⟨11, _⟩ => ⟨S3x1024, .f32⟩
  | .hbm, ⟨12, _⟩ => ⟨S_, .i32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S1x1024x5632, .f32⟩
  | .hbm, ⟨17, _⟩ => ⟨S1x1024x5632, .bf16⟩
  | .hbm, ⟨18, _⟩ => ⟨S1x2816x1024, .f32⟩
  | .hbm, ⟨19, _⟩ => ⟨S1x2816x1024, .bf16⟩
  | .hbm, ⟨20, _⟩ => ⟨S2048x1024, .f32⟩
  | .hbm, ⟨21, _⟩ => ⟨S2048x2816, .bf16⟩
  | .hbm, ⟨22, _⟩ => ⟨S2048x2816, .bf16⟩
  | .hbm, ⟨23, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 11], ![false, false]⟩

def k0_cond2 (i : grid0.Coords) : BitVec 1 :=
  let arg1 : BitVec 32 := BitVec.ofNat 32 (i 1).val
  let c10_i32 : BitVec 32 := 10#32
  let v32 : BitVec 1 := Scalar.cmpi .eq arg1 c10_i32
  let v33 : BitVec 32 := Scalar.extui v32
  let c0_i32_24 : BitVec 32 := 0#32
  let v34 : BitVec 1 := Scalar.cmpi .ne v33 c0_i32_24
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnFwdRefIdeal.lean ====
abbrev S1x2048x1024 : Shape := ⟨3, ![1, 2048, 1024]⟩
abbrev S1024 : Shape := ⟨1, ![1024]⟩
abbrev S1x3072 : Shape := ⟨2, ![1, 3072]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x5632 : Shape := ⟨3, ![1, 2048, 5632]⟩
abbrev S1x2048x2816 : Shape := ⟨3, ![1, 2048, 2816]⟩
abbrev S2048x1024 : Shape := ⟨2, ![2048, 1024]⟩
abbrev S2048x2816 : Shape := ⟨2, ![2048, 2816]⟩

abbrev nBuf : Space → Nat
  | .hbm => 61
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x3072, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1024, .f32⟩
  | .hbm, ⟨20, _⟩ => ⟨S1x2048x1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S1x1x1024, .f32⟩
  | .hbm, ⟨31, _⟩ => ⟨S1x2048x1024, .f32⟩
  | .hbm, ⟨32, _⟩ => ⟨S1x2048x1024, .f32⟩
  | .hbm, ⟨33, _⟩ => ⟨S1x1x1024, .f32⟩
  | .hbm, ⟨34, _⟩ => ⟨S1x2048x5632, .f32⟩
  | .hbm, ⟨35, _⟩ => ⟨S1x2048x2816, .f32⟩
  | .hbm, ⟨36, _⟩ => ⟨S1x2048x2816, .f32⟩
  | .hbm, ⟨37, _⟩ => ⟨S1x2048x2816, .f32⟩
  | .hbm, ⟨38, _⟩ => ⟨S1x2048x2816, .f32⟩
  | .hbm, ⟨39, _⟩ => ⟨S_, .f32⟩
  | .hbm, ⟨40, _⟩ => ⟨S1x2048x2816, .f32⟩
  | .hbm, ⟨41, _⟩ => ⟨S1x2048x2816, .f32⟩
  | .hbm, ⟨42, _⟩ => ⟨S_, .f32⟩
  | .hbm, ⟨43, _⟩ => ⟨S1x2048x2816, .f32⟩
  | .hbm, ⟨44, _⟩ => ⟨S1x2048x2816, .f32⟩
  | .hbm, ⟨45, _⟩ => ⟨S1x2048x2816, .f32⟩
  | .hbm, ⟨46, _⟩ => ⟨S1x2048x2816, .f32⟩
  | .hbm, ⟨47, _⟩ => ⟨S1x2048x1024, .f32⟩
  | .hbm, ⟨48, _⟩ => ⟨S_, .f32⟩
  | .hbm, ⟨49, _⟩ => ⟨S1x1x1024, .f32⟩
  | .hbm, ⟨50, _⟩ => ⟨S1x1x1024, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S2048x1024, .f32⟩
  | .hbm, ⟨55, _⟩ => ⟨S2048x2816, .f32⟩
  | .hbm, ⟨56, _⟩ => ⟨S2048x2816, .bf16⟩
  | .hbm, ⟨57, _⟩ => ⟨S2048x2816, .f32⟩
  | .hbm, ⟨58, _⟩ => ⟨S2048x2816, .bf16⟩
  | .hbm, ⟨59, _⟩ => ⟨S2048x1024, .f32⟩
  | .hbm, ⟨60, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== PoolBwd.lean ====
abbrev S1x2048x1024 : Shape := ⟨3, ![1, 2048, 1024]⟩
abbrev S1024 : Shape := ⟨1, ![1024]⟩
abbrev S1x3072 : Shape := ⟨2, ![1, 3072]⟩
abbrev S4x256x256 : Shape := ⟨3, ![4, 256, 256]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S1x2048x256 : Shape := ⟨3, ![1, 2048, 256]⟩
abbrev S1x2x256 : Shape := ⟨3, ![1, 2, 256]⟩
abbrev S1x2050x256 : Shape := ⟨3, ![1, 2050, 256]⟩
abbrev S1x256x256 : Shape := ⟨3, ![1, 256, 256]⟩
abbrev S256x256 : Shape := ⟨2, ![256, 256]⟩
abbrev S1x4x256 : Shape := ⟨3, ![1, 4, 256]⟩
abbrev S1x2052x256 : Shape := ⟨3, ![1, 2052, 256]⟩
abbrev S1x8x256 : Shape := ⟨3, ![1, 8, 256]⟩
abbrev S1x2056x256 : Shape := ⟨3, ![1, 2056, 256]⟩
abbrev S1x16x256 : Shape := ⟨3, ![1, 16, 256]⟩
abbrev S1x2064x256 : Shape := ⟨3, ![1, 2064, 256]⟩
abbrev S2048x1024 : Shape := ⟨2, ![2048, 1024]⟩
abbrev S3072 : Shape := ⟨1, ![3072]⟩
abbrev S8x1024 : Shape := ⟨2, ![8, 1024]⟩
abbrev S3x1024 : Shape := ⟨2, ![3, 1024]⟩
abbrev S512x1024 : Shape := ⟨2, ![512, 1024]⟩
abbrev S16x1024 : Shape := ⟨2, ![16, 1024]⟩
abbrev S512x256 : Shape := ⟨2, ![512, 256]⟩
abbrev S16x256 : Shape := ⟨2, ![16, 256]⟩
abbrev S512x1 : Shape := ⟨2, ![512, 1]⟩
abbrev S16x1 : Shape := ⟨2, ![16, 1]⟩
abbrev S528x256 : Shape := ⟨2, ![528, 256]⟩
abbrev S512 : Shape := ⟨1, ![512]⟩

abbrev nBuf : Space → Nat
  | .hbm => 147
  | .vmem => 19
  | .smem => 0
  | _ => 0

abbrev hbmTy0_0 (i : Nat) : BufTy := match i % 128 with
  | 0 => ⟨S1x2048x1024, .f32⟩
  | 1 => ⟨S1024, .f32⟩
  | 2 => ⟨S1x3072, .f32⟩
  | 3 => ⟨S4x256x256, .f32⟩
  | 4 => ⟨S1024, .f32⟩
  | 5 => ⟨S1x2048x1024, .f32⟩
  | 6 => ⟨S1x1024, .f32⟩
  | 7 => ⟨S1x1024, .f32⟩
  | 8 => ⟨S1x1024, .f32⟩
  | 9 => ⟨S1x2048x1024, .f32⟩
  | 10 => ⟨S_, .f32⟩
  | 11 => ⟨S1x2048, .f32⟩
  | 12 => ⟨S1x2048x1, .f32⟩
  | 13 => ⟨S_, .f32⟩
  | 14 => ⟨S1x2048x1, .f32⟩
  | 15 => ⟨S1x2048x1, .f32⟩
  | 16 => ⟨S_, .f32⟩
  | 17 => ⟨S1x2048x1, .f32⟩
  | 18 => ⟨S1x2048x1, .f32⟩
  | 19 => ⟨S1x2048x1, .f32⟩
  | 20 => ⟨S1x2048x1024, .f32⟩
  | 21 => ⟨S1x2048x1024, .f32⟩
  | 22 => ⟨S1x1x1024, .f32⟩
  | 23 => ⟨S1x2048x1024, .f32⟩
  | 24 => ⟨S1x2048x1024, .f32⟩
  | 25 => ⟨S1x1x1024, .f32⟩
  | 26 => ⟨S_, .f32⟩
  | 27 => ⟨S1x1x1024, .f32⟩
  | 28 => ⟨S1x1x1024, .f32⟩
  | 29 => ⟨S1x2048x1024, .f32⟩
  | 30 => ⟨S1x2048x1024, .f32⟩
  | 31 => ⟨S1x1x1024, .f32⟩
  | 32 => ⟨S1x2048x1024, .f32⟩
  | 33 => ⟨S1x2048x1024, .f32⟩
  | 34 => ⟨S1x1x1024, .f32⟩
  | 35 => ⟨S_, .f32⟩
  | 36 => ⟨S_, .f32⟩
  | 37 => ⟨S1x2048x1024, .f32⟩
  | 38 => ⟨S2048, .i32⟩
  | 39 => ⟨S1x2048x256, .f32⟩
  | 40 => ⟨S_, .f32⟩
  | 41 => ⟨S1x2x256, .f32⟩
  | 42 => ⟨S1x2050x256, .f32⟩
  | 43 => ⟨S1x2048x256, .f32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S2048, .f32⟩
  | 51 => ⟨S1x2048x1, .f32⟩
  | 52 => ⟨S1x2048x256, .f32⟩
  | 53 => ⟨S1x2048x256, .f32⟩
  | 54 => ⟨S1x2048x256, .f32⟩
  | 55 => ⟨S1x2048x256, .f32⟩
  | 56 => ⟨S1x2048x256, .f32⟩
  | 57 => ⟨S1x256x256, .f32⟩
  | 58 => ⟨S256x256, .f32⟩
  | 59 => ⟨S1x2048x256, .f32⟩
  | 60 => ⟨S1x2048x256, .f32⟩
  | 61 => ⟨S_, .f32⟩
  | 62 => ⟨S1x4x256, .f32⟩
  | 63 => ⟨S1x2052x256, .f32⟩
  | 64 => ⟨S1x2048x256, .f32⟩
  | 65 => ⟨S_, .i32⟩
  | 66 => ⟨S2048, .i32⟩
  | 67 => ⟨S2048, .i32⟩
  | 68 => ⟨S_, .i32⟩
  | 69 => ⟨S2048, .i32⟩
  | 70 => ⟨S2048, .i32⟩
  | 71 => ⟨S2048, .f32⟩
  | 72 => ⟨S1x2048x1, .f32⟩
  | 73 => ⟨S1x2048x256, .f32⟩
  | 74 => ⟨S1x2048x256, .f32⟩
  | 75 => ⟨S1x2048x256, .f32⟩
  | 76 => ⟨S1x2048x256, .f32⟩
  | 77 => ⟨S1x2048x256, .f32⟩
  | 78 => ⟨S1x256x256, .f32⟩
  | 79 => ⟨S256x256, .f32⟩
  | 80 => ⟨S1x2048x256, .f32⟩
  | 81 => ⟨S1x2048x256, .f32⟩
  | 82 => ⟨S_, .f32⟩
  | 83 => ⟨S1x8x256, .f32⟩
  | 84 => ⟨S1x2056x256, .f32⟩
  | 85 => ⟨S1x2048x256, .f32⟩
  | 86 => ⟨S_, .i32⟩
  | 87 => ⟨S2048, .i32⟩
  | 88 => ⟨S2048, .i32⟩
  | 89 => ⟨S_, .i32⟩
  | 90 => ⟨S2048, .i32⟩
  | 91 => ⟨S2048, .i32⟩
  | 92 => ⟨S2048, .f32⟩
  | 93 => ⟨S1x2048x1, .f32⟩
  | 94 => ⟨S1x2048x256, .f32⟩
  | 95 => ⟨S1x2048x256, .f32⟩
  | 96 => ⟨S1x2048x256, .f32⟩
  | 97 => ⟨S1x2048x256, .f32⟩
  | 98 => ⟨S1x2048x256, .f32⟩
  | 99 => ⟨S1x256x256, .f32⟩
  | 100 => ⟨S256x256, .f32⟩
  | 101 => ⟨S1x2048x256, .f32⟩
  | 102 => ⟨S1x2048x256, .f32⟩
  | 103 => ⟨S_, .f32⟩
  | 104 => ⟨S1x16x256, .f32⟩
  | 105 => ⟨S1x2064x256, .f32⟩
  | 106 => ⟨S1x2048x256, .f32⟩
  | 107 => ⟨S_, .i32⟩
  | 108 => ⟨S2048, .i32⟩
  | 109 => ⟨S2048, .i32⟩
  | 110 => ⟨S_, .i32⟩
  | 111 => ⟨S2048, .i32⟩
  | 112 => ⟨S2048, .i32⟩
  | 113 => ⟨S2048, .f32⟩
  | 114 => ⟨S1x2048x1, .f32⟩
  | 115 => ⟨S1x2048x256, .f32⟩
  | 116 => ⟨S1x2048x256, .f32⟩
  | 117 => ⟨S1x2048x256, .f32⟩
  | 118 => ⟨S1x2048x256, .f32⟩
  | 119 => ⟨S1x2048x256, .f32⟩
  | 120 => ⟨S1x256x256, .f32⟩
  | 121 => ⟨S256x256, .f32⟩
  | 122 => ⟨S1x2048x256, .f32⟩
  | 123 => ⟨S1x2048x1024, .f32⟩
  | 124 => ⟨S1x2048x1024, .f32⟩
  | 125 => ⟨S2048x1024, .f32⟩
  | 126 => ⟨S2048x1024, .bf16⟩
  | 127 => ⟨S2048x1024, .f32⟩
  | _ => ⟨S1x2048x1024, .f32⟩

abbrev hbmTy0_1 (i : Nat) : BufTy := match i % 128 with
  | 0 => ⟨S2048x1024, .bf16⟩
  | 1 => ⟨S2048x1024, .f32⟩
  | 2 => ⟨S2048x1024, .f32⟩
  | 3 => ⟨S3072, .f32⟩
  | 4 => ⟨S1x1024, .f32⟩
  | 5 => ⟨S_, .i32⟩
  | 6 => ⟨S_, .f32⟩
  | 7 => ⟨S8x1024, .f32⟩
  | 8 => ⟨S3x1024, .f32⟩
  | 9 => ⟨S_, .i32⟩
  | 10 => ⟨S_, .f32⟩
  | 11 => ⟨S8x1024, .f32⟩
  | 12 => ⟨S8x1024, .f32⟩
  | 13 => ⟨S4x256x256, .bf16⟩
  | 14 => ⟨S1x1024, .f32⟩
  | 15 => ⟨S2048x1024, .f32⟩
  | 16 => ⟨S4x256x256, .bf16⟩
  | 17 => ⟨S1x1024, .f32⟩
  | 18 => ⟨S8x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S4x256x256, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S4x256x256, .bf16⟩
  | .local _ .vmem, ⟨16, _⟩ => ⟨S1x1024, .f32⟩
  | .local _ .vmem, ⟨17, _⟩ => ⟨S8x1024, .f32⟩
  | .local _ .vmem, ⟨18, _⟩ => ⟨S4x256x256, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_call0_cst : Ref sig .tc := ⟨.hbm, 35, rfl⟩
abbrev main_call0_call0_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_9 : Ref sig .tc := ⟨.hbm, 86, rfl⟩
abbrev main_v67 : Ref sig .tc := ⟨.hbm, 87, rfl⟩
abbrev main_v68 : Ref sig .tc := ⟨.hbm, 88, rfl⟩
abbrev main_c_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_12 : Ref sig .tc := ⟨.hbm, 107, rfl⟩
abbrev main_v85 : Ref sig .tc := ⟨.hbm, 108, rfl⟩
abbrev main_v86 : Ref sig .tc := ⟨.hbm, 109, rfl⟩
abbrev main_c_13 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_c_14 : Ref sig .tc := ⟨.hbm, 133, rfl⟩
abbrev main_call1_v0 : Ref sig .tc := ⟨.hbm, 134, rfl⟩
abbrev main_v109 : Ref sig .tc := ⟨.hbm, 135, rfl⟩
abbrev main_v110 : Ref sig .tc := ⟨.hbm, 136, rfl⟩
abbrev main_c_15 : Ref sig .tc := ⟨.hbm, 137, rfl⟩
abbrev main_call2_v0 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115_0 : Ref sig .tc := ⟨.hbm, 143, rfl⟩
abbrev main_v115_1 : Ref sig .tc := ⟨.hbm, 144, rfl⟩
abbrev main_v115_2 : Ref sig .tc := ⟨.hbm, 145, rfl⟩
abbrev main_v115_3 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32_138 : BitVec 32 := 3#32
  let v296 : BitVec 1 := Scalar.cmpi .eq arg0 c3_i32_138
  let v297 : BitVec 32 := Scalar.extui v296
  let c0_i32_139 : BitVec 32 := 0#32
  let v298 : BitVec 1 := Scalar.cmpi .ne v297 c0_i32_139
  v298

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PoolBwdRefIdeal.lean ====
abbrev S1x2048x1024 : Shape := ⟨3, ![1, 2048, 1024]⟩
abbrev S1024 : Shape := ⟨1, ![1024]⟩
abbrev S1x3072 : Shape := ⟨2, ![1, 3072]⟩
abbrev S4x256x256 : Shape := ⟨3, ![4, 256, 256]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S2048 : Shape := ⟨1, ![2048]⟩
abbrev S1x2048x256 : Shape := ⟨3, ![1, 2048, 256]⟩
abbrev S1x2x256 : Shape := ⟨3, ![1, 2, 256]⟩
abbrev S1x2050x256 : Shape := ⟨3, ![1, 2050, 256]⟩
abbrev S1x256x256 : Shape := ⟨3, ![1, 256, 256]⟩
abbrev S256x256 : Shape := ⟨2, ![256, 256]⟩
abbrev S1x4x256 : Shape := ⟨3, ![1, 4, 256]⟩
abbrev S1x2052x256 : Shape := ⟨3, ![1, 2052, 256]⟩
abbrev S1x8x256 : Shape := ⟨3, ![1, 8, 256]⟩
abbrev S1x2056x256 : Shape := ⟨3, ![1, 2056, 256]⟩
abbrev S1x16x256 : Shape := ⟨3, ![1, 16, 256]⟩
abbrev S1x2064x256 : Shape := ⟨3, ![1, 2064, 256]⟩
abbrev S3x1024 : Shape := ⟨2, ![3, 1024]⟩
abbrev S4x1024 : Shape := ⟨2, ![4, 1024]⟩
abbrev S8x1024 : Shape := ⟨2, ![8, 1024]⟩
abbrev S2048x1024 : Shape := ⟨2, ![2048, 1024]⟩

abbrev nBuf : Space → Nat
  | .hbm => 305
  | .vmem => 0
  | .smem => 0
  | _ => 0

abbrev hbmTy0_0 (i : Nat) : BufTy := match i % 128 with
  | 0 => ⟨S1x2048x1024, .f32⟩
  | 1 => ⟨S1024, .f32⟩
  | 2 => ⟨S1x3072, .f32⟩
  | 3 => ⟨S4x256x256, .f32⟩
  | 4 => ⟨S1024, .f32⟩
  | 5 => ⟨S1x2048x1024, .f32⟩
  | 6 => ⟨S1x1024, .f32⟩
  | 7 => ⟨S1x1024, .f32⟩
  | 8 => ⟨S1x1024, .f32⟩
  | 9 => ⟨S1x2048x1024, .f32⟩
  | 10 => ⟨S_, .f32⟩
  | 11 => ⟨S1x2048, .f32⟩
  | 12 => ⟨S1x2048x1, .f32⟩
  | 13 => ⟨S_, .f32⟩
  | 14 => ⟨S1x2048x1, .f32⟩
  | 15 => ⟨S1x2048x1, .f32⟩
  | 16 => ⟨S_, .f32⟩
  | 17 => ⟨S1x2048x1, .f32⟩
  | 18 => ⟨S1x2048x1, .f32⟩
  | 19 => ⟨S1x2048x1, .f32⟩
  | 20 => ⟨S1x2048x1, .f32⟩
  | 21 => ⟨S_, .f32⟩
  | 22 => ⟨S1x2048x1, .f32⟩
  | 23 => ⟨S1x2048x1, .f32⟩
  | 24 => ⟨S1x2048x1024, .f32⟩
  | 25 => ⟨S1x2048x1024, .f32⟩
  | 26 => ⟨S1x1x1024, .f32⟩
  | 27 => ⟨S1x2048x1024, .f32⟩
  | 28 => ⟨S1x2048x1024, .f32⟩
  | 29 => ⟨S1x1x1024, .f32⟩
  | 30 => ⟨S_, .f32⟩
  | 31 => ⟨S1x1x1024, .f32⟩
  | 32 => ⟨S1x1x1024, .f32⟩
  | 33 => ⟨S1x2048x1024, .f32⟩
  | 34 => ⟨S1x2048x1024, .f32⟩
  | 35 => ⟨S1x1x1024, .f32⟩
  | 36 => ⟨S1x2048x1024, .f32⟩
  | 37 => ⟨S1x2048x1024, .f32⟩
  | 38 => ⟨S1x1x1024, .f32⟩
  | 39 => ⟨S_, .f32⟩
  | 40 => ⟨S_, .f32⟩
  | 41 => ⟨S1x2048x1024, .f32⟩
  | 42 => ⟨S2048, .i32⟩
  | 43 => ⟨S1x2048x256, .f32⟩
  | 44 => ⟨S_, .f32⟩
  | 45 => ⟨S1x2x256, .f32⟩
  | 46 => ⟨S1x2050x256, .f32⟩
  | 47 => ⟨S_, .f32⟩
  | 48 => ⟨S1x2x256, .f32⟩
  | 49 => ⟨S1x2048x256, .f32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S2048, .f32⟩
  | 57 => ⟨S1x2048x1, .f32⟩
  | 58 => ⟨S1x2048x256, .f32⟩
  | 59 => ⟨S1x2048x256, .f32⟩
  | 60 => ⟨S1x2048x256, .f32⟩
  | 61 => ⟨S1x2048x256, .f32⟩
  | 62 => ⟨S1x2048x256, .f32⟩
  | 63 => ⟨S1x256x256, .f32⟩
  | 64 => ⟨S256x256, .f32⟩
  | 65 => ⟨S1x2048x256, .f32⟩
  | 66 => ⟨S1x2048x256, .f32⟩
  | 67 => ⟨S_, .f32⟩
  | 68 => ⟨S1x4x256, .f32⟩
  | 69 => ⟨S1x2052x256, .f32⟩
  | 70 => ⟨S_, .f32⟩
  | 71 => ⟨S1x4x256, .f32⟩
  | 72 => ⟨S1x2048x256, .f32⟩
  | 73 => ⟨S_, .i32⟩
  | 74 => ⟨S2048, .i32⟩
  | 75 => ⟨S2048, .i32⟩
  | 76 => ⟨S_, .i32⟩
  | 77 => ⟨S2048, .i32⟩
  | 78 => ⟨S2048, .i32⟩
  | 79 => ⟨S2048, .f32⟩
  | 80 => ⟨S1x2048x1, .f32⟩
  | 81 => ⟨S1x2048x256, .f32⟩
  | 82 => ⟨S1x2048x256, .f32⟩
  | 83 => ⟨S1x2048x256, .f32⟩
  | 84 => ⟨S1x2048x256, .f32⟩
  | 85 => ⟨S1x2048x256, .f32⟩
  | 86 => ⟨S1x256x256, .f32⟩
  | 87 => ⟨S256x256, .f32⟩
  | 88 => ⟨S1x2048x256, .f32⟩
  | 89 => ⟨S1x2048x256, .f32⟩
  | 90 => ⟨S_, .f32⟩
  | 91 => ⟨S1x8x256, .f32⟩
  | 92 => ⟨S1x2056x256, .f32⟩
  | 93 => ⟨S_, .f32⟩
  | 94 => ⟨S1x8x256, .f32⟩
  | 95 => ⟨S1x2048x256, .f32⟩
  | 96 => ⟨S_, .i32⟩
  | 97 => ⟨S2048, .i32⟩
  | 98 => ⟨S2048, .i32⟩
  | 99 => ⟨S_, .i32⟩
  | 100 => ⟨S2048, .i32⟩
  | 101 => ⟨S2048, .i32⟩
  | 102 => ⟨S2048, .f32⟩
  | 103 => ⟨S1x2048x1, .f32⟩
  | 104 => ⟨S1x2048x256, .f32⟩
  | 105 => ⟨S1x2048x256, .f32⟩
  | 106 => ⟨S1x2048x256, .f32⟩
  | 107 => ⟨S1x2048x256, .f32⟩
  | 108 => ⟨S1x2048x256, .f32⟩
  | 109 => ⟨S1x256x256, .f32⟩
  | 110 => ⟨S256x256, .f32⟩
  | 111 => ⟨S1x2048x256, .f32⟩
  | 112 => ⟨S1x2048x256, .f32⟩
  | 113 => ⟨S_, .f32⟩
  | 114 => ⟨S1x16x256, .f32⟩
  | 115 => ⟨S1x2064x256, .f32⟩
  | 116 => ⟨S_, .f32⟩
  | 117 => ⟨S1x16x256, .f32⟩
  | 118 => ⟨S1x2048x256, .f32⟩
  | 119 => ⟨S_, .i32⟩
  | 120 => ⟨S2048, .i32⟩
  | 121 => ⟨S2048, .i32⟩
  | 122 => ⟨S_, .i32⟩
  | 123 => ⟨S2048, .i32⟩
  | 124 => ⟨S2048, .i32⟩
  | 125 => ⟨S2048, .f32⟩
  | 126 => ⟨S1x2048x1, .f32⟩
  | 127 => ⟨S1x2048x256, .f32⟩
  | _ => ⟨S1x2048x1024, .f32⟩

abbrev hbmTy0_1 (i : Nat) : BufTy := match i % 128 with
  | 0 => ⟨S1x2048x256, .f32⟩
  | 1 => ⟨S1x2048x256, .f32⟩
  | 2 => ⟨S1x2048x256, .f32⟩
  | 3 => ⟨S1x2048x256, .f32⟩
  | 4 => ⟨S1x256x256, .f32⟩
  | 5 => ⟨S256x256, .f32⟩
  | 6 => ⟨S1x2048x256, .f32⟩
  | 7 => ⟨S1x2048x1024, .f32⟩
  | 8 => ⟨S1x2048x1024, .f32⟩
  | 9 => ⟨S1x1x1024, .f32⟩
  | 10 => ⟨S1x2048x1024, .f32⟩
  | 11 => ⟨S1x2048x1024, .f32⟩
  | 12 => ⟨S1x2048x1024, .f32⟩
  | 13 => ⟨S1x2048x1024, .f32⟩
  | 14 => ⟨S1x2048x1024, .f32⟩
  | 15 => ⟨S1x2048x1024, .f32⟩
  | 16 => ⟨S1x2048x1024, .f32⟩
  | 17 => ⟨S1x2048x1024, .f32⟩
  | 18 => ⟨S1x2048x1024, .f32⟩
  | 19 => ⟨S_, .f32⟩
  | 20 => ⟨S1x1024, .f32⟩
  | 21 => ⟨S1x1x1024, .f32⟩
  | 22 => ⟨S1x2048x1024, .f32⟩
  | 23 => ⟨S_, .f32⟩
  | 24 => ⟨S1x1024, .f32⟩
  | 25 => ⟨S1x1x1024, .f32⟩
  | 26 => ⟨S1x2048x1024, .f32⟩
  | 27 => ⟨S1x2048x1024, .f32⟩
  | 28 => ⟨S_, .f32⟩
  | 29 => ⟨S1024, .f32⟩
  | 30 => ⟨S1x2048x256, .f32⟩
  | 31 => ⟨S1x2048x256, .f32⟩
  | 32 => ⟨S1x2048x256, .f32⟩
  | 33 => ⟨S1x2048x256, .f32⟩
  | 34 => ⟨S256x256, .f32⟩
  | 35 => ⟨S256x256, .f32⟩
  | 36 => ⟨S1x2048x256, .f32⟩
  | 37 => ⟨S1x256x256, .f32⟩
  | 38 => ⟨S_, .f32⟩
  | 39 => ⟨S4x256x256, .f32⟩
  | 40 => ⟨S1x2048x256, .f32⟩
  | 41 => ⟨S_, .f32⟩
  | 42 => ⟨S1x2048x1024, .f32⟩
  | 43 => ⟨S1x2048x256, .f32⟩
  | 44 => ⟨S1x2048x256, .f32⟩
  | 45 => ⟨S1x2048x256, .f32⟩
  | 46 => ⟨S_, .f32⟩
  | 47 => ⟨S1x2064x256, .f32⟩
  | 48 => ⟨S1x16x256, .f32⟩
  | 49 => ⟨S1x2048x256, .f32⟩
  | 50 => ⟨S1x2048x256, .f32⟩
  | 51 => ⟨S_, .f32⟩
  | 52 => ⟨S1x2048x1024, .f32⟩
  | 53 => ⟨S256x256, .f32⟩
  | 54 => ⟨S256x256, .f32⟩
  | 55 => ⟨S1x2048x256, .f32⟩
  | 56 => ⟨S1x256x256, .f32⟩
  | 57 => ⟨S_, .f32⟩
  | 58 => ⟨S4x256x256, .f32⟩
  | 59 => ⟨S4x256x256, .f32⟩
  | 60 => ⟨S1x2048x256, .f32⟩
  | 61 => ⟨S_, .f32⟩
  | 62 => ⟨S1x2048x1024, .f32⟩
  | 63 => ⟨S1x2048x1024, .f32⟩
  | 64 => ⟨S1x2048x256, .f32⟩
  | 65 => ⟨S1x2048x256, .f32⟩
  | 66 => ⟨S1x2048x256, .f32⟩
  | 67 => ⟨S_, .f32⟩
  | 68 => ⟨S1x2056x256, .f32⟩
  | 69 => ⟨S1x8x256, .f32⟩
  | 70 => ⟨S1x2048x256, .f32⟩
  | 71 => ⟨S1x2048x256, .f32⟩
  | 72 => ⟨S_, .f32⟩
  | 73 => ⟨S1x2048x1024, .f32⟩
  | 74 => ⟨S1x2048x1024, .f32⟩
  | 75 => ⟨S256x256, .f32⟩
  | 76 => ⟨S256x256, .f32⟩
  | 77 => ⟨S1x2048x256, .f32⟩
  | 78 => ⟨S1x256x256, .f32⟩
  | 79 => ⟨S_, .f32⟩
  | 80 => ⟨S4x256x256, .f32⟩
  | 81 => ⟨S4x256x256, .f32⟩
  | 82 => ⟨S1x2048x256, .f32⟩
  | 83 => ⟨S_, .f32⟩
  | 84 => ⟨S1x2048x1024, .f32⟩
  | 85 => ⟨S1x2048x1024, .f32⟩
  | 86 => ⟨S1x2048x256, .f32⟩
  | 87 => ⟨S1x2048x256, .f32⟩
  | 88 => ⟨S1x2048x256, .f32⟩
  | 89 => ⟨S_, .f32⟩
  | 90 => ⟨S1x2052x256, .f32⟩
  | 91 => ⟨S1x4x256, .f32⟩
  | 92 => ⟨S1x2048x256, .f32⟩
  | 93 => ⟨S1x2048x256, .f32⟩
  | 94 => ⟨S_, .f32⟩
  | 95 => ⟨S1x2048x1024, .f32⟩
  | 96 => ⟨S1x2048x1024, .f32⟩
  | 97 => ⟨S256x256, .f32⟩
  | 98 => ⟨S256x256, .f32⟩
  | 99 => ⟨S1x2048x256, .f32⟩
  | 100 => ⟨S1x256x256, .f32⟩
  | 101 => ⟨S_, .f32⟩
  | 102 => ⟨S4x256x256, .f32⟩
  | 103 => ⟨S4x256x256, .f32⟩
  | 104 => ⟨S1x2048x256, .f32⟩
  | 105 => ⟨S_, .f32⟩
  | 106 => ⟨S1x2048x1024, .f32⟩
  | 107 => ⟨S1x2048x1024, .f32⟩
  | 108 => ⟨S1x2048x256, .f32⟩
  | 109 => ⟨S1x2048x256, .f32⟩
  | 110 => ⟨S1x2048x256, .f32⟩
  | 111 => ⟨S_, .f32⟩
  | 112 => ⟨S1x2050x256, .f32⟩
  | 113 => ⟨S1x2x256, .f32⟩
  | 114 => ⟨S1x2048x256, .f32⟩
  | 115 => ⟨S1x2048x256, .f32⟩
  | 116 => ⟨S_, .f32⟩
  | 117 => ⟨S1x2048x1024, .f32⟩
  | 118 => ⟨S1x2048x1024, .f32⟩
  | 119 => ⟨S_, .f32⟩
  | 120 => ⟨S_, .f32⟩
  | 121 => ⟨S1x2048x1024, .f32⟩
  | 122 => ⟨S1x2048x1024, .f32⟩
  | 123 => ⟨S_, .f32⟩
  | 124 => ⟨S1024, .f32⟩
  | 125 => ⟨S1x1024, .f32⟩
  | 126 => ⟨S_, .f32⟩
  | 127 => ⟨S1x1024, .f32⟩
  | _ => ⟨S1x2048x1024, .f32⟩

abbrev hbmTy0_2 (i : Nat) : BufTy := match i % 128 with
  | 0 => ⟨S1x1x1024, .f32⟩
  | 1 => ⟨S_, .f32⟩
  | 2 => ⟨S1024, .f32⟩
  | 3 => ⟨S1x1024, .f32⟩
  | 4 => ⟨S1x2048x1024, .f32⟩
  | 5 => ⟨S_, .f32⟩
  | 6 => ⟨S1x1024, .f32⟩
  | 7 => ⟨S1x1x1024, .f32⟩
  | 8 => ⟨S1x2048x1024, .f32⟩
  | 9 => ⟨S1x2048x1024, .f32⟩
  | 10 => ⟨S_, .f32⟩
  | 11 => ⟨S1024, .f32⟩
  | 12 => ⟨S1x1024, .f32⟩
  | 13 => ⟨S1x2048x1024, .f32⟩
  | 14 => ⟨S_, .f32⟩
  | 15 => ⟨S1x1024, .f32⟩
  | 16 => ⟨S1x1x1024, .f32⟩
  | 17 => ⟨S1x2048x1024, .f32⟩
  | 18 => ⟨S1x2048x1024, .f32⟩
  | 19 => ⟨S_, .f32⟩
  | 20 => ⟨S1024, .f32⟩
  | 21 => ⟨S1x2048x1024, .f32⟩
  | 22 => ⟨S_, .f32⟩
  | 23 => ⟨S1x2048, .f32⟩
  | 24 => ⟨S1x2048x1, .f32⟩
  | 25 => ⟨S1x2048x1024, .f32⟩
  | 26 => ⟨S1x2048x1024, .f32⟩
  | 27 => ⟨S1x2048x1024, .f32⟩
  | 28 => ⟨S1x2048x1, .f32⟩
  | 29 => ⟨S_, .f32⟩
  | 30 => ⟨S1x2048x1, .f32⟩
  | 31 => ⟨S1x2048x1, .f32⟩
  | 32 => ⟨S_, .f32⟩
  | 33 => ⟨S2048, .f32⟩
  | 34 => ⟨S1x2048, .f32⟩
  | 35 => ⟨S1x2048x1024, .f32⟩
  | 36 => ⟨S1x2048x1024, .f32⟩
  | 37 => ⟨S1x2048x1024, .f32⟩
  | 38 => ⟨S1x2048x1024, .f32⟩
  | 39 => ⟨S1x2048x1024, .f32⟩
  | 40 => ⟨S1x3072, .f32⟩
  | 41 => ⟨S1x1024, .f32⟩
  | 42 => ⟨S3x1024, .f32⟩
  | 43 => ⟨S_, .f32⟩
  | 44 => ⟨S4x1024, .f32⟩
  | 45 => ⟨S8x1024, .f32⟩
  | 46 => ⟨S2048x1024, .f32⟩
  | 47 => ⟨S4x256x256, .bf16⟩
  | 48 => ⟨S1x1024, .f32⟩
  | _ => ⟨S1x2048x1024, .f32⟩

abbrev hbmTy (i : Nat) : BufTy := match i / 128 with
  | 0 => hbmTy0_0 i
  | 1 => hbmTy0_1 i
  | 2 => hbmTy0_2 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_call0_cst : Ref sig .tc := ⟨.hbm, 39, rfl⟩
abbrev main_call0_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_c_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_15 : Ref sig .tc := ⟨.hbm, 113, rfl⟩
abbrev main_v88 : Ref sig .tc := ⟨.hbm, 114, rfl⟩
abbrev main_v89 : Ref sig .tc := ⟨.hbm, 115, rfl⟩
abbrev main_cst_16 : Ref sig .tc := ⟨.hbm, 116, rfl⟩
abbrev main_v90 : Ref sig .tc := ⟨.hbm, 117, rfl⟩
abbrev main_v91 : Ref sig .tc := ⟨.hbm, 118, rfl⟩
abbrev main_c_17 : Ref sig .tc := ⟨.hbm, 119, rfl⟩
abbrev main_v92 : Ref sig .tc := ⟨.hbm, 120, rfl⟩
abbrev main_v93 : Ref sig .tc := ⟨.hbm, 121, rfl⟩
abbrev main_c_18 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_19 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_20 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_21 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_22 : Ref sig .tc := ⟨.hbm, 166, rfl⟩
abbrev main_v134 : Ref sig .tc := ⟨.hbm, 167, rfl⟩
abbrev main_v135 : Ref sig .tc := ⟨.hbm, 168, rfl⟩
abbrev main_cst_23 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_24 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_25 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_cst_26 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_27 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_cst_28 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_29 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_cst_30 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_31 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_cst_32 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_cst_33 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_cst_34 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_cst_35 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_cst_36 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_cst_37 : Ref sig .tc := ⟨.hbm, 244, rfl⟩
abbrev main_v197 : Ref sig .tc := ⟨.hbm, 245, rfl⟩
abbrev main_v198 : Ref sig .tc := ⟨.hbm, 246, rfl⟩
abbrev main_call1_call0_cst : Ref sig .tc := ⟨.hbm, 247, rfl⟩
abbrev main_call1_call0_v0 : Ref sig .tc := ⟨.hbm, 248, rfl⟩
abbrev main_v199 : Ref sig .tc := ⟨.hbm, 249, rfl⟩
abbrev main_v200 : Ref sig .tc := ⟨.hbm, 250, rfl⟩
abbrev main_cst_38 : Ref sig .tc := ⟨.hbm, 251, rfl⟩
abbrev main_v201 : Ref sig .tc := ⟨.hbm, 252, rfl⟩
abbrev main_v202 : Ref sig .tc := ⟨.hbm, 253, rfl⟩
abbrev main_cst_39 : Ref sig .tc := ⟨.hbm, 254, rfl⟩
abbrev main_v203 : Ref sig .tc := ⟨.hbm, 255, rfl⟩
abbrev main_v204 : Ref sig .tc := ⟨.hbm, 256, rfl⟩
abbrev main_cst_40 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_cst_41 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_cst_42 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_cst_43 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_cst_44 : Ref sig .tc := ⟨.hbm, 275, rfl⟩
abbrev main_v219 : Ref sig .tc := ⟨.hbm, 276, rfl⟩
abbrev main_v220 : Ref sig .tc := ⟨.hbm, 277, rfl⟩
abbrev main_cst_45 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_cst_46 : Ref sig .tc := ⟨.hbm, 285, rfl⟩
abbrev main_v227 : Ref sig .tc := ⟨.hbm, 286, rfl⟩
abbrev main_v228 : Ref sig .tc := ⟨.hbm, 287, rfl⟩
abbrev main_cst_47 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_cst_48 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩

abbrev nD : Nat := 1
abbrev τ : Topo := Topo.v7x

variable {F : FTy → Type} [FloatOps F]
-- ==== Mix.lean ====
abbrev S1x2048x2560 : Shape := ⟨3, ![1, 2048, 2560]⟩
abbrev S1x2048x1024 : Shape := ⟨3, ![1, 2048, 1024]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S128x4 : Shape := ⟨2, ![128, 4]⟩
abbrev S128x4x1 : Shape := ⟨3, ![128, 4, 1]⟩
abbrev S128x4x128 : Shape := ⟨3, ![128, 4, 128]⟩
abbrev S128x512 : Shape := ⟨2, ![128, 512]⟩
abbrev S2048x2560 : Shape := ⟨2, ![2048, 2560]⟩
abbrev S2048x1024 : Shape := ⟨2, ![2048, 1024]⟩
abbrev S1x512 : Shape := ⟨2, ![1, 512]⟩
abbrev S512x2560 : Shape := ⟨2, ![512, 2560]⟩
abbrev S8x2560 : Shape := ⟨2, ![8, 2560]⟩
abbrev S512x1024 : Shape := ⟨2, ![512, 1024]⟩
abbrev S16x1024 : Shape := ⟨2, ![16, 1024]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩

abbrev nBuf : Space → Nat
  | .hbm => 19
  | .vmem => 21
  | .smem => 0
  | _ => 0

abbrev bufTy : (tb : Table) → Fin (tcTables nBuf tb) → BufTy
  | .hbm, ⟨0, _⟩ => ⟨S1x2048x2560, .f32⟩
  | .hbm, ⟨1, _⟩ => ⟨S1x2048x1024, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S3x512, .f32⟩
  | .hbm, ⟨6, _⟩ => ⟨S128x4, .f32⟩
  | .hbm, ⟨7, _⟩ => ⟨S128x4x1, .f32⟩
  | .hbm, ⟨8, _⟩ => ⟨S128x4x128, .f32⟩
  | .hbm, ⟨9, _⟩ => ⟨S128x512, .f32⟩
  | .hbm, ⟨10, _⟩ => ⟨S2048x2560, .f32⟩
  | .hbm, ⟨11, _⟩ => ⟨S2048x1024, .f32⟩
  | .hbm, ⟨12, _⟩ => ⟨S2048x1024, .bf16⟩
  | .hbm, ⟨13, _⟩ => ⟨S1x512, .f32⟩
  | .hbm, ⟨14, _⟩ => ⟨S2048x2560, .bf16⟩
  | .hbm, ⟨15, _⟩ => ⟨S1x512, .f32⟩
  | .hbm, ⟨16, _⟩ => ⟨S4x128x128, .f32⟩
  | .hbm, ⟨17, _⟩ => ⟨S128x512, .f32⟩
  | .hbm, ⟨18, _⟩ => ⟨S3x512, .f32⟩
  | .local _ .vmem, ⟨0, _⟩ => ⟨S512x2560, .f32⟩
  | .local _ .vmem, ⟨1, _⟩ => ⟨S512x2560, .f32⟩
  | .local _ .vmem, ⟨2, _⟩ => ⟨S8x2560, .f32⟩
  | .local _ .vmem, ⟨3, _⟩ => ⟨S8x2560, .f32⟩
  | .local _ .vmem, ⟨4, _⟩ => ⟨S8x2560, .f32⟩
  | .local _ .vmem, ⟨5, _⟩ => ⟨S8x2560, .f32⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S1x512, .f32⟩
  | .local _ .vmem, ⟨11, _⟩ => ⟨S4x128x128, .f32⟩
  | .local _ .vmem, ⟨12, _⟩ => ⟨S128x512, .f32⟩
  | .local _ .vmem, ⟨13, _⟩ => ⟨S3x512, .f32⟩
  | .local _ .vmem, ⟨14, _⟩ => ⟨S512x2560, .bf16⟩
  | .local _ .vmem, ⟨15, _⟩ => ⟨S512x2560, .bf16⟩
  | .local _ .vmem, ⟨16, _⟩ => ⟨S1x512, .f32⟩
  | .local _ .vmem, ⟨17, _⟩ => ⟨S4x128x128, .f32⟩
  | .local _ .vmem, ⟨18, _⟩ => ⟨S128x512, .f32⟩
  | .local _ .vmem, ⟨19, _⟩ => ⟨S3x512, .f32⟩
  | .local _ .vmem, ⟨20, _⟩ => ⟨S512x512, .f32⟩
  | _, _ => ⟨S1x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixIdeal.lean ====
variable {F : FTy → Type} [FloatOps F] [Named F]
def κ : String → Option EReal := fun
  | "gelu_cube" => some ((8943 / 200000 : ℝ) : EReal)
  | "gelu_cube_3" => some ((26829 / 200000 : ℝ) : EReal)
  | _ => none
-- ==== MixRefIdeal.lean ====
abbrev S1x2048x2560 : Shape := ⟨3, ![1, 2048, 2560]⟩
abbrev S1x2048x1024 : Shape := ⟨3, ![1, 2048, 1024]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S128x4 : Shape := ⟨2, ![128, 4]⟩
abbrev S128x4x1 : Shape := ⟨3, ![128, 4, 1]⟩
abbrev S128x4x128 : Shape := ⟨3, ![128, 4, 128]⟩
abbrev S1x2048x512 : Shape := ⟨3, ![1, 2048, 512]⟩
abbrev S_ : Shape := ⟨0, ![]⟩
abbrev S1x2048 : Shape := ⟨2, ![1, 2048]⟩
abbrev S1x2048x1 : Shape := ⟨3, ![1, 2048, 1]⟩
abbrev S1x1x512 : Shape := ⟨3, ![1, 1, 512]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S1x1x128x4x128 : Shape := ⟨5, ![1, 1, 128, 4, 128]⟩
abbrev S1x2x512 : Shape := ⟨3, ![1, 2, 512]⟩
abbrev S1x2050x512 : Shape := ⟨3, ![1, 2050, 512]⟩
abbrev S1x512 : Shape := ⟨2, ![1, 512]⟩
abbrev S1x128x4x128 : Shape := ⟨4, ![1, 128, 4, 128]⟩
abbrev S2048 : Shape := ⟨1, ![2048]⟩
abbrev S2048x2560 : Shape := ⟨2, ![2048, 2560]⟩
abbrev S128x512 : Shape := ⟨2, ![128, 512]⟩

abbrev nBuf : Space → Nat
  | .hbm => 307
  | .vmem => 0
  | .smem => 0
  | _ => 0

abbrev hbmTy0_0 (i : Nat) : BufTy := match i % 128 with
  | 0 => ⟨S1x2048x2560, .f32⟩
  | 1 => ⟨S1x2048x1024, .f32⟩
  | 2 => ⟨S512, .f32⟩
  | 3 => ⟨S4x128x128, .f32⟩
  | 4 => ⟨S4x128, .f32⟩
  | 5 => ⟨S3x512, .f32⟩
  | 6 => ⟨S128x4, .f32⟩
  | 7 => ⟨S128x4x1, .f32⟩
  | 8 => ⟨S128x4x128, .f32⟩
  | 9 => ⟨S1x2048x512, .f32⟩
  | 10 => ⟨S1x2048x512, .f32⟩
  | 11 => ⟨S1x2048x512, .f32⟩
  | 12 => ⟨S1x2048x512, .f32⟩
  | 13 => ⟨S1x2048x512, .f32⟩
  | 14 => ⟨S1x2048x512, .f32⟩
  | 15 => ⟨S1x2048x512, .f32⟩
  | 16 => ⟨S1x2048x512, .f32⟩
  | 17 => ⟨S_, .f32⟩
  | 18 => ⟨S1x2048x512, .f32⟩
  | 19 => ⟨S1x2048x512, .f32⟩
  | 20 => ⟨S_, .f32⟩
  | 21 => ⟨S1x2048x512, .f32⟩
  | 22 => ⟨S1x2048x512, .f32⟩
  | 23 => ⟨S_, .f32⟩
  | 24 => ⟨S1x2048x512, .f32⟩
  | 25 => ⟨S1x2048x512, .f32⟩
  | 26 => ⟨S1x2048x512, .f32⟩
  | 27 => ⟨S_, .f32⟩
  | 28 => ⟨S1x2048x512, .f32⟩
  | 29 => ⟨S1x2048x512, .f32⟩
  | 30 => ⟨S1x2048x512, .f32⟩
  | 31 => ⟨S_, .f32⟩
  | 32 => ⟨S1x2048x512, .f32⟩
  | 33 => ⟨S1x2048x512, .f32⟩
  | 34 => ⟨S_, .f32⟩
  | 35 => ⟨S1x2048x512, .f32⟩
  | 36 => ⟨S1x2048x512, .f32⟩
  | 37 => ⟨S1x2048x512, .f32⟩
  | 38 => ⟨S_, .f32⟩
  | 39 => ⟨S1x2048x512, .f32⟩
  | 40 => ⟨S1x2048x512, .f32⟩
  | 41 => ⟨S_, .f32⟩
  | 42 => ⟨S1x2048x512, .f32⟩
  | 43 => ⟨S1x2048x512, .f32⟩
  | 44 => ⟨S1x2048x512, .f32⟩
  | 45 => ⟨S1x2048x512, .f32⟩
  | 46 => ⟨S1x2048x512, .f32⟩
  | 47 => ⟨S1x2048x512, .f32⟩
  | 48 => ⟨S_, .f32⟩
  | 49 => ⟨S1x2048x512, .f32⟩
  | 50 => ⟨S1x2048x512, .f32⟩
  | 51 => ⟨S_, .f32⟩
  | 52 => ⟨S1x2048x512, .f32⟩
  | 53 => ⟨S1x2048x512, .f32⟩
  | 54 => ⟨S_, .f32⟩
  | 55 => ⟨S1x2048x512, .f32⟩
  | 56 => ⟨S1x2048x512, .f32⟩
  | 57 => ⟨S1x2048x512, .f32⟩
  | 58 => ⟨S_, .f32⟩
  | 59 => ⟨S1x2048x512, .f32⟩
  | 60 => ⟨S1x2048x512, .f32⟩
  | 61 => ⟨S1x2048x512, .f32⟩
  | 62 => ⟨S_, .f32⟩
  | 63 => ⟨S1x2048x512, .f32⟩
  | 64 => ⟨S1x2048x512, .f32⟩
  | 65 => ⟨S_, .f32⟩
  | 66 => ⟨S1x2048x512, .f32⟩
  | 67 => ⟨S1x2048x512, .f32⟩
  | 68 => ⟨S1x2048x512, .f32⟩
  | 69 => ⟨S_, .f32⟩
  | 70 => ⟨S1x2048x512, .f32⟩
  | 71 => ⟨S1x2048x512, .f32⟩
  | 72 => ⟨S_, .f32⟩
  | 73 => ⟨S1x2048x512, .f32⟩
  | 74 => ⟨S1x2048x512, .f32⟩
  | 75 => ⟨S1x2048x512, .f32⟩
  | 76 => ⟨S_, .f32⟩
  | 77 => ⟨S1x2048, .f32⟩
  | 78 => ⟨S1x2048x1, .f32⟩
  | 79 => ⟨S_, .f32⟩
  | 80 => ⟨S1x2048x1, .f32⟩
  | 81 => ⟨S1x2048x1, .f32⟩
  | 82 => ⟨S1x2048x512, .f32⟩
  | 83 => ⟨S1x2048x512, .f32⟩
  | 84 => ⟨S1x2048x512, .f32⟩
  | 85 => ⟨S_, .f32⟩
  | 86 => ⟨S1x2048x512, .f32⟩
  | 87 => ⟨S1x2048x512, .f32⟩
  | 88 => ⟨S_, .f32⟩
  | 89 => ⟨S1x2048, .f32⟩
  | 90 => ⟨S1x2048x1, .f32⟩
  | 91 => ⟨S_, .f32⟩
  | 92 => ⟨S1x2048x1, .f32⟩
  | 93 => ⟨S1x2048x1, .f32⟩
  | 94 => ⟨S1x2048x512, .f32⟩
  | 95 => ⟨S1x2048x512, .f32⟩
  | 96 => ⟨S_, .f32⟩
  | 97 => ⟨S1x2048x1, .f32⟩
  | 98 => ⟨S1x2048x1, .f32⟩
  | 99 => ⟨S1x2048x1, .f32⟩
  | 100 => ⟨S1x2048x1, .f32⟩
  | 101 => ⟨S_, .f32⟩
  | 102 => ⟨S1x2048x1, .f32⟩
  | 103 => ⟨S1x2048x1, .f32⟩
  | 104 => ⟨S1x2048x512, .f32⟩
  | 105 => ⟨S1x2048x512, .f32⟩
  | 106 => ⟨S1x1x512, .f32⟩
  | 107 => ⟨S1x2048x512, .f32⟩
  | 108 => ⟨S1x2048x512, .f32⟩
  | 109 => ⟨S1x16x128x4x128, .f32⟩
  | 110 => ⟨S_, .f32⟩
  | 111 => ⟨S128x128, .f32⟩
  | 112 => ⟨S128x128, .i32⟩
  | 113 => ⟨S_, .i32⟩
  | 114 => ⟨S128x128, .i32⟩
  | 115 => ⟨S128x128, .i32⟩
  | 116 => ⟨S128x128, .i32⟩
  | 117 => ⟨S128x128, .i1⟩
  | 118 => ⟨S_, .f32⟩
  | 119 => ⟨S128x128, .f32⟩
  | 120 => ⟨S128x128, .f32⟩
  | 121 => ⟨S1x128x128, .f32⟩
  | 122 => ⟨S4x128x128, .f32⟩
  | 123 => ⟨S4x128x128, .f32⟩
  | 124 => ⟨S4x1x16x128x128, .f32⟩
  | 125 => ⟨S1x16x128x4x128, .f32⟩
  | 126 => ⟨S1x1x128x4x128, .f32⟩
  | 127 => ⟨S1x16x128x4x128, .f32⟩
  | _ => ⟨S1x2048x2560, .f32⟩

abbrev hbmTy0_1 (i : Nat) : BufTy := match i % 128 with
  | 0 => ⟨S1x16x128x4x128, .f32⟩
  | 1 => ⟨S1x2048x512, .f32⟩
  | 2 => ⟨S1x2048x512, .f32⟩
  | 3 => ⟨S1x2048x512, .f32⟩
  | 4 => ⟨S_, .f32⟩
  | 5 => ⟨S1x2x512, .f32⟩
  | 6 => ⟨S1x2050x512, .f32⟩
  | 7 => ⟨S_, .f32⟩
  | 8 => ⟨S1x2x512, .f32⟩
  | 9 => ⟨S1x512, .f32⟩
  | 10 => ⟨S512, .f32⟩
  | 11 => ⟨S1x2048x512, .f32⟩
  | 12 => ⟨S1x1x512, .f32⟩
  | 13 => ⟨S1x2048x512, .f32⟩
  | 14 => ⟨S1x2048x512, .f32⟩
  | 15 => ⟨S1x512, .f32⟩
  | 16 => ⟨S512, .f32⟩
  | 17 => ⟨S1x2048x512, .f32⟩
  | 18 => ⟨S1x1x512, .f32⟩
  | 19 => ⟨S1x2048x512, .f32⟩
  | 20 => ⟨S1x2048x512, .f32⟩
  | 21 => ⟨S1x2048x512, .f32⟩
  | 22 => ⟨S1x512, .f32⟩
  | 23 => ⟨S512, .f32⟩
  | 24 => ⟨S1x2048x512, .f32⟩
  | 25 => ⟨S1x1x512, .f32⟩
  | 26 => ⟨S1x2048x512, .f32⟩
  | 27 => ⟨S1x2048x512, .f32⟩
  | 28 => ⟨S1x2048x512, .f32⟩
  | 29 => ⟨S1x2048x512, .f32⟩
  | 30 => ⟨S1x2048x1024, .f32⟩
  | 31 => ⟨S1x2048x512, .f32⟩
  | 32 => ⟨S1x2048x512, .f32⟩
  | 33 => ⟨S1x2048x512, .f32⟩
  | 34 => ⟨S1x2048x512, .f32⟩
  | 35 => ⟨S1x2048x512, .f32⟩
  | 36 => ⟨S1x2048x512, .f32⟩
  | 37 => ⟨S1x2048x512, .f32⟩
  | 38 => ⟨S_, .f32⟩
  | 39 => ⟨S1x512, .f32⟩
  | 40 => ⟨S1x1x512, .f32⟩
  | 41 => ⟨S_, .f32⟩
  | 42 => ⟨S512, .f32⟩
  | 43 => ⟨S_, .f32⟩
  | 44 => ⟨S1x2050x512, .f32⟩
  | 45 => ⟨S1x512, .f32⟩
  | 46 => ⟨S_, .f32⟩
  | 47 => ⟨S3x512, .f32⟩
  | 48 => ⟨S1x2048x512, .f32⟩
  | 49 => ⟨S1x2048x512, .f32⟩
  | 50 => ⟨S1x2048x512, .f32⟩
  | 51 => ⟨S_, .f32⟩
  | 52 => ⟨S1x512, .f32⟩
  | 53 => ⟨S1x1x512, .f32⟩
  | 54 => ⟨S_, .f32⟩
  | 55 => ⟨S512, .f32⟩
  | 56 => ⟨S_, .f32⟩
  | 57 => ⟨S1x2050x512, .f32⟩
  | 58 => ⟨S1x2050x512, .f32⟩
  | 59 => ⟨S1x512, .f32⟩
  | 60 => ⟨S_, .f32⟩
  | 61 => ⟨S3x512, .f32⟩
  | 62 => ⟨S3x512, .f32⟩
  | 63 => ⟨S1x2048x512, .f32⟩
  | 64 => ⟨S1x2048x512, .f32⟩
  | 65 => ⟨S1x2048x512, .f32⟩
  | 66 => ⟨S_, .f32⟩
  | 67 => ⟨S1x512, .f32⟩
  | 68 => ⟨S1x1x512, .f32⟩
  | 69 => ⟨S_, .f32⟩
  | 70 => ⟨S512, .f32⟩
  | 71 => ⟨S_, .f32⟩
  | 72 => ⟨S1x2050x512, .f32⟩
  | 73 => ⟨S1x2050x512, .f32⟩
  | 74 => ⟨S1x512, .f32⟩
  | 75 => ⟨S_, .f32⟩
  | 76 => ⟨S3x512, .f32⟩
  | 77 => ⟨S3x512, .f32⟩
  | 78 => ⟨S1x2x512, .f32⟩
  | 79 => ⟨S1x2048x512, .f32⟩
  | 80 => ⟨S1x2048x512, .f32⟩
  | 81 => ⟨S1x2048x512, .f32⟩
  | 82 => ⟨S1x2048x512, .f32⟩
  | 83 => ⟨S1x2048x512, .f32⟩
  | 84 => ⟨S1x16x128x4x128, .f32⟩
  | 85 => ⟨S_, .f32⟩
  | 86 => ⟨S1x128x4x128, .f32⟩
  | 87 => ⟨S1x1x128x4x128, .f32⟩
  | 88 => ⟨S_, .f32⟩
  | 89 => ⟨S128x4x128, .f32⟩
  | 90 => ⟨S4x1x16x128x128, .f32⟩
  | 91 => ⟨S4x128x128, .f32⟩
  | 92 => ⟨S4x1x16x128x128, .f32⟩
  | 93 => ⟨S1x16x128x4x128, .f32⟩
  | 94 => ⟨S4x128x128, .f32⟩
  | 95 => ⟨S4x128x128, .f32⟩
  | 96 => ⟨S1x2048x512, .f32⟩
  | 97 => ⟨S1x2048x512, .f32⟩
  | 98 => ⟨S_, .f32⟩
  | 99 => ⟨S1x512, .f32⟩
  | 100 => ⟨S1x1x512, .f32⟩
  | 101 => ⟨S1x2048x512, .f32⟩
  | 102 => ⟨S1x2048x512, .f32⟩
  | 103 => ⟨S_, .f32⟩
  | 104 => ⟨S512, .f32⟩
  | 105 => ⟨S1x2048x512, .f32⟩
  | 106 => ⟨S_, .f32⟩
  | 107 => ⟨S1x2048, .f32⟩
  | 108 => ⟨S1x2048x1, .f32⟩
  | 109 => ⟨S1x2048x512, .f32⟩
  | 110 => ⟨S1x2048x512, .f32⟩
  | 111 => ⟨S1x2048x1, .f32⟩
  | 112 => ⟨S1x2048x512, .f32⟩
  | 113 => ⟨S_, .f32⟩
  | 114 => ⟨S1x2048, .f32⟩
  | 115 => ⟨S1x2048x1, .f32⟩
  | 116 => ⟨S_, .f32⟩
  | 117 => ⟨S1x2048x1, .f32⟩
  | 118 => ⟨S1x2048x1, .f32⟩
  | 119 => ⟨S_, .f32⟩
  | 120 => ⟨S2048, .f32⟩
  | 121 => ⟨S1x2048, .f32⟩
  | 122 => ⟨S1x2048x512, .f32⟩
  | 123 => ⟨S1x2048x512, .f32⟩
  | 124 => ⟨S1x2048x512, .f32⟩
  | 125 => ⟨S_, .f32⟩
  | 126 => ⟨S1x2048, .f32⟩
  | 127 => ⟨S1x2048x1, .f32⟩
  | _ => ⟨S1x2048x2560, .f32⟩

abbrev hbmTy0_2 (i : Nat) : BufTy := match i % 128 with
  | 0 => ⟨S1x2048x512, .f32⟩
  | 1 => ⟨S1x2048x1, .f32⟩
  | 2 => ⟨S_, .f32⟩
  | 3 => ⟨S1x2048x1, .f32⟩
  | 4 => ⟨S1x2048x1, .f32⟩
  | 5 => ⟨S_, .f32⟩
  | 6 => ⟨S2048, .f32⟩
  | 7 => ⟨S1x2048, .f32⟩
  | 8 => ⟨S1x2048x512, .f32⟩
  | 9 => ⟨S1x2048x512, .f32⟩
  | 10 => ⟨S1x2048x512, .f32⟩
  | 11 => ⟨S1x2048x512, .f32⟩
  | 12 => ⟨S_, .f32⟩
  | 13 => ⟨S1x2048x512, .f32⟩
  | 14 => ⟨S1x2048x512, .f32⟩
  | 15 => ⟨S1x2048x512, .f32⟩
  | 16 => ⟨S_, .f32⟩
  | 17 => ⟨S1x2048x512, .f32⟩
  | 18 => ⟨S1x2048x512, .f32⟩
  | 19 => ⟨S1x2048x512, .f32⟩
  | 20 => ⟨S_, .f32⟩
  | 21 => ⟨S1x2048x512, .f32⟩
  | 22 => ⟨S1x2048x512, .f32⟩
  | 23 => ⟨S_, .f32⟩
  | 24 => ⟨S1x2048x512, .f32⟩
  | 25 => ⟨S1x2048x512, .f32⟩
  | 26 => ⟨S1x2048x512, .f32⟩
  | 27 => ⟨S1x2048x512, .f32⟩
  | 28 => ⟨S1x2048x512, .f32⟩
  | 29 => ⟨S1x2048x512, .f32⟩
  | 30 => ⟨S_, .f32⟩
  | 31 => ⟨S1x2048x512, .f32⟩
  | 32 => ⟨S1x2048x512, .f32⟩
  | 33 => ⟨S1x2048x512, .f32⟩
  | 34 => ⟨S_, .f32⟩
  | 35 => ⟨S1x2048x512, .f32⟩
  | 36 => ⟨S1x2048x512, .f32⟩
  | 37 => ⟨S1x2048x512, .f32⟩
  | 38 => ⟨S_, .f32⟩
  | 39 => ⟨S1x2048x512, .f32⟩
  | 40 => ⟨S1x2048x512, .f32⟩
  | 41 => ⟨S_, .f32⟩
  | 42 => ⟨S1x2048x512, .f32⟩
  | 43 => ⟨S1x2048x512, .f32⟩
  | 44 => ⟨S1x2048x512, .f32⟩
  | 45 => ⟨S1x2048x512, .f32⟩
  | 46 => ⟨S1x2048x2560, .f32⟩
  | 47 => ⟨S2048x2560, .f32⟩
  | 48 => ⟨S2048x2560, .bf16⟩
  | 49 => ⟨S1x512, .f32⟩
  | 50 => ⟨S128x512, .f32⟩
  | _ => ⟨S1x2048x2560, .f32⟩

abbrev hbmTy (i : Nat) : BufTy := match i / 128 with
  | 0 => hbmTy0_0 i
  | 1 => hbmTy0_1 i
  | 2 => hbmTy0_2 i
  | _ => ⟨S1x2048x2560, .f32⟩

abbrev bufTy : (tb : Table) → Fin (tcTables nBuf tb) → BufTy
  | .hbm, ⟨i, _⟩ => hbmTy i
  | _, _ => ⟨S1x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_17 : Ref sig .tc := ⟨.hbm, 85, rfl⟩
abbrev main_v61 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_cst_19 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_20 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_21 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_22 : Ref sig .tc := ⟨.hbm, 110, rfl⟩
abbrev main_v81 : Ref sig .tc := ⟨.hbm, 111, rfl⟩
abbrev main_call0_v0 : Ref sig .tc := ⟨.hbm, 112, rfl⟩
abbrev main_call0_c : Ref sig .tc := ⟨.hbm, 113, rfl⟩
abbrev main_call0_v1 : Ref sig .tc := ⟨.hbm, 114, rfl⟩
abbrev main_call0_v2 : Ref sig .tc := ⟨.hbm, 115, rfl⟩
abbrev main_call0_v3 : Ref sig .tc := ⟨.hbm, 116, rfl⟩
abbrev main_call0_v4 : Ref sig .tc := ⟨.hbm, 117, rfl⟩
abbrev main_call0_cst : Ref sig .tc := ⟨.hbm, 118, rfl⟩
abbrev main_call0_v5 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_23 : Ref sig .tc := ⟨.hbm, 132, rfl⟩
abbrev main_v94 : Ref sig .tc := ⟨.hbm, 133, rfl⟩
abbrev main_v95 : Ref sig .tc := ⟨.hbm, 134, rfl⟩
abbrev main_cst_24 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_25 : Ref sig .tc := ⟨.hbm, 166, rfl⟩
abbrev main_v126 : Ref sig .tc := ⟨.hbm, 167, rfl⟩
abbrev main_v127 : Ref sig .tc := ⟨.hbm, 168, rfl⟩
abbrev main_cst_26 : Ref sig .tc := ⟨.hbm, 169, rfl⟩
abbrev main_v128 : Ref sig .tc := ⟨.hbm, 170, rfl⟩
abbrev main_cst_27 : Ref sig .tc := ⟨.hbm, 171, rfl⟩
abbrev main_v129 : Ref sig .tc := ⟨.hbm, 172, rfl⟩
abbrev main_v130 : Ref sig .tc := ⟨.hbm, 173, rfl⟩
abbrev main_cst_28 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_29 : Ref sig .tc := ⟨.hbm, 179, rfl⟩
abbrev main_v135 : Ref sig .tc := ⟨.hbm, 180, rfl⟩
abbrev main_v136 : Ref sig .tc := ⟨.hbm, 181, rfl⟩
abbrev main_cst_30 : Ref sig .tc := ⟨.hbm, 182, rfl⟩
abbrev main_v137 : Ref sig .tc := ⟨.hbm, 183, rfl⟩
abbrev main_cst_31 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_32 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_33 : Ref sig .tc := ⟨.hbm, 194, rfl⟩
abbrev main_v146 : Ref sig .tc := ⟨.hbm, 195, rfl⟩
abbrev main_v147 : Ref sig .tc := ⟨.hbm, 196, rfl⟩
abbrev main_cst_34 : Ref sig .tc := ⟨.hbm, 197, rfl⟩
abbrev main_v148 : Ref sig .tc := ⟨.hbm, 198, rfl⟩
abbrev main_cst_35 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_36 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_37 : Ref sig .tc := ⟨.hbm, 213, rfl⟩
abbrev main_v161 : Ref sig .tc := ⟨.hbm, 214, rfl⟩
abbrev main_v162 : Ref sig .tc := ⟨.hbm, 215, rfl⟩
abbrev main_cst_38 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_39 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_cst_40 : Ref sig .tc := ⟨.hbm, 231, rfl⟩
abbrev main_v176 : Ref sig .tc := ⟨.hbm, 232, rfl⟩
abbrev main_v177 : Ref sig .tc := ⟨.hbm, 233, rfl⟩
abbrev main_cst_41 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_cst_42 : Ref sig .tc := ⟨.hbm, 241, rfl⟩
abbrev main_v184 : Ref sig .tc := ⟨.hbm, 242, rfl⟩
abbrev main_v185 : Ref sig .tc := ⟨.hbm, 243, rfl⟩
abbrev main_cst_43 : Ref sig .tc := ⟨.hbm, 244, rfl⟩
abbrev main_v186 : Ref sig .tc := ⟨.hbm, 245, rfl⟩
abbrev main_v187 : Ref sig .tc := ⟨.hbm, 246, rfl⟩
abbrev main_cst_44 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_45 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_cst_46 : Ref sig .tc := ⟨.hbm, 258, rfl⟩
abbrev main_v197 : Ref sig .tc := ⟨.hbm, 259, rfl⟩
abbrev main_v198 : Ref sig .tc := ⟨.hbm, 260, rfl⟩
abbrev main_cst_47 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_cst_48 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_cst_49 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_cst_50 : Ref sig .tc := ⟨.hbm, 276, rfl⟩
abbrev main_v211 : Ref sig .tc := ⟨.hbm, 277, rfl⟩
abbrev main_v212 : Ref sig .tc := ⟨.hbm, 278, rfl⟩
abbrev main_cst_51 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_cst_52 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_cst_53 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_cst_54 : Ref sig .tc := ⟨.hbm, 294, rfl⟩
abbrev main_v225 : Ref sig .tc := ⟨.hbm, 295, rfl⟩
abbrev main_v226 : Ref sig .tc := ⟨.hbm, 296, rfl⟩
abbrev main_cst_55 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩

abbrev nD : Nat := 1
abbrev τ : Topo := Topo.v7x

variable {F : FTy → Type} [FloatOps F]
-- ==== MixFwd.lean ====
abbrev S1x2048x2560 : Shape := ⟨3, ![1, 2048, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S128x4 : Shape := ⟨2, ![128, 4]⟩
abbrev S128x4x1 : Shape := ⟨3, ![128, 4, 1]⟩
abbrev S128x4x128 : Shape := ⟨3, ![128, 4, 128]⟩
abbrev S128x512 : Shape := ⟨2, ![128, 512]⟩
abbrev S2048x2560 : Shape := ⟨2, ![2048, 2560]⟩
abbrev S1x512 : Shape := ⟨2, ![1, 512]⟩
abbrev S2048x1024 : Shape := ⟨2, ![2048, 1024]⟩
abbrev S512x2560 : Shape := ⟨2, ![512, 2560]⟩
abbrev S8x2560 : Shape := ⟨2, ![8, 2560]⟩
abbrev S512x1024 : Shape := ⟨2, ![512, 1024]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 12
  | .vmem => 10
  | .smem => 0
  | _ => 0

abbrev bufTy : (tb : Table) → Fin (tcTables nBuf tb) → BufTy
  | .hbm, ⟨0, _⟩ => ⟨S1x2048x2560, .f32⟩
  | .hbm, ⟨1, _⟩ => ⟨S512, .f32⟩
  | .hbm, ⟨2, _⟩ => ⟨S4x128x128, .f32⟩
  | .hbm, ⟨3, _⟩ => ⟨S4x128, .f32⟩
  | .hbm, ⟨4, _⟩ => ⟨S3x512, .f32⟩
  | .hbm, ⟨5, _⟩ => ⟨S128x4, .f32⟩
  | .hbm, ⟨6, _⟩ => ⟨S128x4x1, .f32⟩
  | .hbm, ⟨7, _⟩ => ⟨S128x4x128, .f32⟩
  | .hbm, ⟨8, _⟩ => ⟨S128x512, .f32⟩
  | .hbm, ⟨9, _⟩ => ⟨S2048x2560, .f32⟩
  | .hbm, ⟨10, _⟩ => ⟨S1x512, .f32⟩
  | .hbm, ⟨11, _⟩ => ⟨S2048x1024, .bf16⟩
  | .local _ .vmem, ⟨0, _⟩ => ⟨S512x2560, .f32⟩
  | .local _ .vmem, ⟨1, _⟩ => ⟨S512x2560, .f32⟩
  | .local _ .vmem, ⟨2, _⟩ => ⟨S8x2560, .f32⟩
  | .local _ .vmem, ⟨3, _⟩ => ⟨S8x2560, .f32⟩
  | .local _ .vmem, ⟨4, _⟩ => ⟨S1x512, .f32⟩
  | .local _ .vmem, ⟨5, _⟩ => ⟨S4x128x128, .f32⟩
  | .local _ .vmem, ⟨6, _⟩ => ⟨S128x512, .f32⟩
  | .local _ .vmem, ⟨7, _⟩ => ⟨S3x512, .f32⟩
  | .local _ .vmem, ⟨8, _⟩ => ⟨S512x1024, .bf16⟩
  | .local _ .vmem, ⟨9, _⟩ => ⟨S512x1024, .bf16⟩
  | _, _ => ⟨S1x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixFwdIdeal.lean ====
variable {F : FTy → Type} [FloatOps F] [Named F]
def κ : String → Option EReal := fun
  | "gelu_cube" => some ((8943 / 200000 : ℝ) : EReal)
  | _ => none
-- ==== MixFwdRefIdeal.lean ====
abbrev S1x2048x2560 : Shape := ⟨3, ![1, 2048, 2560]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S128x4 : Shape := ⟨2, ![128, 4]⟩
abbrev S128x4x1 : Shape := ⟨3, ![128, 4, 1]⟩
abbrev S128x4x128 : Shape := ⟨3, ![128, 4, 128]⟩
abbrev S1x2048x512 : Shape := ⟨3, ![1, 2048, 512]⟩
abbrev S_ : Shape := ⟨0, ![]⟩
abbrev S1x2048 : Shape := ⟨2, ![1, 2048]⟩
abbrev S1x2048x1 : Shape := ⟨3, ![1, 2048, 1]⟩
abbrev S1x1x512 : Shape := ⟨3, ![1, 1, 512]⟩
abbrev S1x16x128x4x128 : Shape := ⟨5, ![1, 16, 128, 4, 128]⟩
abbrev S128x128 : Shape := ⟨2, ![128, 128]⟩
abbrev S1x128x128 : Shape := ⟨3, ![1, 128, 128]⟩
abbrev S4x1x16x128x128 : Shape := ⟨5, ![4, 1, 16, 128, 128]⟩
abbrev S1x1x128x4x128 : Shape := ⟨5, ![1, 1, 128, 4, 128]⟩
abbrev S1x2x512 : Shape := ⟨3, ![1, 2, 512]⟩
abbrev S1x2050x512 : Shape := ⟨3, ![1, 2050, 512]⟩
abbrev S1x512 : Shape := ⟨2, ![1, 512]⟩
abbrev S1x2048x1024 : Shape := ⟨3, ![1, 2048, 1024]⟩
abbrev S2048x1024 : Shape := ⟨2, ![2048, 1024]⟩

abbrev nBuf : Space → Nat
  | .hbm => 129
  | .vmem => 0
  | .smem => 0
  | _ => 0

abbrev hbmTy0_0 (i : Nat) : BufTy := match i % 128 with
  | 0 => ⟨S1x2048x2560, .f32⟩
  | 1 => ⟨S512, .f32⟩
  | 2 => ⟨S4x128x128, .f32⟩
  | 3 => ⟨S4x128, .f32⟩
  | 4 => ⟨S3x512, .f32⟩
  | 5 => ⟨S128x4, .f32⟩
  | 6 => ⟨S128x4x1, .f32⟩
  | 7 => ⟨S128x4x128, .f32⟩
  | 8 => ⟨S1x2048x512, .f32⟩
  | 9 => ⟨S1x2048x512, .f32⟩
  | 10 => ⟨S1x2048x512, .f32⟩
  | 11 => ⟨S1x2048x512, .f32⟩
  | 12 => ⟨S1x2048x512, .f32⟩
  | 13 => ⟨S1x2048x512, .f32⟩
  | 14 => ⟨S1x2048x512, .f32⟩
  | 15 => ⟨S_, .f32⟩
  | 16 => ⟨S1x2048x512, .f32⟩
  | 17 => ⟨S1x2048x512, .f32⟩
  | 18 => ⟨S_, .f32⟩
  | 19 => ⟨S1x2048x512, .f32⟩
  | 20 => ⟨S1x2048x512, .f32⟩
  | 21 => ⟨S1x2048x512, .f32⟩
  | 22 => ⟨S_, .f32⟩
  | 23 => ⟨S1x2048x512, .f32⟩
  | 24 => ⟨S1x2048x512, .f32⟩
  | 25 => ⟨S1x2048x512, .f32⟩
  | 26 => ⟨S_, .f32⟩
  | 27 => ⟨S1x2048x512, .f32⟩
  | 28 => ⟨S1x2048x512, .f32⟩
  | 29 => ⟨S_, .f32⟩
  | 30 => ⟨S1x2048x512, .f32⟩
  | 31 => ⟨S1x2048x512, .f32⟩
  | 32 => ⟨S1x2048x512, .f32⟩
  | 33 => ⟨S1x2048x512, .f32⟩
  | 34 => ⟨S1x2048x512, .f32⟩
  | 35 => ⟨S_, .f32⟩
  | 36 => ⟨S1x2048x512, .f32⟩
  | 37 => ⟨S1x2048x512, .f32⟩
  | 38 => ⟨S_, .f32⟩
  | 39 => ⟨S1x2048x512, .f32⟩
  | 40 => ⟨S1x2048x512, .f32⟩
  | 41 => ⟨S1x2048x512, .f32⟩
  | 42 => ⟨S_, .f32⟩
  | 43 => ⟨S1x2048x512, .f32⟩
  | 44 => ⟨S1x2048x512, .f32⟩
  | 45 => ⟨S1x2048x512, .f32⟩
  | 46 => ⟨S_, .f32⟩
  | 47 => ⟨S1x2048x512, .f32⟩
  | 48 => ⟨S1x2048x512, .f32⟩
  | 49 => ⟨S_, .f32⟩
  | 50 => ⟨S1x2048x512, .f32⟩
  | 51 => ⟨S1x2048x512, .f32⟩
  | 52 => ⟨S1x2048x512, .f32⟩
  | 53 => ⟨S_, .f32⟩
  | 54 => ⟨S1x2048, .f32⟩
  | 55 => ⟨S1x2048x1, .f32⟩
  | 56 => ⟨S_, .f32⟩
  | 57 => ⟨S1x2048x1, .f32⟩
  | 58 => ⟨S1x2048x1, .f32⟩
  | 59 => ⟨S1x2048x512, .f32⟩
  | 60 => ⟨S1x2048x512, .f32⟩
  | 61 => ⟨S1x2048x512, .f32⟩
  | 62 => ⟨S_, .f32⟩
  | 63 => ⟨S1x2048, .f32⟩
  | 64 => ⟨S1x2048x1, .f32⟩
  | 65 => ⟨S_, .f32⟩
  | 66 => ⟨S1x2048x1, .f32⟩
  | 67 => ⟨S1x2048x1, .f32⟩
  | 68 => ⟨S1x2048x512, .f32⟩
  | 69 => ⟨S1x2048x512, .f32⟩
  | 70 => ⟨S_, .f32⟩
  | 71 => ⟨S1x2048x1, .f32⟩
  | 72 => ⟨S1x2048x1, .f32⟩
  | 73 => ⟨S1x2048x1, .f32⟩
  | 74 => ⟨S1x2048x512, .f32⟩
  | 75 => ⟨S1x2048x512, .f32⟩
  | 76 => ⟨S1x1x512, .f32⟩
  | 77 => ⟨S1x2048x512, .f32⟩
  | 78 => ⟨S1x2048x512, .f32⟩
  | 79 => ⟨S1x16x128x4x128, .f32⟩
  | 80 => ⟨S_, .f32⟩
  | 81 => ⟨S128x128, .f32⟩
  | 82 => ⟨S128x128, .i32⟩
  | 83 => ⟨S_, .i32⟩
  | 84 => ⟨S128x128, .i32⟩
  | 85 => ⟨S128x128, .i32⟩
  | 86 => ⟨S128x128, .i32⟩
  | 87 => ⟨S128x128, .i1⟩
  | 88 => ⟨S_, .f32⟩
  | 89 => ⟨S128x128, .f32⟩
  | 90 => ⟨S128x128, .f32⟩
  | 91 => ⟨S1x128x128, .f32⟩
  | 92 => ⟨S4x128x128, .f32⟩
  | 93 => ⟨S4x128x128, .f32⟩
  | 94 => ⟨S4x1x16x128x128, .f32⟩
  | 95 => ⟨S1x16x128x4x128, .f32⟩
  | 96 => ⟨S1x1x128x4x128, .f32⟩
  | 97 => ⟨S1x16x128x4x128, .f32⟩
  | 98 => ⟨S1x16x128x4x128, .f32⟩
  | 99 => ⟨S1x2048x512, .f32⟩
  | 100 => ⟨S1x2048x512, .f32⟩
  | 101 => ⟨S1x2048x512, .f32⟩
  | 102 => ⟨S_, .f32⟩
  | 103 => ⟨S1x2x512, .f32⟩
  | 104 => ⟨S1x2050x512, .f32⟩
  | 105 => ⟨S1x512, .f32⟩
  | 106 => ⟨S512, .f32⟩
  | 107 => ⟨S1x2048x512, .f32⟩
  | 108 => ⟨S1x1x512, .f32⟩
  | 109 => ⟨S1x2048x512, .f32⟩
  | 110 => ⟨S1x2048x512, .f32⟩
  | 111 => ⟨S1x512, .f32⟩
  | 112 => ⟨S512, .f32⟩
  | 113 => ⟨S1x2048x512, .f32⟩
  | 114 => ⟨S1x1x512, .f32⟩
  | 115 => ⟨S1x2048x512, .f32⟩
  | 116 => ⟨S1x2048x512, .f32⟩
  | 117 => ⟨S1x2048x512, .f32⟩
  | 118 => ⟨S1x512, .f32⟩
  | 119 => ⟨S512, .f32⟩
  | 120 => ⟨S1x2048x512, .f32⟩
  | 121 => ⟨S1x1x512, .f32⟩
  | 122 => ⟨S1x2048x512, .f32⟩
  | 123 => ⟨S1x2048x512, .f32⟩
  | 124 => ⟨S1x2048x512, .f32⟩
  | 125 => ⟨S1x2048x512, .f32⟩
  | 126 => ⟨S1x2048x1024, .f32⟩
  | 127 => ⟨S2048x1024, .f32⟩
  | _ => ⟨S1x2048x2560, .f32⟩

abbrev hbmTy0_1 (i : Nat) : BufTy := match i % 128 with
  | 0 => ⟨S2048x1024, .bf16⟩
  | _ => ⟨S1x2048x2560, .f32⟩

abbrev hbmTy (i : Nat) : BufTy := match i / 128 with
  | 0 => hbmTy0_0 i
  | 1 => hbmTy0_1 i
  | _ => ⟨S1x2048x2560, .f32⟩

abbrev bufTy : (tb : Table) → Fin (tcTables nBuf tb) → BufTy
  | .hbm, ⟨i, _⟩ => hbmTy i
  | _, _ => ⟨S1x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_cst : Ref sig .tc := ⟨.hbm, 88, rfl⟩
abbrev main_call0_v5 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]
-- ==== InFwd.lean ====
abbrev S1x2048x1024 : Shape := ⟨3, ![1, 2048, 1024]⟩
abbrev S1024 : Shape := ⟨1, ![1024]⟩
abbrev S1x3072 : Shape := ⟨2, ![1, 3072]⟩
abbrev S1024x2560 : Shape := ⟨2, ![1024, 2560]⟩
abbrev S2048x1024 : Shape := ⟨2, ![2048, 1024]⟩
abbrev S3072 : Shape := ⟨1, ![3072]⟩
abbrev S1x1024 : Shape := ⟨2, ![1, 1024]⟩
abbrev S_ : Shape := ⟨0, ![]⟩
abbrev S8x1024 : Shape := ⟨2, ![8, 1024]⟩
abbrev S3x1024 : Shape := ⟨2, ![3, 1024]⟩
abbrev S1x1024x2560 : Shape := ⟨3, ![1, 1024, 2560]⟩
abbrev S2048x2560 : Shape := ⟨2, ![2048, 2560]⟩
abbrev S1024x1024 : Shape := ⟨2, ![1024, 1024]⟩
abbrev S1x1024x640 : Shape := ⟨3, ![1, 1024, 640]⟩
abbrev S1024x640 : Shape := ⟨2, ![1024, 640]⟩
abbrev S1024x1 : Shape := ⟨2, ![1024, 1]⟩

abbrev nBuf : Space → Nat
  | .hbm => 18
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x3072, .f32⟩
  | .hbm, ⟨3, _⟩ => ⟨S1024x2560, .f32⟩
  | .hbm, ⟨4, _⟩ => ⟨S2048x1024, .f32⟩
  | .hbm, ⟨5, _⟩ => ⟨S3072, .f32⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S8x1024, .f32⟩
  | .hbm, ⟨10, _⟩ => ⟨S3x1024, .f32⟩
  | .hbm, ⟨11, _⟩ => ⟨S_, .i32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S1x1024x2560, .f32⟩
  | .hbm, ⟨16, _⟩ => ⟨S1x1024x2560, .bf16⟩
  | .hbm, ⟨17, _⟩ => ⟨S2048x2560, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S1x1024x640, .bf16⟩
  | .local _ .vmem, ⟨4, _⟩ => ⟨S1x1024x640, .bf16⟩
  | .local _ .vmem, ⟨5, _⟩ => ⟨S1024x640, .f32⟩
  | .local _ .vmem, ⟨6, _⟩ => ⟨S1024x640, .f32⟩
  | .local _ .vmem, ⟨7, _⟩ => ⟨S1024x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InFwdRefIdeal.lean ====
abbrev S1x2048x1024 : Shape := ⟨3, ![1, 2048, 1024]⟩
abbrev S1024 : Shape := ⟨1, ![1024]⟩
abbrev S1x3072 : Shape := ⟨2, ![1, 3072]⟩
abbrev S1024x2560 : Shape := ⟨2, ![1024, 2560]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x2048x2560 : Shape := ⟨3, ![1, 2048, 2560]⟩
abbrev S2048x2560 : Shape := ⟨2, ![2048, 2560]⟩

abbrev nBuf : Space → Nat
  | .hbm => 35
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x3072, .f32⟩
  | .hbm, ⟨3, _⟩ => ⟨S1024x2560, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x2048x1024, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S1x2048x1024, .f32⟩
  | .hbm, ⟨19, _⟩ => ⟨S1x2048x1024, .f32⟩
  | .hbm, ⟨20, _⟩ => ⟨S1x1x1024, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x2048x1024, .f32⟩
  | .hbm, ⟨28, _⟩ => ⟨S1x2048x1024, .f32⟩
  | .hbm, ⟨29, _⟩ => ⟨S1x1x1024, .f32⟩
  | .hbm, ⟨30, _⟩ => ⟨S1x2048x1024, .f32⟩
  | .hbm, ⟨31, _⟩ => ⟨S1x2048x1024, .f32⟩
  | .hbm, ⟨32, _⟩ => ⟨S1x1x1024, .f32⟩
  | .hbm, ⟨33, _⟩ => ⟨S1x2048x2560, .f32⟩
  | .hbm, ⟨34, _⟩ => ⟨S2048x2560, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.Lib.lean ====
/- Hand-written, untrusted: what the value claims share. The literals the programs use, as reals; arithmetic of the
   extended reals with a finite factor; the reciprocal root mean square of a row and the two ways of writing its gradient;
   a sum over several axes of a host array read as a sum over one index; a buffer written one row at a time, read back. -/
module

public import Idealize.ShloMosaic.Lib.Pipeline.ValueKit
public import Idealize.ShloMosaic.PureOps.Ideal.Laws

@[expose] public section

set_option maxRecDepth 16384

noncomputable section

namespace Cert.Lib

open Idealize.ShloMosaic Idealize.ShloMosaic.TcCoe
open scoped BigOperators

/-! ## The literals -/

theorem bits_0 : Ideal.ofBits .f32 0x00000000#32 = ((0 : ℝ) : EReal) := by
  simp [Ideal.ofBits, Ideal.ieee]
  all_goals norm_cast
  all_goals norm_num
theorem bits_1 : Ideal.ofBits .f32 0x3F800000#32 = ((1 : ℝ) : EReal) := by
  simp [Ideal.ofBits, Ideal.ieee]
  all_goals norm_cast
  all_goals norm_num
theorem bits_2 : Ideal.ofBits .f32 0x40000000#32 = ((2 : ℝ) : EReal) := by
  simp [Ideal.ofBits, Ideal.ieee]
  all_goals norm_cast
  all_goals norm_num
theorem bits_inf : Ideal.ofBits .f32 0x7F800000#32 = ⊤ := by
  simp [Ideal.ofBits, Ideal.ieee]

theorem bits_half : Ideal.ofBits .f32 0x3F000000#32 = ((1 / 2 : ℝ) : EReal) := by
  simp [Ideal.ofBits, Ideal.ieee]
  all_goals norm_cast
  all_goals norm_num
theorem bits_neg_half : Ideal.ofBits .f32 0xBF000000#32 = ((-(1 / 2) : ℝ) : EReal) := by
  simp [Ideal.ofBits, Ideal.ieee]
  all_goals norm_cast
  all_goals norm_num
theorem bits_1024 : Ideal.ofBits .f32 0x44800000#32 = ((1024 : ℝ) : EReal) := by
  simp [Ideal.ofBits, Ideal.ieee]
  all_goals norm_cast
  all_goals norm_num
theorem bits_inv_1024 : Ideal.ofBits .f32 0x3A800000#32 = ((1 / 1024 : ℝ) : EReal) := by
  simp [Ideal.ofBits, Ideal.ieee]
  all_goals norm_cast
  all_goals norm_num
/-- The small constant under the root is a positive real. -/
theorem bits_eps : ∃ e : ℝ, 0 < e ∧ Ideal.ofBits .f32 0x358637BD#32 = (e : EReal) := by
  refine ⟨_, ?_, by simp [Ideal.ofBits, Ideal.ieee]; norm_cast⟩
  norm_num

/-! ## The extended reals with a finite factor -/

theorem pos_mul_add {r : ℝ} (h : 0 ≤ r) (a b : EReal) : (r : EReal) * (a + b) = r * a + r * b :=
  EReal.left_distrib_of_nonneg_of_ne_top (by exact_mod_cast h) (EReal.coe_ne_top r) a b

theorem pos_mul_sub {r : ℝ} (h : 0 ≤ r) (a b : EReal) : (r : EReal) * (a - b) = r * a - r * b := by
  rw [sub_eq_add_neg, pos_mul_add h, mul_neg, ← sub_eq_add_neg]

theorem pos_mul_sum {ι : Type*} {r : ℝ} (h : 0 ≤ r) (s : Finset ι) (f : ι → EReal) :
    (r : EReal) * ∑ k ∈ s, f k = ∑ k ∈ s, r * f k := by
  classical
  induction s using Finset.induction_on with
  | empty => simp
  | insert a s ha ih => rw [Finset.sum_insert ha, Finset.sum_insert ha, pos_mul_add h, ih]

theorem add_self (a : EReal) : a + a = ((2 : ℝ) : EReal) * a := by
  induction a with
  | bot => rw [EReal.coe_mul_bot_of_pos (by norm_num)]; rfl
  | top => rw [EReal.coe_mul_top_of_pos (by norm_num)]; rfl
  | coe a => rw [← EReal.coe_add, ← EReal.coe_mul]; norm_num [two_mul]

/-! ## The reciprocal root mean square of a row -/

/-- The mean of the squares of a row, and the small constant. -/
def rv (x : Fin 1024 → EReal) : EReal :=
  Ideal.div (∑ k, x k * x k) (Ideal.ofBits .f32 0x44800000#32) + Ideal.ofBits .f32 0x358637BD#32

theorem sq_nonneg (a : EReal) : 0 ≤ a * a := by
  induction a with
  | bot => simp
  | top => simp
  | coe a => rw [← EReal.coe_mul]; exact_mod_cast mul_self_nonneg a

/-- It is a positive real, or infinite. -/
theorem rv_cases (x : Fin 1024 → EReal) : rv x = ⊤ ∨ ∃ v : ℝ, 0 < v ∧ rv x = v := by
  unfold rv
  obtain ⟨e, he, h⟩ := bits_eps
  rw [h, bits_1024, Ideal.div_coe (by norm_num)]
  have hs : 0 ≤ ∑ k, x k * x k := Finset.sum_nonneg fun k _ => sq_nonneg _
  generalize ∑ k, x k * x k = s at hs
  induction s with
  | bot => simp at hs
  | top => left; rw [EReal.top_mul_coe_of_pos (by norm_num)]; rfl
  | coe s =>
    right
    have hs' : 0 ≤ s := by exact_mod_cast hs
    exact ⟨s * (1 / 1024) + e, by positivity, by norm_cast⟩

/-- The gradient of a row divided by its root mean square, written in the two ways. -/
theorem rms_grad (x d : Fin 1024 → EReal) (f : Fin 1024) :
    Ideal.rsqrt (rv x) * (d f - x f * Ideal.rsqrt (rv x)
        * Ideal.div (∑ k, d k * (x k * Ideal.rsqrt (rv x))) (Ideal.ofBits .f32 0x44800000#32))
      = d f * Ideal.rsqrt (rv x)
        + x f * Ideal.div ((∑ k, x k * d k) * (Ideal.ofBits .f32 0xBF000000#32 * Ideal.div (Ideal.rsqrt (rv x)) (rv x)))
            (Ideal.ofBits .f32 0x44800000#32)
        + Ideal.div ((∑ k, x k * d k) * (Ideal.ofBits .f32 0xBF000000#32 * Ideal.div (Ideal.rsqrt (rv x)) (rv x)))
            (Ideal.ofBits .f32 0x44800000#32) * x f := by
  rw [bits_1024, bits_neg_half, Ideal.div_coe (by norm_num), Ideal.div_coe (by norm_num)]
  rcases rv_cases x with h | ⟨v, hv, h⟩
  · simp [h, Ideal.div]
  · have hr : Ideal.rsqrt (rv x) = (((Real.sqrt v)⁻¹ : ℝ) : EReal) := by
      rw [h, Ideal.rsqrt_coe, if_neg hv.le.not_gt, if_neg hv.ne']
    have hr0 : 0 < (Real.sqrt v)⁻¹ := inv_pos.2 (Real.sqrt_pos.2 hv)
    have hvr : v⁻¹ = (Real.sqrt v)⁻¹ * (Real.sqrt v)⁻¹ := by
      rw [← mul_inv, Real.mul_self_sqrt hv.le]
    rw [hr, h, Ideal.div_coe hv.ne', one_div v, hvr]
    generalize (Real.sqrt v)⁻¹ = r at hr0 ⊢
    have e1 : ∑ k, d k * (x k * (r : EReal)) = r * ∑ k, x k * d k := by
      rw [pos_mul_sum hr0.le]; exact Finset.sum_congr rfl fun k _ => by ac_rfl
    rw [e1]
    generalize ∑ k, x k * d k = T
    rw [pos_mul_sub hr0.le, add_assoc, mul_comm _ (x f), add_self, sub_eq_add_neg, ← mul_neg]
    congr 1
    · exact mul_comm _ _
    · have e2 : (r : EReal) * -(x f * r * (r * T * ((1 / 1024 : ℝ) : EReal)))
          = (x f * T) * ((-(r * r * r * (1 / 1024)) : ℝ) : EReal) := by
        rw [EReal.coe_neg, EReal.coe_mul, EReal.coe_mul, EReal.coe_mul, mul_neg, mul_neg]
        congr 1; ac_rfl
      have e3 : ((2 : ℝ) : EReal) * (x f * (T * (((-(1 / 2) : ℝ) : EReal) * ((r : EReal) * ((r * r : ℝ) : EReal)))
          * ((1 / 1024 : ℝ) : EReal)))
          = (x f * T) * (((2 : ℝ) : EReal) * ((-(1 / 2) : ℝ) : EReal) * ((r : EReal) * ((r * r : ℝ) : EReal))
          * ((1 / 1024 : ℝ) : EReal)) := by ac_rfl
      rw [e3]
      rw [e2, ← EReal.coe_mul, ← EReal.coe_mul, ← EReal.coe_mul, ← EReal.coe_mul]
      congr 2; ring

/-! ## Sums of a host array over several axes -/

/-- The host's sum over some axes, as a sum over any index that names the summed elements once each. -/
theorem hostReduceAdd_eq {s t : Shape} {axes : List (Fin s.rank)} {K : Type*} [Fintype K] (h : s.ReducesTo axes t)
    (x : s.Idx → EReal) (init : EReal) (j : t.Idx) (e : K → s.Idx) (he : Function.Injective e)
    (hj : ∀ i, h.drop i = j ↔ ∃ k, e k = i) :
    Ideal.hostReduceAdd h x init j = init + ∑ k, x (e k) := by
  classical
  unfold Ideal.hostReduceAdd
  congr 1
  refine (Finset.sum_congr (Finset.ext fun i => ?_) fun _ _ => rfl).trans
    (Finset.sum_map Finset.univ ⟨e, he⟩ x)
  simp [hj]

/-- Summing the first and the last of three axes. -/
theorem hostReduceAdd_mid {A S B : ℕ} (h : (⟨3, ![A, S, B]⟩ : Shape).ReducesTo [0, 2] ⟨1, ![S]⟩)
    (x : (⟨3, ![A, S, B]⟩ : Shape).Idx → EReal) (init : EReal) (s : Fin S) :
    Ideal.hostReduceAdd h x init (ix1 s) = init + ∑ a : Fin A, ∑ b : Fin B, x (ix3 a s b) := by
  rw [hostReduceAdd_eq (K := Fin A × Fin B) h x init _ (fun p => ix3 p.1 s p.2), Fintype.sum_prod_type]
  · rintro ⟨a, b⟩ ⟨a', b'⟩ hp
    exact Prod.ext (congrFun hp 0) (congrFun hp 2)
  · intro i
    have hd : (h.drop i 0).val = (i 1).val := rfl
    constructor
    · intro hi
      refine ⟨(i 0, i 2), ?_⟩
      have h1 : (i 1).val = s.val := by rw [← hd, hi]; rfl
      funext a
      match a with
      | ⟨0, _⟩ => rfl
      | ⟨1, _⟩ => exact Fin.ext h1.symm
      | ⟨2, _⟩ => rfl
    · rintro ⟨p, rfl⟩
      funext a
      match a with
      | ⟨0, _⟩ => exact Fin.ext hd

/-- Summing the first two of three axes. -/
theorem hostReduceAdd_last {A S B : ℕ} (h : (⟨3, ![A, S, B]⟩ : Shape).ReducesTo [0, 1] ⟨1, ![B]⟩)
    (x : (⟨3, ![A, S, B]⟩ : Shape).Idx → EReal) (init : EReal) (b : Fin B) :
    Ideal.hostReduceAdd h x init (ix1 b) = init + ∑ a : Fin A, ∑ s : Fin S, x (ix3 a s b) := by
  rw [hostReduceAdd_eq (K := Fin A × Fin S) h x init _ (fun p => ix3 p.1 p.2 b), Fintype.sum_prod_type]
  · rintro ⟨a, s⟩ ⟨a', s'⟩ hp
    exact Prod.ext (congrFun hp 0) (congrFun hp 1)
  · intro i
    have hd : (h.drop i 0).val = (i 2).val := rfl
    constructor
    · intro hi
      refine ⟨(i 0, i 1), ?_⟩
      have h1 : (i 2).val = b.val := by rw [← hd, hi]; rfl
      funext a
      match a with
      | ⟨0, _⟩ => rfl
      | ⟨1, _⟩ => rfl
      | ⟨2, _⟩ => exact Fin.ext h1.symm
    · rintro ⟨p, rfl⟩
      funext a
      match a with
      | ⟨0, _⟩ => exact Fin.ext hd

/-! ## A buffer written one row at a time -/

section Rows

variable {R N : ℕ} {Val : EltTy → Type} [∀ e, Nonempty (Val e)] {e : EltTy}

theorem mem_row {r : ℕ} (inb : ∀ a, (![r, 0] : Fin 2 → ℕ) a + (![1, N] : Fin 2 → ℕ) a ≤ (⟨2, ![R, N]⟩ : Shape).size a)
    (y : (⟨2, ![R, N]⟩ : Shape).Idx) :
    y ∈ (Rect.unit (s := ⟨2, ![R, N]⟩) ![r, 0] ![1, N] inb).set ↔ (y 0).val = r := by
  rw [Rect.mem_set_unit, Fin.forall_fin_two]
  have h1 : (y 1).val < N := (y 1).isLt
  show (r ≤ (y 0).val ∧ (y 0).val < r + 1) ∧ (0 ≤ (y 1).val ∧ (y 1).val < 0 + N) ↔ _
  omega

theorem emb_row {r : ℕ} (inb : ∀ a, (![r, 0] : Fin 2 → ℕ) a + (![1, N] : Fin 2 → ℕ) a ≤ (⟨2, ![R, N]⟩ : Shape).size a)
    (y : (⟨2, ![R, N]⟩ : Shape).Idx) (h : (y 0).val = r) :
    (Rect.unit (s := ⟨2, ![R, N]⟩) ![r, 0] ![1, N] inb).emb (ix2 (n0 := 1) (n1 := N) 0 (y 1)) = y := by
  funext a; apply Fin.ext
  match a with
  | ⟨0, _⟩ => show r + 1 * 0 = (y 0).val; omega
  | ⟨1, _⟩ => show 0 + 1 * (y 1).val = (y 1).val; omega

/-- The last row written wins; off it, what the earlier writes left. -/
theorem canon_row {r : ℕ} (inb : ∀ a, (![r, 0] : Fin 2 → ℕ) a + (![1, N] : Fin 2 → ℕ) a ≤ (⟨2, ![R, N]⟩ : Shape).size a)
    (p : (⟨2, ![1, N]⟩ : Shape).Idx → Val e) (L : List (View.Piece Val ⟨2, ![R, N]⟩ e)) (a : Fin R) (k : Fin N) :
    View.canon ((⟨Rect.unit (s := ⟨2, ![R, N]⟩) ![r, 0] ![1, N] inb, p⟩ : View.Piece Val ⟨2, ![R, N]⟩ e) :: L) (ix2 a k)
      = if a.val = r then p (ix2 0 k) else View.canon L (ix2 a k) := by
  split
  · rename_i h
    conv_lhs => rw [← emb_row inb (ix2 a k) h]
    exact View.canon_cons_emb (Rect.unit (s := ⟨2, ![R, N]⟩) ![r, 0] ![1, N] inb) p L _
  · rename_i h
    exact View.canon_cons_of_not_mem _ L (fun hm => h ((mem_row inb (ix2 a k)).1 hm))

/-- The same over what the buffer held. -/
theorem read_row {sig : RefSig} {κ : Kind} {sp : Space} (v : View sig κ sp ⟨2, ![R, N]⟩ e) (f : v.ty.Contents Val) {r : ℕ}
    (inb : ∀ a, (![r, 0] : Fin 2 → ℕ) a + (![1, N] : Fin 2 → ℕ) a ≤ (⟨2, ![R, N]⟩ : Shape).size a)
    (p : (⟨2, ![1, N]⟩ : Shape).Idx → Val e) (L : List (View.Piece Val ⟨2, ![R, N]⟩ e)) (a : Fin R) (k : Fin N) :
    v.read Val (v.writes Val f ((⟨Rect.unit (s := ⟨2, ![R, N]⟩) ![r, 0] ![1, N] inb, p⟩ : View.Piece Val ⟨2, ![R, N]⟩ e) :: L)) (ix2 a k)
      = if a.val = r then p (ix2 0 k) else v.read Val (v.writes Val f L) (ix2 a k) := by
  split
  · rename_i h
    conv_lhs => rw [← emb_row inb (ix2 a k) h]
    exact View.read_writes_cons_emb v f (Rect.unit (s := ⟨2, ![R, N]⟩) ![r, 0] ![1, N] inb) p L _
  · rename_i h
    rw [View.writes_cons]
    exact View.read_slice_write_of_not_mem _ _ _ _ (by rw [Rect.map_emb_univ]; exact fun hm => h ((mem_row inb (ix2 a k)).1 hm))

/-- A row read back from the writes. -/
theorem readCov_row {sig : RefSig} {κ : Kind} {sp : Space} (v : View sig κ sp ⟨2, ![R, N]⟩ e) {r : ℕ} (hr : r < R)
    (inb : ∀ a, (![r, 0] : Fin 2 → ℕ) a + (![1, N] : Fin 2 → ℕ) a ≤ (⟨2, ![R, N]⟩ : Shape).size a)
    (L : List (View.Piece Val ⟨2, ![R, N]⟩ e)) (k : Fin N) :
    v.readCov L (Rect.unit (s := ⟨2, ![R, N]⟩) ![r, 0] ![1, N] inb).toLoadRect (ix2 (n0 := 1) (n1 := N) 0 k)
      = View.canon L (ix2 ⟨r, hr⟩ k) := by
  rw [View.readCov_eq_canon']
  show View.canon L _ = _
  congr 1
  funext a; apply Fin.ext
  match a with
  | ⟨0, _⟩ => show r + 1 * 0 = r; omega
  | ⟨1, _⟩ => show 0 + 1 * k.val = k.val; omega

/-- A row of the contents. -/
theorem ld_row (x : (⟨2, ![R, N]⟩ : Shape).Idx → Val e) {r : ℕ} (hr : r < R)
    (inb : ∀ a, (![r, 0] : Fin 2 → ℕ) a + (![1, N] : Fin 2 → ℕ) a ≤ (⟨2, ![R, N]⟩ : Shape).size a) (k : Fin N) :
    View.ld (Val := Val) x (Rect.unit (s := ⟨2, ![R, N]⟩) ![r, 0] ![1, N] inb) (ix2 (n0 := 1) (n1 := N) 0 k) = x (ix2 ⟨r, hr⟩ k) := by
  show x _ = _
  congr 1
  funext a; apply Fin.ext
  match a with
  | ⟨0, _⟩ => show r + 1 * 0 = r; omega
  | ⟨1, _⟩ => show 0 + 1 * k.val = k.val; omega

end Rows

/-! What the host packs into eight rows. -/

theorem sitofp_0 : (FloatOps.sitofp (F := Ideal) .f32 (0#32 : BitVec 32) : EReal) = 0 := by
  change ((((0#32 : BitVec 32).toInt : ℤ) : ℝ) : EReal) = 0
  simp

theorem pad_top (f : (⟨⟨1, ![1024]⟩, .f32⟩ : BufTy).Contents (Elt Ideal)) {h1 h2 h3} (a : Fin 8) (k : Fin 1024) :
    pad ⟨2, ![8, 1024]⟩ ![0, 0] ![7, 0] ![0, 0] (broadcastInDim ⟨2, ![1, 1024]⟩ ![1] h1 f)
      (sitofp (F := Ideal) .f32 (constantI ⟨0, ![]⟩ 32 0#32)) h2 h3 (ix2 a k) = if a.val = 0 then f (ix1 k) else 0 := by
  pointwise
  simp only [sitofp_0, dite_eq_ite, Nat.lt_one_iff]

theorem pad_third (f : (⟨⟨1, ![1024]⟩, .f32⟩ : BufTy).Contents (Elt Ideal)) {h1 h2 h3} (a : Fin 8) (k : Fin 1024) :
    pad ⟨2, ![8, 1024]⟩ ![3, 0] ![4, 0] ![0, 0] (broadcastInDim ⟨2, ![1, 1024]⟩ ![1] h1 f)
      (sitofp (F := Ideal) .f32 (constantI ⟨0, ![]⟩ 32 0#32)) h2 h3 (ix2 a k) = if a.val = 3 then f (ix1 k) else 0 := by
  pointwise
  simp only [sitofp_0, dite_eq_ite]
  exact if_congr (by omega) rfl rfl

theorem pad_mod (f : (⟨⟨2, ![1, 3072]⟩, .f32⟩ : BufTy).Contents (Elt Ideal)) {h1 h2 h3 h4} (a : Fin 8) (k : Fin 1024) :
    pad ⟨2, ![8, 1024]⟩ ![1, 0] ![4, 0] ![0, 0] (shapeCast ⟨2, ![3, 1024]⟩ (shapeCast ⟨1, ![3072]⟩ f h1) h2)
      (sitofp (F := Ideal) .f32 (constantI ⟨0, ![]⟩ 32 0#32)) h3 h4 (ix2 a k)
      = if h : 1 ≤ a.val ∧ a.val - 1 < 3 then f (ix2 0 ⟨(a.val - 1) * 1024 + k.val, by omega⟩) else 0 := by
  pointwise
  simp only [sitofp_0]

end Cert.Lib

end
-- ==== Proof.LossSpec.lean ====
/- Hand-written, untrusted: what the loss head returns, for a row of hidden states, the norm's gain and the target row. -/
module

public import proofs.«01_k».proof.Proof.Lib

@[expose] public section

noncomputable section

namespace Cert.LossSpec

open Idealize.ShloMosaic Cert.Lib
open scoped BigOperators

/-- The normalised row. -/
def xhat (x : Fin 1024 → EReal) (k : Fin 1024) : EReal := x k * Ideal.rsqrt (rv x)

/-- The error of a row. -/
def er (x g t : Fin 1024 → EReal) (k : Fin 1024) : EReal := xhat x k * g k - t k

/-- The cotangent of the normed row, times the gain. -/
def dy (x g t : Fin 1024 → EReal) (k : Fin 1024) : EReal := er x g t k * Ideal.ofBits .f32 0x3A800000#32 * g k

/-- The gradient of a row of hidden states. -/
def dx (x g t : Fin 1024 → EReal) (k : Fin 1024) : EReal :=
  Ideal.rsqrt (rv x) * (dy x g t k - xhat x k
    * Ideal.div (∑ k, dy x g t k * xhat x k) (Ideal.ofBits .f32 0x44800000#32))

/-- A row's share of the gain's gradient. -/
def dg (x g t : Fin 1024 → EReal) (k : Fin 1024) : EReal :=
  er x g t k * Ideal.ofBits .f32 0x3A800000#32 * xhat x k

/-- A row's share of the squares. -/
def sqr (x g t : Fin 1024 → EReal) (k : Fin 1024) : EReal := er x g t k * er x g t k

/-- One row in the first row, another in the second, zeros below. -/
def rows (d q : Fin 1024 → EReal) (a : Fin 8) (k : Fin 1024) : EReal :=
  if a.val = 0 then d k else if a.val = 1 then q k else 0

end Cert.LossSpec

end
-- ==== Proof.LossKernel.lean ====
/- Hand-written, untrusted: what the loss head's kernel leaves in its two results. -/
module

public import proofs.«01_k».proof.Proof.Gen.LossIdeal.Value
public import proofs.«01_k».proof.Proof.LossSpec

@[expose] public section

set_option maxRecDepth 16384

noncomputable section

namespace Cert.LossKernel

open Cert.LossIdeal Cert.LossIdeal.Gen Idealize.ShloMosaic Idealize.ShloMosaic.TcCoe Idealize.SL.Sem Cert.LossSpec Cert.Lib
open Idealize.ShloMosaic.Pipeline (Dat)
open scoped BigOperators

variable (m : (ℓ : Loc nD τ sig) → Buf (Elt Ideal) ℓ)

/-- The rows of the arguments. -/
def X (c : Dev nD) (s : Fin 2048) (k : Fin 1024) : EReal := m ((c : Thread nD τ).loc main_arg0) (ix3 0 s k)
def G (c : Dev nD) (k : Fin 1024) : EReal := m ((c : Thread nD τ).loc main_arg1) (ix1 k)
def T (c : Dev nD) (s : Fin 2048) (k : Fin 1024) : EReal := m ((c : Thread nD τ).loc main_arg2) (ix3 0 s k)

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The row of the arrays that row `s` of step `t`'s blocks is. -/
def row (t : Fin cfg0.N) (s : Fin 512) : Fin 2048 := ⟨t.val * 512 + s.val, by have := t.isLt; have : cfg0.N = 4 := N_0; omega⟩

theorem blk_x (c : Dev nD) (t : Fin cfg0.N) (s : Fin 512) (k : Fin 1024) :
    iblk m c 0 t (ix2 s k) = X m c (row t s) k := by
  simp only [X, row]
  blk_simp [iblk]
  entry_read
  pointwise
  blk_ext [idx t]

theorem blk_g (c : Dev nD) (t : Fin cfg0.N) (k : Fin 1024) : iblk m c 1 t (ix2 0 k) = G m c k := by
  simp only [G]
  blk_simp [iblk]
  entry_read
  pointwise
  blk_ext [idx t]

theorem blk_t (c : Dev nD) (t : Fin cfg0.N) (s : Fin 512) (k : Fin 1024) :
    iblk m c 2 t (ix2 s k) = T m c (row t s) k := by
  simp only [T, row]
  blk_simp [iblk]
  entry_read
  pointwise
  blk_ext [idx t]

theorem pay_dx (x : Vec Ideal S512x1024 .f32) (g : Vec Ideal S1x1024 .f32) (t : Vec Ideal S512x1024 .f32) (s : Fin 512) (k : Fin 1024) :
    k0_pay1 (k0_pay4 x) (k0_pay5 x) (k0_pay6 g) (k0_pay9 x g t) (ix2 s k)
      = dx (fun k => x (ix2 s k)) (fun k => g (ix2 0 k)) (fun k => t (ix2 s k)) k := by
  simp only [dx, dy, er, xhat, rv]
  pointwise [k0_pay1, k0_pay3, k0_pay4, k0_pay5, k0_pay6, k0_pay7, k0_pay8, k0_pay9, k0_pay10]

theorem pay_dg (x : Vec Ideal S512x1024 .f32) (g : Vec Ideal S1x1024 .f32) (t : Vec Ideal S512x1024 .f32) (a : Vec Ideal S1x1024 .f32) (k : Fin 1024) :
    k0_pay10 x g t a (ix2 0 k) = a (ix2 0 k) + ∑ s : Fin 512, dg (fun k => x (ix2 s k)) (fun k => g (ix2 0 k)) (fun k => t (ix2 s k)) k := by
  simp only [dg, er, xhat, rv]
  pointwise [k0_pay1, k0_pay3, k0_pay4, k0_pay5, k0_pay6, k0_pay7, k0_pay8, k0_pay9, k0_pay10]

theorem pay_sq (x : Vec Ideal S512x1024 .f32) (g : Vec Ideal S1x1024 .f32) (t : Vec Ideal S512x1024 .f32) (a : Vec Ideal S1x1024 .f32) (k : Fin 1024) :
    k0_pay8 x g t a (ix2 0 k) = a (ix2 0 k) + ∑ s : Fin 512, sqr (fun k => x (ix2 s k)) (fun k => g (ix2 0 k)) (fun k => t (ix2 s k)) k := by
  simp only [sqr, er, xhat, rv]
  pointwise [k0_pay1, k0_pay3, k0_pay4, k0_pay5, k0_pay6, k0_pay7, k0_pay8, k0_pay9, k0_pay10]

theorem out_dx (c : Dev nD) (t : Fin cfg0.N) (s : Fin 512) (k : Fin 1024) :
    (outsAt0 m c t.val t.isLt).1 (ix2 s k) = dx (X m c (row t s)) (G m c) (T m c (row t s)) k := by
  by_cases h : t.val % 4 = 0
  · rw [outsAt0_A m c t h]; dsimp only
    frame_out
    rw [pay_dx]
    simp only [blk_x, blk_g, blk_t]
  · rw [outsAt0_B m c t h]; dsimp only
    frame_out
    rw [pay_dx]
    simp only [blk_x, blk_g, blk_t]

/-- The gradient of the hidden states, a row at a time. -/
theorem value_dx (c : Dev nD) :
    (dats m 0 c).arrAt 3 cfg0.N = fun i => dx (X m c (i 0)) (G m c) (T m c (i 0)) (i 1) := by
  refine (dats m 0 c).arrAt_eq_of_covers 3 _ (by decide +kernel) fun t hf y => ?_
  have hx : ((View.whole main_v3_0).slice (win0_3.rect t)).emb y = ix2 (row t (y 0)) (y 1) := by
    blk_ext [idx t, row]
  have hy : y = ix2 (n0 := 512) (n1 := 1024) (y 0) (y 1) := by blk_ext
  blk_simp
  rw [after0_3, hx, hy]
  exact out_dx m c t (y 0) (y 1)

/-- The gain's gradient and the squares. -/
def aux (c : Dev nD) (a : Fin 8) (k : Fin 1024) : EReal :=
  rows (fun k => ∑ s, dg (X m c s) (G m c) (T m c s) k) (fun k => ∑ s, sqr (X m c s) (G m c) (T m c s) k) a k

/-- One block's share of it. -/
def term (c : Dev nD) (t : Fin cfg0.N) (a : Fin 8) (k : Fin 1024) : EReal :=
  rows (fun k => ∑ s, dg (X m c (row t s)) (G m c) (T m c (row t s)) k)
    (fun k => ∑ s, sqr (X m c (row t s)) (G m c) (T m c (row t s)) k) a k

theorem canon_zero (j : S8x1024.Idx) : View.canon (Val := Elt Ideal) (e := .f32)
    [⟨Rect.unit ![0, 0] ![8, 1024] inb_S8x1024_S8x1024_0_0, k0_pay2 (F := Ideal)⟩] j = 0 := by
  rw [View.canon_unit_zero]
  · pointwise [k0_pay2]
  · decide

theorem out_first (c : Dev nD) (t : Fin cfg0.N) (h : t.val % 4 = 0) (a : Fin 8) (k : Fin 1024) :
    (outsAt0 m c t.val t.isLt).2 (ix2 a k) = 0 + term m c t a k := by
  rw [outsAt0_A m c t h]
  frame_out
  rw [canon_row, canon_row, term, rows]
  split
  · rw [pay_dg, readCov_row _ (by norm_num : 0 < 8), canon_row, if_neg (by decide), canon_zero]
    simp only [blk_x, blk_g, blk_t]
  · split
    · rw [pay_sq, readCov_row _ (by norm_num : 1 < 8), canon_zero]
      simp only [blk_x, blk_g, blk_t]
    · rw [canon_zero, add_zero]

theorem out_next (c : Dev nD) (t : Fin cfg0.N) (h : ¬t.val % 4 = 0) (a : Fin 8) (k : Fin 1024) :
    (outsAt0 m c t.val t.isLt).2 (ix2 a k)
      = (outsAt0 m c (t.val - 1) (Nat.lt_of_le_of_lt (Nat.sub_le _ _) t.isLt)).2 (ix2 a k) + term m c t a k := by
  rw [outsAt0_B m c t h]
  frame_out
  rw [read_row, read_row, term, rows]
  split
  · rename_i h0
    rw [pay_dg, ld_row _ (by norm_num : 0 < 8)]
    simp only [blk_x, blk_g, blk_t]
    obtain rfl : a = 0 := Fin.ext h0
    rfl
  · split
    · rename_i h0
      rw [pay_sq, ld_row _ (by norm_num : 1 < 8)]
      simp only [blk_x, blk_g, blk_t]
      obtain rfl : a = 1 := Fin.ext h0
      rfl
    · rw [add_zero]
      exact congrFun ((hs0_4 t).read_unread _) _

theorem out_last (c : Dev nD) (a : Fin 8) (k : Fin 1024) : (outsAt0 m c t0_3.val t0_3.isLt).2 (ix2 a k) = aux m c a k := by
  rw [Pipeline.eq_sum_fin_of_reset_step_apply_last (fun n h (p : Fin 8 × Fin 1024) => (outsAt0 m c n h).2 (ix2 p.1 p.2)) 4 (fun _ => 0)
    (fun t p => term m c t p.1 p.2) (fun t h p => out_first m c t h p.1 p.2) (fun t h p => out_next m c t h p.1 p.2)
    (le_of_eq N_0) t0_3 rfl (a, k), zero_add]
  have hr : ∀ f : Fin 2048 → EReal, ∑ t : Fin cfg0.N, ∑ s : Fin 512, f (row t s) = ∑ s, f s := fun f =>
    Fin.sum_mul_add_congr (S := 4) (F := fun t s => f (row t s)) fun s k hl => rfl
  unfold aux term rows
  dsimp only
  split
  · exact hr fun s => dg (X m c s) (G m c) (T m c s) k
  · split
    · exact hr fun s => sqr (X m c s) (G m c) (T m c s) k
    · exact Finset.sum_const_zero

/-- The second result. -/
theorem value_aux (c : Dev nD) : (dats m 0 c).arrAt 4 cfg0.N = fun i => aux m c (i 0) (i 1) := by
  refine (dats m 0 c).arrAt_eq_of_after_last 4 t0_3 (by decide +kernel) _ fun j => ?_
  have hx : ((View.whole main_v3_1).slice (win0_4.rect t0_3)).emb j = j := by
    blk_ext [idx t0_3]
  have hy : j = ix2 (n0 := 8) (n1 := 1024) (j 0) (j 1) := by blk_ext
  blk_simp
  rw [after0_4, hy]
  exact out_last m c (j 0) (j 1)

end Cert.LossKernel

end
-- ==== Proof.LossRef.lean ====
/- Hand-written, untrusted: the loss head's reference, an operation at a time, at an index. -/
module

public import proofs.«01_k».proof.Proof.Gen.LossRefIdeal.Read
public import Idealize.ShloMosaic.Lib.Pipeline.ValueKit
public import proofs.«01_k».proof.Proof.LossSpec

@[expose] public section

set_option maxRecDepth 16384

noncomputable section

namespace Cert.LossRef

open Cert.LossRefIdeal Cert.LossRefIdeal.Gen Cert.LossRefIdeal.Read Idealize.ShloMosaic Idealize.ShloMosaic.TcCoe Cert.LossSpec Cert.Lib
open scoped BigOperators

variable (x0 : (⟨S1x2048x1024, .f32⟩ : BufTy).Contents (Elt Ideal)) (x1 : (⟨S1024, .f32⟩ : BufTy).Contents (Elt Ideal))
  (x2 : (⟨S1x2048x1024, .f32⟩ : BufTy).Contents (Elt Ideal))

theorem mean_eq (s : Fin 2048) : val_main_v6 (F := Ideal) x0 (ix3 0 s 0) = rv (fun k => x0 (ix3 0 s k)) := by
  unfold rv
  pointwise [val_main_v6, val_main_v5, val_main_v4, val_main_v3, val_main_v2, val_main_v1, val_main_v0, val_main_cst, val_main_cst_0, val_main_cst_1]

theorem rs_eq (s : Fin 2048) : val_main_v7 (F := Ideal) x0 (ix3 0 s 0) = Ideal.rsqrt (rv (fun k => x0 (ix3 0 s k))) := by
  rw [← mean_eq]; rfl

theorem xhat_eq (s : Fin 2048) (k : Fin 1024) : val_main_v12 (F := Ideal) x0 (ix3 0 s k) = xhat (fun k => x0 (ix3 0 s k)) k := by
  unfold xhat
  rw [← rs_eq]
  pointwise [val_main_v12, val_main_v11]

theorem er_eq (s : Fin 2048) (k : Fin 1024) : val_main_v16 (F := Ideal) x0 x1 x2 (ix3 0 s k)
    = er (fun k => x0 (ix3 0 s k)) (fun k => x1 (ix1 k)) (fun k => x2 (ix3 0 s k)) k := by
  unfold er
  rw [← xhat_eq]
  pointwise [val_main_v16, val_main_v15, val_main_v14, val_main_v13]

theorem cot_eq (s : Fin 2048) (k : Fin 1024) : val_main_v30 (F := Ideal) x0 x1 x2 (ix3 0 s k)
    = er (fun k => x0 (ix3 0 s k)) (fun k => x1 (ix1 k)) (fun k => x2 (ix3 0 s k)) k * Ideal.ofBits .f32 0x3A800000#32 := by
  have e : val_main_v30 (F := Ideal) x0 x1 x2 (ix3 0 s k) = Ideal.div (Ideal.ofBits .f32 0x3F000000#32 * Ideal.ofBits .f32 0x3F800000#32)
      (Ideal.ofBits .f32 0x44800000#32) * (Ideal.ofBits .f32 0x40000000#32 * val_main_v16 (F := Ideal) x0 x1 x2 (ix3 0 s k)) := by
    pointwise [val_main_v30, val_main_v29, val_main_v28, val_main_v27, val_main_v26, val_main_v25, val_main_v19, val_main_v18,
      val_main_cst_3, val_main_cst_8, val_main_cst_9, val_main_cst_10]
  rw [e, er_eq, bits_half, bits_1, bits_1024, bits_2, bits_inv_1024, Ideal.div_coe (by norm_num), ← mul_assoc, mul_comm]
  congr 1
  rw [← EReal.coe_mul, ← EReal.coe_mul, ← EReal.coe_mul]
  norm_num

theorem dy_eq (s : Fin 2048) (k : Fin 1024) : val_main_v35 (F := Ideal) x0 x1 x2 (ix3 0 s k)
    = dy (fun k => x0 (ix3 0 s k)) (fun k => x1 (ix1 k)) (fun k => x2 (ix3 0 s k)) k := by
  unfold dy
  rw [← cot_eq]
  pointwise [val_main_v35, val_main_v34, val_main_v13]

/-- The share of a row's gradient that comes through its mean square. -/
theorem coef_eq (s : Fin 2048) : val_main_v44 (F := Ideal) x0 x1 x2 (ix3 0 s 0)
    = Ideal.div ((∑ k, x0 (ix3 0 s k) * dy (fun k => x0 (ix3 0 s k)) (fun k => x1 (ix1 k)) (fun k => x2 (ix3 0 s k)) k)
      * (Ideal.ofBits .f32 0xBF000000#32 * Ideal.div (Ideal.rsqrt (rv (fun k => x0 (ix3 0 s k)))) (rv (fun k => x0 (ix3 0 s k)))))
      (Ideal.ofBits .f32 0x44800000#32) := by
  simp only [← dy_eq, ← rs_eq]
  rw [← mean_eq]
  pointwise [val_main_v44, val_main_v43, val_main_v42, val_main_v39, val_main_v38, val_main_v37, val_main_v10, val_main_v9, val_main_v8,
    val_main_cst_2, val_main_cst_13, val_main_cst_14]

theorem coef_sum (s : Fin 2048) : val_main_v45 (F := Ideal) x0 x1 x2 (ix1 s) = val_main_v44 (F := Ideal) x0 x1 x2 (ix3 0 s 0) := by
  unfold val_main_v45
  simp only [Host.reduceAdd, Ideal.hostReduceAdd_def]
  rw [hostReduceAdd_mid, Fin.sum_univ_one, Fin.sum_univ_one]
  pointwise [val_main_cst_15]

theorem dx_eq (s : Fin 2048) (k : Fin 1024) : val_main_v68 (F := Ideal) x0 x1 x2 (ix2 s k)
    = dx (fun k => x0 (ix3 0 s k)) (fun k => x1 (ix1 k)) (fun k => x2 (ix3 0 s k)) k := by
  unfold dx xhat
  rw [rms_grad, ← coef_eq, ← coef_sum, ← rs_eq, ← dy_eq]
  pointwise [val_main_v68, val_main_v51, val_main_v50, val_main_v49, val_main_v48, val_main_v47, val_main_v46, val_main_v41, val_main_v40]

theorem dg_eq (k : Fin 1024) : val_main_v36 (F := Ideal) x0 x1 x2 (ix1 k)
    = ∑ s, dg (fun k => x0 (ix3 0 s k)) (fun k => x1 (ix1 k)) (fun k => x2 (ix3 0 s k)) k := by
  unfold val_main_v36
  simp only [Host.reduceAdd, Ideal.hostReduceAdd_def]
  rw [hostReduceAdd_last, Fin.sum_univ_one]
  simp only [dg, ← xhat_eq, ← cot_eq]
  pointwise [val_main_cst_12, val_main_v33, val_main_v32, val_main_v31, val_main_cst_11]
  rw [Fin.sum_univ_one]
  exact Finset.sum_congr rfl fun _ _ => mul_comm _ _

theorem mean2_eq (s : Fin 2048) : val_main_v58 (F := Ideal) x0 (ix3 0 s 0) = rv (fun k => x0 (ix3 0 s k)) := by
  unfold rv
  pointwise [val_main_v58, val_main_v57, val_main_v56, val_main_v55, val_main_v54, val_main_v53, val_main_v52, val_main_cst_16,
    val_main_cst_17, val_main_cst_18]

theorem er2_eq (s : Fin 2048) (k : Fin 1024) : val_main_v65 (F := Ideal) x0 x1 x2 (ix3 0 s k)
    = er (fun k => x0 (ix3 0 s k)) (fun k => x1 (ix1 k)) (fun k => x2 (ix3 0 s k)) k := by
  unfold er xhat
  rw [← mean2_eq]
  pointwise [val_main_v65, val_main_v64, val_main_v63, val_main_v62, val_main_v61, val_main_v60, val_main_v59]

theorem sqr_eq (k : Fin 1024) : val_main_v67 (F := Ideal) x0 x1 x2 (ix1 k)
    = ∑ s, sqr (fun k => x0 (ix3 0 s k)) (fun k => x1 (ix1 k)) (fun k => x2 (ix3 0 s k)) k := by
  unfold val_main_v67
  simp only [Host.reduceAdd, Ideal.hostReduceAdd_def]
  rw [hostReduceAdd_last, Fin.sum_univ_one]
  simp only [sqr, ← er2_eq]
  pointwise [val_main_cst_19, val_main_v66]

theorem aux_eq (a : Fin 8) (k : Fin 1024) : val_main_v72 (F := Ideal) x0 x1 x2 (ix2 a k)
    = rows (fun k => ∑ s, dg (fun k => x0 (ix3 0 s k)) (fun k => x1 (ix1 k)) (fun k => x2 (ix3 0 s k)) k)
      (fun k => ∑ s, sqr (fun k => x0 (ix3 0 s k)) (fun k => x1 (ix1 k)) (fun k => x2 (ix3 0 s k)) k) a k := by
  unfold rows
  simp only [← dg_eq, ← sqr_eq]
  pointwise [val_main_v72, val_main_v71, val_main_v70, val_main_v69, val_main_cst_20]
  have h1 : a.val < 1 ↔ a.val = 0 := by omega
  by_cases h : a.val = 0
  · simp [h]
  · have h2 : a.val - 1 < 1 ↔ a.val = 1 := by omega
    simp only [h1, h, h2, dite_eq_ite, if_false]

end Cert.LossRef

end
-- ==== Proof.Loss.lean ====
/- Hand-written, untrusted: the loss head's claims. -/
module

public import proofs.«01_k».proof.Defs
public import proofs.«01_k».proof.Proof.Gen.Loss.Frame
public import proofs.«01_k».proof.Proof.LossKernel
public import proofs.«01_k».proof.Proof.LossRef
public import Idealize.ShloMosaic.Lib.Quiescent

@[expose] public section

noncomputable section

namespace Cert.Loss

open Idealize.ShloMosaic Idealize.ShloMosaic.TcCoe Idealize.SL.Sem

theorem frame_kernel : Cert.quiescent_Loss := fun m ρ _ => Cert.Loss.Gen.frame m ρ

theorem frame_ideal : Cert.quiescent_LossIdeal := fun m ρ _ => Cert.LossIdeal.Gen.frame m ρ

theorem frame_ref : Cert.quiescent_LossRefIdeal := fun m ρ _ =>
  (θ_run Cert.LossRefIdeal.defs _ _).mono
    (fun r h => ⟨fun c => ⟨(h c).2.2.1, (h c).2.2.2.1, (h c).2.2.2.2⟩, sem_eq_zero_of_no_sems (by decide) r.2⟩)
    (Cert.LossRefIdeal.Value.run (F := Ideal) m ρ)

section

variable (m : (ℓ : Loc Cert.LossIdeal.nD Cert.LossIdeal.τ Cert.LossIdeal.sig) → Buf (Elt Ideal) ℓ)
  (m' : (ℓ : Loc Cert.LossRefIdeal.nD Cert.LossRefIdeal.τ Cert.LossRefIdeal.sig) → Buf (Elt Ideal) ℓ)

theorem out_dx (c : Dev Cert.LossIdeal.nD)
    (h0 : m' ((c.tc : Thread Cert.LossRefIdeal.nD Cert.LossRefIdeal.τ).loc Cert.LossRefIdeal.main_arg0) = m ((c.tc : Thread Cert.LossIdeal.nD Cert.LossIdeal.τ).loc Cert.LossIdeal.main_arg0))
    (h1 : m' ((c.tc : Thread Cert.LossRefIdeal.nD Cert.LossRefIdeal.τ).loc Cert.LossRefIdeal.main_arg1) = m ((c.tc : Thread Cert.LossIdeal.nD Cert.LossIdeal.τ).loc Cert.LossIdeal.main_arg1))
    (h2 : m' ((c.tc : Thread Cert.LossRefIdeal.nD Cert.LossRefIdeal.τ).loc Cert.LossRefIdeal.main_arg2) = m ((c.tc : Thread Cert.LossIdeal.nD Cert.LossIdeal.τ).loc Cert.LossIdeal.main_arg2)) :
    Cert.LossRefIdeal.Value.res_main_v68 m' c = (Cert.LossIdeal.Gen.dats m 0 c).arrAt 3 Cert.LossIdeal.cfg0.N := by
  rw [Cert.LossRefIdeal.Read.val_main_v68_eq, h0, h1, h2, Cert.LossKernel.value_dx]
  funext i
  have hi : i = ix2 (n0 := 2048) (n1 := 1024) (i 0) (i 1) := by blk_ext
  rw [hi]
  exact Cert.LossRef.dx_eq _ _ _ (i 0) (i 1)

theorem out_aux (c : Dev Cert.LossIdeal.nD)
    (h0 : m' ((c.tc : Thread Cert.LossRefIdeal.nD Cert.LossRefIdeal.τ).loc Cert.LossRefIdeal.main_arg0) = m ((c.tc : Thread Cert.LossIdeal.nD Cert.LossIdeal.τ).loc Cert.LossIdeal.main_arg0))
    (h1 : m' ((c.tc : Thread Cert.LossRefIdeal.nD Cert.LossRefIdeal.τ).loc Cert.LossRefIdeal.main_arg1) = m ((c.tc : Thread Cert.LossIdeal.nD Cert.LossIdeal.τ).loc Cert.LossIdeal.main_arg1))
    (h2 : m' ((c.tc : Thread Cert.LossRefIdeal.nD Cert.LossRefIdeal.τ).loc Cert.LossRefIdeal.main_arg2) = m ((c.tc : Thread Cert.LossIdeal.nD Cert.LossIdeal.τ).loc Cert.LossIdeal.main_arg2)) :
    Cert.LossRefIdeal.Value.res_main_v72 m' c = (Cert.LossIdeal.Gen.dats m 0 c).arrAt 4 Cert.LossIdeal.cfg0.N := by
  rw [Cert.LossRefIdeal.Read.val_main_v72_eq, h0, h1, h2, Cert.LossKernel.value_aux]
  funext i
  have hi : i = ix2 (n0 := 8) (n1 := 1024) (i 0) (i 1) := by blk_ext
  rw [hi]
  exact Cert.LossRef.aux_eq _ _ _ (i 0) (i 1)

end

theorem value : Cert.algebraic_LossIdeal_LossRefIdeal := by
  intro m ρ m' ρ' _ hagree
  refine ⟨_, _, Cert.LossIdeal.Value.run_blocks m ρ, ?_⟩
  refine (θ_run Cert.LossRefIdeal.defs _ _).mono (fun _ h c => ⟨?_, ?_, (h c).2.2⟩) (Cert.LossRefIdeal.Value.run m' ρ')
  · exact (h c).1.trans (out_dx m m' c (hagree c).1 (hagree c).2.1 (hagree c).2.2)
  · exact (h c).2.1.trans (out_aux m m' c (hagree c).1 (hagree c).2.1 (hagree c).2.2)

end Cert.Loss

end
-- ==== Proof.ModSpec.lean ====
/- Hand-written, untrusted: a row normed, scaled and shifted, and its gradient, for a row of hidden states, the norm's gain and
   the modulation's shift and scale. -/
module

public import proofs.«01_k».proof.Proof.LossSpec

@[expose] public section

noncomputable section

namespace Cert.ModSpec

open Idealize.ShloMosaic Cert.Lib Cert.LossSpec
open scoped BigOperators

/-- The gain of the modulated row. -/
def gm (g sc : Fin 1024 → EReal) (k : Fin 1024) : EReal := g k * (Ideal.ofBits .f32 0x3F800000#32 + sc k)

/-- The modulated row. -/
def hrow (x g sh sc : Fin 1024 → EReal) (k : Fin 1024) : EReal := xhat x k * gm g sc k + sh k

/-- The gradient of a row of hidden states, from the gradient `dh` of the modulated row. -/
def drow (x g sc dh : Fin 1024 → EReal) (k : Fin 1024) : EReal :=
  Ideal.rsqrt (rv x) * (dh k * gm g sc k - xhat x k
    * Ideal.div (∑ k, dh k * gm g sc k * xhat x k) (Ideal.ofBits .f32 0x44800000#32))

/-- A row's share of the gain's gradient. -/
def dgain (x sc dh : Fin 1024 → EReal) (k : Fin 1024) : EReal := dh k * xhat x k * (Ideal.ofBits .f32 0x3F800000#32 + sc k)

/-- A row's share of the scale's gradient. -/
def dscale (x g dh : Fin 1024 → EReal) (k : Fin 1024) : EReal := dh k * xhat x k * g k

/-- The four rows of gradients, zeros below. -/
def rows4 (r0 r1 r2 r3 : Fin 1024 → EReal) (a : Fin 8) (k : Fin 1024) : EReal :=
  if a.val = 0 then r0 k else if a.val = 1 then r1 k else if a.val = 2 then r2 k else if a.val = 3 then r3 k else 0

end Cert.ModSpec

end
-- ==== Proof.InProjKernel.lean ====
/- Hand-written, untrusted: what the gradient of the modulated input projection computes, block by block and as whole arrays. -/
module

public import proofs.«01_k».proof.Proof.Gen.InProjIdeal.Value
public import proofs.«01_k».proof.Proof.ModSpec

@[expose] public section

set_option maxRecDepth 16384

noncomputable section

namespace Cert.InProjKernel

open Cert.InProjIdeal Cert.InProjIdeal.Gen Idealize.ShloMosaic Idealize.ShloMosaic.TcCoe Idealize.SL.Sem Cert.Lib Cert.LossSpec Cert.ModSpec
open Idealize.ShloMosaic.Pipeline (Dat)
open scoped BigOperators

variable (m : (ℓ : Loc nD τ sig) → Buf (Elt Ideal) ℓ)

/-- The rows of the arguments. -/
def X (c : Dev nD) (s : Fin 2048) (k : Fin 1024) : EReal := m ((c : Thread nD τ).loc main_arg0) (ix3 0 s k)
def G (c : Dev nD) (k : Fin 1024) : EReal := m ((c : Thread nD τ).loc main_arg1) (ix1 k)
def Mo (c : Dev nD) (k : Fin 3072) : EReal := m ((c : Thread nD τ).loc main_arg2) (ix2 0 k)
def W (c : Dev nD) (f : Fin 1024) (k : Fin 2560) : EReal := m ((c : Thread nD τ).loc main_arg3) (ix2 f k)
def CX (c : Dev nD) (s : Fin 2048) (k : Fin 1024) : EReal := m ((c : Thread nD τ).loc main_arg4) (ix3 0 s k)
def CG (c : Dev nD) (k : Fin 1024) : EReal := m ((c : Thread nD τ).loc main_arg5) (ix1 k)
def P (c : Dev nD) (s : Fin 2048) (k : Fin 2560) : EReal := m ((c : Thread nD τ).loc main_arg6) (ix3 0 s k)

def SH (c : Dev nD) (k : Fin 1024) : EReal := Mo m c ⟨k.val, by omega⟩
def SC (c : Dev nD) (k : Fin 1024) : EReal := Mo m c ⟨1024 + k.val, by omega⟩

theorem idx : ∀ t : Fin cfg0.N, win0_0.index t = ![0, t.val / 2, t.val % 2] ∧ win0_1.index t = ![0, 0, t.val % 2]
    ∧ win0_2.index t = ![t.val / 2, 0] ∧ win0_3.index t = ![0, 0] ∧ win0_4.index t = ![t.val / 2, 0] ∧ win0_5.index t = ![0, 0]
    ∧ win0_6.index t = ![t.val / 2, 0] ∧ win0_7.index t = ![t.val / 2, 0] ∧ win0_8.index t = ![0, 0] :=
  (by decide +kernel : ∀ t : Fin grid0.N, _)

theorem lt8 (t : Fin cfg0.N) : t.val < 8 := lt_of_lt_of_eq t.isLt N_0

/-- The row of the arrays that row `s` of step `t`'s blocks is, and the column. -/
def row (t : Fin cfg0.N) (s : Fin 512) : Fin 2048 := ⟨t.val / 2 * 512 + s.val, by have := lt8 t; omega⟩
def col (t : Fin cfg0.N) (k : Fin 1280) : Fin 2560 := ⟨t.val % 2 * 1280 + k.val, by omega⟩

/-! The kernel's operands that the host prepares. -/

theorem V_v4 (c : Dev nD) : V m c main_v4 = truncf (F := Ideal) .bf16 (broadcastInDim S1x1024x2560 ![1, 2] bcast_S1024x2560_S1x1024x2560_1_2 (m ((c : Thread nD τ).loc main_arg3))) bitsLt_bf16_f32 := by
  unfold V
  after_results
  try rfl

theorem V_v2 (c : Dev nD) : V m c main_v2 = truncf (F := Ideal) .bf16 (m ((c : Thread nD τ).loc main_arg6)) bitsLt_bf16_f32 := by
  unfold V
  rfl

theorem V_v5 (c : Dev nD) : V m c main_v5 = shapeCast S2048x1024 (m ((c : Thread nD τ).loc main_arg0)) shapeCasts_S1x2048x1024_S2048x1024 := by
  unfold V
  rfl

theorem V_v12 (c : Dev nD) : V m c main_v12 = shapeCast S2048x1024 (m ((c : Thread nD τ).loc main_arg4)) shapeCasts_S1x2048x1024_S2048x1024 := by
  unfold V
  rfl

theorem V_v1 (c : Dev nD) : V m c main_v1 = pad S8x1024 ![3, 0] ![4, 0] ![0, 0] (broadcastInDim S1x1024 ![1] bcast_S1024_S1x1024_1 (m ((c : Thread nD τ).loc main_arg5))) (sitofp (F := Ideal) .f32 (constantI S_ 32 0#32)) pads_S1x1024_S8x1024_340_000 h_S_ := by
  unfold V
  after_results
  try rfl

theorem V_v11 (c : Dev nD) : V m c main_v11 = addf (F := Ideal)
    (pad S8x1024 ![0, 0] ![7, 0] ![0, 0] (broadcastInDim S1x1024 ![1] bcast_S1024_S1x1024_1 (m ((c : Thread nD τ).loc main_arg1))) (sitofp (F := Ideal) .f32 (constantI S_ 32 0#32)) pads_S1x1024_S8x1024_070_000 h_S_)
    (pad S8x1024 ![1, 0] ![4, 0] ![0, 0] (shapeCast S3x1024 (shapeCast S3072 (m ((c : Thread nD τ).loc main_arg2)) shapeCasts_S1x3072_S3072) shapeCasts_S3072_S3x1024) (sitofp (F := Ideal) .f32 (constantI S_ 32 0#32)) pads_S3x1024_S8x1024_140_000 h_S_) := by
  unfold V
  after_results
  try rfl

theorem emb_p (t : Fin cfg0.N) (s : Fin 512) (k : Fin 1280) :
    ((View.whole main_v2).slice (win0_0.rect t)).emb (ix3 0 s k) = ix3 0 (row t s) (col t k) := by blk_ext [idx t, row, col]
theorem emb_w (t : Fin cfg0.N) (s : Fin 1024) (k : Fin 1280) :
    ((View.whole main_v4).slice (win0_1.rect t)).emb (ix3 0 s k) = ix3 0 s (col t k) := by blk_ext [idx t, row, col]
theorem emb_x (t : Fin cfg0.N) (s : Fin 512) (k : Fin 1024) :
    ((View.whole main_v5).slice (win0_2.rect t)).emb (ix2 s k) = ix2 (row t s) k := by blk_ext [idx t, row, col]
theorem emb_v (t : Fin cfg0.N) (a : Fin 8) (k : Fin 1024) :
    ((View.whole main_v11).slice (win0_3.rect t)).emb (ix2 a k) = ix2 a k := by blk_ext [idx t]
theorem emb_cx (t : Fin cfg0.N) (s : Fin 512) (k : Fin 1024) :
    ((View.whole main_v12).slice (win0_4.rect t)).emb (ix2 s k) = ix2 (row t s) k := by blk_ext [idx t, row, col]
theorem emb_cg (t : Fin cfg0.N) (a : Fin 8) (k : Fin 1024) :
    ((View.whole main_v1).slice (win0_5.rect t)).emb (ix2 a k) = ix2 a k := by blk_ext [idx t]

/-! What each window's block holds. -/

theorem flat (f : (⟨S1x2048x1024, .f32⟩ : BufTy).Contents (Elt Ideal)) (s : Fin 2048) (k : Fin 1024) :
    shapeCast S2048x1024 f shapeCasts_S1x2048x1024_S2048x1024 (ix2 s k) = f (ix3 0 s k) := by
  pointwise

theorem blk_p (c : Dev nD) (t : Fin cfg0.N) (s : Fin 512) (k : Fin 1280) :
    iblk m c 0 t (ix3 0 s k) = P m c (row t s) (col t k) := by
  change V m c main_v2 (((View.whole main_v2).slice (win0_0.rect t)).emb (ix3 0 s k)) = _
  rw [V_v2, emb_p]
  rfl

theorem blk_w (c : Dev nD) (t : Fin cfg0.N) (s : Fin 1024) (k : Fin 1280) :
    iblk m c 1 t (ix3 0 s k) = W m c s (col t k) := by
  change V m c main_v4 (((View.whole main_v4).slice (win0_1.rect t)).emb (ix3 0 s k)) = _
  rw [V_v4, emb_w]
  simp only [W]
  pointwise

theorem blk_x (c : Dev nD) (t : Fin cfg0.N) (s : Fin 512) (k : Fin 1024) :
    iblk m c 2 t (ix2 s k) = X m c (row t s) k := by
  change V m c main_v5 (((View.whole main_v5).slice (win0_2.rect t)).emb (ix2 s k)) = _
  rw [V_v5, emb_x, flat]
  rfl

theorem blk_cx (c : Dev nD) (t : Fin cfg0.N) (s : Fin 512) (k : Fin 1024) :
    iblk m c 4 t (ix2 s k) = CX m c (row t s) k := by
  change V m c main_v12 (((View.whole main_v12).slice (win0_4.rect t)).emb (ix2 s k)) = _
  rw [V_v12, emb_cx, flat]
  rfl

theorem blk_v (c : Dev nD) (t : Fin cfg0.N) (a : Fin 8) (k : Fin 1024) :
    iblk m c 3 t (ix2 a k) = (if a.val = 0 then G m c k else 0)
      + (if h : 1 ≤ a.val ∧ a.val - 1 < 3 then Mo m c ⟨(a.val - 1) * 1024 + k.val, by omega⟩ else 0) := by
  change V m c main_v11 (((View.whole main_v11).slice (win0_3.rect t)).emb (ix2 a k)) = _
  rw [V_v11, emb_v, addf_apply, pad_top, pad_mod]
  rfl

theorem blk_cg (c : Dev nD) (t : Fin cfg0.N) (a : Fin 8) (k : Fin 1024) :
    iblk m c 5 t (ix2 a k) = if a.val = 3 then CG m c k else 0 := by
  change V m c main_v1 (((View.whole main_v1).slice (win0_5.rect t)).emb (ix2 a k)) = _
  rw [V_v1, emb_cg, pad_third]
  rfl

/-! The three rows of the packed vectors that the kernel loads. -/

theorem ld_g (c : Dev nD) (t : Fin cfg0.N) (k : Fin 1024) :
    View.ld (Val := Elt Ideal) (iblk m c 3 t) (Rect.unit (s := S8x1024) ![0, 0] ![1, 1024] inb_S8x1024_S1x1024_0_0) (ix2 (n0 := 1) (n1 := 1024) 0 k) = G m c k := by
  rw [ld_row _ (by norm_num : 0 < 8), blk_v]
  simp

theorem ld_sh (c : Dev nD) (t : Fin cfg0.N) (k : Fin 1024) :
    View.ld (Val := Elt Ideal) (iblk m c 3 t) (Rect.unit (s := S8x1024) ![1, 0] ![1, 1024] inb_S8x1024_S1x1024_1_0) (ix2 (n0 := 1) (n1 := 1024) 0 k) = SH m c k := by
  rw [ld_row _ (by norm_num : 1 < 8), blk_v]
  simp [SH]

theorem ld_sc (c : Dev nD) (t : Fin cfg0.N) (k : Fin 1024) :
    View.ld (Val := Elt Ideal) (iblk m c 3 t) (Rect.unit (s := S8x1024) ![2, 0] ![1, 1024] inb_S8x1024_S1x1024_2_0) (ix2 (n0 := 1) (n1 := 1024) 0 k) = SC m c k := by
  rw [ld_row _ (by norm_num : 2 < 8), blk_v]
  simp [SC]

/-! The kernel's arithmetic at a point. -/

theorem pay_acc (a : Vec Ideal S512x1024 .f32) (p : Vec Ideal S1x512x1280 .bf16) (w : Vec Ideal S1x1024x1280 .bf16) (s : Fin 512) (f : Fin 1024) :
    k0_pay3 a p w (ix2 s f) = a (ix2 s f) + ∑ k : Fin 1280, p (ix3 0 s k) * w (ix3 0 f k) := by
  pointwise [k0_pay3]

theorem pay_zero (s : Fin 512) (f : Fin 1024) : k0_pay2 (F := Ideal) (ix2 s f) = 0 := by
  pointwise [k0_pay2]

theorem pay_dx (a : Vec Ideal S512x1024 .f32) (g sc : Vec Ideal S1x1024 .f32) (x ct : Vec Ideal S512x1024 .f32) (s : Fin 512) (k : Fin 1024) :
    k0_pay6 a (k0_pay9 g) (k0_pay11 sc) (k0_pay12 x) (k0_pay13 x) ct (ix2 s k)
      = ct (ix2 s k) + drow (fun k => x (ix2 s k)) (fun k => g (ix2 0 k)) (fun k => sc (ix2 0 k)) (fun k => a (ix2 s k)) k := by
  simp only [drow, gm, xhat, rv]
  pointwise [k0_pay5, k0_pay6, k0_pay8, k0_pay9, k0_pay11, k0_pay12, k0_pay13]

theorem pay_h (g sh sc : Vec Ideal S1x1024 .f32) (x : Vec Ideal S512x1024 .f32) (s : Fin 512) (k : Fin 1024) :
    k0_pay7 (k0_pay9 g) (k0_pay10 sh) (k0_pay11 sc) (k0_pay13 x) (ix2 s k)
      = hrow (fun k => x (ix2 s k)) (fun k => g (ix2 0 k)) (fun k => sh (ix2 0 k)) (fun k => sc (ix2 0 k)) k := by
  simp only [hrow, gm, xhat, rv]
  pointwise [k0_pay5, k0_pay7, k0_pay8, k0_pay9, k0_pay10, k0_pay11, k0_pay12, k0_pay13]

theorem pay_dgain (x a : Vec Ideal S512x1024 .f32) (sc r : Vec Ideal S1x1024 .f32) (k : Fin 1024) :
    k0_pay14 x a sc r (ix2 0 k) = r (ix2 0 k)
      + ∑ s : Fin 512, dgain (fun k => x (ix2 s k)) (fun k => sc (ix2 0 k)) (fun k => a (ix2 s k)) k := by
  simp only [dgain, xhat, rv]
  pointwise [k0_pay8, k0_pay11, k0_pay12, k0_pay13, k0_pay14]

theorem pay_dshift (a : Vec Ideal S512x1024 .f32) (r : Vec Ideal S1x1024 .f32) (k : Fin 1024) :
    k0_pay15 a r (ix2 0 k) = r (ix2 0 k) + ∑ s : Fin 512, a (ix2 s k) := by
  pointwise [k0_pay15]

theorem pay_dscale (x a : Vec Ideal S512x1024 .f32) (g r : Vec Ideal S1x1024 .f32) (k : Fin 1024) :
    k0_pay4 a (k0_pay9 g) (k0_pay13 x) r (ix2 0 k) = r (ix2 0 k)
      + ∑ s : Fin 512, dscale (fun k => x (ix2 s k)) (fun k => g (ix2 0 k)) (fun k => a (ix2 s k)) k := by
  simp only [dscale, xhat, rv]
  pointwise [k0_pay4, k0_pay8, k0_pay9, k0_pay12, k0_pay13]

/-- The gradient of the modulated rows. -/
def dh (c : Dev nD) (s : Fin 2048) (f : Fin 1024) : EReal := ∑ k : Fin 2560, P m c s k * W m c f k

/-- One of its two halves. -/
def half (c : Dev nD) (t : Fin cfg0.N) (s : Fin 512) (f : Fin 1024) : EReal :=
  ∑ k : Fin 1280, P m c (row t s) (col t k) * W m c f (col t k)

/-- The step before an odd one. -/
theorem even_lt (t : Fin cfg0.N) : t.val - 1 < cfg0.N := Nat.lt_of_le_of_lt (Nat.sub_le _ _) t.isLt

theorem two_halves (c : Dev nD) (t : Fin cfg0.N) (h : t.val % 2 = 1) (s : Fin 512) (f : Fin 1024) :
    0 + half m c ⟨t.val - 1, even_lt t⟩ s f + half m c t s f = dh m c (row t s) f := by
  have hr : row ⟨t.val - 1, even_lt t⟩ s = row t s := Fin.ext (by simp only [row]; omega)
  rw [zero_add]
  unfold half dh
  rw [hr, Fin.sum_univ_add (a := 1280) (b := 1280) (fun k : Fin 2560 => P m c (row t s) k * W m c f k)]
  refine congrArg₂ (· + ·) (Finset.sum_congr rfl fun k _ => ?_) (Finset.sum_congr rfl fun k _ => ?_)
  · have : col ⟨t.val - 1, even_lt t⟩ k = Fin.castAdd 1280 k := Fin.ext (by simp only [col, Fin.val_castAdd]; omega)
    rw [this]
  · have : col t k = Fin.natAdd 1280 k := Fin.ext (by simp only [col, Fin.val_natAdd]; omega)
    rw [this]

theorem scratch (c : Dev nD) (t : Fin cfg0.N) (h : t.val % 2 = 0) (s : Fin 512) (f : Fin 1024) :
    (outsAt0 m c t.val t.isLt).2.2.2 (ix2 s f) = 0 + half m c t s f := by
  by_cases h8 : t.val % 8 = 0
  · rw [outsAt0_A m c t h8 h (by omega)]; dsimp only
    frame_out
    rw [pay_acc, pay_zero]
    simp only [blk_p, blk_w]
    rfl
  · rw [outsAt0_C m c t h8 h (by omega)]; dsimp only
    frame_out
    rw [pay_acc, pay_zero]
    simp only [blk_p, blk_w]
    rfl

/-- What an odd step finds in the scratch, and its own half product: the gradient of the modulated rows. -/
theorem acc_odd (c : Dev nD) (t : Fin cfg0.N) (h : t.val % 2 = 1) (s : Fin 512) (f : Fin 1024) :
    k0_pay3 (View.read (Elt Ideal) (View.whole cc0_scratch0) ((Memref.isWhole_whole cc0_scratch0).unread (outsAt0 m c (t.val - 1) (even_lt t)).2.2.2))
      (iblk m c 0 t) (iblk m c 1 t) (ix2 s f) = dh m c (row t s) f := by
  have hs : View.read (Elt Ideal) (View.whole cc0_scratch0) ((Memref.isWhole_whole cc0_scratch0).unread (outsAt0 m c (t.val - 1) (even_lt t)).2.2.2) (ix2 s f)
      = 0 + half m c ⟨t.val - 1, even_lt t⟩ s f :=
    (congrFun ((Memref.isWhole_whole cc0_scratch0).read_unread _) _).trans
      (scratch m c ⟨t.val - 1, even_lt t⟩ (by dsimp only; omega) s f)
  rw [pay_acc, hs]
  simp only [blk_p, blk_w]
  exact two_halves m c t h s f

theorem out_dx (c : Dev nD) (t : Fin cfg0.N) (h : t.val % 2 = 1) (s : Fin 512) (k : Fin 1024) :
    (outsAt0 m c t.val t.isLt).1 (ix2 s k)
      = CX m c (row t s) k + drow (X m c (row t s)) (G m c) (SC m c) (dh m c (row t s)) k := by
  rw [outsAt0_B m c t (by omega) (by omega) h]; dsimp only
  frame_out
  rw [pay_dx]
  simp only [blk_x, blk_cx, ld_g, ld_sc, acc_odd m c t h]

theorem out_h (c : Dev nD) (t : Fin cfg0.N) (h : t.val % 2 = 1) (s : Fin 512) (k : Fin 1024) :
    (outsAt0 m c t.val t.isLt).2.1 (ix2 s k) = hrow (X m c (row t s)) (G m c) (SH m c) (SC m c) k := by
  rw [outsAt0_B m c t (by omega) (by omega) h]; dsimp only
  frame_out
  rw [pay_h]
  simp only [blk_x, ld_g, ld_sh, ld_sc]

theorem out_first (c : Dev nD) (t : Fin cfg0.N) (h8 : t.val % 8 = 0) (a : Fin 8) (k : Fin 1024) :
    (outsAt0 m c t.val t.isLt).2.2.1 (ix2 a k) = if a.val = 3 then CG m c k else 0 := by
  rw [outsAt0_A m c t h8 (by omega) (by omega)]; dsimp only
  frame_out
  rw [← blk_cg m c t a k]
  pointwise [k0_pay1]

theorem out_even (c : Dev nD) (t : Fin cfg0.N) (h8 : ¬t.val % 8 = 0) (h : t.val % 2 = 0) (a : Fin 8) (k : Fin 1024) :
    (outsAt0 m c t.val t.isLt).2.2.1 (ix2 a k) = (outsAt0 m c (t.val - 1) (even_lt t)).2.2.1 (ix2 a k) := by
  rw [outsAt0_C m c t h8 h (by omega)]; dsimp only
  rfl

theorem out_odd (c : Dev nD) (t : Fin cfg0.N) (h : t.val % 2 = 1) (a : Fin 8) (k : Fin 1024) :
    (outsAt0 m c t.val t.isLt).2.2.1 (ix2 a k) = (outsAt0 m c (t.val - 1) (even_lt t)).2.2.1 (ix2 a k)
      + rows4 (fun k => ∑ s : Fin 512, dgain (X m c (row t s)) (SC m c) (dh m c (row t s)) k) (fun k => ∑ s : Fin 512, dh m c (row t s) k)
          (fun k => ∑ s : Fin 512, dscale (X m c (row t s)) (G m c) (dh m c (row t s)) k) (fun _ => 0) a k := by
  rw [outsAt0_B m c t (by omega) (by omega) h]; dsimp only
  frame_out
  rw [read_row, read_row, read_row, rows4]
  by_cases h2 : a.val = 2
  · simp only [if_neg (show ¬a.val = 0 by omega), if_neg (show ¬a.val = 1 by omega), if_pos h2]
    obtain rfl : a = 2 := Fin.ext h2
    rw [pay_dscale, ld_row _ (by norm_num : 2 < 8)]
    simp only [blk_x, ld_g, acc_odd m c t h]
    rfl
  by_cases h1 : a.val = 1
  · simp only [if_neg h2, if_neg (show ¬a.val = 0 by omega), if_pos h1]
    obtain rfl : a = 1 := Fin.ext h1
    rw [pay_dshift, ld_row _ (by norm_num : 1 < 8)]
    simp only [acc_odd m c t h]
    rfl
  by_cases h0 : a.val = 0
  · simp only [if_neg h2, if_neg h1, if_pos h0]
    obtain rfl : a = 0 := Fin.ext h0
    rw [pay_dgain, ld_row _ (by norm_num : 0 < 8)]
    simp only [blk_x, ld_sc, acc_odd m c t h]
    rfl
  rw [if_neg h2, if_neg h1, if_neg h0, if_neg h0, if_neg h1, if_neg h2, ite_self, add_zero]
  exact congrFun ((hs0_8 t).read_unread _) _

/-- One step's share of the packed gradients. -/
def term (c : Dev nD) (t : Fin cfg0.N) (a : Fin 8) (k : Fin 1024) : EReal :=
  if t.val % 2 = 1 then rows4 (fun k => ∑ s : Fin 512, dgain (X m c (row t s)) (SC m c) (dh m c (row t s)) k)
    (fun k => ∑ s : Fin 512, dh m c (row t s) k)
    (fun k => ∑ s : Fin 512, dscale (X m c (row t s)) (G m c) (dh m c (row t s)) k) (fun _ => 0) a k else 0

/-- The packed gradients. -/
def dvec (c : Dev nD) (a : Fin 8) (k : Fin 1024) : EReal :=
  rows4 (fun k => ∑ s, dgain (X m c s) (SC m c) (dh m c s) k) (fun k => ∑ s, dh m c s k)
    (fun k => ∑ s, dscale (X m c s) (G m c) (dh m c s) k) (CG m c) a k

theorem sum_odd (f : Fin 2048 → EReal) :
    ∑ t : Fin cfg0.N, (if t.val % 2 = 1 then ∑ s : Fin 512, f (row t s) else 0) = ∑ s, f s := by
  have h4 : ∑ t : Fin 4, ∑ s : Fin 512, f ⟨t.val * 512 + s.val, by omega⟩ = ∑ s, f s :=
    Fin.sum_mul_add_congr (S := 4) (F := fun t s => f ⟨t.val * 512 + s.val, by omega⟩) fun s k hl => rfl
  rw [← h4, Fin.sum_univ_four]
  have h8 : ∀ g : Fin cfg0.N → EReal, ∑ t, g t = g t0_0 + g t0_1 + g t0_2 + g t0_3 + g t0_4 + g t0_5 + g t0_6 + g t0_7 := fun g =>
    Fin.sum_univ_eight (f := (g : Fin 8 → EReal))
  rw [h8]
  simp [row, t0_0, t0_1, t0_2, t0_3, t0_4, t0_5, t0_6, t0_7]

theorem out_last (c : Dev nD) (a : Fin 8) (k : Fin 1024) : (outsAt0 m c t0_7.val t0_7.isLt).2.2.1 (ix2 a k) = dvec m c a k := by
  rw [Pipeline.eq_sum_fin_of_reset_step_apply_last (fun n h (p : Fin 8 × Fin 1024) => (outsAt0 m c n h).2.2.1 (ix2 p.1 p.2)) 8
    (fun p => if p.1.val = 3 then CG m c p.2 else 0) (fun t p => term m c t p.1 p.2)
    (fun t h p => by rw [out_first m c t h p.1 p.2, term, if_neg (show ¬t.val % 2 = 1 by omega), add_zero])
    (fun t h p => by
      by_cases h2 : t.val % 2 = 1
      · rw [term, if_pos h2]; exact out_odd m c t h2 p.1 p.2
      · rw [term, if_neg h2, add_zero]; exact out_even m c t h (by omega) p.1 p.2)
    (le_of_eq N_0) t0_7 rfl (a, k)]
  unfold dvec term rows4
  dsimp only
  by_cases h0 : a.val = 0
  · simp only [if_pos h0]
    rw [if_neg (by omega), zero_add]
    exact sum_odd fun s => dgain (X m c s) (SC m c) (dh m c s) k
  by_cases h1 : a.val = 1
  · simp only [if_neg h0, if_pos h1]
    rw [if_neg (by omega), zero_add]
    exact sum_odd fun s => dh m c s k
  by_cases h2 : a.val = 2
  · simp only [if_neg h0, if_neg h1, if_pos h2]
    rw [if_neg (by omega), zero_add]
    exact sum_odd fun s => dscale (X m c s) (G m c) (dh m c s) k
  simp only [if_neg h0, if_neg h1, if_neg h2, ite_self, Finset.sum_const_zero, add_zero]

/-! The results. -/

theorem value_dx (c : Dev nD) : (dats m 0 c).arrAt 6 cfg0.N
    = fun i => CX m c (i 0) (i 1) + drow (X m c (i 0)) (G m c) (SC m c) (dh m c (i 0)) (i 1) := by
  refine (dats m 0 c).arrAt_eq_of_covers 6 _ (by decide +kernel) fun t hf y => ?_
  have hx : ((View.whole main_v13_0).slice (win0_6.rect t)).emb y = ix2 (row t (y 0)) (y 1) := by
    blk_ext [idx t, row]
  have hy : y = ix2 (n0 := 512) (n1 := 1024) (y 0) (y 1) := by blk_ext
  have ho : t.val % 2 = 1 := (by decide +kernel : ∀ t : Fin grid0.N, win0_6.flush t = true → t.val % 2 = 1) t hf
  blk_simp
  rw [after0_6, hx, hy]
  exact out_dx m c t ho (y 0) (y 1)

theorem value_h (c : Dev nD) : (dats m 0 c).arrAt 7 cfg0.N
    = fun i => hrow (X m c (i 0)) (G m c) (SH m c) (SC m c) (i 1) := by
  refine (dats m 0 c).arrAt_eq_of_covers 7 _ (by decide +kernel) fun t hf y => ?_
  have hx : ((View.whole main_v13_1).slice (win0_7.rect t)).emb y = ix2 (row t (y 0)) (y 1) := by
    blk_ext [idx t, row]
  have hy : y = ix2 (n0 := 512) (n1 := 1024) (y 0) (y 1) := by blk_ext
  have ho : t.val % 2 = 1 := (by decide +kernel : ∀ t : Fin grid0.N, win0_7.flush t = true → t.val % 2 = 1) t hf
  blk_simp
  rw [after0_7, hx, hy]
  exact out_h m c t ho (y 0) (y 1)

theorem value_dvec (c : Dev nD) : (dats m 0 c).arrAt 8 cfg0.N = fun i => dvec m c (i 0) (i 1) := by
  refine (dats m 0 c).arrAt_eq_of_after_last 8 t0_7 (by decide +kernel) _ fun j => ?_
  have hx : ((View.whole main_v13_2).slice (win0_8.rect t0_7)).emb j = j := by
    blk_ext [idx t0_7]
  have hy : j = ix2 (n0 := 8) (n1 := 1024) (j 0) (j 1) := by blk_ext
  blk_simp
  rw [after0_8, hy]
  exact out_last m c (j 0) (j 1)

end Cert.InProjKernel
end
-- ==== Proof.InProjRef.lean ====
/- Hand-written, untrusted: the modulated input projection's reference, an operation at a time, at an index. -/
module

public import proofs.«01_k».proof.Proof.Gen.InProjRefIdeal.Read
public import Idealize.ShloMosaic.Lib.Pipeline.ValueKit
public import proofs.«01_k».proof.Proof.ModSpec

@[expose] public section

set_option maxRecDepth 16384

noncomputable section

namespace Cert.InProjRef

open Cert.InProjRefIdeal Cert.InProjRefIdeal.Gen Cert.InProjRefIdeal.Read Idealize.ShloMosaic Idealize.ShloMosaic.TcCoe Cert.LossSpec Cert.ModSpec Cert.Lib
open scoped BigOperators

variable (x0 : (⟨S1x2048x1024, .f32⟩ : BufTy).Contents (Elt Ideal)) (x1 : (⟨S1024, .f32⟩ : BufTy).Contents (Elt Ideal))
  (x2 : (⟨S1x3072, .f32⟩ : BufTy).Contents (Elt Ideal)) (x3 : (⟨S1024x2560, .f32⟩ : BufTy).Contents (Elt Ideal))
  (x4 : (⟨S1x2048x1024, .f32⟩ : BufTy).Contents (Elt Ideal)) (x5 : (⟨S1024, .f32⟩ : BufTy).Contents (Elt Ideal))
  (x6 : (⟨S1x2048x2560, .f32⟩ : BufTy).Contents (Elt Ideal))

/-- A row of the hidden states, the modulation's shift and scale, and a row of the modulated rows' gradient. -/
def xr (s : Fin 2048) (k : Fin 1024) : EReal := x0 (ix3 0 s k)
def sh (k : Fin 1024) : EReal := x2 (ix2 0 ⟨k.val, by omega⟩)
def sc (k : Fin 1024) : EReal := x2 (ix2 0 ⟨1024 + k.val, by omega⟩)
def dh (s : Fin 2048) (f : Fin 1024) : EReal := ∑ k : Fin 2560, x6 (ix3 0 s k) * x3 (ix2 f k)

theorem mean_eq (s : Fin 2048) : val_main_v9 (F := Ideal) x0 (ix3 0 s 0) = rv (xr x0 s) := by
  unfold rv xr
  pointwise [val_main_v9, val_main_v8, val_main_v7, val_main_v6, val_main_v5, val_main_v4, val_main_v3, val_main_cst, val_main_cst_0, val_main_cst_1]

theorem rs_eq (s : Fin 2048) : val_main_v10 (F := Ideal) x0 (ix3 0 s 0) = Ideal.rsqrt (rv (xr x0 s)) := by
  rw [← mean_eq]; rfl

theorem xhat_eq (s : Fin 2048) (k : Fin 1024) : val_main_v15 (F := Ideal) x0 (ix3 0 s k) = xhat (xr x0 s) k := by
  unfold xhat
  rw [← rs_eq]
  unfold xr
  pointwise [val_main_v15, val_main_v14]

theorem sc_eq (s : Fin 2048) (k : Fin 1024) : val_main_v22 (F := Ideal) x2 (ix3 0 s k) = Ideal.ofBits .f32 0x3F800000#32 + sc x2 k := by
  unfold sc
  pointwise [val_main_v22, val_main_v21, val_main_v20, val_main_v19, val_main_v1, val_main_cst_3]

theorem h_eq (s : Fin 2048) (k : Fin 1024) : val_main_v75 (F := Ideal) x0 x1 x2 (ix2 s k)
    = hrow (xr x0 s) (fun k => x1 (ix1 k)) (sh x2) (sc x2) k := by
  unfold hrow gm sh
  rw [← sc_eq x2 s k, ← xhat_eq, ← mul_assoc]
  pointwise [val_main_v75, val_main_v74, val_main_v26, val_main_v25, val_main_v24, val_main_v0, val_main_v23, val_main_v18, val_main_v17, val_main_v16]

theorem dh_eq (s : Fin 2048) (f : Fin 1024) : val_main_v32 (F := Ideal) x3 x6 (ix3 0 s f) = dh x3 x6 s f := by
  unfold dh
  pointwise [val_main_v32, val_main_v31, val_main_v30, val_main_cst_4]

theorem d_eq (s : Fin 2048) (k : Fin 1024) : val_main_v50 (F := Ideal) x1 x2 x3 x6 (ix3 0 s k)
    = dh x3 x6 s k * gm (fun k => x1 (ix1 k)) (sc x2) k := by
  unfold gm
  rw [← dh_eq, ← sc_eq x2 s k, mul_comm (x1 (ix1 k)), ← mul_assoc]
  pointwise [val_main_v50, val_main_v49, val_main_v16, val_main_v43, val_main_v42, val_main_v22]

/-- The share of a row's gradient that comes through its mean square. -/
theorem coef_eq (s : Fin 2048) : val_main_v60 (F := Ideal) x0 x1 x2 x3 x6 (ix3 0 s 0)
    = Ideal.div ((∑ k, xr x0 s k * (dh x3 x6 s k * gm (fun k => x1 (ix1 k)) (sc x2) k))
      * (Ideal.ofBits .f32 0xBF000000#32 * Ideal.div (Ideal.rsqrt (rv (xr x0 s))) (rv (xr x0 s))))
      (Ideal.ofBits .f32 0x44800000#32) := by
  simp only [← d_eq, ← rs_eq]
  rw [← mean_eq]
  unfold xr
  pointwise [val_main_v60, val_main_v59, val_main_v58, val_main_v54, val_main_v53, val_main_v52, val_main_v13, val_main_v12, val_main_v11,
    val_main_cst_2, val_main_cst_12, val_main_cst_13]

theorem coef_sum (s : Fin 2048) : val_main_v61 (F := Ideal) x0 x1 x2 x3 x6 (ix1 s) = val_main_v60 (F := Ideal) x0 x1 x2 x3 x6 (ix3 0 s 0) := by
  unfold val_main_v61
  simp only [Host.reduceAdd, Ideal.hostReduceAdd_def]
  rw [hostReduceAdd_mid, Fin.sum_univ_one, Fin.sum_univ_one]
  pointwise [val_main_cst_14]

theorem dx_eq (s : Fin 2048) (k : Fin 1024) : val_main_v73 (F := Ideal) x0 x1 x2 x3 x4 x6 (ix2 s k)
    = x4 (ix3 0 s k) + drow (xr x0 s) (fun k => x1 (ix1 k)) (sc x2) (dh x3 x6 s) k := by
  unfold drow xhat
  rw [rms_grad (xr x0 s) (fun k => dh x3 x6 s k * gm (fun k => x1 (ix1 k)) (sc x2) k), ← coef_eq, ← coef_sum, ← rs_eq, ← d_eq, ← add_assoc, ← add_assoc]
  unfold xr
  pointwise [val_main_v73, val_main_v67, val_main_v66, val_main_v65, val_main_v64, val_main_v63, val_main_v62, val_main_v57, val_main_v56, val_main_v55]

theorem dgain_eq (k : Fin 1024) : val_main_v69 (F := Ideal) x0 x2 x3 x6 (ix2 0 k)
    = ∑ s, dgain (xr x0 s) (sc x2) (dh x3 x6 s) k := by
  have e : val_main_v69 (F := Ideal) x0 x2 x3 x6 (ix2 0 k) = val_main_v51 (F := Ideal) x0 x2 x3 x6 (ix1 k) := by
    pointwise [val_main_v69]
  rw [e]
  unfold val_main_v51
  simp only [Host.reduceAdd, Ideal.hostReduceAdd_def]
  rw [hostReduceAdd_last, Fin.sum_univ_one, Fin.sum_univ_one]
  have c : ∀ s, dgain (xr x0 s) (sc x2) (dh x3 x6 s) k = val_main_v15 (F := Ideal) x0 (ix3 0 s k) * (val_main_v32 (F := Ideal) x3 x6 (ix3 0 s k) * val_main_v22 (F := Ideal) x2 (ix3 0 s k)) := fun s => by
    rw [dgain, dh_eq, xhat_eq, sc_eq, mul_comm (dh x3 x6 s k), mul_assoc]
  simp only [c]
  pointwise [val_main_v48, val_main_v47, val_main_v46, val_main_v43, val_main_v42, val_main_v22, val_main_cst_10, val_main_cst_11]

theorem dshift_eq (k : Fin 1024) : val_main_v38 (F := Ideal) x3 x6 (ix2 0 k) = ∑ s, dh x3 x6 s k := by
  have e : val_main_v38 (F := Ideal) x3 x6 (ix2 0 k) = val_main_v37 (F := Ideal) x3 x6 (ix1 k) := by
    pointwise [val_main_v38]
  rw [e]
  unfold val_main_v37
  simp only [Host.reduceAdd, Ideal.hostReduceAdd_def]
  rw [hostReduceAdd_last, Fin.sum_univ_one, Fin.sum_univ_one]
  simp only [← dh_eq]
  pointwise [val_main_v36, val_main_v35, val_main_cst_6, val_main_cst_7]

theorem dscale_eq (k : Fin 1024) : val_main_v45 (F := Ideal) x0 x1 x3 x6 (ix2 0 k)
    = ∑ s, dscale (xr x0 s) (fun k => x1 (ix1 k)) (dh x3 x6 s) k := by
  have e : val_main_v45 (F := Ideal) x0 x1 x3 x6 (ix2 0 k) = val_main_v44 (F := Ideal) x0 x1 x3 x6 (ix1 k) := by
    pointwise [val_main_v45]
  rw [e]
  unfold val_main_v44
  simp only [Host.reduceAdd, Ideal.hostReduceAdd_def]
  rw [hostReduceAdd_last, Fin.sum_univ_one, Fin.sum_univ_one]
  have c : ∀ s, dscale (xr x0 s) (fun k => x1 (ix1 k)) (dh x3 x6 s) k
      = val_main_v15 (F := Ideal) x0 (ix3 0 s k) * x1 (ix1 k) * val_main_v32 (F := Ideal) x3 x6 (ix3 0 s k) := fun s => by
    rw [dscale, dh_eq, xhat_eq, mul_assoc, mul_comm (dh x3 x6 s k)]
  simp only [c]
  pointwise [val_main_v41, val_main_v40, val_main_v39, val_main_v18, val_main_v17, val_main_v16, val_main_cst_8, val_main_cst_9]

theorem dgate_eq (k : Fin 1024) : val_main_v34 (F := Ideal) x5 (ix2 0 k) = x5 (ix1 k) := by
  have e : val_main_v34 (F := Ideal) x5 (ix2 0 k) = val_main_v33 (F := Ideal) x5 (ix1 k) := by
    pointwise [val_main_v34]
  rw [e]
  unfold val_main_v33
  simp only [Host.reduceAdd, Ideal.hostReduceAdd_def]
  rw [hostReduceAdd_last, Fin.sum_univ_one, Fin.sum_univ_one]
  pointwise [val_main_v29, val_main_cst_5]

theorem dvec_eq (a : Fin 8) (k : Fin 1024) : val_main_v72 (F := Ideal) x0 x1 x2 x3 x5 x6 (ix2 a k)
    = rows4 (fun k => ∑ s, dgain (xr x0 s) (sc x2) (dh x3 x6 s) k) (fun k => ∑ s, dh x3 x6 s k)
      (fun k => ∑ s, dscale (xr x0 s) (fun k => x1 (ix1 k)) (dh x3 x6 s) k) (fun k => x5 (ix1 k)) a k := by
  unfold rows4
  simp only [← dgain_eq, ← dshift_eq, ← dscale_eq]
  rw [← dgate_eq x5 k]
  pointwise [val_main_v72, val_main_v71, val_main_v70, val_main_v68, val_main_cst_15]
  by_cases h0 : a.val = 0
  · rw [dif_pos (by omega), if_pos h0]
    exact congrArg (fun j => val_main_v69 (F := Ideal) x0 x2 x3 x6 (ix2 j k)) (Fin.ext h0)
  rw [dif_neg (by omega), if_neg h0]
  by_cases h4 : a.val - 1 < 3
  swap
  · rw [dif_neg h4, if_neg (by omega), if_neg (by omega), if_neg (by omega)]
  rw [dif_pos h4]
  by_cases h1 : a.val = 1
  · rw [dif_pos (by omega), if_pos h1]
    exact congrArg (fun k => val_main_v38 (F := Ideal) x3 x6 (ix2 0 k)) (Fin.ext (by dsimp only; omega))
  rw [dif_neg (by omega), if_neg h1]
  by_cases h2 : a.val = 2
  · rw [dif_pos (by omega), if_pos h2]
    exact congrArg (fun k => val_main_v45 (F := Ideal) x0 x1 x3 x6 (ix2 0 k)) (Fin.ext (by dsimp only; omega))
  rw [dif_neg (by omega), if_neg h2, if_pos (show a.val = 3 by omega)]
  exact congrArg (fun k => val_main_v34 (F := Ideal) x5 (ix2 0 k)) (Fin.ext (by dsimp only; omega))

end Cert.InProjRef

end
-- ==== Proof.InProj.lean ====
/- Hand-written, untrusted: the claims of the modulated input projection's gradient. -/
module

public import proofs.«01_k».proof.Defs
public import proofs.«01_k».proof.Proof.Gen.InProj.Frame
public import proofs.«01_k».proof.Proof.InProjKernel
public import proofs.«01_k».proof.Proof.InProjRef
public import Idealize.ShloMosaic.Lib.Quiescent

@[expose] public section

noncomputable section

namespace Cert.InProj

open Idealize.ShloMosaic Idealize.ShloMosaic.TcCoe Idealize.SL.Sem

theorem frame_kernel : Cert.quiescent_InProj := fun m ρ _ => Cert.InProj.Gen.frame m ρ

theorem frame_ideal : Cert.quiescent_InProjIdeal := fun m ρ _ => Cert.InProjIdeal.Gen.frame m ρ

theorem frame_ref : Cert.quiescent_InProjRefIdeal := fun m ρ _ =>
  (θ_run Cert.InProjRefIdeal.defs _ _).mono
    (fun r h => ⟨fun c => (h c).2.2.2, sem_eq_zero_of_no_sems (by decide) r.2⟩)
    (Cert.InProjRefIdeal.Value.run (F := Ideal) m ρ)

/-- The reference's three results, at the kernel's arguments, are the kernel's. -/
theorem results (m : (ℓ : Loc Cert.InProjIdeal.nD Cert.InProjIdeal.τ Cert.InProjIdeal.sig) → Buf (Elt Ideal) ℓ)
    (m' : (ℓ : Loc Cert.InProjRefIdeal.nD Cert.InProjRefIdeal.τ Cert.InProjRefIdeal.sig) → Buf (Elt Ideal) ℓ) (c : Dev Cert.InProjIdeal.nD)
    (h0 : m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0))
    (h1 : m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1))
    (h2 : m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2))
    (h3 : m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3))
    (h4 : m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4))
    (h5 : m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5))
    (h6 : m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) :
    Cert.InProjRefIdeal.Value.res_main_v73 m' c = (Cert.InProjIdeal.Gen.dats m 0 c).arrAt 6 Cert.InProjIdeal.cfg0.N
    ∧ Cert.InProjRefIdeal.Read.val_main_v75 (F := Ideal) (m' ((c.tc : Thread Cert.InProjRefIdeal.nD Cert.InProjRefIdeal.τ).loc Cert.InProjRefIdeal.main_arg0))
        (m' ((c.tc : Thread Cert.InProjRefIdeal.nD Cert.InProjRefIdeal.τ).loc Cert.InProjRefIdeal.main_arg1))
        (m' ((c.tc : Thread Cert.InProjRefIdeal.nD Cert.InProjRefIdeal.τ).loc Cert.InProjRefIdeal.main_arg2))
      = (Cert.InProjIdeal.Gen.dats m 0 c).arrAt 7 Cert.InProjIdeal.cfg0.N
    ∧ Cert.InProjRefIdeal.Value.res_main_v72 m' c = (Cert.InProjIdeal.Gen.dats m 0 c).arrAt 8 Cert.InProjIdeal.cfg0.N := by
  rw [Cert.InProjRefIdeal.Read.val_main_v73_eq, Cert.InProjRefIdeal.Read.val_main_v72_eq, h0, h1, h2, h3, h4, h5, h6,
    Cert.InProjKernel.value_dx, Cert.InProjKernel.value_h, Cert.InProjKernel.value_dvec]
  refine ⟨?_, ?_, ?_⟩ <;> funext i
  · have hi : i = ix2 (n0 := 2048) (n1 := 1024) (i 0) (i 1) := by blk_ext
    rw [hi]
    exact Cert.InProjRef.dx_eq _ _ _ _ _ _ (i 0) (i 1)
  · have hi : i = ix2 (n0 := 2048) (n1 := 1024) (i 0) (i 1) := by blk_ext
    rw [hi]
    exact Cert.InProjRef.h_eq _ _ _ (i 0) (i 1)
  · have hi : i = ix2 (n0 := 8) (n1 := 1024) (i 0) (i 1) := by blk_ext
    rw [hi]
    exact Cert.InProjRef.dvec_eq _ _ _ _ _ _ (i 0) (i 1)

theorem value : Cert.algebraic_InProjIdeal_InProjRefIdeal := by
  intro m ρ m' ρ' _ hagree
  refine ⟨_, _, _, Cert.InProjIdeal.Value.run_blocks m ρ, ?_⟩
  refine (θ_run Cert.InProjRefIdeal.defs _ _).mono (fun _ h c => ?_) (Cert.InProjRefIdeal.Value.run m' ρ')
  obtain ⟨a0, a1, a2, a3, a4, a5, a6⟩ := hagree c
  obtain ⟨r0, r1, r2⟩ := results m m' c a0 a1 a2 a3 a4 a5 a6
  exact ⟨(h c).1.trans r0, (h c).2.1.trans r1, (h c).2.2.1.trans r2, (h c).2.2.2⟩

end Cert.InProj

end
-- ==== Proof.Launch.lean ====
/- Hand-written, untrusted: the run of a program of several kernel calls, read at every buffer outside the kernels' scopes. -/
module

public import Idealize.ShloMosaic.Lib.Pipeline.Frame
public import Idealize.ShloMosaic.Lib.Pipeline.RegionsLoop

@[expose] public section

set_option backward.isDefEq.respectTransparency.types false

noncomputable section

namespace Cert.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat PCfg cellOf pin)

variable {nD : ℕ} {τ : Topo} {sig : RefSig} {Val : EltTy → Type} {Λ₀ : Labels} {P : Type} [Fintype P] [DecidableEq P]
  [∀ e, Nonempty (Val e)]

local notation "𝕄" => MT nD τ sig Unit Val ℕ (UR sig nD τ) ℕ

/-- What rides beside the buffers: the generator register at some state, nothing owed. -/
abbrev rest (c : Dev nD) : sProp 𝕄 := iprop((∃ r, prngReg c r) ∗ ∃ W, owes (c : Thread nD τ) (0 : CellTallies nD τ sig Unit) W)

/-- A program that is a list of segments chaining from the launch's buffers to the buffers at `Wn` runs to the end, and
    every unscoped buffer then holds what `Wn` says; the counters that the segments own are at zero. -/
theorem run_held (pcs : P → PCfg sig Λ₀ Val) (a : (p : P) → (pcs p).Adm)
    (pdats : (p : P) → (c : Dev nD) → Dat τ Val Unit ℕ (UR sig nD τ) ℕ (pin pcs a p) c)
    (phinj : Function.Injective (cellOf (nD := nD) (τ := τ) (pin pcs a))) (defs₀ : Defs nD τ sig Val Λ₀)
    (m : (ℓ : Loc nD τ sig) → Buf Val ℓ) (g : Dev nD → PrngReg)
    (main : Dev nD → Prog (TpuEff nD τ sig Val (Pipeline.Sig Λ₀ P fun p => (pcs p).Adm) .tc) PUnit)
    (segs : List (Pipeline.Seg pcs a pdats () defs₀ Variants.none (fun _ => ∅) (fun _ _ => 0)))
    (hmain : ∀ c, main c = Pipeline.Seg.run segs) (hnd : (Pipeline.Seg.pipes segs).Nodup)
    (Wn : (c : Dev nD) → Valuation τ sig Val)
    (hch : Pipeline.Seg.Chains (fun c => iprop(StableHlo.held (c : Thread nD τ) (Pipeline.ucRefs τ sig) (fun b => m (c, b)) ∗ rest c)) segs
      fun c => iprop((StableHlo.held (c : Thread nD τ) (Pipeline.ucRefs τ sig) (Wn c) ∗ ∃ r, prngReg c r)
        ∗ ∃ W, owes (c : Thread nD τ) (0 : CellTallies nD τ sig Unit) W)) :
    θ_run (Pipeline.defs pcs defs₀) (onTc (τ := τ) main) ⟨m, fun _ => 0, g⟩ (fun r =>
      (∀ c : Dev nD, ∀ b ∈ Pipeline.ucRefs τ sig, r.2.mem (c, b) = Wn c b)
      ∧ ∀ g' : GSem nD τ sig, (g'.1.2 ≠ .tc ∨ g'.2.isScoped .tc = true) → r.2.sem g' = 0) :=
  Pipeline.θ_run_regions_kit_sems pcs a pdats () phinj emb₁ defs₀ Variants.none (fun _ => ∅) (fun _ _ => 0) m g main segs
    (fun c Q => by rw [hmain c]) hnd
    (O₀ := 0) (hL := fun _ _ => rfl) (G := fun _ => iprop(emp))
    (u₀ := initOf (Pipeline.cells (pin pcs a) phinj) (Pipeline.launchToks (pin pcs a) phinj))
    (hu₀ := by
      iintro Hu; imodintro
      isplitl [Hu]
      · iapply (show (ownU (initOf (Pipeline.cells (pin pcs a) phinj) (Pipeline.launchToks (pin pcs a) phinj)) : sProp 𝕄)
            ⊢ BI.own (emb₁ (initOf (Pipeline.cells (pin pcs a) phinj) (Pipeline.launchToks (pin pcs a) phinj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ rest c))
    (Tₙ := fun c => iprop(StableHlo.held (c : Thread nD τ) (Pipeline.ucRefs τ sig) (Wn c) ∗ ∃ r, prngReg c r))
    (hch := hch)
    (hinit := by
      refine Pipeline.initEach _ _ fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (c, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun s h hz => ⟨h, hz⟩)

end Cert.Launch

end
-- ==== Proof.OutProjKernel.lean ====
/- Hand-written, untrusted: what the gated output projection's forward call and its gradient compute, block by block and as whole arrays. -/
module

public import proofs.«01_k».proof.Proof.Gen.OutProjIdeal.Frame
public import Idealize.ShloMosaic.Lib.Pipeline.ValueKit
public import proofs.«01_k».proof.Proof.ModSpec
public import proofs.«01_k».proof.Proof.Launch

@[expose] public section

set_option maxRecDepth 16384

noncomputable section

namespace Cert.OutProjKernel

open Cert.OutProjIdeal Cert.OutProjIdeal.Gen Idealize.ShloMosaic Idealize.ShloMosaic.TcCoe Idealize.SL.Sem Cert.Lib Cert.ModSpec
open Idealize.ShloMosaic.Pipeline (Dat)
open scoped BigOperators

variable (m : (ℓ : Loc nD τ sig) → Buf (Elt Ideal) ℓ) (ρ : Dev nD → PrngReg)

/-- The arguments by rows. -/
def X (c : Dev nD) (s : Fin 2048) (k : Fin 1024) : EReal := m ((c : Thread nD τ).loc main_arg0) (ix3 0 s k)
def A (c : Dev nD) (s : Fin 2048) (k : Fin 1024) : EReal := m ((c : Thread nD τ).loc main_arg1) (ix3 0 s k)
def Mo (c : Dev nD) (k : Fin 3072) : EReal := m ((c : Thread nD τ).loc main_arg2) (ix2 0 k)
def W (c : Dev nD) (f : Fin 1024) (k : Fin 1024) : EReal := m ((c : Thread nD τ).loc main_arg3) (ix2 f k)
def CT (c : Dev nD) (s : Fin 2048) (k : Fin 1024) : EReal := m ((c : Thread nD τ).loc main_arg4) (ix3 0 s k)

def GA (c : Dev nD) (k : Fin 1024) : EReal := Mo m c ⟨2048 + k.val, by omega⟩

/-- The projected rows and the gradient of them. -/
def Y (c : Dev nD) (s : Fin 2048) (k : Fin 1024) : EReal := ∑ f : Fin 1024, A m c s f * W m c f k
def DY (c : Dev nD) (s : Fin 2048) (k : Fin 1024) : EReal := GA m c k * CT m c s k

theorem idx0 : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

theorem idx1 : ∀ t : Fin cfg1.N, win1_0.index t = ![t.val, 0] ∧ win1_1.index t = ![t.val, 0] ∧ win1_2.index t = ![0, 0]
    ∧ win1_3.index t = ![0, 0, 0] ∧ win1_4.index t = ![t.val, 0] ∧ win1_5.index t = ![t.val, 0] ∧ win1_6.index t = ![0, 0] :=
  (by decide +kernel : ∀ t : Fin grid1.N, _)

theorem lt0 (t : Fin cfg0.N) : t.val < 2 := lt_of_lt_of_eq t.isLt N_0
theorem lt1 (t : Fin cfg1.N) : t.val < 2 := lt_of_lt_of_eq t.isLt N_1

/-- The row of the arrays that row `s` of step `t`'s blocks is. -/
def row (t : Fin 2) (s : Fin 1024) : Fin 2048 := ⟨t.val * 1024 + s.val, by omega⟩
def st0 (t : Fin cfg0.N) : Fin 2 := ⟨t.val, lt0 t⟩
def st1 (t : Fin cfg1.N) : Fin 2 := ⟨t.val, lt1 t⟩

/-! The operands that the host prepares. -/

theorem V_v5 (c : Dev nD) : V3 m ρ c main_v5 = truncf (F := Ideal) .bf16 (shapeCast S2048x1024 (m ((c : Thread nD τ).loc main_arg1)) shapeCasts_S1x2048x1024_S2048x1024) bitsLt_bf16_f32 := by
  change StableHlo.after hostOps0_2 (StableHlo.after hostOps0_1 (StableHlo.after hostOps0 (W0 m ρ c))) _ = _
  simp only [hostOps0, hostOps0_1, hostOps0_2]
  after_results
  try rfl

theorem V_v3 (c : Dev nD) : V3 m ρ c main_v3 = truncf (F := Ideal) .bf16 (broadcastInDim S1x1024x1024 ![1, 2] bcast_S1024x1024_S1x1024x1024_1_2 (m ((c : Thread nD τ).loc main_arg3))) bitsLt_bf16_f32 := by
  change StableHlo.after hostOps0_2 (StableHlo.after hostOps0_1 (StableHlo.after hostOps0 (W0 m ρ c))) _ = _
  simp only [hostOps0, hostOps0_1, hostOps0_2]
  after_results
  try rfl

theorem V_v6 (c : Dev nD) : V3 m ρ c main_v6 = shapeCast S2048x1024 (m ((c : Thread nD τ).loc main_arg0)) shapeCasts_S1x2048x1024_S2048x1024 := by
  change StableHlo.after hostOps0_2 (StableHlo.after hostOps0_1 (StableHlo.after hostOps0 (W0 m ρ c))) _ = _
  simp only [hostOps0, hostOps0_1, hostOps0_2]
  after_results
  try rfl

theorem V_v1 (c : Dev nD) : V3 m ρ c main_v1 = pad S8x1024 ![1, 0] ![4, 0] ![0, 0]
    (shapeCast S3x1024 (m ((c : Thread nD τ).loc main_arg2)) shapeCasts_S1x3072_S3x1024) (sitofp (F := Ideal) .f32 (constantI S_ 32 0#32)) pads_S3x1024_S8x1024_140_000 h_S_ := by
  change StableHlo.after hostOps0_2 (StableHlo.after hostOps0_1 (StableHlo.after hostOps0 (W0 m ρ c))) _ = _
  simp only [hostOps0, hostOps0_1, hostOps0_2]
  after_results
  try rfl

theorem V_v8 (c : Dev nD) : V5 m ρ c main_v8 = shapeCast S2048x1024 (m ((c : Thread nD τ).loc main_arg4)) shapeCasts_S1x2048x1024_S2048x1024 := by
  rw [← W4_args m ρ c main_arg4 (by decide)]
  change StableHlo.after hostOps1 (W4 m ρ c) _ = _
  simp only [hostOps1]
  after_results
  try rfl

/-- What the second call finds unchanged. -/
theorem V5_v3 (c : Dev nD) : V5 m ρ c main_v3 = V3 m ρ c main_v3 :=
  (W5_of m ρ c main_v3 (by decide)).trans (W4_of m ρ c main_v3 (by decide))
theorem V5_v1 (c : Dev nD) : V5 m ρ c main_v1 = V3 m ρ c main_v1 :=
  (W5_of m ρ c main_v1 (by decide)).trans (W4_of m ρ c main_v1 (by decide))
theorem V5_y (c : Dev nD) : V5 m ρ c main_v7_1 = (dat0 (V3 m ρ) c).arrAt 5 cfg0.N :=
  (W5_of m ρ c main_v7_1 (by decide)).trans (W4_arr m ρ c 5)

/-! The rows of the packed vectors. -/

theorem pad3 (f : (⟨⟨2, ![1, 3072]⟩, .f32⟩ : BufTy).Contents (Elt Ideal)) {h2 h3 h4} (a : Fin 8) (k : Fin 1024) :
    pad ⟨2, ![8, 1024]⟩ ![1, 0] ![4, 0] ![0, 0] (shapeCast ⟨2, ![3, 1024]⟩ f h2)
      (sitofp (F := Ideal) .f32 (constantI ⟨0, ![]⟩ 32 0#32)) h3 h4 (ix2 a k)
      = if h : 1 ≤ a.val ∧ a.val - 1 < 3 then f (ix2 0 ⟨(a.val - 1) * 1024 + k.val, by omega⟩) else 0 := by
  pointwise
  simp only [sitofp_0]

theorem flat (f : (⟨S1x2048x1024, .f32⟩ : BufTy).Contents (Elt Ideal)) (s : Fin 2048) (k : Fin 1024) :
    shapeCast S2048x1024 f shapeCasts_S1x2048x1024_S2048x1024 (ix2 s k) = f (ix3 0 s k) := by
  pointwise

theorem stack (f : (⟨S1024x1024, .f32⟩ : BufTy).Contents (Elt Ideal)) (s : Fin 1024) (k : Fin 1024) :
    truncf (F := Ideal) .bf16 (broadcastInDim S1x1024x1024 ![1, 2] bcast_S1024x1024_S1x1024x1024_1_2 f) bitsLt_bf16_f32 (ix3 0 s k) = f (ix2 s k) := by
  pointwise

/-! What each window's block holds. -/

theorem emb0_a (t : Fin cfg0.N) (s : Fin 1024) (k : Fin 1024) :
    ((View.whole main_v5).slice (win0_0.rect t)).emb (ix2 s k) = ix2 (row (st0 t) s) k := by blk_ext [idx0 t, row, st0]
theorem emb0_w (t : Fin cfg0.N) (s : Fin 1024) (k : Fin 1024) :
    ((View.whole main_v3).slice (win0_1.rect t)).emb (ix3 0 s k) = ix3 0 s k := by blk_ext [idx0 t]
theorem emb0_x (t : Fin cfg0.N) (s : Fin 1024) (k : Fin 1024) :
    ((View.whole main_v6).slice (win0_2.rect t)).emb (ix2 s k) = ix2 (row (st0 t) s) k := by blk_ext [idx0 t, row, st0]
theorem emb0_v (t : Fin cfg0.N) (a : Fin 8) (k : Fin 1024) :
    ((View.whole main_v1).slice (win0_3.rect t)).emb (ix2 a k) = ix2 a k := by blk_ext [idx0 t]
theorem emb1_ct (t : Fin cfg1.N) (s : Fin 1024) (k : Fin 1024) :
    ((View.whole main_v8).slice (win1_0.rect t)).emb (ix2 s k) = ix2 (row (st1 t) s) k := by blk_ext [idx1 t, row, st1]
theorem emb1_y (t : Fin cfg1.N) (s : Fin 1024) (k : Fin 1024) :
    ((View.whole main_v7_1).slice (win1_1.rect t)).emb (ix2 s k) = ix2 (row (st1 t) s) k := by blk_ext [idx1 t, row, st1]
theorem emb1_v (t : Fin cfg1.N) (a : Fin 8) (k : Fin 1024) :
    ((View.whole main_v1).slice (win1_2.rect t)).emb (ix2 a k) = ix2 a k := by blk_ext [idx1 t]
theorem emb1_w (t : Fin cfg1.N) (s : Fin 1024) (k : Fin 1024) :
    ((View.whole main_v3).slice (win1_3.rect t)).emb (ix3 0 s k) = ix3 0 s k := by blk_ext [idx1 t]

theorem blk0_a (c : Dev nD) (t : Fin cfg0.N) (s : Fin 1024) (k : Fin 1024) :
    iblk0 (V3 m ρ) c 0 t (ix2 s k) = A m c (row (st0 t) s) k := by
  change V3 m ρ c main_v5 (((View.whole main_v5).slice (win0_0.rect t)).emb (ix2 s k)) = _
  rw [V_v5, emb0_a]
  exact flat _ _ _

theorem blk0_w (c : Dev nD) (t : Fin cfg0.N) (s : Fin 1024) (k : Fin 1024) :
    iblk0 (V3 m ρ) c 1 t (ix3 0 s k) = W m c s k := by
  change V3 m ρ c main_v3 (((View.whole main_v3).slice (win0_1.rect t)).emb (ix3 0 s k)) = _
  rw [V_v3, emb0_w]
  exact stack _ _ _

theorem blk0_x (c : Dev nD) (t : Fin cfg0.N) (s : Fin 1024) (k : Fin 1024) :
    iblk0 (V3 m ρ) c 2 t (ix2 s k) = X m c (row (st0 t) s) k := by
  change V3 m ρ c main_v6 (((View.whole main_v6).slice (win0_2.rect t)).emb (ix2 s k)) = _
  rw [V_v6, emb0_x]
  exact flat _ _ _

theorem ld0_g (c : Dev nD) (t : Fin cfg0.N) (k : Fin 1024) :
    View.ld (Val := Elt Ideal) (iblk0 (V3 m ρ) c 3 t) (Rect.unit (s := S8x1024) ![3, 0] ![1, 1024] inb_S8x1024_S1x1024_3_0) (ix2 (n0 := 1) (n1 := 1024) 0 k) = GA m c k := by
  rw [ld_row _ (by norm_num : 3 < 8)]
  change V3 m ρ c main_v1 (((View.whole main_v1).slice (win0_3.rect t)).emb (ix2 (3 : Fin 8) k)) = _
  rw [V_v1, emb0_v, pad3]
  rfl

theorem blk1_ct (c : Dev nD) (t : Fin cfg1.N) (s : Fin 1024) (k : Fin 1024) :
    iblk1 (V5 m ρ) c 0 t (ix2 s k) = CT m c (row (st1 t) s) k := by
  change V5 m ρ c main_v8 (((View.whole main_v8).slice (win1_0.rect t)).emb (ix2 s k)) = _
  rw [V_v8, emb1_ct]
  exact flat _ _ _

theorem ld1_g (c : Dev nD) (t : Fin cfg1.N) (k : Fin 1024) :
    View.ld (Val := Elt Ideal) (iblk1 (V5 m ρ) c 2 t) (Rect.unit (s := S8x1024) ![3, 0] ![1, 1024] inb_S8x1024_S1x1024_3_0) (ix2 (n0 := 1) (n1 := 1024) 0 k) = GA m c k := by
  rw [ld_row _ (by norm_num : 3 < 8)]
  change V5 m ρ c main_v1 (((View.whole main_v1).slice (win1_2.rect t)).emb (ix2 (3 : Fin 8) k)) = _
  rw [V5_v1, V_v1, emb1_v, pad3]
  rfl

theorem blk1_w (c : Dev nD) (t : Fin cfg1.N) (s : Fin 1024) (k : Fin 1024) :
    iblk1 (V5 m ρ) c 3 t (ix3 0 s k) = W m c s k := by
  change V5 m ρ c main_v3 (((View.whole main_v3).slice (win1_3.rect t)).emb (ix3 0 s k)) = _
  rw [V5_v3, V_v3, emb1_w]
  exact stack _ _ _

/-! The kernels' arithmetic at a point. -/

theorem pay_xo (a : Vec Ideal S1024x1024 .bf16) (w : Vec Ideal S1x1024x1024 .bf16) (x : Vec Ideal S1024x1024 .f32) (g : Vec Ideal S1x1024 .f32)
    (s k : Fin 1024) : k0_pay2 a w x g (ix2 s k) = x (ix2 s k) + g (ix2 0 k) * ∑ f : Fin 1024, a (ix2 s f) * w (ix3 0 f k) := by
  pointwise [k0_pay2, k0_pay1]

theorem pay_y (a : Vec Ideal S1024x1024 .bf16) (w : Vec Ideal S1x1024x1024 .bf16) (s k : Fin 1024) :
    k0_pay3 a w (ix2 s k) = ∑ f : Fin 1024, a (ix2 s f) * w (ix3 0 f k) := by
  pointwise [k0_pay3, k0_pay1]

theorem pay_dy (ct : Vec Ideal S1024x1024 .f32) (g : Vec Ideal S1x1024 .f32) (s k : Fin 1024) :
    k1_pay3 ct g (ix2 s k) = g (ix2 0 k) * ct (ix2 s k) := by
  pointwise [k1_pay3, k1_pay2]

theorem pay_dcat (ct : Vec Ideal S1024x1024 .f32) (g : Vec Ideal S1x1024 .f32) (w : Vec Ideal S1x1024x1024 .bf16) (s f : Fin 1024) :
    k1_pay5 ct g w (ix2 s f) = ∑ k : Fin 1024, g (ix2 0 k) * ct (ix2 s k) * w (ix3 0 f k) := by
  pointwise [k1_pay5, k1_pay3, k1_pay2]

theorem pay_dg (ct : Vec Ideal S1024x1024 .f32) (r : Vec Ideal S1x1024 .f32) (y : Vec Ideal S1024x1024 .bf16) (k : Fin 1024) :
    k1_pay4 ct r y (ix2 0 k) = r (ix2 0 k) + ∑ s : Fin 1024, ct (ix2 s k) * y (ix2 s k) := by
  pointwise [k1_pay4, k1_pay2]

theorem pay_zero (a : Fin 8) (k : Fin 1024) : k1_pay1 (F := Ideal) (ix2 a k) = 0 := by
  pointwise [k1_pay1]

/-! The forward call's two results. -/

theorem out_xo (c : Dev nD) (t : Fin cfg0.N) (s k : Fin 1024) :
    out0_4 (iblk0 (V3 m ρ) c 0 t) (iblk0 (V3 m ρ) c 1 t) (iblk0 (V3 m ρ) c 2 t) (iblk0 (V3 m ρ) c 3 t) (ix2 s k)
      = X m c (row (st0 t) s) k + GA m c k * Y m c (row (st0 t) s) k := by
  frame_out
  rw [pay_xo, ld0_g]
  simp only [blk0_a, blk0_w, blk0_x]
  rfl

theorem out_y (c : Dev nD) (t : Fin cfg0.N) (s k : Fin 1024) :
    out0_5 (iblk0 (V3 m ρ) c 0 t) (iblk0 (V3 m ρ) c 1 t) (iblk0 (V3 m ρ) c 2 t) (iblk0 (V3 m ρ) c 3 t) (ix2 s k)
      = Y m c (row (st0 t) s) k := by
  frame_out
  rw [pay_y]
  simp only [blk0_a, blk0_w]
  rfl

theorem value_xo (c : Dev nD) : (dat0 (V3 m ρ) c).arrAt 4 cfg0.N = fun i => X m c (i 0) (i 1) + GA m c (i 1) * Y m c (i 0) (i 1) := by
  refine (dat0 (V3 m ρ) c).arrAt_eq_of_covers 4 _ (by decide +kernel) fun t hf y => ?_
  have hx : ((View.whole main_v7_0).slice (win0_4.rect t)).emb y = ix2 (row (st0 t) (y 0)) (y 1) := by
    blk_ext [idx0 t, row, st0]
  have hy : y = ix2 (n0 := 1024) (n1 := 1024) (y 0) (y 1) := by blk_ext
  blk_simp
  rw [after0_4, hx, hy]
  exact out_xo m ρ c t (y 0) (y 1)

theorem value_y (c : Dev nD) : (dat0 (V3 m ρ) c).arrAt 5 cfg0.N = fun i => Y m c (i 0) (i 1) := by
  refine (dat0 (V3 m ρ) c).arrAt_eq_of_covers 5 _ (by decide +kernel) fun t hf y => ?_
  have hx : ((View.whole main_v7_1).slice (win0_5.rect t)).emb y = ix2 (row (st0 t) (y 0)) (y 1) := by
    blk_ext [idx0 t, row, st0]
  have hy : y = ix2 (n0 := 1024) (n1 := 1024) (y 0) (y 1) := by blk_ext
  blk_simp
  rw [after0_5, hx, hy]
  exact out_y m ρ c t (y 0) (y 1)

theorem blk1_y (c : Dev nD) (t : Fin cfg1.N) (s : Fin 1024) (k : Fin 1024) :
    iblk1 (V5 m ρ) c 1 t (ix2 s k) = Y m c (row (st1 t) s) k := by
  change V5 m ρ c main_v7_1 (((View.whole main_v7_1).slice (win1_1.rect t)).emb (ix2 s k)) = _
  rw [V5_y, value_y, emb1_y]
  rfl

/-! The gradient's three results. -/

theorem out_dy (c : Dev nD) (t : Fin cfg1.N) (s k : Fin 1024) :
    (outsAt1 (V5 m ρ) c t.val t.isLt).1 (ix2 s k) = DY m c (row (st1 t) s) k := by
  by_cases h : t.val % 2 = 0
  · rw [outsAt1_A _ c t h]; dsimp only
    frame_out
    rw [pay_dy, ld1_g, blk1_ct]; rfl
  · rw [outsAt1_B _ c t h]; dsimp only
    frame_out
    rw [pay_dy, ld1_g, blk1_ct]; rfl

theorem out_dcat (c : Dev nD) (t : Fin cfg1.N) (s k : Fin 1024) :
    (outsAt1 (V5 m ρ) c t.val t.isLt).2.1 (ix2 s k) = ∑ f : Fin 1024, DY m c (row (st1 t) s) f * W m c k f := by
  by_cases h : t.val % 2 = 0
  · rw [outsAt1_A _ c t h]; dsimp only
    frame_out
    rw [pay_dcat]
    simp only [ld1_g, blk1_ct, blk1_w]; rfl
  · rw [outsAt1_B _ c t h]; dsimp only
    frame_out
    rw [pay_dcat]
    simp only [ld1_g, blk1_ct, blk1_w]; rfl

/-- One half's share of the gate's gradient. -/
def half (c : Dev nD) (t : Fin 2) (k : Fin 1024) : EReal := ∑ s : Fin 1024, CT m c (row t s) k * Y m c (row t s) k

theorem out_first (c : Dev nD) (t : Fin cfg1.N) (h : t.val % 2 = 0) (a : Fin 8) (k : Fin 1024) :
    (outsAt1 (V5 m ρ) c t.val t.isLt).2.2 (ix2 a k) = if a.val = 3 then 0 + half m c (st1 t) k else 0 := by
  rw [outsAt1_A _ c t h]; dsimp only
  frame_out
  rw [canon_row]
  by_cases h3 : a.val = 3
  · simp only [if_pos h3]
    rw [pay_dg, readCov_row _ (by norm_num)]
    simp only [blk1_ct, blk1_y]
    frame_out
    rw [pay_zero]
    rfl
  · simp only [if_neg h3]
    frame_out
    exact pay_zero a k

theorem out_second (c : Dev nD) (t : Fin cfg1.N) (h : ¬t.val % 2 = 0) (a : Fin 8) (k : Fin 1024) :
    (outsAt1 (V5 m ρ) c t.val t.isLt).2.2 (ix2 a k) = (outsAt1 (V5 m ρ) c (t.val - 1) (Nat.lt_of_le_of_lt (Nat.sub_le _ _) t.isLt)).2.2 (ix2 a k)
      + if a.val = 3 then half m c (st1 t) k else 0 := by
  rw [outsAt1_B _ c t h]; dsimp only
  frame_out
  rw [read_row]
  by_cases h3 : a.val = 3
  · simp only [if_pos h3]
    obtain rfl : a = 3 := Fin.ext h3
    rw [pay_dg, ld_row _ (by norm_num : 3 < 8)]
    simp only [blk1_ct, blk1_y]
    rfl
  · rw [if_neg h3, if_neg h3, add_zero]
    exact congrFun ((hs1_6 t).read_unread _) _

theorem two_halves (f : Fin 2048 → EReal) : (∑ s : Fin 1024, f (row 0 s)) + ∑ s : Fin 1024, f (row 1 s) = ∑ s, f s := by
  rw [Fin.sum_univ_add (a := 1024) (b := 1024) (fun s : Fin 2048 => f s)]
  refine congrArg₂ (· + ·) (Finset.sum_congr rfl fun s _ => congrArg f (Fin.ext ?_)) (Finset.sum_congr rfl fun s _ => congrArg f (Fin.ext ?_)) <;>
    simp [row, add_comm]

theorem out_last (c : Dev nD) (a : Fin 8) (k : Fin 1024) :
    (outsAt1 (V5 m ρ) c t1_1.val t1_1.isLt).2.2 (ix2 a k) = rows4 (fun _ => 0) (fun _ => 0) (fun _ => 0) (fun k => ∑ s, CT m c s k * Y m c s k) a k := by
  have e0 : (outsAt1 (V5 m ρ) c (t1_1.val - 1) (Nat.lt_of_le_of_lt (Nat.sub_le _ _) t1_1.isLt)).2.2 (ix2 a k) = _ :=
    out_first m ρ c t1_0 (by decide) a k
  rw [out_second m ρ c t1_1 (by decide) a k, e0]
  unfold rows4
  dsimp only
  rw [← two_halves fun s => CT m c s k * Y m c s k]
  by_cases h3 : a.val = 3
  · simp only [if_pos h3, if_neg (show ¬a.val = 0 by omega), if_neg (show ¬a.val = 1 by omega), if_neg (show ¬a.val = 2 by omega), zero_add]
    rfl
  · simp only [if_neg h3, ite_self, add_zero]

theorem value_dy (c : Dev nD) : (dat1 (V5 m ρ) c).arrAt 4 cfg1.N = fun i => DY m c (i 0) (i 1) := by
  refine (dat1 (V5 m ρ) c).arrAt_eq_of_covers 4 _ (by decide +kernel) fun t hf y => ?_
  have hx : ((View.whole main_v9_0).slice (win1_4.rect t)).emb y = ix2 (row (st1 t) (y 0)) (y 1) := by
    blk_ext [idx1 t, row, st1]
  have hy : y = ix2 (n0 := 1024) (n1 := 1024) (y 0) (y 1) := by blk_ext
  blk_simp
  rw [after1_4, hx, hy]
  exact out_dy m ρ c t (y 0) (y 1)

theorem value_dcat (c : Dev nD) : (dat1 (V5 m ρ) c).arrAt 5 cfg1.N = fun i => ∑ f : Fin 1024, DY m c (i 0) f * W m c (i 1) f := by
  refine (dat1 (V5 m ρ) c).arrAt_eq_of_covers 5 _ (by decide +kernel) fun t hf y => ?_
  have hx : ((View.whole main_v9_1).slice (win1_5.rect t)).emb y = ix2 (row (st1 t) (y 0)) (y 1) := by
    blk_ext [idx1 t, row, st1]
  have hy : y = ix2 (n0 := 1024) (n1 := 1024) (y 0) (y 1) := by blk_ext
  blk_simp
  rw [after1_5, hx, hy]
  exact out_dcat m ρ c t (y 0) (y 1)

theorem value_rows (c : Dev nD) : (dat1 (V5 m ρ) c).arrAt 6 cfg1.N
    = fun i => rows4 (fun _ => 0) (fun _ => 0) (fun _ => 0) (fun k => ∑ s, CT m c s k * Y m c s k) (i 0) (i 1) := by
  refine (dat1 (V5 m ρ) c).arrAt_eq_of_after_last 6 t1_1 (by decide +kernel) _ fun j => ?_
  have hx : ((View.whole main_v9_2).slice (win1_6.rect t1_1)).emb j = j := by
    blk_ext [idx1 t1_1]
  have hy : j = ix2 (n0 := 8) (n1 := 1024) (j 0) (j 1) := by blk_ext
  blk_simp
  rw [after1_6, hy]
  exact out_last m ρ c (j 0) (j 1)

/-! The run. -/

-- the launch lemma's implicit arguments are found by unfolding plain definitions in a metavariable's type
set_option backward.isDefEq.respectTransparency.types false in
/-- Every execution ends with the four results at what the two calls leave, and the arguments as they were. -/
theorem run : θ_run defs (onTc (τ := τ) (main (F := Ideal))) ⟨m, fun _ => 0, ρ⟩ (fun r => ∀ c : Dev nD,
      r.2.mem ((c.tc : Thread nD τ).loc main_v7_0) = (dat0 (V3 m ρ) c).arrAt 4 cfg0.N
      ∧ r.2.mem ((c.tc : Thread nD τ).loc main_v9_0) = (dat1 (V5 m ρ) c).arrAt 4 cfg1.N
      ∧ r.2.mem ((c.tc : Thread nD τ).loc main_v9_1) = (dat1 (V5 m ρ) c).arrAt 5 cfg1.N
      ∧ r.2.mem ((c.tc : Thread nD τ).loc main_v9_2) = (dat1 (V5 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Cert.Launch.run_held (pcfgs (F := Ideal)) adm (pdats m ρ) cellOf_inj defs₀ m ρ main (segs m ρ)
    (main_run m ρ) (by simp only [segs, Pipeline.Seg.pipes_host, Pipeline.Seg.pipes_region, Pipeline.Seg.pipes_nil]; decide) (W6 m ρ)
    ⟨fun _ => .rfl, fun _ => .rfl, fun _ => .rfl, fun _ => .rfl, fun _ => .rfl, fun _ => .rfl, fun _ => .rfl⟩)
  have at_ : ∀ b : Ref sig .tc, ¬ (Proc.devRef .tc b : DevRef τ sig).isScoped →
      r.2.mem ((c.tc : Thread nD τ).loc b) = W6 m ρ c (Proc.devRef .tc b) := fun b hb => h.1 c _ (mem_uc b hb)
  exact ⟨(at_ main_v7_0 (by decide)).trans ((W6_of m ρ c main_v7_0 (by decide)).trans ((W5_of m ρ c main_v7_0 (by decide)).trans (W4_arr m ρ c 4))),
    (at_ main_v9_0 (by decide)).trans (W6_arr m ρ c 4), (at_ main_v9_1 (by decide)).trans (W6_arr m ρ c 5),
    (at_ main_v9_2 (by decide)).trans (W6_arr m ρ c 6),
    (at_ main_arg0 (by decide)).trans (W6_main_arg0 m ρ c), (at_ main_arg1 (by decide)).trans (W6_main_arg1 m ρ c),
    (at_ main_arg2 (by decide)).trans (W6_main_arg2 m ρ c), (at_ main_arg3 (by decide)).trans (W6_main_arg3 m ρ c),
    (at_ main_arg4 (by decide)).trans (W6_main_arg4 m ρ c)⟩

end Cert.OutProjKernel

end
-- ==== Proof.OutProjRef.lean ====
/- Hand-written, untrusted: the gated output projection's reference, an operation at a time, at an index. -/
module

public import proofs.«01_k».proof.Proof.Gen.OutProjRefIdeal.Read
public import Idealize.ShloMosaic.Lib.Pipeline.ValueKit
public import proofs.«01_k».proof.Proof.ModSpec

@[expose] public section

set_option maxRecDepth 16384

noncomputable section

namespace Cert.OutProjRef

open Cert.OutProjRefIdeal Cert.OutProjRefIdeal.Gen Cert.OutProjRefIdeal.Read Idealize.ShloMosaic Idealize.ShloMosaic.TcCoe Cert.ModSpec Cert.Lib
open scoped BigOperators

variable (x0 : (⟨S1x2048x1024, .f32⟩ : BufTy).Contents (Elt Ideal)) (x1 : (⟨S1x2048x1024, .f32⟩ : BufTy).Contents (Elt Ideal))
  (x2 : (⟨S1x3072, .f32⟩ : BufTy).Contents (Elt Ideal)) (x3 : (⟨S1024x1024, .f32⟩ : BufTy).Contents (Elt Ideal))
  (x4 : (⟨S1x2048x1024, .f32⟩ : BufTy).Contents (Elt Ideal))

/-- The gate, the projected rows, the gradient of them. -/
def ga (k : Fin 1024) : EReal := x2 (ix2 0 ⟨2048 + k.val, by omega⟩)
def y (s : Fin 2048) (k : Fin 1024) : EReal := ∑ f : Fin 1024, x1 (ix3 0 s f) * x3 (ix2 f k)
def dy (s : Fin 2048) (k : Fin 1024) : EReal := ga x2 k * x4 (ix3 0 s k)

theorem y_eq (s : Fin 2048) (k : Fin 1024) : val_main_v4 (F := Ideal) x1 x3 (ix3 0 s k) = y x1 x3 s k := by
  unfold y
  pointwise [val_main_v4]

theorem ga_eq (s : Fin 2048) (k : Fin 1024) : val_main_v5 (F := Ideal) x2 (ix3 0 s k) = ga x2 k := by
  unfold ga
  pointwise [val_main_v5, val_main_v3, val_main_v2]

theorem xo_eq (s : Fin 2048) (k : Fin 1024) : val_main_v18 (F := Ideal) x0 x1 x2 x3 (ix2 s k) = x0 (ix3 0 s k) + ga x2 k * y x1 x3 s k := by
  rw [← ga_eq x2 s k, ← y_eq]
  pointwise [val_main_v18, val_main_v7, val_main_v6]

theorem dy3_eq (s : Fin 2048) (k : Fin 1024) : val_main_v9 (F := Ideal) x2 x4 (ix3 0 s k) = dy x2 x4 s k := by
  unfold dy
  rw [← ga_eq x2 s k]
  pointwise [val_main_v9, val_main_v8, val_main_v5]

theorem dy_eq (s : Fin 2048) (k : Fin 1024) : val_main_v20 (F := Ideal) x2 x4 (ix2 s k) = dy x2 x4 s k := by
  rw [← dy3_eq]
  pointwise [val_main_v20, val_main_v19]

theorem dcat_eq (s : Fin 2048) (f : Fin 1024) : val_main_v22 (F := Ideal) x2 x3 x4 (ix2 s f) = ∑ k : Fin 1024, dy x2 x4 s k * x3 (ix2 f k) := by
  simp only [← dy3_eq]
  pointwise [val_main_v22, val_main_v21, val_main_v13]

theorem dgate_eq (k : Fin 1024) : val_main_v15 (F := Ideal) x1 x3 x4 (ix2 0 k) = ∑ s : Fin 2048, x4 (ix3 0 s k) * y x1 x3 s k := by
  simp only [← y_eq]
  pointwise [val_main_v15, val_main_v12, val_main_v11, val_main_v10, val_main_cst]

theorem rows_eq (a : Fin 8) (k : Fin 1024) : val_main_v17 (F := Ideal) x1 x3 x4 (ix2 a k)
    = rows4 (fun _ => 0) (fun _ => 0) (fun _ => 0) (fun k => ∑ s : Fin 2048, x4 (ix3 0 s k) * y x1 x3 s k) a k := by
  unfold rows4
  pointwise [val_main_v17, val_main_v14, val_main_v16, val_main_cst_0, val_main_cst_1]
  by_cases h3 : a.val = 3
  · have e : (⟨a.val - 3, by omega⟩ : Fin 1) = 0 := Subsingleton.elim _ _
    simp only [dif_neg (show ¬a.val < 3 by omega), dif_pos (show a.val - 3 < 1 by omega), if_neg (show ¬a.val = 0 by omega),
      if_neg (show ¬a.val = 1 by omega), if_neg (show ¬a.val = 2 by omega), if_pos h3, e]
    exact dgate_eq x1 x3 x4 k
  · simp only [if_neg h3, ite_self]
    by_cases h : a.val < 3
    · rw [dif_pos h]
    · rw [dif_neg h, dif_neg (show ¬a.val - 3 < 1 by omega)]

end Cert.OutProjRef

end
-- ==== Proof.OutProj.lean ====
/- Hand-written, untrusted: the claims of the gated output projection's gradient. -/
module

public import proofs.«01_k».proof.Defs
public import proofs.«01_k».proof.Proof.Gen.OutProj.Frame
public import proofs.«01_k».proof.Proof.OutProjKernel
public import proofs.«01_k».proof.Proof.OutProjRef
public import Idealize.ShloMosaic.Lib.Quiescent

@[expose] public section

noncomputable section

namespace Cert.OutProj

open Idealize.ShloMosaic Idealize.ShloMosaic.TcCoe Idealize.SL.Sem

theorem frame_kernel : Cert.quiescent_OutProj := fun m ρ _ => Cert.OutProj.Gen.frame m ρ

theorem frame_ideal : Cert.quiescent_OutProjIdeal := fun m ρ _ => Cert.OutProjIdeal.Gen.frame m ρ

theorem frame_ref : Cert.quiescent_OutProjRefIdeal := fun m ρ _ =>
  (θ_run Cert.OutProjRefIdeal.defs _ _).mono
    (fun r h => ⟨fun c => (h c).2.2.2.2, sem_eq_zero_of_no_sems (by decide) r.2⟩)
    (Cert.OutProjRefIdeal.Value.run (F := Ideal) m ρ)

/-- The reference's four results, at the kernel's arguments, are the kernel's. -/
theorem results (m : (ℓ : Loc Cert.OutProjIdeal.nD Cert.OutProjIdeal.τ Cert.OutProjIdeal.sig) → Buf (Elt Ideal) ℓ) (ρ : Dev Cert.OutProjIdeal.nD → PrngReg)
    (m' : (ℓ : Loc Cert.OutProjRefIdeal.nD Cert.OutProjRefIdeal.τ Cert.OutProjRefIdeal.sig) → Buf (Elt Ideal) ℓ) (c : Dev Cert.OutProjIdeal.nD)
    (h0 : m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0))
    (h1 : m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1))
    (h2 : m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2))
    (h3 : m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3))
    (h4 : m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) :
    Cert.OutProjRefIdeal.Read.val_main_v18 (F := Ideal) (m' ((c.tc : Thread Cert.OutProjRefIdeal.nD Cert.OutProjRefIdeal.τ).loc Cert.OutProjRefIdeal.main_arg0)) (m' ((c.tc : Thread Cert.OutProjRefIdeal.nD Cert.OutProjRefIdeal.τ).loc Cert.OutProjRefIdeal.main_arg1)) (m' ((c.tc : Thread Cert.OutProjRefIdeal.nD Cert.OutProjRefIdeal.τ).loc Cert.OutProjRefIdeal.main_arg2)) (m' ((c.tc : Thread Cert.OutProjRefIdeal.nD Cert.OutProjRefIdeal.τ).loc Cert.OutProjRefIdeal.main_arg3)) = (Cert.OutProjIdeal.Gen.dat0 (Cert.OutProjIdeal.Gen.V3 m ρ) c).arrAt 4 Cert.OutProjIdeal.cfg0.N
    ∧ Cert.OutProjRefIdeal.Read.val_main_v20 (F := Ideal) (m' ((c.tc : Thread Cert.OutProjRefIdeal.nD Cert.OutProjRefIdeal.τ).loc Cert.OutProjRefIdeal.main_arg2)) (m' ((c.tc : Thread Cert.OutProjRefIdeal.nD Cert.OutProjRefIdeal.τ).loc Cert.OutProjRefIdeal.main_arg4)) = (Cert.OutProjIdeal.Gen.dat1 (Cert.OutProjIdeal.Gen.V5 m ρ) c).arrAt 4 Cert.OutProjIdeal.cfg1.N
    ∧ Cert.OutProjRefIdeal.Read.val_main_v22 (F := Ideal) (m' ((c.tc : Thread Cert.OutProjRefIdeal.nD Cert.OutProjRefIdeal.τ).loc Cert.OutProjRefIdeal.main_arg2)) (m' ((c.tc : Thread Cert.OutProjRefIdeal.nD Cert.OutProjRefIdeal.τ).loc Cert.OutProjRefIdeal.main_arg3)) (m' ((c.tc : Thread Cert.OutProjRefIdeal.nD Cert.OutProjRefIdeal.τ).loc Cert.OutProjRefIdeal.main_arg4)) = (Cert.OutProjIdeal.Gen.dat1 (Cert.OutProjIdeal.Gen.V5 m ρ) c).arrAt 5 Cert.OutProjIdeal.cfg1.N
    ∧ Cert.OutProjRefIdeal.Read.val_main_v17 (F := Ideal) (m' ((c.tc : Thread Cert.OutProjRefIdeal.nD Cert.OutProjRefIdeal.τ).loc Cert.OutProjRefIdeal.main_arg1)) (m' ((c.tc : Thread Cert.OutProjRefIdeal.nD Cert.OutProjRefIdeal.τ).loc Cert.OutProjRefIdeal.main_arg3)) (m' ((c.tc : Thread Cert.OutProjRefIdeal.nD Cert.OutProjRefIdeal.τ).loc Cert.OutProjRefIdeal.main_arg4)) = (Cert.OutProjIdeal.Gen.dat1 (Cert.OutProjIdeal.Gen.V5 m ρ) c).arrAt 6 Cert.OutProjIdeal.cfg1.N := by
  rw [h0, h1, h2, h3, h4, Cert.OutProjKernel.value_xo, Cert.OutProjKernel.value_dy, Cert.OutProjKernel.value_dcat, Cert.OutProjKernel.value_rows]
  refine ⟨?_, ?_, ?_, ?_⟩ <;> funext i
  · have hi : i = ix2 (n0 := 2048) (n1 := 1024) (i 0) (i 1) := by blk_ext
    rw [hi]
    exact Cert.OutProjRef.xo_eq _ _ _ _ (i 0) (i 1)
  · have hi : i = ix2 (n0 := 2048) (n1 := 1024) (i 0) (i 1) := by blk_ext
    rw [hi]
    exact Cert.OutProjRef.dy_eq _ _ (i 0) (i 1)
  · have hi : i = ix2 (n0 := 2048) (n1 := 1024) (i 0) (i 1) := by blk_ext
    rw [hi]
    exact Cert.OutProjRef.dcat_eq _ _ _ (i 0) (i 1)
  · have hi : i = ix2 (n0 := 8) (n1 := 1024) (i 0) (i 1) := by blk_ext
    rw [hi]
    exact Cert.OutProjRef.rows_eq _ _ _ (i 0) (i 1)

theorem value : Cert.algebraic_OutProjIdeal_OutProjRefIdeal := by
  intro m ρ m' ρ' _ hagree
  refine ⟨_, _, _, _, Cert.OutProjKernel.run m ρ, ?_⟩
  refine (θ_run Cert.OutProjRefIdeal.defs _ _).mono (fun _ h c => ?_) (Cert.OutProjRefIdeal.Value.run m' ρ')
  obtain ⟨a0, a1, a2, a3, a4⟩ := hagree c
  obtain ⟨r0, r1, r2, r3⟩ := results m ρ m' c a0 a1 a2 a3 a4
  exact ⟨(h c).1.trans r0, (h c).2.1.trans r1, (h c).2.2.1.trans r2, (h c).2.2.2.1.trans r3, (h c).2.2.2.2⟩

end Cert.OutProj

end
-- ==== Proof.Finite.lean ====
/- Hand-written, untrusted: which extended reals are real numbers, and the host's test of an array for finiteness. -/
module

public import Idealize.ShloMosaic.PureOps.Ideal
public import Idealize.ShloMosaic.Lib.ReduceAll
public import Idealize.ShloMosaic.Lib.Pointwise
public import proofs.«01_k».proof.Proof.Lib

@[expose] public section

noncomputable section

namespace Cert.Lib

open Idealize.ShloMosaic Idealize.ShloMosaic.TcCoe

/-- `x` is a real number. -/
def IsR (x : EReal) : Prop := ∃ r : ℝ, x = r

theorem IsR.coe (r : ℝ) : IsR (r : EReal) := ⟨r, rfl⟩
theorem IsR.zero : IsR (0 : EReal) := ⟨0, rfl⟩
theorem IsR.one : IsR (1 : EReal) := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.neg {x : EReal} (hx : IsR x) : IsR (-x) := by
  obtain ⟨a, rfl⟩ := hx; exact ⟨-a, (EReal.coe_neg a).symm⟩
theorem IsR.sum {ι : Type*} (s : Finset ι) {f : ι → EReal} (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

theorem isR_iff {x : EReal} : IsR x ↔ x ≠ ⊥ ∧ x ≠ ⊤ := by
  constructor
  · rintro ⟨r, rfl⟩; exact ⟨EReal.coe_ne_bot r, EReal.coe_ne_top r⟩
  · rintro ⟨h, h'⟩; exact ⟨x.toReal, (EReal.coe_toReal h' h).symm⟩

/-- The host's test `|x| < ∞` on one element. -/
theorem isR_of_test (x : EReal) (h : Ideal.cmp .olt (max x (-x)) ⊤ = 1#1) : IsR x := by
  rw [isR_iff]
  constructor <;> rintro rfl <;> simp [Ideal.cmp] at h

/-- The host's test of a whole array: the conjunction over every element. -/
theorem isR_of_all {s t u z : Shape} {axes : List (Fin s.rank)} [Subsingleton t.Idx] {dims} (hb : z.BroadcastsInDim s dims) (hr : s.ReducesTo axes t) (hu : 0 < u.numel)
    (x : FVec Ideal s .f32) (j : t.Idx)
    (h : Host.reduce IntOp.andi (cmpf .olt (Host.absf x) (broadcastInDim s dims hb (constant z .f32 0x7F800000#32))) (constantI u 1 1#1) hr hu j = 1#1)
    (i : s.Idx) : IsR (x i) := by
  have := Host.reduce_andi_all _ _ _ _ j h i
  refine isR_of_test _ ?_
  rw [← bits_inf]
  exact this

end Cert.Lib

end
-- ==== Proof.MixSpec.lean ====
/- Hand-written, untrusted: the mathematics of the gradient of the gated mixer, over the rows of its arguments. -/
module

public import proofs.«01_k».proof.Proof.Finite

@[expose] public section

noncomputable section

namespace Cert.MixSpec

open Idealize.ShloMosaic Cert.Lib
open scoped BigOperators

abbrev one : EReal := Ideal.ofBits .f32 0x3F800000#32
abbrev half : EReal := Ideal.ofBits .f32 0x3F000000#32
abbrev b512 : EReal := Ideal.ofBits .f32 0x44000000#32
abbrev eps : EReal := Ideal.ofBits .f32 0x358637BD#32
abbrev gc : EReal := Ideal.ofBits .f32 0x3F4C422A#32
abbrev ga : EReal := ((8943 / 200000 : ℝ) : EReal)
abbrev ga3 : EReal := ((26829 / 200000 : ℝ) : EReal)

theorem bits_512 : b512 = ((512 : ℝ) : EReal) := by
  simp [b512, Ideal.ofBits, Ideal.ieee]; norm_cast; norm_num
theorem bits_3 : Ideal.ofBits .f32 0x40400000#32 = ((3 : ℝ) : EReal) := by
  simp [Ideal.ofBits, Ideal.ieee]; norm_cast; norm_num
theorem bits_gc : ∃ g : ℝ, gc = (g : EReal) :=
  ⟨_, by simp [gc, Ideal.ofBits, Ideal.ieee]; norm_cast⟩

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## The gelu by the hyperbolic tangent, and its derivative -/

def th (x : EReal) : EReal := Ideal.tanh (gc * (x + ga * (x * x) * x))
def ge (x : EReal) : EReal := half * x * (one + th x)
def gd (x : EReal) : EReal := half * (one + th x) + half * x * (one - th x * th x) * (gc * (one + ga3 * (x * x)))

theorem isR_th {x : EReal} (h : IsR x) : IsR (th x) := by
  obtain ⟨a, rfl⟩ := h
  obtain ⟨g, hg⟩ := bits_gc
  refine ⟨Real.tanh (g * (a + 8943 / 200000 * (a * a) * a)), ?_⟩
  unfold th
  rw [hg, ← Ideal.tanh_coe]
  norm_cast

theorem isR_ge {x : EReal} (h : IsR x) : IsR (ge x) := by
  unfold ge one half
  rw [bits_1, bits_half]
  exact (((IsR.coe _).mul h).mul ((IsR.coe _).add (isR_th h)))

theorem isR_gd {x : EReal} (h : IsR x) : IsR (gd x) := by
  obtain ⟨g, hg⟩ := bits_gc
  unfold gd one half
  rw [bits_1, bits_half, hg]
  exact ((IsR.coe _).mul ((IsR.coe _).add (isR_th h))).add ((((IsR.coe _).mul h).mul ((IsR.coe _).sub ((isR_th h).mul (isR_th h)))).mul
    ((IsR.coe _).mul ((IsR.coe _).add ((IsR.coe _).mul (h.mul h)))))

theorem th_ref (x : EReal) : Ideal.tanh (gc * (x + ga * (x * x * x))) = th x := by
  unfold th; rw [mul_assoc ga]

abbrev cn : EReal := Ideal.ofBits .f32 0x460BBC00#32
abbrev cd : EReal := Ideal.ofBits .f32 0x48435000#32
theorem bits_cn : cn = ((8943 : ℝ) : EReal) := by
  simp [cn, Ideal.ofBits, Ideal.ieee]; norm_cast; norm_num
theorem bits_cd : cd = ((200000 : ℝ) : EReal) := by
  simp [cd, Ideal.ofBits, Ideal.ieee]; norm_cast; norm_num

/-- The factor 0.044715 as the fraction it is. -/
theorem cube_div (x : EReal) : Ideal.div (cn * x) cd = ga * x := by
  rw [bits_cn, bits_cd, Ideal.div_coe (by norm_num), mul_assoc, mul_comm x, ← mul_assoc, ← EReal.coe_mul]
  norm_num [ga]
theorem cube_div' (x : EReal) : cn * Ideal.div x cd = ga * x := by
  rw [bits_cn, bits_cd, Ideal.div_coe (by norm_num), mul_comm x, ← mul_assoc, ← EReal.coe_mul]
  norm_num [ga]

theorem th_div (x : EReal) : Ideal.tanh (gc * (x + Ideal.div (cn * (x * x * x)) cd)) = th x := by
  rw [cube_div, th_ref]

theorem ge_ref (x : EReal) : x * (half * (one + th x)) = ge x := by
  unfold ge; ac_rfl

/-- The derivative as differentiation of the reference's lines writes it. -/
theorem ge_grad {x d : EReal} (hx : IsR x) (hd : IsR d) :
    d * (half * (one + th x)) + gc * (half * (x * d) * ((one + th x) * (one - th x)))
        + ga * (gc * (half * (x * d) * ((one + th x) * (one - th x)))) * (Ideal.ofBits .f32 0x40400000#32 * (x * x))
      = d * gd x := by
  obtain ⟨t, ht⟩ := isR_th hx
  obtain ⟨g, hg⟩ := bits_gc
  obtain ⟨x, rfl⟩ := hx
  obtain ⟨d, rfl⟩ := hd
  unfold gd one half
  rw [ht, hg, bits_1, bits_half, bits_3]
  norm_cast
  ring

/-! ## The normalisation of a row, and its gradient -/

def cen (r : Fin 512 → EReal) (k : Fin 512) : EReal := r k - Ideal.div (∑ j, r j) b512
def vr (r : Fin 512 → EReal) : EReal := Ideal.div (∑ k, cen r k * cen r k) b512 + eps
def rs (r : Fin 512 → EReal) : EReal := Ideal.rsqrt (vr r)
def lnx (r : Fin 512 → EReal) (k : Fin 512) : EReal := cen r k * rs r
def dln (r d : Fin 512 → EReal) (k : Fin 512) : EReal :=
  rs r * (d k - Ideal.div (∑ j, d j) b512 - lnx r k * Ideal.div (∑ j, d j * lnx r j) b512)

/-- A row of reals: the centred row and what it is divided by. -/
theorem ln_real {r : Fin 512 → EReal} (h : ∀ k, IsR (r k)) :
    ∃ (c : Fin 512 → ℝ) (v s : ℝ), (∀ k, cen r k = c k) ∧ ∑ k, c k = 0 ∧ vr r = v ∧ v ≠ 0 ∧ rs r = s ∧ 1 / v = s * s := by
  choose r' hr using h
  obtain ⟨e, he, hb⟩ := bits_eps
  have hc : ∀ k, cen r k = ((r' k - (∑ j, r' j) * (1 / 512) : ℝ) : EReal) := fun k => by
    unfold cen
    rw [bits_512, Ideal.div_coe (by norm_num)]
    simp only [hr]
    rw [coe_sum]
    norm_cast
  have hv : vr r = ((((∑ k, (r' k - (∑ j, r' j) * (1 / 512)) * (r' k - (∑ j, r' j) * (1 / 512))) * (1 / 512) + e : ℝ)) : EReal) := by
    unfold vr eps
    rw [bits_512, Ideal.div_coe (by norm_num), hb]
    simp only [hc, ← EReal.coe_mul]
    rw [coe_sum]
    norm_cast
  have hp : 0 < (∑ k, (r' k - (∑ j, r' j) * (1 / 512)) * (r' k - (∑ j, r' j) * (1 / 512))) * (1 / 512) + e := by
    have : 0 ≤ ∑ k, (r' k - (∑ j, r' j) * (1 / 512)) * (r' k - (∑ j, r' j) * (1 / 512)) :=
      Finset.sum_nonneg fun k _ => mul_self_nonneg _
    positivity
  refine ⟨fun k => r' k - (∑ j, r' j) * (1 / 512), (∑ k, (r' k - (∑ j, r' j) * (1 / 512)) * (r' k - (∑ j, r' j) * (1 / 512))) * (1 / 512) + e,
    (Real.sqrt ((∑ k, (r' k - (∑ j, r' j) * (1 / 512)) * (r' k - (∑ j, r' j) * (1 / 512))) * (1 / 512) + e))⁻¹, hc, ?_, hv, hp.ne', ?_, ?_⟩
  · rw [Finset.sum_sub_distrib, Finset.sum_const, Finset.card_univ, Fintype.card_fin, nsmul_eq_mul]
    push_cast
    ring
  · unfold rs
    rw [hv, Ideal.rsqrt_coe, if_neg hp.le.not_gt, if_neg hp.ne']
  · rw [← mul_inv, Real.mul_self_sqrt hp.le, one_div]

theorem isR_cen {r : Fin 512 → EReal} (h : ∀ k, IsR (r k)) (k : Fin 512) : IsR (cen r k) := by
  obtain ⟨c, v, s, hc, -⟩ := ln_real h
  exact ⟨_, hc k⟩
theorem isR_rs {r : Fin 512 → EReal} (h : ∀ k, IsR (r k)) : IsR (rs r) := by
  obtain ⟨c, v, s, hc, -, -, -, hs, -⟩ := ln_real h
  exact ⟨_, hs⟩
theorem isR_lnx {r : Fin 512 → EReal} (h : ∀ k, IsR (r k)) (k : Fin 512) : IsR (lnx r k) := (isR_cen h k).mul (isR_rs h)

theorem isR_dln {r d : Fin 512 → EReal} (h : ∀ k, IsR (r k)) (hd : ∀ k, IsR (d k)) (k : Fin 512) : IsR (dln r d k) := by
  unfold dln
  rw [bits_512, Ideal.div_coe (by norm_num), Ideal.div_coe (by norm_num)]
  exact (isR_rs h).mul (((hd k).sub ((IsR.sum _ fun j _ => hd j).mul (IsR.coe _))).sub
    ((isR_lnx h k).mul ((IsR.sum _ fun j _ => (hd j).mul (isR_lnx h j)).mul (IsR.coe _))))

/-- The coefficient of the centred row in the gradient. -/
def coef (r d : Fin 512 → EReal) : EReal :=
  Ideal.div ((∑ j, cen r j * d j) * (Ideal.ofBits .f32 0xBF000000#32 * Ideal.div (rs r) (vr r))) b512

/-- The gradient as differentiation of the reference's lines writes it. -/
theorem ln_grad {r d : Fin 512 → EReal} (h : ∀ k, IsR (r k)) (hd : ∀ k, IsR (d k)) (k : Fin 512) :
    d k * rs r + coef r d * (Ideal.ofBits .f32 0x40000000#32 * cen r k)
        + Ideal.div ((∑ j, -(d j * rs r)) + ∑ j, -(coef r d * (Ideal.ofBits .f32 0x40000000#32 * cen r j))) b512
      = dln r d k := by
  obtain ⟨c, v, s, hc, h0, hv, hv0, hs, hvs⟩ := ln_real h
  choose d' hd' using hd
  have hA : coef r d = (((∑ j, c j * d' j) * (-(1 / 2) * (s * (s * s))) * (1 / 512) : ℝ) : EReal) := by
    unfold coef
    rw [bits_512, bits_neg_half, hs, hv, Ideal.div_coe hv0, Ideal.div_coe (by norm_num), hvs]
    simp only [hc, hd', ← EReal.coe_mul]
    rw [coe_sum]
    norm_cast
  unfold dln lnx
  rw [hA, bits_2, bits_512, Ideal.div_coe (by norm_num), Ideal.div_coe (by norm_num), Ideal.div_coe (by norm_num)]
  simp only [hc, hd', hs, ← EReal.coe_mul, ← EReal.coe_neg, coe_sum, ← EReal.coe_add, ← EReal.coe_sub]
  congr 1
  have e1 : ∑ j, -(d' j * s) = -(∑ j, d' j) * s := by
    rw [Finset.sum_neg_distrib, neg_mul, Finset.sum_mul]
  have e2 : ∑ j, -((∑ i, c i * d' i) * (-(1 / 2) * (s * (s * s))) * (1 / 512) * (2 * c j)) = 0 := by
    rw [Finset.sum_neg_distrib, ← Finset.mul_sum, ← Finset.mul_sum, h0]; ring
  have e3 : ∑ j, d' j * (c j * s) = (∑ j, c j * d' j) * s := by
    rw [Finset.sum_mul]; exact Finset.sum_congr rfl fun j _ => by ring
  rw [e1, e2, e3]
  ring

/-! ## The rows and the columns of the arguments -/

def c0 (k : Fin 512) : Fin 2560 := ⟨k.val, by omega⟩
def c1 (k : Fin 512) : Fin 2560 := ⟨512 + k.val, by omega⟩
def c2 (k : Fin 512) : Fin 2560 := ⟨1024 + k.val, by omega⟩
def c3 (k : Fin 512) : Fin 2560 := ⟨1536 + k.val, by omega⟩
def c4 (k : Fin 512) : Fin 2560 := ⟨2048 + k.val, by omega⟩
def a0 (k : Fin 512) : Fin 1024 := ⟨k.val, by omega⟩
def a1 (k : Fin 512) : Fin 1024 := ⟨512 + k.val, by omega⟩

/-- Row `i` of chunk `n`; the chunk of a row, its place there; the head of a column. -/
def cr (n : Fin 16) (i : Fin 128) : Fin 2048 := ⟨128 * n.val + i.val, by omega⟩
def ck (s : Fin 2048) : Fin 16 := ⟨s.val / 128, by omega⟩
def pl (s : Fin 2048) : Fin 128 := ⟨s.val % 128, by omega⟩
def hc (h : Fin 4) (d : Fin 128) : Fin 512 := ⟨128 * h.val + d.val, by omega⟩
def hd (k : Fin 512) : Fin 4 := ⟨k.val / 128, by omega⟩
def ln (k : Fin 512) : Fin 128 := ⟨k.val % 128, by omega⟩

variable (P : Fin 2048 → Fin 2560 → EReal) (C : Fin 2048 → Fin 1024 → EReal) (nv : Fin 512 → EReal)
  (w : Fin 4 → Fin 128 → Fin 128 → EReal) (b : Fin 4 → Fin 128 → EReal) (cw : Fin 3 → Fin 512 → EReal)

/-- The gelu of the second part of a row, the normalised row, the scaled one. -/
def gv (s : Fin 2048) (k : Fin 512) : EReal := ge (P s (c1 k))
def xh (s : Fin 2048) (k : Fin 512) : EReal := lnx (gv P s) k
def vn (s : Fin 2048) (k : Fin 512) : EReal := xh P s k * nv k
/-- The lower triangle of a head's matrix. -/
def wm (h : Fin 4) (i j : Fin 128) : EReal := if j ≤ i then w h i j else 0
def zz (s : Fin 2048) (k : Fin 512) : EReal := (∑ j, wm w (hd k) (pl s) j * vn P nv (cr (ck s) j) k) + b (hd k) (pl s)
def dz (s : Fin 2048) (k : Fin 512) : EReal := C s (a0 k) * ge (P s (c0 k))
def du (s : Fin 2048) (k : Fin 512) : EReal := C s (a0 k) * zz P nv w b s k * gd (P s (c0 k))
def dvn (s : Fin 2048) (k : Fin 512) : EReal := ∑ i, wm w (hd k) i (pl s) * dz P C (cr (ck s) i) k
def dxh (s : Fin 2048) (k : Fin 512) : EReal := dvn P C w s k * nv k
def dv (s : Fin 2048) (k : Fin 512) : EReal := dln (gv P s) (dxh P C nv w s) k * gd (P s (c1 k))

/-- An array moved down, or up, by some rows, zeros moving in. -/
def dn (n : Nat) (q : Fin 2048 → Fin 512 → EReal) (s : Fin 2048) (k : Fin 512) : EReal :=
  if n ≤ s.val then q ⟨s.val - n, by omega⟩ k else 0
def up (n : Nat) (q : Fin 2048 → Fin 512 → EReal) (s : Fin 2048) (k : Fin 512) : EReal :=
  if h : s.val + n < 2048 then q ⟨s.val + n, h⟩ k else 0

def qq (s : Fin 2048) (k : Fin 512) : EReal := P s (c3 k) * P s (c4 k)
def ee (s : Fin 2048) (k : Fin 512) : EReal := C s (a1 k) * P s (c2 k)
def conv (s : Fin 2048) (k : Fin 512) : EReal := cw 0 k * dn 2 (qq P) s k + cw 1 k * dn 1 (qq P) s k + cw 2 k * qq P s k
def dq (s : Fin 2048) (k : Fin 512) : EReal := cw 2 k * ee P C s k + cw 1 k * up 1 (ee P C) s k + cw 0 k * up 2 (ee P C) s k

/-- The five results. -/
def dp (s : Fin 2048) (f : Fin 2560) : EReal :=
  if h : f.val < 512 then du P C nv w b s ⟨f.val, h⟩
  else if h : f.val < 1024 then dv P C nv w s ⟨f.val - 512, by omega⟩
  else if h : f.val < 1536 then C s (a1 ⟨f.val - 1024, by omega⟩) * conv P cw s ⟨f.val - 1024, by omega⟩
  else if h : f.val < 2048 then dq P C cw s ⟨f.val - 1536, by omega⟩ * P s (c4 ⟨f.val - 1536, by omega⟩)
  else dq P C cw s ⟨f.val - 2048, by omega⟩ * P s (c3 ⟨f.val - 2048, by omega⟩)
def dnv (k : Fin 512) : EReal := ∑ n, ∑ i, dvn P C w (cr n i) k * xh P (cr n i) k
def dws (h : Fin 4) (i j : Fin 128) : EReal := if j ≤ i then ∑ n, ∑ d, dz P C (cr n i) (hc h d) * vn P nv (cr n j) (hc h d) else 0
def dzs (i : Fin 128) (k : Fin 512) : EReal := ∑ n, dz P C (cr n i) k
def dcw (r : Fin 3) (k : Fin 512) : EReal := ∑ s, ee P C s k * (if r.val = 2 then qq P s k else dn (2 - r.val) (qq P) s k)

/-! ## Every one is a real when the arguments are -/

variable {P C nv w b cw}

theorem isR_gv (hP : ∀ s f, IsR (P s f)) (s k) : IsR (gv P s k) := isR_ge (hP _ _)
theorem isR_xh (hP : ∀ s f, IsR (P s f)) (s k) : IsR (xh P s k) := isR_lnx (isR_gv hP s) k
theorem isR_vn (hP : ∀ s f, IsR (P s f)) (hn : ∀ k, IsR (nv k)) (s k) : IsR (vn P nv s k) := (isR_xh hP s k).mul (hn k)
theorem isR_wm (hw : ∀ h i j, IsR (w h i j)) (h i j) : IsR (wm w h i j) := by
  unfold wm; split_ifs; exacts [hw h i j, IsR.zero]
theorem isR_zz (hP : ∀ s f, IsR (P s f)) (hn : ∀ k, IsR (nv k)) (hw : ∀ h i j, IsR (w h i j)) (hb : ∀ h i, IsR (b h i)) (s k) :
    IsR (zz P nv w b s k) := (IsR.sum _ fun j _ => (isR_wm hw _ _ _).mul (isR_vn hP hn _ _)).add (hb _ _)
theorem isR_dz (hP : ∀ s f, IsR (P s f)) (hC : ∀ s f, IsR (C s f)) (s k) : IsR (dz P C s k) := (hC _ _).mul (isR_ge (hP _ _))
theorem isR_dvn (hP : ∀ s f, IsR (P s f)) (hC : ∀ s f, IsR (C s f)) (hw : ∀ h i j, IsR (w h i j)) (s k) : IsR (dvn P C w s k) :=
  IsR.sum _ fun i _ => (isR_wm hw _ _ _).mul (isR_dz hP hC _ _)
theorem isR_dxh (hP : ∀ s f, IsR (P s f)) (hC : ∀ s f, IsR (C s f)) (hn : ∀ k, IsR (nv k)) (hw : ∀ h i j, IsR (w h i j)) (s k) :
    IsR (dxh P C nv w s k) := (isR_dvn hP hC hw s k).mul (hn k)

/-- A sum over the rows, chunk by chunk. -/
theorem sum_chunks (f : Fin 2048 → EReal) : ∑ n, ∑ i, f (cr n i) = ∑ s, f s := by
  have h : ∑ n : Fin 16, ∑ i : Fin 128, f ⟨n.val * 128 + i.val, by omega⟩ = ∑ s, f s :=
    Fin.sum_mul_add_congr (S := 16) (F := fun n i => f ⟨n.val * 128 + i.val, by omega⟩) fun s k hl => rfl
  rw [← h]
  exact Finset.sum_congr rfl fun n _ => Finset.sum_congr rfl fun i _ => congrArg f (Fin.ext (by simp only [cr]; omega))

end Cert.MixSpec

end
-- ==== Proof.MixBlk.lean ====
/- Hand-written, untrusted: what the blocks of the gated mixer's gradient kernel hold, and the vectors it makes of them. -/
module

public import proofs.«01_k».proof.Proof.Gen.MixIdeal.Value
public import proofs.«01_k».proof.Proof.MixSpec
public import Idealize.ShloMosaic.Lib.Pointwise
public import Idealize.ShloMosaic.Lib.Pipeline.ReadBack
public import Idealize.ShloMosaic.Lib.Pipeline.ValueKit.Acc

@[expose] public section

set_option maxRecDepth 16384

noncomputable section

namespace Cert.MixKernel

open Cert.MixIdeal Cert.MixIdeal.Gen Idealize.ShloMosaic Idealize.ShloMosaic.TcCoe Idealize.SL.Sem Cert.Lib Cert.MixSpec
open Idealize.ShloMosaic.Pipeline (Dat)
open scoped BigOperators

variable (m : (ℓ : Loc nD τ sig) → Buf (Elt Ideal) ℓ)

/-- The rows of the arguments. -/
def P (c : Dev nD) (s : Fin 2048) (f : Fin 2560) : EReal := m ((c : Thread nD τ).loc main_arg0) (ix3 0 s f)
def C (c : Dev nD) (s : Fin 2048) (f : Fin 1024) : EReal := m ((c : Thread nD τ).loc main_arg1) (ix3 0 s f)
def NV (c : Dev nD) (k : Fin 512) : EReal := m ((c : Thread nD τ).loc main_arg2) (ix1 k)
def W (c : Dev nD) (h : Fin 4) (i j : Fin 128) : EReal := m ((c : Thread nD τ).loc main_arg3) (ix3 h i j)
def B (c : Dev nD) (h : Fin 4) (i : Fin 128) : EReal := m ((c : Thread nD τ).loc main_arg4) (ix2 h i)
def CW (c : Dev nD) (r : Fin 3) (k : Fin 512) : EReal := m ((c : Thread nD τ).loc main_arg5) (ix2 r k)

theorem idx : ∀ t : Fin cfg0.N, win0_0.index t = ![t.val, 0] ∧ win0_1.index t = ![64 * t.val - 1, 0]
    ∧ win0_2.index t = ![min (64 * t.val + 64) 255, 0] ∧ win0_3.index t = ![t.val, 0] ∧ win0_4.index t = ![min (32 * t.val + 32) 127, 0]
    ∧ win0_5.index t = ![0, 0] ∧ win0_6.index t = ![0, 0, 0] ∧ win0_7.index t = ![0, 0]
    ∧ win0_8.index t = ![0, 0] ∧ win0_9.index t = ![t.val, 0] ∧ win0_10.index t = ![0, 0]
    ∧ win0_11.index t = ![0, 0, 0] ∧ win0_12.index t = ![0, 0] ∧ win0_13.index t = ![0, 0] :=
  (by decide +kernel : ∀ t : Fin grid0.N, _)

theorem lt4 (t : Fin cfg0.N) : t.val < 4 := lt_of_lt_of_eq t.isLt N_0

/-- The row of the arrays that row `s` of step `t`'s blocks is; the rows of the blocks above and below. -/
def row (t : Fin cfg0.N) (s : Fin 512) : Fin 2048 := ⟨512 * t.val + s.val, by have := lt4 t; omega⟩
def above (t : Fin cfg0.N) (s : Fin 8) : Fin 2048 := ⟨8 * (64 * t.val - 1) + s.val, by have := lt4 t; omega⟩
def below (t : Fin cfg0.N) (s : Fin 8) : Fin 2048 := ⟨8 * min (64 * t.val + 64) 255 + s.val, by have := lt4 t; omega⟩
def belowc (t : Fin cfg0.N) (s : Fin 16) : Fin 2048 := ⟨16 * min (32 * t.val + 32) 127 + s.val, by have := lt4 t; omega⟩

/-! The host's arrays. -/

theorem V_v4 (c : Dev nD) : V m c main_v4 = shapeCast S2048x2560 (m ((c : Thread nD τ).loc main_arg0)) shapeCasts_S1x2048x2560_S2048x2560 := by
  unfold V
  simp only [hostOps0, List.flatten_cons, List.flatten_nil, List.cons_append, List.nil_append, List.append_nil]
  after_results
  try rfl
theorem V_v6 (c : Dev nD) : V m c main_v6 = truncf (F := Ideal) .bf16 (shapeCast S2048x1024 (m ((c : Thread nD τ).loc main_arg1)) shapeCasts_S1x2048x1024_S2048x1024) bitsLt_bf16_f32 := by
  unfold V
  simp only [hostOps0, List.flatten_cons, List.flatten_nil, List.cons_append, List.nil_append, List.append_nil]
  after_results
  try rfl
theorem V_v7 (c : Dev nD) : V m c main_v7 = shapeCast S1x512 (m ((c : Thread nD τ).loc main_arg2)) shapeCasts_S512_S1x512 := by
  unfold V
  simp only [hostOps0, List.flatten_cons, List.flatten_nil, List.cons_append, List.nil_append, List.append_nil]
  after_results
  try rfl
theorem V_a3 (c : Dev nD) : V m c main_arg3 = m ((c : Thread nD τ).loc main_arg3) := by
  unfold V
  simp only [hostOps0, List.flatten_cons, List.flatten_nil, List.cons_append, List.nil_append, List.append_nil]
  after_results
  try rfl
theorem V_a5 (c : Dev nD) : V m c main_arg5 = m ((c : Thread nD τ).loc main_arg5) := by
  unfold V
  simp only [hostOps0, List.flatten_cons, List.flatten_nil, List.cons_append, List.nil_append, List.append_nil]
  after_results
  try rfl
theorem V_v3 (c : Dev nD) : V m c main_v3 = shapeCast S128x512 (broadcastInDim S128x4x128 ![0, 1, 2] bcast_S128x4x1_S128x4x128_0_1_2
    (broadcastInDim S128x4x1 ![0, 1] bcast_S128x4_S128x4x1_0_1 (transpose S128x4 [1, 0] (m ((c : Thread nD τ).loc main_arg4)) transposes_S4x128_S128x4_1_0)))
    shapeCasts_S128x4x128_S128x512 := by
  unfold V
  simp only [hostOps0, List.flatten_cons, List.flatten_nil, List.cons_append, List.nil_append, List.append_nil]
  after_results
  try rfl

theorem flat_p (f : (⟨S1x2048x2560, .f32⟩ : BufTy).Contents (Elt Ideal)) (s : Fin 2048) (k : Fin 2560) :
    shapeCast S2048x2560 f shapeCasts_S1x2048x2560_S2048x2560 (ix2 s k) = f (ix3 0 s k) := by
  pointwise
theorem flat_c (f : (⟨S1x2048x1024, .f32⟩ : BufTy).Contents (Elt Ideal)) (s : Fin 2048) (k : Fin 1024) :
    truncf (F := Ideal) .bf16 (shapeCast S2048x1024 f shapeCasts_S1x2048x1024_S2048x1024) bitsLt_bf16_f32 (ix2 s k) = f (ix3 0 s k) := by
  pointwise
theorem flat_n (f : (⟨S512, .f32⟩ : BufTy).Contents (Elt Ideal)) (k : Fin 512) :
    shapeCast S1x512 f shapeCasts_S512_S1x512 (ix2 0 k) = f (ix1 k) := by
  pointwise
theorem flat_b (f : (⟨S4x128, .f32⟩ : BufTy).Contents (Elt Ideal)) (i : Fin 128) (k : Fin 512) :
    shapeCast S128x512 (broadcastInDim S128x4x128 ![0, 1, 2] bcast_S128x4x1_S128x4x128_0_1_2
      (broadcastInDim S128x4x1 ![0, 1] bcast_S128x4_S128x4x1_0_1 (transpose S128x4 [1, 0] f transposes_S4x128_S128x4_1_0)))
      shapeCasts_S128x4x128_S128x512 (ix2 i k) = f (ix2 (hd k) i) := by
  pointwise [hd]

/-! What each window's block holds. -/

theorem emb_p (t : Fin cfg0.N) (s : Fin 512) (k : Fin 2560) :
    ((View.whole main_v4).slice (win0_0.rect t)).emb (ix2 s k) = ix2 (row t s) k := by blk_ext [idx t, row]
theorem emb_a (t : Fin cfg0.N) (s : Fin 8) (k : Fin 2560) :
    ((View.whole main_v4).slice (win0_1.rect t)).emb (ix2 s k) = ix2 (above t s) k := by blk_ext [idx t, above]
theorem emb_d (t : Fin cfg0.N) (s : Fin 8) (k : Fin 2560) :
    ((View.whole main_v4).slice (win0_2.rect t)).emb (ix2 s k) = ix2 (below t s) k := by blk_ext [idx t, below]
theorem emb_c (t : Fin cfg0.N) (s : Fin 512) (k : Fin 1024) :
    ((View.whole main_v6).slice (win0_3.rect t)).emb (ix2 s k) = ix2 (row t s) k := by blk_ext [idx t, row]
theorem emb_cb (t : Fin cfg0.N) (s : Fin 16) (k : Fin 1024) :
    ((View.whole main_v6).slice (win0_4.rect t)).emb (ix2 s k) = ix2 (belowc t s) k := by blk_ext [idx t, belowc]
theorem emb_n (t : Fin cfg0.N) (k : Fin 512) :
    ((View.whole main_v7).slice (win0_5.rect t)).emb (ix2 0 k) = ix2 0 k := by blk_ext [idx t]
theorem emb_w (t : Fin cfg0.N) (h : Fin 4) (i j : Fin 128) :
    ((View.whole main_arg3).slice (win0_6.rect t)).emb (ix3 h i j) = ix3 h i j := by blk_ext [idx t]
theorem emb_b (t : Fin cfg0.N) (i : Fin 128) (k : Fin 512) :
    ((View.whole main_v3).slice (win0_7.rect t)).emb (ix2 i k) = ix2 i k := by blk_ext [idx t]
theorem emb_cw (t : Fin cfg0.N) (r : Fin 3) (k : Fin 512) :
    ((View.whole main_arg5).slice (win0_8.rect t)).emb (ix2 r k) = ix2 r k := by blk_ext [idx t]

theorem blk_p (c : Dev nD) (t : Fin cfg0.N) (s : Fin 512) (k : Fin 2560) : iblk m c 0 t (ix2 s k) = P m c (row t s) k := by
  change V m c main_v4 (((View.whole main_v4).slice (win0_0.rect t)).emb (ix2 s k)) = _
  rw [V_v4, emb_p, flat_p]; rfl
theorem blk_a (c : Dev nD) (t : Fin cfg0.N) (s : Fin 8) (k : Fin 2560) : iblk m c 1 t (ix2 s k) = P m c (above t s) k := by
  change V m c main_v4 (((View.whole main_v4).slice (win0_1.rect t)).emb (ix2 s k)) = _
  rw [V_v4, emb_a, flat_p]; rfl
theorem blk_d (c : Dev nD) (t : Fin cfg0.N) (s : Fin 8) (k : Fin 2560) : iblk m c 2 t (ix2 s k) = P m c (below t s) k := by
  change V m c main_v4 (((View.whole main_v4).slice (win0_2.rect t)).emb (ix2 s k)) = _
  rw [V_v4, emb_d, flat_p]; rfl
theorem blk_c (c : Dev nD) (t : Fin cfg0.N) (s : Fin 512) (k : Fin 1024) : iblk m c 3 t (ix2 s k) = C m c (row t s) k := by
  change V m c main_v6 (((View.whole main_v6).slice (win0_3.rect t)).emb (ix2 s k)) = _
  rw [V_v6, emb_c, flat_c]; rfl
theorem blk_cb (c : Dev nD) (t : Fin cfg0.N) (s : Fin 16) (k : Fin 1024) : iblk m c 4 t (ix2 s k) = C m c (belowc t s) k := by
  change V m c main_v6 (((View.whole main_v6).slice (win0_4.rect t)).emb (ix2 s k)) = _
  rw [V_v6, emb_cb, flat_c]; rfl
theorem blk_n (c : Dev nD) (t : Fin cfg0.N) (k : Fin 512) : iblk m c 5 t (ix2 0 k) = NV m c k := by
  change V m c main_v7 (((View.whole main_v7).slice (win0_5.rect t)).emb (ix2 0 k)) = _
  rw [V_v7, emb_n, flat_n]; rfl
theorem blk_w (c : Dev nD) (t : Fin cfg0.N) (h : Fin 4) (i j : Fin 128) : iblk m c 6 t (ix3 h i j) = W m c h i j := by
  change V m c main_arg3 (((View.whole main_arg3).slice (win0_6.rect t)).emb (ix3 h i j)) = _
  rw [V_a3, emb_w]; rfl
theorem blk_b (c : Dev nD) (t : Fin cfg0.N) (i : Fin 128) (k : Fin 512) : iblk m c 7 t (ix2 i k) = B m c (hd k) i := by
  change V m c main_v3 (((View.whole main_v3).slice (win0_7.rect t)).emb (ix2 i k)) = _
  rw [V_v3, emb_b, flat_b]; rfl
theorem blk_cw (c : Dev nD) (t : Fin cfg0.N) (r : Fin 3) (k : Fin 512) : iblk m c 8 t (ix2 r k) = CW m c r k := by
  change V m c main_arg5 (((View.whole main_arg5).slice (win0_8.rect t)).emb (ix2 r k)) = _
  rw [V_a5, emb_cw]; rfl

/-! ## The vectors, at an element -/

theorem gelu_cube : (Named.named κ "gelu_cube" (0x3D372713#32 : BitVec (FTy.bits .f32)) : Ideal .f32) = ga :=
  IdealRules.named_const.ideal_named_scalar _ _ _ _ rfl
theorem gelu_cube_3 : (Named.named κ "gelu_cube_3" (0x3E095D4F#32 : BitVec (FTy.bits .f32)) : Ideal .f32) = ga3 :=
  IdealRules.named_const.ideal_named_scalar _ _ _ _ rfl

theorem pay11_at (X : FVec Ideal S512x512 .f32) (s k : Fin 512) : k0_pay11 (F := Ideal) X (ix2 s k) = ge (X (ix2 s k)) := by
  simp only [ge, th]
  rw [← gelu_cube]
  pointwise [k0_pay8, k0_pay9, k0_pay10, k0_pay11]
theorem pay12_at (X : FVec Ideal S512x512 .f32) (s k : Fin 512) : k0_pay12 (F := Ideal) X (ix2 s k) = gd (X (ix2 s k)) := by
  simp only [gd, th]
  rw [← gelu_cube, ← gelu_cube_3]
  pointwise [k0_pay8, k0_pay9, k0_pay10, k0_pay12]
theorem pay16_at (X : FVec Ideal S512x512 .f32) (s k : Fin 512) : k0_pay16 (F := Ideal) (k0_pay13 X) (k0_pay14 X) (ix2 s k) = gd (X (ix2 s k)) := by
  simp only [gd, th]
  rw [← gelu_cube, ← gelu_cube_3]
  pointwise [k0_pay13, k0_pay14, k0_pay15, k0_pay16]
theorem pay17_at (X : FVec Ideal S512x512 .f32) (s k : Fin 512) :
    k0_pay17 (F := Ideal) (k0_pay13 X) (k0_pay14 X) (ix2 s k) = cen (fun j => ge (X (ix2 s j))) k := by
  simp only [cen, ge, th]
  rw [← gelu_cube]
  pointwise [k0_pay13, k0_pay14, k0_pay15, k0_pay17]
theorem pay18_at (X : FVec Ideal S512x512 .f32) (s : Fin 512) :
    k0_pay18 (F := Ideal) (k0_pay13 X) (k0_pay14 X) (ix2 s 0) = rs (fun j => ge (X (ix2 s j))) := by
  simp only [rs, vr, ← pay17_at]
  pointwise [k0_pay18]

end Cert.MixKernel

end
-- ==== Proof.MixKernel.lean ====
/- Hand-written, untrusted: what the gated mixer's gradient kernel leaves in its results, block by block. -/
module

public import proofs.«01_k».proof.Proof.MixBlk

@[expose] public section

set_option maxRecDepth 16384

noncomputable section

namespace Cert.MixKernel

open Cert.MixIdeal Cert.MixIdeal.Gen Idealize.ShloMosaic Idealize.ShloMosaic.TcCoe Idealize.SL.Sem Cert.Lib Cert.MixSpec
open Idealize.ShloMosaic.Pipeline (Dat)
open scoped BigOperators

variable (m : (ℓ : Loc nD τ sig) → Buf (Elt Ideal) ℓ)

/-! ## Pieces of a block -/

/-- Where the last piece lies, the block is the piece; elsewhere, what the earlier pieces left. -/
theorem peel {Val : EltTy → Type} [∀ e, Nonempty (Val e)] {s : Shape} {e : EltTy} (G : s.Idx → Val e) (y : s.Idx) (r : Rect s)
    (w : r.shape.Idx → Val e) (L : List (View.Piece Val s e)) (hw : ∀ x : r.shape.Idx, w x = G (r.emb x))
    (hn : y ∉ r.set → View.canon L y = G y) : View.canon (⟨r, w⟩ :: L) y = G y := by
  by_cases h : y ∈ r.set
  · obtain ⟨x, rfl⟩ := r.exists_idx_of_mem h
    rw [show r.idx x = r.emb x from rfl, View.canon_cons_emb, hw]
  · rw [View.canon_cons_of_not_mem _ _ h, hn h]

theorem drop {Val : EltTy → Type} [∀ e, Nonempty (Val e)] {s : Shape} {e : EltTy} (G : s.Idx → Val e) (y : s.Idx) (r : Rect s)
    (w : r.shape.Idx → Val e) (L : List (View.Piece Val s e)) (h : y ∉ r.set) (hn : View.canon L y = G y) :
    View.canon (⟨r, w⟩ :: L) y = G y := by
  rw [View.canon_cons_of_not_mem _ _ h, hn]

theorem two (a b : Nat) (x : (⟨2, ![a, b]⟩ : Shape).Idx) : ∃ (i : Fin a) (j : Fin b), x = ix2 i j := ⟨x 0, x 1, by blk_ext⟩

theorem emb2 {a b n0 n1 : Nat} (o p : Nat)
    (h : ∀ x, (![o, p] : Fin 2 → Nat) x + (![n0, n1] : Fin 2 → Nat) x ≤ (⟨2, ![a, b]⟩ : Shape).size x) (i : Fin n0) (j : Fin n1)
    (h0 : o + i.val < a) (h1 : p + j.val < b) :
    (Rect.unit (s := ⟨2, ![a, b]⟩) ![o, p] ![n0, n1] h).emb (ix2 i j) = ix2 ⟨o + i.val, h0⟩ ⟨p + j.val, h1⟩ := by
  blk_ext

theorem emb2z {a b n0 n1 : Nat} (p : Nat)
    (h : ∀ x, (![0, p] : Fin 2 → Nat) x + (![n0, n1] : Fin 2 → Nat) x ≤ (⟨2, ![a, b]⟩ : Shape).size x) (i : Fin n0) (j : Fin n1)
    (h0 : i.val < a) (h1 : p + j.val < b) :
    (Rect.unit (s := ⟨2, ![a, b]⟩) ![0, p] ![n0, n1] h).emb (ix2 i j) = ix2 ⟨i.val, h0⟩ ⟨p + j.val, h1⟩ := by
  blk_ext

theorem emb3 (o : Fin 4) (h : ∀ x, (![o.val, 0, 0] : Fin 3 → Nat) x + (![1, 128, 128] : Fin 3 → Nat) x ≤ S4x128x128.size x) (i j : Fin 128) :
    (Rect.unit (s := S4x128x128) ![o.val, 0, 0] ![1, 128, 128] h).emb (ix3 0 i j) = ix3 o i j := by
  blk_ext

theorem ld2_at {e : EltTy} {a b n0 n1 : Nat} (X : (⟨2, ![a, b]⟩ : Shape).Idx → Elt Ideal e) (o p : Nat)
    (h : ∀ x, (![o, p] : Fin 2 → Nat) x + (![n0, n1] : Fin 2 → Nat) x ≤ (⟨2, ![a, b]⟩ : Shape).size x) (i : Fin n0) (j : Fin n1)
    (h0 : o + i.val < a) (h1 : p + j.val < b) :
    View.ld X (Rect.unit ![o, p] ![n0, n1] h) (ix2 i j) = X (ix2 ⟨o + i.val, h0⟩ ⟨p + j.val, h1⟩) :=
  congrArg X (emb2 o p h i j h0 h1)

theorem sl_at {e : EltTy} (X : S512x512.Idx → Elt Ideal e) (o p : Nat) (h) (i j : Fin 128) (h0 : o + i.val < 512) (h1 : p + j.val < 512) :
    extractStridedSlice S128x128 ![o, p] X h (ix2 i j) = X (ix2 ⟨o + i.val, h0⟩ ⟨p + j.val, h1⟩) := by
  refine congrArg X ?_
  blk_ext <;> rfl

/-- A part of the block's rows of the two long arguments. -/
abbrev LP (c : Dev nD) (t : Fin cfg0.N) (o : Nat) (h : ∀ a, (![0, o] : Fin 2 → Nat) a + (![512, 512] : Fin 2 → Nat) a ≤ S512x2560.size a) :
    FVec Ideal S512x512 .f32 := View.ld (iblk m c 0 t) (Rect.unit ![0, o] ![512, 512] h)
abbrev LC (c : Dev nD) (t : Fin cfg0.N) (o : Nat) (h : ∀ a, (![0, o] : Fin 2 → Nat) a + (![512, 512] : Fin 2 → Nat) a ≤ S512x1024.size a) :
    FVec Ideal S512x512 .bf16 := View.ld (iblk m c 3 t) (Rect.unit ![0, o] ![512, 512] h)

theorem lp_at (c : Dev nD) (t : Fin cfg0.N) (o : Nat) (h) (s k : Fin 512) (ho : o + k.val < 2560) : LP m c t o h (ix2 s k) = P m c (row t s) ⟨o + k.val, ho⟩ := by
  unfold LP
  rw [ld2_at _ _ _ _ _ _ (by omega) ho, blk_p]
  congr 1; exact Fin.ext (by simp [row])
theorem lc_at (c : Dev nD) (t : Fin cfg0.N) (o : Nat) (h) (s k : Fin 512) (ho : o + k.val < 1024) : LC m c t o h (ix2 s k) = C m c (row t s) ⟨o + k.val, ho⟩ := by
  unfold LC
  rw [ld2_at _ _ _ _ _ _ (by omega) ho, blk_c]
  congr 1; exact Fin.ext (by simp [row])

theorem dy_at (c : Dev nD) (t : Fin cfg0.N) (h h' h'') (s k : Fin 512) :
    extf (F := Ideal) .f32 (shapeCast S512x512 (LC m c t 0 h) h') h'' (ix2 s k) = C m c (row t s) (a0 k) := by
  rw [show C m c (row t s) (a0 k) = LC m c t 0 h (ix2 s k) from ?_]
  · generalize LC m c t 0 h = D
    pointwise
  · rw [lc_at _ _ _ _ _ _ _ (by omega)]
    congr 1; exact Fin.ext (by simp [a0])

theorem dz_at (c : Dev nD) (t : Fin cfg0.N) (h h' h'' h3 h4) (s k : Fin 512) :
    truncf (F := Ideal) .bf16 (mulf (extf .f32 (shapeCast S512x512 (LC m c t 0 h) h') h'') (k0_pay11 (LP m c t 0 h3))) h4 (ix2 s k)
      = dz (P m c) (C m c) (row t s) k := by
  have e : P m c (row t s) (c0 k) = LP m c t 0 h3 (ix2 s k) := by
    rw [lp_at _ _ _ _ _ _ _ (by omega)]; congr 1; exact Fin.ext (by simp [c0])
  unfold dz
  rw [← dy_at m c t h h' h'', e, ← pay11_at]
  rfl

theorem cover_128 (y : S128x512.Idx) (h0 h1 h2 h3) (n3 : y ∉ (Rect.unit (s := S128x512) ![0, 384] ![128, 128] h3).set)
    (n2 : y ∉ (Rect.unit (s := S128x512) ![0, 256] ![128, 128] h2).set) (n1 : y ∉ (Rect.unit (s := S128x512) ![0, 128] ![128, 128] h1).set)
    (n0 : y ∉ (Rect.unit (s := S128x512) ![0, 0] ![128, 128] h0).set) : False := by
  obtain ⟨i, k, rfl⟩ := two 128 512 y
  rw [Rect.mem_set_unit, Fin.forall_fin_two] at n0 n1 n2 n3
  have hi := i.isLt
  have hk := k.isLt
  have e0 : ((ix2 i k : S128x512.Idx) 0).val = i.val := rfl
  have e1 : ((ix2 i k : S128x512.Idx) 1).val = k.val := rfl
  simp only [e0, e1, Matrix.cons_val_zero, Matrix.cons_val_one, Matrix.cons_val_fin_one] at n0 n1 n2 n3
  omega

theorem cover_1 (y : S1x512.Idx) (h0 h1 h2 h3) (n3 : y ∉ (Rect.unit (s := S1x512) ![0, 384] ![1, 128] h3).set)
    (n2 : y ∉ (Rect.unit (s := S1x512) ![0, 256] ![1, 128] h2).set) (n1 : y ∉ (Rect.unit (s := S1x512) ![0, 128] ![1, 128] h1).set)
    (n0 : y ∉ (Rect.unit (s := S1x512) ![0, 0] ![1, 128] h0).set) : False := by
  obtain ⟨i, k, rfl⟩ := two 1 512 y
  rw [Rect.mem_set_unit, Fin.forall_fin_two] at n0 n1 n2 n3
  have hi := i.isLt
  have hk := k.isLt
  have e0 : ((ix2 i k : S1x512.Idx) 0).val = i.val := rfl
  have e1 : ((ix2 i k : S1x512.Idx) 1).val = k.val := rfl
  simp only [e0, e1, Matrix.cons_val_zero, Matrix.cons_val_one, Matrix.cons_val_fin_one] at n0 n1 n2 n3
  omega

/-- Four heads' columns, each written four times: the last writing of each stays. -/
theorem heads_128 {Val : EltTy → Type} [∀ e, Nonempty (Val e)] {e : EltTy} (G : S128x512.Idx → Val e) (y : S128x512.Idx) (r3 r2 r1 r0) (w30 w31 w32 w33 w20 w21 w22 w23 w10 w11 w12 w13 w00 w01 w02 w03)
    (L : List (View.Piece Val S128x512 e))
    (p3 : ∀ x, w30 x = G ((Rect.unit (s := S128x512) ![0, 384] ![128, 128] r3).emb x))
    (p2 : ∀ x, w20 x = G ((Rect.unit (s := S128x512) ![0, 256] ![128, 128] r2).emb x))
    (p1 : ∀ x, w10 x = G ((Rect.unit (s := S128x512) ![0, 128] ![128, 128] r1).emb x))
    (p0 : ∀ x, w00 x = G ((Rect.unit (s := S128x512) ![0, 0] ![128, 128] r0).emb x)) :
    View.canon (⟨Rect.unit (s := S128x512) ![0, 384] ![128, 128] r3, w30⟩ :: ⟨Rect.unit (s := S128x512) ![0, 384] ![128, 128] r3, w31⟩ :: ⟨Rect.unit (s := S128x512) ![0, 384] ![128, 128] r3, w32⟩ :: ⟨Rect.unit (s := S128x512) ![0, 384] ![128, 128] r3, w33⟩ ::
      ⟨Rect.unit (s := S128x512) ![0, 256] ![128, 128] r2, w20⟩ :: ⟨Rect.unit (s := S128x512) ![0, 256] ![128, 128] r2, w21⟩ :: ⟨Rect.unit (s := S128x512) ![0, 256] ![128, 128] r2, w22⟩ :: ⟨Rect.unit (s := S128x512) ![0, 256] ![128, 128] r2, w23⟩ ::
      ⟨Rect.unit (s := S128x512) ![0, 128] ![128, 128] r1, w10⟩ :: ⟨Rect.unit (s := S128x512) ![0, 128] ![128, 128] r1, w11⟩ :: ⟨Rect.unit (s := S128x512) ![0, 128] ![128, 128] r1, w12⟩ :: ⟨Rect.unit (s := S128x512) ![0, 128] ![128, 128] r1, w13⟩ ::
      ⟨Rect.unit (s := S128x512) ![0, 0] ![128, 128] r0, w00⟩ :: ⟨Rect.unit (s := S128x512) ![0, 0] ![128, 128] r0, w01⟩ :: ⟨Rect.unit (s := S128x512) ![0, 0] ![128, 128] r0, w02⟩ :: ⟨Rect.unit (s := S128x512) ![0, 0] ![128, 128] r0, w03⟩ :: L) y = G y :=
  peel G y _ _ _ p3 fun n3 => drop G y _ _ _ n3 <| drop G y _ _ _ n3 <| drop G y _ _ _ n3 <|
  peel G y _ _ _ p2 fun n2 => drop G y _ _ _ n2 <| drop G y _ _ _ n2 <| drop G y _ _ _ n2 <|
  peel G y _ _ _ p1 fun n1 => drop G y _ _ _ n1 <| drop G y _ _ _ n1 <| drop G y _ _ _ n1 <|
  peel G y _ _ _ p0 fun n0 => drop G y _ _ _ n0 <| drop G y _ _ _ n0 <| drop G y _ _ _ n0  (cover_128 y _ _ _ _ n3 n2 n1 n0).elim

/-- Four heads' columns, each written four times: the last writing of each stays. -/
theorem heads_1 {Val : EltTy → Type} [∀ e, Nonempty (Val e)] {e : EltTy} (G : S1x512.Idx → Val e) (y : S1x512.Idx) (r3 r2 r1 r0) (w30 w31 w32 w33 w20 w21 w22 w23 w10 w11 w12 w13 w00 w01 w02 w03)
    (L : List (View.Piece Val S1x512 e))
    (p3 : ∀ x, w30 x = G ((Rect.unit (s := S1x512) ![0, 384] ![1, 128] r3).emb x))
    (p2 : ∀ x, w20 x = G ((Rect.unit (s := S1x512) ![0, 256] ![1, 128] r2).emb x))
    (p1 : ∀ x, w10 x = G ((Rect.unit (s := S1x512) ![0, 128] ![1, 128] r1).emb x))
    (p0 : ∀ x, w00 x = G ((Rect.unit (s := S1x512) ![0, 0] ![1, 128] r0).emb x)) :
    View.canon (⟨Rect.unit (s := S1x512) ![0, 384] ![1, 128] r3, w30⟩ :: ⟨Rect.unit (s := S1x512) ![0, 384] ![1, 128] r3, w31⟩ :: ⟨Rect.unit (s := S1x512) ![0, 384] ![1, 128] r3, w32⟩ :: ⟨Rect.unit (s := S1x512) ![0, 384] ![1, 128] r3, w33⟩ ::
      ⟨Rect.unit (s := S1x512) ![0, 256] ![1, 128] r2, w20⟩ :: ⟨Rect.unit (s := S1x512) ![0, 256] ![1, 128] r2, w21⟩ :: ⟨Rect.unit (s := S1x512) ![0, 256] ![1, 128] r2, w22⟩ :: ⟨Rect.unit (s := S1x512) ![0, 256] ![1, 128] r2, w23⟩ ::
      ⟨Rect.unit (s := S1x512) ![0, 128] ![1, 128] r1, w10⟩ :: ⟨Rect.unit (s := S1x512) ![0, 128] ![1, 128] r1, w11⟩ :: ⟨Rect.unit (s := S1x512) ![0, 128] ![1, 128] r1, w12⟩ :: ⟨Rect.unit (s := S1x512) ![0, 128] ![1, 128] r1, w13⟩ ::
      ⟨Rect.unit (s := S1x512) ![0, 0] ![1, 128] r0, w00⟩ :: ⟨Rect.unit (s := S1x512) ![0, 0] ![1, 128] r0, w01⟩ :: ⟨Rect.unit (s := S1x512) ![0, 0] ![1, 128] r0, w02⟩ :: ⟨Rect.unit (s := S1x512) ![0, 0] ![1, 128] r0, w03⟩ :: L) y = G y :=
  peel G y _ _ _ p3 fun n3 => drop G y _ _ _ n3 <| drop G y _ _ _ n3 <| drop G y _ _ _ n3 <|
  peel G y _ _ _ p2 fun n2 => drop G y _ _ _ n2 <| drop G y _ _ _ n2 <| drop G y _ _ _ n2 <|
  peel G y _ _ _ p1 fun n1 => drop G y _ _ _ n1 <| drop G y _ _ _ n1 <| drop G y _ _ _ n1 <|
  peel G y _ _ _ p0 fun n0 => drop G y _ _ _ n0 <| drop G y _ _ _ n0 <| drop G y _ _ _ n0  (cover_1 y _ _ _ _ n3 n2 n1 n0).elim

/-! ## The sums over the chunks -/

/-- Row `i` of chunk `n` of a block. -/
def bc (n : Fin 4) (i : Fin 128) : Fin 512 := ⟨128 * n.val + i.val, by omega⟩

abbrev LB (X : FVec Ideal S128x512 .f32) (o : Nat) (h : ∀ a, (![0, o] : Fin 2 → Nat) a + (![128, 128] : Fin 2 → Nat) a ≤ S128x512.size a) :
    FVec Ideal S128x128 .f32 := View.ld (Val := Elt Ideal) (S := S128x512) (e' := .f32) X (Rect.unit ![0, o] ![128, 128] h)

theorem dzs_piece (X : FVec Ideal S128x512 .f32) (D : FVec Ideal S512x512 .bf16) (o : Nat) (ho : o + 128 ≤ 512) (h c0 c1 c2 c3 s0 s1 s2 s3 b) (i j : Fin 128) :
    addf (F := Ideal) (shapeCast S128x128 (addf (shapeCast S128x128 (addf (shapeCast S128x128 (addf (shapeCast S128x128
      (LB X o h) c0) (extf .f32 (extractStridedSlice S128x128 ![0, o] D s0) b)) c1)
      (extf .f32 (extractStridedSlice S128x128 ![128, o] D s1) b)) c2) (extf .f32 (extractStridedSlice S128x128 ![256, o] D s2) b)) c3)
      (extf .f32 (extractStridedSlice S128x128 ![384, o] D s3) b) (ix2 i j)
      = X (ix2 i ⟨o + j.val, by omega⟩) + ∑ n : Fin 4, D (ix2 (bc n i) ⟨o + j.val, by omega⟩) := by
  have e : ∀ n : Nat, (hn : n + 128 ≤ 512) → (q : S512x512.Slices ![n, o] S128x128) → extractStridedSlice S128x128 ![n, o] D q (ix2 i j) = D (ix2 ⟨n + i.val, by omega⟩ ⟨o + j.val, by omega⟩) :=
    fun n hn s => sl_at (e := .bf16) D n o s i j _ _
  rw [show X (ix2 i ⟨o + j.val, by omega⟩) = LB X o h (ix2 i j) from (congrArg X (emb2z o h i j _ _)).symm, Fin.sum_univ_four]
  generalize LB X o h = Y
  have e0 := e 0 (by omega) s0
  have e1 := e 128 (by omega) s1
  have e2 := e 256 (by omega) s2
  have e3 := e 384 (by omega) s3
  generalize extractStridedSlice S128x128 ![0, o] D s0 = E0 at e0 ⊢
  generalize extractStridedSlice S128x128 ![128, o] D s1 = E1 at e1 ⊢
  generalize extractStridedSlice S128x128 ![256, o] D s2 = E2 at e2 ⊢
  generalize extractStridedSlice S128x128 ![384, o] D s3 = E3 at e3 ⊢
  trans Y (ix2 i j) + (E0 (ix2 i j) + E1 (ix2 i j) + E2 (ix2 i j) + E3 (ix2 i j))
  · rw [← add_assoc, ← add_assoc, ← add_assoc]
    pointwise
  · rw [e0, e1, e2, e3]
    rfl

/-- What a step leaves in the sum over the chunks of the first gradient's rows. -/
def G12 (c : Dev nD) (t : Fin cfg0.N) (X : FVec Ideal S128x512 .f32) (y : S128x512.Idx) : EReal :=
  X y + ∑ n, dz (P m c) (C m c) (row t (bc n (y 0))) (y 1)

theorem p12 (c : Dev nD) (t : Fin cfg0.N) (X : FVec Ideal S128x512 .f32) (o : Nat) (ho : o + 128 ≤ 512) (h c0 c1 c2 c3 s0 s1 s2 s3 b h1 h2 h3 h4 h5)
    (x : S128x128.Idx) :
    addf (F := Ideal) (shapeCast S128x128 (addf (shapeCast S128x128 (addf (shapeCast S128x128 (addf (shapeCast S128x128
      (LB X o h) c0) (extf .f32 (extractStridedSlice S128x128 ![0, o]
        (truncf (F := Ideal) .bf16 (mulf (extf .f32 (shapeCast S512x512 (LC m c t 0 h1) h2) h3) (k0_pay11 (LP m c t 0 h4))) h5) s0) b)) c1)
      (extf .f32 (extractStridedSlice S128x128 ![128, o]
        (truncf (F := Ideal) .bf16 (mulf (extf .f32 (shapeCast S512x512 (LC m c t 0 h1) h2) h3) (k0_pay11 (LP m c t 0 h4))) h5) s1) b)) c2)
      (extf .f32 (extractStridedSlice S128x128 ![256, o]
        (truncf (F := Ideal) .bf16 (mulf (extf .f32 (shapeCast S512x512 (LC m c t 0 h1) h2) h3) (k0_pay11 (LP m c t 0 h4))) h5) s2) b)) c3)
      (extf .f32 (extractStridedSlice S128x128 ![384, o]
        (truncf (F := Ideal) .bf16 (mulf (extf .f32 (shapeCast S512x512 (LC m c t 0 h1) h2) h3) (k0_pay11 (LP m c t 0 h4))) h5) s3) b) x
      = G12 m c t X ((Rect.unit (s := S128x512) ![0, o] ![128, 128] h).emb x) := by
  obtain ⟨i, j, rfl⟩ := two 128 128 x
  refine (dzs_piece X _ o ho _ _ _ _ _ _ _ _ _ _ i j).trans ?_
  rw [emb2z _ _ _ _ (by omega) (by omega)]
  exact congrArg (X _ + ·) (Finset.sum_congr rfl fun n _ => dz_at m c t _ _ _ _ _ _ _)

set_option maxHeartbeats 4000000 in
theorem o12 (c : Dev nD) (t : Fin cfg0.N) (y) :
    (t.val % 4 = 0 → (outsAt0 m c t.val t.isLt).2.2.2.1 y = G12 m c t k0_pay6 y)
    ∧ (¬ t.val % 4 = 0 → (outsAt0 m c t.val t.isLt).2.2.2.1 y
      = G12 m c t (outsAt0 m c (t.val - 1) (Nat.lt_of_le_of_lt (Nat.sub_le _ _) t.isLt)).2.2.2.1 y) := by
  constructor <;> intro h
  · rw [outsAt0_A m c t h]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    exact heads_128 _ y _ _ _ _ _ _ _ _ _ _ _ _ _ _ _ _ _ _ _ _ _ (p12 m c t _ 384 (by norm_num) _ _ _ _ _ _ _ _ _ _ _ _ _ _ _) (p12 m c t _ 256 (by norm_num) _ _ _ _ _ _ _ _ _ _ _ _ _ _ _) (p12 m c t _ 128 (by norm_num) _ _ _ _ _ _ _ _ _ _ _ _ _ _ _) (p12 m c t _ 0 (by norm_num) _ _ _ _ _ _ _ _ _ _ _ _ _ _ _)
  · rw [outsAt0_B m c t h]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    exact heads_128 _ y _ _ _ _ _ _ _ _ _ _ _ _ _ _ _ _ _ _ _ _ _ (p12 m c t _ 384 (by norm_num) _ _ _ _ _ _ _ _ _ _ _ _ _ _ _) (p12 m c t _ 256 (by norm_num) _ _ _ _ _ _ _ _ _ _ _ _ _ _ _) (p12 m c t _ 128 (by norm_num) _ _ _ _ _ _ _ _ _ _ _ _ _ _ _) (p12 m c t _ 0 (by norm_num) _ _ _ _ _ _ _ _ _ _ _ _ _ _ _)

/-! The products of a chunk, and the lower triangle. -/

theorem mm_t (X Y : FVec Ideal S128x128 .bf16) (i j : Fin 128) :
    matmul dot_S128x128_S128x128_S128x128_0_0_1_1_n_n none X Y (constant (F := Ideal) S128x128 .f32 0#32) (ix2 i j) = ∑ l, X (ix2 l i) * Y (ix2 l j) := by
  pointwise
theorem mm_n (X Y : FVec Ideal S128x128 .bf16) (i j : Fin 128) :
    matmul dot_S128x128_S128x128_S128x128_1_0_0_1_n_n none X Y (constant (F := Ideal) S128x128 .f32 0#32) (ix2 i j) = ∑ l, X (ix2 i l) * Y (ix2 l j) := by
  pointwise
theorem mm_r (X Y : FVec Ideal S128x128 .bf16) (i j : Fin 128) :
    matmul dot_S128x128_S128x128_S128x128_1_1_0_0_n_n none X Y (constant (F := Ideal) S128x128 .f32 0#32) (ix2 i j) = ∑ l, X (ix2 i l) * Y (ix2 j l) := by
  pointwise

theorem red_128 (Y : FVec Ideal S128x128 .f32) (p1 p2 p3 p4) (j : Fin 128) :
    shapeCast S1x128 (multiReduction (F := Ideal) .add [0] S128 Y 0#32 p1 p2 p3) p4 (ix2 0 j) = ∑ i, Y (ix2 i j) := by
  pointwise

theorem tri (i j : Fin 128) (p1 p2) : cmpi .sge (iota .tc S128x128 32 [0] p1) (iota .tc S128x128 32 [1] p2) (ix2 i j) = if j ≤ i then 1#1 else 0#1 := by
  pointwise
  have := (by decide +kernel : ∀ i j : Fin 128, IntOp.cmpi .sge (BitVec.ofNat 32 i.val) (BitVec.ofNat 32 j.val) = if j ≤ i then 1#1 else 0#1)
  exact this i j

theorem xh_at (c : Dev nD) (t : Fin cfg0.N) (h h') (s k : Fin 512) :
    mulf (k0_pay17 (F := Ideal) (k0_pay13 (LP m c t 512 h)) (k0_pay14 (LP m c t 512 h)))
      (broadcastTo S512x512 (k0_pay18 (k0_pay13 (LP m c t 512 h)) (k0_pay14 (LP m c t 512 h))) h') (ix2 s k) = xh (P m c) (row t s) k := by
  have e : gv (P m c) (row t s) = fun j => ge (LP m c t 512 h (ix2 s j)) := funext fun j => by
    rw [lp_at _ _ _ _ _ _ _ (by omega)]; rfl
  unfold xh lnx
  rw [e, ← pay17_at, ← pay18_at]
  generalize k0_pay17 (F := Ideal) _ _ = X
  generalize k0_pay18 (F := Ideal) _ _ = Y
  pointwise

theorem vn_at (c : Dev nD) (t : Fin cfg0.N) (XH : FVec Ideal S512x512 .f32) (hX : ∀ s k, XH (ix2 s k) = xh (P m c) (row t s) k) (h1 h2 h3) (s k : Fin 512) :
    truncf (F := Ideal) .bf16 (mulf XH (broadcastTo S512x512 (shapeCast S1x512 (iblk m c 5 t : FVec Ideal S1x512 .f32) h1) h2)) h3 (ix2 s k)
      = vn (P m c) (NV m c) (row t s) k := by
  unfold vn
  rw [← hX, ← blk_n m c t]
  generalize iblk m c 5 t = Y
  pointwise

theorem wm_at (c : Dev nD) (t : Fin cfg0.N) (hh : Fin 4) (X : FVec Ideal S1x128x128 .f32) (hX : ∀ i j, X (ix3 0 i j) = W m c hh i j) (p1 p2 p3 p4) (i j : Fin 128) :
    truncf (F := Ideal) .bf16 (select (cmpi .sge (iota .tc S128x128 32 [0] p1) (iota .tc S128x128 32 [1] p2)) (shapeCast S128x128 X p3)
      (broadcast S128x128 (FloatOps.ofBits .f32 0#32 : Ideal .f32))) p4 (ix2 i j) = wm (W m c) hh i j := by
  have e := tri i j p1 p2
  generalize cmpi .sge (iota .tc S128x128 32 [0] p1) (iota .tc S128x128 32 [1] p2) = T at e ⊢
  unfold wm
  rw [← hX]
  trans if T (ix2 i j) = 1#1 then X (ix3 0 i j) else Ideal.ofBits .f32 0#32
  · pointwise
    rfl
  · rw [e, bits_0]
    by_cases hij : j ≤ i
    · rw [if_pos hij, if_pos rfl, if_pos hij]
    · rw [if_neg hij, if_neg (by decide), if_neg hij]
      exact EReal.coe_zero

theorem w_at (c : Dev nD) (t : Fin cfg0.N) (hh : Fin 4) (n : Nat) (hn : n = hh.val) (h) (i j : Fin 128) :
    View.ld (iblk m c 6 t) (Rect.unit ![n, 0, 0] ![1, 128, 128] h) (ix3 0 i j) = W m c hh i j := by
  subst hn
  rw [← blk_w m c t]
  exact congrArg (iblk m c 6 t) (emb3 _ h i j)

/-! The chunk, the place and the head of an element of a block. -/

theorem cr_row (t : Fin cfg0.N) (n : Fin 4) (i l : Fin 128) : cr (ck (row t (bc n i))) l = row t (bc n l) :=
  Fin.ext (by simp only [cr, ck, row, bc]; omega)
theorem pl_row (t : Fin cfg0.N) (n : Fin 4) (i : Fin 128) : pl (row t (bc n i)) = i :=
  Fin.ext (by simp only [pl, row, bc]; omega)
theorem hd_hc (h : Fin 4) (j : Fin 128) : hd (hc h j) = h := Fin.ext (by simp only [hd, hc]; omega)

theorem dvn_row (c : Dev nD) (t : Fin cfg0.N) (n h : Fin 4) (i j : Fin 128) : dvn (P m c) (C m c) (W m c) (row t (bc n i)) (hc h j)
    = ∑ l, wm (W m c) h l i * dz (P m c) (C m c) (row t (bc n l)) (hc h j) := by
  unfold dvn
  simp only [hd_hc, pl_row, cr_row]

/-! ## The gradient of the normalisation's scale -/

def G10 (c : Dev nD) (t : Fin cfg0.N) (X : FVec Ideal S1x512 .f32) (y : S1x512.Idx) : EReal :=
  X y + ∑ n, ∑ i, dvn (P m c) (C m c) (W m c) (row t (bc n i)) (y 1) * xh (P m c) (row t (bc n i)) (y 1)

abbrev LB1 (X : FVec Ideal S1x512 .f32) (o : Nat) (h : ∀ a, (![0, o] : Fin 2 → Nat) a + (![1, 128] : Fin 2 → Nat) a ≤ S1x512.size a) :
    FVec Ideal S1x128 .f32 := View.ld (Val := Elt Ideal) (S := S1x512) (e' := .f32) X (Rect.unit ![0, o] ![1, 128] h)

theorem term10 (c : Dev nD) (t : Fin cfg0.N) (n hh : Fin 4) (Wm : FVec Ideal S128x128 .bf16) (D : FVec Ideal S512x512 .bf16)
    (XH : FVec Ideal S512x512 .f32) (hW : ∀ i j, Wm (ix2 i j) = wm (W m c) hh i j) (hD : ∀ s k, D (ix2 s k) = dz (P m c) (C m c) (row t s) k)
    (hX : ∀ s k, XH (ix2 s k) = xh (P m c) (row t s) k) (a o : Nat) (ha : a = 128 * n.val) (ho : o = 128 * hh.val) (s1 s2 p1 p2 p3 p4) (j : Fin 128) :
    shapeCast S1x128 (multiReduction (F := Ideal) .add [0] S128 (mulf (matmul dot_S128x128_S128x128_S128x128_0_0_1_1_n_n none Wm
      (extractStridedSlice S128x128 ![a, o] D s1) (constant (F := Ideal) S128x128 .f32 0#32)) (extractStridedSlice S128x128 ![a, o] XH s2)) 0#32 p1 p2 p3) p4 (ix2 0 j)
      = ∑ i, dvn (P m c) (C m c) (W m c) (row t (bc n i)) (hc hh j) * xh (P m c) (row t (bc n i)) (hc hh j) := by
  subst ha ho
  rw [red_128]
  refine Finset.sum_congr rfl fun i _ => ?_
  rw [dvn_row]
  refine congrArg₂ (· * ·) ((mm_t _ _ _ _).trans (Finset.sum_congr rfl fun l _ => congrArg₂ (· * ·) (hW l i) ?_)) ?_
  · exact (sl_at (e := .bf16) D _ _ _ _ _ (by omega) (by omega)).trans (hD _ _)
  · exact (sl_at (e := .f32) XH _ _ _ _ _ (by omega) (by omega)).trans (hX _ _)

theorem p10 (c : Dev nD) (t : Fin cfg0.N) (hh : Fin 4) (X : FVec Ideal S1x512 .f32) (Wm : FVec Ideal S128x128 .bf16) (D : FVec Ideal S512x512 .bf16)
    (XH : FVec Ideal S512x512 .f32) (hW : ∀ i j, Wm (ix2 i j) = wm (W m c) hh i j) (hD : ∀ s k, D (ix2 s k) = dz (P m c) (C m c) (row t s) k)
    (hX : ∀ s k, XH (ix2 s k) = xh (P m c) (row t s) k) (o : Nat) (ho : o = 128 * hh.val) (h c0 c1 c2 c3 s0 s1 s2 s3 r0 r1 r2 r3 p1 p2 p3 p4)
    (x : S1x128.Idx) :
    addf (F := Ideal) (shapeCast S1x128 (addf (shapeCast S1x128 (addf (shapeCast S1x128 (addf (shapeCast S1x128 (LB1 X o h) c0)
      (shapeCast S1x128 (multiReduction (F := Ideal) .add [0] S128 (mulf (matmul dot_S128x128_S128x128_S128x128_0_0_1_1_n_n none Wm
        (extractStridedSlice S128x128 ![0, o] D s0) (constant (F := Ideal) S128x128 .f32 0#32)) (extractStridedSlice S128x128 ![0, o] XH r0)) 0#32 p1 p2 p3) p4)) c1)
      (shapeCast S1x128 (multiReduction (F := Ideal) .add [0] S128 (mulf (matmul dot_S128x128_S128x128_S128x128_0_0_1_1_n_n none Wm
        (extractStridedSlice S128x128 ![128, o] D s1) (constant (F := Ideal) S128x128 .f32 0#32)) (extractStridedSlice S128x128 ![128, o] XH r1)) 0#32 p1 p2 p3) p4)) c2)
      (shapeCast S1x128 (multiReduction (F := Ideal) .add [0] S128 (mulf (matmul dot_S128x128_S128x128_S128x128_0_0_1_1_n_n none Wm
        (extractStridedSlice S128x128 ![256, o] D s2) (constant (F := Ideal) S128x128 .f32 0#32)) (extractStridedSlice S128x128 ![256, o] XH r2)) 0#32 p1 p2 p3) p4)) c3)
      (shapeCast S1x128 (multiReduction (F := Ideal) .add [0] S128 (mulf (matmul dot_S128x128_S128x128_S128x128_0_0_1_1_n_n none Wm
        (extractStridedSlice S128x128 ![384, o] D s3) (constant (F := Ideal) S128x128 .f32 0#32)) (extractStridedSlice S128x128 ![384, o] XH r3)) 0#32 p1 p2 p3) p4) x
      = G10 m c t X ((Rect.unit (s := S1x512) ![0, o] ![1, 128] h).emb x) := by
  obtain ⟨i, j, rfl⟩ := two 1 128 x
  obtain rfl : i = 0 := Subsingleton.elim _ _
  have hk : o + j.val < 512 := by omega
  have e0 := term10 m c t 0 hh Wm D XH hW hD hX 0 o rfl ho s0 r0 p1 p2 p3 p4 j
  have e1 := term10 m c t 1 hh Wm D XH hW hD hX 128 o rfl ho s1 r1 p1 p2 p3 p4 j
  have e2 := term10 m c t 2 hh Wm D XH hW hD hX 256 o rfl ho s2 r2 p1 p2 p3 p4 j
  have e3 := term10 m c t 3 hh Wm D XH hW hD hX 384 o rfl ho s3 r3 p1 p2 p3 p4 j
  rw [emb2z _ _ _ _ (by omega) hk]
  have eX : X (ix2 ⟨(0 : Fin 1).val, by omega⟩ ⟨o + j.val, hk⟩) = LB1 X o h (ix2 0 j) := (congrArg X (emb2z o h 0 j _ _)).symm
  have ek : (⟨o + j.val, hk⟩ : Fin 512) = hc hh j := Fin.ext (by simp only [hc]; omega)
  unfold G10
  rw [eX, Fin.sum_univ_four]
  change _ = _ + (∑ i, dvn _ _ _ _ (⟨o + j.val, hk⟩ : Fin 512) * xh _ _ (⟨o + j.val, hk⟩ : Fin 512) + ∑ i, dvn _ _ _ _ (⟨o + j.val, hk⟩ : Fin 512) * xh _ _ (⟨o + j.val, hk⟩ : Fin 512)
    + ∑ i, dvn _ _ _ _ (⟨o + j.val, hk⟩ : Fin 512) * xh _ _ (⟨o + j.val, hk⟩ : Fin 512) + ∑ i, dvn _ _ _ _ (⟨o + j.val, hk⟩ : Fin 512) * xh _ _ (⟨o + j.val, hk⟩ : Fin 512))
  rw [ek, ← e0, ← e1, ← e2, ← e3]
  generalize shapeCast S1x128 (multiReduction (F := Ideal) .add [0] S128 (mulf (matmul dot_S128x128_S128x128_S128x128_0_0_1_1_n_n none Wm
        (extractStridedSlice S128x128 ![0, o] D s0) (constant (F := Ideal) S128x128 .f32 0#32)) (extractStridedSlice S128x128 ![0, o] XH r0)) 0#32 p1 p2 p3) p4 = E0
  generalize shapeCast S1x128 (multiReduction (F := Ideal) .add [0] S128 (mulf (matmul dot_S128x128_S128x128_S128x128_0_0_1_1_n_n none Wm
        (extractStridedSlice S128x128 ![128, o] D s1) (constant (F := Ideal) S128x128 .f32 0#32)) (extractStridedSlice S128x128 ![128, o] XH r1)) 0#32 p1 p2 p3) p4 = E1
  generalize shapeCast S1x128 (multiReduction (F := Ideal) .add [0] S128 (mulf (matmul dot_S128x128_S128x128_S128x128_0_0_1_1_n_n none Wm
        (extractStridedSlice S128x128 ![256, o] D s2) (constant (F := Ideal) S128x128 .f32 0#32)) (extractStridedSlice S128x128 ![256, o] XH r2)) 0#32 p1 p2 p3) p4 = E2
  generalize shapeCast S1x128 (multiReduction (F := Ideal) .add [0] S128 (mulf (matmul dot_S128x128_S128x128_S128x128_0_0_1_1_n_n none Wm
        (extractStridedSlice S128x128 ![384, o] D s3) (constant (F := Ideal) S128x128 .f32 0#32)) (extractStridedSlice S128x128 ![384, o] XH r3)) 0#32 p1 p2 p3) p4 = E3
  generalize LB1 X o h = Y
  rw [← add_assoc, ← add_assoc, ← add_assoc]
  pointwise

set_option maxHeartbeats 4000000 in
theorem o10 (c : Dev nD) (t : Fin cfg0.N) (y) :
    (t.val % 4 = 0 → (outsAt0 m c t.val t.isLt).2.1 y = G10 m c t k0_pay4 y)
    ∧ (¬ t.val % 4 = 0 → (outsAt0 m c t.val t.isLt).2.1 y
      = G10 m c t (outsAt0 m c (t.val - 1) (Nat.lt_of_le_of_lt (Nat.sub_le _ _) t.isLt)).2.1 y) := by
  constructor <;> intro h
  · rw [outsAt0_A m c t h]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    exact heads_1 _ y _ _ _ _ _ _ _ _ _ _ _ _ _ _ _ _ _ _ _ _ _ (p10 m c t 3 _ _ _ _ (wm_at m c t 3 _ (w_at m c t 3 3 rfl _) _ _ _ _) (dz_at m c t _ _ _ _ _) (xh_at m c t _ _) 384 rfl _ _ _ _ _ _ _ _ _ _ _ _ _ _ _ _ _) (p10 m c t 2 _ _ _ _ (wm_at m c t 2 _ (w_at m c t 2 2 rfl _) _ _ _ _) (dz_at m c t _ _ _ _ _) (xh_at m c t _ _) 256 rfl _ _ _ _ _ _ _ _ _ _ _ _ _ _ _ _ _) (p10 m c t 1 _ _ _ _ (wm_at m c t 1 _ (w_at m c t 1 1 rfl _) _ _ _ _) (dz_at m c t _ _ _ _ _) (xh_at m c t _ _) 128 rfl _ _ _ _ _ _ _ _ _ _ _ _ _ _ _ _ _) (p10 m c t 0 _ _ _ _ (wm_at m c t 0 _ (w_at m c t 0 0 rfl _) _ _ _ _) (dz_at m c t _ _ _ _ _) (xh_at m c t _ _) 0 rfl _ _ _ _ _ _ _ _ _ _ _ _ _ _ _ _ _)
  · rw [outsAt0_B m c t h]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    exact heads_1 _ y _ _ _ _ _ _ _ _ _ _ _ _ _ _ _ _ _ _ _ _ _ (p10 m c t 3 _ _ _ _ (wm_at m c t 3 _ (w_at m c t 3 3 rfl _) _ _ _ _) (dz_at m c t _ _ _ _ _) (xh_at m c t _ _) 384 rfl _ _ _ _ _ _ _ _ _ _ _ _ _ _ _ _ _) (p10 m c t 2 _ _ _ _ (wm_at m c t 2 _ (w_at m c t 2 2 rfl _) _ _ _ _) (dz_at m c t _ _ _ _ _) (xh_at m c t _ _) 256 rfl _ _ _ _ _ _ _ _ _ _ _ _ _ _ _ _ _) (p10 m c t 1 _ _ _ _ (wm_at m c t 1 _ (w_at m c t 1 1 rfl _) _ _ _ _) (dz_at m c t _ _ _ _ _) (xh_at m c t _ _) 128 rfl _ _ _ _ _ _ _ _ _ _ _ _ _ _ _ _ _) (p10 m c t 0 _ _ _ _ (wm_at m c t 0 _ (w_at m c t 0 0 rfl _) _ _ _ _) (dz_at m c t _ _ _ _ _) (xh_at m c t _ _) 0 rfl _ _ _ _ _ _ _ _ _ _ _ _ _ _ _ _ _)

/-! ## The gradient of the mixing matrices -/

abbrev tl (o : Nat) (A B : FVec Ideal S512x512 .bf16) (a : Nat) (h1 : S512x512.Slices ![a, o] S128x128) (h2 : S512x512.Slices ![a, o] S128x128) : FVec Ideal S128x128 .f32 :=
  matmul dot_S128x128_S128x128_S128x128_1_1_0_0_n_n none (extractStridedSlice S128x128 ![a, o] A h1) (extractStridedSlice S128x128 ![a, o] B h2)
    (constant (F := Ideal) S128x128 .f32 0#32)

abbrev LB3 (X : FVec Ideal S4x128x128 .f32) (o : Nat) (h : ∀ a, (![o, 0, 0] : Fin 3 → Nat) a + (![1, 128, 128] : Fin 3 → Nat) a ≤ S4x128x128.size a) :
    FVec Ideal S1x128x128 .f32 := View.ld (Val := Elt Ideal) (S := S4x128x128) (e' := .f32) X (Rect.unit ![o, 0, 0] ![1, 128, 128] h)

def G11 (c : Dev nD) (t : Fin cfg0.N) (X : FVec Ideal S4x128x128 .f32) (y : S4x128x128.Idx) : EReal :=
  X y + if (y 2).val ≤ (y 1).val then ∑ n, ∑ d, dz (P m c) (C m c) (row t (bc n (y 1))) (hc (y 0) d) * vn (P m c) (NV m c) (row t (bc n (y 2))) (hc (y 0) d) else 0

theorem term11 (c : Dev nD) (t : Fin cfg0.N) (n hh : Fin 4) (D V : FVec Ideal S512x512 .bf16) (hD : ∀ s k, D (ix2 s k) = dz (P m c) (C m c) (row t s) k)
    (hV : ∀ s k, V (ix2 s k) = vn (P m c) (NV m c) (row t s) k) (a o : Nat) (ha : a = 128 * n.val) (ho : o = 128 * hh.val) (h1 h2) (i j : Fin 128) :
    tl o D V a h1 h2 (ix2 i j) = ∑ d, dz (P m c) (C m c) (row t (bc n i)) (hc hh d) * vn (P m c) (NV m c) (row t (bc n j)) (hc hh d) := by
  subst ha ho
  refine (mm_r _ _ _ _).trans (Finset.sum_congr rfl fun l _ => congrArg₂ (· * ·) ?_ ?_)
  · exact (sl_at (e := .bf16) D _ _ _ _ _ (by omega) (by omega)).trans (hD _ _)
  · exact (sl_at (e := .bf16) V _ _ _ _ _ (by omega) (by omega)).trans (hV _ _)

theorem p11 (c : Dev nD) (t : Fin cfg0.N) (hh : Fin 4) (X : FVec Ideal S4x128x128 .f32) (D V : FVec Ideal S512x512 .bf16)
    (hD : ∀ s k, D (ix2 s k) = dz (P m c) (C m c) (row t s) k) (hV : ∀ s k, V (ix2 s k) = vn (P m c) (NV m c) (row t s) k)
    (r o : Nat) (hr : r = hh.val) (ho : o = 128 * hh.val) (h p1 p2 p3 p4 a0 a1 a2 a3 b0 b1 b2 b3) (x : S1x128x128.Idx) :
    shapeCast S1x128x128 (addf (F := Ideal) (shapeCast S128x128 (LB3 X r h) p1) (select (cmpi .sge (iota .tc S128x128 32 [0] p2) (iota .tc S128x128 32 [1] p3))
      (addf (addf (addf (addf (broadcast S128x128 (FloatOps.ofBits .f32 0#32 : Ideal .f32)) (tl o D V 0 a0 b0)) (tl o D V 128 a1 b1)) (tl o D V 256 a2 b2)) (tl o D V 384 a3 b3))
      (broadcast S128x128 (FloatOps.ofBits .f32 0#32 : Ideal .f32)))) p4 x
      = G11 m c t X ((Rect.unit (s := S4x128x128) ![r, 0, 0] ![1, 128, 128] h).emb x) := by
  subst hr
  obtain ⟨i, j, rfl⟩ : ∃ (i j : Fin 128), x = ix3 0 i j := ⟨x 1, x 2, by blk_ext⟩
  have e0 := term11 m c t 0 hh D V hD hV 0 o rfl ho a0 b0 i j
  have e1 := term11 m c t 1 hh D V hD hV 128 o rfl ho a1 b1 i j
  have e2 := term11 m c t 2 hh D V hD hV 256 o rfl ho a2 b2 i j
  have e3 := term11 m c t 3 hh D V hD hV 384 o rfl ho a3 b3 i j
  have eX : X (ix3 hh i j) = LB3 X hh.val h (ix3 0 i j) := (congrArg X (emb3 hh h i j)).symm
  have e := tri i j p2 p3
  rw [emb3]
  unfold G11
  rw [eX, Fin.sum_univ_four]
  change _ = _ + if j ≤ i then (∑ d, dz _ _ (row t (bc 0 i)) (hc hh d) * vn _ _ (row t (bc 0 j)) (hc hh d)
    + ∑ d, dz _ _ (row t (bc 1 i)) (hc hh d) * vn _ _ (row t (bc 1 j)) (hc hh d) + ∑ d, dz _ _ (row t (bc 2 i)) (hc hh d) * vn _ _ (row t (bc 2 j)) (hc hh d)
    + ∑ d, dz _ _ (row t (bc 3 i)) (hc hh d) * vn _ _ (row t (bc 3 j)) (hc hh d)) else 0
  rw [← e0, ← e1, ← e2, ← e3]
  generalize tl o D V 0 a0 b0 = E0
  generalize tl o D V 128 a1 b1 = E1
  generalize tl o D V 256 a2 b2 = E2
  generalize tl o D V 384 a3 b3 = E3
  generalize LB3 X hh.val h = Y
  generalize cmpi .sge (iota .tc S128x128 32 [0] p2) (iota .tc S128x128 32 [1] p3) = T at e ⊢
  trans Y (ix3 0 i j) + if T (ix2 i j) = 1#1 then Ideal.ofBits .f32 0#32 + E0 (ix2 i j) + E1 (ix2 i j) + E2 (ix2 i j) + E3 (ix2 i j) else Ideal.ofBits .f32 0#32
  · pointwise
    rfl
  · rw [e, bits_0, EReal.coe_zero, zero_add]
    by_cases hij : j ≤ i
    · rw [if_pos hij, if_pos rfl, if_pos hij]
    · rw [if_neg hij, if_neg (by decide), if_neg hij]

theorem cover_3 (y : S4x128x128.Idx) (h0 h1 h2 h3) (n3 : y ∉ (Rect.unit (s := S4x128x128) ![3, 0, 0] ![1, 128, 128] h3).set)
    (n2 : y ∉ (Rect.unit (s := S4x128x128) ![2, 0, 0] ![1, 128, 128] h2).set) (n1 : y ∉ (Rect.unit (s := S4x128x128) ![1, 0, 0] ![1, 128, 128] h1).set)
    (n0 : y ∉ (Rect.unit (s := S4x128x128) ![0, 0, 0] ![1, 128, 128] h0).set) : False := by
  obtain ⟨o, i, j, rfl⟩ : ∃ (o : Fin 4) (i j : Fin 128), y = ix3 o i j := ⟨y 0, y 1, y 2, by blk_ext⟩
  have key : ∀ h, ix3 o i j ∈ (Rect.unit (s := S4x128x128) ![o.val, 0, 0] ![1, 128, 128] h).set := fun h => by
    rw [← emb3 o h i j]
    exact LoadRect.idx_mem _ _
  have ho : o.val = 0 ∨ o.val = 1 ∨ o.val = 2 ∨ o.val = 3 := by omega
  rcases ho with ho | ho | ho | ho
  · rw [ho] at key; exact n0 (key h0)
  · rw [ho] at key; exact n1 (key h1)
  · rw [ho] at key; exact n2 (key h2)
  · rw [ho] at key; exact n3 (key h3)

set_option maxHeartbeats 4000000 in
theorem o11 (c : Dev nD) (t : Fin cfg0.N) (y) :
    (t.val % 4 = 0 → (outsAt0 m c t.val t.isLt).2.2.1 y = G11 m c t k0_pay5 y)
    ∧ (¬ t.val % 4 = 0 → (outsAt0 m c t.val t.isLt).2.2.1 y
      = G11 m c t (outsAt0 m c (t.val - 1) (Nat.lt_of_le_of_lt (Nat.sub_le _ _) t.isLt)).2.2.1 y) := by
  constructor <;> intro h
  · rw [outsAt0_A m c t h]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    exact (peel (Val := Elt Ideal) (e := .f32) (G11 m c t k0_pay5) y _ _ _ (p11 m c t 3 _ _ _ (dz_at m c t _ _ _ _ _) (vn_at m c t _ (xh_at m c t _ _) _ _ _) 3 384 rfl rfl _ _ _ _ _ _ _ _ _ _ _ _ _) fun n3 => (peel (Val := Elt Ideal) (e := .f32) (G11 m c t k0_pay5) y _ _ _ (p11 m c t 2 _ _ _ (dz_at m c t _ _ _ _ _) (vn_at m c t _ (xh_at m c t _ _) _ _ _) 2 256 rfl rfl _ _ _ _ _ _ _ _ _ _ _ _ _) fun n2 => (peel (Val := Elt Ideal) (e := .f32) (G11 m c t k0_pay5) y _ _ _ (p11 m c t 1 _ _ _ (dz_at m c t _ _ _ _ _) (vn_at m c t _ (xh_at m c t _ _) _ _ _) 1 128 rfl rfl _ _ _ _ _ _ _ _ _ _ _ _ _) fun n1 => (peel (Val := Elt Ideal) (e := .f32) (G11 m c t k0_pay5) y _ _ _ (p11 m c t 0 _ _ _ (dz_at m c t _ _ _ _ _) (vn_at m c t _ (xh_at m c t _ _) _ _ _) 0 0 rfl rfl _ _ _ _ _ _ _ _ _ _ _ _ _) fun n0 => (cover_3 y _ _ _ _ n3 n2 n1 n0).elim))))
  · rw [outsAt0_B m c t h]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    exact (peel (Val := Elt Ideal) (e := .f32) (G11 m c t _) y _ _ _ (p11 m c t 3 _ _ _ (dz_at m c t _ _ _ _ _) (vn_at m c t _ (xh_at m c t _ _) _ _ _) 3 384 rfl rfl _ _ _ _ _ _ _ _ _ _ _ _ _) fun n3 => (peel (Val := Elt Ideal) (e := .f32) (G11 m c t _) y _ _ _ (p11 m c t 2 _ _ _ (dz_at m c t _ _ _ _ _) (vn_at m c t _ (xh_at m c t _ _) _ _ _) 2 256 rfl rfl _ _ _ _ _ _ _ _ _ _ _ _ _) fun n2 => (peel (Val := Elt Ideal) (e := .f32) (G11 m c t _) y _ _ _ (p11 m c t 1 _ _ _ (dz_at m c t _ _ _ _ _) (vn_at m c t _ (xh_at m c t _ _) _ _ _) 1 128 rfl rfl _ _ _ _ _ _ _ _ _ _ _ _ _) fun n1 => (peel (Val := Elt Ideal) (e := .f32) (G11 m c t _) y _ _ _ (p11 m c t 0 _ _ _ (dz_at m c t _ _ _ _ _) (vn_at m c t _ (xh_at m c t _ _) _ _ _) 0 0 rfl rfl _ _ _ _ _ _ _ _ _ _ _ _ _) fun n0 => (cover_3 y _ _ _ _ n3 n2 n1 n0).elim))))

end Cert.MixKernel

end
-- ==== Proof.MixConv.lean ====
/- Hand-written, untrusted: the short convolution of the gated mixer's gradient kernel, and the gradient of its filter. -/
module

public import proofs.«01_k».proof.Proof.MixKernel

@[expose] public section

set_option maxRecDepth 16384

noncomputable section

namespace Cert.MixKernel

open Cert.MixIdeal Cert.MixIdeal.Gen Idealize.ShloMosaic Idealize.ShloMosaic.TcCoe Idealize.SL.Sem Cert.Lib Cert.MixSpec
open Idealize.ShloMosaic.Pipeline (Dat)
open scoped BigOperators

variable (m : (ℓ : Loc nD τ sig) → Buf (Elt Ideal) ℓ)

/-! The blocks above and below, and the filter. -/

abbrev LA (c : Dev nD) (t : Fin cfg0.N) (r o : Nat) (h : ∀ a, (![r, o] : Fin 2 → Nat) a + (![1, 512] : Fin 2 → Nat) a ≤ S8x2560.size a) :
    FVec Ideal S1x512 .f32 := View.ld (iblk m c 1 t) (Rect.unit ![r, o] ![1, 512] h)
abbrev LD (c : Dev nD) (t : Fin cfg0.N) (r o : Nat) (h : ∀ a, (![r, o] : Fin 2 → Nat) a + (![1, 512] : Fin 2 → Nat) a ≤ S8x2560.size a) :
    FVec Ideal S1x512 .f32 := View.ld (iblk m c 2 t) (Rect.unit ![r, o] ![1, 512] h)
abbrev LE (c : Dev nD) (t : Fin cfg0.N) (r o : Nat) (h : ∀ a, (![r, o] : Fin 2 → Nat) a + (![1, 512] : Fin 2 → Nat) a ≤ S16x1024.size a) :
    FVec Ideal S1x512 .bf16 := View.ld (iblk m c 4 t) (Rect.unit ![r, o] ![1, 512] h)
abbrev LW (c : Dev nD) (t : Fin cfg0.N) (r : Nat) (h : ∀ a, (![r, 0] : Fin 2 → Nat) a + (![1, 512] : Fin 2 → Nat) a ≤ S3x512.size a) :
    FVec Ideal S1x512 .f32 := View.ld (iblk m c 8 t) (Rect.unit ![r, 0] ![1, 512] h)

theorem la_at (c : Dev nD) (t : Fin cfg0.N) (r o : Nat) (h) (k : Fin 512) (hr : r < 8) (ho : o + k.val < 2560) :
    LA m c t r o h (ix2 0 k) = P m c (above t ⟨r, hr⟩) ⟨o + k.val, ho⟩ := by
  unfold LA
  rw [ld2_at _ _ _ _ _ _ (by omega) ho, blk_a]
  congr 1
theorem ld_at (c : Dev nD) (t : Fin cfg0.N) (r o : Nat) (h) (k : Fin 512) (hr : r < 8) (ho : o + k.val < 2560) :
    LD m c t r o h (ix2 0 k) = P m c (below t ⟨r, hr⟩) ⟨o + k.val, ho⟩ := by
  unfold LD
  rw [ld2_at _ _ _ _ _ _ (by omega) ho, blk_d]
  congr 1
theorem le_at (c : Dev nD) (t : Fin cfg0.N) (r o : Nat) (h) (k : Fin 512) (hr : r < 16) (ho : o + k.val < 1024) :
    LE m c t r o h (ix2 0 k) = C m c (belowc t ⟨r, hr⟩) ⟨o + k.val, ho⟩ := by
  unfold LE
  rw [ld2_at _ _ _ _ _ _ (by omega) ho, blk_cb]
  congr 1
theorem lw_at (c : Dev nD) (t : Fin cfg0.N) (r : Nat) (h) (k : Fin 512) (hr : r < 3) : LW m c t r h (ix2 0 k) = CW m c ⟨r, hr⟩ k := by
  unfold LW
  rw [ld2_at _ _ _ _ _ _ (by omega) (by omega), blk_cw]
  congr 1
  exact Fin.ext (by simp)

/-! The two factors of the convolution, in a block and just outside it. -/

theorem pc2 (o : Nat) (k : Fin 512) (h) (ho : o = 1024) : (⟨o + k.val, h⟩ : Fin 2560) = c2 k := by subst ho; rfl
theorem pc3 (o : Nat) (k : Fin 512) (h) (ho : o = 1536) : (⟨o + k.val, h⟩ : Fin 2560) = c3 k := by subst ho; rfl
theorem pc4 (o : Nat) (k : Fin 512) (h) (ho : o = 2048) : (⟨o + k.val, h⟩ : Fin 2560) = c4 k := by subst ho; rfl
theorem pa1 (o : Nat) (k : Fin 512) (h) (ho : o = 512) : (⟨o + k.val, h⟩ : Fin 1024) = a1 k := by subst ho; rfl

theorem lp2_at (c : Dev nD) (t : Fin cfg0.N) (h) (s k : Fin 512) : LP m c t 1024 h (ix2 s k) = P m c (row t s) (c2 k) :=
  (lp_at m c t _ h s k (by omega)).trans (congrArg _ (pc2 _ _ _ rfl))
theorem lp3_at (c : Dev nD) (t : Fin cfg0.N) (h) (s k : Fin 512) : LP m c t 1536 h (ix2 s k) = P m c (row t s) (c3 k) :=
  (lp_at m c t _ h s k (by omega)).trans (congrArg _ (pc3 _ _ _ rfl))
theorem lp4_at (c : Dev nD) (t : Fin cfg0.N) (h) (s k : Fin 512) : LP m c t 2048 h (ix2 s k) = P m c (row t s) (c4 k) :=
  (lp_at m c t _ h s k (by omega)).trans (congrArg _ (pc4 _ _ _ rfl))
theorem lc1_at (c : Dev nD) (t : Fin cfg0.N) (h) (s k : Fin 512) : LC m c t 512 h (ix2 s k) = C m c (row t s) (a1 k) :=
  (lc_at m c t _ h s k (by omega)).trans (congrArg _ (pa1 _ _ _ rfl))

theorem q_at (c : Dev nD) (t : Fin cfg0.N) (h h' g g') (s k : Fin 512) :
    mulf (F := Ideal) (shapeCast S512x512 (LP m c t 1536 h) h') (shapeCast S512x512 (LP m c t 2048 g) g') (ix2 s k) = qq (P m c) (row t s) k := by
  unfold qq
  rw [← lp3_at m c t h, ← lp4_at m c t g]
  generalize LP m c t 1536 h = X
  generalize LP m c t 2048 g = Y
  pointwise

theorem dyb_at (c : Dev nD) (t : Fin cfg0.N) (h h' h'') (s k : Fin 512) :
    extf (F := Ideal) .f32 (shapeCast S512x512 (LC m c t 512 h) h') h'' (ix2 s k) = C m c (row t s) (a1 k) := by
  rw [← lc1_at m c t h]
  generalize LC m c t 512 h = X
  pointwise

theorem e_at (c : Dev nD) (t : Fin cfg0.N) (h h' h'' g g') (s k : Fin 512) :
    mulf (F := Ideal) (extf .f32 (shapeCast S512x512 (LC m c t 512 h) h') h'') (shapeCast S512x512 (LP m c t 1024 g) g') (ix2 s k) = ee (P m c) (C m c) (row t s) k := by
  unfold ee
  rw [← lc1_at m c t h, ← lp2_at m c t g]
  generalize LC m c t 512 h = X
  generalize LP m c t 1024 g = Y
  pointwise

theorem crd : ∀ t : Fin cfg0.N, Scalar.cmpi .eq (BitVec.ofNat 32 (grid0.coords t 0).val) 0#32 = (if t.val = 0 then 1#1 else 0#1)
    ∧ Scalar.cmpi .eq (BitVec.ofNat 32 (grid0.coords t 0).val) 3#32 = (if t.val = 3 then 1#1 else 0#1) :=
  (by decide +kernel : ∀ t : Fin grid0.N, _)

/-- The rows above a block: zeros for the first block. -/
theorem top_at (c : Dev nD) (t : Fin cfg0.N) (r : Nat) (hr : r < 8) (h h' g g') (k : Fin 512) :
    Scalar.select (Scalar.cmpi .eq (BitVec.ofNat 32 (grid0.coords t 0).val) 0#32) (broadcast S1x512 (FloatOps.ofBits .f32 0#32 : Ideal .f32))
      (mulf (F := Ideal) (shapeCast S1x512 (LA m c t r 1536 h) h') (shapeCast S1x512 (LA m c t r 2048 g) g')) (ix2 0 k)
      = if t.val = 0 then 0 else qq (P m c) (above t ⟨r, hr⟩) k := by
  rw [(crd t).1]
  unfold qq
  rw [← pc3 1536 k (by omega) rfl, ← pc4 2048 k (by omega) rfl, ← la_at m c t r 1536 h, ← la_at m c t r 2048 g]
  generalize LA m c t r 1536 h = X
  generalize LA m c t r 2048 g = Y
  split_ifs with h0
  · change Ideal.ofBits .f32 0#32 = 0
    rw [bits_0]; exact EReal.coe_zero
  · change mulf (F := Ideal) (shapeCast S1x512 X h') (shapeCast S1x512 Y g') (ix2 0 k) = _
    pointwise

/-- The rows below a block: zeros for the last block. -/
theorem bot_at (c : Dev nD) (t : Fin cfg0.N) (r : Nat) (hr : r < 8) (h h' h'' g g') (k : Fin 512) :
    Scalar.select (Scalar.cmpi .eq (BitVec.ofNat 32 (grid0.coords t 0).val) 3#32) (broadcast S1x512 (FloatOps.ofBits .f32 0#32 : Ideal .f32))
      (mulf (F := Ideal) (extf .f32 (shapeCast S1x512 (LE m c t r 512 h) h') h'') (shapeCast S1x512 (LD m c t r 1024 g) g')) (ix2 0 k)
      = if ht : t.val = 3 then 0 else ee (P m c) (C m c) ⟨512 * t.val + 512 + r, by have := lt4 t; omega⟩ k := by
  rw [(crd t).2]
  split_ifs with h0
  · change Ideal.ofBits .f32 0#32 = 0
    rw [bits_0]; exact EReal.coe_zero
  · have ht := lt4 t
    unfold ee
    have e1 : C m c ⟨512 * t.val + 512 + r, by omega⟩ (a1 k) = LE m c t r 512 h (ix2 0 k) := by
      rw [le_at m c t r 512 h k (by omega) (by omega), pa1 _ _ _ rfl]
      exact congrFun (congrArg _ (Fin.ext (by simp only [belowc]; omega))) _
    have e2 : P m c ⟨512 * t.val + 512 + r, by omega⟩ (c2 k) = LD m c t r 1024 g (ix2 0 k) := by
      rw [ld_at m c t r 1024 g k (by omega) (by omega), pc2 _ _ _ rfl]
      exact congrFun (congrArg _ (Fin.ext (by simp only [below]; omega))) _
    rw [e1, e2]
    generalize LE m c t r 512 h = X
    generalize LD m c t r 1024 g = Y
    change mulf (F := Ideal) (extf .f32 (shapeCast S1x512 X h') h'') (shapeCast S1x512 Y g') (ix2 0 k) = _
    pointwise

/-! The array moved down or up by a row or two. -/

theorem rowm (r : Nat) (hr : r = 0 ∨ r = 1 ∨ r = 510 ∨ r = 511) (p) (s k : Fin 512) :
    cmpi .eq (iota .tc S512x512 32 [0] p) (broadcast S512x512 (BitVec.ofNat 32 r)) (ix2 s k) = if s.val = r then 1#1 else 0#1 := by
  pointwise
  have := (by decide +kernel : ∀ s : Fin 512, ∀ r ∈ [0, 1, 510, 511], IntOp.cmpi .eq (BitVec.ofNat 32 s.val) (BitVec.ofNat 32 r) = if s.val = r then 1#1 else 0#1)
  exact this s r (by simpa using hr)

theorem sel_at (T : IVec S512x512 1) (A : FVec Ideal S1x512 .f32) (X : FVec Ideal S512x512 .f32) (h h') (s k : Fin 512) :
    select T (broadcastTo S512x512 (shapeCast S1x512 A h) h') X (ix2 s k) = if T (ix2 s k) = 1#1 then A (ix2 0 k) else X (ix2 s k) := by
  pointwise
  rfl

theorem rot_at (n : Nat) (hn : n < 512) (Q : FVec Ideal S512x512 .f32) (h) (s k : Fin 512) :
    dynamicRotate 0 (BitVec.ofNat 32 n) none Q h (ix2 s k) = Q (ix2 ⟨(s.val + 512 - n) % 512, Nat.mod_lt _ (by norm_num)⟩ k) := by
  have e : (BitVec.ofNat 32 n).toNat = n := by rw [BitVec.toNat_ofNat]; exact Nat.mod_eq_of_lt (by omega)
  have hn' : n % 512 = n := Nat.mod_eq_of_lt hn
  pointwise
  refine congrArg Q ?_
  blk_ext

/-- What the fourth factor times the fifth is, a row up: in the block's first row, the row above the block. -/
theorem d1_at (c : Dev nD) (t : Fin cfg0.N) (Q : FVec Ideal S512x512 .f32) (A : FVec Ideal S1x512 .f32) (hQ : ∀ s k, Q (ix2 s k) = qq (P m c) (row t s) k)
    (hA : ∀ k, A (ix2 0 k) = if t.val = 0 then 0 else qq (P m c) (above t 7) k) (p h h' r) (s k : Fin 512) :
    select (cmpi .eq (iota .tc S512x512 32 [0] p) (broadcast S512x512 0#32)) (broadcastTo S512x512 (shapeCast S1x512 A h) h') (dynamicRotate 0 1#32 none Q r) (ix2 s k)
      = dn 1 (qq (P m c)) (row t s) k := by
  rw [sel_at, rowm 0 (by norm_num), rot_at 1 (by norm_num), hQ, hA]
  have ht := lt4 t
  unfold dn
  by_cases hs : s.val = 0
  · rw [if_pos hs, if_pos rfl]
    by_cases h0 : t.val = 0
    · rw [if_pos h0, if_neg (show ¬ 1 ≤ (row t s).val by simp only [row]; omega)]
    · rw [if_neg h0, if_pos (show 1 ≤ (row t s).val by simp only [row]; omega)]
      exact congrFun (congrArg _ (Fin.ext (by simp only [above, row]; simp; omega))) _
  · rw [if_neg hs, if_neg (by decide), if_pos (show 1 ≤ (row t s).val by simp only [row]; omega)]
    exact congrFun (congrArg _ (Fin.ext (by simp only [row]; omega))) _

theorem d2_at (c : Dev nD) (t : Fin cfg0.N) (Q : FVec Ideal S512x512 .f32) (A B : FVec Ideal S1x512 .f32) (hQ : ∀ s k, Q (ix2 s k) = qq (P m c) (row t s) k)
    (hA : ∀ k, A (ix2 0 k) = if t.val = 0 then 0 else qq (P m c) (above t 7) k) (hB : ∀ k, B (ix2 0 k) = if t.val = 0 then 0 else qq (P m c) (above t 6) k)
    (p p' h h' g g' r) (s k : Fin 512) :
    select (cmpi .eq (iota .tc S512x512 32 [0] p) (broadcast S512x512 1#32)) (broadcastTo S512x512 (shapeCast S1x512 A h) h')
      (select (cmpi .eq (iota .tc S512x512 32 [0] p') (broadcast S512x512 0#32)) (broadcastTo S512x512 (shapeCast S1x512 B g) g') (dynamicRotate 0 2#32 none Q r)) (ix2 s k)
      = dn 2 (qq (P m c)) (row t s) k := by
  rw [sel_at, rowm 1 (by norm_num), sel_at, rowm 0 (by norm_num), rot_at 2 (by norm_num), hQ, hA, hB]
  have ht := lt4 t
  unfold dn
  by_cases hs : s.val = 1
  · rw [if_pos hs, if_pos rfl]
    by_cases h0 : t.val = 0
    · rw [if_pos h0, if_neg (show ¬ 2 ≤ (row t s).val by simp only [row]; omega)]
    · rw [if_neg h0, if_pos (show 2 ≤ (row t s).val by simp only [row]; omega)]
      exact congrFun (congrArg _ (Fin.ext (by simp only [above, row]; simp; omega))) _
  · rw [if_neg hs, if_neg (by decide)]
    by_cases hs0 : s.val = 0
    · rw [if_pos hs0, if_pos rfl]
      by_cases h0 : t.val = 0
      · rw [if_pos h0, if_neg (show ¬ 2 ≤ (row t s).val by simp only [row]; omega)]
      · rw [if_neg h0, if_pos (show 2 ≤ (row t s).val by simp only [row]; omega)]
        exact congrFun (congrArg _ (Fin.ext (by simp only [above, row]; simp; omega))) _
    · rw [if_neg hs0, if_neg (by decide), if_pos (show 2 ≤ (row t s).val by simp only [row]; omega)]
      exact congrFun (congrArg _ (Fin.ext (by simp only [row]; omega))) _

theorem u1_at (c : Dev nD) (t : Fin cfg0.N) (Q : FVec Ideal S512x512 .f32) (A : FVec Ideal S1x512 .f32) (hQ : ∀ s k, Q (ix2 s k) = ee (P m c) (C m c) (row t s) k)
    (hA : ∀ k, A (ix2 0 k) = if ht : t.val = 3 then 0 else ee (P m c) (C m c) ⟨512 * t.val + 512 + 0, by have := lt4 t; omega⟩ k) (p h h' r) (s k : Fin 512) :
    select (cmpi .eq (iota .tc S512x512 32 [0] p) (broadcast S512x512 511#32)) (broadcastTo S512x512 (shapeCast S1x512 A h) h') (dynamicRotate 0 511#32 none Q r) (ix2 s k)
      = up 1 (ee (P m c) (C m c)) (row t s) k := by
  rw [sel_at, rowm 511 (by norm_num), rot_at 511 (by norm_num), hQ, hA]
  have ht := lt4 t
  unfold up
  by_cases hs : s.val = 511
  · rw [if_pos hs, if_pos rfl]
    by_cases h0 : t.val = 3
    · rw [dif_pos h0, dif_neg (show ¬ (row t s).val + 1 < 2048 by simp only [row]; omega)]
    · rw [dif_neg h0, dif_pos (show (row t s).val + 1 < 2048 by simp only [row]; omega)]
      exact congrFun (congrArg _ (Fin.ext (by simp only [row]; omega))) _
  · rw [if_neg hs, if_neg (by decide), dif_pos (show (row t s).val + 1 < 2048 by simp only [row]; omega)]
    exact congrFun (congrArg _ (Fin.ext (by simp only [row]; omega))) _

/-- Two rows down, as the kernel names it. -/
theorem u2_at (c : Dev nD) (t : Fin cfg0.N) (Q : FVec Ideal S512x512 .f32) (hQ : ∀ s k, Q (ix2 s k) = ee (P m c) (C m c) (row t s) k)
    (p r h0 g0 h1 g1) (s k : Fin 512) :
    k0_pay174 (F := Ideal) (Scalar.cmpi .eq (BitVec.ofNat 32 (grid0.coords t 0).val) 3#32) (iota .tc S512x512 32 [0] p) (dynamicRotate 0 510#32 none Q r)
      (LE m c t 0 512 h0) (LD m c t 0 1024 g0) (LE m c t 1 512 h1) (LD m c t 1 1024 g1) (ix2 s k)
      = up 2 (ee (P m c) (C m c)) (row t s) k := by
  unfold k0_pay174
  dsimp only
  refine (sel_at _ _ _ _ _ _ _).trans ?_
  rw [show (cmpi .eq (iota .tc S512x512 32 [0] p) (broadcast S512x512 511#32) : IVec S512x512 1) (ix2 s k) = _ from rowm 511 (by norm_num) p s k, sel_at,
    show (cmpi .eq (iota .tc S512x512 32 [0] p) (broadcast S512x512 510#32) : IVec S512x512 1) (ix2 s k) = _ from rowm 510 (by norm_num) p s k, rot_at 510 (by norm_num), hQ]
  have e0 := bot_at m c t 0 (by norm_num) h0 shapeCasts_S1x512_S1x512 bitsLt_bf16_f32 g0 shapeCasts_S1x512_S1x512 k
  have e1 := bot_at m c t 1 (by norm_num) h1 shapeCasts_S1x512_S1x512 bitsLt_bf16_f32 g1 shapeCasts_S1x512_S1x512 k
  have ht := lt4 t
  unfold up
  by_cases hs : s.val = 511
  · rw [if_pos hs, if_pos rfl]
    refine e1.trans ?_
    by_cases h0 : t.val = 3
    · rw [dif_pos h0, dif_neg (show ¬ (row t s).val + 2 < 2048 by simp only [row]; omega)]
    · rw [dif_neg h0, dif_pos (show (row t s).val + 2 < 2048 by simp only [row]; omega)]
      exact congrFun (congrArg _ (Fin.ext (by simp only [row]; omega))) _
  · rw [if_neg hs, if_neg (by decide)]
    by_cases hs0 : s.val = 510
    · rw [if_pos hs0, if_pos rfl]
      refine e0.trans ?_
      by_cases h0 : t.val = 3
      · rw [dif_pos h0, dif_neg (show ¬ (row t s).val + 2 < 2048 by simp only [row]; omega)]
      · rw [dif_neg h0, dif_pos (show (row t s).val + 2 < 2048 by simp only [row]; omega)]
        exact congrFun (congrArg _ (Fin.ext (by simp only [row]; omega))) _
    · rw [if_neg hs0, if_neg (by decide), dif_pos (show (row t s).val + 2 < 2048 by simp only [row]; omega)]
      exact congrFun (congrArg _ (Fin.ext (by simp only [row]; omega))) _

/-! ## The gradient of the filter -/

def qr (c : Dev nD) (r : Fin 3) (s : Fin 2048) (k : Fin 512) : EReal := if r.val = 2 then qq (P m c) s k else dn (2 - r.val) (qq (P m c)) s k

def G13 (c : Dev nD) (t : Fin cfg0.N) (X : FVec Ideal S3x512 .f32) (y : S3x512.Idx) : EReal :=
  X y + ∑ s, ee (P m c) (C m c) (row t s) (y 1) * qr m c (y 0) (row t s) (y 1)

abbrev LB2 (X : FVec Ideal S3x512 .f32) (o : Nat) (h : ∀ a, (![o, 0] : Fin 2 → Nat) a + (![1, 512] : Fin 2 → Nat) a ≤ S3x512.size a) :
    FVec Ideal S1x512 .f32 := View.ld (Val := Elt Ideal) (S := S3x512) (e' := .f32) X (Rect.unit ![o, 0] ![1, 512] h)

theorem embr (r : Fin 3) (h : ∀ a, (![r.val, 0] : Fin 2 → Nat) a + (![1, 512] : Fin 2 → Nat) a ≤ S3x512.size a) (k : Fin 512) :
    (Rect.unit (s := S3x512) ![r.val, 0] ![1, 512] h).emb (ix2 0 k) = ix2 r k := by
  blk_ext

theorem p13 (c : Dev nD) (t : Fin cfg0.N) (r : Fin 3) (X : FVec Ideal S3x512 .f32) (E Q : FVec Ideal S512x512 .f32)
    (hE : ∀ s k, E (ix2 s k) = ee (P m c) (C m c) (row t s) k) (hQ : ∀ s k, Q (ix2 s k) = qr m c r (row t s) k) (o : Nat) (ho : o = r.val)
    (h h' p1 p2 p3 p4) (x : S1x512.Idx) :
    addf (F := Ideal) (shapeCast S1x512 (LB2 X o h) h') (shapeCast S1x512 (multiReduction (F := Ideal) .add [0] S512 (mulf E Q) 0#32 p1 p2 p3) p4) x
      = G13 m c t X ((Rect.unit (s := S3x512) ![o, 0] ![1, 512] h).emb x) := by
  subst ho
  obtain ⟨i, k, rfl⟩ := two 1 512 x
  obtain rfl : i = 0 := Subsingleton.elim _ _
  have eX : X (ix2 r k) = LB2 X r.val h (ix2 0 k) := (congrArg X (embr r h k)).symm
  rw [embr]
  unfold G13
  rw [eX]
  change _ = _ + ∑ s, ee (P m c) (C m c) (row t s) k * qr m c r (row t s) k
  simp only [← hE, ← hQ]
  generalize LB2 X r.val h = Y
  pointwise

theorem cover_r (y : S3x512.Idx) (h0 h1 h2) (n2 : y ∉ (Rect.unit (s := S3x512) ![2, 0] ![1, 512] h2).set)
    (n1 : y ∉ (Rect.unit (s := S3x512) ![1, 0] ![1, 512] h1).set) (n0 : y ∉ (Rect.unit (s := S3x512) ![0, 0] ![1, 512] h0).set) : False := by
  obtain ⟨r, k, rfl⟩ := two 3 512 y
  have key : ∀ h, ix2 r k ∈ (Rect.unit (s := S3x512) ![r.val, 0] ![1, 512] h).set := fun h => by
    rw [← embr r h k]
    exact LoadRect.idx_mem _ _
  have ho : r.val = 0 ∨ r.val = 1 ∨ r.val = 2 := by omega
  rcases ho with ho | ho | ho
  · rw [ho] at key; exact n0 (key h0)
  · rw [ho] at key; exact n1 (key h1)
  · rw [ho] at key; exact n2 (key h2)

set_option maxHeartbeats 4000000 in
theorem o13 (c : Dev nD) (t : Fin cfg0.N) (y) :
    (t.val % 4 = 0 → (outsAt0 m c t.val t.isLt).2.2.2.2 y = G13 m c t k0_pay7 y)
    ∧ (¬ t.val % 4 = 0 → (outsAt0 m c t.val t.isLt).2.2.2.2 y
      = G13 m c t (outsAt0 m c (t.val - 1) (Nat.lt_of_le_of_lt (Nat.sub_le _ _) t.isLt)).2.2.2.2 y) := by
  constructor <;> intro h
  · rw [outsAt0_A m c t h]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    exact peel (Val := Elt Ideal) (e := .f32) (G13 m c t k0_pay7) y _ _ _ (p13 m c t 2 _ _ _ (e_at m c t _ _ _ _ _) (q_at m c t _ _ _ _) 2 rfl _ _ _ _ _ _) fun n2 => peel (Val := Elt Ideal) (e := .f32) (G13 m c t k0_pay7) y _ _ _ (p13 m c t 1 _ _ _ (e_at m c t _ _ _ _ _) (d1_at m c t _ _ (q_at m c t _ _ _ _) (top_at m c t 7 (by norm_num) _ _ _ _) _ _ _ _) 1 rfl _ _ _ _ _ _) fun n1 => peel (Val := Elt Ideal) (e := .f32) (G13 m c t k0_pay7) y _ _ _ (p13 m c t 0 _ _ _ (e_at m c t _ _ _ _ _) (d2_at m c t _ _ _ (q_at m c t _ _ _ _) (top_at m c t 7 (by norm_num) _ _ _ _) (top_at m c t 6 (by norm_num) _ _ _ _) _ _ _ _ _ _ _) 0 rfl _ _ _ _ _ _) fun n0 => (cover_r y _ _ _ n2 n1 n0).elim
  · rw [outsAt0_B m c t h]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    exact peel (Val := Elt Ideal) (e := .f32) (G13 m c t _) y _ _ _ (p13 m c t 2 _ _ _ (e_at m c t _ _ _ _ _) (q_at m c t _ _ _ _) 2 rfl _ _ _ _ _ _) fun n2 => peel (Val := Elt Ideal) (e := .f32) (G13 m c t _) y _ _ _ (p13 m c t 1 _ _ _ (e_at m c t _ _ _ _ _) (d1_at m c t _ _ (q_at m c t _ _ _ _) (top_at m c t 7 (by norm_num) _ _ _ _) _ _ _ _) 1 rfl _ _ _ _ _ _) fun n1 => peel (Val := Elt Ideal) (e := .f32) (G13 m c t _) y _ _ _ (p13 m c t 0 _ _ _ (e_at m c t _ _ _ _ _) (d2_at m c t _ _ _ (q_at m c t _ _ _ _) (top_at m c t 7 (by norm_num) _ _ _ _) (top_at m c t 6 (by norm_num) _ _ _ _) _ _ _ _ _ _ _) 0 rfl _ _ _ _ _ _) fun n0 => (cover_r y _ _ _ n2 n1 n0).elim

end Cert.MixKernel

end
-- ==== Proof.MixOut.lean ====
/- Hand-written, untrusted: the gradient of the projections that the gated mixer's gradient kernel leaves in a block. -/
module

public import proofs.«01_k».proof.Proof.MixConv

@[expose] public section

set_option maxRecDepth 16384

noncomputable section

namespace Cert.MixKernel

open Cert.MixIdeal Cert.MixIdeal.Gen Idealize.ShloMosaic Idealize.ShloMosaic.TcCoe Idealize.SL.Sem Cert.Lib Cert.MixSpec
open Idealize.ShloMosaic.Pipeline (Dat)
open scoped BigOperators

variable (m : (ℓ : Loc nD τ sig) → Buf (Elt Ideal) ℓ)

/-! ## The columns of the convolution -/

abbrev G9 (c : Dev nD) (t : Fin cfg0.N) (y : S512x2560.Idx) : EReal := dp (P m c) (C m c) (NV m c) (W m c) (B m c) (CW m c) (row t (y 0)) (y 1)

theorem dp_4 (c : Dev nD) (s : Fin 2048) (k : Fin 512) (h) : dp (P m c) (C m c) (NV m c) (W m c) (B m c) (CW m c) s ⟨2048 + k.val, h⟩
    = dq (P m c) (C m c) (CW m c) s k * P m c s (c3 k) := by
  have e : (⟨2048 + k.val - 2048, by omega⟩ : Fin 512) = k := Fin.ext (by simp)
  unfold dp
  rw [dif_neg (by show ¬ 2048 + k.val < 512; omega), dif_neg (by show ¬ 2048 + k.val < 1024; omega), dif_neg (by show ¬ 2048 + k.val < 1536; omega),
    dif_neg (by show ¬ 2048 + k.val < 2048; omega)]
  simp only [e]
theorem dp_3 (c : Dev nD) (s : Fin 2048) (k : Fin 512) (h) : dp (P m c) (C m c) (NV m c) (W m c) (B m c) (CW m c) s ⟨1536 + k.val, h⟩
    = dq (P m c) (C m c) (CW m c) s k * P m c s (c4 k) := by
  have e : (⟨1536 + k.val - 1536, by omega⟩ : Fin 512) = k := Fin.ext (by simp)
  unfold dp
  rw [dif_neg (by show ¬ 1536 + k.val < 512; omega), dif_neg (by show ¬ 1536 + k.val < 1024; omega), dif_neg (by show ¬ 1536 + k.val < 1536; omega),
    dif_pos (by show 1536 + k.val < 2048; omega)]
  simp only [e]
theorem dp_2 (c : Dev nD) (s : Fin 2048) (k : Fin 512) (h) : dp (P m c) (C m c) (NV m c) (W m c) (B m c) (CW m c) s ⟨1024 + k.val, h⟩
    = C m c s (a1 k) * conv (P m c) (CW m c) s k := by
  have e : (⟨1024 + k.val - 1024, by omega⟩ : Fin 512) = k := Fin.ext (by simp)
  unfold dp
  rw [dif_neg (by show ¬ 1024 + k.val < 512; omega), dif_neg (by show ¬ 1024 + k.val < 1024; omega), dif_pos (by show 1024 + k.val < 1536; omega)]
  simp only [e]
theorem dp_1 (c : Dev nD) (s : Fin 2048) (k : Fin 512) (h) : dp (P m c) (C m c) (NV m c) (W m c) (B m c) (CW m c) s ⟨512 + k.val, h⟩
    = dv (P m c) (C m c) (NV m c) (W m c) s k := by
  have e : (⟨512 + k.val - 512, by omega⟩ : Fin 512) = k := Fin.ext (by simp)
  unfold dp
  rw [dif_neg (by show ¬ 512 + k.val < 512; omega), dif_pos (by show 512 + k.val < 1024; omega)]
  simp only [e]
theorem dp_0 (c : Dev nD) (s : Fin 2048) (k : Fin 512) (f : Fin 2560) (h : f.val = k.val) : dp (P m c) (C m c) (NV m c) (W m c) (B m c) (CW m c) s f
    = du (P m c) (C m c) (NV m c) (W m c) (B m c) s k := by
  unfold dp
  rw [dif_pos (by omega)]
  exact congrArg _ (Fin.ext h)

/-- The gradient of the convolution's argument. -/
theorem dq_at (c : Dev nD) (t : Fin cfg0.N) (E U1 U2 : FVec Ideal S512x512 .f32) (hE : ∀ s k, E (ix2 s k) = ee (P m c) (C m c) (row t s) k)
    (h1 : ∀ s k, U1 (ix2 s k) = up 1 (ee (P m c) (C m c)) (row t s) k) (h2 : ∀ s k, U2 (ix2 s k) = up 2 (ee (P m c) (C m c)) (row t s) k)
    (w2 w1 w0 q2 q1) (s k : Fin 512) :
    k0_pay1 (F := Ideal) (addf (mulf (broadcastTo S512x512 (LW m c t 2 w2) q2) E) (mulf (broadcastTo S512x512 (LW m c t 1 w1) q1) U1)) U2 (LW m c t 0 w0) (ix2 s k)
      = dq (P m c) (C m c) (CW m c) (row t s) k := by
  have f2 : LW m c t 2 w2 (ix2 0 k) = CW m c 2 k := lw_at m c t 2 w2 k (by norm_num)
  have f1 : LW m c t 1 w1 (ix2 0 k) = CW m c 1 k := lw_at m c t 1 w1 k (by norm_num)
  have f0 : LW m c t 0 w0 (ix2 0 k) = CW m c 0 k := lw_at m c t 0 w0 k (by norm_num)
  unfold dq
  rw [← hE, ← h1, ← h2, ← f2, ← f1, ← f0]
  generalize LW m c t 2 w2 = X2
  generalize LW m c t 1 w1 = X1
  generalize LW m c t 0 w0 = X0
  pointwise [k0_pay1]

theorem p9_4 (c : Dev nD) (t : Fin cfg0.N) (V : FVec Ideal S512x512 .f32) (A U2 : FVec Ideal S512x512 .f32) (W0 : FVec Ideal S1x512 .f32)
    (hV : ∀ s k, V (ix2 s k) = P m c (row t s) (c3 k)) (hd : ∀ s k, k0_pay1 (F := Ideal) A U2 W0 (ix2 s k) = dq (P m c) (C m c) (CW m c) (row t s) k)
    (h) (x : S512x512.Idx) :
    k0_pay3 (F := Ideal) V A U2 W0 x = G9 m c t ((Rect.unit (s := S512x2560) ![0, 2048] ![512, 512] h).emb x) := by
  obtain ⟨s, k, rfl⟩ := two 512 512 x
  rw [emb2z _ _ _ _ (by omega) (by omega)]
  refine Eq.trans ?_ (dp_4 m c (row t s) k _).symm
  rw [← hV, ← hd]
  rfl

theorem p9_3 (c : Dev nD) (t : Fin cfg0.N) (V : FVec Ideal S512x512 .f32) (A U2 : FVec Ideal S512x512 .f32) (W0 : FVec Ideal S1x512 .f32)
    (hV : ∀ s k, V (ix2 s k) = P m c (row t s) (c4 k)) (hd : ∀ s k, k0_pay1 (F := Ideal) A U2 W0 (ix2 s k) = dq (P m c) (C m c) (CW m c) (row t s) k)
    (h) (x : S512x512.Idx) :
    k0_pay2 (F := Ideal) V A U2 W0 x = G9 m c t ((Rect.unit (s := S512x2560) ![0, 1536] ![512, 512] h).emb x) := by
  obtain ⟨s, k, rfl⟩ := two 512 512 x
  rw [emb2z _ _ _ _ (by omega) (by omega)]
  refine Eq.trans ?_ (dp_3 m c (row t s) k _).symm
  rw [← hV, ← hd]
  rfl

theorem sc_at (X : FVec Ideal S512x512 .f32) (h) (s k : Fin 512) : shapeCast S512x512 X h (ix2 s k) = X (ix2 s k) := by
  pointwise

theorem p9_2 (c : Dev nD) (t : Fin cfg0.N) (Y Q2 Q1 Q : FVec Ideal S512x512 .f32) (hY : ∀ s k, Y (ix2 s k) = C m c (row t s) (a1 k))
    (h2 : ∀ s k, Q2 (ix2 s k) = dn 2 (qq (P m c)) (row t s) k) (h1 : ∀ s k, Q1 (ix2 s k) = dn 1 (qq (P m c)) (row t s) k)
    (h0 : ∀ s k, Q (ix2 s k) = qq (P m c) (row t s) k) (w2 w1 w0 q2 q1 q0 p h) (x : S512x512.Idx) :
    truncf (F := Ideal) .bf16 (mulf Y (addf (addf (mulf (broadcastTo S512x512 (LW m c t 0 w0) q0) Q2) (mulf (broadcastTo S512x512 (LW m c t 1 w1) q1) Q1))
      (mulf (broadcastTo S512x512 (LW m c t 2 w2) q2) Q))) p x = G9 m c t ((Rect.unit (s := S512x2560) ![0, 1024] ![512, 512] h).emb x) := by
  obtain ⟨s, k, rfl⟩ := two 512 512 x
  rw [emb2z _ _ _ _ (by omega) (by omega)]
  refine Eq.trans ?_ (dp_2 m c (row t s) k _).symm
  have f2 : LW m c t 2 w2 (ix2 0 k) = CW m c 2 k := lw_at m c t 2 w2 k (by norm_num)
  have f1 : LW m c t 1 w1 (ix2 0 k) = CW m c 1 k := lw_at m c t 1 w1 k (by norm_num)
  have f0 : LW m c t 0 w0 (ix2 0 k) = CW m c 0 k := lw_at m c t 0 w0 k (by norm_num)
  unfold conv
  rw [← hY, ← h2, ← h1, ← h0, ← f2, ← f1, ← f0]
  generalize LW m c t 2 w2 = X2
  generalize LW m c t 1 w1 = X1
  generalize LW m c t 0 w0 = X0
  pointwise

/-! ## Blocks written chunk by chunk and head by head -/

theorem cover16 {b : Nat} (y : (⟨2, ![512, b]⟩ : Shape).Idx) (hy : (y 1).val < 512)
    (H : ∀ n h : Fin 4, ∀ r, y ∉ (Rect.unit (s := ⟨2, ![512, b]⟩) ![128 * n.val, 128 * h.val] ![128, 128] r).set) (hb : 512 ≤ b) : False := by
  obtain ⟨s, k, rfl⟩ := two 512 b y
  have hk : k.val < 512 := hy
  have r : ∀ x, (![128 * (s.val / 128), 128 * (k.val / 128)] : Fin 2 → Nat) x + (![128, 128] : Fin 2 → Nat) x ≤ (⟨2, ![512, b]⟩ : Shape).size x := fun x => by
    fin_cases x
    · change 128 * (s.val / 128) + 128 ≤ 512; omega
    · change 128 * (k.val / 128) + 128 ≤ b; omega
  refine H ⟨s.val / 128, by omega⟩ ⟨k.val / 128, by omega⟩ r ?_
  have e : (Rect.unit (s := ⟨2, ![512, b]⟩) ![128 * (s.val / 128), 128 * (k.val / 128)] ![128, 128] r).emb
      (ix2 (⟨s.val % 128, by omega⟩ : Fin 128) (⟨k.val % 128, by omega⟩ : Fin 128)) = ix2 s k := by
    rw [emb2 _ _ _ _ _ (by show 128 * (s.val / 128) + s.val % 128 < 512; omega) (by show 128 * (k.val / 128) + k.val % 128 < b; omega)]
    congr 1
    · exact Fin.ext (by show 128 * (s.val / 128) + s.val % 128 = s.val; omega)
    · exact Fin.ext (by show 128 * (k.val / 128) + k.val % 128 = k.val; omega)
  rw [← e]
  exact LoadRect.idx_mem _ _

/-- Sixteen pieces, one for every chunk and head, that all agree with one block: they make that block. -/
theorem canon16 {b : Nat} {e : EltTy} (hb : 512 ≤ b) (G : (⟨2, ![512, b]⟩ : Shape).Idx → Elt Ideal e) (y : (⟨2, ![512, b]⟩ : Shape).Idx) (hy : (y 1).val < 512)
    (r33 r23 r13 r03 r32 r22 r12 r02 r31 r21 r11 r01 r30 r20 r10 r00)
    (w33 w23 w13 w03 w32 w22 w12 w02 w31 w21 w11 w01 w30 w20 w10 w00)
    (p33 : ∀ x, w33 x = G ((Rect.unit (s := ⟨2, ![512, b]⟩) ![384, 384] ![128, 128] r33).emb x))
    (p23 : ∀ x, w23 x = G ((Rect.unit (s := ⟨2, ![512, b]⟩) ![256, 384] ![128, 128] r23).emb x))
    (p13 : ∀ x, w13 x = G ((Rect.unit (s := ⟨2, ![512, b]⟩) ![128, 384] ![128, 128] r13).emb x))
    (p03 : ∀ x, w03 x = G ((Rect.unit (s := ⟨2, ![512, b]⟩) ![0, 384] ![128, 128] r03).emb x))
    (p32 : ∀ x, w32 x = G ((Rect.unit (s := ⟨2, ![512, b]⟩) ![384, 256] ![128, 128] r32).emb x))
    (p22 : ∀ x, w22 x = G ((Rect.unit (s := ⟨2, ![512, b]⟩) ![256, 256] ![128, 128] r22).emb x))
    (p12 : ∀ x, w12 x = G ((Rect.unit (s := ⟨2, ![512, b]⟩) ![128, 256] ![128, 128] r12).emb x))
    (p02 : ∀ x, w02 x = G ((Rect.unit (s := ⟨2, ![512, b]⟩) ![0, 256] ![128, 128] r02).emb x))
    (p31 : ∀ x, w31 x = G ((Rect.unit (s := ⟨2, ![512, b]⟩) ![384, 128] ![128, 128] r31).emb x))
    (p21 : ∀ x, w21 x = G ((Rect.unit (s := ⟨2, ![512, b]⟩) ![256, 128] ![128, 128] r21).emb x))
    (p11 : ∀ x, w11 x = G ((Rect.unit (s := ⟨2, ![512, b]⟩) ![128, 128] ![128, 128] r11).emb x))
    (p01 : ∀ x, w01 x = G ((Rect.unit (s := ⟨2, ![512, b]⟩) ![0, 128] ![128, 128] r01).emb x))
    (p30 : ∀ x, w30 x = G ((Rect.unit (s := ⟨2, ![512, b]⟩) ![384, 0] ![128, 128] r30).emb x))
    (p20 : ∀ x, w20 x = G ((Rect.unit (s := ⟨2, ![512, b]⟩) ![256, 0] ![128, 128] r20).emb x))
    (p10 : ∀ x, w10 x = G ((Rect.unit (s := ⟨2, ![512, b]⟩) ![128, 0] ![128, 128] r10).emb x))
    (p00 : ∀ x, w00 x = G ((Rect.unit (s := ⟨2, ![512, b]⟩) ![0, 0] ![128, 128] r00).emb x))
    : View.canon (Val := Elt Ideal) [⟨Rect.unit (s := ⟨2, ![512, b]⟩) ![384, 384] ![128, 128] r33, w33⟩,
      ⟨Rect.unit (s := ⟨2, ![512, b]⟩) ![256, 384] ![128, 128] r23, w23⟩,
      ⟨Rect.unit (s := ⟨2, ![512, b]⟩) ![128, 384] ![128, 128] r13, w13⟩,
      ⟨Rect.unit (s := ⟨2, ![512, b]⟩) ![0, 384] ![128, 128] r03, w03⟩,
      ⟨Rect.unit (s := ⟨2, ![512, b]⟩) ![384, 256] ![128, 128] r32, w32⟩,
      ⟨Rect.unit (s := ⟨2, ![512, b]⟩) ![256, 256] ![128, 128] r22, w22⟩,
      ⟨Rect.unit (s := ⟨2, ![512, b]⟩) ![128, 256] ![128, 128] r12, w12⟩,
      ⟨Rect.unit (s := ⟨2, ![512, b]⟩) ![0, 256] ![128, 128] r02, w02⟩,
      ⟨Rect.unit (s := ⟨2, ![512, b]⟩) ![384, 128] ![128, 128] r31, w31⟩,
      ⟨Rect.unit (s := ⟨2, ![512, b]⟩) ![256, 128] ![128, 128] r21, w21⟩,
      ⟨Rect.unit (s := ⟨2, ![512, b]⟩) ![128, 128] ![128, 128] r11, w11⟩,
      ⟨Rect.unit (s := ⟨2, ![512, b]⟩) ![0, 128] ![128, 128] r01, w01⟩,
      ⟨Rect.unit (s := ⟨2, ![512, b]⟩) ![384, 0] ![128, 128] r30, w30⟩,
      ⟨Rect.unit (s := ⟨2, ![512, b]⟩) ![256, 0] ![128, 128] r20, w20⟩,
      ⟨Rect.unit (s := ⟨2, ![512, b]⟩) ![128, 0] ![128, 128] r10, w10⟩,
      ⟨Rect.unit (s := ⟨2, ![512, b]⟩) ![0, 0] ![128, 128] r00, w00⟩] y = G y :=
  peel (Val := Elt Ideal) G y _ _ _ p33 fun n33 =>
  peel (Val := Elt Ideal) G y _ _ _ p23 fun n23 =>
  peel (Val := Elt Ideal) G y _ _ _ p13 fun n13 =>
  peel (Val := Elt Ideal) G y _ _ _ p03 fun n03 =>
  peel (Val := Elt Ideal) G y _ _ _ p32 fun n32 =>
  peel (Val := Elt Ideal) G y _ _ _ p22 fun n22 =>
  peel (Val := Elt Ideal) G y _ _ _ p12 fun n12 =>
  peel (Val := Elt Ideal) G y _ _ _ p02 fun n02 =>
  peel (Val := Elt Ideal) G y _ _ _ p31 fun n31 =>
  peel (Val := Elt Ideal) G y _ _ _ p21 fun n21 =>
  peel (Val := Elt Ideal) G y _ _ _ p11 fun n11 =>
  peel (Val := Elt Ideal) G y _ _ _ p01 fun n01 =>
  peel (Val := Elt Ideal) G y _ _ _ p30 fun n30 =>
  peel (Val := Elt Ideal) G y _ _ _ p20 fun n20 =>
  peel (Val := Elt Ideal) G y _ _ _ p10 fun n10 =>
  peel (Val := Elt Ideal) G y _ _ _ p00 fun n00 =>
  (cover16 y hy (fun n h r => by
    fin_cases n <;> fin_cases h
    · exact n00
    · exact n01
    · exact n02
    · exact n03
    · exact n10
    · exact n11
    · exact n12
    · exact n13
    · exact n20
    · exact n21
    · exact n22
    · exact n23
    · exact n30
    · exact n31
    · exact n32
    · exact n33
    ) hb).elim

/-! ## The columns of the mixing matrices' argument -/

theorem vw (c : Dev nD) (t : Fin cfg0.N) (n hh : Fin 4) (Wm : FVec Ideal S128x128 .bf16) (D : FVec Ideal S512x512 .bf16)
    (hW : ∀ i j, Wm (ix2 i j) = wm (W m c) hh i j) (hD : ∀ s k, D (ix2 s k) = dz (P m c) (C m c) (row t s) k)
    (a o : Nat) (ha : a = 128 * n.val) (ho : o = 128 * hh.val) (s1 p h) (x : S128x128.Idx) :
    shapeCast S128x128 (matmul dot_S128x128_S128x128_S128x128_0_0_1_1_n_n none Wm (extractStridedSlice S128x128 ![a, o] D s1)
      (constant (F := Ideal) S128x128 .f32 0#32)) p x
      = (fun y : S512x512.Idx => dvn (P m c) (C m c) (W m c) (row t (y 0)) (y 1)) ((Rect.unit (s := S512x512) ![a, o] ![128, 128] h).emb x) := by
  subst ha ho
  obtain ⟨i, j, rfl⟩ := two 128 128 x
  rw [emb2 _ _ _ _ _ (by omega) (by omega)]
  refine Eq.trans ?_ (dvn_row m c t n hh i j).symm
  trans matmul dot_S128x128_S128x128_S128x128_0_0_1_1_n_n none Wm (extractStridedSlice S128x128 ![128 * n.val, 128 * hh.val] D s1)
      (constant (F := Ideal) S128x128 .f32 0#32) (ix2 i j)
  · generalize matmul dot_S128x128_S128x128_S128x128_0_0_1_1_n_n none Wm (extractStridedSlice S128x128 ![128 * n.val, 128 * hh.val] D s1)
      (constant (F := Ideal) S128x128 .f32 0#32) = M
    pointwise
  · refine (mm_t _ _ _ _).trans (Finset.sum_congr rfl fun l _ => congrArg₂ (· * ·) (hW l i) ?_)
    exact (sl_at (e := .bf16) D _ _ _ _ _ (by omega) (by omega)).trans (hD _ _)

abbrev pc (Wm : FVec Ideal S128x128 .bf16) (D : FVec Ideal S512x512 .bf16) (a o : Nat) (s1 : S512x512.Slices ![a, o] S128x128) (p : S128x128.ShapeCasts S128x128)
    (h : ∀ x, (![a, o] : Fin 2 → Nat) x + (![128, 128] : Fin 2 → Nat) x ≤ S512x512.size x) : View.Piece (Elt Ideal) S512x512 .f32 :=
  ⟨Rect.unit (s := S512x512) ![a, o] ![128, 128] h, shapeCast S128x128 (matmul dot_S128x128_S128x128_S128x128_0_0_1_1_n_n none Wm (extractStridedSlice S128x128 ![a, o] D s1)
      (constant (F := Ideal) S128x128 .f32 0#32)) p⟩

theorem scratch_at (c : Dev nD) (t : Fin cfg0.N) (v : View sig .tc .vmem S512x512 .f32) (W3 W2 W1 W0 : FVec Ideal S128x128 .bf16) (D : FVec Ideal S512x512 .bf16)
    (h3 : ∀ i j, W3 (ix2 i j) = wm (W m c) 3 i j) (h2 : ∀ i j, W2 (ix2 i j) = wm (W m c) 2 i j) (h1 : ∀ i j, W1 (ix2 i j) = wm (W m c) 1 i j)
    (h0 : ∀ i j, W0 (ix2 i j) = wm (W m c) 0 i j) (hD : ∀ s k, D (ix2 s k) = dz (P m c) (C m c) (row t s) k) (q r) (s k : Fin 512) :
    v.readCov (Val := Elt Ideal) [pc W3 D 384 384 (by decide) q (by decide),
      pc W3 D 256 384 (by decide) q (by decide),
      pc W3 D 128 384 (by decide) q (by decide),
      pc W3 D 0 384 (by decide) q (by decide),
      pc W2 D 384 256 (by decide) q (by decide),
      pc W2 D 256 256 (by decide) q (by decide),
      pc W2 D 128 256 (by decide) q (by decide),
      pc W2 D 0 256 (by decide) q (by decide),
      pc W1 D 384 128 (by decide) q (by decide),
      pc W1 D 256 128 (by decide) q (by decide),
      pc W1 D 128 128 (by decide) q (by decide),
      pc W1 D 0 128 (by decide) q (by decide),
      pc W0 D 384 0 (by decide) q (by decide),
      pc W0 D 256 0 (by decide) q (by decide),
      pc W0 D 128 0 (by decide) q (by decide),
      pc W0 D 0 0 (by decide) q (by decide)] (Rect.unit (s := S512x512) ![0, 0] ![512, 512] r).toLoadRect (ix2 s k)
      = dvn (P m c) (C m c) (W m c) (row t s) k := by
  have e : (Rect.unit (s := S512x512) ![0, 0] ![512, 512] r).toLoadRect.idx (ix2 s k) = ix2 s k := by
    show (Rect.unit (s := S512x512) ![0, 0] ![512, 512] r).emb (ix2 s k) = ix2 s k
    blk_ext
  rw [View.readCov_eq_canon']
  change View.canon _ ((Rect.unit (s := S512x512) ![0, 0] ![512, 512] r).toLoadRect.idx (ix2 s k)) = _
  rw [e]
  exact canon16 (e := .f32) (by norm_num) (fun y : S512x512.Idx => dvn (P m c) (C m c) (W m c) (row t (y 0)) (y 1)) (ix2 s k) (by show k.val < 512; omega) _ _ _ _ _ _ _ _ _ _ _ _ _ _ _ _ _ _ _ _ _ _ _ _ _ _ _ _ _ _ _ _
    (vw m c t 3 3 W3 D h3 hD 384 384 rfl rfl _ _ _)
    (vw m c t 2 3 W3 D h3 hD 256 384 rfl rfl _ _ _)
    (vw m c t 1 3 W3 D h3 hD 128 384 rfl rfl _ _ _)
    (vw m c t 0 3 W3 D h3 hD 0 384 rfl rfl _ _ _)
    (vw m c t 3 2 W2 D h2 hD 384 256 rfl rfl _ _ _)
    (vw m c t 2 2 W2 D h2 hD 256 256 rfl rfl _ _ _)
    (vw m c t 1 2 W2 D h2 hD 128 256 rfl rfl _ _ _)
    (vw m c t 0 2 W2 D h2 hD 0 256 rfl rfl _ _ _)
    (vw m c t 3 1 W1 D h1 hD 384 128 rfl rfl _ _ _)
    (vw m c t 2 1 W1 D h1 hD 256 128 rfl rfl _ _ _)
    (vw m c t 1 1 W1 D h1 hD 128 128 rfl rfl _ _ _)
    (vw m c t 0 1 W1 D h1 hD 0 128 rfl rfl _ _ _)
    (vw m c t 3 0 W0 D h0 hD 384 0 rfl rfl _ _ _)
    (vw m c t 2 0 W0 D h0 hD 256 0 rfl rfl _ _ _)
    (vw m c t 1 0 W0 D h0 hD 128 0 rfl rfl _ _ _)
    (vw m c t 0 0 W0 D h0 hD 0 0 rfl rfl _ _ _)

theorem dx_at (c : Dev nD) (t : Fin cfg0.N) (R : FVec Ideal S512x512 .f32) (hR : ∀ s k, R (ix2 s k) = dvn (P m c) (C m c) (W m c) (row t s) k) (h1 h2) (s k : Fin 512) :
    mulf (F := Ideal) R (broadcastTo S512x512 (shapeCast S1x512 (iblk m c 5 t : FVec Ideal S1x512 .f32) h1) h2) (ix2 s k) = dxh (P m c) (C m c) (NV m c) (W m c) (row t s) k := by
  unfold dxh
  rw [← hR, ← blk_n m c t]
  generalize iblk m c 5 t = Y
  pointwise

theorem strip (D X G : FVec Ideal S512x512 .f32) (R : FVec Ideal S512x1 .f32) (q1 q2 q3 p1 p2 p3 p4 p5 p6 p7 p8 p) (s k : Fin 512) :
    truncf (F := Ideal) .bf16 (mulf (mulf (broadcastTo S512x512 R q1) (subf (subf D (broadcastTo S512x512 (divf (shapeCast S512x1
        (multiReduction (F := Ideal) .add [1] S512 D 0#32 p1 p2 p3) p4) (broadcast S512x1 (FloatOps.ofBits .f32 1140850688#32 : Ideal .f32))) q2))
      (mulf X (broadcastTo S512x512 (divf (shapeCast S512x1 (multiReduction (F := Ideal) .add [1] S512 (mulf D X) 0#32 p5 p6 p7) p8)
        (broadcast S512x1 (FloatOps.ofBits .f32 1140850688#32 : Ideal .f32))) q3)))) G) p (ix2 s k)
      = R (ix2 s 0) * (D (ix2 s k) - Ideal.div (∑ j, D (ix2 s j)) b512 - X (ix2 s k) * Ideal.div (∑ j, D (ix2 s j) * X (ix2 s j)) b512) * G (ix2 s k) := by
  pointwise

theorem p9_1 (c : Dev nD) (t : Fin cfg0.N) (D X : FVec Ideal S512x512 .f32)
    (hD : ∀ s k, D (ix2 s k) = dxh (P m c) (C m c) (NV m c) (W m c) (row t s) k) (hX : ∀ s k, X (ix2 s k) = xh (P m c) (row t s) k)
    (g q1 q2 q3 p1 p2 p3 p4 p5 p6 p7 p8 p h) (x : S512x512.Idx) :
    truncf (F := Ideal) .bf16 (mulf (mulf (broadcastTo S512x512 (k0_pay18 (F := Ideal) (k0_pay13 (LP m c t 512 g)) (k0_pay14 (LP m c t 512 g))) q1) (subf (subf D (broadcastTo S512x512 (divf (shapeCast S512x1
        (multiReduction (F := Ideal) .add [1] S512 D 0#32 p1 p2 p3) p4) (broadcast S512x1 (FloatOps.ofBits .f32 1140850688#32 : Ideal .f32))) q2))
      (mulf X (broadcastTo S512x512 (divf (shapeCast S512x1 (multiReduction (F := Ideal) .add [1] S512 (mulf D X) 0#32 p5 p6 p7) p8)
        (broadcast S512x1 (FloatOps.ofBits .f32 1140850688#32 : Ideal .f32))) q3)))) (k0_pay16 (F := Ideal) (k0_pay13 (LP m c t 512 g)) (k0_pay14 (LP m c t 512 g)))) p x
      = G9 m c t ((Rect.unit (s := S512x2560) ![0, 512] ![512, 512] h).emb x) := by
  obtain ⟨s, k, rfl⟩ := two 512 512 x
  rw [emb2z _ _ _ _ (by omega) (by omega)]
  refine Eq.trans ?_ (dp_1 m c (row t s) k _).symm
  refine (strip D X _ _ _ _ _ _ _ _ _ _ _ _ _ _ s k).trans ?_
  have e : gv (P m c) (row t s) = fun j => ge (LP m c t 512 g (ix2 s j)) := funext fun j => by
    rw [lp_at _ _ _ _ _ _ _ (by omega)]; rfl
  have e1 : P m c (row t s) (c1 k) = LP m c t 512 g (ix2 s k) := by
    rw [lp_at _ _ _ _ _ _ _ (by omega)]; rfl
  rw [pay18_at, pay16_at, ← e1, ← e]
  simp only [hD, hX]
  rfl

/-! ## The columns of the gate -/

theorem uw (c : Dev nD) (t : Fin cfg0.N) (n hh : Fin 4) (Wm : FVec Ideal S128x128 .bf16) (DY : FVec Ideal S512x512 .f32) (V : FVec Ideal S512x512 .bf16)
    (U : FVec Ideal S512x512 .f32) (hW : ∀ i j, Wm (ix2 i j) = wm (W m c) hh i j) (hY : ∀ s k, DY (ix2 s k) = C m c (row t s) (a0 k))
    (hV : ∀ s k, V (ix2 s k) = vn (P m c) (NV m c) (row t s) k) (hU : ∀ s k, U (ix2 s k) = gd (P m c (row t s) (c0 k)))
    (a o : Nat) (ha : a = 128 * n.val) (ho : o = 128 * hh.val) (s1 s2 s3 p b q h) (x : S128x128.Idx) :
    truncf (F := Ideal) .bf16 (mulf (mulf (extractStridedSlice S128x128 ![a, o] DY s1) (addf (matmul dot_S128x128_S128x128_S128x128_1_0_0_1_n_n none Wm
        (extractStridedSlice S128x128 ![a, o] V s2) (constant (F := Ideal) S128x128 .f32 0#32)) (shapeCast S128x128 (LB (iblk m c 7 t) o b) q)))
        (extractStridedSlice S128x128 ![a, o] U s3)) p x
      = G9 m c t ((Rect.unit (s := S512x2560) ![a, o] ![128, 128] h).emb x) := by
  subst ha ho
  obtain ⟨i, j, rfl⟩ := two 128 128 x
  rw [emb2 _ _ _ _ _ (by omega) (by omega)]
  refine Eq.trans ?_ (dp_0 m c (row t (bc n i)) (hc hh j) _ rfl).symm
  have e1 : C m c (row t (bc n i)) (a0 (hc hh j)) = extractStridedSlice S128x128 ![128 * n.val, 128 * hh.val] DY s1 (ix2 i j) :=
    ((sl_at (e := .f32) DY _ _ _ _ _ (by omega) (by omega)).trans (hY _ _)).symm
  have e2 : gd (P m c (row t (bc n i)) (c0 (hc hh j))) = extractStridedSlice S128x128 ![128 * n.val, 128 * hh.val] U s3 (ix2 i j) :=
    ((sl_at (e := .f32) U _ _ _ _ _ (by omega) (by omega)).trans (hU _ _)).symm
  have e3 : zz (P m c) (NV m c) (W m c) (B m c) (row t (bc n i)) (hc hh j) = matmul dot_S128x128_S128x128_S128x128_1_0_0_1_n_n none Wm
      (extractStridedSlice S128x128 ![128 * n.val, 128 * hh.val] V s2) (constant (F := Ideal) S128x128 .f32 0#32) (ix2 i j) + LB (iblk m c 7 t) (128 * hh.val) b (ix2 i j) := by
    unfold zz
    simp only [hd_hc, pl_row, cr_row]
    refine congrArg₂ (· + ·) ((mm_n _ _ _ _).trans (Finset.sum_congr rfl fun l _ => congrArg₂ (· * ·) (hW i l) ?_)).symm ?_
    · exact (sl_at (e := .bf16) V _ _ _ _ _ (by omega) (by omega)).trans (hV _ _)
    · refine Eq.trans ?_ (congrArg (iblk m c 7 t) (emb2z _ b i j (by omega) (by omega))).symm
      rw [blk_b]
      exact congrFun (congrArg _ (hd_hc hh j).symm) _
  unfold du
  rw [e1, e2, e3]
  generalize matmul dot_S128x128_S128x128_S128x128_1_0_0_1_n_n none Wm
      (extractStridedSlice S128x128 ![128 * n.val, 128 * hh.val] V s2) (constant (F := Ideal) S128x128 .f32 0#32) = M
  generalize LB (iblk m c 7 t) (128 * hh.val) b = Z
  generalize extractStridedSlice S128x128 ![128 * n.val, 128 * hh.val] DY s1 = Y1
  generalize extractStridedSlice S128x128 ![128 * n.val, 128 * hh.val] U s3 = Y2
  pointwise

theorem u_at (c : Dev nD) (t : Fin cfg0.N) (h) (s k : Fin 512) : k0_pay12 (F := Ideal) (LP m c t 0 h) (ix2 s k) = gd (P m c (row t s) (c0 k)) := by
  rw [pay12_at, lp_at _ _ _ _ _ _ _ (by omega)]
  congr 2; exact Fin.ext (by simp [c0])

theorem left (y : S512x2560.Idx) (h4 h3 h2 h1) (n4 : y ∉ (Rect.unit (s := S512x2560) ![0, 2048] ![512, 512] h4).set)
    (n3 : y ∉ (Rect.unit (s := S512x2560) ![0, 1536] ![512, 512] h3).set) (n2 : y ∉ (Rect.unit (s := S512x2560) ![0, 1024] ![512, 512] h2).set)
    (n1 : y ∉ (Rect.unit (s := S512x2560) ![0, 512] ![512, 512] h1).set) : (y 1).val < 512 := by
  obtain ⟨i, k, rfl⟩ := two 512 2560 y
  rw [Rect.mem_set_unit, Fin.forall_fin_two] at n1 n2 n3 n4
  have hi := i.isLt
  have hk := k.isLt
  have e0 : ((ix2 i k : S512x2560.Idx) 0).val = i.val := rfl
  have e1 : ((ix2 i k : S512x2560.Idx) 1).val = k.val := rfl
  simp only [e0, e1, Matrix.cons_val_zero, Matrix.cons_val_one, Matrix.cons_val_fin_one] at n1 n2 n3 n4 ⊢
  omega

set_option maxHeartbeats 16000000 in
theorem o9 (c : Dev nD) (t : Fin cfg0.N) (y) : (outsAt0 m c t.val t.isLt).1 y = G9 m c t y := by
  by_cases h : t.val % 4 = 0
  on_goal 1 => rw [outsAt0_A m c t h]
  on_goal 2 => rw [outsAt0_B m c t h]
  all_goals
    dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    exact peel (Val := Elt Ideal) (e := .bf16) (G9 m c t) y _ _ _ (p9_4 m c t _ _ _ _ (fun s k => (sc_at _ _ s k).trans (lp3_at m c t _ s k)) (dq_at m c t _ _ _ (e_at m c t _ _ _ _ _) (u1_at m c t _ _ (e_at m c t _ _ _ _ _) (bot_at m c t 0 (by norm_num) _ _ _ _ _) _ _ _ _) (u2_at m c t _ (e_at m c t _ _ _ _ _) _ _ _ _ _ _) _ _ _ _ _) _) fun n4 =>
      peel (Val := Elt Ideal) (e := .bf16) (G9 m c t) y _ _ _ (p9_3 m c t _ _ _ _ (fun s k => (sc_at _ _ s k).trans (lp4_at m c t _ s k)) (dq_at m c t _ _ _ (e_at m c t _ _ _ _ _) (u1_at m c t _ _ (e_at m c t _ _ _ _ _) (bot_at m c t 0 (by norm_num) _ _ _ _ _) _ _ _ _) (u2_at m c t _ (e_at m c t _ _ _ _ _) _ _ _ _ _ _) _ _ _ _ _) _) fun n3 =>
      peel (Val := Elt Ideal) (e := .bf16) (G9 m c t) y _ _ _ (p9_2 m c t _ _ _ _ (dyb_at m c t _ _ _) (d2_at m c t _ _ _ (q_at m c t _ _ _ _) (top_at m c t 7 (by norm_num) _ _ _ _) (top_at m c t 6 (by norm_num) _ _ _ _) _ _ _ _ _ _ _) (d1_at m c t _ _ (q_at m c t _ _ _ _) (top_at m c t 7 (by norm_num) _ _ _ _) _ _ _ _) (q_at m c t _ _ _ _) _ _ _ _ _ _ _ _) fun n2 =>
      peel (Val := Elt Ideal) (e := .bf16) (G9 m c t) y _ _ _ (p9_1 m c t _ _ (dx_at m c t _ (scratch_at m c t _ _ _ _ _ _ (wm_at m c t 3 _ (w_at m c t 3 3 rfl _) _ _ _ _) (wm_at m c t 2 _ (w_at m c t 2 2 rfl _) _ _ _ _) (wm_at m c t 1 _ (w_at m c t 1 1 rfl _) _ _ _ _) (wm_at m c t 0 _ (w_at m c t 0 0 rfl _) _ _ _ _) (dz_at m c t _ _ _ _ _) _ _) _ _) (xh_at m c t _ _) _ _ _ _ _ _ _ _ _ _ _ _ _ _) fun n1 =>
      canon16 (e := .bf16) (by norm_num) (G9 m c t) y (left y _ _ _ _ n4 n3 n2 n1) _ _ _ _ _ _ _ _ _ _ _ _ _ _ _ _ _ _ _ _ _ _ _ _ _ _ _ _ _ _ _ _
        (uw m c t 3 3 _ _ _ _ (wm_at m c t 3 _ (w_at m c t 3 3 rfl _) _ _ _ _) (dy_at m c t _ _ _) (vn_at m c t _ (xh_at m c t _ _) _ _ _) (u_at m c t _) 384 384 rfl rfl _ _ _ _ _ _ _)
        (uw m c t 2 3 _ _ _ _ (wm_at m c t 3 _ (w_at m c t 3 3 rfl _) _ _ _ _) (dy_at m c t _ _ _) (vn_at m c t _ (xh_at m c t _ _) _ _ _) (u_at m c t _) 256 384 rfl rfl _ _ _ _ _ _ _)
        (uw m c t 1 3 _ _ _ _ (wm_at m c t 3 _ (w_at m c t 3 3 rfl _) _ _ _ _) (dy_at m c t _ _ _) (vn_at m c t _ (xh_at m c t _ _) _ _ _) (u_at m c t _) 128 384 rfl rfl _ _ _ _ _ _ _)
        (uw m c t 0 3 _ _ _ _ (wm_at m c t 3 _ (w_at m c t 3 3 rfl _) _ _ _ _) (dy_at m c t _ _ _) (vn_at m c t _ (xh_at m c t _ _) _ _ _) (u_at m c t _) 0 384 rfl rfl _ _ _ _ _ _ _)
        (uw m c t 3 2 _ _ _ _ (wm_at m c t 2 _ (w_at m c t 2 2 rfl _) _ _ _ _) (dy_at m c t _ _ _) (vn_at m c t _ (xh_at m c t _ _) _ _ _) (u_at m c t _) 384 256 rfl rfl _ _ _ _ _ _ _)
        (uw m c t 2 2 _ _ _ _ (wm_at m c t 2 _ (w_at m c t 2 2 rfl _) _ _ _ _) (dy_at m c t _ _ _) (vn_at m c t _ (xh_at m c t _ _) _ _ _) (u_at m c t _) 256 256 rfl rfl _ _ _ _ _ _ _)
        (uw m c t 1 2 _ _ _ _ (wm_at m c t 2 _ (w_at m c t 2 2 rfl _) _ _ _ _) (dy_at m c t _ _ _) (vn_at m c t _ (xh_at m c t _ _) _ _ _) (u_at m c t _) 128 256 rfl rfl _ _ _ _ _ _ _)
        (uw m c t 0 2 _ _ _ _ (wm_at m c t 2 _ (w_at m c t 2 2 rfl _) _ _ _ _) (dy_at m c t _ _ _) (vn_at m c t _ (xh_at m c t _ _) _ _ _) (u_at m c t _) 0 256 rfl rfl _ _ _ _ _ _ _)
        (uw m c t 3 1 _ _ _ _ (wm_at m c t 1 _ (w_at m c t 1 1 rfl _) _ _ _ _) (dy_at m c t _ _ _) (vn_at m c t _ (xh_at m c t _ _) _ _ _) (u_at m c t _) 384 128 rfl rfl _ _ _ _ _ _ _)
        (uw m c t 2 1 _ _ _ _ (wm_at m c t 1 _ (w_at m c t 1 1 rfl _) _ _ _ _) (dy_at m c t _ _ _) (vn_at m c t _ (xh_at m c t _ _) _ _ _) (u_at m c t _) 256 128 rfl rfl _ _ _ _ _ _ _)
        (uw m c t 1 1 _ _ _ _ (wm_at m c t 1 _ (w_at m c t 1 1 rfl _) _ _ _ _) (dy_at m c t _ _ _) (vn_at m c t _ (xh_at m c t _ _) _ _ _) (u_at m c t _) 128 128 rfl rfl _ _ _ _ _ _ _)
        (uw m c t 0 1 _ _ _ _ (wm_at m c t 1 _ (w_at m c t 1 1 rfl _) _ _ _ _) (dy_at m c t _ _ _) (vn_at m c t _ (xh_at m c t _ _) _ _ _) (u_at m c t _) 0 128 rfl rfl _ _ _ _ _ _ _)
        (uw m c t 3 0 _ _ _ _ (wm_at m c t 0 _ (w_at m c t 0 0 rfl _) _ _ _ _) (dy_at m c t _ _ _) (vn_at m c t _ (xh_at m c t _ _) _ _ _) (u_at m c t _) 384 0 rfl rfl _ _ _ _ _ _ _)
        (uw m c t 2 0 _ _ _ _ (wm_at m c t 0 _ (w_at m c t 0 0 rfl _) _ _ _ _) (dy_at m c t _ _ _) (vn_at m c t _ (xh_at m c t _ _) _ _ _) (u_at m c t _) 256 0 rfl rfl _ _ _ _ _ _ _)
        (uw m c t 1 0 _ _ _ _ (wm_at m c t 0 _ (w_at m c t 0 0 rfl _) _ _ _ _) (dy_at m c t _ _ _) (vn_at m c t _ (xh_at m c t _ _) _ _ _) (u_at m c t _) 128 0 rfl rfl _ _ _ _ _ _ _)
        (uw m c t 0 0 _ _ _ _ (wm_at m c t 0 _ (w_at m c t 0 0 rfl _) _ _ _ _) (dy_at m c t _ _ _) (vn_at m c t _ (xh_at m c t _ _) _ _ _) (u_at m c t _) 0 0 rfl rfl _ _ _ _ _ _ _)

end Cert.MixKernel

end
-- ==== Proof.MixArr.lean ====
/- Hand-written, untrusted: the five arrays that the gated mixer's gradient kernel leaves. -/
module

public import proofs.«01_k».proof.Proof.MixOut

@[expose] public section

set_option maxRecDepth 16384

noncomputable section

namespace Cert.MixKernel

open Cert.MixIdeal Cert.MixIdeal.Gen Idealize.ShloMosaic Idealize.ShloMosaic.TcCoe Idealize.SL.Sem Cert.Lib Cert.MixSpec
open Idealize.ShloMosaic.Pipeline (Dat)
open scoped BigOperators

variable (m : (ℓ : Loc nD τ sig) → Buf (Elt Ideal) ℓ)

def tz : Fin cfg0.N := ⟨3, lt_of_lt_of_eq (by norm_num) N_0.symm⟩

/-- The steps' four chunks each are the array's sixteen. -/
theorem sum_steps (f : Fin 16 → EReal) : ∑ t : Fin cfg0.N, ∑ n : Fin 4, f ⟨t.val * 4 + n.val, by have := lt4 t; omega⟩ = ∑ n, f n :=
  Fin.sum_mul_add_congr (S := cfg0.N) (F := fun t n => f ⟨t.val * 4 + n.val, by have := lt4 t; omega⟩) (fun t n hl => rfl) (by rw [show cfg0.N = 4 from N_0])

theorem row_bc (t : Fin cfg0.N) (n : Fin 4) (i : Fin 128) : row t (bc n i) = cr ⟨t.val * 4 + n.val, by have := lt4 t; omega⟩ i :=
  Fin.ext (by simp only [row, bc, cr]; omega)

theorem sum_rows (f : Fin 2048 → EReal) : ∑ t : Fin cfg0.N, ∑ s : Fin 512, f (row t s) = ∑ s, f s :=
  Fin.sum_mul_add_congr (S := cfg0.N) (F := fun t s => f (row t s)) (fun t s hl => congrArg f (Fin.ext (by simp only [row]; omega)))
    (by rw [show cfg0.N = 4 from N_0])

theorem pay4_at (y) : k0_pay4 (F := Ideal) y = 0 := by
  change Ideal.ofBits .f32 0#32 = 0
  rw [bits_0]; exact EReal.coe_zero
theorem pay5_at (y) : k0_pay5 (F := Ideal) y = 0 := by
  change Ideal.ofBits .f32 0#32 = 0
  rw [bits_0]; exact EReal.coe_zero
theorem pay6_at (y) : k0_pay6 (F := Ideal) y = 0 := by
  change Ideal.ofBits .f32 0#32 = 0
  rw [bits_0]; exact EReal.coe_zero
theorem pay7_at (y) : k0_pay7 (F := Ideal) y = 0 := by
  change Ideal.ofBits .f32 0#32 = 0
  rw [bits_0]; exact EReal.coe_zero

theorem last10 (c : Dev nD) (y) : (outsAt0 m c tz.val tz.isLt).2.1 y = dnv (P m c) (C m c) (W m c) (y 1) := by
  refine (Pipeline.eq_sum_fin_of_reset_step_apply_last (fun n h (y : S1x512.Idx) => ((outsAt0 m c n h).2.1 y : EReal)) 4 (fun _ => 0)
    (fun t y => ∑ n, ∑ i, dvn (P m c) (C m c) (W m c) (row t (bc n i)) (y 1) * xh (P m c) (row t (bc n i)) (y 1))
    (fun t h y => by rw [(o10 m c t y).1 h, G10, pay4_at]) (fun t h y => by rw [(o10 m c t y).2 h, G10]) (le_of_eq N_0) tz rfl y).trans ?_
  rw [zero_add]
  simp only [row_bc]
  exact sum_steps fun n => ∑ i, dvn (P m c) (C m c) (W m c) (cr n i) (y 1) * xh (P m c) (cr n i) (y 1)

theorem last12 (c : Dev nD) (y) : (outsAt0 m c tz.val tz.isLt).2.2.2.1 y = dzs (P m c) (C m c) (y 0) (y 1) := by
  refine (Pipeline.eq_sum_fin_of_reset_step_apply_last (fun n h (y : S128x512.Idx) => ((outsAt0 m c n h).2.2.2.1 y : EReal)) 4 (fun _ => 0)
    (fun t y => ∑ n, dz (P m c) (C m c) (row t (bc n (y 0))) (y 1))
    (fun t h y => by rw [(o12 m c t y).1 h, G12, pay6_at]) (fun t h y => by rw [(o12 m c t y).2 h, G12]) (le_of_eq N_0) tz rfl y).trans ?_
  rw [zero_add]
  refine (Finset.sum_congr rfl fun t _ => Finset.sum_congr rfl fun n _ => congrArg (fun s => dz (P m c) (C m c) s (y 1)) (row_bc t n (y 0))).trans ?_
  exact sum_steps fun n => dz (P m c) (C m c) (cr n (y 0)) (y 1)

theorem last11 (c : Dev nD) (y) : (outsAt0 m c tz.val tz.isLt).2.2.1 y = dws (P m c) (C m c) (NV m c) (y 0) (y 1) (y 2) := by
  refine (Pipeline.eq_sum_fin_of_reset_step_apply_last (fun n h (y : S4x128x128.Idx) => ((outsAt0 m c n h).2.2.1 y : EReal)) 4 (fun _ => 0)
    (fun t y => if (y 2).val ≤ (y 1).val then ∑ n, ∑ d, dz (P m c) (C m c) (row t (bc n (y 1))) (hc (y 0) d) * vn (P m c) (NV m c) (row t (bc n (y 2))) (hc (y 0) d) else 0)
    (fun t h y => by rw [(o11 m c t y).1 h, G11, pay5_at]) (fun t h y => by rw [(o11 m c t y).2 h, G11]) (le_of_eq N_0) tz rfl y).trans ?_
  rw [zero_add]
  unfold dws
  by_cases h : (y 2).val ≤ (y 1).val
  · refine (Finset.sum_congr rfl fun t _ => (if_pos h).trans (Finset.sum_congr rfl fun n _ => Finset.sum_congr rfl fun d _ =>
      congrArg₂ (fun a b => dz (P m c) (C m c) a (hc (y 0) d) * vn (P m c) (NV m c) b (hc (y 0) d)) (row_bc t n (y 1)) (row_bc t n (y 2)))).trans ?_
    refine Eq.trans ?_ (if_pos h).symm
    exact sum_steps fun n => ∑ d, dz (P m c) (C m c) (cr n (y 1)) (hc (y 0) d) * vn (P m c) (NV m c) (cr n (y 2)) (hc (y 0) d)
  · refine (Finset.sum_congr rfl fun t _ => if_neg h).trans ?_
    refine Eq.trans ?_ (if_neg h).symm
    exact Finset.sum_const_zero

theorem last13 (c : Dev nD) (y) : (outsAt0 m c tz.val tz.isLt).2.2.2.2 y = dcw (P m c) (C m c) (y 0) (y 1) := by
  refine (Pipeline.eq_sum_fin_of_reset_step_apply_last (fun n h (y : S3x512.Idx) => ((outsAt0 m c n h).2.2.2.2 y : EReal)) 4 (fun _ => 0)
    (fun t y => ∑ s, ee (P m c) (C m c) (row t s) (y 1) * qr m c (y 0) (row t s) (y 1))
    (fun t h y => by rw [(o13 m c t y).1 h, G13, pay7_at]) (fun t h y => by rw [(o13 m c t y).2 h, G13]) (le_of_eq N_0) tz rfl y).trans ?_
  rw [zero_add]
  exact sum_rows fun s => ee (P m c) (C m c) s (y 1) * qr m c (y 0) s (y 1)

/-! The results. -/

theorem value_dp (c : Dev nD) : (dats m 0 c).arrAt 9 cfg0.N
    = fun i => dp (P m c) (C m c) (NV m c) (W m c) (B m c) (CW m c) (i 0) (i 1) := by
  refine (dats m 0 c).arrAt_eq_of_covers 9 _ (by decide +kernel) fun t hf y => ?_
  have hx : ((View.whole main_v8_0).slice (win0_9.rect t)).emb y = ix2 (row t (y 0)) (y 1) := by
    blk_ext [idx t, row]
  blk_simp
  rw [after0_9, hx]
  exact o9 m c t y

theorem value_dnv (c : Dev nD) : (dats m 0 c).arrAt 10 cfg0.N = fun i => dnv (P m c) (C m c) (W m c) (i 1) := by
  refine (dats m 0 c).arrAt_eq_of_after_last 10 tz (by decide +kernel) _ fun j => ?_
  have hx : ((View.whole main_v8_1).slice (win0_10.rect tz)).emb j = j := by
    blk_ext [congrFun (idx tz).2.2.2.2.2.2.2.2.2.2.1 0, congrFun (idx tz).2.2.2.2.2.2.2.2.2.2.1 1]
  blk_simp
  rw [after0_10]
  exact last10 m c j

theorem value_dws (c : Dev nD) : (dats m 0 c).arrAt 11 cfg0.N = fun i => dws (P m c) (C m c) (NV m c) (i 0) (i 1) (i 2) := by
  refine (dats m 0 c).arrAt_eq_of_after_last 11 tz (by decide +kernel) _ fun j => ?_
  have hx : ((View.whole main_v8_2).slice (win0_11.rect tz)).emb j = j := by
    blk_ext [congrFun (idx tz).2.2.2.2.2.2.2.2.2.2.2.1 0, congrFun (idx tz).2.2.2.2.2.2.2.2.2.2.2.1 1, congrFun (idx tz).2.2.2.2.2.2.2.2.2.2.2.1 2]
  blk_simp
  rw [after0_11]
  exact last11 m c j

theorem value_dzs (c : Dev nD) : (dats m 0 c).arrAt 12 cfg0.N = fun i => dzs (P m c) (C m c) (i 0) (i 1) := by
  refine (dats m 0 c).arrAt_eq_of_after_last 12 tz (by decide +kernel) _ fun j => ?_
  have hx : ((View.whole main_v8_3).slice (win0_12.rect tz)).emb j = j := by
    blk_ext [congrFun (idx tz).2.2.2.2.2.2.2.2.2.2.2.2.1 0, congrFun (idx tz).2.2.2.2.2.2.2.2.2.2.2.2.1 1]
  blk_simp
  rw [after0_12]
  exact last12 m c j

theorem value_dcw (c : Dev nD) : (dats m 0 c).arrAt 13 cfg0.N = fun i => dcw (P m c) (C m c) (i 0) (i 1) := by
  refine (dats m 0 c).arrAt_eq_of_after_last 13 tz (by decide +kernel) _ fun j => ?_
  have hx : ((View.whole main_v8_4).slice (win0_13.rect tz)).emb j = j := by
    blk_ext [congrFun (idx tz).2.2.2.2.2.2.2.2.2.2.2.2.2 0, congrFun (idx tz).2.2.2.2.2.2.2.2.2.2.2.2.2 1]
  blk_simp
  rw [after0_13]
  exact last13 m c j

end Cert.MixKernel

end
-- ==== Proof.MixRef.lean ====
/- Hand-written, untrusted: the gated mixer's reference gradient, an operation at a time, at an index. -/
module

public import proofs.«01_k».proof.Proof.Gen.MixRefIdeal.Read
public import Idealize.ShloMosaic.Lib.Pipeline.ValueKit
public import Idealize.ShloMosaic.Lib.WordCmp
public import proofs.«01_k».proof.Proof.MixSpec

@[expose] public section

set_option maxRecDepth 16384

noncomputable section

namespace Cert.MixRef

open Cert.MixRefIdeal Cert.MixRefIdeal.Gen Cert.MixRefIdeal.Read Idealize.ShloMosaic Idealize.ShloMosaic.TcCoe Cert.MixSpec Cert.Lib
open scoped BigOperators

variable (x0 : (⟨S1x2048x2560, .f32⟩ : BufTy).Contents (Elt Ideal)) (x1 : (⟨S1x2048x1024, .f32⟩ : BufTy).Contents (Elt Ideal))
  (x2 : (⟨S512, .f32⟩ : BufTy).Contents (Elt Ideal)) (x3 : (⟨S4x128x128, .f32⟩ : BufTy).Contents (Elt Ideal))
  (x4 : (⟨S4x128, .f32⟩ : BufTy).Contents (Elt Ideal)) (x5 : (⟨S3x512, .f32⟩ : BufTy).Contents (Elt Ideal))

/-- The arguments, by row and column. -/
def P (s : Fin 2048) (f : Fin 2560) : EReal := x0 (ix3 0 s f)
def C (s : Fin 2048) (f : Fin 1024) : EReal := x1 (ix3 0 s f)
def N (k : Fin 512) : EReal := x2 (ix1 k)
def W (h : Fin 4) (i j : Fin 128) : EReal := x3 (ix3 h i j)
def B (h : Fin 4) (i : Fin 128) : EReal := x4 (ix2 h i)
def CW (r : Fin 3) (k : Fin 512) : EReal := x5 (ix2 r k)

theorem p0_eq (s k) : val_main_v3 (F := Ideal) x0 (ix3 0 s k) = P x0 s (c0 k) := by unfold P c0; pointwise [val_main_v3]
theorem p1_eq (s k) : val_main_v4 (F := Ideal) x0 (ix3 0 s k) = P x0 s (c1 k) := by unfold P c1; pointwise [val_main_v4]
theorem p2_eq (s k) : val_main_v5 (F := Ideal) x0 (ix3 0 s k) = P x0 s (c2 k) := by unfold P c2; pointwise [val_main_v5]
theorem p3_eq (s k) : val_main_v6 (F := Ideal) x0 (ix3 0 s k) = P x0 s (c3 k) := by unfold P c3; pointwise [val_main_v6]
theorem p4_eq (s k) : val_main_v7 (F := Ideal) x0 (ix3 0 s k) = P x0 s (c4 k) := by unfold P c4; pointwise [val_main_v7]
theorem ct0_eq (s k) : val_main_v119 (F := Ideal) x1 (ix3 0 s k) = C x1 s (a0 k) := by unfold C a0; pointwise [val_main_v119]
theorem ct1_eq (s k) : val_main_v120 (F := Ideal) x1 (ix3 0 s k) = C x1 s (a1 k) := by unfold C a1; pointwise [val_main_v120]

/-! ## The gelu of both gated parts -/

theorem thu_eq (s k) : val_main_v20 (F := Ideal) x0 (ix3 0 s k) = th (P x0 s (c0 k)) := by
  rw [← th_div, ← p0_eq]
  pointwise [val_main_v20, val_main_v19, val_main_v18, val_main_cst_2, val_main_v17, val_main_v16, val_main_v15, val_main_cst_1, val_main_v14, val_main_v13, val_main_cst_0, val_main_v9, val_main_v8]

theorem hu_eq (s k) : val_main_v29 (F := Ideal) x0 (ix3 0 s k) = half * (one + th (P x0 s (c0 k))) := by
  rw [← thu_eq]
  pointwise [val_main_v29, val_main_v28, val_main_cst_6, val_main_v27, val_main_v26, val_main_cst_5]

theorem su_eq (s k) : val_main_v25 (F := Ideal) x0 (ix3 0 s k) = (one + th (P x0 s (c0 k))) * (one - th (P x0 s (c0 k))) := by
  rw [← thu_eq]
  pointwise [val_main_v25, val_main_v24, val_main_cst_4, val_main_v23, val_main_v22, val_main_v21, val_main_cst_3]

theorem gu_eq (s k) : val_main_v30 (F := Ideal) x0 (ix3 0 s k) = ge (P x0 s (c0 k)) := by
  rw [← ge_ref, ← hu_eq, ← p0_eq]
  pointwise [val_main_v30]

theorem squ_eq (s k) : val_main_v12 (F := Ideal) x0 (ix3 0 s k) = Ideal.ofBits .f32 0x40400000#32 * (P x0 s (c0 k) * P x0 s (c0 k)) := by
  rw [← p0_eq]
  pointwise [val_main_v12, val_main_v11, val_main_cst, val_main_v10]

theorem thv_eq (s k) : val_main_v43 (F := Ideal) x0 (ix3 0 s k) = th (P x0 s (c1 k)) := by
  rw [← th_div, ← p1_eq]
  pointwise [val_main_v43, val_main_v42, val_main_v41, val_main_cst_10, val_main_v40, val_main_v39, val_main_v38, val_main_cst_9, val_main_v37, val_main_v36, val_main_cst_8, val_main_v32, val_main_v31]

theorem hv_eq (s k) : val_main_v52 (F := Ideal) x0 (ix3 0 s k) = half * (one + th (P x0 s (c1 k))) := by
  rw [← thv_eq]
  pointwise [val_main_v52, val_main_v51, val_main_cst_14, val_main_v50, val_main_v49, val_main_cst_13]

theorem sv_eq (s k) : val_main_v48 (F := Ideal) x0 (ix3 0 s k) = (one + th (P x0 s (c1 k))) * (one - th (P x0 s (c1 k))) := by
  rw [← thv_eq]
  pointwise [val_main_v48, val_main_v47, val_main_v46, val_main_cst_12, val_main_v45, val_main_v44, val_main_cst_11]

theorem gv_eq (s k) : val_main_v53 (F := Ideal) x0 (ix3 0 s k) = gv (P x0) s k := by
  unfold gv
  rw [← ge_ref, ← hv_eq, ← p1_eq]
  pointwise [val_main_v53]

theorem sqv_eq (s k) : val_main_v35 (F := Ideal) x0 (ix3 0 s k) = Ideal.ofBits .f32 0x40400000#32 * (P x0 s (c1 k) * P x0 s (c1 k)) := by
  rw [← p1_eq]
  pointwise [val_main_v35, val_main_v34, val_main_cst_7, val_main_v33]

/-! ## The normalised rows -/

theorem mean_eq (s : Fin 2048) : val_main_v57 (F := Ideal) x0 (ix3 0 s 0) = Ideal.div (∑ j, gv (P x0) s j) b512 := by
  simp only [← gv_eq]
  pointwise [val_main_v57, val_main_v56, val_main_cst_16, val_main_v55, val_main_v54, val_main_cst_15]

theorem cen_eq (s k) : val_main_v59 (F := Ideal) x0 (ix3 0 s k) = cen (gv (P x0) s) k := by
  unfold cen
  rw [← mean_eq, ← gv_eq]
  pointwise [val_main_v59, val_main_v58]

theorem cen2_eq (s k) : val_main_v68 (F := Ideal) x0 (ix3 0 s k) = cen (gv (P x0) s) k := by
  rw [← cen_eq]; rfl

theorem two_cen_eq (s k) : val_main_v62 (F := Ideal) x0 (ix3 0 s k) = Ideal.ofBits .f32 0x40000000#32 * cen (gv (P x0) s) k := by
  rw [← cen_eq]
  pointwise [val_main_v62, val_main_v61, val_main_cst_17]

theorem vr_eq (s : Fin 2048) : val_main_v70 (F := Ideal) x0 (ix3 0 s 0) = vr (gv (P x0) s) := by
  unfold vr
  simp only [← cen_eq]
  pointwise [val_main_v70, val_main_v69, val_main_cst_20, val_main_v66, val_main_v65, val_main_cst_19, val_main_v64, val_main_v63, val_main_cst_18, val_main_v60]

theorem rs_eq (s : Fin 2048) : val_main_v71 (F := Ideal) x0 (ix3 0 s 0) = rs (gv (P x0) s) := by
  unfold rs
  rw [← vr_eq]
  pointwise [val_main_v71]

theorem hr_eq (s : Fin 2048) : val_main_v74 (F := Ideal) x0 (ix3 0 s 0) = Ideal.ofBits .f32 0xBF000000#32 * Ideal.div (rs (gv (P x0) s)) (vr (gv (P x0) s)) := by
  rw [← vr_eq, ← rs_eq]
  pointwise [val_main_v74, val_main_v73, val_main_cst_21, val_main_v72]

theorem xh_eq (s k) : val_main_v76 (F := Ideal) x0 (ix3 0 s k) = xh (P x0) s k := by
  unfold xh lnx
  rw [← rs_eq, ← cen2_eq]
  pointwise [val_main_v76, val_main_v75]

theorem vn_eq (s k) : val_main_v79 (F := Ideal) x0 x2 (ix3 0 s k) = vn (P x0) (N x2) s k := by
  unfold vn N
  rw [← xh_eq]
  pointwise [val_main_v79, val_main_v78, val_main_v77]

theorem vn5_eq (n : Fin 16) (i : Fin 128) (h : Fin 4) (d : Fin 128) :
    val_main_v80 (F := Ideal) x0 x2 (ix5 0 n i h d) = vn (P x0) (N x2) (cr n i) (hc h d) := by
  rw [← vn_eq]
  pointwise [val_main_v80]
  exact congrArg₂ (fun a b => val_main_v79 (F := Ideal) x0 x2 (ix3 0 a b)) (Fin.ext (by simp only [cr]; omega)) (Fin.ext (by simp only [hc]; omega))

/-! ## The lower triangle of the heads' matrices -/

theorem mask_eq (i j : Fin 128) : val_main_v82 (F := Ideal) (ix2 i j) = if j ≤ i then one else Ideal.ofBits .f32 0x00000000#32 := by
  have e : val_main_call0_v4 (F := Ideal) (ix2 i j) = BitVec.ofBool (decide (j.val ≤ i.val)) := by
    rw [val_main_call0_v4_apply, ← WordCmp.cmpi_sge_ofNat (w := 32) (by omega) (by omega)]
    refine congrArg₂ (IntOp.cmpi .sge) ?_ rfl
    show IntOp.addi (BitVec.ofNat 32 i.val) 0#32 = _
    exact BitVec.add_zero _
  rw [val_main_v82_apply, e]
  by_cases h : j ≤ i
  · rw [if_pos h, decide_eq_true (show j.val ≤ i.val from h)]; rfl
  · rw [if_neg h, decide_eq_false (show ¬ j.val ≤ i.val from h)]; rfl

theorem wm_eq (h : Fin 4) (i j : Fin 128) : val_main_v85 (F := Ideal) x3 (ix3 h i j) = wm (W x3) h i j := by
  have e : val_main_v85 (F := Ideal) x3 (ix3 h i j) = W x3 h i j * val_main_v82 (F := Ideal) (ix2 i j) := by
    unfold W
    pointwise [val_main_v85, val_main_v84, val_main_v83]
  rw [e, mask_eq]
  unfold wm
  split_ifs
  · rw [show one = 1 from bits_1.trans EReal.coe_one, mul_one]
  · rw [bits_0, EReal.coe_zero, mul_zero]

/-! ## The mixed rows -/

theorem mix5_eq (n : Fin 16) (i : Fin 128) (h : Fin 4) (d : Fin 128) :
    val_main_v90 (F := Ideal) x0 x2 x3 x4 (ix5 0 n i h d)
      = (∑ j, wm (W x3) h i j * vn (P x0) (N x2) (cr n j) (hc h d)) + B x4 h i := by
  simp only [← vn5_eq, ← wm_eq, mul_comm (val_main_v85 (F := Ideal) x3 _)]
  unfold B
  pointwise [val_main_v90, val_main_v89, val_main_v88, val_main_v2, val_main_v1, val_main_v0, val_main_v87, val_main_v86]

theorem hc_hd (k : Fin 512) : hc (hd k) (ln k) = k := Fin.ext (by simp only [hc, hd, ln]; omega)

theorem zz_eq (s k) : val_main_v91 (F := Ideal) x0 x2 x3 x4 (ix3 0 s k) = zz (P x0) (N x2) (W x3) (B x4) s k := by
  have e : val_main_v91 (F := Ideal) x0 x2 x3 x4 (ix3 0 s k) = val_main_v90 (F := Ideal) x0 x2 x3 x4 (ix5 0 (ck s) (pl s) (hd k) (ln k)) := by
    unfold ck pl hd ln
    pointwise [val_main_v91]
  rw [e, mix5_eq, hc_hd]
  rfl

/-! ## The gradient of the mixing -/

theorem dz_eq (s k) : val_main_v158 (F := Ideal) x0 x1 (ix3 0 s k) = dz (P x0) (C x1) s k := by
  unfold dz
  rw [← gu_eq, ← ct0_eq, mul_comm]
  pointwise [val_main_v158]

theorem dz5_eq (n : Fin 16) (i : Fin 128) (h : Fin 4) (d : Fin 128) :
    val_main_v160 (F := Ideal) x0 x1 (ix5 0 n i h d) = dz (P x0) (C x1) (cr n i) (hc h d) := by
  rw [← dz_eq]
  pointwise [val_main_v160]
  exact congrArg₂ (fun a b => val_main_v158 (F := Ideal) x0 x1 (ix3 0 a b)) (Fin.ext (by simp only [cr]; omega)) (Fin.ext (by simp only [hc]; omega))

theorem dzt_eq (n : Fin 16) (i : Fin 128) (h : Fin 4) (d : Fin 128) :
    val_main_v164 (F := Ideal) x0 x1 (ix5 h 0 n d i) = dz (P x0) (C x1) (cr n i) (hc h d) := by
  rw [← dz5_eq]
  pointwise [val_main_v164]

theorem dvn5_eq (n : Fin 16) (j : Fin 128) (h : Fin 4) (d : Fin 128) :
    val_main_v167 (F := Ideal) x0 x1 x3 (ix5 0 n j h d) = ∑ i, wm (W x3) h i j * dz (P x0) (C x1) (cr n i) (hc h d) := by
  simp only [← dzt_eq, ← wm_eq, mul_comm (val_main_v85 (F := Ideal) x3 _)]
  pointwise [val_main_v167, val_main_v166]

theorem dvn_eq (s k) : val_main_v170 (F := Ideal) x0 x1 x3 (ix3 0 s k) = dvn (P x0) (C x1) (W x3) s k := by
  have e : val_main_v170 (F := Ideal) x0 x1 x3 (ix3 0 s k) = val_main_v167 (F := Ideal) x0 x1 x3 (ix5 0 (ck s) (pl s) (hd k) (ln k)) := by
    unfold ck pl hd ln
    pointwise [val_main_v170]
  rw [e, dvn5_eq, hc_hd]
  rfl

theorem dxh_eq (s k) : val_main_v175 (F := Ideal) x0 x1 x2 x3 (ix3 0 s k) = dxh (P x0) (C x1) (N x2) (W x3) s k := by
  unfold dxh N
  rw [← dvn_eq]
  pointwise [val_main_v175, val_main_v174, val_main_v77]

/-- The gradient of the scale of the normalised rows. -/
theorem dnv_eq (k : Fin 512) : val_main_v234 (F := Ideal) x0 x1 x3 (ix2 0 k) = dnv (P x0) (C x1) (W x3) k := by
  unfold dnv
  rw [sum_chunks (fun s => dvn (P x0) (C x1) (W x3) s k * xh (P x0) s k)]
  have e : ∀ s, dvn (P x0) (C x1) (W x3) s k * xh (P x0) s k = val_main_v171 (F := Ideal) x0 x1 x3 (ix3 0 s k) := fun s => by
    rw [← dvn_eq, ← xh_eq, mul_comm]
    pointwise [val_main_v171]
  simp only [e]
  have e2 : val_main_v176 (F := Ideal) x0 x1 x3 (ix1 k) = ∑ s, val_main_v171 (F := Ideal) x0 x1 x3 (ix3 0 s k) := by
    unfold val_main_v176
    simp only [Host.reduceAdd, Ideal.hostReduceAdd_def]
    rw [hostReduceAdd_last, Fin.sum_univ_one, Fin.sum_univ_one]
    pointwise [val_main_cst_40, val_main_v173, val_main_v172, val_main_cst_39]
  rw [← e2]
  pointwise [val_main_v234]

/-! ## The gradient of the bias and of the heads' matrices -/

theorem hostReduceAdd_head {A S D E G : ℕ} (h : (⟨5, ![A, S, D, E, G]⟩ : Shape).ReducesTo [0, 1] ⟨3, ![D, E, G]⟩)
    (x : (⟨5, ![A, S, D, E, G]⟩ : Shape).Idx → EReal) (init : EReal) (d : Fin D) (e : Fin E) (g : Fin G) :
    Ideal.hostReduceAdd h x init (ix3 d e g) = init + ∑ a : Fin A, ∑ s : Fin S, x (ix5 a s d e g) := by
  rw [hostReduceAdd_eq (K := Fin A × Fin S) h x init _ (fun p => ix5 p.1 p.2 d e g), Fintype.sum_prod_type]
  · rintro ⟨a, s⟩ ⟨a', s'⟩ hp
    exact Prod.ext (congrFun hp 0) (congrFun hp 1)
  · intro i
    have h0 : (h.drop i 0).val = (i 2).val := rfl
    have h1 : (h.drop i 1).val = (i 3).val := rfl
    have h2 : (h.drop i 2).val = (i 4).val := rfl
    constructor
    · intro hi
      refine ⟨(i 0, i 1), ?_⟩
      have k0 : (i 2).val = d.val := by rw [← h0, hi]; rfl
      have k1 : (i 3).val = e.val := by rw [← h1, hi]; rfl
      have k2 : (i 4).val = g.val := by rw [← h2, hi]; rfl
      funext a
      match a with
      | ⟨0, _⟩ => rfl
      | ⟨1, _⟩ => rfl
      | ⟨2, _⟩ => exact Fin.ext k0.symm
      | ⟨3, _⟩ => exact Fin.ext k1.symm
      | ⟨4, _⟩ => exact Fin.ext k2.symm
    · rintro ⟨p, rfl⟩
      funext a
      match a with
      | ⟨0, _⟩ => exact Fin.ext h0
      | ⟨1, _⟩ => exact Fin.ext h1
      | ⟨2, _⟩ => exact Fin.ext h2

theorem dzs_eq (i : Fin 128) (k : Fin 512) : val_main_v235 (F := Ideal) x0 x1 (ix2 i k) = dzs (P x0) (C x1) i k := by
  have e : val_main_v235 (F := Ideal) x0 x1 (ix2 i k) = val_main_v163 (F := Ideal) x0 x1 (ix3 i (hd k) (ln k)) := by
    unfold hd ln
    pointwise [val_main_v235]
  have e2 : val_main_v163 (F := Ideal) x0 x1 (ix3 i (hd k) (ln k)) = ∑ n, val_main_v160 (F := Ideal) x0 x1 (ix5 0 n i (hd k) (ln k)) := by
    unfold val_main_v163
    simp only [Host.reduceAdd, Ideal.hostReduceAdd_def]
    rw [hostReduceAdd_head, Fin.sum_univ_one, Fin.sum_univ_one]
    pointwise [val_main_cst_38, val_main_v162, val_main_v161, val_main_cst_37]
  rw [e, e2]
  unfold dzs
  exact Finset.sum_congr rfl fun n _ => by rw [dz5_eq, hc_hd]

local notation "D3" => dot_S4x1x16x128x128_S1x16x128x4x128_S4x128x128_123_014_4_2_0_3

/-- The index of the contraction over the chunks and the columns of a head. -/
def pairs : Fin 16 × Fin 128 ≃ (D3).contr.Idx where
  toFun p := fun a => match a with
    | ⟨0, _⟩ => ⟨0, Nat.one_pos⟩
    | ⟨1, _⟩ => p.1
    | ⟨2, _⟩ => p.2
  invFun q := (q ⟨1, by decide⟩, q ⟨2, by decide⟩)
  left_inv p := rfl
  right_inv q := by
    funext a
    match a with
    | ⟨0, h⟩ => exact Fin.ext (by have : (q ⟨0, h⟩).val < 1 := (q ⟨0, h⟩).isLt; show 0 = (q ⟨0, h⟩).val; omega)
    | ⟨1, _⟩ => rfl
    | ⟨2, _⟩ => rfl

theorem dws_eq (h : Fin 4) (i j : Fin 128) : val_main_v169 (F := Ideal) x0 x1 x2 (ix3 h i j) = dws (P x0) (C x1) (N x2) h i j := by
  have e : val_main_v165 (F := Ideal) x0 x1 x2 (ix3 h i j)
      = ∑ n, ∑ d, val_main_v164 (F := Ideal) x0 x1 (ix5 h 0 n d i) * val_main_v80 (F := Ideal) x0 x2 (ix5 0 n j h d) := by
    unfold val_main_v165
    generalize val_main_v164 (F := Ideal) x0 x1 = y0
    generalize val_main_v80 (F := Ideal) x0 x2 = y1
    simp only [Host.dotGeneral]
    rw [Ideal.dotGeneral_apply, ← Equiv.sum_comp pairs, Fintype.sum_prod_type]
    refine Finset.sum_congr rfl fun n _ => Finset.sum_congr rfl fun d _ => ?_
    refine congrArg₂ (· * ·) (congrArg y0 (funext fun a => ?_)) (congrArg y1 (funext fun a => ?_))
    · match a with
      | ⟨0, _⟩ => exact Fin.ext (show ((D3).lhsIdx (ix3 h i j) (pairs (n, d)) (0 : Fin S4x1x16x128x128.rank)).val = h.val by unfold DotDims.lhsIdx; rw [dif_pos (show (0 : Fin S4x1x16x128x128.rank) ∈ (D3).lhsBatch by decide)]; rfl)
      | ⟨1, _⟩ => exact Fin.ext (show ((D3).lhsIdx (ix3 h i j) (pairs (n, d)) (1 : Fin S4x1x16x128x128.rank)).val = (0 : Fin 1).val by unfold DotDims.lhsIdx; rw [dif_neg (show ¬ (1 : Fin S4x1x16x128x128.rank) ∈ (D3).lhsBatch by decide), dif_neg (show ¬ (1 : Fin S4x1x16x128x128.rank) ∈ (D3).lhsNonContracting by decide)]; rfl)
      | ⟨2, _⟩ => exact Fin.ext (show ((D3).lhsIdx (ix3 h i j) (pairs (n, d)) (2 : Fin S4x1x16x128x128.rank)).val = n.val by unfold DotDims.lhsIdx; rw [dif_neg (show ¬ (2 : Fin S4x1x16x128x128.rank) ∈ (D3).lhsBatch by decide), dif_neg (show ¬ (2 : Fin S4x1x16x128x128.rank) ∈ (D3).lhsNonContracting by decide)]; rfl)
      | ⟨3, _⟩ => exact Fin.ext (show ((D3).lhsIdx (ix3 h i j) (pairs (n, d)) (3 : Fin S4x1x16x128x128.rank)).val = d.val by unfold DotDims.lhsIdx; rw [dif_neg (show ¬ (3 : Fin S4x1x16x128x128.rank) ∈ (D3).lhsBatch by decide), dif_neg (show ¬ (3 : Fin S4x1x16x128x128.rank) ∈ (D3).lhsNonContracting by decide)]; rfl)
      | ⟨4, _⟩ => exact Fin.ext (show ((D3).lhsIdx (ix3 h i j) (pairs (n, d)) (4 : Fin S4x1x16x128x128.rank)).val = i.val by unfold DotDims.lhsIdx; rw [dif_neg (show ¬ (4 : Fin S4x1x16x128x128.rank) ∈ (D3).lhsBatch by decide), dif_pos (show (4 : Fin S4x1x16x128x128.rank) ∈ (D3).lhsNonContracting by decide)]; rfl)
    · match a with
      | ⟨0, _⟩ => exact Fin.ext (show ((D3).rhsIdx (ix3 h i j) (pairs (n, d)) (0 : Fin S1x16x128x4x128.rank)).val = (0 : Fin 1).val by unfold DotDims.rhsIdx; rw [dif_neg (show ¬ (0 : Fin S1x16x128x4x128.rank) ∈ (D3).rhsBatch by decide), dif_neg (show ¬ (0 : Fin S1x16x128x4x128.rank) ∈ (D3).rhsNonContracting by decide)]; rfl)
      | ⟨1, _⟩ => exact Fin.ext (show ((D3).rhsIdx (ix3 h i j) (pairs (n, d)) (1 : Fin S1x16x128x4x128.rank)).val = n.val by unfold DotDims.rhsIdx; rw [dif_neg (show ¬ (1 : Fin S1x16x128x4x128.rank) ∈ (D3).rhsBatch by decide), dif_neg (show ¬ (1 : Fin S1x16x128x4x128.rank) ∈ (D3).rhsNonContracting by decide)]; rfl)
      | ⟨2, _⟩ => exact Fin.ext (show ((D3).rhsIdx (ix3 h i j) (pairs (n, d)) (2 : Fin S1x16x128x4x128.rank)).val = j.val by unfold DotDims.rhsIdx; rw [dif_neg (show ¬ (2 : Fin S1x16x128x4x128.rank) ∈ (D3).rhsBatch by decide), dif_pos (show (2 : Fin S1x16x128x4x128.rank) ∈ (D3).rhsNonContracting by decide)]; rfl)
      | ⟨3, _⟩ => exact Fin.ext (show ((D3).rhsIdx (ix3 h i j) (pairs (n, d)) (3 : Fin S1x16x128x4x128.rank)).val = h.val by unfold DotDims.rhsIdx; rw [dif_pos (show (3 : Fin S1x16x128x4x128.rank) ∈ (D3).rhsBatch by decide)]; rfl)
      | ⟨4, _⟩ => exact Fin.ext (show ((D3).rhsIdx (ix3 h i j) (pairs (n, d)) (4 : Fin S1x16x128x4x128.rank)).val = d.val by unfold DotDims.rhsIdx; rw [dif_neg (show ¬ (4 : Fin S1x16x128x4x128.rank) ∈ (D3).rhsBatch by decide), dif_neg (show ¬ (4 : Fin S1x16x128x4x128.rank) ∈ (D3).rhsNonContracting by decide)]; rfl)
  have e2 : val_main_v169 (F := Ideal) x0 x1 x2 (ix3 h i j) = val_main_v165 (F := Ideal) x0 x1 x2 (ix3 h i j) * val_main_v82 (F := Ideal) (ix2 i j) := by
    pointwise [val_main_v169, val_main_v168, val_main_v83]
  rw [e2, e, mask_eq]
  unfold dws
  simp only [dzt_eq, vn5_eq]
  split_ifs
  · rw [show one = 1 from bits_1.trans EReal.coe_one, mul_one]
  · rw [bits_0, EReal.coe_zero, mul_zero]

/-! ## The convolution along the rows, and its gradient -/

theorem qq_eq (s k) : val_main_v93 (F := Ideal) x0 (ix3 0 s k) = qq (P x0) s k := by
  unfold qq
  rw [← p3_eq, ← p4_eq]
  pointwise [val_main_v93]

theorem ee_eq (s k) : val_main_v121 (F := Ideal) x0 x1 (ix3 0 s k) = ee (P x0) (C x1) s k := by
  unfold ee
  rw [← p2_eq, ← ct1_eq, mul_comm]
  pointwise [val_main_v121]

theorem cat_eq (r : Fin 2050) (k : Fin 512) :
    val_main_v95 (F := Ideal) x0 (ix3 0 r k) = if h : 2 ≤ r.val then qq (P x0) ⟨r.val - 2, by omega⟩ k else 0 := by
  simp only [← qq_eq]
  pointwise [val_main_v95]
  by_cases h : r.val < 2
  · rw [dif_pos h, dif_neg (by omega)]
    pointwise [val_main_v94, val_main_cst_23]
  · rw [dif_neg h, dif_pos (by omega)]

theorem d2_eq (s k) : val_main_v99 (F := Ideal) x0 (ix3 0 s k) = dn 2 (qq (P x0)) s k := by
  have e : val_main_v99 (F := Ideal) x0 (ix3 0 s k) = val_main_v95 (F := Ideal) x0 (ix3 0 ⟨s.val, by omega⟩ k) := by
    pointwise [val_main_v99]
  rw [e, cat_eq]
  rfl

theorem d1_eq (s k) : val_main_v105 (F := Ideal) x0 (ix3 0 s k) = dn 1 (qq (P x0)) s k := by
  have e : val_main_v105 (F := Ideal) x0 (ix3 0 s k) = val_main_v95 (F := Ideal) x0 (ix3 0 ⟨1 + s.val, by omega⟩ k) := by
    pointwise [val_main_v105]
  rw [e, cat_eq]
  unfold dn
  by_cases h : 1 ≤ s.val
  · rw [dif_pos (show 2 ≤ 1 + s.val by omega), if_pos h]
    exact congrArg (fun a => qq (P x0) a k) (Fin.ext (show 1 + s.val - 2 = s.val - 1 by omega))
  · rw [dif_neg (show ¬ 2 ≤ 1 + s.val by omega), if_neg h]

theorem d0_eq (s k) : val_main_v112 (F := Ideal) x0 (ix3 0 s k) = qq (P x0) s k := by
  have e : val_main_v112 (F := Ideal) x0 (ix3 0 s k) = val_main_v95 (F := Ideal) x0 (ix3 0 ⟨2 + s.val, by omega⟩ k) := by
    pointwise [val_main_v112]
  rw [e, cat_eq, dif_pos (show 2 ≤ 2 + s.val by omega)]
  exact congrArg (fun a => qq (P x0) a k) (Fin.ext (show 2 + s.val - 2 = s.val by omega))

theorem w0_eq (k : Fin 512) : val_main_v100 (F := Ideal) x5 (ix3 0 0 k) = CW x5 0 k := by
  unfold CW; pointwise [val_main_v100, val_main_v98, val_main_v97]
theorem w1_eq (k : Fin 512) : val_main_v106 (F := Ideal) x5 (ix3 0 0 k) = CW x5 1 k := by
  unfold CW; pointwise [val_main_v106, val_main_v104, val_main_v103]
theorem w2_eq (k : Fin 512) : val_main_v113 (F := Ideal) x5 (ix3 0 0 k) = CW x5 2 k := by
  unfold CW; pointwise [val_main_v113, val_main_v111, val_main_v110]

theorem conv_eq (s k) : val_main_v116 (F := Ideal) x0 x5 (ix3 0 s k) = conv (P x0) (CW x5) s k := by
  unfold conv
  rw [← w0_eq, ← w1_eq, ← w2_eq, ← d0_eq, ← d1_eq, ← d2_eq]
  pointwise [val_main_v116, val_main_v115, val_main_v114, val_main_v109, val_main_v108, val_main_v107, val_main_v102, val_main_v101]

theorem u2_eq (s k) : val_main_v129 (F := Ideal) x0 x1 x5 (ix3 0 (⟨2 + s.val, by omega⟩ : Fin 2050) k) = CW x5 2 k * ee (P x0) (C x1) s k := by
  rw [← w2_eq, ← ee_eq]
  pointwise [val_main_v129, val_main_cst_27, val_main_v124, val_main_v123]

theorem u1_eq (s k) : val_main_v138 (F := Ideal) x0 x1 x5 (ix3 0 (⟨2 + s.val, by omega⟩ : Fin 2050) k) = CW x5 1 k * up 1 (ee (P x0) (C x1)) s k := by
  unfold up
  simp only [← ee_eq]
  rw [← w1_eq]
  pointwise [val_main_v138, val_main_cst_31]
  by_cases h : s.val + 1 < 2048
  · rw [dif_pos (by omega), dif_pos h]
    pointwise [val_main_v133, val_main_v132]
    exact congrArg (fun a => val_main_v106 (F := Ideal) x5 (ix3 0 0 k) * val_main_v121 (F := Ideal) x0 x1 (ix3 0 a k)) (Fin.ext (show 2 + s.val - 1 = s.val + 1 by omega))
  · rw [dif_neg (by omega), dif_neg h, mul_zero]

theorem u0_eq (s k) : val_main_v149 (F := Ideal) x0 x1 x5 (ix3 0 (⟨2 + s.val, by omega⟩ : Fin 2050) k) = CW x5 0 k * up 2 (ee (P x0) (C x1)) s k := by
  unfold up
  simp only [← ee_eq]
  rw [← w0_eq]
  pointwise [val_main_v149, val_main_cst_35]
  by_cases h : s.val + 2 < 2048
  · rw [dif_pos (by omega), dif_pos h]
    pointwise [val_main_v144, val_main_v143]
    exact congrArg (fun a => val_main_v100 (F := Ideal) x5 (ix3 0 0 k) * val_main_v121 (F := Ideal) x0 x1 (ix3 0 a k)) (Fin.ext (show 2 + s.val = s.val + 2 by omega))
  · rw [dif_neg (by omega), dif_neg h, mul_zero]

theorem dq_eq (s k) : val_main_v155 (F := Ideal) x0 x1 x5 (ix3 0 s k) = dq (P x0) (C x1) (CW x5) s k := by
  unfold dq
  rw [← u0_eq, ← u1_eq, ← u2_eq]
  pointwise [val_main_v155, val_main_v150, val_main_v139]

theorem dcw_eq (r : Fin 3) (k : Fin 512) : val_main_v153 (F := Ideal) x0 x1 (ix2 r k) = dcw (P x0) (C x1) r k := by
  have e2 : val_main_v128 (F := Ideal) x0 x1 (ix1 k) = ∑ s, ee (P x0) (C x1) s k * qq (P x0) s k := by
    unfold val_main_v128
    simp only [Host.reduceAdd, Ideal.hostReduceAdd_def]
    rw [hostReduceAdd_last, Fin.sum_univ_one, Fin.sum_univ_one]
    simp only [← ee_eq, ← d0_eq]
    pointwise [val_main_cst_26, val_main_v127, val_main_v126, val_main_v125, val_main_cst_25]
  have e1 : val_main_v137 (F := Ideal) x0 x1 (ix1 k) = ∑ s, ee (P x0) (C x1) s k * dn 1 (qq (P x0)) s k := by
    unfold val_main_v137
    simp only [Host.reduceAdd, Ideal.hostReduceAdd_def]
    rw [hostReduceAdd_last, Fin.sum_univ_one, Fin.sum_univ_one]
    simp only [← ee_eq, ← d1_eq]
    pointwise [val_main_cst_30, val_main_v136, val_main_v135, val_main_v134, val_main_cst_29]
  have e0 : val_main_v148 (F := Ideal) x0 x1 (ix1 k) = ∑ s, ee (P x0) (C x1) s k * dn 2 (qq (P x0)) s k := by
    unfold val_main_v148
    simp only [Host.reduceAdd, Ideal.hostReduceAdd_def]
    rw [hostReduceAdd_last, Fin.sum_univ_one, Fin.sum_univ_one]
    simp only [← ee_eq, ← d2_eq]
    pointwise [val_main_cst_34, val_main_v147, val_main_v146, val_main_v145, val_main_cst_33]
  pointwise [val_main_v153, val_main_v152, val_main_v151, val_main_v142, val_main_v141, val_main_v140, val_main_v131, val_main_v130, val_main_cst_36, val_main_cst_32, val_main_cst_28]
  rw [e2, e1, e0]
  unfold dcw
  match r with
  | ⟨0, _⟩ => simp
  | ⟨1, _⟩ => simp
  | ⟨2, _⟩ => simp

/-! ## The gradient of the two gated parts -/

section Finite

variable (f0 : ∀ i, IsR (x0 i)) (f1 : ∀ i, IsR (x1 i)) (f2 : ∀ i, IsR (x2 i)) (f3 : ∀ i, IsR (x3 i)) (f4 : ∀ i, IsR (x4 i))

include f0 in
theorem isR_P (s f) : IsR (P x0 s f) := f0 _
include f1 in
theorem isR_C (s f) : IsR (C x1 s f) := f1 _
include f0 f2 f3 f4 in
theorem isR_z (s k) : IsR (zz (P x0) (N x2) (W x3) (B x4) s k) :=
  isR_zz (isR_P x0 f0) (fun k => f2 (ix1 k)) (fun h i j => f3 (ix3 h i j)) (fun h i => f4 (ix2 h i)) s k
include f0 in
theorem isR_g (s k) : IsR (gv (P x0) s k) := isR_gv (isR_P x0 f0) s k
include f0 f1 f2 f3 in
theorem isR_d (s k) : IsR (dxh (P x0) (C x1) (N x2) (W x3) s k) :=
  isR_dxh (isR_P x0 f0) (isR_C x1 f1) (fun k => f2 (ix1 k)) (fun h i j => f3 (ix3 h i j)) s k

theorem dzz_eq (s k) : val_main_v159 (F := Ideal) x0 x1 x2 x3 x4 (ix3 0 s k) = C x1 s (a0 k) * zz (P x0) (N x2) (W x3) (B x4) s k := by
  rw [← ct0_eq, ← zz_eq]
  pointwise [val_main_v159]

include f0 f1 f2 f3 f4 in
theorem du_eq (s k) : val_main_v230 (F := Ideal) x0 x1 x2 x3 x4 (ix3 0 s k) = du (P x0) (C x1) (N x2) (W x3) (B x4) s k := by
  unfold du
  rw [← ge_grad (isR_P x0 f0 s (c0 k)) ((isR_C x1 f1 s (a0 k)).mul (isR_z x0 x2 x3 x4 f0 f2 f3 f4 s k)),
    ← cube_div', ← hu_eq, ← su_eq, ← squ_eq, ← dzz_eq, ← p0_eq]
  pointwise [val_main_v230, val_main_v229, val_main_v228, val_main_v227, val_main_cst_55, val_main_v226, val_main_v225, val_main_cst_54,
    val_main_v224, val_main_v223, val_main_v222, val_main_cst_53, val_main_v221, val_main_v220, val_main_v219, val_main_cst_52, val_main_v218, val_main_v217]

theorem coef_eq (s : Fin 2048) : val_main_v188 (F := Ideal) x0 x1 x2 x3 (ix1 s) = coef (gv (P x0) s) (dxh (P x0) (C x1) (N x2) (W x3) s) := by
  have e : val_main_v188 (F := Ideal) x0 x1 x2 x3 (ix1 s) = val_main_v187 (F := Ideal) x0 x1 x2 x3 (ix3 0 s 0) := by
    unfold val_main_v188
    simp only [Host.reduceAdd, Ideal.hostReduceAdd_def]
    rw [hostReduceAdd_mid, Fin.sum_univ_one, Fin.sum_univ_one]
    pointwise [val_main_cst_44]
  rw [e]
  unfold coef
  rw [← hr_eq]
  simp only [← cen2_eq, ← dxh_eq]
  pointwise [val_main_v187, val_main_v186, val_main_cst_43, val_main_v182, val_main_v179, val_main_v178, val_main_cst_41, val_main_v177]

theorem drs_eq (s k) : val_main_v181 (F := Ideal) x0 x1 x2 x3 (ix3 0 s k) = dxh (P x0) (C x1) (N x2) (W x3) s k * rs (gv (P x0) s) := by
  rw [← dxh_eq, ← rs_eq]
  pointwise [val_main_v181, val_main_v180]

theorem dcen_eq (s k) : val_main_v191 (F := Ideal) x0 x1 x2 x3 (ix3 0 s k)
    = coef (gv (P x0) s) (dxh (P x0) (C x1) (N x2) (W x3) s) * (Ideal.ofBits .f32 0x40000000#32 * cen (gv (P x0) s) k) := by
  rw [← coef_eq, ← two_cen_eq]
  pointwise [val_main_v191, val_main_v190, val_main_v189]

include f0 f1 f2 f3 in
theorem dln_eq (s k) : val_main_v202 (F := Ideal) x0 x1 x2 x3 (ix3 0 s k) = dln (gv (P x0) s) (dxh (P x0) (C x1) (N x2) (W x3) s) k := by
  have e : val_main_v199 (F := Ideal) x0 x1 x2 x3 (ix1 s) = val_main_v198 (F := Ideal) x0 x1 x2 x3 (ix3 0 s 0) := by
    unfold val_main_v199
    simp only [Host.reduceAdd, Ideal.hostReduceAdd_def]
    rw [hostReduceAdd_mid, Fin.sum_univ_one, Fin.sum_univ_one]
    pointwise [val_main_cst_47]
  rw [← ln_grad (isR_g x0 f0 s) (isR_d x0 x1 x2 x3 f0 f1 f2 f3 s)]
  simp only [← drs_eq, ← dcen_eq]
  have e3 : val_main_v202 (F := Ideal) x0 x1 x2 x3 (ix3 0 s k) = val_main_v181 (F := Ideal) x0 x1 x2 x3 (ix3 0 s k)
      + val_main_v191 (F := Ideal) x0 x1 x2 x3 (ix3 0 s k) + val_main_v199 (F := Ideal) x0 x1 x2 x3 (ix1 s) := by
    pointwise [val_main_v202, val_main_v201, val_main_v200, val_main_v195]
  rw [e3, e]
  refine congrArg (val_main_v181 (F := Ideal) x0 x1 x2 x3 (ix3 0 s k) + val_main_v191 (F := Ideal) x0 x1 x2 x3 (ix3 0 s k) + ·) ?_
  pointwise [val_main_v198, val_main_v197, val_main_cst_46, val_main_v196, val_main_v194, val_main_v193, val_main_cst_45, val_main_v192, val_main_v185, val_main_v184, val_main_cst_42, val_main_v183]

include f0 f1 f2 f3 in
theorem dv_eq (s k) : val_main_v216 (F := Ideal) x0 x1 x2 x3 (ix3 0 s k) = dv (P x0) (C x1) (N x2) (W x3) s k := by
  unfold dv
  rw [← ge_grad (isR_P x0 f0 s (c1 k)) (isR_dln (isR_g x0 f0 s) (isR_d x0 x1 x2 x3 f0 f1 f2 f3 s) k),
    ← cube_div', ← hv_eq, ← sv_eq, ← sqv_eq, ← dln_eq x0 x1 x2 x3 f0 f1 f2 f3, ← p1_eq]
  pointwise [val_main_v216, val_main_v215, val_main_v214, val_main_v213, val_main_cst_51, val_main_v212, val_main_v211, val_main_cst_50,
    val_main_v210, val_main_v209, val_main_v208, val_main_cst_49, val_main_v207, val_main_v206, val_main_v205, val_main_cst_48, val_main_v204, val_main_v203]

include f0 f1 f2 f3 f4 in
theorem dp_eq (s : Fin 2048) (f : Fin 2560) :
    val_main_v233 (F := Ideal) x0 x1 x2 x3 x4 x5 (ix2 s f) = dp (P x0) (C x1) (N x2) (W x3) (B x4) (CW x5) s f := by
  have e : val_main_v233 (F := Ideal) x0 x1 x2 x3 x4 x5 (ix2 s f) = val_main_v231 (F := Ideal) x0 x1 x2 x3 x4 x5 (ix3 0 s f) := by
    pointwise [val_main_v233, val_main_v232]
  rw [e]
  unfold dp
  simp only [← du_eq x0 x1 x2 x3 x4 f0 f1 f2 f3 f4, ← dv_eq x0 x1 x2 x3 f0 f1 f2 f3, ← dq_eq, ← conv_eq, ← ct1_eq, ← p3_eq, ← p4_eq]
  pointwise [val_main_v231, val_main_v122, val_main_v156, val_main_v157]
  by_cases h0 : f.val < 512
  · rw [dif_pos h0, dif_pos h0]
  rw [dif_neg h0, dif_neg h0]
  by_cases h1 : f.val < 1024
  · rw [dif_pos (by omega), dif_pos h1]
  rw [dif_neg (by omega), dif_neg h1]
  by_cases h2 : f.val < 1536
  · rw [dif_pos (by omega), dif_pos h2]
    exact congrArg (fun j => val_main_v120 (F := Ideal) x1 (ix3 0 s j) * val_main_v116 (F := Ideal) x0 x5 (ix3 0 s j)) (Fin.ext (show f.val - 512 - 512 = f.val - 1024 by omega))
  rw [dif_neg (by omega), dif_neg h2]
  by_cases h3 : f.val < 2048
  · rw [dif_pos (by omega), dif_pos h3]
    exact congrArg (fun j => val_main_v155 (F := Ideal) x0 x1 x5 (ix3 0 s j) * val_main_v7 (F := Ideal) x0 (ix3 0 s j)) (Fin.ext (show f.val - 512 - 512 - 512 = f.val - 1536 by omega))
  · rw [dif_neg (by omega), dif_neg h3, mul_comm]
    exact congrArg (fun j => val_main_v155 (F := Ideal) x0 x1 x5 (ix3 0 s j) * val_main_v6 (F := Ideal) x0 (ix3 0 s j)) (Fin.ext (show f.val - 512 - 512 - 512 - 512 = f.val - 2048 by omega))

end Finite

end Cert.MixRef

end
-- ==== Proof.Mix.lean ====
/- Hand-written, untrusted: the claims of the gated mixer's backward kernel. -/
module

public import proofs.«01_k».proof.Defs
public import proofs.«01_k».proof.Proof.Gen.Mix.Frame
public import proofs.«01_k».proof.Proof.Gen.Pre_mix_bwd_finite
public import proofs.«01_k».proof.Proof.MixArr
public import proofs.«01_k».proof.Proof.MixRef
public import Idealize.ShloMosaic.Lib.Quiescent

@[expose] public section

noncomputable section

namespace Cert.Mix

open Idealize.ShloMosaic Idealize.ShloMosaic.TcCoe Idealize.SL.Sem Cert.Lib

theorem frame_kernel : Cert.quiescent_Mix := fun m ρ _ => Cert.Mix.Gen.frame m ρ

theorem frame_ideal : Cert.quiescent_MixIdeal := fun m ρ _ => Cert.MixIdeal.Gen.frame m ρ

theorem frame_ref : Cert.quiescent_MixRefIdeal := fun m ρ _ =>
  (θ_run Cert.MixRefIdeal.defs _ _).mono
    (fun r h => ⟨fun c => (h c).2.2.2.2.2, sem_eq_zero_of_no_sems (by decide) r.2⟩)
    (Cert.MixRefIdeal.Value.run (F := Ideal) m ρ)

theorem frame_ideal_pre : Cert.quiescent_MixIdeal_pre_mix_bwd_finite := fun m ρ _ => frame_ideal m ρ trivial

theorem frame_ref_pre : Cert.quiescent_MixRefIdeal_pre_mix_bwd_finite := fun m ρ _ => frame_ref m ρ trivial

theorem preserves : Cert.preserves_Mix_MixIdeal :=
  ⟨IdealRules.named_const.statement Cert.MixIdeal.κ "gelu_cube" .f32 0x3D372713#32 ((8943 / 200000 : ℝ) : EReal) rfl,
    IdealRules.named_const.statement Cert.MixIdeal.κ "gelu_cube_3" .f32 0x3E095D4F#32 ((26829 / 200000 : ℝ) : EReal) rfl⟩

theorem split {x y : IVec Cert.Pre_mix_bwd_finite.S_ 1} (h : andi x y ix0 = 1#1) : x ix0 = 1#1 ∧ y ix0 = 1#1 :=
  IntOp.andi_eq_one.mp h

section Value

variable (m : (ℓ : Loc Cert.MixIdeal.nD Cert.MixIdeal.τ Cert.MixIdeal.sig) → Buf (Elt Ideal) ℓ) (c : Dev Cert.MixIdeal.nD)

/-- What the precondition says: every entry of the five arrays it tests is real. -/
theorem finite (h : Cert.Pre_MixIdeal_mix_bwd_finite m) :
    (∀ i, IsR (m ((c.tc : Thread Cert.MixIdeal.nD Cert.MixIdeal.τ).loc Cert.MixIdeal.main_arg0) i))
    ∧ (∀ i, IsR (m ((c.tc : Thread Cert.MixIdeal.nD Cert.MixIdeal.τ).loc Cert.MixIdeal.main_arg1) i))
    ∧ (∀ i, IsR (m ((c.tc : Thread Cert.MixIdeal.nD Cert.MixIdeal.τ).loc Cert.MixIdeal.main_arg2) i))
    ∧ (∀ i, IsR (m ((c.tc : Thread Cert.MixIdeal.nD Cert.MixIdeal.τ).loc Cert.MixIdeal.main_arg3) i))
    ∧ (∀ i, IsR (m ((c.tc : Thread Cert.MixIdeal.nD Cert.MixIdeal.τ).loc Cert.MixIdeal.main_arg4) i)) := by
  have h' := congrFun (h c) ix0
  unfold Cert.Pre_mix_bwd_finite.fn Cert.Pre_mix_bwd_finite.fn_part1 at h'
  obtain ⟨h', h4⟩ := split h'
  obtain ⟨h', h3⟩ := split h'
  obtain ⟨h', h2⟩ := split h'
  obtain ⟨h0, h1⟩ := split h'
  exact ⟨isR_of_all _ _ _ _ _ h0, isR_of_all _ _ _ _ _ h1, isR_of_all _ _ _ _ _ h2, isR_of_all _ _ _ _ _ h3, isR_of_all _ _ _ _ _ h4⟩

/-! Each of the reference's results, at the kernel's arguments, is the kernel's. -/

theorem dp_eq (hp : Cert.Pre_MixIdeal_mix_bwd_finite m) :
    Cert.MixRefIdeal.Read.val_main_v233 (F := Ideal) (m ((c.tc : Thread Cert.MixIdeal.nD Cert.MixIdeal.τ).loc Cert.MixIdeal.main_arg0))
        (m ((c.tc : Thread Cert.MixIdeal.nD Cert.MixIdeal.τ).loc Cert.MixIdeal.main_arg1))
        (m ((c.tc : Thread Cert.MixIdeal.nD Cert.MixIdeal.τ).loc Cert.MixIdeal.main_arg2))
        (m ((c.tc : Thread Cert.MixIdeal.nD Cert.MixIdeal.τ).loc Cert.MixIdeal.main_arg3))
        (m ((c.tc : Thread Cert.MixIdeal.nD Cert.MixIdeal.τ).loc Cert.MixIdeal.main_arg4))
        (m ((c.tc : Thread Cert.MixIdeal.nD Cert.MixIdeal.τ).loc Cert.MixIdeal.main_arg5))
      = (Cert.MixIdeal.Gen.dats m 0 c).arrAt 9 Cert.MixIdeal.cfg0.N := by
  obtain ⟨f0, f1, f2, f3, f4⟩ := finite m c hp
  rw [Cert.MixKernel.value_dp]
  funext i
  have hi : i = ix2 (n0 := 2048) (n1 := 2560) (i 0) (i 1) := by blk_ext
  rw [hi]
  exact Cert.MixRef.dp_eq _ _ _ _ _ _ f0 f1 f2 f3 f4 (i 0) (i 1)

theorem dnv_eq :
    Cert.MixRefIdeal.Read.val_main_v234 (F := Ideal) (m ((c.tc : Thread Cert.MixIdeal.nD Cert.MixIdeal.τ).loc Cert.MixIdeal.main_arg0))
        (m ((c.tc : Thread Cert.MixIdeal.nD Cert.MixIdeal.τ).loc Cert.MixIdeal.main_arg1))
        (m ((c.tc : Thread Cert.MixIdeal.nD Cert.MixIdeal.τ).loc Cert.MixIdeal.main_arg3))
      = (Cert.MixIdeal.Gen.dats m 0 c).arrAt 10 Cert.MixIdeal.cfg0.N := by
  rw [Cert.MixKernel.value_dnv]
  funext i
  have hi : i = ix2 (n0 := 1) (n1 := 512) 0 (i 1) := by blk_ext
  rw [hi]
  exact Cert.MixRef.dnv_eq _ _ _ (i 1)

theorem dws_eq :
    Cert.MixRefIdeal.Read.val_main_v169 (F := Ideal) (m ((c.tc : Thread Cert.MixIdeal.nD Cert.MixIdeal.τ).loc Cert.MixIdeal.main_arg0))
        (m ((c.tc : Thread Cert.MixIdeal.nD Cert.MixIdeal.τ).loc Cert.MixIdeal.main_arg1))
        (m ((c.tc : Thread Cert.MixIdeal.nD Cert.MixIdeal.τ).loc Cert.MixIdeal.main_arg2))
      = (Cert.MixIdeal.Gen.dats m 0 c).arrAt 11 Cert.MixIdeal.cfg0.N := by
  rw [Cert.MixKernel.value_dws]
  funext i
  have hi : i = ix3 (n0 := 4) (n1 := 128) (n2 := 128) (i 0) (i 1) (i 2) := by blk_ext
  rw [hi]
  exact Cert.MixRef.dws_eq _ _ _ (i 0) (i 1) (i 2)

theorem dzs_eq :
    Cert.MixRefIdeal.Read.val_main_v235 (F := Ideal) (m ((c.tc : Thread Cert.MixIdeal.nD Cert.MixIdeal.τ).loc Cert.MixIdeal.main_arg0))
        (m ((c.tc : Thread Cert.MixIdeal.nD Cert.MixIdeal.τ).loc Cert.MixIdeal.main_arg1))
      = (Cert.MixIdeal.Gen.dats m 0 c).arrAt 12 Cert.MixIdeal.cfg0.N := by
  rw [Cert.MixKernel.value_dzs]
  funext i
  have hi : i = ix2 (n0 := 128) (n1 := 512) (i 0) (i 1) := by blk_ext
  rw [hi]
  exact Cert.MixRef.dzs_eq _ _ (i 0) (i 1)

theorem dcw_eq :
    Cert.MixRefIdeal.Read.val_main_v153 (F := Ideal) (m ((c.tc : Thread Cert.MixIdeal.nD Cert.MixIdeal.τ).loc Cert.MixIdeal.main_arg0))
        (m ((c.tc : Thread Cert.MixIdeal.nD Cert.MixIdeal.τ).loc Cert.MixIdeal.main_arg1))
      = (Cert.MixIdeal.Gen.dats m 0 c).arrAt 13 Cert.MixIdeal.cfg0.N := by
  rw [Cert.MixKernel.value_dcw]
  funext i
  have hi : i = ix2 (n0 := 3) (n1 := 512) (i 0) (i 1) := by blk_ext
  rw [hi]
  exact Cert.MixRef.dcw_eq _ _ (i 0) (i 1)

end Value

theorem value : Cert.algebraic_MixIdeal_MixRefIdeal_pre_mix_bwd_finite := by
  intro m ρ m' ρ' hp hagree
  refine ⟨_, _, _, _, _, Cert.MixIdeal.Value.run_blocks m ρ, ?_⟩
  refine (θ_run Cert.MixRefIdeal.defs _ _).mono (fun _ h c => ?_) (Cert.MixRefIdeal.Value.run m' ρ')
  obtain ⟨a0, a1, a2, a3, a4, a5⟩ := hagree c
  obtain ⟨q0, q1, q2, q3, q4, q⟩ := h c
  refine ⟨q0.trans (Eq.trans ?_ (dp_eq m c hp)), q1.trans (Eq.trans ?_ (dnv_eq m c)), q2.trans (Eq.trans ?_ (dws_eq m c)),
    q3.trans (Eq.trans ?_ (dzs_eq m c)), q4.trans (Eq.trans ?_ (dcw_eq m c)), q⟩
  · rw [Cert.MixRefIdeal.Read.val_main_v233_eq]
    change Cert.MixRefIdeal.Read.val_main_v233 (F := Ideal) (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1))
      (m' ((c.tc : Thread Cert.MixRefIdeal.nD Cert.MixRefIdeal.τ).loc Cert.MixRefIdeal.main_arg2))
      (m' ((c.tc : Thread Cert.MixRefIdeal.nD Cert.MixRefIdeal.τ).loc Cert.MixRefIdeal.main_arg3))
      (m' ((c.tc : Thread Cert.MixRefIdeal.nD Cert.MixRefIdeal.τ).loc Cert.MixRefIdeal.main_arg4))
      (m' ((c.tc : Thread Cert.MixRefIdeal.nD Cert.MixRefIdeal.τ).loc Cert.MixRefIdeal.main_arg5)) = _
    rw [a0, a1, a2, a3, a4, a5]
  · rw [Cert.MixRefIdeal.Read.val_main_v234_eq]
    change Cert.MixRefIdeal.Read.val_main_v234 (F := Ideal) (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1))
      (m' ((c.tc : Thread Cert.MixRefIdeal.nD Cert.MixRefIdeal.τ).loc Cert.MixRefIdeal.main_arg3)) = _
    rw [a0, a1, a3]
  · rw [Cert.MixRefIdeal.Read.val_main_v169_eq]
    change Cert.MixRefIdeal.Read.val_main_v169 (F := Ideal) (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1))
      (m' ((c.tc : Thread Cert.MixRefIdeal.nD Cert.MixRefIdeal.τ).loc Cert.MixRefIdeal.main_arg2)) = _
    rw [a0, a1, a2]
  · rw [Cert.MixRefIdeal.Read.val_main_v235_eq]
    change Cert.MixRefIdeal.Read.val_main_v235 (F := Ideal) (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1)) = _
    rw [a0, a1]
  · rw [Cert.MixRefIdeal.Read.val_main_v153_eq]
    change Cert.MixRefIdeal.Read.val_main_v153 (F := Ideal) (m' ((c.tc : Thread Cert.MixRefIdeal.nD Cert.MixRefIdeal.τ).loc Cert.MixRefIdeal.main_arg0))
      (m' ((c.tc : Thread Cert.MixRefIdeal.nD Cert.MixRefIdeal.τ).loc Cert.MixRefIdeal.main_arg1)) = _
    rw [a0, a1]

end Cert.Mix

end
-- ==== Proof.FfnSpec.lean ====
/- Hand-written, untrusted: the mathematics of the feed-forward block and of its gradient, over the saved products. -/
module

public import proofs.«01_k».proof.Proof.ModSpec
public import proofs.«01_k».proof.Proof.Finite

@[expose] public section

noncomputable section

namespace Cert.FfnSpec

open Idealize.ShloMosaic Cert.Lib Cert.LossSpec Cert.ModSpec
open scoped BigOperators

/-- The logistic function, as the host writes it. -/
def sg (y : EReal) : EReal := Ideal.div (Ideal.ofBits .f32 0x3F800000#32) (Ideal.ofBits .f32 0x3F800000#32 + Ideal.exp (-y))

/-- The logistic function as the kernel writes it, by the hyperbolic tangent of half the argument. -/
theorem sg_tanh (y : EReal) : Ideal.ofBits .f32 0x3F000000#32 * Ideal.tanh (Ideal.ofBits .f32 0x3F000000#32 * y) + Ideal.ofBits .f32 0x3F000000#32 = sg y := by
  unfold sg
  rw [bits_half, bits_1]
  induction y with
  | bot =>
    rw [EReal.coe_mul_bot_of_pos (by norm_num), EReal.neg_bot, Ideal.tanh_bot, Ideal.exp_top, EReal.coe_add_top]
    simp only [Ideal.div]
    norm_num
    norm_cast
    norm_num
  | top =>
    rw [EReal.coe_mul_top_of_pos (by norm_num), EReal.neg_top, Ideal.tanh_top, Ideal.exp_bot, add_zero, Ideal.div_coe (by norm_num)]
    rw [← EReal.coe_one]
    norm_cast
    norm_num
  | coe r =>
    have h : (1 + Real.exp (-r)) ≠ 0 := by positivity
    rw [← EReal.coe_neg, Ideal.exp_coe, ← EReal.coe_add, Ideal.div_coe h, ← EReal.coe_mul, Ideal.tanh_coe]
    norm_cast
    rw [Real.tanh_eq_sinh_div_cosh, Real.sinh_eq, Real.cosh_eq]
    have e : Real.exp (-r) = Real.exp (-(1 / 2 * r)) * Real.exp (-(1 / 2 * r)) := by rw [← Real.exp_add]; congr 1; ring
    have i : Real.exp (1 / 2 * r) * Real.exp (-(1 / 2 * r)) = 1 := by rw [← Real.exp_add]; simp
    rw [e]
    have p := Real.exp_pos (1 / 2 * r)
    have q := Real.exp_pos (-(1 / 2 * r))
    generalize Real.exp (1 / 2 * r) = x at *
    generalize Real.exp (-(1 / 2 * r)) = z at *
    have j : 1 + z * z = z * (x + z) := by linear_combination -i
    have n : x + z ≠ 0 := by positivity
    have z0 : z ≠ 0 := q.ne'
    rw [j]
    field_simp
    linear_combination 2 * i

theorem sg_isR (y : EReal) : IsR (sg y) := by
  rw [← sg_tanh, bits_half]
  refine ((IsR.coe _).mul ?_).add (IsR.coe _)
  generalize ((1 / 2 : ℝ) : EReal) * y = z
  induction z with
  | bot => exact IsR.one.neg
  | top => exact IsR.one
  | coe r => exact IsR.coe _

/-- The gate's derivative: the kernel's product and the reference's sum of two products. -/
theorem dsilu {t g : EReal} (ht : IsR t) (hg : IsR g) :
    t * (sg g * (Ideal.ofBits .f32 0x3F800000#32 + g * (Ideal.ofBits .f32 0x3F800000#32 - sg g)))
      = t * sg g + g * t * (sg g * (Ideal.ofBits .f32 0x3F800000#32 - sg g)) := by
  obtain ⟨a, rfl⟩ := ht
  obtain ⟨b, rfl⟩ := hg
  obtain ⟨s, hs⟩ := sg_isR b
  rw [hs, bits_1]
  norm_cast
  ring

/-- A normalised row is always real: where the row's mean square is infinite, it is divided by infinity. -/
theorem xhat_isR (x : Fin 1024 → EReal) (k : Fin 1024) : IsR (xhat x k) := by
  unfold xhat
  rcases rv_cases x with h | ⟨v, hv, h⟩
  · rw [h, Ideal.rsqrt_top, mul_zero]; exact IsR.zero
  rw [h, Ideal.rsqrt_coe, if_neg (not_lt.mpr hv.le), if_neg hv.ne']
  refine IsR.mul ?_ (IsR.coe _)
  rw [isR_iff]
  by_contra hx
  have ht : x k * x k = ⊤ := by
    by_cases hb : x k = ⊥
    · rw [hb]; exact EReal.bot_mul_bot
    · have : x k = ⊤ := by
        by_contra h'
        exact hx ⟨hb, h'⟩
      rw [this]; exact EReal.top_mul_top
  have hs : ∑ k, x k * x k = ⊤ :=
    top_le_iff.mp (ht ▸ Finset.single_le_sum (f := fun k => x k * x k) (fun k _ => sq_nonneg _) (Finset.mem_univ k))
  obtain ⟨e, -, he⟩ := bits_eps
  rw [rv, hs, bits_1024, he, Ideal.div_coe (by norm_num), EReal.top_mul_coe_of_pos (by norm_num), EReal.top_add_coe] at h
  exact EReal.coe_ne_top v h.symm

theorem hrow_isR {x g sh sc : Fin 1024 → EReal} (hg : ∀ k, IsR (g k)) (hsh : ∀ k, IsR (sh k)) (hsc : ∀ k, IsR (sc k)) (k : Fin 1024) :
    IsR (hrow x g sh sc k) := by
  unfold hrow gm
  rw [bits_1]
  exact ((xhat_isR x k).mul ((hg k).mul ((IsR.coe 1).add (hsc k)))).add (hsh k)

/-- The block's own gradient, the gated product, and the gradients of its two factors. -/
def dyR (gt ct : Fin 1024 → EReal) (k : Fin 1024) : EReal := Ideal.ofBits .f32 0x3F000000#32 * gt k * ct k
def act (g u : EReal) : EReal := g * sg g * u
def daR (dy : Fin 1024 → EReal) (wo : Fin 1024 → EReal) : EReal := ∑ k, dy k * wo k
def dgR (da g u : EReal) : EReal :=
  da * u * (sg g * (Ideal.ofBits .f32 0x3F800000#32 + g * (Ideal.ofBits .f32 0x3F800000#32 - sg g)))
def duR (da g : EReal) : EReal := da * (g * sg g)

/-- The gradient of the modulated row, from the gradients of the two halves of its product with the weights. -/
def dhR (dg du : Fin 2816 → EReal) (wi : Fin 5632 → EReal) : EReal :=
  (∑ f, dg f * wi ⟨f.val, by omega⟩) + ∑ f, du f * wi ⟨2816 + f.val, by omega⟩

end Cert.FfnSpec

end
-- ==== Proof.FfnFwdKernel.lean ====
/- Hand-written, untrusted: what the feed-forward block computes, block by block and as whole arrays. -/
module

public import proofs.«01_k».proof.Proof.Gen.FfnFwd.Frame
public import proofs.«01_k».proof.Proof.Gen.FfnFwdIdeal.Value
public import proofs.«01_k».proof.Proof.FfnSpec

@[expose] public section

set_option maxRecDepth 16384

noncomputable section

namespace Cert.FfnFwdKernel

open Cert.FfnFwdIdeal Cert.FfnFwdIdeal.Gen Idealize.ShloMosaic Idealize.ShloMosaic.TcCoe Idealize.SL.Sem Cert.Lib Cert.LossSpec Cert.ModSpec Cert.FfnSpec
open Idealize.ShloMosaic.Pipeline (Dat)
open scoped BigOperators

variable (m : (ℓ : Loc nD τ sig) → Buf (Elt Ideal) ℓ)

/-- The rows of the arguments. -/
def X (c : Dev nD) (s : Fin 2048) (k : Fin 1024) : EReal := m ((c : Thread nD τ).loc main_arg0) (ix3 0 s k)
def G (c : Dev nD) (k : Fin 1024) : EReal := m ((c : Thread nD τ).loc main_arg1) (ix1 k)
def Mo (c : Dev nD) (k : Fin 3072) : EReal := m ((c : Thread nD τ).loc main_arg2) (ix2 0 k)
def WI (c : Dev nD) (k : Fin 1024) (f : Fin 5632) : EReal := m ((c : Thread nD τ).loc main_arg3) (ix2 k f)
def WO (c : Dev nD) (f : Fin 2816) (k : Fin 1024) : EReal := m ((c : Thread nD τ).loc main_arg4) (ix2 f k)

def SH (c : Dev nD) (k : Fin 1024) : EReal := Mo m c ⟨k.val, by omega⟩
def SC (c : Dev nD) (k : Fin 1024) : EReal := Mo m c ⟨1024 + k.val, by omega⟩
def GT (c : Dev nD) (k : Fin 1024) : EReal := Mo m c ⟨2048 + k.val, by omega⟩

theorem idx : ∀ t : Fin cfg0.N, win0_0.index t = ![t.val / 11, 0] ∧ win0_1.index t = ![0, 0]
    ∧ win0_2.index t = ![0, 0, t.val % 11] ∧ win0_3.index t = ![0, 0, 11 + t.val % 11] ∧ win0_4.index t = ![0, t.val % 11, 0]
    ∧ win0_5.index t = ![t.val / 11, 0] ∧ win0_6.index t = ![t.val / 11, t.val % 11] ∧ win0_7.index t = ![t.val / 11, t.val % 11]
    ∧ win0_8.index t = ![t.val / 11, 0] :=
  (by decide +kernel : ∀ t : Fin grid0.N, _)

theorem lt22 (t : Fin cfg0.N) : t.val < 22 := lt_of_lt_of_eq t.isLt N_0

/-- The row of the arrays that row `s` of step `t`'s blocks is, and the columns. -/
def row (t : Fin cfg0.N) (s : Fin 1024) : Fin 2048 := ⟨t.val / 11 * 1024 + s.val, by have := lt22 t; omega⟩
def col (t : Fin cfg0.N) (f : Fin 256) : Fin 2816 := ⟨t.val % 11 * 256 + f.val, by omega⟩
def lo (f : Fin 2816) : Fin 5632 := ⟨f.val, by omega⟩
def hi (f : Fin 2816) : Fin 5632 := ⟨2816 + f.val, by omega⟩

/-! The kernel's operands that the host prepares. -/

theorem V_v0 (c : Dev nD) : V m c main_v0 = shapeCast S2048x1024 (m ((c : Thread nD τ).loc main_arg0)) shapeCasts_S1x2048x1024_S2048x1024 := by
  unfold V
  rfl

theorem V_v6 (c : Dev nD) : V m c main_v6 = addf (F := Ideal)
    (pad S8x1024 ![0, 0] ![7, 0] ![0, 0] (broadcastInDim S1x1024 ![1] bcast_S1024_S1x1024_1 (m ((c : Thread nD τ).loc main_arg1))) (sitofp (F := Ideal) .f32 (constantI S_ 32 0#32)) pads_S1x1024_S8x1024_070_000 h_S_)
    (pad S8x1024 ![1, 0] ![4, 0] ![0, 0] (shapeCast S3x1024 (shapeCast S3072 (m ((c : Thread nD τ).loc main_arg2)) shapeCasts_S1x3072_S3072) shapeCasts_S3072_S3x1024) (sitofp (F := Ideal) .f32 (constantI S_ 32 0#32)) pads_S3x1024_S8x1024_140_000 h_S_) := by
  unfold V
  after_results
  try rfl

theorem V_v8 (c : Dev nD) : V m c main_v8 = truncf (F := Ideal) .bf16 (broadcastInDim S1x1024x5632 ![1, 2] bcast_S1024x5632_S1x1024x5632_1_2 (m ((c : Thread nD τ).loc main_arg3))) bitsLt_bf16_f32 := by
  unfold V
  after_results
  try rfl

theorem V_v10 (c : Dev nD) : V m c main_v10 = truncf (F := Ideal) .bf16 (broadcastInDim S1x2816x1024 ![1, 2] bcast_S2816x1024_S1x2816x1024_1_2 (m ((c : Thread nD τ).loc main_arg4))) bitsLt_bf16_f32 := by
  unfold V
  after_results
  try rfl

theorem emb_x (t : Fin cfg0.N) (s : Fin 1024) (k : Fin 1024) :
    ((View.whole main_v0).slice (win0_0.rect t)).emb (ix2 s k) = ix2 (row t s) k := by blk_ext [idx t, row]
theorem emb_v (t : Fin cfg0.N) (a : Fin 8) (k : Fin 1024) :
    ((View.whole main_v6).slice (win0_1.rect t)).emb (ix2 a k) = ix2 a k := by blk_ext [idx t]
theorem emb_wl (t : Fin cfg0.N) (k : Fin 1024) (f : Fin 256) :
    ((View.whole main_v8).slice (win0_2.rect t)).emb (ix3 0 k f) = ix3 0 k (lo (col t f)) := by blk_ext [idx t, lo, col]
theorem emb_wh (t : Fin cfg0.N) (k : Fin 1024) (f : Fin 256) :
    ((View.whole main_v8).slice (win0_3.rect t)).emb (ix3 0 k f) = ix3 0 k (hi (col t f)) := by blk_ext [idx t, hi, col]
theorem emb_wo (t : Fin cfg0.N) (f : Fin 256) (k : Fin 1024) :
    ((View.whole main_v10).slice (win0_4.rect t)).emb (ix3 0 f k) = ix3 0 (col t f) k := by blk_ext [idx t, col]

/-! What each window's block holds. -/

theorem flat (f : (⟨S1x2048x1024, .f32⟩ : BufTy).Contents (Elt Ideal)) (s : Fin 2048) (k : Fin 1024) :
    shapeCast S2048x1024 f shapeCasts_S1x2048x1024_S2048x1024 (ix2 s k) = f (ix3 0 s k) := by
  pointwise
theorem stack_i (f : (⟨S1024x5632, .f32⟩ : BufTy).Contents (Elt Ideal)) (k : Fin 1024) (l : Fin 5632) :
    truncf (F := Ideal) .bf16 (broadcastInDim S1x1024x5632 ![1, 2] bcast_S1024x5632_S1x1024x5632_1_2 f) bitsLt_bf16_f32 (ix3 0 k l) = f (ix2 k l) := by
  pointwise
theorem stack_o (f : (⟨S2816x1024, .f32⟩ : BufTy).Contents (Elt Ideal)) (l : Fin 2816) (k : Fin 1024) :
    truncf (F := Ideal) .bf16 (broadcastInDim S1x2816x1024 ![1, 2] bcast_S2816x1024_S1x2816x1024_1_2 f) bitsLt_bf16_f32 (ix3 0 l k) = f (ix2 l k) := by
  pointwise

theorem blk_x (c : Dev nD) (t : Fin cfg0.N) (s : Fin 1024) (k : Fin 1024) :
    iblk m c 0 t (ix2 s k) = X m c (row t s) k := by
  change V m c main_v0 (((View.whole main_v0).slice (win0_0.rect t)).emb (ix2 s k)) = _
  rw [V_v0, emb_x, flat]; rfl
theorem blk_v (c : Dev nD) (t : Fin cfg0.N) (a : Fin 8) (k : Fin 1024) :
    iblk m c 1 t (ix2 a k) = (if a.val = 0 then G m c k else 0)
      + (if h : 1 ≤ a.val ∧ a.val - 1 < 3 then Mo m c ⟨(a.val - 1) * 1024 + k.val, by omega⟩ else 0) := by
  change V m c main_v6 (((View.whole main_v6).slice (win0_1.rect t)).emb (ix2 a k)) = _
  rw [V_v6, emb_v, addf_apply, pad_top, pad_mod]; rfl
theorem blk_wl (c : Dev nD) (t : Fin cfg0.N) (k : Fin 1024) (f : Fin 256) :
    iblk m c 2 t (ix3 0 k f) = WI m c k (lo (col t f)) := by
  change V m c main_v8 (((View.whole main_v8).slice (win0_2.rect t)).emb (ix3 0 k f)) = _
  rw [V_v8, emb_wl, stack_i]; rfl
theorem blk_wh (c : Dev nD) (t : Fin cfg0.N) (k : Fin 1024) (f : Fin 256) :
    iblk m c 3 t (ix3 0 k f) = WI m c k (hi (col t f)) := by
  change V m c main_v8 (((View.whole main_v8).slice (win0_3.rect t)).emb (ix3 0 k f)) = _
  rw [V_v8, emb_wh, stack_i]; rfl
theorem blk_wo (c : Dev nD) (t : Fin cfg0.N) (f : Fin 256) (k : Fin 1024) :
    iblk m c 4 t (ix3 0 f k) = WO m c (col t f) k := by
  change V m c main_v10 (((View.whole main_v10).slice (win0_4.rect t)).emb (ix3 0 f k)) = _
  rw [V_v10, emb_wo, stack_o]; rfl

/-! The four rows of the packed vectors that the kernel loads. -/

abbrev vrow (Y : Vec Ideal S8x1024 .f32) (r : ℕ) (inb : ∀ a, (![r, 0] : Fin 2 → ℕ) a + S1x1024.size a ≤ S8x1024.size a) : Vec Ideal S1x1024 .f32 :=
  View.ld Y (Rect.unit (s := S8x1024) ![r, 0] S1x1024.size inb)
theorem vrow_at (Y : Vec Ideal S8x1024 .f32) (r : ℕ) (hr : r < 8) (inb) (k : Fin 1024) :
    vrow Y r inb (ix2 (n0 := 1) (n1 := 1024) 0 k) = Y (ix2 (n0 := 8) (n1 := 1024) ⟨r, hr⟩ k) := ld_row Y hr _ k

theorem ld_g (c : Dev nD) (t : Fin cfg0.N) (inb) (k : Fin 1024) : vrow (iblk m c 1 t) 0 inb (ix2 (n0 := 1) (n1 := 1024) 0 k) = G m c k := by
  rw [vrow_at _ _ (by norm_num), blk_v]
  simp
theorem ld_sh (c : Dev nD) (t : Fin cfg0.N) (inb) (k : Fin 1024) : vrow (iblk m c 1 t) 1 inb (ix2 (n0 := 1) (n1 := 1024) 0 k) = SH m c k := by
  rw [vrow_at _ _ (by norm_num), blk_v]
  simp [SH]
theorem ld_sc (c : Dev nD) (t : Fin cfg0.N) (inb) (k : Fin 1024) : vrow (iblk m c 1 t) 2 inb (ix2 (n0 := 1) (n1 := 1024) 0 k) = SC m c k := by
  rw [vrow_at _ _ (by norm_num), blk_v]
  simp [SC]
theorem ld_gt (c : Dev nD) (t : Fin cfg0.N) (inb) (k : Fin 1024) : vrow (iblk m c 1 t) 3 inb (ix2 (n0 := 1) (n1 := 1024) 0 k) = GT m c k := by
  rw [vrow_at _ _ (by norm_num), blk_v]
  simp [GT]

/-! The kernel's arithmetic at a point. -/

theorem pay_zero (s : Fin 1024) (k : Fin 1024) : k0_pay5 (F := Ideal) (ix2 s k) = 0 := by
  pointwise [k0_pay5]

theorem pay_keep (a : Vec Ideal S1024x1024 .f32) (s k : Fin 1024) : k0_pay1 (F := Ideal) a (ix2 s k) = a (ix2 s k) := by
  pointwise [k0_pay1]

theorem pay_y (a : Vec Ideal S1024x1024 .f32) (s k : Fin 1024) : k0_pay3 (F := Ideal) a (ix2 s k) = a (ix2 s k) := by
  pointwise [k0_pay3]

theorem pay_xo (a x : Vec Ideal S1024x1024 .f32) (g : Vec Ideal S1x1024 .f32) (s k : Fin 1024) :
    k0_pay2 (F := Ideal) a x g (ix2 s k) = x (ix2 s k) + Ideal.ofBits .f32 0x3F000000#32 * g (ix2 0 k) * a (ix2 s k) := by
  pointwise [k0_pay2]

theorem pay_h (x : Vec Ideal S1024x1024 .f32) (g sc sh : Vec Ideal S1x1024 .f32) (s k : Fin 1024) :
    k0_pay4 (F := Ideal) x g sc sh (ix2 s k)
      = hrow (fun k => x (ix2 s k)) (fun k => g (ix2 0 k)) (fun k => sh (ix2 0 k)) (fun k => sc (ix2 0 k)) k := by
  unfold hrow gm
  rw [← mul_assoc]
  simp only [xhat, rv]
  pointwise [k0_pay4]

theorem pay_gg (h : Vec Ideal S1024x1024 .bf16) (w : Vec Ideal S1x1024x256 .bf16) (s : Fin 1024) (f : Fin 256) :
    k0_pay6 (F := Ideal) h w (ix2 s f) = ∑ k : Fin 1024, h (ix2 s k) * w (ix3 0 k f) := by
  pointwise [k0_pay6]
theorem pay_uu (h : Vec Ideal S1024x1024 .bf16) (w : Vec Ideal S1x1024x256 .bf16) (s : Fin 1024) (f : Fin 256) :
    k0_pay7 (F := Ideal) h w (ix2 s f) = ∑ k : Fin 1024, h (ix2 s k) * w (ix3 0 k f) := by
  pointwise [k0_pay7]
theorem pay_g (h : Vec Ideal S1024x1024 .bf16) (w : Vec Ideal S1x1024x256 .bf16) (s : Fin 1024) (f : Fin 256) :
    k0_pay8 (F := Ideal) h w (ix2 s f) = ∑ k : Fin 1024, h (ix2 s k) * w (ix3 0 k f) := by
  rw [← pay_gg]
  pointwise [k0_pay8]
theorem pay_u (h : Vec Ideal S1024x1024 .bf16) (w : Vec Ideal S1x1024x256 .bf16) (s : Fin 1024) (f : Fin 256) :
    k0_pay9 (F := Ideal) h w (ix2 s f) = ∑ k : Fin 1024, h (ix2 s k) * w (ix3 0 k f) := by
  rw [← pay_uu]
  pointwise [k0_pay9]

theorem pay_acc (h : Vec Ideal S1024x1024 .bf16) (wl wh : Vec Ideal S1x1024x256 .bf16) (a : Vec Ideal S1024x1024 .f32)
    (wo : Vec Ideal S1x256x1024 .bf16) (s k : Fin 1024) :
    k0_pay10 (F := Ideal) h wl wh a wo (ix2 s k) = a (ix2 s k)
      + ∑ f : Fin 256, act (∑ k : Fin 1024, h (ix2 s k) * wl (ix3 0 k f)) (∑ k : Fin 1024, h (ix2 s k) * wh (ix3 0 k f)) * wo (ix3 0 f k) := by
  simp only [act, ← sg_tanh]
  pointwise [k0_pay10]
  simp only [pay_gg, pay_uu]

/-! The forward values as functions of rows and columns. -/

def H (c : Dev nD) (s : Fin 2048) (k : Fin 1024) : EReal := hrow (X m c s) (G m c) (SH m c) (SC m c) k
def GS (c : Dev nD) (s : Fin 2048) (f : Fin 2816) : EReal := ∑ k, H m c s k * WI m c k (lo f)
def US (c : Dev nD) (s : Fin 2048) (f : Fin 2816) : EReal := ∑ k, H m c s k * WI m c k (hi f)
def YS (c : Dev nD) (s : Fin 2048) (k : Fin 1024) : EReal := ∑ f, act (GS m c s f) (US m c s f) * WO m c f k

/-- What one column block adds to the second product. -/
def part (c : Dev nD) (t : Fin cfg0.N) (s : Fin 1024) (k : Fin 1024) : EReal :=
  ∑ f : Fin 256, act (GS m c (row t s) (col t f)) (US m c (row t s) (col t f)) * WO m c (col t f) k

/-- The modulated rows and the running second product that the kernel holds after step `n`. -/
def hAt (c : Dev nD) (n : ℕ) (h : n < cfg0.N) : Vec Ideal S1024x1024 .bf16 := (outsAt0 m c n h).2.2.2.2.1
def aAt (c : Dev nD) (n : ℕ) (h : n < cfg0.N) : Vec Ideal S1024x1024 .f32 := (outsAt0 m c n h).2.2.2.2.2

theorem prev_lt (t : Fin cfg0.N) : t.val - 1 < cfg0.N := Nat.lt_of_le_of_lt (Nat.sub_le _ _) t.isLt

/-- The modulated rows of step `t`'s row block. -/
abbrev hF (c : Dev nD) (t : Fin cfg0.N) : Vec Ideal S1024x1024 .bf16 :=
  k0_pay4 (F := Ideal) (iblk m c 0 t) (vrow (iblk m c 1 t) 0 inb_S8x1024_S1x1024_0_0) (vrow (iblk m c 1 t) 2 inb_S8x1024_S1x1024_2_0)
    (vrow (iblk m c 1 t) 1 inb_S8x1024_S1x1024_1_0)

theorem hF_at (c : Dev nD) (t : Fin cfg0.N) (s k : Fin 1024) : hF m c t (ix2 s k) = H m c (row t s) k := by
  unfold hF
  rw [pay_h]
  simp only [blk_x, ld_g, ld_sh, ld_sc]
  rfl

/-- The blocks that a step makes from the modulated rows. -/
theorem g_of (c : Dev nD) (t : Fin cfg0.N) (h : Vec Ideal S1024x1024 .bf16) (hh : ∀ s k, h (ix2 s k) = H m c (row t s) k) (s : Fin 1024) (f : Fin 256) :
    k0_pay8 (F := Ideal) h (iblk m c 2 t) (ix2 s f) = GS m c (row t s) (col t f) := by
  rw [pay_g]
  simp only [hh, blk_wl]
  rfl
theorem u_of (c : Dev nD) (t : Fin cfg0.N) (h : Vec Ideal S1024x1024 .bf16) (hh : ∀ s k, h (ix2 s k) = H m c (row t s) k) (s : Fin 1024) (f : Fin 256) :
    k0_pay9 (F := Ideal) h (iblk m c 3 t) (ix2 s f) = US m c (row t s) (col t f) := by
  rw [pay_u]
  simp only [hh, blk_wh]
  rfl
theorem a_of (c : Dev nD) (t : Fin cfg0.N) (h : Vec Ideal S1024x1024 .bf16) (hh : ∀ s k, h (ix2 s k) = H m c (row t s) k)
    (a : Vec Ideal S1024x1024 .f32) (s k : Fin 1024) :
    k0_pay1 (F := Ideal) (k0_pay10 (F := Ideal) h (iblk m c 2 t) (iblk m c 3 t) a (iblk m c 4 t)) (ix2 s k) = a (ix2 s k) + part m c t s k := by
  rw [pay_keep, pay_acc]
  simp only [hh, blk_wl, blk_wh, blk_wo]
  rfl

theorem prev_h (Y : Vec Ideal S1024x1024 .bf16) (h : Memref.IsWhole scM0_0) : View.read (Elt Ideal) (View.whole cc0_scratch0) (h.unread Y) = Y :=
  h.read_unread Y
theorem prev_a (Y : Vec Ideal S1024x1024 .f32) (h : Memref.IsWhole scM0_1) : View.read (Elt Ideal) (View.whole cc0_scratch1) (h.unread Y) = Y :=
  h.read_unread Y

theorem h_first (c : Dev nD) (t : Fin cfg0.N) (h0 : t.val % 11 = 0) (s k : Fin 1024) :
    hAt m c t.val t.isLt (ix2 s k) = H m c (row t s) k := by
  unfold hAt
  rw [outsAt0_A m c t h0 (by omega)]; dsimp only
  frame_out
  exact hF_at m c t s k

theorem h_next (c : Dev nD) (t : Fin cfg0.N) (h0 : ¬t.val % 11 = 0) :
    hAt m c t.val t.isLt = hAt m c (t.val - 1) (prev_lt t) := by
  unfold hAt
  by_cases h1 : t.val % 11 = 10
  · rw [outsAt0_C m c t h0 h1]; dsimp only
    rfl
  · rw [outsAt0_B m c t h0 h1]; dsimp only
    rfl

theorem h_at (c : Dev nD) (s k : Fin 1024) : ∀ (n : ℕ) (h : n < cfg0.N), hAt m c n h (ix2 s k) = H m c (row ⟨n, h⟩ s) k
  | 0, h => h_first m c ⟨0, h⟩ rfl s k
  | n + 1, h => by
    by_cases h0 : (n + 1) % 11 = 0
    · exact h_first m c ⟨n + 1, h⟩ h0 s k
    · refine (congrFun (h_next m c ⟨n + 1, h⟩ h0) (ix2 s k)).trans ((h_at c s k n (Nat.lt_of_succ_lt h)).trans ?_)
      have e : row ⟨n, Nat.lt_of_succ_lt h⟩ s = row ⟨n + 1, h⟩ s := Fin.ext (by simp only [row]; omega)
      rw [e]

/-- What a later step finds in the scratch: the rows of its own row block. -/
theorem h_prev (c : Dev nD) (t : Fin cfg0.N) (h0 : ¬t.val % 11 = 0) (s k : Fin 1024) :
    hAt m c (t.val - 1) (prev_lt t) (ix2 s k) = H m c (row t s) k :=
  (congrFun (h_next m c t h0) (ix2 s k)).symm.trans (h_at m c s k t.val t.isLt)

theorem a_first (c : Dev nD) (t : Fin cfg0.N) (h0 : t.val % 11 = 0) (s k : Fin 1024) :
    aAt m c t.val t.isLt (ix2 s k) = 0 + part m c t s k := by
  unfold aAt
  rw [outsAt0_A m c t h0 (by omega)]; dsimp only
  frame_out
  exact (a_of m c t _ (hF_at m c t) _ s k).trans (congrArg (· + part m c t s k) (pay_zero s k))

theorem a_next (c : Dev nD) (t : Fin cfg0.N) (h0 : ¬t.val % 11 = 0) (s k : Fin 1024) :
    aAt m c t.val t.isLt (ix2 s k) = aAt m c (t.val - 1) (prev_lt t) (ix2 s k) + part m c t s k := by
  unfold aAt
  by_cases h1 : t.val % 11 = 10
  · rw [outsAt0_C m c t h0 h1]; dsimp only
    frame_out
    rw [prev_h, prev_a]
    exact a_of m c t _ (h_prev m c t h0) _ s k
  · rw [outsAt0_B m c t h0 h1]; dsimp only
    frame_out
    rw [prev_h, prev_a]
    exact a_of m c t _ (h_prev m c t h0) _ s k

theorem out_g (c : Dev nD) (t : Fin cfg0.N) (s : Fin 1024) (f : Fin 256) :
    (outsAt0 m c t.val t.isLt).2.1 (ix2 s f) = GS m c (row t s) (col t f) := by
  by_cases h0 : t.val % 11 = 0
  · rw [outsAt0_A m c t h0 (by omega)]; dsimp only
    frame_out
    exact g_of m c t _ (hF_at m c t) s f
  by_cases h1 : t.val % 11 = 10
  · rw [outsAt0_C m c t h0 h1]; dsimp only
    frame_out
    rw [prev_h]
    exact g_of m c t _ (h_prev m c t h0) s f
  · rw [outsAt0_B m c t h0 h1]; dsimp only
    frame_out
    rw [prev_h]
    exact g_of m c t _ (h_prev m c t h0) s f

theorem out_u (c : Dev nD) (t : Fin cfg0.N) (s : Fin 1024) (f : Fin 256) :
    (outsAt0 m c t.val t.isLt).2.2.1 (ix2 s f) = US m c (row t s) (col t f) := by
  by_cases h0 : t.val % 11 = 0
  · rw [outsAt0_A m c t h0 (by omega)]; dsimp only
    frame_out
    exact u_of m c t _ (hF_at m c t) s f
  by_cases h1 : t.val % 11 = 10
  · rw [outsAt0_C m c t h0 h1]; dsimp only
    frame_out
    rw [prev_h]
    exact u_of m c t _ (h_prev m c t h0) s f
  · rw [outsAt0_B m c t h0 h1]; dsimp only
    frame_out
    rw [prev_h]
    exact u_of m c t _ (h_prev m c t h0) s f

/-- The point of a row block's column block. -/
theorem sum_cols (f : Fin 2816 → EReal) (t : Fin cfg0.N) (h : ∀ j : Fin 11, 11 * (t.val / 11) + j.val < cfg0.N) :
    ∑ j : Fin 11, ∑ l : Fin 256, f (col ⟨11 * (t.val / 11) + j.val, h j⟩ l) = ∑ l, f l := by
  have e : ∑ j : Fin 11, ∑ l : Fin 256, f ⟨j.val * 256 + l.val, by omega⟩ = ∑ l, f l :=
    Fin.sum_mul_add_congr (S := 11) (F := fun j l => f ⟨j.val * 256 + l.val, by omega⟩) fun s k hl => rfl
  rw [← e]
  refine Finset.sum_congr rfl fun j _ => Finset.sum_congr rfl fun l _ => congrArg f (Fin.ext ?_)
  simp only [col]
  omega

theorem a_last (c : Dev nD) (t : Fin cfg0.N) (h : t.val % 11 = 10) (s : Fin 1024) (k : Fin 1024) :
    aAt m c t.val t.isLt (ix2 s k) = YS m c (row t s) k := by
  rw [Pipeline.eq_sum_fin_of_reset_step_apply_of_flush (fun n (h : n < cfg0.N) (p : Fin 1024 × Fin 1024) => aAt m c n h (ix2 p.1 p.2)) 11
    (fun _ => 0) (fun t p => part m c t p.1 p.2)
    (fun t h p => a_first m c t h p.1 p.2)
    (fun t h p => a_next m c t h p.1 p.2) t h (s, k), zero_add]
  dsimp only
  have hr : ∀ (j : Fin 11) (hj : 11 * (t.val / 11) + j.val < cfg0.N), row ⟨11 * (t.val / 11) + j.val, hj⟩ s = row t s := fun j hj =>
    Fin.ext (by simp only [row]; omega)
  unfold part YS
  simp only [hr]
  exact sum_cols (fun f => act (GS m c (row t s) f) (US m c (row t s) f) * WO m c f k) t _

theorem out_y (c : Dev nD) (t : Fin cfg0.N) (h1 : t.val % 11 = 10) (s k : Fin 1024) :
    (outsAt0 m c t.val t.isLt).2.2.2.1 (ix2 s k) = YS m c (row t s) k := by
  have e := (a_next m c t (by omega) s k).symm.trans (a_last m c t h1 s k)
  rw [outsAt0_C m c t (by omega) h1]; dsimp only
  frame_out
  rw [prev_h, prev_a]
  exact (pay_y _ s k).trans ((a_of m c t _ (h_prev m c t (by omega)) _ s k).trans e)

theorem out_xo (c : Dev nD) (t : Fin cfg0.N) (h1 : t.val % 11 = 10) (s k : Fin 1024) :
    (outsAt0 m c t.val t.isLt).1 (ix2 s k)
      = X m c (row t s) k + Ideal.ofBits .f32 0x3F000000#32 * GT m c k * YS m c (row t s) k := by
  have e := (a_next m c t (by omega) s k).symm.trans (a_last m c t h1 s k)
  rw [outsAt0_C m c t (by omega) h1]; dsimp only
  frame_out
  rw [prev_h, prev_a]
  refine (pay_xo _ (iblk m c 0 t) (vrow (iblk m c 1 t) 3 inb_S8x1024_S1x1024_3_0) s k).trans ?_
  rw [blk_x, ld_gt]
  exact congrArg (fun y => X m c (row t s) k + Ideal.ofBits .f32 0x3F000000#32 * GT m c k * y)
    ((a_of m c t _ (h_prev m c t (by omega)) _ s k).trans e)

/-! The results. -/

theorem value_xo (c : Dev nD) : (dats m 0 c).arrAt 5 cfg0.N = fun i => X m c (i 0) (i 1) + Ideal.ofBits .f32 0x3F000000#32 * GT m c (i 1) * YS m c (i 0) (i 1) := by
  refine (dats m 0 c).arrAt_eq_of_covers 5 _ (by decide +kernel) fun t hf y => ?_
  have hx : ((View.whole main_v11_0).slice (win0_5.rect t)).emb y = ix2 (row t (y 0)) (y 1) := by
    blk_ext [idx t, row, col]
  have hy : y = ix2 (n0 := 1024) (n1 := 1024) (y 0) (y 1) := by blk_ext
  have ho : t.val % 11 = 10 := (by decide +kernel : ∀ t : Fin grid0.N, win0_5.flush t = true → t.val % 11 = 10) t hf
  blk_simp
  rw [after0_5, hx, hy]
  exact out_xo m c t ho (y 0) (y 1)

theorem value_g (c : Dev nD) : (dats m 0 c).arrAt 6 cfg0.N = fun i => GS m c (i 0) (i 1) := by
  refine (dats m 0 c).arrAt_eq_of_covers 6 _ (by decide +kernel) fun t hf y => ?_
  have hx : ((View.whole main_v11_1).slice (win0_6.rect t)).emb y = ix2 (row t (y 0)) (col t (y 1)) := by
    blk_ext [idx t, row, col]
  have hy : y = ix2 (n0 := 1024) (n1 := 256) (y 0) (y 1) := by blk_ext
  blk_simp
  rw [after0_6, hx, hy]
  exact out_g m c t (y 0) (y 1)

theorem value_u (c : Dev nD) : (dats m 0 c).arrAt 7 cfg0.N = fun i => US m c (i 0) (i 1) := by
  refine (dats m 0 c).arrAt_eq_of_covers 7 _ (by decide +kernel) fun t hf y => ?_
  have hx : ((View.whole main_v11_2).slice (win0_7.rect t)).emb y = ix2 (row t (y 0)) (col t (y 1)) := by
    blk_ext [idx t, row, col]
  have hy : y = ix2 (n0 := 1024) (n1 := 256) (y 0) (y 1) := by blk_ext
  blk_simp
  rw [after0_7, hx, hy]
  exact out_u m c t (y 0) (y 1)

theorem value_y (c : Dev nD) : (dats m 0 c).arrAt 8 cfg0.N = fun i => YS m c (i 0) (i 1) := by
  refine (dats m 0 c).arrAt_eq_of_covers 8 _ (by decide +kernel) fun t hf y => ?_
  have hx : ((View.whole main_v11_3).slice (win0_8.rect t)).emb y = ix2 (row t (y 0)) (y 1) := by
    blk_ext [idx t, row, col]
  have hy : y = ix2 (n0 := 1024) (n1 := 1024) (y 0) (y 1) := by blk_ext
  have ho : t.val % 11 = 10 := (by decide +kernel : ∀ t : Fin grid0.N, win0_8.flush t = true → t.val % 11 = 10) t hf
  blk_simp
  rw [after0_8, hx, hy]
  exact out_y m c t ho (y 0) (y 1)

end Cert.FfnFwdKernel
end
-- ==== Proof.FfnFwdRef.lean ====
/- Hand-written, untrusted: the feed-forward block's reference, an operation at a time, at an index. -/
module

public import proofs.«01_k».proof.Proof.Gen.FfnFwdRefIdeal.Read
public import Idealize.ShloMosaic.Lib.Pipeline.ValueKit
public import proofs.«01_k».proof.Proof.FfnSpec

@[expose] public section

set_option maxRecDepth 16384

noncomputable section

namespace Cert.FfnFwdRef

open Cert.FfnFwdRefIdeal Cert.FfnFwdRefIdeal.Gen Cert.FfnFwdRefIdeal.Read Idealize.ShloMosaic Idealize.ShloMosaic.TcCoe Cert.LossSpec Cert.ModSpec Cert.FfnSpec Cert.Lib
open scoped BigOperators

variable (x0 : (⟨S1x2048x1024, .f32⟩ : BufTy).Contents (Elt Ideal)) (x1 : (⟨S1024, .f32⟩ : BufTy).Contents (Elt Ideal))
  (x2 : (⟨S1x3072, .f32⟩ : BufTy).Contents (Elt Ideal)) (x3 : (⟨S1024x5632, .f32⟩ : BufTy).Contents (Elt Ideal))
  (x4 : (⟨S2816x1024, .f32⟩ : BufTy).Contents (Elt Ideal))

/-- A row of the hidden states, the modulation's three vectors, and the forward values row by row. -/
def xr (s : Fin 2048) (k : Fin 1024) : EReal := x0 (ix3 0 s k)
def sh (k : Fin 1024) : EReal := x2 (ix2 0 ⟨k.val, by omega⟩)
def sc (k : Fin 1024) : EReal := x2 (ix2 0 ⟨1024 + k.val, by omega⟩)
def gt (k : Fin 1024) : EReal := x2 (ix2 0 ⟨2048 + k.val, by omega⟩)
def hh (s : Fin 2048) (k : Fin 1024) : EReal := hrow (xr x0 s) (fun k => x1 (ix1 k)) (sh x2) (sc x2) k
def gs (s : Fin 2048) (f : Fin 2816) : EReal := ∑ k, hh x0 x1 x2 s k * x3 (ix2 k ⟨f.val, by omega⟩)
def us (s : Fin 2048) (f : Fin 2816) : EReal := ∑ k, hh x0 x1 x2 s k * x3 (ix2 k ⟨2816 + f.val, by omega⟩)
def ys (s : Fin 2048) (k : Fin 1024) : EReal := ∑ f, act (gs x0 x1 x2 x3 s f) (us x0 x1 x2 x3 s f) * x4 (ix2 f k)

theorem mean_eq (s : Fin 2048) : val_main_v9 (F := Ideal) x0 (ix3 0 s 0) = rv (xr x0 s) := by
  unfold rv xr
  pointwise [val_main_v9, val_main_v8, val_main_v7, val_main_v6, val_main_v5, val_main_v4, val_main_v3, val_main_cst, val_main_cst_0, val_main_cst_1]

theorem rs_eq (s : Fin 2048) : val_main_v10 (F := Ideal) x0 (ix3 0 s 0) = Ideal.rsqrt (rv (xr x0 s)) := by
  rw [← mean_eq]; rfl

theorem xhat_eq (s : Fin 2048) (k : Fin 1024) : val_main_v12 (F := Ideal) x0 (ix3 0 s k) = xhat (xr x0 s) k := by
  unfold xhat
  rw [← rs_eq]
  unfold xr
  pointwise [val_main_v12, val_main_v11]

theorem sc_eq (s : Fin 2048) (k : Fin 1024) : val_main_v19 (F := Ideal) x2 (ix3 0 s k) = Ideal.ofBits .f32 0x3F800000#32 + sc x2 k := by
  unfold sc
  pointwise [val_main_v19, val_main_v18, val_main_v17, val_main_v16, val_main_v1, val_main_cst_2]

theorem hh_eq (s : Fin 2048) (k : Fin 1024) : val_main_v23 (F := Ideal) x0 x1 x2 (ix3 0 s k) = hh x0 x1 x2 s k := by
  unfold hh hrow gm sh
  rw [← sc_eq x2 s k, ← xhat_eq, ← mul_assoc]
  pointwise [val_main_v23, val_main_v22, val_main_v21, val_main_v0, val_main_v20, val_main_v15, val_main_v14, val_main_v13]

theorem prod_eq (s : Fin 2048) (l : Fin 5632) : val_main_v25 (F := Ideal) x0 x1 x2 x3 (ix3 0 s l) = ∑ k, hh x0 x1 x2 s k * x3 (ix2 k l) := by
  simp only [← hh_eq]
  pointwise [val_main_v25]

theorem g3_eq (s : Fin 2048) (f : Fin 2816) : val_main_v26 (F := Ideal) x0 x1 x2 x3 (ix3 0 s f) = gs x0 x1 x2 x3 s f := by
  unfold gs
  rw [← prod_eq]
  pointwise [val_main_v26]

theorem u3_eq (s : Fin 2048) (f : Fin 2816) : val_main_v27 (F := Ideal) x0 x1 x2 x3 (ix3 0 s f) = us x0 x1 x2 x3 s f := by
  unfold us
  rw [← prod_eq]
  pointwise [val_main_v27]

theorem sg_eq (s : Fin 2048) (f : Fin 2816) : val_main_call0_v5 (F := Ideal) x0 x1 x2 x3 (ix3 0 s f) = sg (gs x0 x1 x2 x3 s f) := by
  rw [← g3_eq]
  unfold sg
  pointwise [val_main_call0_v5, val_main_call0_v4, val_main_call0_v3, val_main_call0_v2, val_main_call0_v1, val_main_call0_v0, val_main_call0_cst, val_main_call0_cst_0]

theorem a3_eq (s : Fin 2048) (f : Fin 2816) : val_main_v29 (F := Ideal) x0 x1 x2 x3 (ix3 0 s f) = act (gs x0 x1 x2 x3 s f) (us x0 x1 x2 x3 s f) := by
  unfold act
  rw [← sg_eq, ← g3_eq, ← u3_eq]
  pointwise [val_main_v29, val_main_v28]

theorem y3_eq (s : Fin 2048) (k : Fin 1024) : val_main_v30 (F := Ideal) x0 x1 x2 x3 x4 (ix3 0 s k) = ys x0 x1 x2 x3 x4 s k := by
  unfold ys
  simp only [← a3_eq]
  pointwise [val_main_v30]

theorem xo_eq (s : Fin 2048) (k : Fin 1024) : val_main_v36 (F := Ideal) x0 x1 x2 x3 x4 (ix2 s k)
    = xr x0 s k + Ideal.ofBits .f32 0x3F000000#32 * gt x2 k * ys x0 x1 x2 x3 x4 s k := by
  rw [← y3_eq]
  unfold xr gt
  pointwise [val_main_v36, val_main_v35, val_main_v34, val_main_v33, val_main_v32, val_main_v31, val_main_v24, val_main_v2, val_main_cst_3]

theorem g_eq (s : Fin 2048) (f : Fin 2816) : val_main_v38 (F := Ideal) x0 x1 x2 x3 (ix2 s f) = gs x0 x1 x2 x3 s f := by
  rw [← g3_eq]
  pointwise [val_main_v38, val_main_v37]

theorem u_eq (s : Fin 2048) (f : Fin 2816) : val_main_v40 (F := Ideal) x0 x1 x2 x3 (ix2 s f) = us x0 x1 x2 x3 s f := by
  rw [← u3_eq]
  pointwise [val_main_v40, val_main_v39]

theorem y_eq (s : Fin 2048) (k : Fin 1024) : val_main_v42 (F := Ideal) x0 x1 x2 x3 x4 (ix2 s k) = ys x0 x1 x2 x3 x4 s k := by
  rw [← y3_eq]
  pointwise [val_main_v42, val_main_v41]

end Cert.FfnFwdRef
end
-- ==== Proof.FfnFwd.lean ====
/- Hand-written, untrusted: the claims of the feed-forward block's forward kernel. -/
module

public import proofs.«01_k».proof.Defs
public import proofs.«01_k».proof.Proof.Gen.FfnFwd.Frame
public import proofs.«01_k».proof.Proof.FfnFwdKernel
public import proofs.«01_k».proof.Proof.FfnFwdRef
public import Idealize.ShloMosaic.Lib.Quiescent

@[expose] public section

noncomputable section

namespace Cert.FfnFwd

open Idealize.ShloMosaic Idealize.ShloMosaic.TcCoe Idealize.SL.Sem

theorem frame_kernel : Cert.quiescent_FfnFwd := fun m ρ _ => Cert.FfnFwd.Gen.frame m ρ

theorem frame_ideal : Cert.quiescent_FfnFwdIdeal := fun m ρ _ => Cert.FfnFwdIdeal.Gen.frame m ρ

theorem frame_ref : Cert.quiescent_FfnFwdRefIdeal := fun m ρ _ =>
  (θ_run Cert.FfnFwdRefIdeal.defs _ _).mono
    (fun r h => ⟨fun c => (h c).2.2.2.2, sem_eq_zero_of_no_sems (by decide) r.2⟩)
    (Cert.FfnFwdRefIdeal.Value.run (F := Ideal) m ρ)

/-! Each of the reference's results, at the kernel's arguments, is the kernel's. -/

theorem xo_eq (m : (ℓ : Loc Cert.FfnFwdIdeal.nD Cert.FfnFwdIdeal.τ Cert.FfnFwdIdeal.sig) → Buf (Elt Ideal) ℓ) (c : Dev Cert.FfnFwdIdeal.nD) :
    Cert.FfnFwdRefIdeal.Read.val_main_v36 (F := Ideal) (m ((c.tc : Thread Cert.FfnFwdIdeal.nD Cert.FfnFwdIdeal.τ).loc Cert.FfnFwdIdeal.main_arg0))
        (m ((c.tc : Thread Cert.FfnFwdIdeal.nD Cert.FfnFwdIdeal.τ).loc Cert.FfnFwdIdeal.main_arg1))
        (m ((c.tc : Thread Cert.FfnFwdIdeal.nD Cert.FfnFwdIdeal.τ).loc Cert.FfnFwdIdeal.main_arg2))
        (m ((c.tc : Thread Cert.FfnFwdIdeal.nD Cert.FfnFwdIdeal.τ).loc Cert.FfnFwdIdeal.main_arg3))
        (m ((c.tc : Thread Cert.FfnFwdIdeal.nD Cert.FfnFwdIdeal.τ).loc Cert.FfnFwdIdeal.main_arg4))
      = (Cert.FfnFwdIdeal.Gen.dats m 0 c).arrAt 5 Cert.FfnFwdIdeal.cfg0.N := by
  rw [Cert.FfnFwdKernel.value_xo]
  funext i
  have hi : i = ix2 (n0 := 2048) (n1 := 1024) (i 0) (i 1) := by blk_ext
  rw [hi]
  exact Cert.FfnFwdRef.xo_eq _ _ _ _ _ (i 0) (i 1)

theorem g_eq (m : (ℓ : Loc Cert.FfnFwdIdeal.nD Cert.FfnFwdIdeal.τ Cert.FfnFwdIdeal.sig) → Buf (Elt Ideal) ℓ) (c : Dev Cert.FfnFwdIdeal.nD) :
    Cert.FfnFwdRefIdeal.Read.val_main_v38 (F := Ideal) (m ((c.tc : Thread Cert.FfnFwdIdeal.nD Cert.FfnFwdIdeal.τ).loc Cert.FfnFwdIdeal.main_arg0))
        (m ((c.tc : Thread Cert.FfnFwdIdeal.nD Cert.FfnFwdIdeal.τ).loc Cert.FfnFwdIdeal.main_arg1))
        (m ((c.tc : Thread Cert.FfnFwdIdeal.nD Cert.FfnFwdIdeal.τ).loc Cert.FfnFwdIdeal.main_arg2))
        (m ((c.tc : Thread Cert.FfnFwdIdeal.nD Cert.FfnFwdIdeal.τ).loc Cert.FfnFwdIdeal.main_arg3))
      = (Cert.FfnFwdIdeal.Gen.dats m 0 c).arrAt 6 Cert.FfnFwdIdeal.cfg0.N := by
  rw [Cert.FfnFwdKernel.value_g]
  funext i
  have hi : i = ix2 (n0 := 2048) (n1 := 2816) (i 0) (i 1) := by blk_ext
  rw [hi]
  exact Cert.FfnFwdRef.g_eq _ _ _ _ (i 0) (i 1)

theorem u_eq (m : (ℓ : Loc Cert.FfnFwdIdeal.nD Cert.FfnFwdIdeal.τ Cert.FfnFwdIdeal.sig) → Buf (Elt Ideal) ℓ) (c : Dev Cert.FfnFwdIdeal.nD) :
    Cert.FfnFwdRefIdeal.Read.val_main_v40 (F := Ideal) (m ((c.tc : Thread Cert.FfnFwdIdeal.nD Cert.FfnFwdIdeal.τ).loc Cert.FfnFwdIdeal.main_arg0))
        (m ((c.tc : Thread Cert.FfnFwdIdeal.nD Cert.FfnFwdIdeal.τ).loc Cert.FfnFwdIdeal.main_arg1))
        (m ((c.tc : Thread Cert.FfnFwdIdeal.nD Cert.FfnFwdIdeal.τ).loc Cert.FfnFwdIdeal.main_arg2))
        (m ((c.tc : Thread Cert.FfnFwdIdeal.nD Cert.FfnFwdIdeal.τ).loc Cert.FfnFwdIdeal.main_arg3))
      = (Cert.FfnFwdIdeal.Gen.dats m 0 c).arrAt 7 Cert.FfnFwdIdeal.cfg0.N := by
  rw [Cert.FfnFwdKernel.value_u]
  funext i
  have hi : i = ix2 (n0 := 2048) (n1 := 2816) (i 0) (i 1) := by blk_ext
  rw [hi]
  exact Cert.FfnFwdRef.u_eq _ _ _ _ (i 0) (i 1)

theorem y_eq (m : (ℓ : Loc Cert.FfnFwdIdeal.nD Cert.FfnFwdIdeal.τ Cert.FfnFwdIdeal.sig) → Buf (Elt Ideal) ℓ) (c : Dev Cert.FfnFwdIdeal.nD) :
    Cert.FfnFwdRefIdeal.Read.val_main_v42 (F := Ideal) (m ((c.tc : Thread Cert.FfnFwdIdeal.nD Cert.FfnFwdIdeal.τ).loc Cert.FfnFwdIdeal.main_arg0))
        (m ((c.tc : Thread Cert.FfnFwdIdeal.nD Cert.FfnFwdIdeal.τ).loc Cert.FfnFwdIdeal.main_arg1))
        (m ((c.tc : Thread Cert.FfnFwdIdeal.nD Cert.FfnFwdIdeal.τ).loc Cert.FfnFwdIdeal.main_arg2))
        (m ((c.tc : Thread Cert.FfnFwdIdeal.nD Cert.FfnFwdIdeal.τ).loc Cert.FfnFwdIdeal.main_arg3))
        (m ((c.tc : Thread Cert.FfnFwdIdeal.nD Cert.FfnFwdIdeal.τ).loc Cert.FfnFwdIdeal.main_arg4))
      = (Cert.FfnFwdIdeal.Gen.dats m 0 c).arrAt 8 Cert.FfnFwdIdeal.cfg0.N := by
  rw [Cert.FfnFwdKernel.value_y]
  funext i
  have hi : i = ix2 (n0 := 2048) (n1 := 1024) (i 0) (i 1) := by blk_ext
  rw [hi]
  exact Cert.FfnFwdRef.y_eq _ _ _ _ _ (i 0) (i 1)

theorem value : Cert.algebraic_FfnFwdIdeal_FfnFwdRefIdeal := by
  intro m ρ m' ρ' _ hagree
  refine ⟨_, _, _, _, Cert.FfnFwdIdeal.Value.run_blocks m ρ, ?_⟩
  refine (θ_run Cert.FfnFwdRefIdeal.defs _ _).mono (fun _ h c => ?_) (Cert.FfnFwdRefIdeal.Value.run m' ρ')
  obtain ⟨a0, a1, a2, a3, a4⟩ := hagree c
  obtain ⟨q0, q1, q2, q3, q⟩ := h c
  refine ⟨q0.trans (Eq.trans ?_ (xo_eq m c)), q1.trans (Eq.trans ?_ (g_eq m c)), q2.trans (Eq.trans ?_ (u_eq m c)),
    q3.trans (Eq.trans ?_ (y_eq m c)), q⟩
  · rw [Cert.FfnFwdRefIdeal.Read.val_main_v36_eq, a0, a1, a2, a3, a4]
  · rw [Cert.FfnFwdRefIdeal.Read.val_main_v38_eq, a0, a1, a2, a3]
  · rw [Cert.FfnFwdRefIdeal.Read.val_main_v40_eq, a0, a1, a2, a3]
  · rw [Cert.FfnFwdRefIdeal.Read.val_main_v42_eq, a0, a1, a2, a3, a4]

end Cert.FfnFwd

end
-- ==== Proof.MixFwdSpec.lean ====
/- Hand-written, untrusted: the mathematics of the gated mixer's forward step. -/
module

public import proofs.«01_k».proof.Proof.MixSpec

@[expose] public section

noncomputable section

namespace Cert.MixSpec

/-- The mixer's rows: the gated mixed part, then the gated short convolution. -/
def mo (P : Fin 2048 → Fin 2560 → EReal) (nv : Fin 512 → EReal) (w : Fin 4 → Fin 128 → Fin 128 → EReal) (b : Fin 4 → Fin 128 → EReal)
    (cw : Fin 3 → Fin 512 → EReal) (s : Fin 2048) (f : Fin 1024) : EReal :=
  if h : f.val < 512 then ge (P s (c0 ⟨f.val, h⟩)) * zz P nv w b s ⟨f.val, h⟩
  else P s (c2 ⟨f.val - 512, by omega⟩) * conv P cw s ⟨f.val - 512, by omega⟩

end Cert.MixSpec

end
-- ==== Proof.MixFwdKernel.lean ====
/- Hand-written, untrusted: what the gated mixer's forward kernel leaves in its result. -/
module

public import proofs.«01_k».proof.Proof.Gen.MixFwdIdeal.Value
public import proofs.«01_k».proof.Proof.MixFwdSpec
public import proofs.«01_k».proof.Proof.MixOut

@[expose] public section

set_option maxRecDepth 16384

noncomputable section

namespace Cert.MixFwdKernel

open Cert.MixFwdIdeal Cert.MixFwdIdeal.Gen Idealize.ShloMosaic Idealize.ShloMosaic.TcCoe Idealize.SL.Sem Cert.Lib Cert.MixSpec
open Cert.MixKernel (peel two emb2 emb2z emb3 ld2_at sl_at bc mm_n tri rowm sel_at rot_at canon16 sc_at hd_hc pc2 pc3 pc4)
open Idealize.ShloMosaic.Pipeline (Dat)
open scoped BigOperators

variable (m : (ℓ : Loc nD τ sig) → Buf (Elt Ideal) ℓ)

/-- The rows of the arguments. -/
def P (c : Dev nD) (s : Fin 2048) (f : Fin 2560) : EReal := m ((c : Thread nD τ).loc main_arg0) (ix3 0 s f)
def NV (c : Dev nD) (k : Fin 512) : EReal := m ((c : Thread nD τ).loc main_arg1) (ix1 k)
def W (c : Dev nD) (h : Fin 4) (i j : Fin 128) : EReal := m ((c : Thread nD τ).loc main_arg2) (ix3 h i j)
def B (c : Dev nD) (h : Fin 4) (i : Fin 128) : EReal := m ((c : Thread nD τ).loc main_arg3) (ix2 h i)
def CW (c : Dev nD) (r : Fin 3) (k : Fin 512) : EReal := m ((c : Thread nD τ).loc main_arg4) (ix2 r k)

theorem idx : ∀ t : Fin cfg0.N, win0_0.index t = ![t.val, 0] ∧ win0_1.index t = ![64 * t.val - 1, 0]
    ∧ win0_2.index t = ![0, 0] ∧ win0_3.index t = ![0, 0, 0] ∧ win0_4.index t = ![0, 0]
    ∧ win0_5.index t = ![0, 0] ∧ win0_6.index t = ![t.val, 0] :=
  (by decide +kernel : ∀ t : Fin grid0.N, _)

theorem lt4 (t : Fin cfg0.N) : t.val < 4 := lt_of_lt_of_eq t.isLt N_0

/-- The row of the arrays that row `s` of step `t`'s blocks is; the rows of the block above. -/
def row (t : Fin cfg0.N) (s : Fin 512) : Fin 2048 := ⟨512 * t.val + s.val, by have := lt4 t; omega⟩
def above (t : Fin cfg0.N) (s : Fin 8) : Fin 2048 := ⟨8 * (64 * t.val - 1) + s.val, by have := lt4 t; omega⟩

/-! The host's arrays. -/

theorem V_v4 (c : Dev nD) : V m c main_v4 = shapeCast S2048x2560 (m ((c : Thread nD τ).loc main_arg0)) shapeCasts_S1x2048x2560_S2048x2560 := by
  unfold V
  after_results
  try rfl
theorem V_v5 (c : Dev nD) : V m c main_v5 = shapeCast S1x512 (m ((c : Thread nD τ).loc main_arg1)) shapeCasts_S512_S1x512 := by
  unfold V
  after_results
  try rfl
theorem V_a2 (c : Dev nD) : V m c main_arg2 = m ((c : Thread nD τ).loc main_arg2) := by
  unfold V
  after_results
  try rfl
theorem V_a4 (c : Dev nD) : V m c main_arg4 = m ((c : Thread nD τ).loc main_arg4) := by
  unfold V
  after_results
  try rfl
theorem V_v3 (c : Dev nD) : V m c main_v3 = shapeCast S128x512 (broadcastInDim S128x4x128 ![0, 1, 2] bcast_S128x4x1_S128x4x128_0_1_2
    (broadcastInDim S128x4x1 ![0, 1] bcast_S128x4_S128x4x1_0_1 (transpose S128x4 [1, 0] (m ((c : Thread nD τ).loc main_arg3)) transposes_S4x128_S128x4_1_0)))
    shapeCasts_S128x4x128_S128x512 := by
  unfold V
  after_results
  try rfl
theorem flat_p (f : (⟨S1x2048x2560, .f32⟩ : BufTy).Contents (Elt Ideal)) (s : Fin 2048) (k : Fin 2560) :
    shapeCast S2048x2560 f shapeCasts_S1x2048x2560_S2048x2560 (ix2 s k) = f (ix3 0 s k) := by
  pointwise
theorem flat_n (f : (⟨S512, .f32⟩ : BufTy).Contents (Elt Ideal)) (k : Fin 512) :
    shapeCast S1x512 f shapeCasts_S512_S1x512 (ix2 0 k) = f (ix1 k) := by
  pointwise
theorem flat_b (f : (⟨S4x128, .f32⟩ : BufTy).Contents (Elt Ideal)) (i : Fin 128) (k : Fin 512) :
    shapeCast S128x512 (broadcastInDim S128x4x128 ![0, 1, 2] bcast_S128x4x1_S128x4x128_0_1_2
      (broadcastInDim S128x4x1 ![0, 1] bcast_S128x4_S128x4x1_0_1 (transpose S128x4 [1, 0] f transposes_S4x128_S128x4_1_0)))
      shapeCasts_S128x4x128_S128x512 (ix2 i k) = f (ix2 (hd k) i) := by
  pointwise [hd]

/-! What each window's block holds. -/

theorem emb_p (t : Fin cfg0.N) (s : Fin 512) (k : Fin 2560) :
    ((View.whole main_v4).slice (win0_0.rect t)).emb (ix2 s k) = ix2 (row t s) k := by blk_ext [idx t, row]
theorem emb_a (t : Fin cfg0.N) (s : Fin 8) (k : Fin 2560) :
    ((View.whole main_v4).slice (win0_1.rect t)).emb (ix2 s k) = ix2 (above t s) k := by blk_ext [idx t, above]
theorem emb_n (t : Fin cfg0.N) (k : Fin 512) :
    ((View.whole main_v5).slice (win0_2.rect t)).emb (ix2 0 k) = ix2 0 k := by blk_ext [idx t]
theorem emb_w (t : Fin cfg0.N) (h : Fin 4) (i j : Fin 128) :
    ((View.whole main_arg2).slice (win0_3.rect t)).emb (ix3 h i j) = ix3 h i j := by blk_ext [idx t]
theorem emb_b (t : Fin cfg0.N) (i : Fin 128) (k : Fin 512) :
    ((View.whole main_v3).slice (win0_4.rect t)).emb (ix2 i k) = ix2 i k := by blk_ext [idx t]
theorem emb_cw (t : Fin cfg0.N) (r : Fin 3) (k : Fin 512) :
    ((View.whole main_arg4).slice (win0_5.rect t)).emb (ix2 r k) = ix2 r k := by blk_ext [idx t]
theorem blk_p (c : Dev nD) (t : Fin cfg0.N) (s : Fin 512) (k : Fin 2560) : iblk m c 0 t (ix2 s k) = P m c (row t s) k := by
  change V m c main_v4 (((View.whole main_v4).slice (win0_0.rect t)).emb (ix2 s k)) = _
  rw [V_v4, emb_p, flat_p]; rfl
theorem blk_a (c : Dev nD) (t : Fin cfg0.N) (s : Fin 8) (k : Fin 2560) : iblk m c 1 t (ix2 s k) = P m c (above t s) k := by
  change V m c main_v4 (((View.whole main_v4).slice (win0_1.rect t)).emb (ix2 s k)) = _
  rw [V_v4, emb_a, flat_p]; rfl
theorem blk_n (c : Dev nD) (t : Fin cfg0.N) (k : Fin 512) : iblk m c 2 t (ix2 0 k) = NV m c k := by
  change V m c main_v5 (((View.whole main_v5).slice (win0_2.rect t)).emb (ix2 0 k)) = _
  rw [V_v5, emb_n, flat_n]; rfl
theorem blk_w (c : Dev nD) (t : Fin cfg0.N) (h : Fin 4) (i j : Fin 128) : iblk m c 3 t (ix3 h i j) = W m c h i j := by
  change V m c main_arg2 (((View.whole main_arg2).slice (win0_3.rect t)).emb (ix3 h i j)) = _
  rw [V_a2, emb_w]; rfl
theorem blk_b (c : Dev nD) (t : Fin cfg0.N) (i : Fin 128) (k : Fin 512) : iblk m c 4 t (ix2 i k) = B m c (hd k) i := by
  change V m c main_v3 (((View.whole main_v3).slice (win0_4.rect t)).emb (ix2 i k)) = _
  rw [V_v3, emb_b, flat_b]; rfl
theorem blk_cw (c : Dev nD) (t : Fin cfg0.N) (r : Fin 3) (k : Fin 512) : iblk m c 5 t (ix2 r k) = CW m c r k := by
  change V m c main_arg4 (((View.whole main_arg4).slice (win0_5.rect t)).emb (ix2 r k)) = _
  rw [V_a4, emb_cw]; rfl

/-! ## The vectors, at an element -/

theorem gelu_cube : (Named.named κ "gelu_cube" (0x3D372713#32 : BitVec (FTy.bits .f32)) : Ideal .f32) = ga :=
  IdealRules.named_const.ideal_named_scalar _ _ _ _ rfl
theorem pay2_at (X : FVec Ideal S512x512 .f32) (s k : Fin 512) : k0_pay2 (F := Ideal) X (ix2 s k) = ge (X (ix2 s k)) := by
  simp only [ge, th]
  rw [← gelu_cube]
  pointwise [k0_pay2]
theorem pay3_at (X : FVec Ideal S512x512 .f32) (s k : Fin 512) :
    k0_pay3 (F := Ideal) X (ix2 s k) = cen (fun j => ge (X (ix2 s j))) k := by
  simp only [cen, ge, th]
  rw [← gelu_cube]
  pointwise [k0_pay3]
theorem pay5_at (X : FVec Ideal S512x512 .f32) (Y : FVec Ideal S1x512 .f32) (s k : Fin 512) :
    k0_pay5 (F := Ideal) (k0_pay3 X) (k0_pay4 X) Y (ix2 s k) = lnx (fun j => ge (X (ix2 s j))) k * Y (ix2 0 k) := by
  simp only [lnx, rs, vr, ← pay3_at]
  pointwise [k0_pay5, k0_pay4]

abbrev LP (c : Dev nD) (t : Fin cfg0.N) (o : Nat) (h : ∀ a, (![0, o] : Fin 2 → Nat) a + (![512, 512] : Fin 2 → Nat) a ≤ S512x2560.size a) :
    FVec Ideal S512x512 .f32 := View.ld (iblk m c 0 t) (Rect.unit ![0, o] ![512, 512] h)

theorem lp_at (c : Dev nD) (t : Fin cfg0.N) (o : Nat) (h) (s k : Fin 512) (ho : o + k.val < 2560) : LP m c t o h (ix2 s k) = P m c (row t s) ⟨o + k.val, ho⟩ := by
  unfold LP
  rw [ld2_at _ _ _ _ _ _ (by omega) ho, blk_p]
  congr 1; exact Fin.ext (by simp [row])

theorem vn_at (c : Dev nD) (t : Fin cfg0.N) (h) (s k : Fin 512) :
    k0_pay5 (F := Ideal) (k0_pay3 (LP m c t 512 h)) (k0_pay4 (LP m c t 512 h)) (iblk m c 2 t) (ix2 s k) = vn (P m c) (NV m c) (row t s) k := by
  have e : gv (P m c) (row t s) = fun j => ge (LP m c t 512 h (ix2 s j)) := funext fun j => by
    rw [lp_at _ _ _ _ _ _ _ (by omega)]; rfl
  unfold vn xh
  rw [e, ← blk_n m c t]
  exact pay5_at _ _ s k

theorem wm_at (c : Dev nD) (t : Fin cfg0.N) (hh : Fin 4) (X : FVec Ideal S1x128x128 .f32) (hX : ∀ i j, X (ix3 0 i j) = W m c hh i j) (p1 p2 p3 p4) (i j : Fin 128) :
    truncf (F := Ideal) .bf16 (select (cmpi .sge (iota .tc S128x128 32 [0] p1) (iota .tc S128x128 32 [1] p2)) (shapeCast S128x128 X p3)
      (broadcast S128x128 (FloatOps.ofBits .f32 0#32 : Ideal .f32))) p4 (ix2 i j) = wm (W m c) hh i j := by
  have e := tri i j p1 p2
  generalize cmpi .sge (iota .tc S128x128 32 [0] p1) (iota .tc S128x128 32 [1] p2) = T at e ⊢
  unfold wm
  rw [← hX]
  trans if T (ix2 i j) = 1#1 then X (ix3 0 i j) else Ideal.ofBits .f32 0#32
  · pointwise
    rfl
  · rw [e, bits_0]
    by_cases hij : j ≤ i
    · rw [if_pos hij, if_pos rfl, if_pos hij]
    · rw [if_neg hij, if_neg (by decide), if_neg hij]
      exact EReal.coe_zero

theorem w_at (c : Dev nD) (t : Fin cfg0.N) (hh : Fin 4) (n : Nat) (hn : n = hh.val) (h) (i j : Fin 128) :
    View.ld (iblk m c 3 t) (Rect.unit ![n, 0, 0] ![1, 128, 128] h) (ix3 0 i j) = W m c hh i j := by
  subst hn
  rw [← blk_w m c t]
  exact congrArg (iblk m c 3 t) (emb3 _ h i j)

theorem u_at (c : Dev nD) (t : Fin cfg0.N) (h) (s k : Fin 512) : k0_pay2 (F := Ideal) (LP m c t 0 h) (ix2 s k) = ge (P m c (row t s) (c0 k)) := by
  rw [pay2_at, lp_at _ _ _ _ _ _ _ (by omega)]
  congr 2; exact Fin.ext (by simp [c0])

theorem cr_row (t : Fin cfg0.N) (n : Fin 4) (i l : Fin 128) : cr (ck (row t (bc n i))) l = row t (bc n l) :=
  Fin.ext (by simp only [cr, ck, row, bc]; omega)
theorem pl_row (t : Fin cfg0.N) (n : Fin 4) (i : Fin 128) : pl (row t (bc n i)) = i :=
  Fin.ext (by simp only [pl, row, bc]; omega)

/-! ## The convolution -/

abbrev LA (c : Dev nD) (t : Fin cfg0.N) (r o : Nat) (h : ∀ a, (![r, o] : Fin 2 → Nat) a + (![1, 512] : Fin 2 → Nat) a ≤ S8x2560.size a) :
    FVec Ideal S1x512 .f32 := View.ld (iblk m c 1 t) (Rect.unit ![r, o] ![1, 512] h)
abbrev LW (c : Dev nD) (t : Fin cfg0.N) (r : Nat) (h : ∀ a, (![r, 0] : Fin 2 → Nat) a + (![1, 512] : Fin 2 → Nat) a ≤ S3x512.size a) :
    FVec Ideal S1x512 .f32 := View.ld (iblk m c 5 t) (Rect.unit ![r, 0] ![1, 512] h)
theorem la_at (c : Dev nD) (t : Fin cfg0.N) (r o : Nat) (h) (k : Fin 512) (hr : r < 8) (ho : o + k.val < 2560) :
    LA m c t r o h (ix2 0 k) = P m c (above t ⟨r, hr⟩) ⟨o + k.val, ho⟩ := by
  unfold LA
  rw [ld2_at _ _ _ _ _ _ (by omega) ho, blk_a]
  congr 1
theorem lw_at (c : Dev nD) (t : Fin cfg0.N) (r : Nat) (h) (k : Fin 512) (hr : r < 3) : LW m c t r h (ix2 0 k) = CW m c ⟨r, hr⟩ k := by
  unfold LW
  rw [ld2_at _ _ _ _ _ _ (by omega) (by omega), blk_cw]
  congr 1
  exact Fin.ext (by simp)
theorem lp2_at (c : Dev nD) (t : Fin cfg0.N) (h) (s k : Fin 512) : LP m c t 1024 h (ix2 s k) = P m c (row t s) (c2 k) :=
  (lp_at m c t _ h s k (by omega)).trans (congrArg _ (pc2 _ _ _ rfl))
theorem lp3_at (c : Dev nD) (t : Fin cfg0.N) (h) (s k : Fin 512) : LP m c t 1536 h (ix2 s k) = P m c (row t s) (c3 k) :=
  (lp_at m c t _ h s k (by omega)).trans (congrArg _ (pc3 _ _ _ rfl))
theorem lp4_at (c : Dev nD) (t : Fin cfg0.N) (h) (s k : Fin 512) : LP m c t 2048 h (ix2 s k) = P m c (row t s) (c4 k) :=
  (lp_at m c t _ h s k (by omega)).trans (congrArg _ (pc4 _ _ _ rfl))
theorem q_at (c : Dev nD) (t : Fin cfg0.N) (h h' g g') (s k : Fin 512) :
    mulf (F := Ideal) (shapeCast S512x512 (LP m c t 1536 h) h') (shapeCast S512x512 (LP m c t 2048 g) g') (ix2 s k) = qq (P m c) (row t s) k := by
  unfold qq
  rw [← lp3_at m c t h, ← lp4_at m c t g]
  generalize LP m c t 1536 h = X
  generalize LP m c t 2048 g = Y
  pointwise

theorem crd : ∀ t : Fin cfg0.N, Scalar.cmpi .eq (BitVec.ofNat 32 (grid0.coords t 0).val) 0#32 = (if t.val = 0 then 1#1 else 0#1) :=
  (by decide +kernel : ∀ t : Fin grid0.N, _)

theorem top_at (c : Dev nD) (t : Fin cfg0.N) (r : Nat) (hr : r < 8) (h h' g g') (k : Fin 512) :
    Scalar.select (Scalar.cmpi .eq (BitVec.ofNat 32 (grid0.coords t 0).val) 0#32) (broadcast S1x512 (FloatOps.ofBits .f32 0#32 : Ideal .f32))
      (mulf (F := Ideal) (shapeCast S1x512 (LA m c t r 1536 h) h') (shapeCast S1x512 (LA m c t r 2048 g) g')) (ix2 0 k)
      = if t.val = 0 then 0 else qq (P m c) (above t ⟨r, hr⟩) k := by
  rw [crd t]
  unfold qq
  rw [← pc3 1536 k (by omega) rfl, ← pc4 2048 k (by omega) rfl, ← la_at m c t r 1536 h, ← la_at m c t r 2048 g]
  generalize LA m c t r 1536 h = X
  generalize LA m c t r 2048 g = Y
  split_ifs with h0
  · change Ideal.ofBits .f32 0#32 = 0
    rw [bits_0]; exact EReal.coe_zero
  · change mulf (F := Ideal) (shapeCast S1x512 X h') (shapeCast S1x512 Y g') (ix2 0 k) = _
    pointwise

theorem d1_at (c : Dev nD) (t : Fin cfg0.N) (Q : FVec Ideal S512x512 .f32) (A : FVec Ideal S1x512 .f32) (hQ : ∀ s k, Q (ix2 s k) = qq (P m c) (row t s) k)
    (hA : ∀ k, A (ix2 0 k) = if t.val = 0 then 0 else qq (P m c) (above t 7) k) (p h h' r) (s k : Fin 512) :
    select (cmpi .eq (iota .tc S512x512 32 [0] p) (broadcast S512x512 0#32)) (broadcastTo S512x512 (shapeCast S1x512 A h) h') (dynamicRotate 0 1#32 none Q r) (ix2 s k)
      = dn 1 (qq (P m c)) (row t s) k := by
  rw [sel_at, rowm 0 (by norm_num), rot_at 1 (by norm_num), hQ, hA]
  have ht := lt4 t
  unfold dn
  by_cases hs : s.val = 0
  · rw [if_pos hs, if_pos rfl]
    by_cases h0 : t.val = 0
    · rw [if_pos h0, if_neg (show ¬ 1 ≤ (row t s).val by simp only [row]; omega)]
    · rw [if_neg h0, if_pos (show 1 ≤ (row t s).val by simp only [row]; omega)]
      exact congrFun (congrArg _ (Fin.ext (by simp only [above, row]; simp; omega))) _
  · rw [if_neg hs, if_neg (by decide), if_pos (show 1 ≤ (row t s).val by simp only [row]; omega)]
    exact congrFun (congrArg _ (Fin.ext (by simp only [row]; omega))) _

theorem d2_at (c : Dev nD) (t : Fin cfg0.N) (Q : FVec Ideal S512x512 .f32) (A B : FVec Ideal S1x512 .f32) (hQ : ∀ s k, Q (ix2 s k) = qq (P m c) (row t s) k)
    (hA : ∀ k, A (ix2 0 k) = if t.val = 0 then 0 else qq (P m c) (above t 7) k) (hB : ∀ k, B (ix2 0 k) = if t.val = 0 then 0 else qq (P m c) (above t 6) k)
    (p p' h h' g g' r) (s k : Fin 512) :
    select (cmpi .eq (iota .tc S512x512 32 [0] p) (broadcast S512x512 1#32)) (broadcastTo S512x512 (shapeCast S1x512 A h) h')
      (select (cmpi .eq (iota .tc S512x512 32 [0] p') (broadcast S512x512 0#32)) (broadcastTo S512x512 (shapeCast S1x512 B g) g') (dynamicRotate 0 2#32 none Q r)) (ix2 s k)
      = dn 2 (qq (P m c)) (row t s) k := by
  rw [sel_at, rowm 1 (by norm_num), sel_at, rowm 0 (by norm_num), rot_at 2 (by norm_num), hQ, hA, hB]
  have ht := lt4 t
  unfold dn
  by_cases hs : s.val = 1
  · rw [if_pos hs, if_pos rfl]
    by_cases h0 : t.val = 0
    · rw [if_pos h0, if_neg (show ¬ 2 ≤ (row t s).val by simp only [row]; omega)]
    · rw [if_neg h0, if_pos (show 2 ≤ (row t s).val by simp only [row]; omega)]
      exact congrFun (congrArg _ (Fin.ext (by simp only [above, row]; simp; omega))) _
  · rw [if_neg hs, if_neg (by decide)]
    by_cases hs0 : s.val = 0
    · rw [if_pos hs0, if_pos rfl]
      by_cases h0 : t.val = 0
      · rw [if_pos h0, if_neg (show ¬ 2 ≤ (row t s).val by simp only [row]; omega)]
      · rw [if_neg h0, if_pos (show 2 ≤ (row t s).val by simp only [row]; omega)]
        exact congrFun (congrArg _ (Fin.ext (by simp only [above, row]; simp; omega))) _
    · rw [if_neg hs0, if_neg (by decide), if_pos (show 2 ≤ (row t s).val by simp only [row]; omega)]
      exact congrFun (congrArg _ (Fin.ext (by simp only [row]; omega))) _

/-! ## The pieces -/

abbrev G6 (c : Dev nD) (t : Fin cfg0.N) (y : S512x1024.Idx) : EReal := mo (P m c) (NV m c) (W m c) (B m c) (CW m c) (row t (y 0)) (y 1)

theorem mo_1 (c : Dev nD) (s : Fin 2048) (k : Fin 512) (h) : mo (P m c) (NV m c) (W m c) (B m c) (CW m c) s ⟨512 + k.val, h⟩
    = P m c s (c2 k) * conv (P m c) (CW m c) s k := by
  have e : (⟨512 + k.val - 512, by omega⟩ : Fin 512) = k := Fin.ext (by simp)
  unfold mo
  rw [dif_neg (by show ¬ 512 + k.val < 512; omega)]
  simp only [e]
theorem mo_0 (c : Dev nD) (s : Fin 2048) (k : Fin 512) (f : Fin 1024) (h : f.val = k.val) : mo (P m c) (NV m c) (W m c) (B m c) (CW m c) s f
    = ge (P m c s (c0 k)) * zz (P m c) (NV m c) (W m c) (B m c) s k := by
  unfold mo
  rw [dif_pos (by omega)]
  have e : (⟨f.val, by omega⟩ : Fin 512) = k := Fin.ext h
  simp only [e]

theorem p6_1 (c : Dev nD) (t : Fin cfg0.N) (Y Q2 Q1 Q : FVec Ideal S512x512 .f32) (hY : ∀ s k, Y (ix2 s k) = P m c (row t s) (c2 k))
    (h2 : ∀ s k, Q2 (ix2 s k) = dn 2 (qq (P m c)) (row t s) k) (h1 : ∀ s k, Q1 (ix2 s k) = dn 1 (qq (P m c)) (row t s) k)
    (h0 : ∀ s k, Q (ix2 s k) = qq (P m c) (row t s) k) (w2 w1 w0 q2 q1 q0 p h) (x : S512x512.Idx) :
    truncf (F := Ideal) .bf16 (mulf Y (addf (addf (mulf (broadcastTo S512x512 (LW m c t 0 w0) q0) Q2) (mulf (broadcastTo S512x512 (LW m c t 1 w1) q1) Q1))
      (mulf (broadcastTo S512x512 (LW m c t 2 w2) q2) Q))) p x = G6 m c t ((Rect.unit (s := S512x1024) ![0, 512] ![512, 512] h).emb x) := by
  obtain ⟨s, k, rfl⟩ := two 512 512 x
  rw [emb2z _ _ _ _ (by omega) (by omega)]
  refine Eq.trans ?_ (mo_1 m c (row t s) k _).symm
  have f2 : LW m c t 2 w2 (ix2 0 k) = CW m c 2 k := lw_at m c t 2 w2 k (by norm_num)
  have f1 : LW m c t 1 w1 (ix2 0 k) = CW m c 1 k := lw_at m c t 1 w1 k (by norm_num)
  have f0 : LW m c t 0 w0 (ix2 0 k) = CW m c 0 k := lw_at m c t 0 w0 k (by norm_num)
  unfold conv
  rw [← hY, ← h2, ← h1, ← h0, ← f2, ← f1, ← f0]
  generalize LW m c t 2 w2 = X2
  generalize LW m c t 1 w1 = X1
  generalize LW m c t 0 w0 = X0
  pointwise

theorem p6_0 (c : Dev nD) (t : Fin cfg0.N) (n hh : Fin 4) (Wm : FVec Ideal S128x128 .bf16) (V : FVec Ideal S512x512 .bf16)
    (U : FVec Ideal S512x512 .f32) (hW : ∀ i j, Wm (ix2 i j) = wm (W m c) hh i j)
    (hV : ∀ s k, V (ix2 s k) = vn (P m c) (NV m c) (row t s) k) (hU : ∀ s k, U (ix2 s k) = ge (P m c (row t s) (c0 k)))
    (a o : Nat) (ha : a = 128 * n.val) (ho : o = 128 * hh.val) (s2 s3 p b q h) (x : S128x128.Idx) :
    truncf (F := Ideal) .bf16 (mulf (extractStridedSlice S128x128 ![a, o] U s3) (addf (matmul dot_S128x128_S128x128_S128x128_1_0_0_1_n_n none Wm
        (extractStridedSlice S128x128 ![a, o] V s2) (constant (F := Ideal) S128x128 .f32 0#32)) (shapeCast S128x128 (Cert.MixKernel.LB (iblk m c 4 t) o b) q))) p x
      = G6 m c t ((Rect.unit (s := S512x1024) ![a, o] ![128, 128] h).emb x) := by
  subst ha ho
  obtain ⟨i, j, rfl⟩ := two 128 128 x
  rw [emb2 _ _ _ _ _ (by omega) (by omega)]
  refine Eq.trans ?_ (mo_0 m c (row t (bc n i)) (hc hh j) _ rfl).symm
  have e2 : ge (P m c (row t (bc n i)) (c0 (hc hh j))) = extractStridedSlice S128x128 ![128 * n.val, 128 * hh.val] U s3 (ix2 i j) :=
    ((sl_at (e := .f32) U _ _ _ _ _ (by omega) (by omega)).trans (hU _ _)).symm
  have e3 : zz (P m c) (NV m c) (W m c) (B m c) (row t (bc n i)) (hc hh j) = matmul dot_S128x128_S128x128_S128x128_1_0_0_1_n_n none Wm
      (extractStridedSlice S128x128 ![128 * n.val, 128 * hh.val] V s2) (constant (F := Ideal) S128x128 .f32 0#32) (ix2 i j) + Cert.MixKernel.LB (iblk m c 4 t) (128 * hh.val) b (ix2 i j) := by
    unfold zz
    simp only [hd_hc, pl_row, cr_row]
    refine congrArg₂ (· + ·) ((mm_n _ _ _ _).trans (Finset.sum_congr rfl fun l _ => congrArg₂ (· * ·) (hW i l) ?_)).symm ?_
    · exact (sl_at (e := .bf16) V _ _ _ _ _ (by omega) (by omega)).trans (hV _ _)
    · refine Eq.trans ?_ (congrArg (iblk m c 4 t) (emb2z _ b i j (by omega) (by omega))).symm
      rw [blk_b]
      exact congrFun (congrArg _ (hd_hc hh j).symm) _
  rw [e2, e3]
  generalize matmul dot_S128x128_S128x128_S128x128_1_0_0_1_n_n none Wm
      (extractStridedSlice S128x128 ![128 * n.val, 128 * hh.val] V s2) (constant (F := Ideal) S128x128 .f32 0#32) = M
  generalize Cert.MixKernel.LB (iblk m c 4 t) (128 * hh.val) b = Z
  generalize extractStridedSlice S128x128 ![128 * n.val, 128 * hh.val] U s3 = Y2
  pointwise

theorem left (y : S512x1024.Idx) (h1) (n1 : y ∉ (Rect.unit (s := S512x1024) ![0, 512] ![512, 512] h1).set) : (y 1).val < 512 := by
  obtain ⟨i, k, rfl⟩ := two 512 1024 y
  rw [Rect.mem_set_unit, Fin.forall_fin_two] at n1
  have hi := i.isLt
  have hk := k.isLt
  have e0 : ((ix2 i k : S512x1024.Idx) 0).val = i.val := rfl
  have e1 : ((ix2 i k : S512x1024.Idx) 1).val = k.val := rfl
  simp only [e0, e1, Matrix.cons_val_zero, Matrix.cons_val_one, Matrix.cons_val_fin_one] at n1 ⊢
  omega

set_option maxHeartbeats 16000000 in
theorem o6 (c : Dev nD) (t : Fin cfg0.N) (y) : outsAt0 m c t y = G6 m c t y := by
  unfold outsAt0 out0_A_6
  frame_open
  simp (disch := decide) only [View.read_writes_junk_eq_canon, ↓ View.readCov_skip, ↓ View.readCov_cons_toLoadRect, ↓ View.readCov_fill, View.ld_unit_lit', View.readAt_eq_ld, Memref.IsWhole.read_unread]
  exact peel (Val := Elt Ideal) (e := .bf16) (G6 m c t) y _ _ _ (p6_1 m c t _ _ _ _ (fun s k => (sc_at _ _ s k).trans (lp2_at m c t _ s k))
      (d2_at m c t _ _ _ (q_at m c t _ _ _ _) (top_at m c t 7 (by norm_num) _ _ _ _) (top_at m c t 6 (by norm_num) _ _ _ _) _ _ _ _ _ _ _)
      (d1_at m c t _ _ (q_at m c t _ _ _ _) (top_at m c t 7 (by norm_num) _ _ _ _) _ _ _ _) (q_at m c t _ _ _ _) _ _ _ _ _ _ _ _) fun n1 =>
    canon16 (e := .bf16) (by norm_num) (G6 m c t) y (left y _ n1) _ _ _ _ _ _ _ _ _ _ _ _ _ _ _ _ _ _ _ _ _ _ _ _ _ _ _ _ _ _ _ _
      (p6_0 m c t 3 3 _ _ _ (wm_at m c t 3 _ (w_at m c t 3 3 rfl _) _ _ _ _) (vn_at m c t _) (u_at m c t _) 384 384 rfl rfl _ _ _ _ _ _)
      (p6_0 m c t 2 3 _ _ _ (wm_at m c t 3 _ (w_at m c t 3 3 rfl _) _ _ _ _) (vn_at m c t _) (u_at m c t _) 256 384 rfl rfl _ _ _ _ _ _)
      (p6_0 m c t 1 3 _ _ _ (wm_at m c t 3 _ (w_at m c t 3 3 rfl _) _ _ _ _) (vn_at m c t _) (u_at m c t _) 128 384 rfl rfl _ _ _ _ _ _)
      (p6_0 m c t 0 3 _ _ _ (wm_at m c t 3 _ (w_at m c t 3 3 rfl _) _ _ _ _) (vn_at m c t _) (u_at m c t _) 0 384 rfl rfl _ _ _ _ _ _)
      (p6_0 m c t 3 2 _ _ _ (wm_at m c t 2 _ (w_at m c t 2 2 rfl _) _ _ _ _) (vn_at m c t _) (u_at m c t _) 384 256 rfl rfl _ _ _ _ _ _)
      (p6_0 m c t 2 2 _ _ _ (wm_at m c t 2 _ (w_at m c t 2 2 rfl _) _ _ _ _) (vn_at m c t _) (u_at m c t _) 256 256 rfl rfl _ _ _ _ _ _)
      (p6_0 m c t 1 2 _ _ _ (wm_at m c t 2 _ (w_at m c t 2 2 rfl _) _ _ _ _) (vn_at m c t _) (u_at m c t _) 128 256 rfl rfl slices_S512x512_o128_256_S128x128 _ _ _ _ _)
      (p6_0 m c t 0 2 _ _ _ (wm_at m c t 2 _ (w_at m c t 2 2 rfl _) _ _ _ _) (vn_at m c t _) (u_at m c t _) 0 256 rfl rfl _ _ _ _ _ _)
      (p6_0 m c t 3 1 _ _ _ (wm_at m c t 1 _ (w_at m c t 1 1 rfl _) _ _ _ _) (vn_at m c t _) (u_at m c t _) 384 128 rfl rfl _ _ _ _ _ _)
      (p6_0 m c t 2 1 _ _ _ (wm_at m c t 1 _ (w_at m c t 1 1 rfl _) _ _ _ _) (vn_at m c t _) (u_at m c t _) 256 128 rfl rfl _ _ _ _ _ _)
      (p6_0 m c t 1 1 _ _ _ (wm_at m c t 1 _ (w_at m c t 1 1 rfl _) _ _ _ _) (vn_at m c t _) (u_at m c t _) 128 128 rfl rfl _ _ _ _ _ _)
      (p6_0 m c t 0 1 _ _ _ (wm_at m c t 1 _ (w_at m c t 1 1 rfl _) _ _ _ _) (vn_at m c t _) (u_at m c t _) 0 128 rfl rfl _ _ _ _ _ _)
      (p6_0 m c t 3 0 _ _ _ (wm_at m c t 0 _ (w_at m c t 0 0 rfl _) _ _ _ _) (vn_at m c t _) (u_at m c t _) 384 0 rfl rfl _ _ _ _ _ _)
      (p6_0 m c t 2 0 _ _ _ (wm_at m c t 0 _ (w_at m c t 0 0 rfl _) _ _ _ _) (vn_at m c t _) (u_at m c t _) 256 0 rfl rfl _ _ _ _ _ _)
      (p6_0 m c t 1 0 _ _ _ (wm_at m c t 0 _ (w_at m c t 0 0 rfl _) _ _ _ _) (vn_at m c t _) (u_at m c t _) 128 0 rfl rfl _ _ _ _ _ _)
      (p6_0 m c t 0 0 _ _ _ (wm_at m c t 0 _ (w_at m c t 0 0 rfl _) _ _ _ _) (vn_at m c t _) (u_at m c t _) 0 0 rfl rfl _ _ _ _ _ _)

theorem value_mix (c : Dev nD) : (dats m 0 c).arrAt 6 cfg0.N = fun i => mo (P m c) (NV m c) (W m c) (B m c) (CW m c) (i 0) (i 1) := by
  refine (dats m 0 c).arrAt_eq_of_covers 6 _ (by decide +kernel) fun t hf y => ?_
  have hx : ((View.whole main_v6).slice (win0_6.rect t)).emb y = ix2 (row t (y 0)) (y 1) := by
    blk_ext [idx t, row]
  have hy : y = ix2 (n0 := 512) (n1 := 1024) (y 0) (y 1) := by blk_ext
  blk_simp
  rw [after0_6, hx, hy]
  exact o6 m c t (ix2 (y 0) (y 1))

end Cert.MixFwdKernel

end
-- ==== Proof.MixFwdRef.lean ====
/- Hand-written, untrusted: the gated mixer's reference forward step, an operation at a time, at an index. -/
module

public import proofs.«01_k».proof.Proof.Gen.MixFwdRefIdeal.Read
public import Idealize.ShloMosaic.Lib.Pipeline.ValueKit
public import Idealize.ShloMosaic.Lib.WordCmp
public import proofs.«01_k».proof.Proof.MixFwdSpec

@[expose] public section

set_option maxRecDepth 16384

noncomputable section

namespace Cert.MixFwdRef

open Cert.MixFwdRefIdeal Cert.MixFwdRefIdeal.Gen Cert.MixFwdRefIdeal.Read Idealize.ShloMosaic Idealize.ShloMosaic.TcCoe Cert.MixSpec Cert.Lib
open scoped BigOperators

variable (x0 : (⟨S1x2048x2560, .f32⟩ : BufTy).Contents (Elt Ideal)) (x1 : (⟨S512, .f32⟩ : BufTy).Contents (Elt Ideal))
  (x2 : (⟨S4x128x128, .f32⟩ : BufTy).Contents (Elt Ideal)) (x3 : (⟨S4x128, .f32⟩ : BufTy).Contents (Elt Ideal))
  (x4 : (⟨S3x512, .f32⟩ : BufTy).Contents (Elt Ideal))

/-- The arguments, by row and column. -/
def P (s : Fin 2048) (f : Fin 2560) : EReal := x0 (ix3 0 s f)
def N (k : Fin 512) : EReal := x1 (ix1 k)
def W (h : Fin 4) (i j : Fin 128) : EReal := x2 (ix3 h i j)
def B (h : Fin 4) (i : Fin 128) : EReal := x3 (ix2 h i)
def CW (r : Fin 3) (k : Fin 512) : EReal := x4 (ix2 r k)

theorem p0_eq (s k) : val_main_v3 (F := Ideal) x0 (ix3 0 s k) = P x0 s (c0 k) := by unfold P c0; pointwise [val_main_v3]
theorem p1_eq (s k) : val_main_v4 (F := Ideal) x0 (ix3 0 s k) = P x0 s (c1 k) := by unfold P c1; pointwise [val_main_v4]
theorem p2_eq (s k) : val_main_v5 (F := Ideal) x0 (ix3 0 s k) = P x0 s (c2 k) := by unfold P c2; pointwise [val_main_v5]
theorem p3_eq (s k) : val_main_v6 (F := Ideal) x0 (ix3 0 s k) = P x0 s (c3 k) := by unfold P c3; pointwise [val_main_v6]
theorem p4_eq (s k) : val_main_v7 (F := Ideal) x0 (ix3 0 s k) = P x0 s (c4 k) := by unfold P c4; pointwise [val_main_v7]

theorem thu_eq (s k) : val_main_v17 (F := Ideal) x0 (ix3 0 s k) = th (P x0 s (c0 k)) := by
  rw [← th_div, ← p0_eq]
  pointwise [val_main_v17, val_main_v16, val_main_v15, val_main_cst_1, val_main_v14, val_main_v13, val_main_v12, val_main_cst_0, val_main_v11, val_main_v10, val_main_cst, val_main_v9, val_main_v8]

theorem hu_eq (s k) : val_main_v21 (F := Ideal) x0 (ix3 0 s k) = half * (one + th (P x0 s (c0 k))) := by
  rw [← thu_eq]
  pointwise [val_main_v21, val_main_v20, val_main_cst_3, val_main_v19, val_main_v18, val_main_cst_2]

theorem gu_eq (s k) : val_main_v22 (F := Ideal) x0 (ix3 0 s k) = ge (P x0 s (c0 k)) := by
  rw [← ge_ref, ← hu_eq, ← p0_eq]
  pointwise [val_main_v22]

theorem thv_eq (s k) : val_main_v32 (F := Ideal) x0 (ix3 0 s k) = th (P x0 s (c1 k)) := by
  rw [← th_div, ← p1_eq]
  pointwise [val_main_v32, val_main_v31, val_main_v30, val_main_cst_6, val_main_v29, val_main_v28, val_main_v27, val_main_cst_5, val_main_v26, val_main_v25, val_main_cst_4, val_main_v24, val_main_v23]

theorem hv_eq (s k) : val_main_v36 (F := Ideal) x0 (ix3 0 s k) = half * (one + th (P x0 s (c1 k))) := by
  rw [← thv_eq]
  pointwise [val_main_v36, val_main_v35, val_main_cst_8, val_main_v34, val_main_v33, val_main_cst_7]

theorem gv_eq (s k) : val_main_v37 (F := Ideal) x0 (ix3 0 s k) = gv (P x0) s k := by
  unfold gv
  rw [← ge_ref, ← hv_eq, ← p1_eq]
  pointwise [val_main_v37]

theorem mean_eq (s : Fin 2048) : val_main_v41 (F := Ideal) x0 (ix3 0 s 0) = Ideal.div (∑ j, gv (P x0) s j) b512 := by
  simp only [← gv_eq]
  pointwise [val_main_v41, val_main_v40, val_main_cst_10, val_main_v39, val_main_v38, val_main_cst_9]

theorem cen_eq (s k) : val_main_v43 (F := Ideal) x0 (ix3 0 s k) = cen (gv (P x0) s) k := by
  unfold cen
  rw [← mean_eq, ← gv_eq]
  pointwise [val_main_v43, val_main_v42]

theorem cen2_eq (s k) : val_main_v50 (F := Ideal) x0 (ix3 0 s k) = cen (gv (P x0) s) k := by
  rw [← cen_eq]; rfl

theorem vr_eq (s : Fin 2048) : val_main_v52 (F := Ideal) x0 (ix3 0 s 0) = vr (gv (P x0) s) := by
  unfold vr
  simp only [← cen_eq]
  pointwise [val_main_v52, val_main_v51, val_main_cst_13, val_main_v48, val_main_v47, val_main_cst_12, val_main_v46, val_main_v45, val_main_cst_11, val_main_v44]

theorem rs_eq (s : Fin 2048) : val_main_v53 (F := Ideal) x0 (ix3 0 s 0) = rs (gv (P x0) s) := by
  unfold rs
  rw [← vr_eq]
  pointwise [val_main_v53]

theorem xh_eq (s k) : val_main_v55 (F := Ideal) x0 (ix3 0 s k) = xh (P x0) s k := by
  unfold xh lnx
  rw [← rs_eq, ← cen2_eq]
  pointwise [val_main_v55, val_main_v54]

theorem vn_eq (s k) : val_main_v58 (F := Ideal) x0 x1 (ix3 0 s k) = vn (P x0) (N x1) s k := by
  unfold vn N
  rw [← xh_eq]
  pointwise [val_main_v58, val_main_v57, val_main_v56]

theorem vn5_eq (n : Fin 16) (i : Fin 128) (h : Fin 4) (d : Fin 128) :
    val_main_v59 (F := Ideal) x0 x1 (ix5 0 n i h d) = vn (P x0) (N x1) (cr n i) (hc h d) := by
  rw [← vn_eq]
  pointwise [val_main_v59]
  exact congrArg₂ (fun a b => val_main_v58 (F := Ideal) x0 x1 (ix3 0 a b)) (Fin.ext (by simp only [cr]; omega)) (Fin.ext (by simp only [hc]; omega))

theorem mask_eq (i j : Fin 128) : val_main_v61 (F := Ideal) (ix2 i j) = if j ≤ i then one else Ideal.ofBits .f32 0x00000000#32 := by
  have e : val_main_call0_v4 (F := Ideal) (ix2 i j) = BitVec.ofBool (decide (j.val ≤ i.val)) := by
    rw [val_main_call0_v4_apply, ← WordCmp.cmpi_sge_ofNat (w := 32) (by omega) (by omega)]
    refine congrArg₂ (IntOp.cmpi .sge) ?_ rfl
    show IntOp.addi (BitVec.ofNat 32 i.val) 0#32 = _
    exact BitVec.add_zero _
  rw [val_main_v61_apply, e]
  by_cases h : j ≤ i
  · rw [if_pos h, decide_eq_true (show j.val ≤ i.val from h)]; rfl
  · rw [if_neg h, decide_eq_false (show ¬ j.val ≤ i.val from h)]; rfl

theorem wm_eq (h : Fin 4) (i j : Fin 128) : val_main_v64 (F := Ideal) x2 (ix3 h i j) = wm (W x2) h i j := by
  have e : val_main_v64 (F := Ideal) x2 (ix3 h i j) = W x2 h i j * val_main_v61 (F := Ideal) (ix2 i j) := by
    unfold W
    pointwise [val_main_v64, val_main_v63, val_main_v62]
  rw [e, mask_eq]
  unfold wm
  split_ifs
  · rw [show one = 1 from bits_1.trans EReal.coe_one, mul_one]
  · rw [bits_0, EReal.coe_zero, mul_zero]

theorem mix5_eq (n : Fin 16) (i : Fin 128) (h : Fin 4) (d : Fin 128) :
    val_main_v69 (F := Ideal) x0 x1 x2 x3 (ix5 0 n i h d)
      = (∑ j, wm (W x2) h i j * vn (P x0) (N x1) (cr n j) (hc h d)) + B x3 h i := by
  simp only [← vn5_eq, ← wm_eq, mul_comm (val_main_v64 (F := Ideal) x2 _)]
  unfold B
  pointwise [val_main_v69, val_main_v68, val_main_v67, val_main_v2, val_main_v1, val_main_v0, val_main_v66, val_main_v65]

theorem hc_hd (k : Fin 512) : hc (hd k) (ln k) = k := Fin.ext (by simp only [hc, hd, ln]; omega)

theorem zz_eq (s k) : val_main_v70 (F := Ideal) x0 x1 x2 x3 (ix3 0 s k) = zz (P x0) (N x1) (W x2) (B x3) s k := by
  have e : val_main_v70 (F := Ideal) x0 x1 x2 x3 (ix3 0 s k) = val_main_v69 (F := Ideal) x0 x1 x2 x3 (ix5 0 (ck s) (pl s) (hd k) (ln k)) := by
    unfold ck pl hd ln
    pointwise [val_main_v70]
  rw [e, mix5_eq, hc_hd]
  rfl

theorem qq_eq (s k) : val_main_v72 (F := Ideal) x0 (ix3 0 s k) = qq (P x0) s k := by
  unfold qq
  rw [← p3_eq, ← p4_eq]
  pointwise [val_main_v72]

theorem cat_eq (r : Fin 2050) (k : Fin 512) :
    val_main_v74 (F := Ideal) x0 (ix3 0 r k) = if h : 2 ≤ r.val then qq (P x0) ⟨r.val - 2, by omega⟩ k else 0 := by
  simp only [← qq_eq]
  pointwise [val_main_v74]
  by_cases h : r.val < 2
  · rw [dif_pos h, dif_neg (by omega)]
    pointwise [val_main_v73, val_main_cst_15]
  · rw [dif_neg h, dif_pos (by omega)]

theorem d2_eq (s k) : val_main_v77 (F := Ideal) x0 (ix3 0 s k) = dn 2 (qq (P x0)) s k := by
  have e : val_main_v77 (F := Ideal) x0 (ix3 0 s k) = val_main_v74 (F := Ideal) x0 (ix3 0 ⟨s.val, by omega⟩ k) := by
    pointwise [val_main_v77]
  rw [e, cat_eq]
  rfl

theorem d1_eq (s k) : val_main_v83 (F := Ideal) x0 (ix3 0 s k) = dn 1 (qq (P x0)) s k := by
  have e : val_main_v83 (F := Ideal) x0 (ix3 0 s k) = val_main_v74 (F := Ideal) x0 (ix3 0 ⟨1 + s.val, by omega⟩ k) := by
    pointwise [val_main_v83]
  rw [e, cat_eq]
  unfold dn
  by_cases h : 1 ≤ s.val
  · rw [dif_pos (show 2 ≤ 1 + s.val by omega), if_pos h]
    exact congrArg (fun a => qq (P x0) a k) (Fin.ext (show 1 + s.val - 2 = s.val - 1 by omega))
  · rw [dif_neg (show ¬ 2 ≤ 1 + s.val by omega), if_neg h]

theorem d0_eq (s k) : val_main_v90 (F := Ideal) x0 (ix3 0 s k) = qq (P x0) s k := by
  have e : val_main_v90 (F := Ideal) x0 (ix3 0 s k) = val_main_v74 (F := Ideal) x0 (ix3 0 ⟨2 + s.val, by omega⟩ k) := by
    pointwise [val_main_v90]
  rw [e, cat_eq, dif_pos (show 2 ≤ 2 + s.val by omega)]
  exact congrArg (fun a => qq (P x0) a k) (Fin.ext (show 2 + s.val - 2 = s.val by omega))

theorem w0_eq (k : Fin 512) : val_main_v78 (F := Ideal) x4 (ix3 0 0 k) = CW x4 0 k := by
  unfold CW; pointwise [val_main_v78, val_main_v76, val_main_v75]

theorem w1_eq (k : Fin 512) : val_main_v84 (F := Ideal) x4 (ix3 0 0 k) = CW x4 1 k := by
  unfold CW; pointwise [val_main_v84, val_main_v82, val_main_v81]

theorem w2_eq (k : Fin 512) : val_main_v91 (F := Ideal) x4 (ix3 0 0 k) = CW x4 2 k := by
  unfold CW; pointwise [val_main_v91, val_main_v89, val_main_v88]

theorem conv_eq (s k) : val_main_v94 (F := Ideal) x0 x4 (ix3 0 s k) = conv (P x0) (CW x4) s k := by
  unfold conv
  rw [← w0_eq, ← w1_eq, ← w2_eq, ← d0_eq, ← d1_eq, ← d2_eq]
  pointwise [val_main_v94, val_main_v93, val_main_v92, val_main_v87, val_main_v86, val_main_v85, val_main_v80, val_main_v79]

theorem mix_eq (s : Fin 2048) (f : Fin 1024) : val_main_v98 (F := Ideal) x0 x1 x2 x3 x4 (ix2 s f) = mo (P x0) (N x1) (W x2) (B x3) (CW x4) s f := by
  unfold mo
  simp only [← gu_eq, ← zz_eq, ← conv_eq, ← p2_eq]
  have e : val_main_v98 (F := Ideal) x0 x1 x2 x3 x4 (ix2 s f) = val_main_v96 (F := Ideal) x0 x1 x2 x3 x4 (ix3 0 s f) := by
    pointwise [val_main_v98, val_main_v97]
  rw [e]
  pointwise [val_main_v96]
  by_cases h : f.val < 512
  · rw [dif_pos h, dif_pos h]
    pointwise [val_main_v71]
  · rw [dif_neg h, dif_neg h]
    pointwise [val_main_v95]

end Cert.MixFwdRef

end
-- ==== Proof.MixFwd.lean ====
/- Hand-written, untrusted: the claims of the gated mixer's forward kernel. -/
module

public import proofs.«01_k».proof.Defs
public import proofs.«01_k».proof.Proof.Gen.MixFwd.Frame
public import proofs.«01_k».proof.Proof.MixFwdKernel
public import proofs.«01_k».proof.Proof.MixFwdRef
public import Idealize.ShloMosaic.Lib.Quiescent

@[expose] public section

noncomputable section

namespace Cert.MixFwd

open Idealize.ShloMosaic Idealize.ShloMosaic.TcCoe Idealize.SL.Sem Cert.Lib

theorem frame_kernel : Cert.quiescent_MixFwd := fun m ρ _ => Cert.MixFwd.Gen.frame m ρ

theorem frame_ideal : Cert.quiescent_MixFwdIdeal := fun m ρ _ => Cert.MixFwdIdeal.Gen.frame m ρ

theorem frame_ref : Cert.quiescent_MixFwdRefIdeal := fun m ρ _ =>
  (θ_run Cert.MixFwdRefIdeal.defs _ _).mono
    (fun r h => ⟨fun c => (h c).2, sem_eq_zero_of_no_sems (by decide) r.2⟩)
    (Cert.MixFwdRefIdeal.Value.run (F := Ideal) m ρ)

theorem preserves : Cert.preserves_MixFwd_MixFwdIdeal :=
  IdealRules.named_const.statement Cert.MixFwdIdeal.κ "gelu_cube" .f32 0x3D372713#32 ((8943 / 200000 : ℝ) : EReal) rfl

theorem mix_eq (m : (ℓ : Loc Cert.MixFwdIdeal.nD Cert.MixFwdIdeal.τ Cert.MixFwdIdeal.sig) → Buf (Elt Ideal) ℓ) (c : Dev Cert.MixFwdIdeal.nD) :
    Cert.MixFwdRefIdeal.Read.val_main_v98 (F := Ideal) (m ((c.tc : Thread Cert.MixFwdIdeal.nD Cert.MixFwdIdeal.τ).loc Cert.MixFwdIdeal.main_arg0))
        (m ((c.tc : Thread Cert.MixFwdIdeal.nD Cert.MixFwdIdeal.τ).loc Cert.MixFwdIdeal.main_arg1))
        (m ((c.tc : Thread Cert.MixFwdIdeal.nD Cert.MixFwdIdeal.τ).loc Cert.MixFwdIdeal.main_arg2))
        (m ((c.tc : Thread Cert.MixFwdIdeal.nD Cert.MixFwdIdeal.τ).loc Cert.MixFwdIdeal.main_arg3))
        (m ((c.tc : Thread Cert.MixFwdIdeal.nD Cert.MixFwdIdeal.τ).loc Cert.MixFwdIdeal.main_arg4))
      = (Cert.MixFwdIdeal.Gen.dats m 0 c).arrAt 6 Cert.MixFwdIdeal.cfg0.N := by
  rw [Cert.MixFwdKernel.value_mix]
  funext i
  have hi : i = ix2 (n0 := 2048) (n1 := 1024) (i 0) (i 1) := by blk_ext
  rw [hi]
  exact Cert.MixFwdRef.mix_eq _ _ _ _ _ (i 0) (i 1)

theorem value : Cert.algebraic_MixFwdIdeal_MixFwdRefIdeal := by
  intro m ρ m' ρ' _ hagree
  refine ⟨_, Cert.MixFwdIdeal.Value.run_blocks m ρ, ?_⟩
  refine (θ_run Cert.MixFwdRefIdeal.defs _ _).mono (fun _ h c => ?_) (Cert.MixFwdRefIdeal.Value.run m' ρ')
  obtain ⟨a0, a1, a2, a3, a4⟩ := hagree c
  obtain ⟨q0, q⟩ := h c
  refine ⟨q0.trans (Eq.trans ?_ (mix_eq m c)), q⟩
  rw [Cert.MixFwdRefIdeal.Read.val_main_v98_eq]
  change Cert.MixFwdRefIdeal.Read.val_main_v98 (F := Ideal) (m' ((c.tc : Thread Cert.MixFwdRefIdeal.nD Cert.MixFwdRefIdeal.τ).loc Cert.MixFwdRefIdeal.main_arg0))
      (m' ((c.tc : Thread Cert.MixFwdRefIdeal.nD Cert.MixFwdRefIdeal.τ).loc Cert.MixFwdRefIdeal.main_arg1))
      (m' ((c.tc : Thread Cert.MixFwdRefIdeal.nD Cert.MixFwdRefIdeal.τ).loc Cert.MixFwdRefIdeal.main_arg2))
      (m' ((c.tc : Thread Cert.MixFwdRefIdeal.nD Cert.MixFwdRefIdeal.τ).loc Cert.MixFwdRefIdeal.main_arg3))
      (m' ((c.tc : Thread Cert.MixFwdRefIdeal.nD Cert.MixFwdRefIdeal.τ).loc Cert.MixFwdRefIdeal.main_arg4)) = _
  rw [a0, a1, a2, a3, a4]

end Cert.MixFwd

end
-- ==== Proof.InFwd.lean ====
/- Hand-written, untrusted: the claims of the modulated norm and its input projection. -/
module

public import proofs.«01_k».proof.Defs
public import proofs.«01_k».proof.Proof.Gen.InFwd.Frame
public import proofs.«01_k».proof.Proof.Gen.InFwdIdeal.Value
public import proofs.«01_k».proof.Proof.Gen.InFwdRefIdeal.Read
public import proofs.«01_k».proof.Proof.FfnFwdKernel
public import proofs.«01_k».proof.Proof.FfnFwdRef
public import Idealize.ShloMosaic.Lib.Quiescent

@[expose] public section

set_option maxRecDepth 16384

noncomputable section

namespace Cert.InFwd

open Idealize.ShloMosaic Idealize.ShloMosaic.TcCoe Idealize.SL.Sem Cert.Lib Cert.LossSpec Cert.ModSpec
open Cert.InFwdIdeal Cert.InFwdIdeal.Gen
open Cert.FfnFwdKernel (vrow vrow_at prev_lt)
open Cert.FfnFwdRef (hh)
open scoped BigOperators

variable (m : (ℓ : Loc nD τ sig) → Buf (Elt Ideal) ℓ)

/-- The arguments, and the modulated rows. -/
abbrev A0 (c : Dev nD) : (⟨S1x2048x1024, .f32⟩ : BufTy).Contents (Elt Ideal) := m ((c : Thread nD τ).loc main_arg0)
abbrev A1 (c : Dev nD) : (⟨S1024, .f32⟩ : BufTy).Contents (Elt Ideal) := m ((c : Thread nD τ).loc main_arg1)
abbrev A2 (c : Dev nD) : (⟨S1x3072, .f32⟩ : BufTy).Contents (Elt Ideal) := m ((c : Thread nD τ).loc main_arg2)
abbrev A3 (c : Dev nD) : (⟨S1024x2560, .f32⟩ : BufTy).Contents (Elt Ideal) := m ((c : Thread nD τ).loc main_arg3)
abbrev H (c : Dev nD) (s : Fin 2048) (k : Fin 1024) : EReal := hh (A0 m c) (A1 m c) (A2 m c) s k

theorem idx : ∀ t : Fin cfg0.N, win0_0.index t = ![t.val / 4, 0] ∧ win0_1.index t = ![0, 0]
    ∧ win0_2.index t = ![0, 0, t.val % 4] ∧ win0_3.index t = ![t.val / 4, t.val % 4] :=
  (by decide +kernel : ∀ t : Fin grid0.N, _)

def row (t : Fin cfg0.N) (s : Fin 1024) : Fin 2048 := ⟨t.val / 4 * 1024 + s.val, by have := lt_of_lt_of_eq t.isLt N_0; omega⟩
def col (t : Fin cfg0.N) (f : Fin 640) : Fin 2560 := ⟨t.val % 4 * 640 + f.val, by omega⟩

theorem V_v0 (c : Dev nD) : V m c main_v0 = shapeCast S2048x1024 (A0 m c) shapeCasts_S1x2048x1024_S2048x1024 := by
  unfold V
  after_results
  try rfl
theorem V_v6 (c : Dev nD) : V m c main_v6 = addf (F := Ideal)
    (pad S8x1024 ![0, 0] ![7, 0] ![0, 0] (broadcastInDim S1x1024 ![1] bcast_S1024_S1x1024_1 (A1 m c)) (sitofp (F := Ideal) .f32 (constantI S_ 32 0#32)) pads_S1x1024_S8x1024_070_000 h_S_)
    (pad S8x1024 ![1, 0] ![4, 0] ![0, 0] (shapeCast S3x1024 (shapeCast S3072 (A2 m c) shapeCasts_S1x3072_S3072) shapeCasts_S3072_S3x1024) (sitofp (F := Ideal) .f32 (constantI S_ 32 0#32)) pads_S3x1024_S8x1024_140_000 h_S_) := by
  unfold V
  after_results
  try rfl
theorem V_v8 (c : Dev nD) : V m c main_v8 = truncf (F := Ideal) .bf16 (broadcastInDim S1x1024x2560 ![1, 2] bcast_S1024x2560_S1x1024x2560_1_2 (A3 m c)) bitsLt_bf16_f32 := by
  unfold V
  after_results
  try rfl

theorem blk_x (c : Dev nD) (t : Fin cfg0.N) (s k : Fin 1024) : iblk m c 0 t (ix2 s k) = A0 m c (ix3 0 (row t s) k) := by
  change V m c main_v0 (((View.whole main_v0).slice (win0_0.rect t)).emb (ix2 s k)) = _
  have e : ((View.whole main_v0).slice (win0_0.rect t)).emb (ix2 s k) = ix2 (row t s) k := by blk_ext [idx t, row]
  rw [V_v0, e]
  pointwise
theorem blk_v (c : Dev nD) (t : Fin cfg0.N) (a : Fin 8) (k : Fin 1024) :
    iblk m c 1 t (ix2 a k) = (if a.val = 0 then A1 m c (ix1 k) else 0)
      + (if h : 1 ≤ a.val ∧ a.val - 1 < 3 then A2 m c (ix2 0 ⟨(a.val - 1) * 1024 + k.val, by omega⟩) else 0) := by
  change V m c main_v6 (((View.whole main_v6).slice (win0_1.rect t)).emb (ix2 a k)) = _
  have e : ((View.whole main_v6).slice (win0_1.rect t)).emb (ix2 a k) = ix2 a k := by blk_ext [idx t]
  rw [V_v6, e, addf_apply, pad_top, pad_mod]; rfl
theorem blk_w (c : Dev nD) (t : Fin cfg0.N) (k : Fin 1024) (f : Fin 640) : iblk m c 2 t (ix3 0 k f) = A3 m c (ix2 k (col t f)) := by
  change V m c main_v8 (((View.whole main_v8).slice (win0_2.rect t)).emb (ix3 0 k f)) = _
  have e : ((View.whole main_v8).slice (win0_2.rect t)).emb (ix3 0 k f) = ix3 0 k (col t f) := by blk_ext [idx t, col]
  rw [V_v8, e]
  pointwise

theorem h_of (c : Dev nD) (t : Fin cfg0.N) (s k : Fin 1024) (i0 i1 i2) :
    k0_pay1 (F := Ideal) (iblk m c 0 t) (vrow (iblk m c 1 t) 0 i0) (vrow (iblk m c 1 t) 2 i2) (vrow (iblk m c 1 t) 1 i1) (ix2 s k)
      = H m c (row t s) k := by
  refine (Cert.FfnFwdKernel.pay_h _ _ _ _ s k).trans ?_
  unfold H hh Cert.FfnFwdRef.xr
  congr 1
  · funext k; exact blk_x m c t s k
  · funext k; rw [vrow_at _ _ (by norm_num), blk_v]; simp
  · funext k; rw [vrow_at _ _ (by norm_num), blk_v]; simp [Cert.FfnFwdRef.sh]
  · funext k; rw [vrow_at _ _ (by norm_num), blk_v]; simp [Cert.FfnFwdRef.sc]

theorem o_of (c : Dev nD) (t : Fin cfg0.N) (h : Vec Ideal S1024x1024 .bf16) (e : ∀ s k, h (ix2 s k) = H m c (row t s) k) (s : Fin 1024) (f : Fin 640) :
    k0_pay2 (F := Ideal) h (iblk m c 2 t) (ix2 s f) = ∑ k, H m c (row t s) k * A3 m c (ix2 k (col t f)) := by
  simp only [← e]
  pointwise [k0_pay2]
  exact Finset.sum_congr rfl fun x _ => congrArg (h (ix2 s x) * ·) (blk_w m c t x f)

theorem h_at (c : Dev nD) (s k : Fin 1024) : ∀ (n : ℕ) (h : n < cfg0.N), (outsAt0 m c n h).2 (ix2 s k) = H m c (row ⟨n, h⟩ s) k := by
  have first (t : Fin cfg0.N) (h0 : t.val % 4 = 0) : (outsAt0 m c t.val t.isLt).2 (ix2 s k) = H m c (row t s) k := by
    rw [outsAt0_A m c t h0]; dsimp only
    frame_out
    exact h_of m c t s k _ _ _
  intro n
  induction n with
  | zero => exact fun h => first ⟨0, h⟩ rfl
  | succ n ih =>
    intro h
    by_cases h0 : (n + 1) % 4 = 0
    · exact first ⟨n + 1, h⟩ h0
    have e : row ⟨n, Nat.lt_of_succ_lt h⟩ s = row ⟨n + 1, h⟩ s := Fin.ext (by simp only [row]; omega)
    rw [← e, ← ih, outsAt0_B m c ⟨n + 1, h⟩ h0]; dsimp only
    rfl

theorem o_at (c : Dev nD) (t : Fin cfg0.N) (s : Fin 1024) (f : Fin 640) :
    (outsAt0 m c t.val t.isLt).1 (ix2 s f) = ∑ k, H m c (row t s) k * A3 m c (ix2 k (col t f)) := by
  by_cases h0 : t.val % 4 = 0
  · rw [outsAt0_A m c t h0]; dsimp only
    frame_out
    exact o_of m c t _ (fun s k => h_of m c t s k _ _ _) s f
  · rw [outsAt0_B m c t h0]; dsimp only
    frame_out
    rw [show ∀ (Y : Vec Ideal S1024x1024 .bf16) (h : Memref.IsWhole scM0_0), View.read (Elt Ideal) (View.whole cc0_scratch0) (h.unread Y) = Y from
      fun Y h => h.read_unread Y]
    refine o_of m c t _ (fun s k => (h_at m c s k _ _).trans ?_) s f
    have e : row ⟨t.val - 1, Nat.lt_of_le_of_lt (Nat.sub_le _ _) t.isLt⟩ s = row t s := Fin.ext (by simp only [row]; omega)
    rw [e]

theorem o_arr (c : Dev nD) : Cert.InFwdRefIdeal.Read.val_main_v26 (F := Ideal) (A0 m c) (A1 m c) (A2 m c) (A3 m c) = (dats m 0 c).arrAt 3 cfg0.N := by
  symm
  refine (dats m 0 c).arrAt_eq_of_covers 3 _ (by decide +kernel) fun t hf y => ?_
  have hx : ((View.whole main_v9).slice (win0_3.rect t)).emb y = ix2 (row t (y 0)) (col t (y 1)) := by blk_ext [idx t, row, col]
  have hy : y = ix2 (n0 := 1024) (n1 := 640) (y 0) (y 1) := by blk_ext
  have hr (s k) : Cert.InFwdRefIdeal.Read.val_main_v23 (F := Ideal) (A0 m c) (A1 m c) (A2 m c) (ix3 0 s k) = H m c s k :=
    Cert.FfnFwdRef.hh_eq _ _ _ s k
  blk_simp
  rw [after0_3]
  refine ((congrArg _ hy).trans (o_at m c t (y 0) (y 1))).trans (Eq.trans ?_ (congrArg _ hx).symm)
  simp only [← hr]
  pointwise [Cert.InFwdRefIdeal.Read.val_main_v26, Cert.InFwdRefIdeal.Read.val_main_v25]

theorem frame_kernel : Cert.quiescent_InFwd := fun m ρ _ => Cert.InFwd.Gen.frame m ρ

theorem frame_ideal : Cert.quiescent_InFwdIdeal := fun m ρ _ => Cert.InFwdIdeal.Gen.frame m ρ

theorem frame_ref : Cert.quiescent_InFwdRefIdeal := fun m ρ _ =>
  (θ_run Cert.InFwdRefIdeal.defs _ _).mono
    (fun r h => ⟨fun c => (h c).2, sem_eq_zero_of_no_sems (by decide) r.2⟩)
    (Cert.InFwdRefIdeal.Value.run (F := Ideal) m ρ)

theorem value : Cert.algebraic_InFwdIdeal_InFwdRefIdeal := by
  intro m ρ m' ρ' _ hagree
  refine ⟨_, Cert.InFwdIdeal.Value.run_blocks m ρ, ?_⟩
  refine (θ_run Cert.InFwdRefIdeal.defs _ _).mono (fun _ h c => ?_) (Cert.InFwdRefIdeal.Value.run m' ρ')
  obtain ⟨a0, a1, a2, a3⟩ := hagree c
  obtain ⟨q0, q⟩ := h c
  refine ⟨q0.trans (Eq.trans ?_ (o_arr m c)), q⟩
  rw [Cert.InFwdRefIdeal.Read.val_main_v26_eq, a0, a1, a2, a3]

end Cert.InFwd

end
-- ==== Proof.PoolSpec.lean ====
/- Hand-written, untrusted: the gradient of the pooling mixer, row by row, and the sums it is made of. -/
module

public import proofs.«01_k».proof.Proof.ModSpec
public import proofs.«01_k».proof.Proof.Finite

@[expose] public section

noncomputable section

namespace Cert.PoolSpec

open Idealize.ShloMosaic Cert.Lib Cert.LossSpec Cert.ModSpec
open scoped BigOperators

/-- Column `a` of group `g`. -/
def colG (g : Fin 4) (a : Fin 256) : Fin 1024 := ⟨g.val * 256 + a.val, by omega⟩

/-- The groups' windows. -/
def wd : Fin 4 → ℕ := ![2, 4, 8, 16]

/-- How many rows the window of width `w` holds at row `n`. -/
def cn (w n : ℕ) : EReal := (((min (n + 1) w : ℕ) : ℝ) : EReal)

/-- The gradient of the product with the group's weights. -/
def doR (gt scl : Fin 1024 → EReal) (ct : Fin 2048 → Fin 1024 → EReal) (s : Fin 2048) (k : Fin 1024) : EReal := gt k * ct s k * scl k

/-- The gradient of the pooled rows. -/
def dpR (gt scl : Fin 1024 → EReal) (ct : Fin 2048 → Fin 1024 → EReal) (w : Fin 4 → Fin 256 → Fin 256 → EReal) (s : Fin 2048) (g : Fin 4)
    (a : Fin 256) : EReal := ∑ b, doR gt scl ct s (colG g b) * w g a b

/-- The same over the window's size, nothing below the last row. -/
def ek (gt scl : Fin 1024 → EReal) (ct : Fin 2048 → Fin 1024 → EReal) (w : Fin 4 → Fin 256 → Fin 256 → EReal) (g : Fin 4) (a : Fin 256) (n : ℕ) : EReal :=
  if h : n < 2048 then Ideal.div (dpR gt scl ct w ⟨n, h⟩ g a) (cn (wd g) n) else 0

/-- The gradient of the modulated rows: what the windows below hold, less the row itself. -/
def dhG (gt scl : Fin 1024 → EReal) (ct : Fin 2048 → Fin 1024 → EReal) (w : Fin 4 → Fin 256 → Fin 256 → EReal) (s : Fin 2048) (g : Fin 4)
    (a : Fin 256) : EReal := ∑ j ∈ Finset.range (wd g), ek gt scl ct w g a (s.val + j) - dpR gt scl ct w s g a

def dhP (gt scl : Fin 1024 → EReal) (ct : Fin 2048 → Fin 1024 → EReal) (w : Fin 4 → Fin 256 → Fin 256 → EReal) (s : Fin 2048) (k : Fin 1024) : EReal :=
  dhG gt scl ct w s ⟨k.val / 256, by omega⟩ ⟨k.val % 256, Nat.mod_lt _ (by norm_num)⟩

theorem dhP_col (gt scl : Fin 1024 → EReal) (ct : Fin 2048 → Fin 1024 → EReal) (w : Fin 4 → Fin 256 → Fin 256 → EReal) (s : Fin 2048) (g : Fin 4)
    (a : Fin 256) : dhP gt scl ct w s (colG g a) = dhG gt scl ct w s g a := by
  unfold dhP colG
  congr 1
  · exact Fin.ext (by show (g.val * 256 + a.val) / 256 = g.val; omega)
  · exact Fin.ext (by show (g.val * 256 + a.val) % 256 = a.val; omega)

theorem col_surj (k : Fin 1024) : ∃ g a, k = colG g a :=
  ⟨⟨k.val / 256, by omega⟩, ⟨k.val % 256, Nat.mod_lt _ (by norm_num)⟩, Fin.ext (by show k.val = k.val / 256 * 256 + k.val % 256; omega)⟩

/-! A sum's differences fall together. -/

theorem telescope (f : ℕ → ℝ) (w s : ℕ) (hs : s < 2048) (hf : ∀ n, 2048 ≤ n → f n = 0) :
    ∑ q ∈ Finset.range 2048, (if s + q < 2048 then f (s + q) - f (s + q + w) else 0) = ∑ j ∈ Finset.range w, f (s + j) := by
  have h0 : ∑ q ∈ Finset.range 2048, (if s + q < 2048 then f (s + q) - f (s + q + w) else 0) = ∑ q ∈ Finset.range 2048, (f (s + q) - f (s + q + w)) :=
    Finset.sum_congr rfl fun q _ => by
      by_cases h : s + q < 2048
      · rw [if_pos h]
      · rw [if_neg h, hf _ (by omega), hf _ (by omega), sub_zero]
  have h1 := Finset.sum_range_add (fun i => f (s + i)) 2048 w
  have h2 := Finset.sum_range_add (fun i => f (s + i)) w 2048
  have h3 : ∑ x ∈ Finset.range w, f (s + (2048 + x)) = 0 := Finset.sum_eq_zero fun x _ => hf _ (by omega)
  have h4 : ∑ x ∈ Finset.range 2048, f (s + (w + x)) = ∑ x ∈ Finset.range 2048, f (s + x + w) :=
    Finset.sum_congr rfl fun x _ => congrArg f (by omega)
  rw [h0, Finset.sum_sub_distrib]
  rw [add_comm w] at h2
  rw [h1, h3, add_zero] at h2
  linarith

/-- The same among the extended reals, where every value is real. -/
theorem telescope' (f : ℕ → EReal) (w s : ℕ) (hs : s < 2048) (hr : ∀ n, IsR (f n)) (hf : ∀ n, 2048 ≤ n → f n = 0) :
    ∑ q ∈ Finset.range 2048, (if s + q < 2048 then f (s + q) + -f (s + q + w) else 0) = ∑ j ∈ Finset.range w, f (s + j) := by
  choose g hg using hr
  have e := telescope g w s hs (fun n hn => by have := hf n hn; rw [hg] at this; exact_mod_cast this)
  have c : ∀ (n : ℕ) (F : ℕ → ℝ), ((∑ i ∈ Finset.range n, F i : ℝ) : EReal) = ∑ i ∈ Finset.range n, (F i : EReal) := fun n F => by
    induction n with
    | zero => simp
    | succ n ih => rw [Finset.sum_range_succ, Finset.sum_range_succ, EReal.coe_add, ih]
  have e' := congrArg (fun r : ℝ => (r : EReal)) e
  simp only [c] at e'
  rw [show ∑ j ∈ Finset.range w, f (s + j) = ∑ j ∈ Finset.range w, ((g (s + j) : ℝ) : EReal) from Finset.sum_congr rfl fun _ _ => hg _, ← e']
  refine Finset.sum_congr rfl fun q _ => ?_
  by_cases h : s + q < 2048
  · rw [if_pos h, if_pos h, hg, hg, ← EReal.coe_neg, ← EReal.coe_add, sub_eq_add_neg]
  · rw [if_neg h, if_neg h]; rfl

/-! The sum over a window that ends below the last row. -/

theorem foldl_sum {ι : Type*} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The positions of the window. -/
def posE : Fin 2048 ≃ (⟨3, ![1, 2048, 1]⟩ : Shape).Idx where
  toFun q := ix3 0 q 0
  invFun i := i 1
  left_inv _ := rfl
  right_inv i := funext fun a => by
    match a with
    | ⟨0, _⟩ => exact Subsingleton.elim (α := Fin 1) _ _
    | ⟨1, _⟩ => rfl
    | ⟨2, _⟩ => exact Subsingleton.elim (α := Fin 1) _ _

theorem window_sum (h : (⟨3, ![1, 2048, 1024]⟩ : Shape).ReduceWindows ![1, 2048, 1] ![1, 1, 1] ![0, 0, 0] ![0, 2047, 0] ⟨3, ![1, 2048, 1024]⟩)
    (x : (⟨3, ![1, 2048, 1024]⟩ : Shape).Idx → EReal) (s : Fin 2048) (k : Fin 1024) :
    Ideal.hostReduceWindowAdd (s := ⟨3, ![1, 2048, 1024]⟩) (t := ⟨3, ![1, 2048, 1024]⟩) ![1, 2048, 1] ![1, 1, 1] ![0, 0, 0] ![0, 2047, 0] h x 0 (ix3 0 s k)
      = ∑ q ∈ Finset.range 2048, (if h : s.val + q < 2048 then x (ix3 0 ⟨s.val + q, h⟩ k) else 0) := by
  unfold Ideal.hostReduceWindowAdd Host.reduceWindow
  rw [foldl_sum, zero_add, ← Fin.sum_univ_def, Finset.sum_range]
  refine Fintype.sum_equiv ((⟨3, ![1, 2048, 1]⟩ : Shape).rowMajor.symm.trans posE.symm) _ _ fun n => ?_
  have h0 : ((⟨3, ![1, 2048, 1]⟩ : Shape).rowMajor.symm n 0).val = 0 := Nat.lt_one_iff.mp ((⟨3, ![1, 2048, 1]⟩ : Shape).rowMajor.symm n 0).isLt
  have h2 : ((⟨3, ![1, 2048, 1]⟩ : Shape).rowMajor.symm n 2).val = 0 := Nat.lt_one_iff.mp ((⟨3, ![1, 2048, 1]⟩ : Shape).rowMajor.symm n 2).isLt
  show _ = (if h : s.val + ((⟨3, ![1, 2048, 1]⟩ : Shape).rowMajor.symm n 1).val < 2048 then x (ix3 0 ⟨_, h⟩ k) else 0)
  by_cases hq : s.val + ((⟨3, ![1, 2048, 1]⟩ : Shape).rowMajor.symm n 1).val < 2048
  · rw [dif_pos hq, dif_pos (fun a => ?_)]
    · refine congrArg x (funext fun a => Fin.ext ?_)
      match a with
      | ⟨0, _⟩ => show 0 * 1 + ((⟨3, ![1, 2048, 1]⟩ : Shape).rowMajor.symm n 0).val - 0 = 0; omega
      | ⟨1, _⟩ => show s.val * 1 + ((⟨3, ![1, 2048, 1]⟩ : Shape).rowMajor.symm n 1).val - 0 = s.val + ((⟨3, ![1, 2048, 1]⟩ : Shape).rowMajor.symm n 1).val; omega
      | ⟨2, _⟩ => show k.val * 1 + ((⟨3, ![1, 2048, 1]⟩ : Shape).rowMajor.symm n 2).val - 0 = k.val; omega
    · match a with
      | ⟨0, _⟩ => exact ⟨Nat.zero_le _, by show 0 * 1 + ((⟨3, ![1, 2048, 1]⟩ : Shape).rowMajor.symm n 0).val - 0 < 1; omega⟩
      | ⟨1, _⟩ => exact ⟨Nat.zero_le _, by show s.val * 1 + ((⟨3, ![1, 2048, 1]⟩ : Shape).rowMajor.symm n 1).val - 0 < 2048; omega⟩
      | ⟨2, _⟩ => exact ⟨Nat.zero_le _, by show k.val * 1 + ((⟨3, ![1, 2048, 1]⟩ : Shape).rowMajor.symm n 2).val - 0 < 1024; omega⟩
  · rw [dif_neg hq, dif_neg (fun hh => hq ?_)]
    have := (hh 1).2
    change s.val * 1 + ((⟨3, ![1, 2048, 1]⟩ : Shape).rowMajor.symm n 1).val - 0 < 2048 at this
    omega

theorem div_cn (w n : ℕ) (hw : 0 < w) : Ideal.div 0 (cn w n) = 0 := by
  have h : (((min (n + 1) w : ℕ) : ℝ)) ≠ 0 := by
    have : 0 < min (n + 1) w := by omega
    exact_mod_cast this.ne'
  unfold cn
  rw [Ideal.div_coe h, zero_mul]

end Cert.PoolSpec

end
-- ==== Proof.PoolPay.lean ====
/- Hand-written, untrusted: the arithmetic of the pooling mixer's gradient kernel at a point. -/
module

public import proofs.«01_k».proof.Proof.Gen.PoolBwdIdeal.Frame
public import proofs.«01_k».proof.Proof.PoolSpec
public import Idealize.ShloMosaic.Lib.WordCmp

@[expose] public section

set_option maxRecDepth 16384

noncomputable section

namespace Cert.PoolPay

open Cert.PoolBwdIdeal Cert.PoolBwdIdeal.Gen Idealize.ShloMosaic Idealize.ShloMosaic.TcCoe Idealize.SL.Sem Cert.Lib Cert.LossSpec Cert.ModSpec Cert.PoolSpec
open scoped BigOperators

/-! The block's rows followed by the next block's first sixteen, each over its window's size. -/

theorem count_word : ∀ t : Fin 4, ∀ s : Fin 512, ∀ g : Fin 4,
    (IntOp.minsi (IntOp.addi (IntOp.addi (Scalar.muli (BitVec.ofNat 32 t.val) 512#32) (BitVec.ofNat 32 s.val)) 1#32) (BitVec.ofNat 32 (wd g))).toInt
      = (min (t.val * 512 + s.val + 1) (wd g) : ℕ) :=
  by decide +kernel

theorem count_word' : ∀ t : Fin 4, ∀ s : Fin 16, ∀ g : Fin 4,
    (IntOp.minsi (IntOp.addi (IntOp.addi (Scalar.muli (Scalar.addi (BitVec.ofNat 32 t.val) 1#32) 512#32) (BitVec.ofNat 32 s.val)) 1#32) (BitVec.ofNat 32 (wd g))).toInt
      = (min (t.val * 512 + 512 + s.val + 1) (wd g) : ℕ) :=
  by decide +kernel

/-- The window's size at each of the block's rows. -/
def cnt (a0 w : BitVec 32) : FVec Ideal S512x1 .f32 :=
  sitofp .f32 (minsi (addi (addi (broadcast S512x1 (Scalar.muli a0 512#32)) (iota .tc S512x1 32 [0] iota_S512x1_d0_w32)) (broadcast S512x1 1#32)) (broadcast S512x1 w))

/-- The window's size at each of the next block's rows. -/
def cnt' (a0 w : BitVec 32) : FVec Ideal S16x1 .f32 :=
  sitofp .f32 (minsi (addi (addi (broadcast S16x1 (Scalar.muli (Scalar.addi a0 1#32) 512#32)) (iota .tc S16x1 32 [0] iota_S16x1_d0_w32)) (broadcast S16x1 1#32)) (broadcast S16x1 w))

theorem cnt_at (t : Fin 4) (g : Fin 4) (s : Fin 512) : cnt (BitVec.ofNat 32 t.val) (BitVec.ofNat 32 (wd g)) (ix2 s 0) = cn (wd g) (t.val * 512 + s.val) := by
  have h := count_word t s g
  unfold cn
  have e : ((min (t.val * 512 + s.val + 1) (wd g) : ℕ) : ℝ) = (((min (t.val * 512 + s.val + 1) (wd g) : ℕ) : ℤ) : ℝ) := by norm_cast
  rw [e, ← h]
  pointwise [cnt]
  rfl

theorem cnt'_at (t : Fin 4) (g : Fin 4) (s : Fin 16) : cnt' (BitVec.ofNat 32 t.val) (BitVec.ofNat 32 (wd g)) (ix2 s 0) = cn (wd g) (t.val * 512 + 512 + s.val) := by
  have h := count_word' t s g
  unfold cn
  have e : ((min (t.val * 512 + 512 + s.val + 1) (wd g) : ℕ) : ℝ) = (((min (t.val * 512 + 512 + s.val + 1) (wd g) : ℕ) : ℤ) : ℝ) := by norm_cast
  rw [e, ← h]
  pointwise [cnt']
  rfl

/-- The rows over their windows' sizes, the block's and then the next block's. -/
def cat (a0 w : BitVec 32) (P : FVec Ideal S512x256 .f32) (B : FVec Ideal S16x256 .f32) : FVec Ideal S528x256 .f32 :=
  concatenate S528x256 0 [⟨S512x256, divf P (broadcastTo S512x256 (cnt a0 w) broadcasts_S512x1_S512x256)⟩,
    ⟨S16x256, divf B (broadcastTo S16x256 (cnt' a0 w) broadcasts_S16x1_S16x256)⟩] concatenates_S512x256_S16x256_S528x256_d0

theorem over_at (P : FVec Ideal S512x256 .f32) (C : FVec Ideal S512x1 .f32) (s : Fin 512) (a : Fin 256) :
    divf P (broadcastTo S512x256 C broadcasts_S512x1_S512x256) (ix2 s a) = Ideal.div (P (ix2 s a)) (C (ix2 s 0)) := by
  pointwise
theorem over'_at (P : FVec Ideal S16x256 .f32) (C : FVec Ideal S16x1 .f32) (s : Fin 16) (a : Fin 256) :
    divf P (broadcastTo S16x256 C broadcasts_S16x1_S16x256) (ix2 s a) = Ideal.div (P (ix2 s a)) (C (ix2 s 0)) := by
  pointwise

theorem join_at (P : FVec Ideal S512x256 .f32) (B : FVec Ideal S16x256 .f32) (r : Fin 528) (a : Fin 256) :
    concatenate S528x256 0 [⟨S512x256, P⟩, ⟨S16x256, B⟩] concatenates_S512x256_S16x256_S528x256_d0 (ix2 r a)
      = if h : r.val < 512 then P (ix2 ⟨r.val, h⟩ a) else B (ix2 ⟨r.val - 512, by omega⟩ a) := by
  pointwise

theorem cat_at (t : Fin 4) (g : Fin 4) (P : FVec Ideal S512x256 .f32) (B : FVec Ideal S16x256 .f32) (f : ℕ → EReal) (a : Fin 256)
    (hP : ∀ s : Fin 512, P (ix2 s a) = f (t.val * 512 + s.val)) (hB : ∀ s : Fin 16, B (ix2 s a) = f (t.val * 512 + 512 + s.val)) (r : Fin 528) :
    cat (BitVec.ofNat 32 t.val) (BitVec.ofNat 32 (wd g)) P B (ix2 r a)
      = Ideal.div (f (t.val * 512 + r.val)) (cn (wd g) (t.val * 512 + r.val)) := by
  rw [cat, join_at]
  by_cases h : r.val < 512
  · rw [dif_pos h, over_at, cnt_at, hP]
  · have e : t.val * 512 + 512 + (r.val - 512) = t.val * 512 + r.val := by omega
    rw [dif_neg h, over'_at, cnt'_at, hB]
    simp only [e]

/-! Adding the rows below, by doubling. -/

theorem rot_at (n : Nat) (hn : n < 528) (Q : FVec Ideal S528x256 .f32) (s : Fin 528) (k : Fin 256) :
    dynamicRotate 0 (BitVec.ofNat 32 n) none Q rotates_S528x256_d0 (ix2 s k) = Q (ix2 ⟨(s.val + 528 - n) % 528, Nat.mod_lt _ (by norm_num)⟩ k) := by
  have e : (BitVec.ofNat 32 n).toNat = n := by rw [BitVec.toNat_ofNat]; exact Nat.mod_eq_of_lt (by omega)
  have hn' : n % 528 = n := Nat.mod_eq_of_lt hn
  pointwise
  refine congrArg Q ?_
  blk_ext

def dbl (n : BitVec 32) (Q : FVec Ideal S528x256 .f32) : FVec Ideal S528x256 .f32 := addf Q (dynamicRotate 0 n none Q rotates_S528x256_d0)

theorem dbl_at (st : ℕ) (h0 : 0 < st) (h1 : st < 528) (Q : FVec Ideal S528x256 .f32) (f : ℕ → EReal) (a : Fin 256)
    (hQ : ∀ r : Fin 528, r.val + st ≤ 528 → Q (ix2 r a) = ∑ j ∈ Finset.range st, f (r.val + j)) (r : Fin 528) (hr : r.val + (st + st) ≤ 528) :
    dbl (BitVec.ofNat 32 (528 - st)) Q (ix2 r a) = ∑ j ∈ Finset.range (st + st), f (r.val + j) := by
  have e : (r.val + 528 - (528 - st)) % 528 = r.val + st := by
    rw [show r.val + 528 - (528 - st) = r.val + st by omega]
    exact Nat.mod_eq_of_lt (by omega)
  have ha : dbl (BitVec.ofNat 32 (528 - st)) Q (ix2 r a) = Q (ix2 r a) + dynamicRotate 0 (BitVec.ofNat 32 (528 - st)) none Q rotates_S528x256_d0 (ix2 r a) := rfl
  rw [ha, rot_at _ (by omega), hQ r (by omega), hQ _ (by show (r.val + 528 - (528 - st)) % 528 + st ≤ 528; omega), Finset.sum_range_add]
  refine congrArg _ (Finset.sum_congr rfl fun j _ => congrArg f ?_)
  show (r.val + 528 - (528 - st)) % 528 + j = _
  omega

/-- The sums over the rows below less the row. -/
def less (Q : FVec Ideal S528x256 .f32) (P : FVec Ideal S512x256 .f32) : FVec Ideal S512x256 .f32 :=
  subf (extractStridedSlice S512x256 ![0, 0] Q slices_S528x256_o0_0_S512x256) P

theorem less_at (Q : FVec Ideal S528x256 .f32) (P : FVec Ideal S512x256 .f32) (s : Fin 512) (a : Fin 256) :
    less Q P (ix2 s a) = Q (ix2 ⟨s.val, by omega⟩ a) - P (ix2 s a) := by
  unfold less
  pointwise

section groups

variable (t : Fin 4) (P : FVec Ideal S512x256 .f32) (B : FVec Ideal S16x256 .f32) (f : ℕ → EReal) (a : Fin 256)
  (hP : ∀ s : Fin 512, P (ix2 s a) = f (t.val * 512 + s.val)) (hB : ∀ s : Fin 16, B (ix2 s a) = f (t.val * 512 + 512 + s.val))

/-- A row over its window's size. -/
def over (g : Fin 4) (n : ℕ) : EReal := Ideal.div (f n) (cn (wd g) n)

include hP hB in
theorem cat_one (g : Fin 4) (r : Fin 528) (_ : r.val + 1 ≤ 528) :
    cat (BitVec.ofNat 32 t.val) (BitVec.ofNat 32 (wd g)) P B (ix2 r a) = ∑ j ∈ Finset.range 1, over f g (t.val * 512 + (r.val + j)) := by
  rw [cat_at t g P B f a hP hB, Finset.sum_range_one]
  rfl

include hP hB in
theorem sums2 (g : Fin 4) (r : Fin 528) (hr : r.val + 2 ≤ 528) : dbl 527#32 (cat (BitVec.ofNat 32 t.val) (BitVec.ofNat 32 (wd g)) P B) (ix2 r a)
      = ∑ j ∈ Finset.range 2, over f g (t.val * 512 + (r.val + j)) :=
  dbl_at 1 (by norm_num) (by norm_num) _ (fun n => over f g (t.val * 512 + n)) a (cat_one t P B f a hP hB g) r hr

include hP hB in
theorem sums4 (g : Fin 4) (r : Fin 528) (hr : r.val + 4 ≤ 528) : dbl 526#32 (dbl 527#32 (cat (BitVec.ofNat 32 t.val) (BitVec.ofNat 32 (wd g)) P B)) (ix2 r a)
      = ∑ j ∈ Finset.range 4, over f g (t.val * 512 + (r.val + j)) :=
  dbl_at 2 (by norm_num) (by norm_num) _ (fun n => over f g (t.val * 512 + n)) a (sums2 t P B f a hP hB g) r hr

include hP hB in
theorem sums8 (g : Fin 4) (r : Fin 528) (hr : r.val + 8 ≤ 528) :
    dbl 524#32 (dbl 526#32 (dbl 527#32 (cat (BitVec.ofNat 32 t.val) (BitVec.ofNat 32 (wd g)) P B))) (ix2 r a)
      = ∑ j ∈ Finset.range 8, over f g (t.val * 512 + (r.val + j)) :=
  dbl_at 4 (by norm_num) (by norm_num) _ (fun n => over f g (t.val * 512 + n)) a (sums4 t P B f a hP hB g) r hr

include hP hB in
theorem sums16 (g : Fin 4) (r : Fin 528) (hr : r.val + 16 ≤ 528) :
    dbl 520#32 (dbl 524#32 (dbl 526#32 (dbl 527#32 (cat (BitVec.ofNat 32 t.val) (BitVec.ofNat 32 (wd g)) P B)))) (ix2 r a)
      = ∑ j ∈ Finset.range 16, over f g (t.val * 512 + (r.val + j)) :=
  dbl_at 8 (by norm_num) (by norm_num) _ (fun n => over f g (t.val * 512 + n)) a (sums8 t P B f a hP hB g) r hr

end groups

/-! The products. -/

theorem pay_do (gt scl : Vec Ideal S1x1024 .f32) (ct : Vec Ideal S512x1024 .f32) (s : Fin 512) (k : Fin 1024) :
    k0_pay12 (F := Ideal) gt scl ct (ix2 s k) = gt (ix2 0 k) * ct (ix2 s k) * scl (ix2 0 k) := by
  pointwise [k0_pay5, k0_pay6, k0_pay7, k0_pay10, k0_pay12]

theorem pay_do' (gt scl : Vec Ideal S1x1024 .f32) (b : BitVec 1) (ct : Vec Ideal S16x1024 .f32) (s : Fin 16) (k : Fin 1024) :
    k0_pay13 (F := Ideal) (k0_pay5 gt) (k0_pay6 scl) b ct (ix2 s k) = if b = 1#1 then 0 else gt (ix2 0 k) * ct (ix2 s k) * scl (ix2 0 k) := by
  unfold k0_pay13
  by_cases h : b = 1#1
  · rw [if_pos h, h]
    pointwise [k0_pay5, k0_pay6]
  · rw [if_neg h, (by decide : ∀ b : BitVec 1, b ≠ 1#1 → b = 0#1) b h]
    pointwise [k0_pay5, k0_pay6]

theorem mm_p (D : FVec Ideal S512x1024 .bf16) (W : FVec Ideal S1x256x256 .bf16) (o : ℕ) (ho : o + 256 ≤ 1024) (h h') (s : Fin 512) (a : Fin 256) :
    matmul dot_S512x256_S256x256_S512x256_1_1_0_0_n_n none (extractStridedSlice S512x256 ![0, o] D h)
      (shapeCast S256x256 W h') (constant (F := Ideal) S512x256 .f32 0#32) (ix2 s a) = ∑ b : Fin 256, D (ix2 s ⟨o + b.val, by omega⟩) * W (ix3 0 a b) := by
  pointwise

theorem mm_p' (D : FVec Ideal S16x1024 .bf16) (W : FVec Ideal S1x256x256 .bf16) (o : ℕ) (ho : o + 256 ≤ 1024) (h h') (s : Fin 16) (a : Fin 256) :
    matmul dot_S16x256_S256x256_S16x256_1_1_0_0_n_n none (extractStridedSlice S16x256 ![0, o] D h)
      (shapeCast S256x256 W h') (constant (F := Ideal) S16x256 .f32 0#32) (ix2 s a) = ∑ b : Fin 256, D (ix2 s ⟨o + b.val, by omega⟩) * W (ix3 0 a b) := by
  pointwise

theorem mm_w (D : FVec Ideal S512x1024 .bf16) (A : FVec Ideal S1x256x256 .f32) (P : FVec Ideal S512x256 .bf16) (o : ℕ) (ho : o + 256 ≤ 1024) (h h1 h2 h3) (a b : Fin 256) :
    shapeCast S1x256x256 (addf (shapeCast S256x256 A h1) (matmul dot_S512x256_S512x256_S256x256_0_0_1_1_n_n none (shapeCast S512x256 P h2)
      (extractStridedSlice S512x256 ![0, o] D h) (constant (F := Ideal) S256x256 .f32 0#32))) h3 (ix3 0 a b)
      = A (ix3 0 a b) + ∑ s : Fin 512, P (ix2 s a) * D (ix2 s ⟨o + b.val, by omega⟩) := by
  pointwise

/-! The vectors' gradients, and that of the rows. -/

theorem pay_gate (scl : Vec Ideal S1x1024 .f32) (ct : Vec Ideal S512x1024 .f32) (o : Vec Ideal S512x1024 .bf16) (r : Vec Ideal S1x1024 .f32) (k : Fin 1024) :
    k0_pay9 (F := Ideal) scl ct o r (ix2 0 k) = r (ix2 0 k) + ∑ s : Fin 512, ct (ix2 s k) * (o (ix2 s k) * scl (ix2 0 k)) := by
  pointwise [k0_pay6, k0_pay7, k0_pay8, k0_pay9]

theorem pay_sc (gt : Vec Ideal S1x1024 .f32) (ct : Vec Ideal S512x1024 .f32) (o : Vec Ideal S512x1024 .bf16) (r : Vec Ideal S1x1024 .f32) (k : Fin 1024) :
    k0_pay11 (F := Ideal) gt ct o r (ix2 0 k) = r (ix2 0 k) + ∑ s : Fin 512, gt (ix2 0 k) * ct (ix2 s k) * o (ix2 s k) := by
  pointwise [k0_pay5, k0_pay7, k0_pay8, k0_pay10, k0_pay11]

theorem pay_dx (x a ct : Vec Ideal S512x1024 .f32) (g sc : Vec Ideal S1x1024 .f32) (s : Fin 512) (k : Fin 1024) :
    k0_pay45 (F := Ideal) (k0_pay7 ct) (k0_pay37 a) (k0_pay38 g) (k0_pay39 sc) (k0_pay40 x) (k0_pay41 x) (ix2 s k)
      = ct (ix2 s k) + drow (fun k => x (ix2 s k)) (fun k => g (ix2 0 k)) (fun k => sc (ix2 0 k)) (fun k => a (ix2 s k)) k := by
  simp only [drow, gm, xhat, rv]
  pointwise [k0_pay7, k0_pay36, k0_pay37, k0_pay38, k0_pay39, k0_pay40, k0_pay41, k0_pay45]

theorem pay_dgain (x a : Vec Ideal S512x1024 .f32) (sc r : Vec Ideal S1x1024 .f32) (k : Fin 1024) :
    k0_pay42 (F := Ideal) x a sc r (ix2 0 k) = r (ix2 0 k)
      + ∑ s : Fin 512, dgain (fun k => x (ix2 s k)) (fun k => sc (ix2 0 k)) (fun k => a (ix2 s k)) k := by
  simp only [dgain, xhat, rv]
  pointwise [k0_pay36, k0_pay37, k0_pay39, k0_pay40, k0_pay41, k0_pay42]

theorem pay_dshift (a : Vec Ideal S512x1024 .f32) (r : Vec Ideal S1x1024 .f32) (k : Fin 1024) :
    k0_pay43 (F := Ideal) (k0_pay37 a) r (ix2 0 k) = r (ix2 0 k) + ∑ s : Fin 512, a (ix2 s k) := by
  pointwise [k0_pay37, k0_pay43]

theorem pay_dscale (x a : Vec Ideal S512x1024 .f32) (g r : Vec Ideal S1x1024 .f32) (k : Fin 1024) :
    k0_pay44 (F := Ideal) (k0_pay37 a) (k0_pay38 g) (k0_pay41 x) r (ix2 0 k) = r (ix2 0 k)
      + ∑ s : Fin 512, dscale (fun k => x (ix2 s k)) (fun k => g (ix2 0 k)) (fun k => a (ix2 s k)) k := by
  simp only [dscale, xhat, rv]
  pointwise [k0_pay36, k0_pay37, k0_pay38, k0_pay40, k0_pay41, k0_pay44]

end Cert.PoolPay

end
-- ==== Proof.PoolBwdKernel.lean ====
/- Hand-written, untrusted: the operands of the pooling mixer's gradient kernel, block by block, and what it stores into the gradient of the rows. -/
module

public import proofs.«01_k».proof.Proof.PoolPay
public import proofs.«01_k».proof.Proof.MixKernel
public import proofs.«01_k».proof.Proof.Gen.PoolBwdRefIdeal.Read

@[expose] public section

set_option maxRecDepth 16384

noncomputable section

namespace Cert.PoolBwdKernel

open Cert.PoolBwdIdeal Cert.PoolBwdIdeal.Gen Idealize.ShloMosaic Idealize.ShloMosaic.TcCoe Idealize.SL.Sem Cert.Lib Cert.LossSpec Cert.ModSpec Cert.PoolSpec Cert.PoolPay
open Cert.MixKernel (peel two ld2_at emb2z)
open Idealize.ShloMosaic.Pipeline (Dat)
open scoped BigOperators

variable (m : (ℓ : Loc nD τ sig) → Buf (Elt Ideal) ℓ)

/-- The rows of the arguments. -/
def X (c : Dev nD) (s : Fin 2048) (k : Fin 1024) : EReal := m ((c : Thread nD τ).loc main_arg0) (ix3 0 s k)
def G (c : Dev nD) (k : Fin 1024) : EReal := m ((c : Thread nD τ).loc main_arg1) (ix1 k)
def Mo (c : Dev nD) (k : Fin 3072) : EReal := m ((c : Thread nD τ).loc main_arg2) (ix2 0 k)
def W (c : Dev nD) (g : Fin 4) (a b : Fin 256) : EReal := m ((c : Thread nD τ).loc main_arg3) (ix3 g a b)
def SCL (c : Dev nD) (k : Fin 1024) : EReal := m ((c : Thread nD τ).loc main_arg4) (ix1 k)
def CX (c : Dev nD) (s : Fin 2048) (k : Fin 1024) : EReal := m ((c : Thread nD τ).loc main_arg5) (ix3 0 s k)

def SH (c : Dev nD) (k : Fin 1024) : EReal := Mo m c ⟨k.val, by omega⟩
def SC (c : Dev nD) (k : Fin 1024) : EReal := Mo m c ⟨1024 + k.val, by omega⟩
def GT (c : Dev nD) (k : Fin 1024) : EReal := Mo m c ⟨2048 + k.val, by omega⟩

/-- The saved values: the pooled rows, and their product with the groups' weights. -/
def PA (c : Dev nD) : (⟨S1x2048x1024, .f32⟩ : BufTy).Contents (Elt Ideal) := Cert.PoolBwdRefIdeal.Read.val_main_v106 (F := Ideal)
  (m ((c : Thread nD τ).loc main_arg0)) (m ((c : Thread nD τ).loc main_arg1)) (m ((c : Thread nD τ).loc main_arg2))
def OA (c : Dev nD) : (⟨S1x2048x1024, .f32⟩ : BufTy).Contents (Elt Ideal) := Cert.PoolBwdRefIdeal.Read.val_main_v107 (F := Ideal)
  (m ((c : Thread nD τ).loc main_arg0)) (m ((c : Thread nD τ).loc main_arg1)) (m ((c : Thread nD τ).loc main_arg2)) (m ((c : Thread nD τ).loc main_arg3))
def PS (c : Dev nD) (s : Fin 2048) (k : Fin 1024) : EReal := PA m c (ix3 0 s k)
def OS (c : Dev nD) (s : Fin 2048) (k : Fin 1024) : EReal := OA m c (ix3 0 s k)

theorem idx : ∀ t : Fin cfg0.N, win0_0.index t = ![t.val, 0] ∧ win0_1.index t = ![min ((t.val + 1) * 32) 127, 0]
    ∧ win0_2.index t = ![t.val, 0] ∧ win0_3.index t = ![0, 0] ∧ win0_4.index t = ![t.val, 0]
    ∧ win0_5.index t = ![t.val, 0] ∧ win0_6.index t = ![0, 0, 0] ∧ win0_7.index t = ![0, 0]
    ∧ win0_8.index t = ![t.val, 0] ∧ win0_9.index t = ![0, 0, 0] ∧ win0_10.index t = ![0, 0] ∧ win0_11.index t = ![0, 0] :=
  (by decide +kernel : ∀ t : Fin grid0.N, _)

theorem coord : ∀ t : Fin cfg0.N, ((grid0.coords t) 0).val = t.val := (by decide +kernel : ∀ t : Fin grid0.N, _)

theorem lt4 (t : Fin cfg0.N) : t.val < 4 := lt_of_lt_of_eq t.isLt N_0

/-- The row of the arrays that row `s` of step `t`'s blocks is. -/
def row (t : Fin cfg0.N) (s : Fin 512) : Fin 2048 := ⟨t.val * 512 + s.val, by have := lt4 t; omega⟩

/-! The kernel's operands that the host prepares. -/

/-- Operations one after the other. -/
theorem after_append (l₁ l₂ : List (HloOp τ sig (Elt Ideal))) (F : Valuation τ sig (Elt Ideal)) :
    StableHlo.after (l₁ ++ l₂) F = StableHlo.after l₂ (StableHlo.after l₁ F) := by
  induction l₁ generalizing F with
  | nil => rfl
  | cons o l ih => exact ih _

/-- The host's operations up to the pooled groups, and those after. -/
def pre (c : Dev nD) : Valuation τ sig (Elt Ideal) :=
  StableHlo.after (hostOps0 ++ (hostOps0_1 ++ hostOps0_2.take 85)) (fun b => m (c, b))
def late : List (HloOp τ sig (Elt Ideal)) := hostOps0_2.drop 85 ++ (hostOps0_3 ++ (hostOps0_4 ++ (hostOps0_5 ++ hostOps0_6)))

theorem V_cut (c : Dev nD) (b : Ref sig .tc) : V m c b = StableHlo.after late (pre m c) b := by
  unfold V pre late
  rw [← after_append]
  refine congrArg (fun l => StableHlo.after l _ _) ?_
  rw [List.append_assoc, List.append_assoc, ← List.append_assoc (hostOps0_2.take 85), List.take_append_drop]
  rw [List.flatten_cons, List.flatten_cons, List.flatten_cons, List.flatten_cons, List.flatten_cons, List.flatten_cons, List.flatten_cons,
    List.flatten_nil, List.append_nil]

theorem late_v102 (F : Valuation τ sig (Elt Ideal)) (a0 a1 a2 a3 : FVec Ideal S1x2048x256 .f32)
    (h0 : F main_v41 = a0) (h1 : F main_v59 = a1) (h2 : F main_v77 = a2) (h3 : F main_v95 = a3) :
    StableHlo.after late F main_v102 = truncf (F := Ideal) .bf16 (shapeCast S2048x1024 (concatenate S1x2048x1024 2 [⟨S1x2048x256, a0⟩, ⟨S1x2048x256, a1⟩, ⟨S1x2048x256, a2⟩, ⟨S1x2048x256, a3⟩]
      concatenates_S1x2048x256_S1x2048x256_S1x2048x256_S1x2048x256_S1x2048x1024_d2) shapeCasts_S1x2048x1024_S2048x1024) bitsLt_bf16_f32 := by
  subst h0 h1 h2 h3
  unfold late
  simp only [hostOps0_2, hostOps0_3, hostOps0_4, hostOps0_5, hostOps0_6, List.drop_succ_cons, List.drop_zero,
    List.cons_append, List.nil_append, List.append_nil]
  after_results
  rfl

theorem late_v104 (F : Valuation τ sig (Elt Ideal)) (a0 a1 a2 a3 : FVec Ideal S1x2048x256 .f32)
    (h0 : F main_v44 = a0) (h1 : F main_v62 = a1) (h2 : F main_v80 = a2) (h3 : F main_v98 = a3) :
    StableHlo.after late F main_v104 = truncf (F := Ideal) .bf16 (shapeCast S2048x1024 (concatenate S1x2048x1024 2 [⟨S1x2048x256, a0⟩, ⟨S1x2048x256, a1⟩, ⟨S1x2048x256, a2⟩, ⟨S1x2048x256, a3⟩]
      concatenates_S1x2048x256_S1x2048x256_S1x2048x256_S1x2048x256_S1x2048x1024_d2) shapeCasts_S1x2048x1024_S2048x1024) bitsLt_bf16_f32 := by
  subst h0 h1 h2 h3
  unfold late
  simp only [hostOps0_2, hostOps0_3, hostOps0_4, hostOps0_5, hostOps0_6, List.drop_succ_cons, List.drop_zero,
    List.cons_append, List.nil_append, List.append_nil]
  after_results
  rfl

theorem pre_v41 (c : Dev nD) : pre m c main_v41 = Cert.PoolBwdRefIdeal.Read.val_main_v45 (F := Ideal) (m ((c : Thread nD τ).loc main_arg0)) (m ((c : Thread nD τ).loc main_arg1)) (m ((c : Thread nD τ).loc main_arg2)) := by
  unfold pre
  simp only [hostOps0, hostOps0_1, hostOps0_2, List.take_succ_cons, List.take_zero, List.cons_append, List.nil_append, List.append_nil]
  after_results
  rfl

theorem pre_v59 (c : Dev nD) : pre m c main_v59 = Cert.PoolBwdRefIdeal.Read.val_main_v64 (F := Ideal) (m ((c : Thread nD τ).loc main_arg0)) (m ((c : Thread nD τ).loc main_arg1)) (m ((c : Thread nD τ).loc main_arg2)) := by
  unfold pre
  simp only [hostOps0, hostOps0_1, hostOps0_2, List.take_succ_cons, List.take_zero, List.cons_append, List.nil_append, List.append_nil]
  after_results
  rfl

theorem pre_v77 (c : Dev nD) : pre m c main_v77 = Cert.PoolBwdRefIdeal.Read.val_main_v83 (F := Ideal) (m ((c : Thread nD τ).loc main_arg0)) (m ((c : Thread nD τ).loc main_arg1)) (m ((c : Thread nD τ).loc main_arg2)) := by
  unfold pre
  simp only [hostOps0, hostOps0_1, hostOps0_2, List.take_succ_cons, List.take_zero, List.cons_append, List.nil_append, List.append_nil]
  after_results
  rfl

theorem pre_v95 (c : Dev nD) : pre m c main_v95 = Cert.PoolBwdRefIdeal.Read.val_main_v102 (F := Ideal) (m ((c : Thread nD τ).loc main_arg0)) (m ((c : Thread nD τ).loc main_arg1)) (m ((c : Thread nD τ).loc main_arg2)) := by
  unfold pre
  simp only [hostOps0, hostOps0_1, hostOps0_2, List.take_succ_cons, List.take_zero, List.cons_append, List.nil_append, List.append_nil]
  after_results
  rfl

theorem pre_v44 (c : Dev nD) : pre m c main_v44 = Cert.PoolBwdRefIdeal.Read.val_main_v48 (F := Ideal) (m ((c : Thread nD τ).loc main_arg0)) (m ((c : Thread nD τ).loc main_arg1)) (m ((c : Thread nD τ).loc main_arg2)) (m ((c : Thread nD τ).loc main_arg3)) := by
  unfold pre
  simp only [hostOps0, hostOps0_1, hostOps0_2, List.take_succ_cons, List.take_zero, List.cons_append, List.nil_append, List.append_nil]
  after_results
  rfl

theorem pre_v62 (c : Dev nD) : pre m c main_v62 = Cert.PoolBwdRefIdeal.Read.val_main_v67 (F := Ideal) (m ((c : Thread nD τ).loc main_arg0)) (m ((c : Thread nD τ).loc main_arg1)) (m ((c : Thread nD τ).loc main_arg2)) (m ((c : Thread nD τ).loc main_arg3)) := by
  unfold pre
  simp only [hostOps0, hostOps0_1, hostOps0_2, List.take_succ_cons, List.take_zero, List.cons_append, List.nil_append, List.append_nil]
  after_results
  rfl

theorem pre_v80 (c : Dev nD) : pre m c main_v80 = Cert.PoolBwdRefIdeal.Read.val_main_v86 (F := Ideal) (m ((c : Thread nD τ).loc main_arg0)) (m ((c : Thread nD τ).loc main_arg1)) (m ((c : Thread nD τ).loc main_arg2)) (m ((c : Thread nD τ).loc main_arg3)) := by
  unfold pre
  simp only [hostOps0, hostOps0_1, hostOps0_2, List.take_succ_cons, List.take_zero, List.cons_append, List.nil_append, List.append_nil]
  after_results
  rfl

theorem pre_v98 (c : Dev nD) : pre m c main_v98 = Cert.PoolBwdRefIdeal.Read.val_main_v105 (F := Ideal) (m ((c : Thread nD τ).loc main_arg0)) (m ((c : Thread nD τ).loc main_arg1)) (m ((c : Thread nD τ).loc main_arg2)) (m ((c : Thread nD τ).loc main_arg3)) := by
  unfold pre
  simp only [hostOps0, hostOps0_1, hostOps0_2, List.take_succ_cons, List.take_zero, List.cons_append, List.nil_append, List.append_nil]
  after_results
  rfl

theorem V_v102 (c : Dev nD) : V m c main_v102 = truncf (F := Ideal) .bf16 (shapeCast S2048x1024 (PA m c) shapeCasts_S1x2048x1024_S2048x1024) bitsLt_bf16_f32 :=
  (V_cut m c _).trans (late_v102 (pre m c) _ _ _ _ (pre_v41 m c) (pre_v59 m c) (pre_v77 m c) (pre_v95 m c))

theorem V_v104 (c : Dev nD) : V m c main_v104 = truncf (F := Ideal) .bf16 (shapeCast S2048x1024 (OA m c) shapeCasts_S1x2048x1024_S2048x1024) bitsLt_bf16_f32 :=
  (V_cut m c _).trans (late_v104 (pre m c) _ _ _ _ (pre_v44 m c) (pre_v62 m c) (pre_v80 m c) (pre_v98 m c))

theorem V_v105 (c : Dev nD) : V m c main_v105 = shapeCast S2048x1024 (m ((c : Thread nD τ).loc main_arg5)) shapeCasts_S1x2048x1024_S2048x1024 := by
  unfold V
  rfl

theorem V_v106 (c : Dev nD) : V m c main_v106 = shapeCast S2048x1024 (m ((c : Thread nD τ).loc main_arg0)) shapeCasts_S1x2048x1024_S2048x1024 := by
  unfold V
  rfl

theorem V_v112 (c : Dev nD) : V m c main_v112 = addf (F := Ideal)
    (pad S8x1024 ![0, 0] ![7, 0] ![0, 0] (broadcastInDim S1x1024 ![1] bcast_S1024_S1x1024_1 (m ((c : Thread nD τ).loc main_arg1))) (sitofp (F := Ideal) .f32 (constantI S_ 32 0#32)) pads_S1x1024_S8x1024_070_000 h_S_)
    (pad S8x1024 ![1, 0] ![4, 0] ![0, 0] (shapeCast S3x1024 (shapeCast S3072 (m ((c : Thread nD τ).loc main_arg2)) shapeCasts_S1x3072_S3072) shapeCasts_S3072_S3x1024) (sitofp (F := Ideal) .f32 (constantI S_ 32 0#32)) pads_S3x1024_S8x1024_140_000 h_S_) := by
  unfold V
  after_results
  try rfl

theorem V_v113 (c : Dev nD) : V m c main_v113 = truncf (F := Ideal) .bf16 (m ((c : Thread nD τ).loc main_arg3)) bitsLt_bf16_f32 := by
  unfold V
  rfl

theorem V_v114 (c : Dev nD) : V m c main_v114 = shapeCast S1x1024 (m ((c : Thread nD τ).loc main_arg4)) shapeCasts_S1024_S1x1024 := by
  unfold V
  rfl

/-! Where each window's block lies, and what it holds. -/

theorem emb_ct (t : Fin cfg0.N) (s : Fin 512) (k : Fin 1024) :
    ((View.whole main_v105).slice (win0_0.rect t)).emb (ix2 s k) = ix2 (row t s) k := by blk_ext [idx t, row]
theorem emb_ctb (t : Fin cfg0.N) (h : t.val < 3) (s : Fin 16) (k : Fin 1024) :
    ((View.whole main_v105).slice (win0_1.rect t)).emb (ix2 s k) = ix2 ⟨t.val * 512 + 512 + s.val, by omega⟩ k := by
  blk_ext [idx t]
theorem emb_x (t : Fin cfg0.N) (s : Fin 512) (k : Fin 1024) :
    ((View.whole main_v106).slice (win0_2.rect t)).emb (ix2 s k) = ix2 (row t s) k := by blk_ext [idx t, row]
theorem emb_v (t : Fin cfg0.N) (a : Fin 8) (k : Fin 1024) :
    ((View.whole main_v112).slice (win0_3.rect t)).emb (ix2 a k) = ix2 a k := by blk_ext [idx t]
theorem emb_p (t : Fin cfg0.N) (s : Fin 512) (k : Fin 1024) :
    ((View.whole main_v102).slice (win0_4.rect t)).emb (ix2 s k) = ix2 (row t s) k := by blk_ext [idx t, row]
theorem emb_o (t : Fin cfg0.N) (s : Fin 512) (k : Fin 1024) :
    ((View.whole main_v104).slice (win0_5.rect t)).emb (ix2 s k) = ix2 (row t s) k := by blk_ext [idx t, row]
theorem emb_w (t : Fin cfg0.N) (g : Fin 4) (a b : Fin 256) :
    ((View.whole main_v113).slice (win0_6.rect t)).emb (ix3 g a b) = ix3 g a b := by blk_ext [idx t]
theorem emb_s (t : Fin cfg0.N) (k : Fin 1024) :
    ((View.whole main_v114).slice (win0_7.rect t)).emb (ix2 0 k) = ix2 0 k := by blk_ext [idx t]

theorem flat (f : (⟨S1x2048x1024, .f32⟩ : BufTy).Contents (Elt Ideal)) (s : Fin 2048) (k : Fin 1024) :
    shapeCast S2048x1024 f shapeCasts_S1x2048x1024_S2048x1024 (ix2 s k) = f (ix3 0 s k) := by
  pointwise
theorem flat_b (f : (⟨S1x2048x1024, .f32⟩ : BufTy).Contents (Elt Ideal)) (s : Fin 2048) (k : Fin 1024) :
    truncf (F := Ideal) .bf16 (shapeCast S2048x1024 f shapeCasts_S1x2048x1024_S2048x1024) bitsLt_bf16_f32 (ix2 s k) = f (ix3 0 s k) := by
  pointwise
theorem flat_s (f : (⟨S1024, .f32⟩ : BufTy).Contents (Elt Ideal)) (k : Fin 1024) :
    shapeCast S1x1024 f shapeCasts_S1024_S1x1024 (ix2 0 k) = f (ix1 k) := by
  pointwise

theorem blk_ct (c : Dev nD) (t : Fin cfg0.N) (s : Fin 512) (k : Fin 1024) : iblk m c 0 t (ix2 s k) = CX m c (row t s) k := by
  change V m c main_v105 (((View.whole main_v105).slice (win0_0.rect t)).emb (ix2 s k)) = _
  rw [V_v105, emb_ct, flat]; rfl
theorem blk_ctb (c : Dev nD) (t : Fin cfg0.N) (h : t.val < 3) (s : Fin 16) (k : Fin 1024) :
    iblk m c 1 t (ix2 s k) = CX m c ⟨t.val * 512 + 512 + s.val, by omega⟩ k := by
  change V m c main_v105 (((View.whole main_v105).slice (win0_1.rect t)).emb (ix2 s k)) = _
  rw [V_v105, emb_ctb t h, flat]; rfl
theorem blk_x (c : Dev nD) (t : Fin cfg0.N) (s : Fin 512) (k : Fin 1024) : iblk m c 2 t (ix2 s k) = X m c (row t s) k := by
  change V m c main_v106 (((View.whole main_v106).slice (win0_2.rect t)).emb (ix2 s k)) = _
  rw [V_v106, emb_x, flat]; rfl
theorem blk_v (c : Dev nD) (t : Fin cfg0.N) (a : Fin 8) (k : Fin 1024) :
    iblk m c 3 t (ix2 a k) = (if a.val = 0 then G m c k else 0)
      + (if h : 1 ≤ a.val ∧ a.val - 1 < 3 then Mo m c ⟨(a.val - 1) * 1024 + k.val, by omega⟩ else 0) := by
  change V m c main_v112 (((View.whole main_v112).slice (win0_3.rect t)).emb (ix2 a k)) = _
  rw [V_v112, emb_v, addf_apply, pad_top, pad_mod]; rfl
theorem blk_p (c : Dev nD) (t : Fin cfg0.N) (s : Fin 512) (k : Fin 1024) : iblk m c 4 t (ix2 s k) = PS m c (row t s) k := by
  change V m c main_v102 (((View.whole main_v102).slice (win0_4.rect t)).emb (ix2 s k)) = _
  rw [V_v102, emb_p, flat_b]; rfl
theorem blk_o (c : Dev nD) (t : Fin cfg0.N) (s : Fin 512) (k : Fin 1024) : iblk m c 5 t (ix2 s k) = OS m c (row t s) k := by
  change V m c main_v104 (((View.whole main_v104).slice (win0_5.rect t)).emb (ix2 s k)) = _
  rw [V_v104, emb_o, flat_b]; rfl
theorem blk_w (c : Dev nD) (t : Fin cfg0.N) (g : Fin 4) (a b : Fin 256) : iblk m c 6 t (ix3 g a b) = W m c g a b := by
  change V m c main_v113 (((View.whole main_v113).slice (win0_6.rect t)).emb (ix3 g a b)) = _
  rw [V_v113, emb_w]; rfl
theorem blk_s (c : Dev nD) (t : Fin cfg0.N) (k : Fin 1024) : iblk m c 7 t (ix2 0 k) = SCL m c k := by
  change V m c main_v114 (((View.whole main_v114).slice (win0_7.rect t)).emb (ix2 0 k)) = _
  rw [V_v114, emb_s, flat_s]; rfl

/-! The parts of the blocks that the kernel loads. -/

abbrev LV (c : Dev nD) (t : Fin cfg0.N) (r : ℕ) (h : ∀ a, (![r, 0] : Fin 2 → ℕ) a + (![1, 1024] : Fin 2 → ℕ) a ≤ S8x1024.size a) :
    Vec Ideal S1x1024 .f32 := View.ld (iblk m c 3 t) (Rect.unit ![r, 0] ![1, 1024] h)
abbrev LW (c : Dev nD) (t : Fin cfg0.N) (g : ℕ) (h : ∀ a, (![g, 0, 0] : Fin 3 → ℕ) a + (![1, 256, 256] : Fin 3 → ℕ) a ≤ S4x256x256.size a) :
    FVec Ideal S1x256x256 .bf16 := View.ld (iblk m c 6 t) (Rect.unit ![g, 0, 0] ![1, 256, 256] h)
abbrev LP (c : Dev nD) (t : Fin cfg0.N) (o : ℕ) (h : ∀ a, (![0, o] : Fin 2 → ℕ) a + (![512, 256] : Fin 2 → ℕ) a ≤ S512x1024.size a) :
    FVec Ideal S512x256 .bf16 := View.ld (iblk m c 4 t) (Rect.unit ![0, o] ![512, 256] h)

theorem lv_g (c : Dev nD) (t : Fin cfg0.N) (h) (k : Fin 1024) : LV m c t 0 h (ix2 0 k) = G m c k := by
  unfold LV
  rw [ld_row _ (by norm_num : 0 < 8), blk_v]
  simp
theorem lv_sc (c : Dev nD) (t : Fin cfg0.N) (h) (k : Fin 1024) : LV m c t 2 h (ix2 0 k) = SC m c k := by
  unfold LV
  rw [ld_row _ (by norm_num : 2 < 8), blk_v]
  simp [SC]
theorem lv_gt (c : Dev nD) (t : Fin cfg0.N) (h) (k : Fin 1024) : LV m c t 3 h (ix2 0 k) = GT m c k := by
  unfold LV
  rw [ld_row _ (by norm_num : 3 < 8), blk_v]
  simp [GT]

theorem emb3 (o : Fin 4) (h : ∀ x, (![o.val, 0, 0] : Fin 3 → Nat) x + (![1, 256, 256] : Fin 3 → Nat) x ≤ S4x256x256.size x) (i j : Fin 256) :
    (Rect.unit (s := S4x256x256) ![o.val, 0, 0] ![1, 256, 256] h).emb (ix3 0 i j) = ix3 o i j := by
  blk_ext
theorem lw_at (c : Dev nD) (t : Fin cfg0.N) (g : Fin 4) (h) (a b : Fin 256) : LW m c t g.val h (ix3 0 a b) = W m c g a b :=
  (congrArg (iblk m c 6 t) (emb3 g h a b)).trans (blk_w m c t g a b)
theorem lp_at (c : Dev nD) (t : Fin cfg0.N) (o : ℕ) (ho : o + 256 ≤ 1024) (h) (s : Fin 512) (a : Fin 256) :
    LP m c t o h (ix2 s a) = PS m c (row t s) ⟨o + a.val, by omega⟩ := by
  unfold LP
  rw [ld2_at _ _ _ _ _ _ (by omega) (by omega), blk_p]
  congr 1; exact Fin.ext (by simp [row])

/-! The groups' columns. -/

/-- The rows times gate and scale, the block's and the next block's first sixteen. -/
abbrev D (c : Dev nD) (t : Fin cfg0.N) (h : ∀ a, (![3, 0] : Fin 2 → ℕ) a + (![1, 1024] : Fin 2 → ℕ) a ≤ S8x1024.size a) : FVec Ideal S512x1024 .bf16 := k0_pay12 (F := Ideal) (LV m c t 3 h) (iblk m c 7 t) (iblk m c 0 t)
abbrev D' (c : Dev nD) (t : Fin cfg0.N) (h : ∀ a, (![3, 0] : Fin 2 → ℕ) a + (![1, 1024] : Fin 2 → ℕ) a ≤ S8x1024.size a) : FVec Ideal S16x1024 .bf16 :=
  k0_pay13 (F := Ideal) (k0_pay5 (LV m c t 3 h)) (k0_pay6 (iblk m c 7 t)) (Scalar.cmpi CmpIPredicate.eq (BitVec.ofNat 32 ((grid0.coords t) 0).val) 3#32) (iblk m c 1 t)

theorem d_at (c : Dev nD) (t : Fin cfg0.N) (h) (s : Fin 512) (k : Fin 1024) : D m c t h (ix2 s k) = doR (GT m c) (SCL m c) (CX m c) (row t s) k := by
  unfold D doR
  rw [pay_do, lv_gt, blk_s, blk_ct]

theorem last_word : ∀ t : Fin 4, Scalar.cmpi CmpIPredicate.eq (BitVec.ofNat 32 t.val) 3#32 = if t.val = 3 then 1#1 else 0#1 := by decide +kernel

theorem d'_at (c : Dev nD) (t : Fin cfg0.N) (h) (s : Fin 16) (k : Fin 1024) :
    D' m c t h (ix2 s k) = if h : t.val * 512 + 512 + s.val < 2048 then doR (GT m c) (SCL m c) (CX m c) ⟨t.val * 512 + 512 + s.val, h⟩ k else 0 := by
  have hl := last_word ⟨t.val, lt4 t⟩
  have h4 := lt4 t
  dsimp only at hl
  unfold D' doR
  rw [pay_do', coord, hl]
  by_cases h3 : t.val = 3
  · rw [if_pos h3, if_pos rfl, dif_neg (by omega)]
  · rw [if_neg h3, if_neg (by decide), dif_pos (by omega), lv_gt, blk_s, blk_ctb m c t (by omega)]

/-- The gradient of the pooled rows, nothing below the last row. -/
def dpx (c : Dev nD) (g : Fin 4) (a : Fin 256) (n : ℕ) : EReal := if h : n < 2048 then dpR (GT m c) (SCL m c) (CX m c) (W m c) ⟨n, h⟩ g a else 0

theorem over_ek (c : Dev nD) (g : Fin 4) (a : Fin 256) (n : ℕ) : over (dpx m c g a) g n = ek (GT m c) (SCL m c) (CX m c) (W m c) g a n := by
  unfold over dpx ek
  by_cases h : n < 2048
  · rw [dif_pos h, dif_pos h]
  · rw [dif_neg h, dif_neg h]
    exact div_cn (wd g) n (by revert g; decide)

theorem hP (c : Dev nD) (t : Fin cfg0.N) (g : Fin 4) (o : ℕ) (ho : o = g.val * 256) (h h1 h2 h3) (a : Fin 256) (s : Fin 512) :
    matmul dot_S512x256_S256x256_S512x256_1_1_0_0_n_n none (extractStridedSlice S512x256 ![0, o] (D m c t h) h1)
      (shapeCast S256x256 (LW m c t g.val h2) h3) (constant (F := Ideal) S512x256 .f32 0#32) (ix2 s a) = dpx m c g a (t.val * 512 + s.val) := by
  subst ho
  rw [mm_p _ _ _ (by omega)]
  unfold dpx dpR
  rw [dif_pos (by have := lt4 t; omega)]
  refine Finset.sum_congr rfl fun b _ => ?_
  rw [d_at, lw_at]
  rfl

theorem hB (c : Dev nD) (t : Fin cfg0.N) (g : Fin 4) (o : ℕ) (ho : o = g.val * 256) (h h1 h2 h3) (a : Fin 256) (s : Fin 16) :
    matmul dot_S16x256_S256x256_S16x256_1_1_0_0_n_n none (extractStridedSlice S16x256 ![0, o] (D' m c t h) h1)
      (shapeCast S256x256 (LW m c t g.val h2) h3) (constant (F := Ideal) S16x256 .f32 0#32) (ix2 s a) = dpx m c g a (t.val * 512 + 512 + s.val) := by
  subst ho
  rw [mm_p' _ _ _ (by omega)]
  unfold dpx dpR
  by_cases hn : t.val * 512 + 512 + s.val < 2048
  · rw [dif_pos hn]
    refine Finset.sum_congr rfl fun b _ => ?_
    rw [d'_at, dif_pos hn, lw_at]
    rfl
  · rw [dif_neg hn]
    refine Finset.sum_eq_zero fun b _ => ?_
    rw [d'_at, dif_neg hn, zero_mul]

/-- The gradient of the modulated rows, as the block holds it. -/
def DH (c : Dev nD) (s : Fin 2048) (k : Fin 1024) : EReal := dhP (GT m c) (SCL m c) (CX m c) (W m c) s k
def DHv (c : Dev nD) (t : Fin cfg0.N) : FVec Ideal S512x1024 .f32 := fun y => DH m c (row t (y 0)) (y 1)

theorem dh_at (c : Dev nD) (t : Fin cfg0.N) (g : Fin 4) (o : ℕ) (ho : o = g.val * 256) (Q : FVec Ideal S528x256 .f32) (P : FVec Ideal S512x256 .f32)
    (hP : ∀ a s, P (ix2 s a) = dpx m c g a (t.val * 512 + s.val))
    (hQ : ∀ a (r : Fin 528), r.val + wd g ≤ 528 → Q (ix2 r a) = ∑ j ∈ Finset.range (wd g), over (dpx m c g a) g (t.val * 512 + (r.val + j)))
    (h) (x) : less Q P x = DHv m c t ((Rect.unit (s := S512x1024) ![0, o] ![512, 256] h).emb x) := by
  subst ho
  obtain ⟨s, a, rfl⟩ := two 512 256 x
  have hw : wd g ≤ 16 := (by decide : ∀ g, wd g ≤ 16) g
  rw [less_at, emb2z _ _ _ _ (by omega) (by omega), hQ a _ (by show s.val + wd g ≤ 528; omega), hP]
  have e : DHv m c t (ix2 s ⟨g.val * 256 + a.val, by omega⟩) = dhP (GT m c) (SCL m c) (CX m c) (W m c) (row t s) (colG g a) := rfl
  rw [e, dhP_col]
  unfold dhG
  simp only [over_ek, dpx]
  rw [dif_pos (by have := lt4 t; omega)]
  refine congrArg (· - _) (Finset.sum_congr rfl fun j _ => congrArg _ ?_)
  show t.val * 512 + (s.val + j) = t.val * 512 + s.val + j
  omega

section pieces

variable (c : Dev nD) (t : Fin cfg0.N)

theorem q0 (h h1 h2 x) : k0_pay19 (F := Ideal) (k0_pay16 (D m c t h) (LW m c t 0 h1))
      (k0_pay17 (k0_pay5 (LV m c t 3 h)) (k0_pay6 (iblk m c 7 t)) (Scalar.cmpi CmpIPredicate.eq (BitVec.ofNat 32 ((grid0.coords t) 0).val) 3#32) (iblk m c 1 t) (LW m c t 0 h1))
      (k0_pay18 (BitVec.ofNat 32 ((grid0.coords t) 0).val) (D m c t h) (LW m c t 0 h1))
      (Scalar.muli (Scalar.addi (BitVec.ofNat 32 ((grid0.coords t) 0).val) 1#32) 512#32) x
    = DHv m c t ((Rect.unit (s := S512x1024) ![0, 0] ![512, 256] h2).emb x) := by
  have hp := hP m c t 0 0 rfl h slices_S512x1024_o0_0_S512x256 h1 shapeCasts_S1x256x256_S256x256
  have hb := hB m c t 0 0 rfl h slices_S16x1024_o0_0_S16x256 h1 shapeCasts_S1x256x256_S256x256
  refine Eq.trans ?_ (dh_at m c t 0 0 rfl _ _ hp (fun a r hr => sums2 ⟨t.val, lt4 t⟩ _ _ _ a (hp a) (hb a) 0 r hr) h2 x)
  unfold D'
  rw [← coord t]
  rfl

theorem q1 (h h1 h2 x) : k0_pay26 (F := Ideal) (BitVec.ofNat 32 ((grid0.coords t) 0).val) (k0_pay22 (D m c t h) (LW m c t 1 h1))
      (k0_pay23 (D' m c t h) (LW m c t 1 h1)) (k0_pay24 (BitVec.ofNat 32 ((grid0.coords t) 0).val)) k0_pay25 x
    = DHv m c t ((Rect.unit (s := S512x1024) ![0, 256] ![512, 256] h2).emb x) := by
  have hp := hP m c t 1 256 rfl h slices_S512x1024_o0_256_S512x256 h1 shapeCasts_S1x256x256_S256x256
  have hb := hB m c t 1 256 rfl h slices_S16x1024_o0_256_S16x256 h1 shapeCasts_S1x256x256_S256x256
  refine Eq.trans ?_ (dh_at m c t 1 256 rfl _ _ hp (fun a r hr => sums4 ⟨t.val, lt4 t⟩ _ _ _ a (hp a) (hb a) 1 r hr) h2 x)
  unfold D'
  rw [← coord t]
  rfl

theorem q2 (h h1 h2 x) : k0_pay28 (F := Ideal) (BitVec.ofNat 32 ((grid0.coords t) 0).val) (D m c t h) (D' m c t h) (LW m c t 2 h1) x
    = DHv m c t ((Rect.unit (s := S512x1024) ![0, 512] ![512, 256] h2).emb x) := by
  have hp := hP m c t 2 512 rfl h slices_S512x1024_o0_512_S512x256 h1 shapeCasts_S1x256x256_S256x256
  have hb := hB m c t 2 512 rfl h slices_S16x1024_o0_512_S16x256 h1 shapeCasts_S1x256x256_S256x256
  refine Eq.trans ?_ (dh_at m c t 2 512 rfl _ _ hp (fun a r hr => sums8 ⟨t.val, lt4 t⟩ _ _ _ a (hp a) (hb a) 2 r hr) h2 x)
  unfold D'
  rw [← coord t]
  rfl

theorem q3 (h h1 h2 x) : k0_pay35 (F := Ideal) (k0_pay32 (D m c t h) (LW m c t 3 h1))
      (k0_pay33 (BitVec.ofNat 32 ((grid0.coords t) 0).val) (D m c t h) (D' m c t h) (LW m c t 3 h1))
      (k0_pay34 (BitVec.ofNat 32 ((grid0.coords t) 0).val) (D m c t h) (D' m c t h) (LW m c t 3 h1)) x
    = DHv m c t ((Rect.unit (s := S512x1024) ![0, 768] ![512, 256] h2).emb x) := by
  have hp := hP m c t 3 768 rfl h slices_S512x1024_o0_768_S512x256 h1 shapeCasts_S1x256x256_S256x256
  have hb := hB m c t 3 768 rfl h slices_S16x1024_o0_768_S16x256 h1 shapeCasts_S1x256x256_S256x256
  refine Eq.trans ?_ (dh_at m c t 3 768 rfl _ _ hp (fun a r hr => sums16 ⟨t.val, lt4 t⟩ _ _ _ a (hp a) (hb a) 3 r hr) h2 x)
  unfold D'
  rw [← coord t]
  rfl

end pieces

theorem cover_512 (y : S512x1024.Idx) (h0 h1 h2 h3) (n3 : y ∉ (Rect.unit (s := S512x1024) ![0, 768] ![512, 256] h3).set)
    (n2 : y ∉ (Rect.unit (s := S512x1024) ![0, 512] ![512, 256] h2).set) (n1 : y ∉ (Rect.unit (s := S512x1024) ![0, 256] ![512, 256] h1).set)
    (n0 : y ∉ (Rect.unit (s := S512x1024) ![0, 0] ![512, 256] h0).set) : False := by
  obtain ⟨i, k, rfl⟩ := two 512 1024 y
  rw [Rect.mem_set_unit, Fin.forall_fin_two] at n0 n1 n2 n3
  have hi := i.isLt
  have hk := k.isLt
  have e0 : ((ix2 i k : S512x1024.Idx) 0).val = i.val := rfl
  have e1 : ((ix2 i k : S512x1024.Idx) 1).val = k.val := rfl
  simp only [e0, e1, Matrix.cons_val_zero, Matrix.cons_val_one, Matrix.cons_val_fin_one] at n0 n1 n2 n3
  omega

/-- Four groups' columns. -/
theorem canon_cols {Val : EltTy → Type} [∀ e, Nonempty (Val e)] {e : EltTy} (G : S512x1024.Idx → Val e) (r3 r2 r1 r0) (w3 w2 w1 w0)
    (p3 : ∀ x, w3 x = G ((Rect.unit (s := S512x1024) ![0, 768] ![512, 256] r3).emb x))
    (p2 : ∀ x, w2 x = G ((Rect.unit (s := S512x1024) ![0, 512] ![512, 256] r2).emb x))
    (p1 : ∀ x, w1 x = G ((Rect.unit (s := S512x1024) ![0, 256] ![512, 256] r1).emb x))
    (p0 : ∀ x, w0 x = G ((Rect.unit (s := S512x1024) ![0, 0] ![512, 256] r0).emb x)) (y) :
    View.canon [⟨Rect.unit (s := S512x1024) ![0, 768] ![512, 256] r3, w3⟩, ⟨Rect.unit (s := S512x1024) ![0, 512] ![512, 256] r2, w2⟩,
      ⟨Rect.unit (s := S512x1024) ![0, 256] ![512, 256] r1, w1⟩, ⟨Rect.unit (s := S512x1024) ![0, 0] ![512, 256] r0, w0⟩] y = G y :=
  peel G y _ _ _ p3 fun n3 => peel G y _ _ _ p2 fun n2 => peel G y _ _ _ p1 fun n1 => peel G y _ _ _ p0 fun n0 =>
    (cover_512 y _ _ _ _ n3 n2 n1 n0).elim

/-- Four groups' columns, read back together. -/
theorem cols (G : FVec Ideal S512x1024 .f32) {sg : RefSig} {κ : Kind} {sp : Space} (v : View sg κ sp S512x1024 .f32) (r3 r2 r1 r0 inb) (w3 w2 w1 w0)
    (p3 : ∀ x, w3 x = G ((Rect.unit (s := S512x1024) ![0, 768] ![512, 256] r3).emb x))
    (p2 : ∀ x, w2 x = G ((Rect.unit (s := S512x1024) ![0, 512] ![512, 256] r2).emb x))
    (p1 : ∀ x, w1 x = G ((Rect.unit (s := S512x1024) ![0, 256] ![512, 256] r1).emb x))
    (p0 : ∀ x, w0 x = G ((Rect.unit (s := S512x1024) ![0, 0] ![512, 256] r0).emb x)) :
    v.readCov (Val := Elt Ideal) [⟨Rect.unit (s := S512x1024) ![0, 768] ![512, 256] r3, w3⟩, ⟨Rect.unit (s := S512x1024) ![0, 512] ![512, 256] r2, w2⟩,
      ⟨Rect.unit (s := S512x1024) ![0, 256] ![512, 256] r1, w1⟩, ⟨Rect.unit (s := S512x1024) ![0, 0] ![512, 256] r0, w0⟩]
      (Rect.unit (s := S512x1024) ![0, 0] ![512, 1024] inb).toLoadRect = G := by
  rw [View.readCov_eq_canon']
  funext y
  have e : (Rect.unit (s := S512x1024) ![0, 0] ![512, 1024] inb).toLoadRect.idx y = y := by
    show (Rect.unit (s := S512x1024) ![0, 0] ![512, 1024] inb).emb y = y
    blk_ext
  rw [e]
  exact canon_cols (Val := Elt Ideal) (e := .f32) G _ _ _ _ _ _ _ _ p3 p2 p1 p0 y

end Cert.PoolBwdKernel

end
-- ==== Proof.PoolBwdOut.lean ====
/- Hand-written, untrusted: what the pooling mixer's gradient kernel stores, and the arrays it leaves. -/
module

public import proofs.«01_k».proof.Proof.PoolBwdKernel

@[expose] public section

set_option maxRecDepth 16384

noncomputable section

namespace Cert.PoolBwdOut

open Cert.PoolBwdIdeal Cert.PoolBwdIdeal.Gen Idealize.ShloMosaic Idealize.ShloMosaic.TcCoe Idealize.SL.Sem Cert.Lib Cert.LossSpec Cert.ModSpec Cert.PoolSpec Cert.PoolPay Cert.PoolBwdKernel
open Cert.MixKernel (peel drop two ld2_at emb2z)
open Idealize.ShloMosaic.Pipeline (Dat)
open scoped BigOperators

variable (m : (ℓ : Loc nD τ sig) → Buf (Elt Ideal) ℓ)

/-! The gradient of the rows. -/

/-- Row `s` of the rows' gradient. -/
def dx (c : Dev nD) (s : Fin 2048) (k : Fin 1024) : EReal :=
  CX m c s k + drow (X m c s) (G m c) (SC m c) (DH m c s) k

theorem dx_pay (c : Dev nD) (t : Fin cfg0.N) (h1 h2) (s : Fin 512) (k : Fin 1024) :
    k0_pay45 (F := Ideal) (k0_pay7 (iblk m c 0 t)) (k0_pay37 (DHv m c t)) (k0_pay38 (LV m c t 0 h1)) (k0_pay39 (LV m c t 2 h2))
      (k0_pay40 (iblk m c 2 t)) (k0_pay41 (iblk m c 2 t)) (ix2 s k) = dx m c (row t s) k := by
  rw [pay_dx]
  simp only [lv_g, lv_sc, blk_ct, blk_x]
  rfl

theorem dx_at (c : Dev nD) (t : Fin cfg0.N) (s : Fin 512) (k : Fin 1024) :
    (outsAt0 m c t.val t.isLt).1 (ix2 s k) = dx m c (row t s) k := by
  by_cases h0 : t.val % 4 = 0
  · rw [outsAt0_A m c t h0 (by omega)]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    rw [View.canon_cons_unit_lit _ _ _ (by decide)]
    exact (congrArg (fun A => k0_pay45 (F := Ideal) (k0_pay7 (iblk m c 0 t)) (k0_pay37 A) (k0_pay38 (LV m c t 0 _)) (k0_pay39 (LV m c t 2 _))
      (k0_pay40 (iblk m c 2 t)) (k0_pay41 (iblk m c 2 t)) (ix2 s k))
      (cols (DHv m c t) _ _ _ _ _ _ _ _ _ _ (q3 m c t _ _ _) (q2 m c t _ _ _) (q1 m c t _ _ _) (q0 m c t _ _ _))).trans (dx_pay m c t _ _ s k)
  by_cases h1 : t.val % 4 = 3
  · rw [outsAt0_C m c t h0 h1]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    rw [View.canon_cons_unit_lit _ _ _ (by decide)]
    exact (congrArg (fun A => k0_pay45 (F := Ideal) (k0_pay7 (iblk m c 0 t)) (k0_pay37 A) (k0_pay38 (LV m c t 0 _)) (k0_pay39 (LV m c t 2 _))
      (k0_pay40 (iblk m c 2 t)) (k0_pay41 (iblk m c 2 t)) (ix2 s k))
      (cols (DHv m c t) _ _ _ _ _ _ _ _ _ _ (q3 m c t _ _ _) (q2 m c t _ _ _) (q1 m c t _ _ _) (q0 m c t _ _ _))).trans (dx_pay m c t _ _ s k)
  · rw [outsAt0_B m c t h0 h1]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    rw [View.canon_cons_unit_lit _ _ _ (by decide)]
    exact (congrArg (fun A => k0_pay45 (F := Ideal) (k0_pay7 (iblk m c 0 t)) (k0_pay37 A) (k0_pay38 (LV m c t 0 _)) (k0_pay39 (LV m c t 2 _))
      (k0_pay40 (iblk m c 2 t)) (k0_pay41 (iblk m c 2 t)) (ix2 s k))
      (cols (DHv m c t) _ _ _ _ _ _ _ _ _ _ (q3 m c t _ _ _) (q2 m c t _ _ _) (q1 m c t _ _ _) (q0 m c t _ _ _))).trans (dx_pay m c t _ _ s k)

/-! The gradient of the groups' weights. -/

/-- What step `t` adds to it. -/
def dwT (c : Dev nD) (t : Fin cfg0.N) (g : Fin 4) (a b : Fin 256) : EReal :=
  ∑ s : Fin 512, PS m c (row t s) (colG g a) * doR (GT m c) (SCL m c) (CX m c) (row t s) (colG g b)
def dwS (c : Dev nD) (t : Fin cfg0.N) (Y : Vec Ideal S4x256x256 .f32) : Vec Ideal S4x256x256 .f32 :=
  fun y => Y y + dwT m c t (y 0) (y 1) (y 2)

theorem three (x : S1x256x256.Idx) : ∃ (i j : Fin 256), x = ix3 0 i j :=
  ⟨x 1, x 2, by blk_ext⟩

abbrev LY (Y : Vec Ideal S4x256x256 .f32) (g : ℕ) (h : ∀ a, (![g, 0, 0] : Fin 3 → ℕ) a + (![1, 256, 256] : Fin 3 → ℕ) a ≤ S4x256x256.size a) :
    FVec Ideal S1x256x256 .f32 := View.ld Y (Rect.unit ![g, 0, 0] ![1, 256, 256] h)

theorem slice_at (c : Dev nD) (t : Fin cfg0.N) (Y : Vec Ideal S4x256x256 .f32) (g : Fin 4) (o : ℕ) (ho : o = g.val * 256) (h h0 h1 h2 h3 hg hp x) :
    shapeCast S1x256x256 (addf (shapeCast S256x256 (LY Y g.val hg) h1)
      (matmul dot_S512x256_S512x256_S256x256_0_0_1_1_n_n none (shapeCast S512x256 (LP m c t o hp) h2)
      (extractStridedSlice S512x256 ![0, o] (D m c t h) h0) (constant (F := Ideal) S256x256 .f32 0#32))) h3 x
      = dwS m c t Y ((Rect.unit (s := S4x256x256) ![g.val, 0, 0] ![1, 256, 256] hg).emb x) := by
  subst ho
  obtain ⟨a, b, rfl⟩ := three x
  rw [mm_w _ _ _ _ (by omega), emb3]
  refine congrArg₂ (· + ·) (congrArg Y (emb3 g hg a b)) (Finset.sum_congr rfl fun s _ => ?_)
  rw [lp_at _ _ _ _ (by omega), d_at]
  rfl

theorem cover_4 (y : S4x256x256.Idx) (h0 h1 h2 h3) (n3 : y ∉ (Rect.unit (s := S4x256x256) ![3, 0, 0] ![1, 256, 256] h3).set)
    (n2 : y ∉ (Rect.unit (s := S4x256x256) ![2, 0, 0] ![1, 256, 256] h2).set) (n1 : y ∉ (Rect.unit (s := S4x256x256) ![1, 0, 0] ![1, 256, 256] h1).set)
    (n0 : y ∉ (Rect.unit (s := S4x256x256) ![0, 0, 0] ![1, 256, 256] h0).set) : False := by
  obtain ⟨g, a, b, rfl⟩ : ∃ g a b, y = ix3 g a b := ⟨y 0, y 1, y 2, by blk_ext⟩
  have em : ∀ (r : Fin 4) (h : ∀ x, (![r.val, 0, 0] : Fin 3 → Nat) x + (![1, 256, 256] : Fin 3 → Nat) x ≤ S4x256x256.size x),
      g = r → ix3 g a b ∈ (Rect.unit (s := S4x256x256) ![r.val, 0, 0] ![1, 256, 256] h).set := fun r h e => by
    subst e
    rw [← emb3 g h a b]
    exact LoadRect.idx_mem (Rect.unit (s := S4x256x256) ![g.val, 0, 0] ![1, 256, 256] h).toLoadRect (ix3 0 a b)
  have hc : g = 0 ∨ g = 1 ∨ g = 2 ∨ g = 3 := (by decide : ∀ g : Fin 4, g = 0 ∨ g = 1 ∨ g = 2 ∨ g = 3) g
  rcases hc with e | e | e | e
  · exact n0 (em 0 h0 e)
  · exact n1 (em 1 h1 e)
  · exact n2 (em 2 h2 e)
  · exact n3 (em 3 h3 e)

theorem canon_slices {Val : EltTy → Type} [∀ e, Nonempty (Val e)] {e : EltTy} (G : S4x256x256.Idx → Val e) (r3 r2 r1 r0) (w3 w2 w1 w0) (L)
    (p3 : ∀ x, w3 x = G ((Rect.unit (s := S4x256x256) ![3, 0, 0] ![1, 256, 256] r3).emb x))
    (p2 : ∀ x, w2 x = G ((Rect.unit (s := S4x256x256) ![2, 0, 0] ![1, 256, 256] r2).emb x))
    (p1 : ∀ x, w1 x = G ((Rect.unit (s := S4x256x256) ![1, 0, 0] ![1, 256, 256] r1).emb x))
    (p0 : ∀ x, w0 x = G ((Rect.unit (s := S4x256x256) ![0, 0, 0] ![1, 256, 256] r0).emb x)) (y) :
    View.canon (⟨Rect.unit (s := S4x256x256) ![3, 0, 0] ![1, 256, 256] r3, w3⟩ :: ⟨Rect.unit (s := S4x256x256) ![2, 0, 0] ![1, 256, 256] r2, w2⟩ ::
      ⟨Rect.unit (s := S4x256x256) ![1, 0, 0] ![1, 256, 256] r1, w1⟩ :: ⟨Rect.unit (s := S4x256x256) ![0, 0, 0] ![1, 256, 256] r0, w0⟩ :: L) y = G y :=
  peel G y _ _ _ p3 fun n3 => peel G y _ _ _ p2 fun n2 => peel G y _ _ _ p1 fun n1 => peel G y _ _ _ p0 fun n0 =>
    (cover_4 y _ _ _ _ n3 n2 n1 n0).elim

theorem pay_1 (X : Vec Ideal S4x256x256 .f32) (y) : k0_pay1 (F := Ideal) X y = X y := rfl

/-- The groups' weights' gradient, read back whole and rounded. -/
theorem back_4 (G : Vec Ideal S4x256x256 .f32) {sg : RefSig} {κ : Kind} {sp : Space} (v : View sg κ sp S4x256x256 .f32) (r3 r2 r1 r0 inb) (w3 w2 w1 w0)
    (p3 : ∀ x, w3 x = G ((Rect.unit (s := S4x256x256) ![3, 0, 0] ![1, 256, 256] r3).emb x))
    (p2 : ∀ x, w2 x = G ((Rect.unit (s := S4x256x256) ![2, 0, 0] ![1, 256, 256] r2).emb x))
    (p1 : ∀ x, w1 x = G ((Rect.unit (s := S4x256x256) ![1, 0, 0] ![1, 256, 256] r1).emb x))
    (p0 : ∀ x, w0 x = G ((Rect.unit (s := S4x256x256) ![0, 0, 0] ![1, 256, 256] r0).emb x)) (y) :
    k0_pay1 (F := Ideal) (v.readCov (Val := Elt Ideal) [⟨Rect.unit (s := S4x256x256) ![3, 0, 0] ![1, 256, 256] r3, w3⟩, ⟨Rect.unit (s := S4x256x256) ![2, 0, 0] ![1, 256, 256] r2, w2⟩,
      ⟨Rect.unit (s := S4x256x256) ![1, 0, 0] ![1, 256, 256] r1, w1⟩, ⟨Rect.unit (s := S4x256x256) ![0, 0, 0] ![1, 256, 256] r0, w0⟩]
      (Rect.unit (s := S4x256x256) ![0, 0, 0] ![4, 256, 256] inb).toLoadRect) y = G y := by
  rw [pay_1, View.readCov_eq_canon']
  have e : (Rect.unit (s := S4x256x256) ![0, 0, 0] ![4, 256, 256] inb).toLoadRect.idx y = y := by
    show (Rect.unit (s := S4x256x256) ![0, 0, 0] ![4, 256, 256] inb).emb y = y
    blk_ext
  exact (canon_slices (Val := Elt Ideal) (e := .f32) G _ _ _ _ _ _ _ _ [] p3 p2 p1 p0 ((Rect.unit (s := S4x256x256) ![0, 0, 0] ![4, 256, 256] inb).toLoadRect.idx y)).trans (congrArg G e)

section slices

variable (c : Dev nD) (t : Fin cfg0.N) (Y : Vec Ideal S4x256x256 .f32)

theorem s0 (h hp hg x) : k0_pay14 (F := Ideal) (D m c t h) (LY Y 0 hg) (LP m c t 0 hp) x
    = dwS m c t Y ((Rect.unit (s := S4x256x256) ![0, 0, 0] ![1, 256, 256] hg).emb x) := slice_at m c t Y 0 0 rfl _ _ _ _ _ _ _ x
theorem s1 (h hp hg x) : k0_pay20 (F := Ideal) (D m c t h) (LY Y 1 hg) (LP m c t 256 hp) x
    = dwS m c t Y ((Rect.unit (s := S4x256x256) ![1, 0, 0] ![1, 256, 256] hg).emb x) := slice_at m c t Y 1 256 rfl _ _ _ _ _ _ _ x
theorem s2 (h hp hg x) : k0_pay27 (F := Ideal) (D m c t h) (LY Y 2 hg) (LP m c t 512 hp) x
    = dwS m c t Y ((Rect.unit (s := S4x256x256) ![2, 0, 0] ![1, 256, 256] hg).emb x) := slice_at m c t Y 2 512 rfl _ _ _ _ _ _ _ x
theorem s3 (h hp hg x) : k0_pay30 (F := Ideal) (D m c t h) (k0_pay29 (LY Y 3 hg)) (LP m c t 768 hp) x
    = dwS m c t Y ((Rect.unit (s := S4x256x256) ![3, 0, 0] ![1, 256, 256] hg).emb x) := slice_at m c t Y 3 768 rfl _ _ _ _ _ _ _ x

end slices

/-- What the kernel holds of it after step `n`. -/
def swAt (c : Dev nD) (n : ℕ) (h : n < cfg0.N) : Vec Ideal S4x256x256 .f32 := (outsAt0 m c n h).2.2.2.2

theorem sw_first (c : Dev nD) (t : Fin cfg0.N) (h0 : t.val % 4 = 0) (y) :
    swAt m c t.val t.isLt y = dwS m c t (k0_pay2 (F := Ideal)) y := by
  unfold swAt
  rw [outsAt0_A m c t h0 (by omega)]; dsimp only
  frame_open
  simp (disch := decide) only [View.read_writes_junk_eq_canon, ↓ View.readCov_skip, ↓ View.readCov_cons_toLoadRect, ↓ View.readCov_fill, View.ld_unit_lit', View.readAt_eq_ld, Memref.IsWhole.read_unread]
  exact canon_slices (Val := Elt Ideal) (e := .f32) (dwS m c t (k0_pay2 (F := Ideal))) _ _ _ _ _ _ _ _ _ (s3 m c t (k0_pay2 (F := Ideal)) _ _ _) (s2 m c t (k0_pay2 (F := Ideal)) _ _ _) (s1 m c t (k0_pay2 (F := Ideal)) _ _ _) (s0 m c t (k0_pay2 (F := Ideal)) _ _ _) y

theorem prev_read (Y : Vec Ideal S4x256x256 .f32) (h : Memref.IsWhole scM0_0) : View.read (Elt Ideal) (View.whole cc0_scratch0) (h.unread Y) = Y :=
  h.read_unread Y

theorem sw_next (c : Dev nD) (t : Fin cfg0.N) (h0 : ¬ t.val % 4 = 0) (y) :
    swAt m c t.val t.isLt y = dwS m c t (swAt m c (t.val - 1) (Nat.lt_of_le_of_lt (Nat.sub_le _ _) t.isLt)) y := by
  unfold swAt
  by_cases h1 : t.val % 4 = 3
  · rw [outsAt0_C m c t h0 h1]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    refine (canon_slices (Val := Elt Ideal) (e := .f32) (dwS m c t _) _ _ _ _ _ _ _ _ [] (s3 m c t _ _ _ _) (s2 m c t _ _ _ _) (s1 m c t _ _ _ _) (s0 m c t _ _ _ _) y).trans ?_
    exact congrArg (fun Y => dwS m c t Y y) (prev_read _ _)
  · rw [outsAt0_B m c t h0 h1]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    refine (canon_slices (Val := Elt Ideal) (e := .f32) (dwS m c t _) _ _ _ _ _ _ _ _ [] (s3 m c t _ _ _ _) (s2 m c t _ _ _ _) (s1 m c t _ _ _ _) (s0 m c t _ _ _ _) y).trans ?_
    exact congrArg (fun Y => dwS m c t Y y) (prev_read _ _)

/-- The last step stores what the kernel holds. -/
theorem dw_last (c : Dev nD) (t : Fin cfg0.N) (h1 : t.val % 4 = 3) (y) :
    (outsAt0 m c t.val t.isLt).2.1 y = swAt m c t.val t.isLt y := by
  refine Eq.trans ?_ (sw_next m c t (by omega) y).symm
  rw [outsAt0_C m c t (by omega) h1]; dsimp only
  frame_open
  simp (disch := decide) only [View.read_writes_junk_eq_canon, ↓ View.readCov_skip, ↓ View.readCov_cons_toLoadRect, ↓ View.readCov_fill, View.ld_unit_lit', View.readAt_eq_ld, Memref.IsWhole.read_unread]
  rw [View.canon_cons_unit_lit _ _ _ (by decide)]
  refine (back_4 (dwS m c t _) _ _ _ _ _ _ _ _ _ _ (s3 m c t _ _ _ _) (s2 m c t _ _ _ _) (s1 m c t _ _ _ _) (s0 m c t _ _ _ _) y).trans ?_
  exact congrArg (fun Y => dwS m c t Y y) (prev_read _ _)

/-! The vectors' gradients. -/

/-- What step `t` adds to the packed gradients. -/
def term (c : Dev nD) (t : Fin cfg0.N) (a : Fin 8) (k : Fin 1024) : EReal :=
  rows4 (fun k => ∑ s : Fin 512, dgain (X m c (row t s)) (SC m c) (DH m c (row t s)) k) (fun k => ∑ s : Fin 512, DH m c (row t s) k)
    (fun k => ∑ s : Fin 512, dscale (X m c (row t s)) (G m c) (DH m c (row t s)) k)
    (fun k => ∑ s : Fin 512, CX m c (row t s) k * (OS m c (row t s) k * SCL m c k)) a k

abbrev LA (Y : Vec Ideal S8x1024 .f32) (r : ℕ) (h : ∀ a, (![r, 0] : Fin 2 → ℕ) a + (![1, 1024] : Fin 2 → ℕ) a ≤ S8x1024.size a) :
    Vec Ideal S1x1024 .f32 := View.ld Y (Rect.unit ![r, 0] ![1, 1024] h)

theorem dv_rows (c : Dev nD) (t : Fin cfg0.N) (Y : Vec Ideal S8x1024 .f32) (A : Vec Ideal S512x1024 .f32) (hA : A = DHv m c t) (a : Fin 8) (k : Fin 1024) (g0 g2 h0 h1 h2 h3) :
    (if a.val = 2 then k0_pay44 (F := Ideal) (k0_pay37 A) (k0_pay38 (LV m c t 0 g0)) (k0_pay41 (iblk m c 2 t)) (LA Y 2 h2) (ix2 0 k)
      else if a.val = 1 then k0_pay43 (F := Ideal) (k0_pay37 A) (LA Y 1 h1) (ix2 0 k)
      else if a.val = 0 then k0_pay42 (F := Ideal) (iblk m c 2 t) A (LV m c t 2 g2) (LA Y 0 h0) (ix2 0 k)
      else if a.val = 3 then k0_pay9 (F := Ideal) (iblk m c 7 t) (iblk m c 0 t) (iblk m c 5 t) (LA Y 3 h3) (ix2 0 k)
      else Y (ix2 a k)) = Y (ix2 a k) + term m c t a k := by
  subst hA
  unfold term rows4 LA
  by_cases e2 : a.val = 2
  · obtain rfl : a = 2 := Fin.ext e2
    rw [if_pos e2, pay_dscale, ld_row _ (by norm_num : 2 < 8)]
    simp only [lv_g, blk_x]
    rfl
  by_cases e1 : a.val = 1
  · obtain rfl : a = 1 := Fin.ext e1
    rw [if_neg e2, if_pos e1, pay_dshift, ld_row _ (by norm_num : 1 < 8)]
    rfl
  by_cases e0 : a.val = 0
  · obtain rfl : a = 0 := Fin.ext e0
    rw [if_neg e2, if_neg e1, if_pos e0, pay_dgain, ld_row _ (by norm_num : 0 < 8)]
    simp only [lv_sc, blk_x]
    rfl
  by_cases e3 : a.val = 3
  · obtain rfl : a = 3 := Fin.ext e3
    rw [if_neg e2, if_neg e1, if_neg e0, if_pos e3, pay_gate, ld_row _ (by norm_num : 3 < 8)]
    simp only [blk_ct, blk_o, blk_s]
    rfl
  rw [if_neg e2, if_neg e1, if_neg e0, if_neg e3, if_neg e0, if_neg e1, if_neg e2, if_neg e3, add_zero]

/-- What the kernel holds of them after step `n`. -/
def dvAt (c : Dev nD) (n : ℕ) (h : n < cfg0.N) : Vec Ideal S8x1024 .f32 := (outsAt0 m c n h).2.2.2.1

theorem dv_first (c : Dev nD) (t : Fin cfg0.N) (h0 : t.val % 4 = 0) (a : Fin 8) (k : Fin 1024) :
    dvAt m c t.val t.isLt (ix2 a k) = k0_pay4 (F := Ideal) (ix2 a k) + term m c t a k := by
  unfold dvAt
  rw [outsAt0_A m c t h0 (by omega)]; dsimp only
  frame_open
  simp (disch := decide) only [View.read_writes_junk_eq_canon, ↓ View.readCov_skip, ↓ View.readCov_cons_toLoadRect, ↓ View.readCov_fill, View.ld_unit_lit', View.readAt_eq_ld, Memref.IsWhole.read_unread]
  rw [canon_row, canon_row, canon_row, canon_row, View.canon_cons_unit_lit _ _ _ (by decide)]
  exact dv_rows m c t (k0_pay4 (F := Ideal)) _ (cols (DHv m c t) _ _ _ _ _ _ _ _ _ _ (q3 m c t _ _ _) (q2 m c t _ _ _) (q1 m c t _ _ _) (q0 m c t _ _ _)) a k _ _ _ _ _ _

theorem dv_next (c : Dev nD) (t : Fin cfg0.N) (h0 : ¬ t.val % 4 = 0) (a : Fin 8) (k : Fin 1024) :
    dvAt m c t.val t.isLt (ix2 a k) = dvAt m c (t.val - 1) (Nat.lt_of_le_of_lt (Nat.sub_le _ _) t.isLt) (ix2 a k) + term m c t a k := by
  unfold dvAt
  by_cases h1 : t.val % 4 = 3
  · rw [outsAt0_C m c t h0 h1]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    rw [read_row, read_row, read_row, read_row, View.writes_nil, Memref.IsWhole.read_unread]
    exact dv_rows m c t _ _ (cols (DHv m c t) _ _ _ _ _ _ _ _ _ _ (q3 m c t _ _ _) (q2 m c t _ _ _) (q1 m c t _ _ _) (q0 m c t _ _ _)) a k _ _ _ _ _ _
  · rw [outsAt0_B m c t h0 h1]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    rw [read_row, read_row, read_row, read_row, View.writes_nil, Memref.IsWhole.read_unread]
    exact dv_rows m c t _ _ (cols (DHv m c t) _ _ _ _ _ _ _ _ _ _ (q3 m c t _ _ _) (q2 m c t _ _ _) (q1 m c t _ _ _) (q0 m c t _ _ _)) a k _ _ _ _ _ _

/-- A sum over the steps is a sum over the row blocks. -/
theorem sum_rows (f : Fin 2048 → EReal) : ∑ t : Fin cfg0.N, ∑ s : Fin 512, f (row t s) = ∑ s, f s :=
  Fin.sum_mul_add_congr (S := 4) (F := fun t s => f ⟨t.val * 512 + s.val, by omega⟩) fun s k hl => rfl

theorem lt_3 : 3 < cfg0.N := lt_of_lt_of_eq (by norm_num) N_0.symm

/-- The packed gradients. -/
def dvec (c : Dev nD) (a : Fin 8) (k : Fin 1024) : EReal :=
  rows4 (fun k => ∑ s, dgain (X m c s) (SC m c) (DH m c s) k) (fun k => ∑ s, DH m c s k)
    (fun k => ∑ s, dscale (X m c s) (G m c) (DH m c s) k) (fun k => ∑ s, CX m c s k * (OS m c s k * SCL m c k)) a k

theorem zero_4 (a : Fin 8) (k : Fin 1024) : k0_pay4 (F := Ideal) (ix2 a k) = 0 := by
  unfold k0_pay4
  pointwise
theorem zero_3 (k : Fin 1024) : k0_pay3 (F := Ideal) (ix2 0 k) = 0 := by
  unfold k0_pay3
  pointwise
theorem zero_2 (g : Fin 4) (a b : Fin 256) : k0_pay2 (F := Ideal) (ix3 g a b) = 0 := by
  unfold k0_pay2
  pointwise

theorem dv_end (c : Dev nD) (a : Fin 8) (k : Fin 1024) : dvAt m c 3 lt_3 (ix2 a k) = dvec m c a k := by
  rw [Pipeline.eq_sum_fin_of_reset_step_apply_last (fun n (h : n < cfg0.N) (p : Fin 8 × Fin 1024) => dvAt m c n h (ix2 p.1 p.2)) 4
    (fun _ => 0) (fun t p => term m c t p.1 p.2)
    (fun t h p => by
      rw [dv_first m c t (by omega), zero_4])
    (fun t h p => by
      rw [dv_next m c t h])
    (le_of_eq N_0) ⟨3, lt_3⟩ rfl (a, k), zero_add]
  unfold dvec term rows4
  dsimp only
  by_cases h0 : a.val = 0
  · simp only [if_pos h0]
    exact sum_rows fun s => dgain (X m c s) (SC m c) (DH m c s) k
  by_cases h1 : a.val = 1
  · simp only [if_neg h0, if_pos h1]
    exact sum_rows fun s => DH m c s k
  by_cases h2 : a.val = 2
  · simp only [if_neg h0, if_neg h1, if_pos h2]
    exact sum_rows fun s => dscale (X m c s) (G m c) (DH m c s) k
  by_cases h3 : a.val = 3
  · simp only [if_neg h0, if_neg h1, if_neg h2, if_pos h3]
    exact sum_rows fun s => CX m c s k * (OS m c s k * SCL m c k)
  simp only [if_neg h0, if_neg h1, if_neg h2, if_neg h3, Finset.sum_const_zero]

/-! The gradient of the scale. -/

def scT (c : Dev nD) (s : Fin 2048) (k : Fin 1024) : EReal := GT m c k * CX m c s k * OS m c s k
def scAt (c : Dev nD) (n : ℕ) (h : n < cfg0.N) : Vec Ideal S1x1024 .f32 := (outsAt0 m c n h).2.2.1

theorem sc_row (c : Dev nD) (t : Fin cfg0.N) (Y : Vec Ideal S1x1024 .f32) (h) (k : Fin 1024) :
    k0_pay11 (F := Ideal) (LV m c t 3 h) (iblk m c 0 t) (iblk m c 5 t) Y (ix2 0 k) = Y (ix2 0 k) + ∑ s : Fin 512, scT m c (row t s) k := by
  rw [pay_sc]
  simp only [lv_gt, blk_ct, blk_o]
  rfl

theorem sc_first (c : Dev nD) (t : Fin cfg0.N) (h0 : t.val % 4 = 0) (k : Fin 1024) :
    scAt m c t.val t.isLt (ix2 0 k) = k0_pay3 (F := Ideal) (ix2 0 k) + ∑ s : Fin 512, scT m c (row t s) k := by
  unfold scAt
  rw [outsAt0_A m c t h0 (by omega)]; dsimp only
  frame_open
  simp (disch := decide) only [View.read_writes_junk_eq_canon, ↓ View.readCov_skip, ↓ View.readCov_cons_toLoadRect, ↓ View.readCov_fill, View.ld_unit_lit', View.readAt_eq_ld, Memref.IsWhole.read_unread]
  rw [View.canon_cons_unit_lit _ _ _ (by decide)]
  exact sc_row m c t _ _ k

theorem sc_next (c : Dev nD) (t : Fin cfg0.N) (h0 : ¬ t.val % 4 = 0) (k : Fin 1024) :
    scAt m c t.val t.isLt (ix2 0 k) = scAt m c (t.val - 1) (Nat.lt_of_le_of_lt (Nat.sub_le _ _) t.isLt) (ix2 0 k) + ∑ s : Fin 512, scT m c (row t s) k := by
  unfold scAt
  by_cases h1 : t.val % 4 = 3
  · rw [outsAt0_C m c t h0 h1]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    rw [View.canon_cons_unit_lit _ _ _ (by decide)]
    exact sc_row m c t _ _ k
  · rw [outsAt0_B m c t h0 h1]; dsimp only
    frame_open
    simp (disch := decide) only [View.read_writes_junk_eq_canon, ↓ View.readCov_skip, ↓ View.readCov_cons_toLoadRect, ↓ View.readCov_fill, View.ld_unit_lit', View.readAt_eq_ld, Memref.IsWhole.read_unread]
    rw [View.canon_cons_unit_lit _ _ _ (by decide)]
    exact sc_row m c t _ _ k

theorem sc_end (c : Dev nD) (k : Fin 1024) : scAt m c 3 lt_3 (ix2 0 k) = ∑ s, scT m c s k := by
  rw [Pipeline.eq_sum_fin_of_reset_step_apply_last (fun n (h : n < cfg0.N) (k : Fin 1024) => scAt m c n h (ix2 0 k)) 4
    (fun _ => 0) (fun t k => ∑ s : Fin 512, scT m c (row t s) k)
    (fun t h k => by rw [sc_first m c t (by omega), zero_3])
    (fun t h k => by rw [sc_next m c t h])
    (le_of_eq N_0) ⟨3, lt_3⟩ rfl k, zero_add]
  exact sum_rows fun s => scT m c s k

/-- The gradient of the groups' weights. -/
def dw (c : Dev nD) (g : Fin 4) (a b : Fin 256) : EReal :=
  ∑ s, PS m c s (colG g a) * doR (GT m c) (SCL m c) (CX m c) s (colG g b)

theorem dw_end (c : Dev nD) (g : Fin 4) (a b : Fin 256) : swAt m c 3 lt_3 (ix3 g a b) = dw m c g a b := by
  rw [Pipeline.eq_sum_fin_of_reset_step_apply_last (fun n (h : n < cfg0.N) (p : Fin 4 × Fin 256 × Fin 256) => swAt m c n h (ix3 p.1 p.2.1 p.2.2)) 4
    (fun _ => 0) (fun t p => dwT m c t p.1 p.2.1 p.2.2)
    (fun t h p => by
      rw [sw_first m c t (by omega)]
      show k0_pay2 (F := Ideal) (ix3 p.1 p.2.1 p.2.2) + _ = _
      rw [zero_2]; rfl)
    (fun t h p => by
      rw [sw_next m c t h]; rfl)
    (le_of_eq N_0) ⟨3, lt_3⟩ rfl (g, a, b), zero_add]
  exact sum_rows fun s => PS m c s (colG g a) * doR (GT m c) (SCL m c) (CX m c) s (colG g b)

/-! The arrays. -/

theorem value_dx (c : Dev nD) : (dats m 0 c).arrAt 8 cfg0.N = fun i => dx m c (i 0) (i 1) := by
  refine (dats m 0 c).arrAt_eq_of_covers 8 _ (by decide +kernel) fun t hf y => ?_
  have hx : ((View.whole main_v115_0).slice (win0_8.rect t)).emb y = ix2 (row t (y 0)) (y 1) := by
    blk_ext [idx t, row]
  have hy : y = ix2 (n0 := 512) (n1 := 1024) (y 0) (y 1) := by blk_ext
  blk_simp
  rw [after0_8, hx, hy]
  exact dx_at m c t (y 0) (y 1)

def tl : Fin cfg0.N := ⟨3, lt_3⟩

theorem value_dw (c : Dev nD) : (dats m 0 c).arrAt 9 cfg0.N = fun i => dw m c (i 0) (i 1) (i 2) := by
  refine (dats m 0 c).arrAt_eq_of_after_last 9 tl (by decide +kernel) _ fun j => ?_
  have hx : ((View.whole main_v115_1).slice (win0_9.rect tl)).emb j = j := by
    have i0 := congrFun (idx tl).2.2.2.2.2.2.2.2.2.1 0
    have i1 := congrFun (idx tl).2.2.2.2.2.2.2.2.2.1 1
    have i2 := congrFun (idx tl).2.2.2.2.2.2.2.2.2.1 2
    blk_ext [i0, i1, i2]
  have hy : j = ix3 (n0 := 4) (n1 := 256) (n2 := 256) (j 0) (j 1) (j 2) := by blk_ext
  blk_simp
  rw [after0_9, hy]
  exact (dw_last m c tl rfl _).trans (dw_end m c (j 0) (j 1) (j 2))

theorem value_dsc (c : Dev nD) : (dats m 0 c).arrAt 10 cfg0.N = fun i => ∑ s, scT m c s (i 1) := by
  refine (dats m 0 c).arrAt_eq_of_after_last 10 tl (by decide +kernel) _ fun j => ?_
  have hx : ((View.whole main_v115_2).slice (win0_10.rect tl)).emb j = j := by
    have i0 := congrFun (idx tl).2.2.2.2.2.2.2.2.2.2.1 0
    have i1 := congrFun (idx tl).2.2.2.2.2.2.2.2.2.2.1 1
    blk_ext [i0, i1]
  have hy : j = ix2 (n0 := 1) (n1 := 1024) 0 (j 1) := by blk_ext
  blk_simp
  rw [after0_10, hy]
  exact sc_end m c (j 1)

theorem value_dvec (c : Dev nD) : (dats m 0 c).arrAt 11 cfg0.N = fun i => dvec m c (i 0) (i 1) := by
  refine (dats m 0 c).arrAt_eq_of_after_last 11 tl (by decide +kernel) _ fun j => ?_
  have hx : ((View.whole main_v115_3).slice (win0_11.rect tl)).emb j = j := by
    have i0 := congrFun (idx tl).2.2.2.2.2.2.2.2.2.2.2 0
    have i1 := congrFun (idx tl).2.2.2.2.2.2.2.2.2.2.2 1
    blk_ext [i0, i1]
  have hy : j = ix2 (n0 := 8) (n1 := 1024) (j 0) (j 1) := by blk_ext
  blk_simp
  rw [after0_11, hy]
  exact dv_end m c (j 0) (j 1)

end Cert.PoolBwdOut

end
-- ==== Proof.PoolBwdRef.lean ====
/- Hand-written, untrusted: the pooling mixer's reference gradient, an operation at a time, at an index. -/
module

public import proofs.«01_k».proof.Proof.Gen.PoolBwdRefIdeal.Read
public import Idealize.ShloMosaic.Lib.Pipeline.ValueKit
public import Idealize.ShloMosaic.Lib.WordCmp
public import proofs.«01_k».proof.Proof.ModSpec
public import proofs.«01_k».proof.Proof.PoolSpec
public import proofs.«01_k».proof.Proof.Finite

@[expose] public section

set_option maxRecDepth 16384

noncomputable section

namespace Cert.PoolBwdRef

open Cert.PoolBwdRefIdeal Cert.PoolBwdRefIdeal.Gen Cert.PoolBwdRefIdeal.Read Idealize.ShloMosaic Idealize.ShloMosaic.TcCoe Cert.LossSpec Cert.ModSpec Cert.PoolSpec Cert.Lib
open scoped BigOperators

variable (x0 : (⟨S1x2048x1024, .f32⟩ : BufTy).Contents (Elt Ideal)) (x1 : (⟨S1024, .f32⟩ : BufTy).Contents (Elt Ideal))
  (x2 : (⟨S1x3072, .f32⟩ : BufTy).Contents (Elt Ideal)) (x3 : (⟨S4x256x256, .f32⟩ : BufTy).Contents (Elt Ideal))
  (x4 : (⟨S1024, .f32⟩ : BufTy).Contents (Elt Ideal)) (x5 : (⟨S1x2048x1024, .f32⟩ : BufTy).Contents (Elt Ideal))

/-- A row of the hidden states and of the gradient, and the modulation's three vectors. -/
def xr (s : Fin 2048) (k : Fin 1024) : EReal := x0 (ix3 0 s k)
def cr (s : Fin 2048) (k : Fin 1024) : EReal := x5 (ix3 0 s k)
def sh (k : Fin 1024) : EReal := x2 (ix2 0 ⟨k.val, by omega⟩)
def sc (k : Fin 1024) : EReal := x2 (ix2 0 ⟨1024 + k.val, by omega⟩)
def gt (k : Fin 1024) : EReal := x2 (ix2 0 ⟨2048 + k.val, by omega⟩)
def ou (s : Fin 2048) (k : Fin 1024) : EReal := doR (gt x2) (fun k => x4 (ix1 k)) (cr x5) s k
def dp (s : Fin 2048) (g : Fin 4) (a : Fin 256) : EReal := dpR (gt x2) (fun k => x4 (ix1 k)) (cr x5) (fun g a b => x3 (ix3 g a b)) s g a
def ev (g : Fin 4) (a : Fin 256) (n : ℕ) : EReal := ek (gt x2) (fun k => x4 (ix1 k)) (cr x5) (fun g a b => x3 (ix3 g a b)) g a n
def dh (s : Fin 2048) (k : Fin 1024) : EReal := dhP (gt x2) (fun k => x4 (ix1 k)) (cr x5) (fun g a b => x3 (ix3 g a b)) s k

/-! ## The row's norm -/

theorem mean_eq (s : Fin 2048) : val_main_v9 (F := Ideal) x0 (ix3 0 s 0) = rv (xr x0 s) := by
  unfold rv xr
  pointwise [val_main_v9, val_main_v8, val_main_v7, val_main_v6, val_main_v5, val_main_v4, val_main_v3, val_main_cst, val_main_cst_0, val_main_cst_1]

theorem rs_eq (s : Fin 2048) : val_main_v10 (F := Ideal) x0 (ix3 0 s 0) = Ideal.rsqrt (rv (xr x0 s)) := by
  rw [← mean_eq]; rfl

theorem xhat_eq (s : Fin 2048) (k : Fin 1024) : val_main_v15 (F := Ideal) x0 (ix3 0 s k) = xhat (xr x0 s) k := by
  unfold xhat
  rw [← rs_eq]
  unfold xr
  pointwise [val_main_v15, val_main_v14]

theorem sc_eq (s : Fin 2048) (k : Fin 1024) : val_main_v22 (F := Ideal) x2 (ix3 0 s k) = Ideal.ofBits .f32 0x3F800000#32 + sc x2 k := by
  unfold sc
  pointwise [val_main_v22, val_main_v21, val_main_v20, val_main_v19, val_main_v1, val_main_cst_3]

/-! ## The gradient of the pooled rows -/

theorem ou_eq (s : Fin 2048) (k : Fin 1024) : val_main_v124 (F := Ideal) x2 x4 x5 (ix3 0 s k) = ou x2 x4 x5 s k := by
  unfold ou doR gt cr
  pointwise [val_main_v124, val_main_v123, val_main_v116, val_main_v115, val_main_v114, val_main_v108, val_main_v27, val_main_v2]

theorem count_word : ∀ n : Fin 2048, ∀ g : Fin 4,
    (IntOp.minsi (IntOp.addi (BitVec.ofNat 32 n.val) 1#32) (BitVec.ofNat 32 (wd g))).toInt = (min (n.val + 1) (wd g) : ℕ) := by
  decide +kernel

theorem cn_word (n : Fin 2048) (g : Fin 4) :
    FloatOps.sitofp (F := Ideal) FTy.f32 (IntOp.minsi (IntOp.addi (BitVec.ofNat 32 n.val) 1#32) (BitVec.ofNat 32 (wd g))) = cn (wd g) n.val := by
  unfold cn
  have e : ((min (n.val + 1) (wd g) : ℕ) : ℝ) = (((min (n.val + 1) (wd g) : ℕ) : ℤ) : ℝ) := by norm_cast
  rw [e, ← count_word n g]
  rfl

/-- A group's columns among all of them. -/
theorem in_col (lo : ℕ) (g0 : Fin 4) (hlo : lo = g0.val * 256) (y : Fin 256 → EReal) (g : Fin 4) (a : Fin 256) :
    (if h : lo ≤ (colG g a).val ∧ (colG g a).val - lo < 256 then y ⟨(colG g a).val - lo, h.2⟩ else 0) = if g = g0 then y a else 0 := by
  have e : (colG g a).val = g.val * 256 + a.val := rfl
  by_cases h : g = g0
  · subst h
    rw [dif_pos (by omega), if_pos rfl]
    exact congrArg y (Fin.ext (by show (colG g a).val - lo = a.val; omega))
  · rw [dif_neg (fun hh => h (Fin.ext (by omega))), if_neg h]

theorem in_col0 (y : Fin 256 → EReal) (g : Fin 4) (a : Fin 256) :
    (if h : (colG g a).val < 256 then y ⟨(colG g a).val, h⟩ else 0) = if g = 0 then y a else 0 := by
  have e : (colG g a).val = g.val * 256 + a.val := rfl
  by_cases h : g = 0
  · subst h
    rw [dif_pos (by rw [e]; show 0 * 256 + a.val < 256; omega), if_pos rfl]
    exact congrArg y (Fin.ext (by rw [e]; show 0 * 256 + a.val = a.val; omega))
  · rw [dif_neg (fun hh => h (Fin.ext (by show g.val = 0; omega))), if_neg h]

theorem pick (f : Fin 4 → EReal) (g : Fin 4) :
    (((if g = 3 then f 3 else 0) + (if g = 2 then f 2 else 0)) + (if g = 1 then f 1 else 0)) + (if g = 0 then f 0 else 0) = f g := by
  match g with
  | 0 => simp
  | 1 => simp
  | 2 => simp
  | 3 => simp

theorem ev_lt (g : Fin 4) (a : Fin 256) (s : Fin 2048) : ev x2 x3 x4 x5 g a s.val = Ideal.div (dp x2 x3 x4 x5 s g a) (cn (wd g) s.val) := by
  unfold ev ek dp
  rw [dif_pos s.isLt]

theorem below (g : Fin 4) (a : Fin 256) (n : ℕ) :
    (if h : n < 2048 then -Ideal.div (dp x2 x3 x4 x5 ⟨n, h⟩ g a) (cn (wd g) n) else 0) = -ev x2 x3 x4 x5 g a n := by
  unfold ev ek dp
  by_cases h : n < 2048
  · rw [dif_pos h, dif_pos h]
  · rw [dif_neg h, dif_neg h, neg_zero]

theorem dp3_eq (s : Fin 2048) (a : Fin 256) : val_main_v132 (F := Ideal) x2 x3 x4 x5 (ix3 0 s a) = dp x2 x3 x4 x5 s 3 a := by
  unfold dp dpR
  have e : ∀ b, doR (gt x2) (fun k => x4 (ix1 k)) (cr x5) s (colG 3 b) = val_main_v129 (F := Ideal) x2 x4 x5 (ix3 0 s b) := fun b => by
    rw [show doR (gt x2) (fun k => x4 (ix1 k)) (cr x5) s (colG 3 b) = ou x2 x4 x5 s (colG 3 b) from rfl, ← ou_eq]
    pointwise [val_main_v129]
    exact congrArg (fun k => val_main_v124 (F := Ideal) x2 x4 x5 (ix3 0 s k)) (Fin.ext (by show 3 * 256 + b.val = 768 + b.val; omega))
  simp only [e]
  pointwise [val_main_v132, val_main_v104, val_main_v103]

theorem dv3_eq (s : Fin 2048) (a : Fin 256) : val_main_v138 (F := Ideal) x2 x3 x4 x5 (ix3 0 s a) = Ideal.div (dp x2 x3 x4 x5 s 3 a) (cn (wd 3) s.val) := by
  rw [← dp3_eq, ← cn_word s 3]
  pointwise [val_main_v138, val_main_v137, val_main_v97, val_main_v96, val_main_v95, val_main_v94, val_main_v93, val_main_v92, val_main_v29, val_main_c_17, val_main_c_18]
  rfl

theorem df3_eq (s : Fin 2048) (a : Fin 256) : val_main_v143 (F := Ideal) x2 x3 x4 x5 (ix3 0 s a)
    = ev x2 x3 x4 x5 3 a s.val + -ev x2 x3 x4 x5 3 a (s.val + wd 3) := by
  rw [ev_lt, ← dv3_eq, ← below, show s.val + wd 3 = 16 + s.val from Nat.add_comm _ _]
  simp only [← dv3_eq]
  have e : ∀ h : 16 + s.val < 2048, Ideal.div (dp x2 x3 x4 x5 ⟨16 + s.val, h⟩ 3 a) (cn (wd 3) (16 + s.val))
      = val_main_v138 (F := Ideal) x2 x3 x4 x5 (ix3 0 ⟨16 + s.val, h⟩ a) := fun h => (dv3_eq x2 x3 x4 x5 ⟨16 + s.val, h⟩ a).symm
  simp only [e]
  pointwise [val_main_v143, val_main_v142, val_main_v140, val_main_v139, val_main_cst_24]

theorem up3_eq (s : Fin 2048) (g : Fin 4) (a : Fin 256) : val_main_v144 (F := Ideal) x2 x3 x4 x5 (ix3 0 s (colG g a))
    = if g = 3 then ev x2 x3 x4 x5 3 a s.val + -ev x2 x3 x4 x5 3 a (s.val + wd 3) else 0 := by
  rw [← df3_eq]
  refine Eq.trans ?_ (in_col 768 3 rfl (fun a => val_main_v143 (F := Ideal) x2 x3 x4 x5 (ix3 0 s a)) g a)
  generalize colG g a = k
  pointwise [val_main_v144, val_main_cst_25]

theorem ne3_eq (s : Fin 2048) (g : Fin 4) (a : Fin 256) : val_main_v136 (F := Ideal) x2 x3 x4 x5 (ix3 0 s (colG g a))
    = if g = 3 then -dp x2 x3 x4 x5 s 3 a else 0 := by
  rw [← dp3_eq]
  refine Eq.trans ?_ (in_col 768 3 rfl (fun a => -val_main_v132 (F := Ideal) x2 x3 x4 x5 (ix3 0 s a)) g a)
  generalize colG g a = k
  pointwise [val_main_v136, val_main_v135, val_main_cst_23]

theorem dp2_eq (s : Fin 2048) (a : Fin 256) : val_main_v147 (F := Ideal) x2 x3 x4 x5 (ix3 0 s a) = dp x2 x3 x4 x5 s 2 a := by
  unfold dp dpR
  have e : ∀ b, doR (gt x2) (fun k => x4 (ix1 k)) (cr x5) s (colG 2 b) = val_main_v128 (F := Ideal) x2 x4 x5 (ix3 0 s b) := fun b => by
    rw [show doR (gt x2) (fun k => x4 (ix1 k)) (cr x5) s (colG 2 b) = ou x2 x4 x5 s (colG 2 b) from rfl, ← ou_eq]
    pointwise [val_main_v128]
    exact congrArg (fun k => val_main_v124 (F := Ideal) x2 x4 x5 (ix3 0 s k)) (Fin.ext (by show 2 * 256 + b.val = 512 + b.val; omega))
  simp only [e]
  pointwise [val_main_v147, val_main_v85, val_main_v84]

theorem dv2_eq (s : Fin 2048) (a : Fin 256) : val_main_v155 (F := Ideal) x2 x3 x4 x5 (ix3 0 s a) = Ideal.div (dp x2 x3 x4 x5 s 2 a) (cn (wd 2) s.val) := by
  rw [← dp2_eq, ← cn_word s 2]
  pointwise [val_main_v155, val_main_v154, val_main_v78, val_main_v77, val_main_v76, val_main_v75, val_main_v74, val_main_v73, val_main_v29, val_main_c_13, val_main_c_14]
  rfl

theorem df2_eq (s : Fin 2048) (a : Fin 256) : val_main_v160 (F := Ideal) x2 x3 x4 x5 (ix3 0 s a)
    = ev x2 x3 x4 x5 2 a s.val + -ev x2 x3 x4 x5 2 a (s.val + wd 2) := by
  rw [ev_lt, ← dv2_eq, ← below, show s.val + wd 2 = 8 + s.val from Nat.add_comm _ _]
  simp only [← dv2_eq]
  have e : ∀ h : 8 + s.val < 2048, Ideal.div (dp x2 x3 x4 x5 ⟨8 + s.val, h⟩ 2 a) (cn (wd 2) (8 + s.val))
      = val_main_v155 (F := Ideal) x2 x3 x4 x5 (ix3 0 ⟨8 + s.val, h⟩ a) := fun h => (dv2_eq x2 x3 x4 x5 ⟨8 + s.val, h⟩ a).symm
  simp only [e]
  pointwise [val_main_v160, val_main_v159, val_main_v157, val_main_v156, val_main_cst_28]

theorem up2_eq (s : Fin 2048) (g : Fin 4) (a : Fin 256) : val_main_v161 (F := Ideal) x2 x3 x4 x5 (ix3 0 s (colG g a))
    = if g = 2 then ev x2 x3 x4 x5 2 a s.val + -ev x2 x3 x4 x5 2 a (s.val + wd 2) else 0 := by
  rw [← df2_eq]
  refine Eq.trans ?_ (in_col 512 2 rfl (fun a => val_main_v160 (F := Ideal) x2 x3 x4 x5 (ix3 0 s a)) g a)
  generalize colG g a = k
  pointwise [val_main_v161, val_main_cst_29]

theorem ne2_eq (s : Fin 2048) (g : Fin 4) (a : Fin 256) : val_main_v152 (F := Ideal) x2 x3 x4 x5 (ix3 0 s (colG g a))
    = if g = 2 then -dp x2 x3 x4 x5 s 2 a else 0 := by
  rw [← dp2_eq]
  refine Eq.trans ?_ (in_col 512 2 rfl (fun a => -val_main_v147 (F := Ideal) x2 x3 x4 x5 (ix3 0 s a)) g a)
  generalize colG g a = k
  pointwise [val_main_v152, val_main_v151, val_main_cst_27]

theorem dp1_eq (s : Fin 2048) (a : Fin 256) : val_main_v165 (F := Ideal) x2 x3 x4 x5 (ix3 0 s a) = dp x2 x3 x4 x5 s 1 a := by
  unfold dp dpR
  have e : ∀ b, doR (gt x2) (fun k => x4 (ix1 k)) (cr x5) s (colG 1 b) = val_main_v127 (F := Ideal) x2 x4 x5 (ix3 0 s b) := fun b => by
    rw [show doR (gt x2) (fun k => x4 (ix1 k)) (cr x5) s (colG 1 b) = ou x2 x4 x5 s (colG 1 b) from rfl, ← ou_eq]
    pointwise [val_main_v127]
    exact congrArg (fun k => val_main_v124 (F := Ideal) x2 x4 x5 (ix3 0 s k)) (Fin.ext (by show 1 * 256 + b.val = 256 + b.val; omega))
  simp only [e]
  pointwise [val_main_v165, val_main_v66, val_main_v65]

theorem dv1_eq (s : Fin 2048) (a : Fin 256) : val_main_v173 (F := Ideal) x2 x3 x4 x5 (ix3 0 s a) = Ideal.div (dp x2 x3 x4 x5 s 1 a) (cn (wd 1) s.val) := by
  rw [← dp1_eq, ← cn_word s 1]
  pointwise [val_main_v173, val_main_v172, val_main_v59, val_main_v58, val_main_v57, val_main_v56, val_main_v55, val_main_v54, val_main_v29, val_main_c_9, val_main_c_10]
  rfl

theorem df1_eq (s : Fin 2048) (a : Fin 256) : val_main_v178 (F := Ideal) x2 x3 x4 x5 (ix3 0 s a)
    = ev x2 x3 x4 x5 1 a s.val + -ev x2 x3 x4 x5 1 a (s.val + wd 1) := by
  rw [ev_lt, ← dv1_eq, ← below, show s.val + wd 1 = 4 + s.val from Nat.add_comm _ _]
  simp only [← dv1_eq]
  have e : ∀ h : 4 + s.val < 2048, Ideal.div (dp x2 x3 x4 x5 ⟨4 + s.val, h⟩ 1 a) (cn (wd 1) (4 + s.val))
      = val_main_v173 (F := Ideal) x2 x3 x4 x5 (ix3 0 ⟨4 + s.val, h⟩ a) := fun h => (dv1_eq x2 x3 x4 x5 ⟨4 + s.val, h⟩ a).symm
  simp only [e]
  pointwise [val_main_v178, val_main_v177, val_main_v175, val_main_v174, val_main_cst_32]

theorem up1_eq (s : Fin 2048) (g : Fin 4) (a : Fin 256) : val_main_v179 (F := Ideal) x2 x3 x4 x5 (ix3 0 s (colG g a))
    = if g = 1 then ev x2 x3 x4 x5 1 a s.val + -ev x2 x3 x4 x5 1 a (s.val + wd 1) else 0 := by
  rw [← df1_eq]
  refine Eq.trans ?_ (in_col 256 1 rfl (fun a => val_main_v178 (F := Ideal) x2 x3 x4 x5 (ix3 0 s a)) g a)
  generalize colG g a = k
  pointwise [val_main_v179, val_main_cst_33]

theorem ne1_eq (s : Fin 2048) (g : Fin 4) (a : Fin 256) : val_main_v170 (F := Ideal) x2 x3 x4 x5 (ix3 0 s (colG g a))
    = if g = 1 then -dp x2 x3 x4 x5 s 1 a else 0 := by
  rw [← dp1_eq]
  refine Eq.trans ?_ (in_col 256 1 rfl (fun a => -val_main_v165 (F := Ideal) x2 x3 x4 x5 (ix3 0 s a)) g a)
  generalize colG g a = k
  pointwise [val_main_v170, val_main_v169, val_main_cst_31]

theorem dp0_eq (s : Fin 2048) (a : Fin 256) : val_main_v183 (F := Ideal) x2 x3 x4 x5 (ix3 0 s a) = dp x2 x3 x4 x5 s 0 a := by
  unfold dp dpR
  have e : ∀ b, doR (gt x2) (fun k => x4 (ix1 k)) (cr x5) s (colG 0 b) = val_main_v126 (F := Ideal) x2 x4 x5 (ix3 0 s b) := fun b => by
    rw [show doR (gt x2) (fun k => x4 (ix1 k)) (cr x5) s (colG 0 b) = ou x2 x4 x5 s (colG 0 b) from rfl, ← ou_eq]
    pointwise [val_main_v126]
    exact congrArg (fun k => val_main_v124 (F := Ideal) x2 x4 x5 (ix3 0 s k)) (Fin.ext (by show 0 * 256 + b.val = b.val; omega))
  simp only [e]
  pointwise [val_main_v183, val_main_v47, val_main_v46]

theorem dv0_eq (s : Fin 2048) (a : Fin 256) : val_main_v191 (F := Ideal) x2 x3 x4 x5 (ix3 0 s a) = Ideal.div (dp x2 x3 x4 x5 s 0 a) (cn (wd 0) s.val) := by
  rw [← dp0_eq, ← cn_word s 0]
  pointwise [val_main_v191, val_main_v190, val_main_v40, val_main_v39, val_main_v38, val_main_v37, val_main_v36, val_main_v35, val_main_v29, val_main_c, val_main_c_6]
  rfl

theorem df0_eq (s : Fin 2048) (a : Fin 256) : val_main_v196 (F := Ideal) x2 x3 x4 x5 (ix3 0 s a)
    = ev x2 x3 x4 x5 0 a s.val + -ev x2 x3 x4 x5 0 a (s.val + wd 0) := by
  rw [ev_lt, ← dv0_eq, ← below, show s.val + wd 0 = 2 + s.val from Nat.add_comm _ _]
  simp only [← dv0_eq]
  have e : ∀ h : 2 + s.val < 2048, Ideal.div (dp x2 x3 x4 x5 ⟨2 + s.val, h⟩ 0 a) (cn (wd 0) (2 + s.val))
      = val_main_v191 (F := Ideal) x2 x3 x4 x5 (ix3 0 ⟨2 + s.val, h⟩ a) := fun h => (dv0_eq x2 x3 x4 x5 ⟨2 + s.val, h⟩ a).symm
  simp only [e]
  pointwise [val_main_v196, val_main_v195, val_main_v193, val_main_v192, val_main_cst_36]

theorem up0_eq (s : Fin 2048) (g : Fin 4) (a : Fin 256) : val_main_v197 (F := Ideal) x2 x3 x4 x5 (ix3 0 s (colG g a))
    = if g = 0 then ev x2 x3 x4 x5 0 a s.val + -ev x2 x3 x4 x5 0 a (s.val + wd 0) else 0 := by
  rw [← df0_eq]
  refine Eq.trans ?_ (in_col0 (fun a => val_main_v196 (F := Ideal) x2 x3 x4 x5 (ix3 0 s a)) g a)
  generalize colG g a = k
  pointwise [val_main_v197, val_main_cst_37]

theorem ne0_eq (s : Fin 2048) (g : Fin 4) (a : Fin 256) : val_main_v188 (F := Ideal) x2 x3 x4 x5 (ix3 0 s (colG g a))
    = if g = 0 then -dp x2 x3 x4 x5 s 0 a else 0 := by
  rw [← dp0_eq]
  refine Eq.trans ?_ (in_col0 (fun a => -val_main_v183 (F := Ideal) x2 x3 x4 x5 (ix3 0 s a)) g a)
  generalize colG g a = k
  pointwise [val_main_v188, val_main_v187, val_main_cst_35]

theorem sum_up (s : Fin 2048) (g : Fin 4) (a : Fin 256) : val_main_v198 (F := Ideal) x2 x3 x4 x5 (ix3 0 s (colG g a))
    = ev x2 x3 x4 x5 g a s.val + -ev x2 x3 x4 x5 g a (s.val + wd g) := by
  rw [← pick (fun g => ev x2 x3 x4 x5 g a s.val + -ev x2 x3 x4 x5 g a (s.val + wd g)) g]
  simp only [← up0_eq x2 x3 x4 x5 s g a, ← up1_eq x2 x3 x4 x5 s g a, ← up2_eq x2 x3 x4 x5 s g a, ← up3_eq x2 x3 x4 x5 s g a]
  generalize colG g a = k
  pointwise [val_main_v198, val_main_v180, val_main_v162]

theorem sum_ne (s : Fin 2048) (g : Fin 4) (a : Fin 256) : val_main_v189 (F := Ideal) x2 x3 x4 x5 (ix3 0 s (colG g a)) = -dp x2 x3 x4 x5 s g a := by
  rw [← pick (fun g => -dp x2 x3 x4 x5 s g a) g]
  simp only [← ne0_eq x2 x3 x4 x5 s g a, ← ne1_eq x2 x3 x4 x5 s g a, ← ne2_eq x2 x3 x4 x5 s g a, ← ne3_eq x2 x3 x4 x5 s g a]
  generalize colG g a = k
  pointwise [val_main_v189, val_main_v171, val_main_v153]

theorem win_eq (s : Fin 2048) (k : Fin 1024) : val_main_v199 (F := Ideal) x2 x3 x4 x5 (ix3 0 s k)
    = ∑ q ∈ Finset.range 2048, (if h : s.val + q < 2048 then val_main_v198 (F := Ideal) x2 x3 x4 x5 (ix3 0 ⟨s.val + q, h⟩ k) else 0) := by
  have e0 : val_main_call1_call0_v0 (F := Ideal) (fun a => a.elim0) = 0 := by
    pointwise [val_main_call1_call0_v0, val_main_call1_call0_cst]
  unfold val_main_v199
  generalize val_main_v198 (F := Ideal) x2 x3 x4 x5 = y
  refine Eq.trans ?_ (window_sum reduceWindows_S1x2048x1024_S1x2048x1024_w1s1p0_0_w2048s1p0_2047_w1s1p0_0 y s k)
  generalize (ix3 0 s k : (⟨3, ![1, 2048, 1024]⟩ : Shape).Idx) = i
  generalize val_main_call1_call0_v0 (F := Ideal) = z at *
  unfold Host.reduceWindowAdd
  rw [show z (Shape.Idx.first h_S_) = 0 from (congrArg z (funext fun a => a.elim0)).trans e0]
  rfl

section Finite

variable (f2 : ∀ i, IsR (x2 i)) (f3 : ∀ i, IsR (x3 i)) (f4 : ∀ i, IsR (x4 i)) (f5 : ∀ i, IsR (x5 i))

include f2 f3 f4 f5 in
theorem dp_isR (s : Fin 2048) (g : Fin 4) (a : Fin 256) : IsR (dp x2 x3 x4 x5 s g a) := by
  unfold dp dpR
  exact IsR.sum _ fun b _ => (((f2 _).mul (f5 _)).mul (f4 _)).mul (f3 _)

include f2 f3 f4 f5 in
theorem ev_isR (g : Fin 4) (a : Fin 256) (n : ℕ) : IsR (ev x2 x3 x4 x5 g a n) := by
  by_cases h : n < 2048
  · rw [show ev x2 x3 x4 x5 g a n = Ideal.div (dp x2 x3 x4 x5 ⟨n, h⟩ g a) (cn (wd g) n) from ev_lt x2 x3 x4 x5 g a ⟨n, h⟩]
    have hc : (((min (n + 1) (wd g) : ℕ) : ℝ)) ≠ 0 := by
      have : 0 < min (n + 1) (wd g) := Nat.lt_min.mpr ⟨Nat.succ_pos n, by revert g; decide⟩
      exact_mod_cast this.ne'
    unfold cn
    rw [Ideal.div_coe hc]
    exact (dp_isR x2 x3 x4 x5 f2 f3 f4 f5 _ _ _).mul ⟨_, rfl⟩
  · unfold ev ek
    rw [dif_neg h]
    exact IsR.zero

include f2 f3 f4 f5

theorem dh_eq (s : Fin 2048) (k : Fin 1024) : val_main_v200 (F := Ideal) x2 x3 x4 x5 (ix3 0 s k) = dh x2 x3 x4 x5 s k := by
  obtain ⟨g, a, rfl⟩ := col_surj k
  have e : val_main_v200 (F := Ideal) x2 x3 x4 x5 (ix3 0 s (colG g a))
      = val_main_v189 (F := Ideal) x2 x3 x4 x5 (ix3 0 s (colG g a)) + val_main_v199 (F := Ideal) x2 x3 x4 x5 (ix3 0 s (colG g a)) := by
    generalize colG g a = k
    pointwise [val_main_v200]
  rw [e, sum_ne, win_eq]
  simp only [sum_up]
  unfold dh
  rw [dhP_col, dhG, sub_eq_add_neg, add_comm]
  refine congrArg (· + _) ?_
  have t := telescope' (ev x2 x3 x4 x5 g a) (wd g) s.val s.isLt (ev_isR x2 x3 x4 x5 f2 f3 f4 f5 g a)
    (fun n hn => by unfold ev ek; rw [dif_neg (by omega)])
  refine Eq.trans ?_ t
  refine Finset.sum_congr rfl fun q _ => ?_
  by_cases h : s.val + q < 2048
  · rw [dif_pos h, if_pos h]
  · rw [dif_neg h, if_neg h]

omit f2 f3 f4 f5

end Finite

/-! ## The weights' gradient -/

local notation "DW" => dot_S1x2048x256_S1x2048x256_S256x256_01_01_2_2_n_n

/-- The index of the contraction over the rows. -/
def rows : Fin 2048 ≃ (DW).contr.Idx where
  toFun p := fun a => match a with
    | ⟨0, _⟩ => ⟨0, Nat.one_pos⟩
    | ⟨1, _⟩ => p
  invFun q := q ⟨1, by decide⟩
  left_inv p := rfl
  right_inv q := by
    funext a
    match a with
    | ⟨0, h⟩ => exact Fin.ext (by have : (q ⟨0, h⟩).val < 1 := (q ⟨0, h⟩).isLt; show 0 = (q ⟨0, h⟩).val; omega)
    | ⟨1, _⟩ => rfl

theorem dot_rows (y0 y1 : FVec Ideal S1x2048x256 .f32) (b a : Fin 256) :
    Host.dotGeneral DW none y0 y1 (ix2 b a) = ∑ s : Fin 2048, y0 (ix3 0 s b) * y1 (ix3 0 s a) := by
  simp only [Host.dotGeneral]
  rw [Ideal.dotGeneral_apply, ← Equiv.sum_comp rows]
  refine Finset.sum_congr rfl fun s _ => ?_
  refine congrArg₂ (· * ·) (congrArg y0 (funext fun x => ?_)) (congrArg y1 (funext fun x => ?_))
  · match x with
    | ⟨0, _⟩ => exact Fin.ext (show ((DW).lhsIdx (ix2 b a) (rows s) (0 : Fin S1x2048x256.rank)).val = (0 : Fin 1).val by unfold DotDims.lhsIdx; rw [dif_neg (show ¬ (0 : Fin S1x2048x256.rank) ∈ (DW).lhsBatch by decide), dif_neg (show ¬ (0 : Fin S1x2048x256.rank) ∈ (DW).lhsNonContracting by decide)]; rfl)
    | ⟨1, _⟩ => exact Fin.ext (show ((DW).lhsIdx (ix2 b a) (rows s) (1 : Fin S1x2048x256.rank)).val = s.val by unfold DotDims.lhsIdx; rw [dif_neg (show ¬ (1 : Fin S1x2048x256.rank) ∈ (DW).lhsBatch by decide), dif_neg (show ¬ (1 : Fin S1x2048x256.rank) ∈ (DW).lhsNonContracting by decide)]; rfl)
    | ⟨2, _⟩ => exact Fin.ext (show ((DW).lhsIdx (ix2 b a) (rows s) (2 : Fin S1x2048x256.rank)).val = b.val by unfold DotDims.lhsIdx; rw [dif_neg (show ¬ (2 : Fin S1x2048x256.rank) ∈ (DW).lhsBatch by decide), dif_pos (show (2 : Fin S1x2048x256.rank) ∈ (DW).lhsNonContracting by decide)]; rfl)
  · match x with
    | ⟨0, _⟩ => exact Fin.ext (show ((DW).rhsIdx (ix2 b a) (rows s) (0 : Fin S1x2048x256.rank)).val = (0 : Fin 1).val by unfold DotDims.rhsIdx; rw [dif_neg (show ¬ (0 : Fin S1x2048x256.rank) ∈ (DW).rhsBatch by decide), dif_neg (show ¬ (0 : Fin S1x2048x256.rank) ∈ (DW).rhsNonContracting by decide)]; rfl)
    | ⟨1, _⟩ => exact Fin.ext (show ((DW).rhsIdx (ix2 b a) (rows s) (1 : Fin S1x2048x256.rank)).val = s.val by unfold DotDims.rhsIdx; rw [dif_neg (show ¬ (1 : Fin S1x2048x256.rank) ∈ (DW).rhsBatch by decide), dif_neg (show ¬ (1 : Fin S1x2048x256.rank) ∈ (DW).rhsNonContracting by decide)]; rfl)
    | ⟨2, _⟩ => exact Fin.ext (show ((DW).rhsIdx (ix2 b a) (rows s) (2 : Fin S1x2048x256.rank)).val = a.val by unfold DotDims.rhsIdx; rw [dif_neg (show ¬ (2 : Fin S1x2048x256.rank) ∈ (DW).rhsBatch by decide), dif_pos (show (2 : Fin S1x2048x256.rank) ∈ (DW).rhsNonContracting by decide)]; rfl)

def dws (g : Fin 4) (a b : Fin 256) : EReal := ∑ s, val_main_v106 (F := Ideal) x0 x1 x2 (ix3 0 s (colG g a)) * ou x2 x4 x5 s (colG g b)

theorem pool3_eq (s : Fin 2048) (a : Fin 256) : val_main_v106 (F := Ideal) x0 x1 x2 (ix3 0 s (colG 3 a)) = val_main_v102 (F := Ideal) x0 x1 x2 (ix3 0 s a) := by
  have e : ∀ k : Fin 1024, k.val = 3 * 256 + a.val → val_main_v106 (F := Ideal) x0 x1 x2 (ix3 0 s k) = val_main_v102 (F := Ideal) x0 x1 x2 (ix3 0 s a) := fun k hk => by
    pointwise [val_main_v106]
    rw [dif_neg (by omega), dif_neg (by omega), dif_neg (by omega)]
    exact congrArg (fun a => val_main_v102 (F := Ideal) x0 x1 x2 (ix3 0 s a)) (Fin.ext (by show k.val - 256 - 256 - 256 = a.val; omega))
  exact e _ rfl

theorem dw3_eq (a b : Fin 256) : val_main_v133 (F := Ideal) x0 x1 x2 x4 x5 (ix3 0 a b) = dws x0 x1 x2 x4 x5 3 a b := by
  have e1 : val_main_v133 (F := Ideal) x0 x1 x2 x4 x5 (ix3 0 a b) = val_main_v130 (F := Ideal) x0 x1 x2 x4 x5 (ix2 b a) := by
    pointwise [val_main_v133, val_main_v131]
  rw [e1]
  unfold val_main_v130 dws
  rw [dot_rows]
  refine Finset.sum_congr rfl fun s _ => ?_
  rw [pool3_eq, mul_comm, ← ou_eq]
  refine congrArg₂ (· * ·) rfl ?_
  pointwise [val_main_v129]
  exact congrArg (fun k => val_main_v124 (F := Ideal) x2 x4 x5 (ix3 0 s k)) (Fin.ext (by show 768 + b.val = 3 * 256 + b.val; omega))

theorem pool2_eq (s : Fin 2048) (a : Fin 256) : val_main_v106 (F := Ideal) x0 x1 x2 (ix3 0 s (colG 2 a)) = val_main_v83 (F := Ideal) x0 x1 x2 (ix3 0 s a) := by
  have e : ∀ k : Fin 1024, k.val = 2 * 256 + a.val → val_main_v106 (F := Ideal) x0 x1 x2 (ix3 0 s k) = val_main_v83 (F := Ideal) x0 x1 x2 (ix3 0 s a) := fun k hk => by
    pointwise [val_main_v106]
    rw [dif_neg (by omega), dif_neg (by omega), dif_pos (by omega)]
    exact congrArg (fun a => val_main_v83 (F := Ideal) x0 x1 x2 (ix3 0 s a)) (Fin.ext (by show k.val - 256 - 256 = a.val; omega))
  exact e _ rfl

theorem dw2_eq (a b : Fin 256) : val_main_v148 (F := Ideal) x0 x1 x2 x4 x5 (ix3 0 a b) = dws x0 x1 x2 x4 x5 2 a b := by
  have e1 : val_main_v148 (F := Ideal) x0 x1 x2 x4 x5 (ix3 0 a b) = val_main_v145 (F := Ideal) x0 x1 x2 x4 x5 (ix2 b a) := by
    pointwise [val_main_v148, val_main_v146]
  rw [e1]
  unfold val_main_v145 dws
  rw [dot_rows]
  refine Finset.sum_congr rfl fun s _ => ?_
  rw [pool2_eq, mul_comm, ← ou_eq]
  refine congrArg₂ (· * ·) rfl ?_
  pointwise [val_main_v128]
  exact congrArg (fun k => val_main_v124 (F := Ideal) x2 x4 x5 (ix3 0 s k)) (Fin.ext (by show 512 + b.val = 2 * 256 + b.val; omega))

theorem pool1_eq (s : Fin 2048) (a : Fin 256) : val_main_v106 (F := Ideal) x0 x1 x2 (ix3 0 s (colG 1 a)) = val_main_v64 (F := Ideal) x0 x1 x2 (ix3 0 s a) := by
  have e : ∀ k : Fin 1024, k.val = 1 * 256 + a.val → val_main_v106 (F := Ideal) x0 x1 x2 (ix3 0 s k) = val_main_v64 (F := Ideal) x0 x1 x2 (ix3 0 s a) := fun k hk => by
    pointwise [val_main_v106]
    rw [dif_neg (by omega), dif_pos (by omega)]
    exact congrArg (fun a => val_main_v64 (F := Ideal) x0 x1 x2 (ix3 0 s a)) (Fin.ext (by show k.val - 256 = a.val; omega))
  exact e _ rfl

theorem dw1_eq (a b : Fin 256) : val_main_v166 (F := Ideal) x0 x1 x2 x4 x5 (ix3 0 a b) = dws x0 x1 x2 x4 x5 1 a b := by
  have e1 : val_main_v166 (F := Ideal) x0 x1 x2 x4 x5 (ix3 0 a b) = val_main_v163 (F := Ideal) x0 x1 x2 x4 x5 (ix2 b a) := by
    pointwise [val_main_v166, val_main_v164]
  rw [e1]
  unfold val_main_v163 dws
  rw [dot_rows]
  refine Finset.sum_congr rfl fun s _ => ?_
  rw [pool1_eq, mul_comm, ← ou_eq]
  refine congrArg₂ (· * ·) rfl ?_
  pointwise [val_main_v127]
  exact congrArg (fun k => val_main_v124 (F := Ideal) x2 x4 x5 (ix3 0 s k)) (Fin.ext (by show 256 + b.val = 1 * 256 + b.val; omega))

theorem pool0_eq (s : Fin 2048) (a : Fin 256) : val_main_v106 (F := Ideal) x0 x1 x2 (ix3 0 s (colG 0 a)) = val_main_v45 (F := Ideal) x0 x1 x2 (ix3 0 s a) := by
  have e : ∀ k : Fin 1024, k.val = 0 * 256 + a.val → val_main_v106 (F := Ideal) x0 x1 x2 (ix3 0 s k) = val_main_v45 (F := Ideal) x0 x1 x2 (ix3 0 s a) := fun k hk => by
    pointwise [val_main_v106]
    rw [dif_pos (by omega)]
    exact congrArg (fun a => val_main_v45 (F := Ideal) x0 x1 x2 (ix3 0 s a)) (Fin.ext (by show k.val = a.val; omega))
  exact e _ rfl

theorem dw0_eq (a b : Fin 256) : val_main_v184 (F := Ideal) x0 x1 x2 x4 x5 (ix3 0 a b) = dws x0 x1 x2 x4 x5 0 a b := by
  have e1 : val_main_v184 (F := Ideal) x0 x1 x2 x4 x5 (ix3 0 a b) = val_main_v181 (F := Ideal) x0 x1 x2 x4 x5 (ix2 b a) := by
    pointwise [val_main_v184, val_main_v182]
  rw [e1]
  unfold val_main_v181 dws
  rw [dot_rows]
  refine Finset.sum_congr rfl fun s _ => ?_
  rw [pool0_eq, mul_comm, ← ou_eq]
  refine congrArg₂ (· * ·) rfl ?_
  pointwise [val_main_v126]
  exact congrArg (fun k => val_main_v124 (F := Ideal) x2 x4 x5 (ix3 0 s k)) (Fin.ext (by show b.val = 0 * 256 + b.val; omega))

theorem dw_eq (g : Fin 4) (a b : Fin 256) : val_main_v242 (F := Ideal) x0 x1 x2 x4 x5 (ix3 g a b) = dws x0 x1 x2 x4 x5 g a b := by
  rw [← pick (fun g => dws x0 x1 x2 x4 x5 g a b) g]
  simp only [← dw0_eq x0 x1 x2 x4 x5 a b, ← dw1_eq x0 x1 x2 x4 x5 a b, ← dw2_eq x0 x1 x2 x4 x5 a b, ← dw3_eq x0 x1 x2 x4 x5 a b]
  have u : ∀ (lo : ℕ) (g0 : Fin 4) (_ : lo = g0.val) (y : Fin 1 → EReal),
      (if h : lo ≤ g.val ∧ g.val - lo < 1 then y ⟨g.val - lo, h.2⟩ else 0) = if g = g0 then y 0 else 0 := fun lo g0 h0 y => by
    by_cases h : g = g0
    · subst h
      rw [dif_pos (by omega), if_pos rfl]
      exact congrArg y (Fin.ext (by show g.val - lo = 0; omega))
    · rw [dif_neg (fun hh => h (Fin.ext (by omega))), if_neg h]
  have u0 : ∀ y : Fin 1 → EReal, (if h : g.val < 1 then y ⟨g.val, h⟩ else 0) = if g = 0 then y 0 else 0 := fun y => by
    by_cases h : g = 0
    · subst h
      rw [dif_pos (by decide), if_pos rfl]
      rfl
    · rw [dif_neg (fun hh => h (Fin.ext (by show g.val = 0; omega))), if_neg h]
  rw [← u 3 3 rfl (fun j => val_main_v133 (F := Ideal) x0 x1 x2 x4 x5 (ix3 j a b)), ← u 2 2 rfl (fun j => val_main_v148 (F := Ideal) x0 x1 x2 x4 x5 (ix3 j a b)),
    ← u 1 1 rfl (fun j => val_main_v166 (F := Ideal) x0 x1 x2 x4 x5 (ix3 j a b)), ← u0 (fun j => val_main_v184 (F := Ideal) x0 x1 x2 x4 x5 (ix3 j a b))]
  pointwise [val_main_v242, val_main_v186, val_main_v185, val_main_v168, val_main_v167, val_main_v150, val_main_v149, val_main_v134, val_main_cst_34, val_main_cst_30, val_main_cst_26, val_main_cst_22]

theorem dsc_eq (k : Fin 1024) : val_main_v243 (F := Ideal) x0 x1 x2 x3 x5 (ix2 0 k)
    = ∑ s, gt x2 k * cr x5 s k * val_main_v107 (F := Ideal) x0 x1 x2 x3 (ix3 0 s k) := by
  have e : val_main_v243 (F := Ideal) x0 x1 x2 x3 x5 (ix2 0 k) = val_main_v125 (F := Ideal) x0 x1 x2 x3 x5 (ix1 k) := by
    pointwise [val_main_v243]
  rw [e]
  unfold val_main_v125
  simp only [Host.reduceAdd, Ideal.hostReduceAdd_def]
  rw [hostReduceAdd_last, Fin.sum_univ_one, Fin.sum_univ_one]
  simp only [mul_comm (gt x2 k * cr x5 _ k)]
  unfold gt cr
  pointwise [val_main_v122, val_main_v121, val_main_v120, val_main_v116, val_main_v115, val_main_v114, val_main_v27, val_main_v2, val_main_cst_20, val_main_cst_21]

theorem dgate_eq (k : Fin 1024) : val_main_v202 (F := Ideal) x0 x1 x2 x3 x4 x5 (ix2 0 k)
    = ∑ s, cr x5 s k * (val_main_v107 (F := Ideal) x0 x1 x2 x3 (ix3 0 s k) * x4 (ix1 k)) := by
  have e : val_main_v202 (F := Ideal) x0 x1 x2 x3 x4 x5 (ix2 0 k) = val_main_v201 (F := Ideal) x0 x1 x2 x3 x4 x5 (ix1 k) := by
    pointwise [val_main_v202]
  rw [e]
  unfold val_main_v201
  simp only [Host.reduceAdd, Ideal.hostReduceAdd_def]
  rw [hostReduceAdd_last, Fin.sum_univ_one, Fin.sum_univ_one]
  unfold cr
  pointwise [val_main_v119, val_main_v118, val_main_v117, val_main_v114, val_main_v110, val_main_v109, val_main_v108, val_main_cst_19, val_main_cst_38]

/-! ## The gradient through the norm -/

section Finite

variable (f2 : ∀ i, IsR (x2 i)) (f3 : ∀ i, IsR (x3 i)) (f4 : ∀ i, IsR (x4 i)) (f5 : ∀ i, IsR (x5 i))

include f2 f3 f4 f5

theorem d_eq (s : Fin 2048) (k : Fin 1024) : val_main_v218 (F := Ideal) x1 x2 x3 x4 x5 (ix3 0 s k)
    = dh x2 x3 x4 x5 s k * gm (fun k => x1 (ix1 k)) (sc x2) k := by
  unfold gm
  rw [← dh_eq x2 x3 x4 x5 f2 f3 f4 f5, ← sc_eq x2 s k, mul_comm (x1 (ix1 k)), ← mul_assoc]
  pointwise [val_main_v218, val_main_v217, val_main_v16, val_main_v211, val_main_v210, val_main_v22]

/-- The share of a row's gradient that comes through its mean square. -/
theorem coef_eq (s : Fin 2048) : val_main_v228 (F := Ideal) x0 x1 x2 x3 x4 x5 (ix3 0 s 0)
    = Ideal.div ((∑ k, xr x0 s k * (dh x2 x3 x4 x5 s k * gm (fun k => x1 (ix1 k)) (sc x2) k))
      * (Ideal.ofBits .f32 0xBF000000#32 * Ideal.div (Ideal.rsqrt (rv (xr x0 s))) (rv (xr x0 s))))
      (Ideal.ofBits .f32 0x44800000#32) := by
  simp only [← d_eq x1 x2 x3 x4 x5 f2 f3 f4 f5, ← rs_eq]
  rw [← mean_eq]
  unfold xr
  pointwise [val_main_v228, val_main_v227, val_main_v226, val_main_v222, val_main_v221, val_main_v220, val_main_v13, val_main_v12, val_main_v11,
    val_main_cst_2, val_main_cst_45, val_main_cst_46]

omit f2 f3 f4 f5 in
theorem coef_sum (s : Fin 2048) : val_main_v229 (F := Ideal) x0 x1 x2 x3 x4 x5 (ix1 s) = val_main_v228 (F := Ideal) x0 x1 x2 x3 x4 x5 (ix3 0 s 0) := by
  unfold val_main_v229
  simp only [Host.reduceAdd, Ideal.hostReduceAdd_def]
  rw [hostReduceAdd_mid, Fin.sum_univ_one, Fin.sum_univ_one]
  pointwise [val_main_cst_47]

theorem dx_eq (s : Fin 2048) (k : Fin 1024) : val_main_v241 (F := Ideal) x0 x1 x2 x3 x4 x5 (ix2 s k)
    = cr x5 s k + drow (xr x0 s) (fun k => x1 (ix1 k)) (sc x2) (dh x2 x3 x4 x5 s) k := by
  unfold drow xhat
  rw [rms_grad (xr x0 s) (fun k => dh x2 x3 x4 x5 s k * gm (fun k => x1 (ix1 k)) (sc x2) k),
    ← coef_eq x0 x1 x2 x3 x4 x5 f2 f3 f4 f5, ← coef_sum, ← rs_eq, ← d_eq x1 x2 x3 x4 x5 f2 f3 f4 f5, ← add_assoc, ← add_assoc]
  unfold xr cr
  rw [add_assoc, add_assoc, ← add_assoc (val_main_v218 (F := Ideal) x1 x2 x3 x4 x5 (ix3 0 s k) * _), ← add_assoc, ← add_assoc]
  pointwise [val_main_v241, val_main_v235, val_main_v234, val_main_v233, val_main_v232, val_main_v231, val_main_v230, val_main_v225, val_main_v224, val_main_v223]

theorem dgain_eq (k : Fin 1024) : val_main_v237 (F := Ideal) x0 x2 x3 x4 x5 (ix2 0 k)
    = ∑ s, dgain (xr x0 s) (sc x2) (dh x2 x3 x4 x5 s) k := by
  have e : val_main_v237 (F := Ideal) x0 x2 x3 x4 x5 (ix2 0 k) = val_main_v219 (F := Ideal) x0 x2 x3 x4 x5 (ix1 k) := by
    pointwise [val_main_v237]
  rw [e]
  unfold val_main_v219
  simp only [Host.reduceAdd, Ideal.hostReduceAdd_def]
  rw [hostReduceAdd_last, Fin.sum_univ_one, Fin.sum_univ_one]
  have c : ∀ s, dgain (xr x0 s) (sc x2) (dh x2 x3 x4 x5 s) k
      = val_main_v15 (F := Ideal) x0 (ix3 0 s k) * (val_main_v200 (F := Ideal) x2 x3 x4 x5 (ix3 0 s k) * val_main_v22 (F := Ideal) x2 (ix3 0 s k)) := fun s => by
    rw [dgain, dh_eq x2 x3 x4 x5 f2 f3 f4 f5, xhat_eq, sc_eq, mul_comm (dh x2 x3 x4 x5 s k), mul_assoc]
  simp only [c]
  pointwise [val_main_v216, val_main_v215, val_main_v214, val_main_v211, val_main_v210, val_main_v22, val_main_cst_43, val_main_cst_44]

theorem dshift_eq (k : Fin 1024) : val_main_v206 (F := Ideal) x2 x3 x4 x5 (ix2 0 k) = ∑ s, dh x2 x3 x4 x5 s k := by
  have e : val_main_v206 (F := Ideal) x2 x3 x4 x5 (ix2 0 k) = val_main_v205 (F := Ideal) x2 x3 x4 x5 (ix1 k) := by
    pointwise [val_main_v206]
  rw [e]
  unfold val_main_v205
  simp only [Host.reduceAdd, Ideal.hostReduceAdd_def]
  rw [hostReduceAdd_last, Fin.sum_univ_one, Fin.sum_univ_one]
  simp only [← dh_eq x2 x3 x4 x5 f2 f3 f4 f5]
  pointwise [val_main_v204, val_main_v203, val_main_cst_39, val_main_cst_40]

theorem dscale_eq (k : Fin 1024) : val_main_v213 (F := Ideal) x0 x1 x2 x3 x4 x5 (ix2 0 k)
    = ∑ s, dscale (xr x0 s) (fun k => x1 (ix1 k)) (dh x2 x3 x4 x5 s) k := by
  have e : val_main_v213 (F := Ideal) x0 x1 x2 x3 x4 x5 (ix2 0 k) = val_main_v212 (F := Ideal) x0 x1 x2 x3 x4 x5 (ix1 k) := by
    pointwise [val_main_v213]
  rw [e]
  unfold val_main_v212
  simp only [Host.reduceAdd, Ideal.hostReduceAdd_def]
  rw [hostReduceAdd_last, Fin.sum_univ_one, Fin.sum_univ_one]
  have c : ∀ s, dscale (xr x0 s) (fun k => x1 (ix1 k)) (dh x2 x3 x4 x5 s) k
      = val_main_v15 (F := Ideal) x0 (ix3 0 s k) * x1 (ix1 k) * val_main_v200 (F := Ideal) x2 x3 x4 x5 (ix3 0 s k) := fun s => by
    rw [dscale, dh_eq x2 x3 x4 x5 f2 f3 f4 f5, xhat_eq, mul_assoc, mul_comm (dh x2 x3 x4 x5 s k)]
  simp only [c]
  pointwise [val_main_v209, val_main_v208, val_main_v207, val_main_v18, val_main_v17, val_main_v16, val_main_cst_41, val_main_cst_42]

omit f2 f3 f4 f5 in
/-- The packed vectors, three of them stacked. -/
theorem stack_eq (a : Fin 3) (k : Fin 1024) : val_main_v238 (F := Ideal) x0 x1 x2 x3 x4 x5 (ix2 a k)
    = if a.val = 0 then val_main_v206 (F := Ideal) x2 x3 x4 x5 (ix2 0 k) else if a.val = 1 then val_main_v213 (F := Ideal) x0 x1 x2 x3 x4 x5 (ix2 0 k)
      else val_main_v202 (F := Ideal) x0 x1 x2 x3 x4 x5 (ix2 0 k) := by
  pointwise [val_main_v238, val_main_v236]
  by_cases h0 : a.val = 0
  · rw [dif_pos (by omega), if_pos h0]
    exact congrArg (fun k => val_main_v206 (F := Ideal) x2 x3 x4 x5 (ix2 0 k)) (Fin.ext (by show a.val * 1024 + k.val = k.val; omega))
  rw [dif_neg (by omega), if_neg h0]
  by_cases h1 : a.val = 1
  · rw [dif_pos (by omega), if_pos h1]
    exact congrArg (fun k => val_main_v213 (F := Ideal) x0 x1 x2 x3 x4 x5 (ix2 0 k)) (Fin.ext (by show a.val * 1024 + k.val - 1024 = k.val; omega))
  rw [dif_neg (by omega), if_neg h1]
  exact congrArg (fun k => val_main_v202 (F := Ideal) x0 x1 x2 x3 x4 x5 (ix2 0 k)) (Fin.ext (by show a.val * 1024 + k.val - 1024 - 1024 = k.val; omega))

theorem dvec_eq (a : Fin 8) (k : Fin 1024) : val_main_v240 (F := Ideal) x0 x1 x2 x3 x4 x5 (ix2 a k)
    = rows4 (fun k => ∑ s, dgain (xr x0 s) (sc x2) (dh x2 x3 x4 x5 s) k) (fun k => ∑ s, dh x2 x3 x4 x5 s k)
      (fun k => ∑ s, dscale (xr x0 s) (fun k => x1 (ix1 k)) (dh x2 x3 x4 x5 s) k)
      (fun k => ∑ s, cr x5 s k * (val_main_v107 (F := Ideal) x0 x1 x2 x3 (ix3 0 s k) * x4 (ix1 k))) a k := by
  unfold rows4
  simp only [← dgain_eq x0 x2 x3 x4 x5 f2 f3 f4 f5, ← dshift_eq x2 x3 x4 x5 f2 f3 f4 f5, ← dscale_eq x0 x1 x2 x3 x4 x5 f2 f3 f4 f5]
  rw [← dgate_eq x0 x1 x2 x3 x4 x5 k]
  pointwise [val_main_v240, val_main_v239, val_main_cst_48]
  by_cases h0 : a.val = 0
  · rw [dif_pos (by omega), if_pos h0]
    exact congrArg (fun j => val_main_v237 (F := Ideal) x0 x2 x3 x4 x5 (ix2 j k)) (Fin.ext h0)
  rw [dif_neg (by omega), if_neg h0]
  by_cases h4 : a.val - 1 < 3
  swap
  · rw [dif_neg h4, if_neg (by omega), if_neg (by omega), if_neg (by omega)]
  rw [dif_pos h4, stack_eq]
  by_cases h1 : a.val = 1
  · rw [if_pos (show a.val - 1 = 0 by omega), if_pos h1]
  rw [if_neg (show ¬ a.val - 1 = 0 by omega), if_neg h1]
  by_cases h2 : a.val = 2
  · rw [if_pos (show a.val - 1 = 1 by omega), if_pos h2]
  rw [if_neg (show ¬ a.val - 1 = 1 by omega), if_neg h2, if_pos (show a.val = 3 by omega)]

end Finite

end Cert.PoolBwdRef

end
-- ==== Proof.PoolBwd.lean ====
/- Hand-written, untrusted: the claims of the pooling mixer's backward kernel. -/
module

public import proofs.«01_k».proof.Defs
public import proofs.«01_k».proof.Proof.Gen.PoolBwd.Frame
public import proofs.«01_k».proof.Proof.Gen.Pre_pool_bwd_finite
public import proofs.«01_k».proof.Proof.PoolBwdOut
public import proofs.«01_k».proof.Proof.PoolBwdRef
public import Idealize.ShloMosaic.Lib.Quiescent

@[expose] public section

noncomputable section

namespace Cert.PoolBwd

open Idealize.ShloMosaic Idealize.ShloMosaic.TcCoe Idealize.SL.Sem Cert.Lib

theorem frame_kernel : Cert.quiescent_PoolBwd := fun m ρ _ => Cert.PoolBwd.Gen.frame m ρ

theorem frame_ideal : Cert.quiescent_PoolBwdIdeal := fun m ρ _ => Cert.PoolBwdIdeal.Gen.frame m ρ

theorem frame_ref : Cert.quiescent_PoolBwdRefIdeal := fun m ρ _ =>
  (θ_run Cert.PoolBwdRefIdeal.defs _ _).mono
    (fun r h => ⟨fun c => (h c).2.2.2.2, sem_eq_zero_of_no_sems (by decide) r.2⟩)
    (Cert.PoolBwdRefIdeal.Value.run (F := Ideal) m ρ)

theorem frame_ideal_pre : Cert.quiescent_PoolBwdIdeal_pre_pool_bwd_finite := fun m ρ _ => frame_ideal m ρ trivial

theorem frame_ref_pre : Cert.quiescent_PoolBwdRefIdeal_pre_pool_bwd_finite := fun m ρ _ => frame_ref m ρ trivial

theorem split {x y : IVec Cert.Pre_pool_bwd_finite.S_ 1} (h : andi x y ix0 = 1#1) : x ix0 = 1#1 ∧ y ix0 = 1#1 :=
  IntOp.andi_eq_one.mp h

/-- What the precondition says: every entry of the four arrays it tests is real. -/
theorem finite (m : (ℓ : Loc Cert.PoolBwdIdeal.nD Cert.PoolBwdIdeal.τ Cert.PoolBwdIdeal.sig) → Buf (Elt Ideal) ℓ) (h : Cert.Pre_PoolBwdIdeal_pool_bwd_finite m) (c : Dev Cert.PoolBwdIdeal.nD) :
    (∀ i, IsR (m ((c.tc : Thread Cert.PoolBwdIdeal.nD Cert.PoolBwdIdeal.τ).loc Cert.PoolBwdIdeal.main_arg2) i))
    ∧ (∀ i, IsR (m ((c.tc : Thread Cert.PoolBwdIdeal.nD Cert.PoolBwdIdeal.τ).loc Cert.PoolBwdIdeal.main_arg3) i))
    ∧ (∀ i, IsR (m ((c.tc : Thread Cert.PoolBwdIdeal.nD Cert.PoolBwdIdeal.τ).loc Cert.PoolBwdIdeal.main_arg4) i))
    ∧ (∀ i, IsR (m ((c.tc : Thread Cert.PoolBwdIdeal.nD Cert.PoolBwdIdeal.τ).loc Cert.PoolBwdIdeal.main_arg5) i)) := by
  have h' := congrFun (h c) ix0
  unfold Cert.Pre_pool_bwd_finite.fn Cert.Pre_pool_bwd_finite.fn_part1 at h'
  obtain ⟨h', h4⟩ := split h'
  obtain ⟨h', h3⟩ := split h'
  obtain ⟨h1, h2⟩ := split h'
  exact ⟨isR_of_all _ _ _ _ _ h1, isR_of_all _ _ _ _ _ h2, isR_of_all _ _ _ _ _ h3, isR_of_all _ _ _ _ _ h4⟩

/-- The kernel runs, and its results are the arrays its last step leaves. -/
theorem run_blocks (m : (ℓ : Loc Cert.PoolBwdIdeal.nD Cert.PoolBwdIdeal.τ Cert.PoolBwdIdeal.sig) → Buf (Elt Ideal) ℓ) (ρ : Dev Cert.PoolBwdIdeal.nD → PrngReg) :
    θ_run (Cert.PoolBwdIdeal.defs (F := Ideal)) (onTc (τ := Cert.PoolBwdIdeal.τ) (Cert.PoolBwdIdeal.main (F := Ideal))) ⟨m, fun _ => 0, ρ⟩ (fun r => ∀ c : Dev Cert.PoolBwdIdeal.nD,
      r.2.mem ((c.tc : Thread Cert.PoolBwdIdeal.nD Cert.PoolBwdIdeal.τ).loc Cert.PoolBwdIdeal.main_v115_0) = (Cert.PoolBwdIdeal.Gen.dats m 0 c).arrAt 8 Cert.PoolBwdIdeal.cfg0.N
      ∧ r.2.mem ((c.tc : Thread Cert.PoolBwdIdeal.nD Cert.PoolBwdIdeal.τ).loc Cert.PoolBwdIdeal.main_v115_1) = (Cert.PoolBwdIdeal.Gen.dats m 0 c).arrAt 9 Cert.PoolBwdIdeal.cfg0.N
      ∧ r.2.mem ((c.tc : Thread Cert.PoolBwdIdeal.nD Cert.PoolBwdIdeal.τ).loc Cert.PoolBwdIdeal.main_v115_2) = (Cert.PoolBwdIdeal.Gen.dats m 0 c).arrAt 10 Cert.PoolBwdIdeal.cfg0.N
      ∧ r.2.mem ((c.tc : Thread Cert.PoolBwdIdeal.nD Cert.PoolBwdIdeal.τ).loc Cert.PoolBwdIdeal.main_v115_3) = (Cert.PoolBwdIdeal.Gen.dats m 0 c).arrAt 11 Cert.PoolBwdIdeal.cfg0.N
      ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
      ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5)) :=
  (θ_run Cert.PoolBwdIdeal.defs _ _).mono
    (fun _ h c => ⟨(h.1 c).1 8, (h.1 c).1 9, (h.1 c).1 10, (h.1 c).1 11, h.2.1 c⟩)
    (θ_run_and (Cert.PoolBwdIdeal.Gen.run_main m ρ) (Cert.PoolBwdIdeal.Gen.frame m ρ))

/-! Each of the reference's results, at the kernel's arguments, is the kernel's. -/

theorem dx_eq (m : (ℓ : Loc Cert.PoolBwdIdeal.nD Cert.PoolBwdIdeal.τ Cert.PoolBwdIdeal.sig) → Buf (Elt Ideal) ℓ) (c : Dev Cert.PoolBwdIdeal.nD) (hp : Cert.Pre_PoolBwdIdeal_pool_bwd_finite m) :
    Cert.PoolBwdRefIdeal.Read.val_main_v241 (F := Ideal) (m ((c.tc : Thread Cert.PoolBwdIdeal.nD Cert.PoolBwdIdeal.τ).loc Cert.PoolBwdIdeal.main_arg0))
        (m ((c.tc : Thread Cert.PoolBwdIdeal.nD Cert.PoolBwdIdeal.τ).loc Cert.PoolBwdIdeal.main_arg1))
        (m ((c.tc : Thread Cert.PoolBwdIdeal.nD Cert.PoolBwdIdeal.τ).loc Cert.PoolBwdIdeal.main_arg2))
        (m ((c.tc : Thread Cert.PoolBwdIdeal.nD Cert.PoolBwdIdeal.τ).loc Cert.PoolBwdIdeal.main_arg3))
        (m ((c.tc : Thread Cert.PoolBwdIdeal.nD Cert.PoolBwdIdeal.τ).loc Cert.PoolBwdIdeal.main_arg4))
        (m ((c.tc : Thread Cert.PoolBwdIdeal.nD Cert.PoolBwdIdeal.τ).loc Cert.PoolBwdIdeal.main_arg5))
      = (Cert.PoolBwdIdeal.Gen.dats m 0 c).arrAt 8 Cert.PoolBwdIdeal.cfg0.N := by
  obtain ⟨f2, f3, f4, f5⟩ := finite m hp c
  rw [Cert.PoolBwdOut.value_dx]
  funext i
  have hi : i = ix2 (n0 := 2048) (n1 := 1024) (i 0) (i 1) := by blk_ext
  rw [hi]
  exact Cert.PoolBwdRef.dx_eq _ _ _ _ _ _ f2 f3 f4 f5 (i 0) (i 1)

theorem dw_eq (m : (ℓ : Loc Cert.PoolBwdIdeal.nD Cert.PoolBwdIdeal.τ Cert.PoolBwdIdeal.sig) → Buf (Elt Ideal) ℓ) (c : Dev Cert.PoolBwdIdeal.nD) :
    Cert.PoolBwdRefIdeal.Read.val_main_v242 (F := Ideal) (m ((c.tc : Thread Cert.PoolBwdIdeal.nD Cert.PoolBwdIdeal.τ).loc Cert.PoolBwdIdeal.main_arg0))
        (m ((c.tc : Thread Cert.PoolBwdIdeal.nD Cert.PoolBwdIdeal.τ).loc Cert.PoolBwdIdeal.main_arg1))
        (m ((c.tc : Thread Cert.PoolBwdIdeal.nD Cert.PoolBwdIdeal.τ).loc Cert.PoolBwdIdeal.main_arg2))
        (m ((c.tc : Thread Cert.PoolBwdIdeal.nD Cert.PoolBwdIdeal.τ).loc Cert.PoolBwdIdeal.main_arg4))
        (m ((c.tc : Thread Cert.PoolBwdIdeal.nD Cert.PoolBwdIdeal.τ).loc Cert.PoolBwdIdeal.main_arg5))
      = (Cert.PoolBwdIdeal.Gen.dats m 0 c).arrAt 9 Cert.PoolBwdIdeal.cfg0.N := by
  rw [Cert.PoolBwdOut.value_dw]
  funext i
  have hi : i = ix3 (n0 := 4) (n1 := 256) (n2 := 256) (i 0) (i 1) (i 2) := by blk_ext
  rw [hi]
  exact Cert.PoolBwdRef.dw_eq _ _ _ _ _ (i 0) (i 1) (i 2)

theorem dsc_eq (m : (ℓ : Loc Cert.PoolBwdIdeal.nD Cert.PoolBwdIdeal.τ Cert.PoolBwdIdeal.sig) → Buf (Elt Ideal) ℓ) (c : Dev Cert.PoolBwdIdeal.nD) :
    Cert.PoolBwdRefIdeal.Read.val_main_v243 (F := Ideal) (m ((c.tc : Thread Cert.PoolBwdIdeal.nD Cert.PoolBwdIdeal.τ).loc Cert.PoolBwdIdeal.main_arg0))
        (m ((c.tc : Thread Cert.PoolBwdIdeal.nD Cert.PoolBwdIdeal.τ).loc Cert.PoolBwdIdeal.main_arg1))
        (m ((c.tc : Thread Cert.PoolBwdIdeal.nD Cert.PoolBwdIdeal.τ).loc Cert.PoolBwdIdeal.main_arg2))
        (m ((c.tc : Thread Cert.PoolBwdIdeal.nD Cert.PoolBwdIdeal.τ).loc Cert.PoolBwdIdeal.main_arg3))
        (m ((c.tc : Thread Cert.PoolBwdIdeal.nD Cert.PoolBwdIdeal.τ).loc Cert.PoolBwdIdeal.main_arg5))
      = (Cert.PoolBwdIdeal.Gen.dats m 0 c).arrAt 10 Cert.PoolBwdIdeal.cfg0.N := by
  rw [Cert.PoolBwdOut.value_dsc]
  funext i
  have hi : i = ix2 (n0 := 1) (n1 := 1024) 0 (i 1) := by blk_ext
  rw [hi]
  exact Cert.PoolBwdRef.dsc_eq _ _ _ _ _ (i 1)

theorem dvec_eq (m : (ℓ : Loc Cert.PoolBwdIdeal.nD Cert.PoolBwdIdeal.τ Cert.PoolBwdIdeal.sig) → Buf (Elt Ideal) ℓ) (c : Dev Cert.PoolBwdIdeal.nD) (hp : Cert.Pre_PoolBwdIdeal_pool_bwd_finite m) :
    Cert.PoolBwdRefIdeal.Read.val_main_v240 (F := Ideal) (m ((c.tc : Thread Cert.PoolBwdIdeal.nD Cert.PoolBwdIdeal.τ).loc Cert.PoolBwdIdeal.main_arg0))
        (m ((c.tc : Thread Cert.PoolBwdIdeal.nD Cert.PoolBwdIdeal.τ).loc Cert.PoolBwdIdeal.main_arg1))
        (m ((c.tc : Thread Cert.PoolBwdIdeal.nD Cert.PoolBwdIdeal.τ).loc Cert.PoolBwdIdeal.main_arg2))
        (m ((c.tc : Thread Cert.PoolBwdIdeal.nD Cert.PoolBwdIdeal.τ).loc Cert.PoolBwdIdeal.main_arg3))
        (m ((c.tc : Thread Cert.PoolBwdIdeal.nD Cert.PoolBwdIdeal.τ).loc Cert.PoolBwdIdeal.main_arg4))
        (m ((c.tc : Thread Cert.PoolBwdIdeal.nD Cert.PoolBwdIdeal.τ).loc Cert.PoolBwdIdeal.main_arg5))
      = (Cert.PoolBwdIdeal.Gen.dats m 0 c).arrAt 11 Cert.PoolBwdIdeal.cfg0.N := by
  obtain ⟨f2, f3, f4, f5⟩ := finite m hp c
  rw [Cert.PoolBwdOut.value_dvec]
  funext i
  have hi : i = ix2 (n0 := 8) (n1 := 1024) (i 0) (i 1) := by blk_ext
  rw [hi]
  exact Cert.PoolBwdRef.dvec_eq _ _ _ _ _ _ f2 f3 f4 f5 (i 0) (i 1)

theorem value : Cert.algebraic_PoolBwdIdeal_PoolBwdRefIdeal_pre_pool_bwd_finite := by
  intro m ρ m' ρ' hp hagree
  refine ⟨_, _, _, _, run_blocks m ρ, ?_⟩
  refine (θ_run Cert.PoolBwdRefIdeal.defs _ _).mono (fun _ h c => ?_) (Cert.PoolBwdRefIdeal.Value.run m' ρ')
  obtain ⟨a0, a1, a2, a3, a4, a5⟩ := hagree c
  obtain ⟨q0, q1, q2, q3, q⟩ := h c
  refine ⟨q0.trans (Eq.trans ?_ (dx_eq m c hp)), q1.trans (Eq.trans ?_ (dw_eq m c)), q2.trans (Eq.trans ?_ (dsc_eq m c)),
    q3.trans (Eq.trans ?_ (dvec_eq m c hp)), q⟩
  · change Cert.PoolBwdRefIdeal.Read.val_main_v241 (F := Ideal) (m' ((c.tc : Thread Cert.PoolBwdRefIdeal.nD Cert.PoolBwdRefIdeal.τ).loc Cert.PoolBwdRefIdeal.main_arg0))
      (m' ((c.tc : Thread Cert.PoolBwdRefIdeal.nD Cert.PoolBwdRefIdeal.τ).loc Cert.PoolBwdRefIdeal.main_arg1))
      (m' ((c.tc : Thread Cert.PoolBwdRefIdeal.nD Cert.PoolBwdRefIdeal.τ).loc Cert.PoolBwdRefIdeal.main_arg2))
      (m' ((c.tc : Thread Cert.PoolBwdRefIdeal.nD Cert.PoolBwdRefIdeal.τ).loc Cert.PoolBwdRefIdeal.main_arg3))
      (m' ((c.tc : Thread Cert.PoolBwdRefIdeal.nD Cert.PoolBwdRefIdeal.τ).loc Cert.PoolBwdRefIdeal.main_arg4))
      (m' ((c.tc : Thread Cert.PoolBwdRefIdeal.nD Cert.PoolBwdRefIdeal.τ).loc Cert.PoolBwdRefIdeal.main_arg5)) = _
    rw [a0, a1, a2, a3, a4, a5]
  · change Cert.PoolBwdRefIdeal.Read.val_main_v242 (F := Ideal) (m' ((c.tc : Thread Cert.PoolBwdRefIdeal.nD Cert.PoolBwdRefIdeal.τ).loc Cert.PoolBwdRefIdeal.main_arg0))
      (m' ((c.tc : Thread Cert.PoolBwdRefIdeal.nD Cert.PoolBwdRefIdeal.τ).loc Cert.PoolBwdRefIdeal.main_arg1))
      (m' ((c.tc : Thread Cert.PoolBwdRefIdeal.nD Cert.PoolBwdRefIdeal.τ).loc Cert.PoolBwdRefIdeal.main_arg2))
      (m' ((c.tc : Thread Cert.PoolBwdRefIdeal.nD Cert.PoolBwdRefIdeal.τ).loc Cert.PoolBwdRefIdeal.main_arg4))
      (m' ((c.tc : Thread Cert.PoolBwdRefIdeal.nD Cert.PoolBwdRefIdeal.τ).loc Cert.PoolBwdRefIdeal.main_arg5)) = _
    rw [a0, a1, a2, a4, a5]
  · change Cert.PoolBwdRefIdeal.Read.val_main_v243 (F := Ideal) (m' ((c.tc : Thread Cert.PoolBwdRefIdeal.nD Cert.PoolBwdRefIdeal.τ).loc Cert.PoolBwdRefIdeal.main_arg0))
      (m' ((c.tc : Thread Cert.PoolBwdRefIdeal.nD Cert.PoolBwdRefIdeal.τ).loc Cert.PoolBwdRefIdeal.main_arg1))
      (m' ((c.tc : Thread Cert.PoolBwdRefIdeal.nD Cert.PoolBwdRefIdeal.τ).loc Cert.PoolBwdRefIdeal.main_arg2))
      (m' ((c.tc : Thread Cert.PoolBwdRefIdeal.nD Cert.PoolBwdRefIdeal.τ).loc Cert.PoolBwdRefIdeal.main_arg3))
      (m' ((c.tc : Thread Cert.PoolBwdRefIdeal.nD Cert.PoolBwdRefIdeal.τ).loc Cert.PoolBwdRefIdeal.main_arg5)) = _
    rw [a0, a1, a2, a3, a5]
  · change Cert.PoolBwdRefIdeal.Read.val_main_v240 (F := Ideal) (m' ((c.tc : Thread Cert.PoolBwdRefIdeal.nD Cert.PoolBwdRefIdeal.τ).loc Cert.PoolBwdRefIdeal.main_arg0))
      (m' ((c.tc : Thread Cert.PoolBwdRefIdeal.nD Cert.PoolBwdRefIdeal.τ).loc Cert.PoolBwdRefIdeal.main_arg1))
      (m' ((c.tc : Thread Cert.PoolBwdRefIdeal.nD Cert.PoolBwdRefIdeal.τ).loc Cert.PoolBwdRefIdeal.main_arg2))
      (m' ((c.tc : Thread Cert.PoolBwdRefIdeal.nD Cert.PoolBwdRefIdeal.τ).loc Cert.PoolBwdRefIdeal.main_arg3))
      (m' ((c.tc : Thread Cert.PoolBwdRefIdeal.nD Cert.PoolBwdRefIdeal.τ).loc Cert.PoolBwdRefIdeal.main_arg4))
      (m' ((c.tc : Thread Cert.PoolBwdRefIdeal.nD Cert.PoolBwdRefIdeal.τ).loc Cert.PoolBwdRefIdeal.main_arg5)) = _
    rw [a0, a1, a2, a3, a4, a5]

end Cert.PoolBwd

end
-- ==== Proof.FfnBwdBody.lean ====
module

public import proofs.«01_k».proof.Proof.Gen.FfnBwdIdeal.Frame
public import proofs.«01_k».proof.Proof.Gen.FfnBwdIdeal.Skeleton
public import proofs.«01_k».proof.Proof.Gen.FfnBwdIdeal.Points
public import Idealize.ShloMosaic.Lib.Pipeline.FrameBody
public import Idealize.ShloMosaic.Lib.Pipeline.ValueKit
public import Idealize.ShloMosaic.Lib.WritesUnit
public import Idealize.ShloMosaic.Lib.Pipeline.ReadBack
public import Idealize.ShloMosaic.Lib.Ring
public import Idealize.ShloMosaic.Lib.Tactic
public import Idealize.ShloMosaic.Lib.WordCmp
public import proofs.«01_k».proof.Proof.Lib

/-! The feed-forward block's backward kernel, run once at each kind of grid point: the first point of all, the
    first point of a later row block, a point inside a row block, and the last point of a row block. What each
    buffer holds afterwards is written as a function of what it held before. -/

@[expose] public section

set_option maxRecDepth 16384

noncomputable section

namespace Cert.FfnBwdIdeal.Body

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnBwdIdeal Cert.FfnBwdIdeal.Gen

variable {F : FTy → Type} [FloatOps F]

local notation "𝕄" => MT nD τ sig Unit (Elt F) ℕ (UR sig nD τ) ℕ

/-! ## What the buffers hold, as functions -/

/-- One row of an eight-row block. -/
abbrev row0 (X : Vec F S8x1024 .f32) : Vec F S1x1024 .f32 := View.ld X (Rect.unit (s := S8x1024) ![0, 0] S1x1024.size inb_S8x1024_S1x1024_0_0)
abbrev row1 (X : Vec F S8x1024 .f32) : Vec F S1x1024 .f32 := View.ld X (Rect.unit (s := S8x1024) ![1, 0] S1x1024.size inb_S8x1024_S1x1024_1_0)
abbrev row2 (X : Vec F S8x1024 .f32) : Vec F S1x1024 .f32 := View.ld X (Rect.unit (s := S8x1024) ![2, 0] S1x1024.size inb_S8x1024_S1x1024_2_0)
abbrev row3 (X : Vec F S8x1024 .f32) : Vec F S1x1024 .f32 := View.ld X (Rect.unit (s := S8x1024) ![3, 0] S1x1024.size inb_S8x1024_S1x1024_3_0)

/-- An eight-row block with one row replaced. -/
def setRow (r : ℕ) (p : Vec F S1x1024 .f32) (X : Vec F S8x1024 .f32) : Vec F S8x1024 .f32 :=
  fun y => if (y 0).val = r then p (ix2 (n0 := 1) (n1 := 1024) 0 (y 1)) else X y

theorem read_setRow {κ : Kind} {sp : Space} (v : View sig κ sp S8x1024 .f32) (f : v.ty.Contents (Elt F)) {r : ℕ}
    (inb : ∀ a, (![r, 0] : Fin 2 → ℕ) a + (![1, 1024] : Fin 2 → ℕ) a ≤ S8x1024.size a)
    (p : Vec F S1x1024 .f32) (L : List (View.Piece (Elt F) S8x1024 .f32)) :
    v.read (Elt F) (v.writes (Elt F) f ((⟨Rect.unit (s := S8x1024) ![r, 0] ![1, 1024] inb, p⟩ : View.Piece (Elt F) S8x1024 .f32) :: L))
      = setRow r p (v.read (Elt F) (v.writes (Elt F) f L)) := by
  funext y
  obtain ⟨a, k, rfl⟩ : ∃ a k, y = ix2 (n0 := 8) (n1 := 1024) a k := ⟨y 0, y 1, by funext i; match i with | ⟨0, _⟩ => rfl | ⟨1, _⟩ => rfl⟩
  exact Cert.Lib.read_row v f inb p L a k

theorem read_full {κ : Kind} {sp : Space} {s : Shape} {e : EltTy} (v : View sig κ sp s e) (f : v.ty.Contents (Elt F)) {off : Fin s.rank → ℕ}
    (inb : ∀ a, off a + s.size a ≤ s.size a) (p : s.Idx → Elt F e) (L : List (View.Piece (Elt F) s e)) (h : ∀ a, off a = 0) :
    v.read (Elt F) (v.writes (Elt F) f ((⟨Rect.unit off (no_index s.size) inb, p⟩ : View.Piece (Elt F) s e) :: L)) = p := by
  funext y
  exact View.read_writes_cons_unit_of_mem v f inb p L y y rfl fun a => by rw [h a]; exact (Nat.zero_add _).symm

/-- The gradient of the block's own output, and the fourth row of the vector gradient it adds. -/
def dyF (x0 : Vec F S512x1024 .f32) (x2 : Vec F S8x1024 .f32) : Vec F S512x1024 .bf16 := k0_pay18 x0 (row3 x2)
def dvF (x0 : Vec F S512x1024 .f32) (x5 : Vec F S512x1024 .bf16) (X : Vec F S8x1024 .f32) : Vec F S8x1024 .f32 :=
  setRow 3 (k0_pay19 x0 (row3 X) x5) X

/-- The gated product and the gradients of its two factors. -/
def aF (x3 x4 : Vec F S512x256 .bf16) : Vec F S512x256 .bf16 := k0_pay26 x3 x4
def dgF (dy : Vec F S512x1024 .bf16) (x3 x4 : Vec F S512x256 .bf16) (x8 : Vec F S1x256x1024 .bf16) : Vec F S512x256 .bf16 :=
  k0_pay1 (k0_pay24 x3) (k0_pay27 dy x8 x4) (k0_pay28 x3)
def duF (dy : Vec F S512x1024 .bf16) (x3 : Vec F S512x256 .bf16) (x8 : Vec F S1x256x1024 .bf16) : Vec F S512x256 .bf16 :=
  k0_pay2 (k0_pay21 dy x8) (k0_pay25 x3)

/-- One column block's part of the gradient of the block's input, added up. -/
def dhF (dy : Vec F S512x1024 .bf16) (x3 x4 : Vec F S512x256 .bf16) (x6 x7 : Vec F S1x1024x256 .bf16) (x8 : Vec F S1x256x1024 .bf16)
    (acc : Vec F S512x1024 .f32) : Vec F S512x1024 .f32 :=
  k0_pay3 (k0_pay21 dy x8) (k0_pay24 x3) (k0_pay25 x3) (k0_pay27 dy x8 x4) (k0_pay28 x3) acc x6 x7

/-- The last point of a row block: the input's gradient, the modulated input, and three rows of the vector gradient. -/
def dxF (x0 x1 : Vec F S512x1024 .f32) (x2 : Vec F S8x1024 .f32) (dh : Vec F S512x1024 .f32) : Vec F S512x1024 .f32 :=
  k0_pay6 dh (k0_pay9 (row0 x2)) (k0_pay11 (row2 x2)) (k0_pay12 x1) (k0_pay13 x1) x0
def hF (x1 : Vec F S512x1024 .f32) (x2 : Vec F S8x1024 .f32) : Vec F S512x1024 .bf16 :=
  k0_pay7 (k0_pay9 (row0 x2)) (k0_pay10 (row1 x2)) (k0_pay11 (row2 x2)) (k0_pay13 x1)
def dvL (x1 : Vec F S512x1024 .f32) (x2 : Vec F S8x1024 .f32) (dh : Vec F S512x1024 .f32) (X : Vec F S8x1024 .f32) : Vec F S8x1024 .f32 :=
  setRow 2 (k0_pay4 dh (k0_pay9 (row0 x2)) (k0_pay13 x1) (row2 X)) (setRow 1 (k0_pay15 dh (row1 X))
    (setRow 0 (k0_pay14 x1 dh (row2 x2) (row0 X)) X))

/-! ## The conditions over the points -/

theorem coord0 (t : Fin cfg0.N) : (grid0.coords t 0).val = t.val / 11 % 4 := Pipeline.Grid.coords_val t 0 (by decide) rfl
theorem coord1 (t : Fin cfg0.N) : (grid0.coords t 1).val = t.val / 1 % 11 := Pipeline.Grid.coords_val t 1 (by decide) rfl

theorem cond1_iff (t : Fin cfg0.N) : k0_cond1 (grid0.coords t) = 1#1 ↔ t.val = 0 := by
  have ht : t.val < 44 := Nat.lt_of_lt_of_eq t.isLt N_0
  have e0 := coord0 t
  have e1 := coord1 t
  revert t; decide +kernel
theorem cond2_iff (t : Fin cfg0.N) : k0_cond2 (grid0.coords t) = 1#1 ↔ t.val % 11 = 0 := by
  revert t; decide +kernel
theorem cond3_iff (t : Fin cfg0.N) : k0_cond3 (grid0.coords t) = 1#1 ↔ t.val % 11 = 10 := by
  revert t; decide +kernel

/-! ## The runs -/

section Run

variable (c : Dev nD) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S8x1024 .f32) (harg4 : arg4.IsWhole)
  (arg5 : Memref sig .tc .vmem S512x256 .bf16) (harg5 : arg5.IsWhole)
  (arg6 : Memref sig .tc .vmem S512x256 .bf16) (harg6 : arg6.IsWhole)
  (arg7 : Memref sig .tc .vmem S512x1024 .bf16) (harg7 : arg7.IsWhole)
  (arg8 : Memref sig .tc .vmem S1x1024x256 .bf16) (harg8 : arg8.IsWhole)
  (arg9 : Memref sig .tc .vmem S1x1024x256 .bf16) (harg9 : arg9.IsWhole)
  (arg10 : Memref sig .tc .vmem S1x256x1024 .bf16) (harg10 : arg10.IsWhole)
  (arg11 : Memref sig .tc .vmem S512x1024 .f32) (harg11 : arg11.IsWhole)
  (arg12 : Memref sig .tc .vmem S512x256 .bf16) (harg12 : arg12.IsWhole)
  (arg13 : Memref sig .tc .vmem S512x256 .bf16) (harg13 : arg13.IsWhole)
  (arg14 : Memref sig .tc .vmem S512x256 .bf16) (harg14 : arg14.IsWhole)
  (arg15 : Memref sig .tc .vmem S512x1024 .bf16) (harg15 : arg15.IsWhole)
  (arg16 : Memref sig .tc .vmem S512x1024 .bf16) (harg16 : arg16.IsWhole)
  (arg17 : Memref sig .tc .vmem S8x1024 .f32) (harg17 : arg17.IsWhole)
  (arg18 : Memref sig .tc .vmem S512x1024 .f32) (harg18 : arg18.IsWhole)
  (x0 : Vec F S512x1024 .f32)
  (x1 : Vec F S512x1024 .f32)
  (x2 : Vec F S8x1024 .f32)
  (x3 : Vec F S512x256 .bf16)
  (x4 : Vec F S512x256 .bf16)
  (x5 : Vec F S512x1024 .bf16)
  (x6 : Vec F S1x1024x256 .bf16)
  (x7 : Vec F S1x1024x256 .bf16)
  (x8 : Vec F S1x256x1024 .bf16)

/-- The nine input blocks. -/
abbrev ins : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8)

set_option maxHeartbeats 4000000 in
/-- The first point of a later row block. -/
theorem run_next (hc1 : ¬k0_cond1 i = 1#1) (hc2 : k0_cond2 i = 1#1) (hc3 : ¬k0_cond3 i = 1#1)
    (X9 : Vec F S512x1024 .f32) (X13 : Vec F S512x1024 .bf16) (X15 : Vec F S8x1024 .f32) (E : Set ℕ) (K : PUnit → sProp 𝕄) :
    iprop(ins c arg2 arg3 arg4 arg5 arg6 arg7 arg8 arg9 arg10 x0 x1 x2 x3 x4 x5 x6 x7 x8 ∗ owns (c : Thread nD τ) arg11 fullShare X9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare X13 ∗ (∃ d, owns (c : Thread nD τ) arg16 fullShare d) ∗ owns (c : Thread nD τ) arg17 fullShare X15 ∗ (∃ d, owns (c : Thread nD τ) arg18 fullShare d) ∗ (ins c arg2 arg3 arg4 arg5 arg6 arg7 arg8 arg9 arg10 x0 x1 x2 x3 x4 x5 x6 x7 x8 ∗ owns (c : Thread nD τ) arg11 fullShare X9 ∗ owns (c : Thread nD τ) arg12 fullShare (dgF (dyF x0 x2) x3 x4 x8) ∗ owns (c : Thread nD τ) arg13 fullShare (duF (dyF x0 x2) x3 x8) ∗ owns (c : Thread nD τ) arg14 fullShare (aF x3 x4) ∗ owns (c : Thread nD τ) arg15 fullShare X13 ∗ owns (c : Thread nD τ) arg16 fullShare (dyF x0 x2) ∗ owns (c : Thread nD τ) arg17 fullShare (dvF x0 x5 X15) ∗ owns (c : Thread nD τ) arg18 fullShare (dhF (dyF x0 x2) x3 x4 x6 x7 x8 k0_pay20) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  simp only [k0_part1_eq_skeleton, k0_part2_eq_skeleton]; unfold k0_part2_skel k0_part1_skel
  unfold ins owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%d12, %f12, -, H12⟩, ⟨%d13, %f13, -, H13⟩, ⟨%d14, %f14, -, H14⟩, ⟨%f15, %hf15, H15⟩, ⟨%d16, %f16, -, H16⟩, ⟨%f17, %hf17, H17⟩, ⟨%d18, %f18, -, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg15.eq_unread hf15; obtain rfl := harg17.eq_unread hf17
  sl_exec (disch := first | sl_exact hc1 | sl_exact hc2 | sl_exact hc3)
  sl_step
  iapply Hk
  isplitl [H2 H3 H4 H5 H6 H7 H8 H9 H10]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; isplitr; · ipureintro; exact harg10.read_unread _
    iexact H10
  isplitl [H11]
  · iexists _; isplitr
    swap; · iexact H11
    ipureintro; exact harg11.read_unread _
  isplitl [H12]
  · iexists _; isplitr
    swap; · iexact H12
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H13]
  · iexists _; isplitr
    swap; · iexact H13
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H14]
  · iexists _; isplitr
    swap; · iexact H14
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H15]
  · iexists _; isplitr
    swap; · iexact H15
    ipureintro; exact harg15.read_unread _
  isplitl [H16]
  · iexists _; isplitr
    swap; · iexact H16
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H17]
  · iexists _; isplitr
    swap; · iexact H17
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  iexists _; isplitr
  swap; · iexact H18
  ipureintro; frame_open
  simp (disch := decide) only [View.readAt_eq_ld, Memref.IsWhole.read_unread, View.ld_unit_lit', ↓ View.readCov_fill,
    View.readCov_cons_unit_lit', View.readCov_unit_lit', read_full, read_setRow, View.writes_nil]
  rfl

set_option maxHeartbeats 4000000 in
/-- The first point of all. -/
theorem run_first (hc1 : k0_cond1 i = 1#1) (hc2 : k0_cond2 i = 1#1) (hc3 : ¬k0_cond3 i = 1#1)
    (X9 : Vec F S512x1024 .f32) (X13 : Vec F S512x1024 .bf16) (E : Set ℕ) (K : PUnit → sProp 𝕄) :
    iprop(ins c arg2 arg3 arg4 arg5 arg6 arg7 arg8 arg9 arg10 x0 x1 x2 x3 x4 x5 x6 x7 x8 ∗ owns (c : Thread nD τ) arg11 fullShare X9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare X13 ∗ (∃ d, owns (c : Thread nD τ) arg16 fullShare d) ∗ (∃ d, owns (c : Thread nD τ) arg17 fullShare d) ∗ (∃ d, owns (c : Thread nD τ) arg18 fullShare d) ∗ (ins c arg2 arg3 arg4 arg5 arg6 arg7 arg8 arg9 arg10 x0 x1 x2 x3 x4 x5 x6 x7 x8 ∗ owns (c : Thread nD τ) arg11 fullShare X9 ∗ owns (c : Thread nD τ) arg12 fullShare (dgF (dyF x0 x2) x3 x4 x8) ∗ owns (c : Thread nD τ) arg13 fullShare (duF (dyF x0 x2) x3 x8) ∗ owns (c : Thread nD τ) arg14 fullShare (aF x3 x4) ∗ owns (c : Thread nD τ) arg15 fullShare X13 ∗ owns (c : Thread nD τ) arg16 fullShare (dyF x0 x2) ∗ owns (c : Thread nD τ) arg17 fullShare (dvF x0 x5 k0_pay16) ∗ owns (c : Thread nD τ) arg18 fullShare (dhF (dyF x0 x2) x3 x4 x6 x7 x8 k0_pay20) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  simp only [k0_part1_eq_skeleton, k0_part2_eq_skeleton]; unfold k0_part2_skel k0_part1_skel
  unfold ins owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%d12, %f12, -, H12⟩, ⟨%d13, %f13, -, H13⟩, ⟨%d14, %f14, -, H14⟩, ⟨%f15, %hf15, H15⟩, ⟨%d16, %f16, -, H16⟩, ⟨%d17, %f17, -, H17⟩, ⟨%d18, %f18, -, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg15.eq_unread hf15
  sl_exec (disch := first | sl_exact hc1 | sl_exact hc2 | sl_exact hc3)
  sl_step
  iapply Hk
  isplitl [H2 H3 H4 H5 H6 H7 H8 H9 H10]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; isplitr; · ipureintro; exact harg10.read_unread _
    iexact H10
  isplitl [H11]
  · iexists _; isplitr
    swap; · iexact H11
    ipureintro; exact harg11.read_unread _
  isplitl [H12]
  · iexists _; isplitr
    swap; · iexact H12
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H13]
  · iexists _; isplitr
    swap; · iexact H13
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H14]
  · iexists _; isplitr
    swap; · iexact H14
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H15]
  · iexists _; isplitr
    swap; · iexact H15
    ipureintro; exact harg15.read_unread _
  isplitl [H16]
  · iexists _; isplitr
    swap; · iexact H16
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H17]
  · iexists _; isplitr
    swap; · iexact H17
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  iexists _; isplitr
  swap; · iexact H18
  ipureintro; frame_open
  simp (disch := decide) only [View.readAt_eq_ld, Memref.IsWhole.read_unread, View.ld_unit_lit', ↓ View.readCov_fill,
    View.readCov_cons_unit_lit', View.readCov_unit_lit', read_full, read_setRow, View.writes_nil]
  rfl

set_option maxHeartbeats 4000000 in
/-- A point inside a row block. -/
theorem run_mid (hc1 : ¬k0_cond1 i = 1#1) (hc2 : ¬k0_cond2 i = 1#1) (hc3 : ¬k0_cond3 i = 1#1)
    (X9 : Vec F S512x1024 .f32) (X13 : Vec F S512x1024 .bf16) (X14 : Vec F S512x1024 .bf16) (X15 : Vec F S8x1024 .f32) (XS : Vec F S512x1024 .f32) (E : Set ℕ) (K : PUnit → sProp 𝕄) :
    iprop(ins c arg2 arg3 arg4 arg5 arg6 arg7 arg8 arg9 arg10 x0 x1 x2 x3 x4 x5 x6 x7 x8 ∗ owns (c : Thread nD τ) arg11 fullShare X9 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare X13 ∗ owns (c : Thread nD τ) arg16 fullShare X14 ∗ owns (c : Thread nD τ) arg17 fullShare X15 ∗ owns (c : Thread nD τ) arg18 fullShare XS ∗ (ins c arg2 arg3 arg4 arg5 arg6 arg7 arg8 arg9 arg10 x0 x1 x2 x3 x4 x5 x6 x7 x8 ∗ owns (c : Thread nD τ) arg11 fullShare X9 ∗ owns (c : Thread nD τ) arg12 fullShare (dgF X14 x3 x4 x8) ∗ owns (c : Thread nD τ) arg13 fullShare (duF X14 x3 x8) ∗ owns (c : Thread nD τ) arg14 fullShare (aF x3 x4) ∗ owns (c : Thread nD τ) arg15 fullShare X13 ∗ owns (c : Thread nD τ) arg16 fullShare X14 ∗ owns (c : Thread nD τ) arg17 fullShare X15 ∗ owns (c : Thread nD τ) arg18 fullShare (dhF X14 x3 x4 x6 x7 x8 XS) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  simp only [k0_part1_eq_skeleton, k0_part2_eq_skeleton]; unfold k0_part2_skel k0_part1_skel
  unfold ins owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, ⟨%f18, %hf18, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg15.eq_unread hf15; obtain rfl := harg16.eq_unread hf16; obtain rfl := harg17.eq_unread hf17; obtain rfl := harg18.eq_unread hf18
  sl_exec (disch := first | sl_exact hc1 | sl_exact hc2 | sl_exact hc3)
  sl_step
  iapply Hk
  isplitl [H2 H3 H4 H5 H6 H7 H8 H9 H10]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; isplitr; · ipureintro; exact harg10.read_unread _
    iexact H10
  isplitl [H11]
  · iexists _; isplitr
    swap; · iexact H11
    ipureintro; exact harg11.read_unread _
  isplitl [H12]
  · iexists _; isplitr
    swap; · iexact H12
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H13]
  · iexists _; isplitr
    swap; · iexact H13
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H14]
  · iexists _; isplitr
    swap; · iexact H14
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H15]
  · iexists _; isplitr
    swap; · iexact H15
    ipureintro; exact harg15.read_unread _
  isplitl [H16]
  · iexists _; isplitr
    swap; · iexact H16
    ipureintro; exact harg16.read_unread _
  isplitl [H17]
  · iexists _; isplitr
    swap; · iexact H17
    ipureintro; exact harg17.read_unread _
  iexists _; isplitr
  swap; · iexact H18
  ipureintro; frame_open
  simp (disch := decide) only [View.readAt_eq_ld, Memref.IsWhole.read_unread, View.ld_unit_lit', ↓ View.readCov_fill,
    View.readCov_cons_unit_lit', View.readCov_unit_lit', read_full, read_setRow, View.writes_nil]
  rfl

set_option maxHeartbeats 4000000 in
/-- The last point of a row block. -/
theorem run_last (hc1 : ¬k0_cond1 i = 1#1) (hc2 : ¬k0_cond2 i = 1#1) (hc3 : k0_cond3 i = 1#1)
    (X14 : Vec F S512x1024 .bf16) (X15 : Vec F S8x1024 .f32) (XS : Vec F S512x1024 .f32) (E : Set ℕ) (K : PUnit → sProp 𝕄) :
    iprop(ins c arg2 arg3 arg4 arg5 arg6 arg7 arg8 arg9 arg10 x0 x1 x2 x3 x4 x5 x6 x7 x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare X14 ∗ owns (c : Thread nD τ) arg17 fullShare X15 ∗ owns (c : Thread nD τ) arg18 fullShare XS ∗ (ins c arg2 arg3 arg4 arg5 arg6 arg7 arg8 arg9 arg10 x0 x1 x2 x3 x4 x5 x6 x7 x8 ∗ owns (c : Thread nD τ) arg11 fullShare (dxF x0 x1 x2 (dhF X14 x3 x4 x6 x7 x8 XS)) ∗ owns (c : Thread nD τ) arg12 fullShare (dgF X14 x3 x4 x8) ∗ owns (c : Thread nD τ) arg13 fullShare (duF X14 x3 x8) ∗ owns (c : Thread nD τ) arg14 fullShare (aF x3 x4) ∗ owns (c : Thread nD τ) arg15 fullShare (hF x1 x2) ∗ owns (c : Thread nD τ) arg16 fullShare X14 ∗ owns (c : Thread nD τ) arg17 fullShare (dvL x1 x2 (dhF X14 x3 x4 x6 x7 x8 XS) X15) ∗ owns (c : Thread nD τ) arg18 fullShare (dhF X14 x3 x4 x6 x7 x8 XS) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_ffn_bwd_eq_skeleton]; unfold cc0_ffn_bwd_skel
  simp only [k0_part1_eq_skeleton, k0_part2_eq_skeleton]; unfold k0_part2_skel k0_part1_skel
  unfold ins owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg16.eq_unread hf16; obtain rfl := harg17.eq_unread hf17; obtain rfl := harg18.eq_unread hf18
  sl_exec (disch := first | sl_exact hc1 | sl_exact hc2 | sl_exact hc3)
  sl_step
  iapply Hk
  isplitl [H2 H3 H4 H5 H6 H7 H8 H9 H10]
  · isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; isplitr; · ipureintro; exact harg10.read_unread _
    iexact H10
  isplitl [H11]
  · iexists _; isplitr
    swap; · iexact H11
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H12]
  · iexists _; isplitr
    swap; · iexact H12
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H13]
  · iexists _; isplitr
    swap; · iexact H13
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H14]
  · iexists _; isplitr
    swap; · iexact H14
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H15]
  · iexists _; isplitr
    swap; · iexact H15
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  isplitl [H16]
  · iexists _; isplitr
    swap; · iexact H16
    ipureintro; exact harg16.read_unread _
  isplitl [H17]
  · iexists _; isplitr
    swap; · iexact H17
    ipureintro; frame_open
    simp (disch := decide) only [View.readAt_eq_ld, Memref.IsWhole.read_unread, View.ld_unit_lit', ↓ View.readCov_fill,
      View.readCov_cons_unit_lit', View.readCov_unit_lit', read_full, read_setRow, View.writes_nil]
    rfl
  iexists _; isplitr
  swap; · iexact H18
  ipureintro; frame_open
  simp (disch := decide) only [View.readAt_eq_ld, Memref.IsWhole.read_unread, View.ld_unit_lit', ↓ View.readCov_fill,
    View.readCov_cons_unit_lit', View.readCov_unit_lit', read_full, read_setRow, View.writes_nil]
  rfl

end Run

end Cert.FfnBwdIdeal.Body

end

end
-- ==== Proof.FfnBwdFrame.lean ====
module

public import proofs.«01_k».proof.Proof.FfnBwdBody

/-! The feed-forward block's backward kernel over its grid: what the vector gradient's block and the scratch
    hold from point to point, the pipeline's proof data, and the run. -/

@[expose] public section

set_option maxRecDepth 16384

noncomputable section

namespace Cert.FfnBwdIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.FfnBwdIdeal Cert.FfnBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents from point to point -/

/-- The point at position `n`, and the first point of its row block. -/
def pt (n : ℕ) : Fin cfg0.N := ⟨n % 44, lt_of_lt_of_eq (Nat.mod_lt _ (by norm_num)) N_0.symm⟩
def head (n : ℕ) : ℕ := n / 11 * 11

theorem pt_val (t : Fin cfg0.N) : pt t.val = t := Fin.ext (Nat.mod_eq_of_lt (lt_of_lt_of_eq t.isLt N_0))

/-- The gradient of the block's own output, made at the row block's first point and kept for the others. -/
def dyAt (c : Dev nD) (n : ℕ) : Vec F S512x1024 .bf16 := dyF (iblk m c 0 (pt (head n))) (iblk m c 2 (pt (head n)))

/-- One column block's part added to the scratch. -/
def dhStep (c : Dev nD) (n : ℕ) (S : Vec F S512x1024 .f32) : Vec F S512x1024 .f32 :=
  dhF (dyAt m c n) (iblk m c 3 (pt n)) (iblk m c 4 (pt n)) (iblk m c 6 (pt n)) (iblk m c 7 (pt n)) (iblk m c 8 (pt n)) S

/-- The scratch after position `n`: started anew at a row block's first point. -/
def dhAt (c : Dev nD) : ℕ → Vec F S512x1024 .f32
  | 0 => dhStep m c 0 k0_pay20
  | n + 1 => dhStep m c (n + 1) (if (n + 1) % 11 = 0 then k0_pay20 else dhAt c n)

/-- The vector gradient's block after position `n`. -/
def dvAt (c : Dev nD) : ℕ → Vec F S8x1024 .f32
  | 0 => dvF (iblk m c 0 (pt 0)) (iblk m c 5 (pt 0)) k0_pay16
  | n + 1 =>
    if (n + 1) % 11 = 0 then dvF (iblk m c 0 (pt (n + 1))) (iblk m c 5 (pt (n + 1))) (dvAt c n)
    else if (n + 1) % 11 = 10 then dvL (iblk m c 1 (pt (n + 1))) (iblk m c 2 (pt (n + 1))) (dhAt m c (n + 1)) (dvAt c n)
    else dvAt c n

/-! ## The proof data -/

abbrev scM : Memref sig .tc .vmem S512x1024 .f32 := Memref.whole cc0_scratch0

def PhiS (c : Dev nD) : (n : ℕ) → n ≤ cfg0.N → sProp 𝕄
  | 0, _ => Pipeline.ΦA spec0 c
  | n + 1, _ => iprop(owns (c : Thread nD τ) scM fullShare (dhAt m c n) ∗ (∃ r, prngReg c r))

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem PhiS_zero (c : Dev nD) (n : ℕ) (h : n ≤ cfg0.N) (hz : n = 0) : PhiS m c n h = Pipeline.ΦA spec0 c := by
  subst hz; rfl
theorem PhiS_pos (c : Dev nD) (n : ℕ) (h : n ≤ cfg0.N) (hz : n ≠ 0) :
    PhiS m c n h = iprop(owns (c : Thread nD τ) scM fullShare (dhAt m c (n - 1)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dxF (iblk m c 0 t) (iblk m c 1 t) (iblk m c 2 t) (dhAt m c t.val)
    | ⟨10, _⟩ => dgF (dyAt m c t.val) (iblk m c 3 t) (iblk m c 4 t) (iblk m c 8 t)
    | ⟨11, _⟩ => duF (dyAt m c t.val) (iblk m c 3 t) (iblk m c 8 t)
    | ⟨12, _⟩ => aF (iblk m c 3 t) (iblk m c 4 t)
    | ⟨13, _⟩ => hF (iblk m c 1 t) (iblk m c 2 t)
    | ⟨14, _⟩ => dyAt m c t.val
    | ⟨15, _⟩ => dvAt m c t.val
    | ⟨_ + 16, h⟩ => absurd (show _ < 16 from h) (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = dxF (iblk m c 0 t) (iblk m c 1 t) (iblk m c 2 t) (dhAt m c t.val) := by dsimp only [dats]
theorem after_10 (c : Dev nD) (t : Fin cfg0.N) : (dats m 0 c).after 10 t = dgF (dyAt m c t.val) (iblk m c 3 t) (iblk m c 4 t) (iblk m c 8 t) := by dsimp only [dats]
theorem after_11 (c : Dev nD) (t : Fin cfg0.N) : (dats m 0 c).after 11 t = duF (dyAt m c t.val) (iblk m c 3 t) (iblk m c 8 t) := by dsimp only [dats]
theorem after_12 (c : Dev nD) (t : Fin cfg0.N) : (dats m 0 c).after 12 t = aF (iblk m c 3 t) (iblk m c 4 t) := by dsimp only [dats]
theorem after_13 (c : Dev nD) (t : Fin cfg0.N) : (dats m 0 c).after 13 t = hF (iblk m c 1 t) (iblk m c 2 t) := by dsimp only [dats]
theorem after_14 (c : Dev nD) (t : Fin cfg0.N) : (dats m 0 c).after 14 t = dyAt m c t.val := by dsimp only [dats]
theorem after_15 (c : Dev nD) (t : Fin cfg0.N) : (dats m 0 c).after 15 t = dvAt m c t.val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-! ## What the two buffers carried from point to point hold when a point begins -/

theorem fetch14 (t : Fin cfg0.N) : (cfg0.win 14).fetch t = false := by revert t; decide +kernel
theorem fetch15 (t : Fin cfg0.N) : (cfg0.win 15).fetch t = false := by revert t; decide +kernel
theorem idle14 (t : Fin cfg0.N) : cfg0.idle 14 (grid0.coords t) = decide (t.val % 11 ≠ 0) := by revert t; decide +kernel
theorem idle15 (t : Fin cfg0.N) : cfg0.idle 15 (grid0.coords t) = decide (t.val % 11 ≠ 0 ∧ t.val % 11 ≠ 10) := by
  revert t; decide +kernel
theorem idle9 (t : Fin cfg0.N) : cfg0.idle 9 (grid0.coords t) = decide (t.val % 11 ≠ 10) := by revert t; decide +kernel
theorem idle13 (t : Fin cfg0.N) : cfg0.idle 13 (grid0.coords t) = decide (t.val % 11 ≠ 10) := by revert t; decide +kernel
theorem flush9 (t : Fin cfg0.N) : (cfg0.win 9).flush t = decide (t.val % 11 = 10) := by revert t; decide +kernel
theorem flush13 (t : Fin cfg0.N) : (cfg0.win 13).flush t = decide (t.val % 11 = 10) := by revert t; decide +kernel
theorem flush14 (t : Fin cfg0.N) : (cfg0.win 14).flush t = decide (t.val % 11 = 10) := by revert t; decide +kernel
theorem flush15 (t : Fin cfg0.N) : (cfg0.win 15).flush t = decide (t.val = 43) := by revert t; decide +kernel

theorem dyAt_pred (c : Dev nD) (n : ℕ) (h : n % 11 ≠ 0) : dyAt m c (n - 1) = dyAt m c n := by
  have : head (n - 1) = head n := by unfold head; omega
  unfold dyAt; rw [this]

theorem kept_eq {c : Dev nD} (w : Fin cfg0.W) (t : Fin cfg0.N) (d) (dat : Dat τ (Elt F) Unit ℕ (UR sig nD τ) ℕ cfg0 c)
    (h : ∀ a, (cfg0.win w).clip (cfg0.grid.coords t) a = none) : dat.kept w t d = dat.after w t := by
  unfold Dat.kept
  rw [Pipeline.fill_of_clip_none w _ h d (dat.after w t), Window.fill_cut]

theorem before_14 (c : Dev nD) (d) : ∀ (n : ℕ) (hn : n < cfg0.N), n % 11 ≠ 0 → (dats m 0 c).before 14 ⟨n, hn⟩ d = dyAt m c n
  | 0, _, h => absurd rfl h
  | n + 1, hn, h => by
    rw [(dats m 0 c).before_of_pos 14 ⟨n + 1, hn⟩ (Nat.succ_ne_zero n) (fetch14 _), ← dyAt_pred m c _ h,
      flush14, if_neg (by simp only [decide_eq_true_eq]; show ¬ (n + 1 - 1) % 11 = 10; omega)]
    unfold Dat.left
    by_cases h0 : n % 11 = 0
    · rw [idle14, show decide ((n + 1 - 1) % 11 ≠ 0) = false from decide_eq_false (by simpa using h0)]
      exact (kept_eq 14 _ d _ fun _ => rfl).trans (after_14 m c _)
    · rw [idle14, show decide ((n + 1 - 1) % 11 ≠ 0) = true from decide_eq_true (by simpa using h0)]
      exact before_14 c d n (Nat.lt_of_succ_lt hn) h0

theorem before_15 (c : Dev nD) (d) : ∀ (n : ℕ) (hn : n + 1 < cfg0.N), (dats m 0 c).before 15 ⟨n + 1, hn⟩ d = dvAt m c n := by
  intro n
  induction n with
  | zero =>
    intro hn
    rw [(dats m 0 c).before_of_pos 15 ⟨0 + 1, hn⟩ (Nat.succ_ne_zero 0) (fetch15 _), flush15,
      if_neg (by simp only [decide_eq_true_eq]; show ¬ (0 + 1 - 1) = 43; omega)]
    unfold Dat.left
    rw [idle15, show decide ((0 + 1 - 1) % 11 ≠ 0 ∧ (0 + 1 - 1) % 11 ≠ 10) = false from rfl]
    exact (kept_eq 15 _ d _ fun _ => rfl).trans (after_15 m c _)
  | succ n ih =>
    intro hn
    have h44 : n + 1 + 1 < 44 := lt_of_lt_of_eq hn N_0
    rw [(dats m 0 c).before_of_pos 15 ⟨n + 1 + 1, hn⟩ (Nat.succ_ne_zero _) (fetch15 _), flush15,
      if_neg (by simp only [decide_eq_true_eq]; show ¬ (n + 1 + 1 - 1) = 43; omega)]
    unfold Dat.left
    by_cases h0 : (n + 1) % 11 ≠ 0 ∧ (n + 1) % 11 ≠ 10
    · rw [idle15, show decide ((n + 1 + 1 - 1) % 11 ≠ 0 ∧ (n + 1 + 1 - 1) % 11 ≠ 10) = true from decide_eq_true h0]
      refine (ih (Nat.lt_of_succ_lt hn)).trans ?_
      rw [dvAt, if_neg h0.1, if_neg h0.2]
    · rw [idle15, show decide ((n + 1 + 1 - 1) % 11 ≠ 0 ∧ (n + 1 + 1 - 1) % 11 ≠ 10) = false from decide_eq_false h0]
      exact (kept_eq 15 _ d _ fun _ => rfl).trans (after_15 m c _)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

theorem live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem flushed (c : Dev nD) (w : Fin cfg0.W) (t : Fin cfg0.N) (h : cfg0.idle w (grid0.coords t) = true) (h' : (cfg0.win w).flush t = true) :
    (dats m 0 c).leavesExact w t = owns (c : Thread nD τ) ((cfg0.win w).stage (cfg0.slots t w)) fullShare ((dats m 0 c).after w t) := by
  unfold Dat.leavesExact; rw [h, h']

theorem dhAt_head (c : Dev nD) (t : Fin cfg0.N) (h : t.val % 11 = 0) :
    dhAt m c t.val = dhF (dyAt m c t.val) (iblk m c 3 t) (iblk m c 4 t) (iblk m c 6 t) (iblk m c 7 t) (iblk m c 8 t) k0_pay20 := by
  have e : dhAt m c t.val = dhStep m c t.val k0_pay20 := by
    cases hv : t.val with
    | zero => rfl
    | succ n => rw [dhAt, if_pos (hv ▸ h)]
  rw [e, dhStep, pt_val]

theorem dhAt_next (c : Dev nD) (t : Fin cfg0.N) (h : t.val % 11 ≠ 0) :
    dhAt m c t.val = dhF (dyAt m c t.val) (iblk m c 3 t) (iblk m c 4 t) (iblk m c 6 t) (iblk m c 7 t) (iblk m c 8 t) (dhAt m c (t.val - 1)) := by
  have e : dhAt m c t.val = dhStep m c t.val (dhAt m c (t.val - 1)) := by
    cases hv : t.val with
    | zero => exact absurd (by rw [hv]) h
    | succ n => rw [dhAt, if_neg (hv ▸ h), Nat.add_sub_cancel]
  rw [e, dhStep, pt_val]

theorem dvAt_first (c : Dev nD) (t : Fin cfg0.N) (h : t.val = 0) : dvAt m c t.val = dvF (iblk m c 0 t) (iblk m c 5 t) k0_pay16 := by
  have e : pt 0 = t := by rw [← h]; exact pt_val t
  rw [h, dvAt, e]

theorem dvAt_row (c : Dev nD) (t : Fin cfg0.N) (h : t.val % 11 = 0) (h' : t.val ≠ 0) :
    dvAt m c t.val = dvF (iblk m c 0 t) (iblk m c 5 t) (dvAt m c (t.val - 1)) := by
  have e := pt_val t
  cases hv : t.val with
  | zero => exact absurd hv h'
  | succ n => rw [hv] at e h; rw [dvAt, if_pos h, e, Nat.add_sub_cancel]

theorem dvAt_last (c : Dev nD) (t : Fin cfg0.N) (h : t.val % 11 = 10) :
    dvAt m c t.val = dvL (iblk m c 1 t) (iblk m c 2 t) (dhAt m c t.val) (dvAt m c (t.val - 1)) := by
  have e := pt_val t
  cases hv : t.val with
  | zero => rw [hv] at h; exact absurd h (by norm_num)
  | succ n => rw [hv] at e h; rw [dvAt, if_neg (by omega), if_pos h, e, Nat.add_sub_cancel]

theorem dvAt_mid (c : Dev nD) (n : ℕ) (h : n % 11 ≠ 0) (h' : n % 11 ≠ 10) : dvAt m c n = dvAt m c (n - 1) := by
  cases n with
  | zero => exact absurd rfl h
  | succ n => rw [dvAt, if_neg h, if_neg h', Nat.add_sub_cancel]

theorem before_15' (c : Dev nD) (t : Fin cfg0.N) (h : t.val ≠ 0) (d) : (dats m 0 c).before 15 t d = dvAt m c (t.val - 1) := by
  obtain ⟨n, hn⟩ := t
  cases n with
  | zero => exact absurd rfl h
  | succ n => exact before_15 m c d n hn

set_option maxHeartbeats 2000000 in
/-- The first point. -/
theorem body_first (c : Dev nD) (t : Fin cfg0.N) (h1 : t.val = 0) :
    bodyPre m c t ⊢ wp frame (wpE (defs₀ (F := F)) Variants.none c none) Set.univ (bodyAt0 t) (fun _ => bodyPost m c t) := by
  have hN : t.val < 44 := lt_of_lt_of_eq t.isLt N_0
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _), Nat.add_sub_cancel]
  have hd : dyAt m c t.val = dyF (iblk m c 0 t) (iblk m c 2 t) := by
    have h : pt (head t.val) = t := by rw [show head t.val = t.val from by unfold head; omega]; exact pt_val t
    unfold dyAt; rw [h]
  rw [PhiS_castSucc m c t, PhiS_zero m c _ _ h1, PhiA_eq]
  rw [live m c 0 t rfl, after_0]
  rw [live m c 1 t rfl, after_1]
  rw [live m c 2 t rfl, after_2]
  rw [live m c 3 t rfl, after_3]
  rw [live m c 4 t rfl, after_4]
  rw [live m c 5 t rfl, after_5]
  rw [live m c 6 t rfl, after_6]
  rw [live m c 7 t rfl, after_7]
  rw [live m c 8 t rfl, after_8]
  rw [Dat.leavesExact_idle (dats m 0 c) 9 t (by rw [idle9]; exact decide_eq_true (by omega)) (by rw [flush9]; exact decide_eq_false (by omega))]
  rw [live m c 10 t rfl, after_10]
  rw [live m c 11 t rfl, after_11]
  rw [live m c 12 t rfl, after_12]
  rw [Dat.leavesExact_idle (dats m 0 c) 13 t (by rw [idle13]; exact decide_eq_true (by omega)) (by rw [flush13]; exact decide_eq_false (by omega))]
  rw [live m c 14 t (by rw [idle14]; exact decide_eq_false (by omega)), after_14]
  rw [live m c 15 t (by rw [idle15]; exact decide_eq_false (by omega)), after_15]
  rw [dhAt_head m c t (by omega), dvAt_first m c t h1, hd]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_first c (grid0.coords t) _ _ _ _ _ _ _ _ _ _ _ _ _ _ _ _ _ _ _ _ _ _ _ _ _ _ _ _ _ _ _ _ _ _ _ _ _ _ _ _ _ _ _ ((cond1_iff t).2 h1) ((cond2_iff t).2 (by omega)) (fun h => absurd ((cond3_iff t).1 h) (by omega)) _ _ Set.univ _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexists _; iexact H10
  isplitl [H11]; · iexists _; iexact H11
  isplitl [H12]; · iexists _; iexact H12
  isplitl [H13]; · iexact H13
  isplitl [H14]; · iexists _; iexact H14
  isplitl [H15]; · iexists _; iexact H15
  isplitl [HS]; · iexists _; iexact HS
  iintro ⟨⟨H0, H1, H2, H3, H4, H5, H6, H7, H8⟩, H9, H10, H11, H12, H13, H14, H15, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  isplitl [H10]; · iexact H10
  isplitl [H11]; · iexact H11
  isplitl [H12]; · iexact H12
  isplitl [H13]; · iexists d13; iexact H13
  isplitl [H14]; · iexact H14
  iexact H15

set_option maxHeartbeats 2000000 in
/-- The first point of a later row block. -/
theorem body_next (c : Dev nD) (t : Fin cfg0.N) (h1 : t.val ≠ 0) (h2 : t.val % 11 = 0) :
    bodyPre m c t ⊢ wp frame (wpE (defs₀ (F := F)) Variants.none c none) Set.univ (bodyAt0 t) (fun _ => bodyPost m c t) := by
  have hN : t.val < 44 := lt_of_lt_of_eq t.isLt N_0
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _), Nat.add_sub_cancel]
  have hd : dyAt m c t.val = dyF (iblk m c 0 t) (iblk m c 2 t) := by
    have h : pt (head t.val) = t := by rw [show head t.val = t.val from by unfold head; omega]; exact pt_val t
    unfold dyAt; rw [h]
  rw [PhiS_castSucc m c t, PhiS_pos m c _ _ h1]
  rw [live m c 0 t rfl, after_0]
  rw [live m c 1 t rfl, after_1]
  rw [live m c 2 t rfl, after_2]
  rw [live m c 3 t rfl, after_3]
  rw [live m c 4 t rfl, after_4]
  rw [live m c 5 t rfl, after_5]
  rw [live m c 6 t rfl, after_6]
  rw [live m c 7 t rfl, after_7]
  rw [live m c 8 t rfl, after_8]
  rw [Dat.leavesExact_idle (dats m 0 c) 9 t (by rw [idle9]; exact decide_eq_true (by omega)) (by rw [flush9]; exact decide_eq_false (by omega))]
  rw [live m c 10 t rfl, after_10]
  rw [live m c 11 t rfl, after_11]
  rw [live m c 12 t rfl, after_12]
  rw [Dat.leavesExact_idle (dats m 0 c) 13 t (by rw [idle13]; exact decide_eq_true (by omega)) (by rw [flush13]; exact decide_eq_false (by omega))]
  rw [live m c 14 t (by rw [idle14]; exact decide_eq_false (by omega)), after_14]
  rw [live m c 15 t (by rw [idle15]; exact decide_eq_false (by omega)), after_15]
  rw [dhAt_head m c t h2, dvAt_row m c t h2 h1, hd]
  simp only [before_15' m c t h1]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_next c (grid0.coords t) _ _ _ _ _ _ _ _ _ _ _ _ _ _ _ _ _ _ _ _ _ _ _ _ _ _ _ _ _ _ _ _ _ _ _ _ _ _ _ _ _ _ _ (fun h => h1 ((cond1_iff t).1 h)) ((cond2_iff t).2 h2) (fun h => absurd ((cond3_iff t).1 h) (by omega)) _ _ _ Set.univ _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexists _; iexact H10
  isplitl [H11]; · iexists _; iexact H11
  isplitl [H12]; · iexists _; iexact H12
  isplitl [H13]; · iexact H13
  isplitl [H14]; · iexists _; iexact H14
  isplitl [H15]; · iexact H15
  isplitl [HS]; · iexists _; iexact HS
  iintro ⟨⟨H0, H1, H2, H3, H4, H5, H6, H7, H8⟩, H9, H10, H11, H12, H13, H14, H15, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  isplitl [H10]; · iexact H10
  isplitl [H11]; · iexact H11
  isplitl [H12]; · iexact H12
  isplitl [H13]; · iexists d13; iexact H13
  isplitl [H14]; · iexact H14
  iexact H15

set_option maxHeartbeats 2000000 in
/-- A point inside a row block. -/
theorem body_mid (c : Dev nD) (t : Fin cfg0.N) (h2 : t.val % 11 ≠ 0) (h3 : t.val % 11 ≠ 10) :
    bodyPre m c t ⊢ wp frame (wpE (defs₀ (F := F)) Variants.none c none) Set.univ (bodyAt0 t) (fun _ => bodyPost m c t) := by
  have hN : t.val < 44 := lt_of_lt_of_eq t.isLt N_0
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _), Nat.add_sub_cancel]
  have h1 : t.val ≠ 0 := by omega
  rw [PhiS_castSucc m c t, PhiS_pos m c _ _ h1]
  rw [live m c 0 t rfl, after_0]
  rw [live m c 1 t rfl, after_1]
  rw [live m c 2 t rfl, after_2]
  rw [live m c 3 t rfl, after_3]
  rw [live m c 4 t rfl, after_4]
  rw [live m c 5 t rfl, after_5]
  rw [live m c 6 t rfl, after_6]
  rw [live m c 7 t rfl, after_7]
  rw [live m c 8 t rfl, after_8]
  rw [Dat.leavesExact_idle (dats m 0 c) 9 t (by rw [idle9]; exact decide_eq_true (by omega)) (by rw [flush9]; exact decide_eq_false (by omega))]
  rw [live m c 10 t rfl, after_10]
  rw [live m c 11 t rfl, after_11]
  rw [live m c 12 t rfl, after_12]
  rw [Dat.leavesExact_idle (dats m 0 c) 13 t (by rw [idle13]; exact decide_eq_true (by omega)) (by rw [flush13]; exact decide_eq_false (by omega))]
  rw [Dat.leavesExact_idle (dats m 0 c) 14 t (by rw [idle14]; exact decide_eq_true (by omega)) (by rw [flush14]; exact decide_eq_false (by omega))]
  rw [Dat.leavesExact_idle (dats m 0 c) 15 t (by rw [idle15]; exact decide_eq_true (by omega)) (by rw [flush15]; exact decide_eq_false (by omega))]
  rw [dhAt_next m c t h2]
  simp only [before_15' m c t h1, before_14 m c _ t.val t.isLt h2]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_mid c (grid0.coords t) _ _ _ _ _ _ _ _ _ _ _ _ _ _ _ _ _ _ _ _ _ _ _ _ _ _ _ _ _ _ _ _ _ _ _ _ _ _ _ _ _ _ _ (fun h => absurd ((cond1_iff t).1 h) (by omega)) (fun h => h2 ((cond2_iff t).1 h)) (fun h => h3 ((cond3_iff t).1 h)) _ _ _ _ _ Set.univ _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexists _; iexact H10
  isplitl [H11]; · iexists _; iexact H11
  isplitl [H12]; · iexists _; iexact H12
  isplitl [H13]; · iexact H13
  isplitl [H14]; · iexact H14
  isplitl [H15]; · iexact H15
  isplitl [HS]; · iexact HS
  iintro ⟨⟨H0, H1, H2, H3, H4, H5, H6, H7, H8⟩, H9, H10, H11, H12, H13, H14, H15, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists d9; iexact H9
  isplitl [H10]; · iexact H10
  isplitl [H11]; · iexact H11
  isplitl [H12]; · iexact H12
  isplitl [H13]; · iexists d13; iexact H13
  isplitl [H14]; · iexists d14; iexact H14
  iexists d15; iexact H15

set_option maxHeartbeats 2000000 in
/-- The last point of a row block. -/
theorem body_last (c : Dev nD) (t : Fin cfg0.N) (h3 : t.val % 11 = 10) :
    bodyPre m c t ⊢ wp frame (wpE (defs₀ (F := F)) Variants.none c none) Set.univ (bodyAt0 t) (fun _ => bodyPost m c t) := by
  have hN : t.val < 44 := lt_of_lt_of_eq t.isLt N_0
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _), Nat.add_sub_cancel]
  have h1 : t.val ≠ 0 := by omega
  have h2 : t.val % 11 ≠ 0 := by omega
  rw [PhiS_castSucc m c t, PhiS_pos m c _ _ h1]
  rw [live m c 0 t rfl, after_0]
  rw [live m c 1 t rfl, after_1]
  rw [live m c 2 t rfl, after_2]
  rw [live m c 3 t rfl, after_3]
  rw [live m c 4 t rfl, after_4]
  rw [live m c 5 t rfl, after_5]
  rw [live m c 6 t rfl, after_6]
  rw [live m c 7 t rfl, after_7]
  rw [live m c 8 t rfl, after_8]
  rw [live m c 9 t (by rw [idle9]; exact decide_eq_false (by omega)), after_9]
  rw [live m c 10 t rfl, after_10]
  rw [live m c 11 t rfl, after_11]
  rw [live m c 12 t rfl, after_12]
  rw [live m c 13 t (by rw [idle13]; exact decide_eq_false (by omega)), after_13]
  rw [flushed m c 14 t (by rw [idle14]; exact decide_eq_true (by omega)) (by rw [flush14]; exact decide_eq_true (by omega)), after_14]
  rw [live m c 15 t (by rw [idle15]; exact decide_eq_false (by omega)), after_15]
  rw [dvAt_last m c t h3, dhAt_next m c t h2]
  simp only [before_15' m c t h1, before_14 m c _ t.val t.isLt h2]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_last c (grid0.coords t) _ _ _ _ _ _ _ _ _ _ _ _ _ _ _ _ _ _ _ _ _ _ _ _ _ _ _ _ _ _ _ _ _ _ _ _ _ _ _ _ _ _ _ (fun h => absurd ((cond1_iff t).1 h) (by omega)) (fun h => absurd ((cond2_iff t).1 h) (by omega)) ((cond3_iff t).2 h3) _ _ _ Set.univ _)
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [HS]; · iexact HS
  iintro ⟨⟨H0, H1, H2, H3, H4, H5, H6, H7, H8⟩, H9, H10, H11, H12, H13, H14, H15, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem sound_body (c : Dev nD) (t : Fin cfg0.N) :
    bodyPre m c t ⊢ wp frame (wpE (defs₀ (F := F)) Variants.none c none) Set.univ (bodyAt0 t) (fun _ => bodyPost m c t) := by
  by_cases h1 : t.val = 0
  · exact body_first m c t h1
  by_cases h2 : t.val % 11 = 0
  · exact body_next m c t h1 h2
  by_cases h3 : t.val % 11 = 10
  · exact body_last m c t h3
  · exact body_mid m c t h2 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 44 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run, its arguments unchanged and its counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (Gen.frame_of m ρ (dats m) (A_eq m) ((θ_run defs _ _).mono (fun _ h => h.1) (run_quiescent m ρ)))
    ((θ_run defs _ _).mono (fun _ h => h.2) (run_quiescent m ρ))

/-- The run, each result named. -/
theorem run_blocks : θ_run defs (onTc (τ := τ) (main (F := F))) ⟨m, fun _ => 0, ρ⟩ (fun r => ∀ c : Dev nD,
      r.2.mem ((c.tc : Thread nD τ).loc main_v49_0) = (dats m 0 c).arrAt 9 cfg0.N
      ∧ r.2.mem ((c.tc : Thread nD τ).loc main_v49_1) = (dats m 0 c).arrAt 10 cfg0.N
      ∧ r.2.mem ((c.tc : Thread nD τ).loc main_v49_2) = (dats m 0 c).arrAt 11 cfg0.N
      ∧ r.2.mem ((c.tc : Thread nD τ).loc main_v49_3) = (dats m 0 c).arrAt 12 cfg0.N
      ∧ r.2.mem ((c.tc : Thread nD τ).loc main_v49_4) = (dats m 0 c).arrAt 13 cfg0.N
      ∧ r.2.mem ((c.tc : Thread nD τ).loc main_v49_5) = (dats m 0 c).arrAt 14 cfg0.N
      ∧ r.2.mem ((c.tc : Thread nD τ).loc main_v49_6) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1.1 c).1 9, (h.1.1 c).1 10, (h.1.1 c).1 11, (h.1.1 c).1 12, (h.1.1 c).1 13, (h.1.1 c).1 14, (h.1.1 c).1 15, h.2.1 c⟩)
    (θ_run_and (run_quiescent m ρ) (frame_all m ρ))

end Cert.FfnBwdIdeal.Body

end

end
-- ==== Proof.FfnBwdKernel.lean ====
/- Hand-written, untrusted: what the gradient of the feed-forward block computes, block by block and as whole arrays. -/
module

public import proofs.«01_k».proof.Proof.FfnBwdFrame
public import proofs.«01_k».proof.Proof.FfnSpec
public import proofs.«01_k».proof.Proof.Gen.FfnBwdRefIdeal.Read

@[expose] public section

set_option maxRecDepth 16384

noncomputable section

namespace Cert.FfnBwdKernel

open Cert.FfnBwdIdeal Cert.FfnBwdIdeal.Gen Cert.FfnBwdIdeal.Body Idealize.ShloMosaic Idealize.ShloMosaic.TcCoe Idealize.SL.Sem Cert.Lib Cert.LossSpec Cert.ModSpec Cert.FfnSpec
open Idealize.ShloMosaic.Pipeline (Dat)
open scoped BigOperators

variable (m : (ℓ : Loc nD τ sig) → Buf (Elt Ideal) ℓ)

/-- The rows of the arguments. -/
def X (c : Dev nD) (s : Fin 2048) (k : Fin 1024) : EReal := m ((c : Thread nD τ).loc main_arg0) (ix3 0 s k)
def G (c : Dev nD) (k : Fin 1024) : EReal := m ((c : Thread nD τ).loc main_arg1) (ix1 k)
def Mo (c : Dev nD) (k : Fin 3072) : EReal := m ((c : Thread nD τ).loc main_arg2) (ix2 0 k)
def WI (c : Dev nD) (k : Fin 1024) (f : Fin 5632) : EReal := m ((c : Thread nD τ).loc main_arg3) (ix2 k f)
def WO (c : Dev nD) (f : Fin 2816) (k : Fin 1024) : EReal := m ((c : Thread nD τ).loc main_arg4) (ix2 f k)
def CX (c : Dev nD) (s : Fin 2048) (k : Fin 1024) : EReal := m ((c : Thread nD τ).loc main_arg5) (ix3 0 s k)

def SH (c : Dev nD) (k : Fin 1024) : EReal := Mo m c ⟨k.val, by omega⟩
def SC (c : Dev nD) (k : Fin 1024) : EReal := Mo m c ⟨1024 + k.val, by omega⟩
def GT (c : Dev nD) (k : Fin 1024) : EReal := Mo m c ⟨2048 + k.val, by omega⟩

/-- The saved values: the two halves of the first product, and the second product. -/
def GA (c : Dev nD) : (⟨S1x2048x2816, .f32⟩ : BufTy).Contents (Elt Ideal) := Cert.FfnBwdRefIdeal.Read.val_main_v29 (F := Ideal)
  (m ((c : Thread nD τ).loc main_arg0)) (m ((c : Thread nD τ).loc main_arg1)) (m ((c : Thread nD τ).loc main_arg2)) (m ((c : Thread nD τ).loc main_arg3))
def UA (c : Dev nD) : (⟨S1x2048x2816, .f32⟩ : BufTy).Contents (Elt Ideal) := Cert.FfnBwdRefIdeal.Read.val_main_v30 (F := Ideal)
  (m ((c : Thread nD τ).loc main_arg0)) (m ((c : Thread nD τ).loc main_arg1)) (m ((c : Thread nD τ).loc main_arg2)) (m ((c : Thread nD τ).loc main_arg3))
def YA (c : Dev nD) : (⟨S1x2048x1024, .f32⟩ : BufTy).Contents (Elt Ideal) := Cert.FfnBwdRefIdeal.Read.val_main_v33 (F := Ideal)
  (m ((c : Thread nD τ).loc main_arg0)) (m ((c : Thread nD τ).loc main_arg1)) (m ((c : Thread nD τ).loc main_arg2)) (m ((c : Thread nD τ).loc main_arg3)) (m ((c : Thread nD τ).loc main_arg4))
def GS (c : Dev nD) (s : Fin 2048) (f : Fin 2816) : EReal := GA m c (ix3 0 s f)
def US (c : Dev nD) (s : Fin 2048) (f : Fin 2816) : EReal := UA m c (ix3 0 s f)
def YS (c : Dev nD) (s : Fin 2048) (k : Fin 1024) : EReal := YA m c (ix3 0 s k)

theorem idx : ∀ t : Fin cfg0.N, win0_0.index t = ![t.val / 11, 0] ∧ win0_1.index t = ![t.val / 11, 0]
    ∧ win0_2.index t = ![0, 0] ∧ win0_3.index t = ![t.val / 11, t.val % 11] ∧ win0_4.index t = ![t.val / 11, t.val % 11]
    ∧ win0_5.index t = ![t.val / 11, 0] ∧ win0_6.index t = ![0, 0, t.val % 11] ∧ win0_7.index t = ![0, 0, 11 + t.val % 11]
    ∧ win0_8.index t = ![0, t.val % 11, 0] ∧ win0_9.index t = ![t.val / 11, 0] ∧ win0_10.index t = ![t.val / 11, t.val % 11]
    ∧ win0_11.index t = ![t.val / 11, t.val % 11] ∧ win0_12.index t = ![t.val / 11, t.val % 11] ∧ win0_13.index t = ![t.val / 11, 0]
    ∧ win0_14.index t = ![t.val / 11, 0] ∧ win0_15.index t = ![0, 0] :=
  (by decide +kernel : ∀ t : Fin grid0.N, _)

theorem lt44 (t : Fin cfg0.N) : t.val < 44 := lt_of_lt_of_eq t.isLt N_0

/-- The row of the arrays that row `s` of step `t`'s blocks is, and the columns. -/
def row (t : Fin cfg0.N) (s : Fin 512) : Fin 2048 := ⟨t.val / 11 * 512 + s.val, by have := lt44 t; omega⟩
def col (t : Fin cfg0.N) (f : Fin 256) : Fin 2816 := ⟨t.val % 11 * 256 + f.val, by omega⟩
def lo (f : Fin 2816) : Fin 5632 := ⟨f.val, by omega⟩
def hi (f : Fin 2816) : Fin 5632 := ⟨2816 + f.val, by omega⟩

/-! The kernel's operands that the host prepares. -/

theorem V_v32 (c : Dev nD) : V m c main_v32 = truncf (F := Ideal) .bf16 (shapeCast S2048x2816 (GA m c) shapeCasts_S1x2048x2816_S2048x2816) bitsLt_bf16_f32 := by
  unfold V
  after_results
  try rfl

theorem V_v34 (c : Dev nD) : V m c main_v34 = truncf (F := Ideal) .bf16 (shapeCast S2048x2816 (UA m c) shapeCasts_S1x2048x2816_S2048x2816) bitsLt_bf16_f32 := by
  unfold V
  after_results
  try rfl

theorem V_v36 (c : Dev nD) : V m c main_v36 = truncf (F := Ideal) .bf16 (shapeCast S2048x1024 (YA m c) shapeCasts_S1x2048x1024_S2048x1024) bitsLt_bf16_f32 := by
  unfold V
  after_results
  try rfl

theorem V_v37 (c : Dev nD) : V m c main_v37 = shapeCast S2048x1024 (m ((c : Thread nD τ).loc main_arg5)) shapeCasts_S1x2048x1024_S2048x1024 := by
  unfold V
  rfl

theorem V_v38 (c : Dev nD) : V m c main_v38 = shapeCast S2048x1024 (m ((c : Thread nD τ).loc main_arg0)) shapeCasts_S1x2048x1024_S2048x1024 := by
  unfold V
  rfl

theorem V_v44 (c : Dev nD) : V m c main_v44 = addf (F := Ideal)
    (pad S8x1024 ![0, 0] ![7, 0] ![0, 0] (broadcastInDim S1x1024 ![1] bcast_S1024_S1x1024_1 (m ((c : Thread nD τ).loc main_arg1))) (sitofp (F := Ideal) .f32 (constantI S_ 32 0#32)) pads_S1x1024_S8x1024_070_000 h_S_)
    (pad S8x1024 ![1, 0] ![4, 0] ![0, 0] (shapeCast S3x1024 (shapeCast S3072 (m ((c : Thread nD τ).loc main_arg2)) shapeCasts_S1x3072_S3072) shapeCasts_S3072_S3x1024) (sitofp (F := Ideal) .f32 (constantI S_ 32 0#32)) pads_S3x1024_S8x1024_140_000 h_S_) := by
  unfold V
  after_results
  try rfl

theorem V_v46 (c : Dev nD) : V m c main_v46 = truncf (F := Ideal) .bf16 (broadcastInDim S1x1024x5632 ![1, 2] bcast_S1024x5632_S1x1024x5632_1_2 (m ((c : Thread nD τ).loc main_arg3))) bitsLt_bf16_f32 := by
  unfold V
  after_results
  try rfl

theorem V_v48 (c : Dev nD) : V m c main_v48 = truncf (F := Ideal) .bf16 (broadcastInDim S1x2816x1024 ![1, 2] bcast_S2816x1024_S1x2816x1024_1_2 (m ((c : Thread nD τ).loc main_arg4))) bitsLt_bf16_f32 := by
  unfold V
  after_results
  try rfl

theorem emb_ct (t : Fin cfg0.N) (s : Fin 512) (k : Fin 1024) :
    ((View.whole main_v37).slice (win0_0.rect t)).emb (ix2 s k) = ix2 (row t s) k := by blk_ext [idx t, row]
theorem emb_x (t : Fin cfg0.N) (s : Fin 512) (k : Fin 1024) :
    ((View.whole main_v38).slice (win0_1.rect t)).emb (ix2 s k) = ix2 (row t s) k := by blk_ext [idx t, row]
theorem emb_v (t : Fin cfg0.N) (a : Fin 8) (k : Fin 1024) :
    ((View.whole main_v44).slice (win0_2.rect t)).emb (ix2 a k) = ix2 a k := by blk_ext [idx t]
theorem emb_g (t : Fin cfg0.N) (s : Fin 512) (f : Fin 256) :
    ((View.whole main_v32).slice (win0_3.rect t)).emb (ix2 s f) = ix2 (row t s) (col t f) := by blk_ext [idx t, row, col]
theorem emb_u (t : Fin cfg0.N) (s : Fin 512) (f : Fin 256) :
    ((View.whole main_v34).slice (win0_4.rect t)).emb (ix2 s f) = ix2 (row t s) (col t f) := by blk_ext [idx t, row, col]
theorem emb_y (t : Fin cfg0.N) (s : Fin 512) (k : Fin 1024) :
    ((View.whole main_v36).slice (win0_5.rect t)).emb (ix2 s k) = ix2 (row t s) k := by blk_ext [idx t, row]
theorem emb_wl (t : Fin cfg0.N) (k : Fin 1024) (f : Fin 256) :
    ((View.whole main_v46).slice (win0_6.rect t)).emb (ix3 0 k f) = ix3 0 k (lo (col t f)) := by blk_ext [idx t, lo, col]
theorem emb_wh (t : Fin cfg0.N) (k : Fin 1024) (f : Fin 256) :
    ((View.whole main_v46).slice (win0_7.rect t)).emb (ix3 0 k f) = ix3 0 k (hi (col t f)) := by blk_ext [idx t, hi, col]
theorem emb_wo (t : Fin cfg0.N) (f : Fin 256) (k : Fin 1024) :
    ((View.whole main_v48).slice (win0_8.rect t)).emb (ix3 0 f k) = ix3 0 (col t f) k := by blk_ext [idx t, col]

/-! What each window's block holds. -/

theorem flat (f : (⟨S1x2048x1024, .f32⟩ : BufTy).Contents (Elt Ideal)) (s : Fin 2048) (k : Fin 1024) :
    shapeCast S2048x1024 f shapeCasts_S1x2048x1024_S2048x1024 (ix2 s k) = f (ix3 0 s k) := by
  pointwise
theorem flat_y (f : (⟨S1x2048x1024, .f32⟩ : BufTy).Contents (Elt Ideal)) (s : Fin 2048) (k : Fin 1024) :
    truncf (F := Ideal) .bf16 (shapeCast S2048x1024 f shapeCasts_S1x2048x1024_S2048x1024) bitsLt_bf16_f32 (ix2 s k) = f (ix3 0 s k) := by
  pointwise
theorem flat_g (f : (⟨S1x2048x2816, .f32⟩ : BufTy).Contents (Elt Ideal)) (s : Fin 2048) (k : Fin 2816) :
    truncf (F := Ideal) .bf16 (shapeCast S2048x2816 f shapeCasts_S1x2048x2816_S2048x2816) bitsLt_bf16_f32 (ix2 s k) = f (ix3 0 s k) := by
  pointwise
theorem stack_i (f : (⟨S1024x5632, .f32⟩ : BufTy).Contents (Elt Ideal)) (k : Fin 1024) (l : Fin 5632) :
    truncf (F := Ideal) .bf16 (broadcastInDim S1x1024x5632 ![1, 2] bcast_S1024x5632_S1x1024x5632_1_2 f) bitsLt_bf16_f32 (ix3 0 k l) = f (ix2 k l) := by
  pointwise
theorem stack_o (f : (⟨S2816x1024, .f32⟩ : BufTy).Contents (Elt Ideal)) (l : Fin 2816) (k : Fin 1024) :
    truncf (F := Ideal) .bf16 (broadcastInDim S1x2816x1024 ![1, 2] bcast_S2816x1024_S1x2816x1024_1_2 f) bitsLt_bf16_f32 (ix3 0 l k) = f (ix2 l k) := by
  pointwise

theorem blk_ct (c : Dev nD) (t : Fin cfg0.N) (s : Fin 512) (k : Fin 1024) :
    iblk m c 0 t (ix2 s k) = CX m c (row t s) k := by
  change V m c main_v37 (((View.whole main_v37).slice (win0_0.rect t)).emb (ix2 s k)) = _
  rw [V_v37, emb_ct, flat]; rfl
theorem blk_x (c : Dev nD) (t : Fin cfg0.N) (s : Fin 512) (k : Fin 1024) :
    iblk m c 1 t (ix2 s k) = X m c (row t s) k := by
  change V m c main_v38 (((View.whole main_v38).slice (win0_1.rect t)).emb (ix2 s k)) = _
  rw [V_v38, emb_x, flat]; rfl
theorem blk_v (c : Dev nD) (t : Fin cfg0.N) (a : Fin 8) (k : Fin 1024) :
    iblk m c 2 t (ix2 a k) = (if a.val = 0 then G m c k else 0)
      + (if h : 1 ≤ a.val ∧ a.val - 1 < 3 then Mo m c ⟨(a.val - 1) * 1024 + k.val, by omega⟩ else 0) := by
  change V m c main_v44 (((View.whole main_v44).slice (win0_2.rect t)).emb (ix2 a k)) = _
  rw [V_v44, emb_v, addf_apply, pad_top, pad_mod]; rfl
theorem blk_g (c : Dev nD) (t : Fin cfg0.N) (s : Fin 512) (f : Fin 256) :
    iblk m c 3 t (ix2 s f) = GS m c (row t s) (col t f) := by
  change V m c main_v32 (((View.whole main_v32).slice (win0_3.rect t)).emb (ix2 s f)) = _
  rw [V_v32, emb_g, flat_g]; rfl
theorem blk_u (c : Dev nD) (t : Fin cfg0.N) (s : Fin 512) (f : Fin 256) :
    iblk m c 4 t (ix2 s f) = US m c (row t s) (col t f) := by
  change V m c main_v34 (((View.whole main_v34).slice (win0_4.rect t)).emb (ix2 s f)) = _
  rw [V_v34, emb_u, flat_g]; rfl
theorem blk_y (c : Dev nD) (t : Fin cfg0.N) (s : Fin 512) (k : Fin 1024) :
    iblk m c 5 t (ix2 s k) = YS m c (row t s) k := by
  change V m c main_v36 (((View.whole main_v36).slice (win0_5.rect t)).emb (ix2 s k)) = _
  rw [V_v36, emb_y, flat_y]; rfl
theorem blk_wl (c : Dev nD) (t : Fin cfg0.N) (k : Fin 1024) (f : Fin 256) :
    iblk m c 6 t (ix3 0 k f) = WI m c k (lo (col t f)) := by
  change V m c main_v46 (((View.whole main_v46).slice (win0_6.rect t)).emb (ix3 0 k f)) = _
  rw [V_v46, emb_wl, stack_i]; rfl
theorem blk_wh (c : Dev nD) (t : Fin cfg0.N) (k : Fin 1024) (f : Fin 256) :
    iblk m c 7 t (ix3 0 k f) = WI m c k (hi (col t f)) := by
  change V m c main_v46 (((View.whole main_v46).slice (win0_7.rect t)).emb (ix3 0 k f)) = _
  rw [V_v46, emb_wh, stack_i]; rfl
theorem blk_wo (c : Dev nD) (t : Fin cfg0.N) (f : Fin 256) (k : Fin 1024) :
    iblk m c 8 t (ix3 0 f k) = WO m c (col t f) k := by
  change V m c main_v48 (((View.whole main_v48).slice (win0_8.rect t)).emb (ix3 0 f k)) = _
  rw [V_v48, emb_wo, stack_o]; rfl

/-! Rows of an eight-row block, read and replaced. -/

theorem row0_at (Y : Vec Ideal S8x1024 .f32) (k : Fin 1024) : row0 Y (ix2 (n0 := 1) (n1 := 1024) 0 k) = Y (ix2 (n0 := 8) (n1 := 1024) 0 k) := ld_row Y (by norm_num : 0 < 8) _ k
theorem row1_at (Y : Vec Ideal S8x1024 .f32) (k : Fin 1024) : row1 Y (ix2 (n0 := 1) (n1 := 1024) 0 k) = Y (ix2 (n0 := 8) (n1 := 1024) 1 k) := ld_row Y (by norm_num : 1 < 8) _ k
theorem row2_at (Y : Vec Ideal S8x1024 .f32) (k : Fin 1024) : row2 Y (ix2 (n0 := 1) (n1 := 1024) 0 k) = Y (ix2 (n0 := 8) (n1 := 1024) 2 k) := ld_row Y (by norm_num : 2 < 8) _ k
theorem row3_at (Y : Vec Ideal S8x1024 .f32) (k : Fin 1024) : row3 Y (ix2 (n0 := 1) (n1 := 1024) 0 k) = Y (ix2 (n0 := 8) (n1 := 1024) 3 k) := ld_row Y (by norm_num : 3 < 8) _ k
theorem setRow_at (r : ℕ) (p : Vec Ideal S1x1024 .f32) (Y : Vec Ideal S8x1024 .f32) (a : Fin 8) (k : Fin 1024) :
    setRow r p Y (ix2 (n0 := 8) (n1 := 1024) a k) = if a.val = r then p (ix2 (n0 := 1) (n1 := 1024) 0 k) else Y (ix2 (n0 := 8) (n1 := 1024) a k) := rfl

/-! The four rows of the packed vectors that the kernel loads. -/

theorem ld_g (c : Dev nD) (t : Fin cfg0.N) (k : Fin 1024) : row0 (F := Ideal) (iblk m c 2 t) (ix2 (n0 := 1) (n1 := 1024) 0 k) = G m c k := by
  rw [row0_at, blk_v]
  simp
theorem ld_sh (c : Dev nD) (t : Fin cfg0.N) (k : Fin 1024) : row1 (F := Ideal) (iblk m c 2 t) (ix2 (n0 := 1) (n1 := 1024) 0 k) = SH m c k := by
  rw [row1_at, blk_v]
  simp [SH]
theorem ld_sc (c : Dev nD) (t : Fin cfg0.N) (k : Fin 1024) : row2 (F := Ideal) (iblk m c 2 t) (ix2 (n0 := 1) (n1 := 1024) 0 k) = SC m c k := by
  rw [row2_at, blk_v]
  simp [SC]
theorem ld_gt (c : Dev nD) (t : Fin cfg0.N) (k : Fin 1024) : row3 (F := Ideal) (iblk m c 2 t) (ix2 (n0 := 1) (n1 := 1024) 0 k) = GT m c k := by
  rw [row3_at, blk_v]
  simp [GT]

/-! The kernel's arithmetic at a point. -/

theorem pay_zero (s : Fin 512) (f : Fin 1024) : k0_pay20 (F := Ideal) (ix2 s f) = 0 := by
  pointwise [k0_pay20]
theorem pay_clear (a : Fin 8) (f : Fin 1024) : k0_pay16 (F := Ideal) (ix2 a f) = 0 := by
  pointwise [k0_pay16]

theorem pay_dy (ct : Vec Ideal S512x1024 .f32) (g : Vec Ideal S1x1024 .f32) (s : Fin 512) (k : Fin 1024) :
    k0_pay18 ct g (ix2 s k) = dyR (fun k => g (ix2 0 k)) (fun k => ct (ix2 s k)) k := by
  simp only [dyR]
  pointwise [k0_pay17, k0_pay18]

theorem pay_dgate (ct : Vec Ideal S512x1024 .f32) (r : Vec Ideal S1x1024 .f32) (y : Vec Ideal S512x1024 .bf16) (k : Fin 1024) :
    k0_pay19 ct r y (ix2 0 k) = r (ix2 0 k) + Ideal.ofBits .f32 0x3F000000#32 * ∑ s : Fin 512, ct (ix2 s k) * y (ix2 s k) := by
  pointwise [k0_pay17, k0_pay19]

theorem pay_da (dy : Vec Ideal S512x1024 .bf16) (w : Vec Ideal S1x256x1024 .bf16) (s : Fin 512) (f : Fin 256) :
    k0_pay21 dy w (ix2 s f) = daR (fun k => dy (ix2 s k)) (fun k => w (ix3 0 f k)) := by
  simp only [daR]
  pointwise [k0_pay21]

theorem pay_sg (g : Vec Ideal S512x256 .bf16) (s : Fin 512) (f : Fin 256) : k0_pay24 g (ix2 s f) = sg (g (ix2 s f)) := by
  rw [← sg_tanh]
  pointwise [k0_pay22, k0_pay24]

theorem pay_silu (g : Vec Ideal S512x256 .bf16) (s : Fin 512) (f : Fin 256) : k0_pay25 g (ix2 s f) = g (ix2 s f) * sg (g (ix2 s f)) := by
  rw [← pay_sg]
  pointwise [k0_pay22, k0_pay25]

theorem pay_a (g u : Vec Ideal S512x256 .bf16) (s : Fin 512) (f : Fin 256) : aF g u (ix2 s f) = act (g (ix2 s f)) (u (ix2 s f)) := by
  rw [act, ← pay_silu]
  pointwise [aF, k0_pay23, k0_pay26]

theorem pay_dg (dy : Vec Ideal S512x1024 .bf16) (g u : Vec Ideal S512x256 .bf16) (w : Vec Ideal S1x256x1024 .bf16) (s : Fin 512) (f : Fin 256) :
    dgF dy g u w (ix2 s f) = dgR (daR (fun k => dy (ix2 s k)) (fun k => w (ix3 0 f k))) (g (ix2 s f)) (u (ix2 s f)) := by
  rw [dgR, ← pay_da, ← pay_sg]
  pointwise [dgF, k0_pay1, k0_pay22, k0_pay23, k0_pay27, k0_pay28]

theorem pay_du (dy : Vec Ideal S512x1024 .bf16) (g : Vec Ideal S512x256 .bf16) (w : Vec Ideal S1x256x1024 .bf16) (s : Fin 512) (f : Fin 256) :
    duF dy g w (ix2 s f) = duR (daR (fun k => dy (ix2 s k)) (fun k => w (ix3 0 f k))) (g (ix2 s f)) := by
  rw [duR, ← pay_da, ← pay_silu]
  pointwise [duF, k0_pay2]

theorem pay_acc (da g v t q : FVec Ideal S512x256 .f32) (acc : Vec Ideal S512x1024 .f32) (w w' : Vec Ideal S1x1024x256 .bf16) (s : Fin 512) (k : Fin 1024) :
    k0_pay3 da g v t q acc w w' (ix2 s k) = acc (ix2 s k)
      + ((∑ f : Fin 256, k0_pay1 g t q (ix2 s f) * w (ix3 0 k f)) + ∑ f : Fin 256, k0_pay2 da v (ix2 s f) * w' (ix3 0 k f)) := by
  pointwise [k0_pay3]

theorem pay_dx (a : Vec Ideal S512x1024 .f32) (g sc : Vec Ideal S1x1024 .f32) (x ct : Vec Ideal S512x1024 .f32) (s : Fin 512) (k : Fin 1024) :
    k0_pay6 a (k0_pay9 g) (k0_pay11 sc) (k0_pay12 x) (k0_pay13 x) ct (ix2 s k)
      = ct (ix2 s k) + drow (fun k => x (ix2 s k)) (fun k => g (ix2 0 k)) (fun k => sc (ix2 0 k)) (fun k => a (ix2 s k)) k := by
  simp only [drow, gm, xhat, rv]
  pointwise [k0_pay5, k0_pay6, k0_pay8, k0_pay9, k0_pay11, k0_pay12, k0_pay13]

theorem pay_h (g sh sc : Vec Ideal S1x1024 .f32) (x : Vec Ideal S512x1024 .f32) (s : Fin 512) (k : Fin 1024) :
    k0_pay7 (k0_pay9 g) (k0_pay10 sh) (k0_pay11 sc) (k0_pay13 x) (ix2 s k)
      = hrow (fun k => x (ix2 s k)) (fun k => g (ix2 0 k)) (fun k => sh (ix2 0 k)) (fun k => sc (ix2 0 k)) k := by
  simp only [hrow, gm, xhat, rv]
  pointwise [k0_pay5, k0_pay7, k0_pay8, k0_pay9, k0_pay10, k0_pay11, k0_pay12, k0_pay13]

theorem pay_dgain (x a : Vec Ideal S512x1024 .f32) (sc r : Vec Ideal S1x1024 .f32) (k : Fin 1024) :
    k0_pay14 x a sc r (ix2 0 k) = r (ix2 0 k)
      + ∑ s : Fin 512, dgain (fun k => x (ix2 s k)) (fun k => sc (ix2 0 k)) (fun k => a (ix2 s k)) k := by
  simp only [dgain, xhat, rv]
  pointwise [k0_pay8, k0_pay11, k0_pay12, k0_pay13, k0_pay14]

theorem pay_dshift (a : Vec Ideal S512x1024 .f32) (r : Vec Ideal S1x1024 .f32) (k : Fin 1024) :
    k0_pay15 a r (ix2 0 k) = r (ix2 0 k) + ∑ s : Fin 512, a (ix2 s k) := by
  pointwise [k0_pay15]

theorem pay_dscale (x a : Vec Ideal S512x1024 .f32) (g r : Vec Ideal S1x1024 .f32) (k : Fin 1024) :
    k0_pay4 a (k0_pay9 g) (k0_pay13 x) r (ix2 0 k) = r (ix2 0 k)
      + ∑ s : Fin 512, dscale (fun k => x (ix2 s k)) (fun k => g (ix2 0 k)) (fun k => a (ix2 s k)) k := by
  simp only [dscale, xhat, rv]
  pointwise [k0_pay4, k0_pay8, k0_pay9, k0_pay12, k0_pay13]

/-! The gradients as functions of rows and columns. -/

def DY (c : Dev nD) (s : Fin 2048) (k : Fin 1024) : EReal := dyR (GT m c) (CX m c s) k
def DA (c : Dev nD) (s : Fin 2048) (f : Fin 2816) : EReal := daR (DY m c s) (WO m c f)
def DG (c : Dev nD) (s : Fin 2048) (f : Fin 2816) : EReal := dgR (DA m c s f) (GS m c s f) (US m c s f)
def DU (c : Dev nD) (s : Fin 2048) (f : Fin 2816) : EReal := duR (DA m c s f) (GS m c s f)
def DH (c : Dev nD) (s : Fin 2048) (k : Fin 1024) : EReal := dhR (DG m c s) (DU m c s) (WI m c k)

theorem dy_at (c : Dev nD) (t : Fin cfg0.N) (s : Fin 512) (k : Fin 1024) : dyAt m c t.val (ix2 s k) = DY m c (row t s) k := by
  have hN := lt44 t
  have e : row (pt (head t.val)) s = row t s := Fin.ext (by simp only [row, pt, head]; omega)
  rw [dyAt, dyF, pay_dy]
  simp only [blk_ct, ld_gt, e]
  rfl

theorem da_at (c : Dev nD) (t : Fin cfg0.N) (s : Fin 512) (f : Fin 256) :
    daR (fun k => dyAt m c t.val (ix2 s k)) (fun k => iblk m c 8 t (ix3 0 f k)) = DA m c (row t s) (col t f) := by
  simp only [dy_at, blk_wo]
  rfl

theorem dg_at (c : Dev nD) (t : Fin cfg0.N) (s : Fin 512) (f : Fin 256) :
    dgF (dyAt m c t.val) (iblk m c 3 t) (iblk m c 4 t) (iblk m c 8 t) (ix2 s f) = DG m c (row t s) (col t f) := by
  rw [pay_dg, da_at, blk_g, blk_u]
  rfl

theorem du_at (c : Dev nD) (t : Fin cfg0.N) (s : Fin 512) (f : Fin 256) :
    duF (dyAt m c t.val) (iblk m c 3 t) (iblk m c 8 t) (ix2 s f) = DU m c (row t s) (col t f) := by
  rw [pay_du, da_at, blk_g]
  rfl

theorem a_at (c : Dev nD) (t : Fin cfg0.N) (s : Fin 512) (f : Fin 256) :
    aF (iblk m c 3 t) (iblk m c 4 t) (ix2 s f) = act (GS m c (row t s) (col t f)) (US m c (row t s) (col t f)) := by
  rw [pay_a, blk_g, blk_u]

/-- What one column block adds to the gradient of the modulated rows. -/
def part (c : Dev nD) (t : Fin cfg0.N) (s : Fin 512) (k : Fin 1024) : EReal :=
  (∑ f : Fin 256, DG m c (row t s) (col t f) * WI m c k (lo (col t f))) + ∑ f : Fin 256, DU m c (row t s) (col t f) * WI m c k (hi (col t f))

theorem dh_step (c : Dev nD) (t : Fin cfg0.N) (acc : Vec Ideal S512x1024 .f32) (s : Fin 512) (k : Fin 1024) :
    dhF (dyAt m c t.val) (iblk m c 3 t) (iblk m c 4 t) (iblk m c 6 t) (iblk m c 7 t) (iblk m c 8 t) acc (ix2 s k) = acc (ix2 s k) + part m c t s k := by
  have hg := dg_at m c t s
  have hu := du_at m c t s
  simp only [dgF] at hg
  simp only [duF] at hu
  rw [dhF, pay_acc]
  simp only [hg, hu, blk_wl, blk_wh]
  rfl

/-- The point of a row block's column block. -/
theorem sum_cols (f : Fin 2816 → EReal) (t : Fin cfg0.N) (h : ∀ j : Fin 11, 11 * (t.val / 11) + j.val < cfg0.N) :
    ∑ j : Fin 11, ∑ l : Fin 256, f (col ⟨11 * (t.val / 11) + j.val, h j⟩ l) = ∑ l, f l := by
  have e : ∑ j : Fin 11, ∑ l : Fin 256, f ⟨j.val * 256 + l.val, by omega⟩ = ∑ l, f l :=
    Fin.sum_mul_add_congr (S := 11) (F := fun j l => f ⟨j.val * 256 + l.val, by omega⟩) fun s k hl => rfl
  rw [← e]
  refine Finset.sum_congr rfl fun j _ => Finset.sum_congr rfl fun l _ => congrArg f (Fin.ext ?_)
  simp only [col]
  omega

theorem dh_last (c : Dev nD) (t : Fin cfg0.N) (h : t.val % 11 = 10) (s : Fin 512) (k : Fin 1024) :
    dhAt m c t.val (ix2 s k) = DH m c (row t s) k := by
  rw [Pipeline.eq_sum_fin_of_reset_step_apply_of_flush (fun n (_ : n < cfg0.N) (p : Fin 512 × Fin 1024) => dhAt m c n (ix2 p.1 p.2)) 11
    (fun _ => 0) (fun t p => part m c t p.1 p.2)
    (fun t h p => by rw [dhAt_head m c t h, dh_step, pay_zero])
    (fun t h p => by rw [dhAt_next m c t h, dh_step]) t h (s, k), zero_add]
  dsimp only
  have hr : ∀ (j : Fin 11) (hj : 11 * (t.val / 11) + j.val < cfg0.N), row ⟨11 * (t.val / 11) + j.val, hj⟩ s = row t s := fun j hj =>
    Fin.ext (by simp only [row]; omega)
  unfold part DH dhR
  simp only [hr]
  rw [Finset.sum_add_distrib]
  exact congrArg₂ (· + ·) (sum_cols (fun f => DG m c (row t s) f * WI m c k (lo f)) t _) (sum_cols (fun f => DU m c (row t s) f * WI m c k (hi f)) t _)

theorem dx_at (c : Dev nD) (t : Fin cfg0.N) (h : t.val % 11 = 10) (s : Fin 512) (k : Fin 1024) :
    dxF (iblk m c 0 t) (iblk m c 1 t) (iblk m c 2 t) (dhAt m c t.val) (ix2 s k)
      = CX m c (row t s) k + drow (X m c (row t s)) (G m c) (SC m c) (DH m c (row t s)) k := by
  rw [dxF, pay_dx]
  simp only [blk_x, blk_ct, ld_g, ld_sc, dh_last m c t h]

theorem h_at (c : Dev nD) (t : Fin cfg0.N) (s : Fin 512) (k : Fin 1024) :
    hF (iblk m c 1 t) (iblk m c 2 t) (ix2 s k) = hrow (X m c (row t s)) (G m c) (SH m c) (SC m c) k := by
  rw [hF, pay_h]
  simp only [blk_x, ld_g, ld_sh, ld_sc]

/-- One point's share of the vector gradients. -/
def term (c : Dev nD) (t : Fin cfg0.N) (a : Fin 8) (k : Fin 1024) : EReal :=
  rows4 (fun k => if t.val % 11 = 10 then ∑ s : Fin 512, dgain (X m c (row t s)) (SC m c) (DH m c (row t s)) k else 0)
    (fun k => if t.val % 11 = 10 then ∑ s : Fin 512, DH m c (row t s) k else 0)
    (fun k => if t.val % 11 = 10 then ∑ s : Fin 512, dscale (X m c (row t s)) (G m c) (DH m c (row t s)) k else 0)
    (fun k => if t.val % 11 = 0 then ∑ s : Fin 512, Ideal.ofBits .f32 0x3F000000#32 * (CX m c (row t s) k * YS m c (row t s) k) else 0) a k

theorem dv_row (c : Dev nD) (t : Fin cfg0.N) (h : t.val % 11 = 0) (Y : Vec Ideal S8x1024 .f32) (a : Fin 8) (k : Fin 1024) :
    dvF (iblk m c 0 t) (iblk m c 5 t) Y (ix2 a k) = Y (ix2 a k) + term m c t a k := by
  have h10 : ¬t.val % 11 = 10 := by omega
  simp only [term, rows4, if_neg h10, if_pos h]
  rw [dvF, setRow_at]
  by_cases h3 : a.val = 3
  · rw [if_pos h3, if_neg (show ¬a.val = 0 by omega), if_neg (show ¬a.val = 1 by omega), if_neg (show ¬a.val = 2 by omega), if_pos h3]
    obtain rfl : a = 3 := Fin.ext h3
    rw [pay_dgate, row3_at, bits_half, pos_mul_sum (by norm_num)]
    simp only [blk_ct, blk_y]
  · simp only [if_neg h3, ite_self, add_zero]

theorem dv_last (c : Dev nD) (t : Fin cfg0.N) (h : t.val % 11 = 10) (Y : Vec Ideal S8x1024 .f32) (a : Fin 8) (k : Fin 1024) :
    dvL (iblk m c 1 t) (iblk m c 2 t) (dhAt m c t.val) Y (ix2 a k) = Y (ix2 a k) + term m c t a k := by
  have h0' : ¬t.val % 11 = 0 := by omega
  simp only [term, rows4, if_neg h0', if_pos h]
  rw [dvL, setRow_at, setRow_at, setRow_at]
  by_cases h2 : a.val = 2
  · rw [if_pos h2, if_neg (show ¬a.val = 0 by omega), if_neg (show ¬a.val = 1 by omega), if_pos h2]
    obtain rfl : a = 2 := Fin.ext h2
    rw [pay_dscale, row2_at]
    simp only [blk_x, ld_g, dh_last m c t h]
  by_cases h1 : a.val = 1
  · rw [if_neg h2, if_pos h1, if_neg (show ¬a.val = 0 by omega), if_pos h1]
    obtain rfl : a = 1 := Fin.ext h1
    rw [pay_dshift, row1_at]
    simp only [dh_last m c t h]
  by_cases h0 : a.val = 0
  · rw [if_neg h2, if_neg h1, if_pos h0, if_pos h0]
    obtain rfl : a = 0 := Fin.ext h0
    rw [pay_dgain, row0_at]
    simp only [blk_x, ld_sc, dh_last m c t h]
  rw [if_neg h2, if_neg h1, if_neg h0, if_neg h0, if_neg h1, if_neg h2, ite_self, add_zero]

/-- The packed gradients. -/
def dvec (c : Dev nD) (a : Fin 8) (k : Fin 1024) : EReal :=
  rows4 (fun k => ∑ s, dgain (X m c s) (SC m c) (DH m c s) k) (fun k => ∑ s, DH m c s k)
    (fun k => ∑ s, dscale (X m c s) (G m c) (DH m c s) k) (fun k => ∑ s, Ideal.ofBits .f32 0x3F000000#32 * (CX m c s k * YS m c s k)) a k

/-- A sum over the points of one column block is a sum over the row blocks. -/
theorem sum_rows (r : Fin 11) (f : Fin 2048 → EReal) :
    ∑ t : Fin cfg0.N, (if t.val % 11 = r.val then ∑ s : Fin 512, f (row t s) else 0) = ∑ s, f s := by
  have h4 : ∑ b : Fin 4, ∑ s : Fin 512, f ⟨b.val * 512 + s.val, by omega⟩ = ∑ s, f s :=
    Fin.sum_mul_add_congr (S := 4) (F := fun t s => f ⟨t.val * 512 + s.val, by omega⟩) fun s k hl => rfl
  have h44 : ∑ b : Fin 4, ∑ j : Fin 11, (if j.val = r.val then ∑ s : Fin 512, f ⟨b.val * 512 + s.val, by omega⟩ else 0)
      = ∑ t : Fin 44, (if t.val % 11 = r.val then ∑ s : Fin 512, f ⟨t.val / 11 * 512 + s.val, by omega⟩ else 0) := by
    refine Fin.sum_mul_add_congr (S := 4) fun b j hl => ?_
    have e1 : (b.val * 11 + j.val) % 11 = j.val := by omega
    have e2 : (b.val * 11 + j.val) / 11 = b.val := by omega
    simp only [e1, e2]
  refine Eq.trans ?_ ((h44.symm.trans ?_).trans h4)
  · rfl
  · refine Finset.sum_congr rfl fun b _ => ?_
    rw [Finset.sum_eq_single r (fun j _ hj => if_neg fun e => hj (Fin.ext e)) (fun h => absurd (Finset.mem_univ r) h), if_pos rfl]

theorem dv_end (c : Dev nD) (a : Fin 8) (k : Fin 1024) : dvAt m c 43 (ix2 a k) = dvec m c a k := by
  have h43 : 43 < cfg0.N := lt_of_lt_of_eq (by norm_num) N_0.symm
  rw [Pipeline.eq_sum_fin_of_reset_step_apply_last (fun n (_ : n < cfg0.N) (p : Fin 8 × Fin 1024) => dvAt m c n (ix2 p.1 p.2)) 44
    (fun _ => 0) (fun t p => term m c t p.1 p.2)
    (fun t h p => by
      have := lt44 t
      rw [dvAt_first m c t (by omega), dv_row m c t (by omega), pay_clear])
    (fun t h p => by
      by_cases h0 : t.val % 11 = 0
      · rw [dvAt_row m c t h0 (by omega), dv_row m c t h0]
      by_cases h1 : t.val % 11 = 10
      · rw [dvAt_last m c t h1, dv_last m c t h1]
      · rw [dvAt_mid m c t.val h0 h1]
        simp only [term, rows4, if_neg h0, if_neg h1, ite_self, add_zero])
    (le_of_eq N_0) ⟨43, h43⟩ rfl (a, k), zero_add]
  unfold dvec term rows4
  dsimp only
  by_cases h0 : a.val = 0
  · simp only [if_pos h0]
    exact sum_rows 10 fun s => dgain (X m c s) (SC m c) (DH m c s) k
  by_cases h1 : a.val = 1
  · simp only [if_neg h0, if_pos h1]
    exact sum_rows 10 fun s => DH m c s k
  by_cases h2 : a.val = 2
  · simp only [if_neg h0, if_neg h1, if_pos h2]
    exact sum_rows 10 fun s => dscale (X m c s) (G m c) (DH m c s) k
  by_cases h3 : a.val = 3
  · simp only [if_neg h0, if_neg h1, if_neg h2, if_pos h3]
    exact sum_rows 0 fun s => Ideal.ofBits .f32 0x3F000000#32 * (CX m c s k * YS m c s k)
  simp only [if_neg h0, if_neg h1, if_neg h2, if_neg h3, Finset.sum_const_zero]

/-! The results. -/

theorem value_dx (c : Dev nD) : (dats m 0 c).arrAt 9 cfg0.N
    = fun i => CX m c (i 0) (i 1) + drow (X m c (i 0)) (G m c) (SC m c) (DH m c (i 0)) (i 1) := by
  refine (dats m 0 c).arrAt_eq_of_covers 9 _ (by decide +kernel) fun t hf y => ?_
  have hx : ((View.whole main_v49_0).slice (win0_9.rect t)).emb y = ix2 (row t (y 0)) (y 1) := by
    blk_ext [idx t, row, col]
  have hy : y = ix2 (n0 := 512) (n1 := 1024) (y 0) (y 1) := by blk_ext
  have ho : t.val % 11 = 10 := (by decide +kernel : ∀ t : Fin grid0.N, win0_9.flush t = true → t.val % 11 = 10) t hf
  blk_simp
  rw [after_9, hx, hy]
  exact dx_at m c t ho (y 0) (y 1)

theorem value_dg (c : Dev nD) : (dats m 0 c).arrAt 10 cfg0.N
    = fun i => DG m c (i 0) (i 1) := by
  refine (dats m 0 c).arrAt_eq_of_covers 10 _ (by decide +kernel) fun t hf y => ?_
  have hx : ((View.whole main_v49_1).slice (win0_10.rect t)).emb y = ix2 (row t (y 0)) (col t (y 1)) := by
    blk_ext [idx t, row, col]
  have hy : y = ix2 (n0 := 512) (n1 := 256) (y 0) (y 1) := by blk_ext
  blk_simp
  rw [after_10, hx, hy]
  exact dg_at m c t (y 0) (y 1)

theorem value_du (c : Dev nD) : (dats m 0 c).arrAt 11 cfg0.N
    = fun i => DU m c (i 0) (i 1) := by
  refine (dats m 0 c).arrAt_eq_of_covers 11 _ (by decide +kernel) fun t hf y => ?_
  have hx : ((View.whole main_v49_2).slice (win0_11.rect t)).emb y = ix2 (row t (y 0)) (col t (y 1)) := by
    blk_ext [idx t, row, col]
  have hy : y = ix2 (n0 := 512) (n1 := 256) (y 0) (y 1) := by blk_ext
  blk_simp
  rw [after_11, hx, hy]
  exact du_at m c t (y 0) (y 1)

theorem value_a (c : Dev nD) : (dats m 0 c).arrAt 12 cfg0.N
    = fun i => act (GS m c (i 0) (i 1)) (US m c (i 0) (i 1)) := by
  refine (dats m 0 c).arrAt_eq_of_covers 12 _ (by decide +kernel) fun t hf y => ?_
  have hx : ((View.whole main_v49_3).slice (win0_12.rect t)).emb y = ix2 (row t (y 0)) (col t (y 1)) := by
    blk_ext [idx t, row, col]
  have hy : y = ix2 (n0 := 512) (n1 := 256) (y 0) (y 1) := by blk_ext
  blk_simp
  rw [after_12, hx, hy]
  exact a_at m c t (y 0) (y 1)

theorem value_h (c : Dev nD) : (dats m 0 c).arrAt 13 cfg0.N
    = fun i => hrow (X m c (i 0)) (G m c) (SH m c) (SC m c) (i 1) := by
  refine (dats m 0 c).arrAt_eq_of_covers 13 _ (by decide +kernel) fun t hf y => ?_
  have hx : ((View.whole main_v49_4).slice (win0_13.rect t)).emb y = ix2 (row t (y 0)) (y 1) := by
    blk_ext [idx t, row, col]
  have hy : y = ix2 (n0 := 512) (n1 := 1024) (y 0) (y 1) := by blk_ext
  blk_simp
  rw [after_13, hx, hy]
  exact h_at m c t (y 0) (y 1)

theorem value_dy (c : Dev nD) : (dats m 0 c).arrAt 14 cfg0.N
    = fun i => DY m c (i 0) (i 1) := by
  refine (dats m 0 c).arrAt_eq_of_covers 14 _ (by decide +kernel) fun t hf y => ?_
  have hx : ((View.whole main_v49_5).slice (win0_14.rect t)).emb y = ix2 (row t (y 0)) (y 1) := by
    blk_ext [idx t, row, col]
  have hy : y = ix2 (n0 := 512) (n1 := 1024) (y 0) (y 1) := by blk_ext
  blk_simp
  rw [after_14, hx, hy]
  exact dy_at m c t (y 0) (y 1)

/-- The last point. -/
def t43 : Fin cfg0.N := ⟨43, lt_of_lt_of_eq (by norm_num) N_0.symm⟩

theorem value_dvec (c : Dev nD) : (dats m 0 c).arrAt 15 cfg0.N = fun i => dvec m c (i 0) (i 1) := by
  refine (dats m 0 c).arrAt_eq_of_after_last 15 t43 (by decide +kernel) _ fun j => ?_
  have hx : ((View.whole main_v49_6).slice (win0_15.rect t43)).emb j = j := by
    have i0 := congrFun (idx t43).2.2.2.2.2.2.2.2.2.2.2.2.2.2.2 0
    have i1 := congrFun (idx t43).2.2.2.2.2.2.2.2.2.2.2.2.2.2.2 1
    blk_ext [i0, i1]
  have hy : j = ix2 (n0 := 8) (n1 := 1024) (j 0) (j 1) := by blk_ext
  blk_simp
  rw [after_15, hy]
  exact dv_end m c (j 0) (j 1)

end Cert.FfnBwdKernel
end
-- ==== Proof.FfnBwdRef.lean ====
/- Hand-written, untrusted: the feed-forward block's reference gradient, an operation at a time, at an index. -/
module

public import proofs.«01_k».proof.Proof.Gen.FfnBwdRefIdeal.Read
public import Idealize.ShloMosaic.Lib.Pipeline.ValueKit
public import proofs.«01_k».proof.Proof.FfnSpec

@[expose] public section

set_option maxRecDepth 16384

noncomputable section

namespace Cert.FfnBwdRef

open Cert.FfnBwdRefIdeal Cert.FfnBwdRefIdeal.Gen Cert.FfnBwdRefIdeal.Read Idealize.ShloMosaic Idealize.ShloMosaic.TcCoe Cert.LossSpec Cert.ModSpec Cert.FfnSpec Cert.Lib
open scoped BigOperators

variable (x0 : (⟨S1x2048x1024, .f32⟩ : BufTy).Contents (Elt Ideal)) (x1 : (⟨S1024, .f32⟩ : BufTy).Contents (Elt Ideal))
  (x2 : (⟨S1x3072, .f32⟩ : BufTy).Contents (Elt Ideal)) (x3 : (⟨S1024x5632, .f32⟩ : BufTy).Contents (Elt Ideal))
  (x4 : (⟨S2816x1024, .f32⟩ : BufTy).Contents (Elt Ideal)) (x5 : (⟨S1x2048x1024, .f32⟩ : BufTy).Contents (Elt Ideal))

/-- A row of the hidden states and of the gradient, and the modulation's three vectors. -/
def xr (s : Fin 2048) (k : Fin 1024) : EReal := x0 (ix3 0 s k)
def cr (s : Fin 2048) (k : Fin 1024) : EReal := x5 (ix3 0 s k)
def sh (k : Fin 1024) : EReal := x2 (ix2 0 ⟨k.val, by omega⟩)
def sc (k : Fin 1024) : EReal := x2 (ix2 0 ⟨1024 + k.val, by omega⟩)
def gt (k : Fin 1024) : EReal := x2 (ix2 0 ⟨2048 + k.val, by omega⟩)
def gs (s : Fin 2048) (f : Fin 2816) : EReal := val_main_v29 (F := Ideal) x0 x1 x2 x3 (ix3 0 s f)
def us (s : Fin 2048) (f : Fin 2816) : EReal := val_main_v30 (F := Ideal) x0 x1 x2 x3 (ix3 0 s f)
def ys (s : Fin 2048) (k : Fin 1024) : EReal := val_main_v33 (F := Ideal) x0 x1 x2 x3 x4 (ix3 0 s k)
def dy (s : Fin 2048) (k : Fin 1024) : EReal := dyR (gt x2) (cr x5 s) k
def da (s : Fin 2048) (f : Fin 2816) : EReal := daR (dy x2 x5 s) (fun k => x4 (ix2 f k))
def dg (s : Fin 2048) (f : Fin 2816) : EReal := dgR (da x2 x4 x5 s f) (gs x0 x1 x2 x3 s f) (us x0 x1 x2 x3 s f)
def du (s : Fin 2048) (f : Fin 2816) : EReal := duR (da x2 x4 x5 s f) (gs x0 x1 x2 x3 s f)
def dh (s : Fin 2048) (k : Fin 1024) : EReal := dhR (dg x0 x1 x2 x3 x4 x5 s) (du x0 x1 x2 x3 x4 x5 s) (fun l => x3 (ix2 k l))

theorem mean_eq (s : Fin 2048) : val_main_v9 (F := Ideal) x0 (ix3 0 s 0) = rv (xr x0 s) := by
  unfold rv xr
  pointwise [val_main_v9, val_main_v8, val_main_v7, val_main_v6, val_main_v5, val_main_v4, val_main_v3, val_main_cst, val_main_cst_0, val_main_cst_1]

theorem rs_eq (s : Fin 2048) : val_main_v10 (F := Ideal) x0 (ix3 0 s 0) = Ideal.rsqrt (rv (xr x0 s)) := by
  rw [← mean_eq]; rfl

theorem xhat_eq (s : Fin 2048) (k : Fin 1024) : val_main_v15 (F := Ideal) x0 (ix3 0 s k) = xhat (xr x0 s) k := by
  unfold xhat
  rw [← rs_eq]
  unfold xr
  pointwise [val_main_v15, val_main_v14]

theorem sc_eq (s : Fin 2048) (k : Fin 1024) : val_main_v22 (F := Ideal) x2 (ix3 0 s k) = Ideal.ofBits .f32 0x3F800000#32 + sc x2 k := by
  unfold sc
  pointwise [val_main_v22, val_main_v21, val_main_v20, val_main_v19, val_main_v1, val_main_cst_3]

theorem hh_eq (s : Fin 2048) (k : Fin 1024) : val_main_v26 (F := Ideal) x0 x1 x2 (ix3 0 s k)
    = hrow (xr x0 s) (fun k => x1 (ix1 k)) (sh x2) (sc x2) k := by
  unfold hrow gm sh
  rw [← sc_eq x2 s k, ← xhat_eq, ← mul_assoc]
  pointwise [val_main_v26, val_main_v25, val_main_v24, val_main_v0, val_main_v23, val_main_v18, val_main_v17, val_main_v16]

theorem h_eq (s : Fin 2048) (k : Fin 1024) : val_main_v103 (F := Ideal) x0 x1 x2 (ix2 s k)
    = hrow (xr x0 s) (fun k => x1 (ix1 k)) (sh x2) (sc x2) k := by
  rw [← hh_eq]
  pointwise [val_main_v103, val_main_v102]

theorem dy3_eq (s : Fin 2048) (k : Fin 1024) : val_main_v41 (F := Ideal) x2 x5 (ix3 0 s k) = dy x2 x5 s k := by
  unfold dy dyR gt cr
  pointwise [val_main_v41, val_main_v40, val_main_v39, val_main_v35, val_main_v34, val_main_v27, val_main_v2, val_main_cst_4]

theorem dy_eq (s : Fin 2048) (k : Fin 1024) : val_main_v105 (F := Ideal) x2 x5 (ix2 s k) = dy x2 x5 s k := by
  rw [← dy3_eq]
  pointwise [val_main_v105, val_main_v104]

theorem da_eq (s : Fin 2048) (f : Fin 2816) : val_main_v47 (F := Ideal) x2 x4 x5 (ix3 0 s f) = da x2 x4 x5 s f := by
  unfold da daR
  simp only [← dy3_eq]
  pointwise [val_main_v47]

theorem sg_eq (s : Fin 2048) (f : Fin 2816) : val_main_v31_2 (F := Ideal) x0 x1 x2 x3 (ix3 0 s f) = sg (gs x0 x1 x2 x3 s f) := by
  unfold sg gs
  pointwise [val_main_v31_2, val_main_call0_v4, val_main_call0_v3, val_main_call0_v2, val_main_call0_v1, val_main_call0_v0, val_main_call0_cst, val_main_call0_cst_0]

theorem silu_eq (s : Fin 2048) (f : Fin 2816) : val_main_v31_0 (F := Ideal) x0 x1 x2 x3 (ix3 0 s f) = gs x0 x1 x2 x3 s f * sg (gs x0 x1 x2 x3 s f) := by
  rw [← sg_eq]
  unfold gs
  pointwise [val_main_v31_0]

theorem a_eq (s : Fin 2048) (f : Fin 2816) : val_main_v101 (F := Ideal) x0 x1 x2 x3 (ix2 s f) = act (gs x0 x1 x2 x3 s f) (us x0 x1 x2 x3 s f) := by
  unfold act us
  rw [← silu_eq]
  pointwise [val_main_v101, val_main_v100, val_main_v32]

theorem du3_eq (s : Fin 2048) (f : Fin 2816) : val_main_v48 (F := Ideal) x0 x1 x2 x3 x4 x5 (ix3 0 s f) = du x0 x1 x2 x3 x4 x5 s f := by
  unfold du duR
  rw [← silu_eq, ← da_eq, mul_comm]
  pointwise [val_main_v48]

section Finite

variable (f1 : ∀ i, IsR (x1 i)) (f2 : ∀ i, IsR (x2 i)) (f3 : ∀ i, IsR (x3 i)) (f4 : ∀ i, IsR (x4 i)) (f5 : ∀ i, IsR (x5 i))

include f1 f2 f3 in
theorem fwd_isR (s : Fin 2048) (l : Fin 5632) : IsR (val_main_v28 (F := Ideal) x0 x1 x2 x3 (ix3 0 s l)) := by
  have e : val_main_v28 (F := Ideal) x0 x1 x2 x3 (ix3 0 s l) = ∑ k : Fin 1024, val_main_v26 (F := Ideal) x0 x1 x2 (ix3 0 s k) * x3 (ix2 k l) := by
    pointwise [val_main_v28]
  rw [e]
  refine IsR.sum _ fun k _ => ?_
  rw [hh_eq]
  exact (hrow_isR (fun k => f1 _) (fun k => f2 _) (fun k => f2 _) k).mul (f3 _)

include f1 f2 f3 in
theorem gs_isR (s : Fin 2048) (f : Fin 2816) : IsR (gs x0 x1 x2 x3 s f) := by
  have e : gs x0 x1 x2 x3 s f = val_main_v28 (F := Ideal) x0 x1 x2 x3 (ix3 0 s ⟨f.val, by omega⟩) := by
    unfold gs; pointwise [val_main_v29]
  rw [e]; exact fwd_isR x0 x1 x2 x3 f1 f2 f3 s _

include f1 f2 f3 in
theorem us_isR (s : Fin 2048) (f : Fin 2816) : IsR (us x0 x1 x2 x3 s f) := by
  have e : us x0 x1 x2 x3 s f = val_main_v28 (F := Ideal) x0 x1 x2 x3 (ix3 0 s ⟨2816 + f.val, by omega⟩) := by
    unfold us; pointwise [val_main_v30]
  rw [e]; exact fwd_isR x0 x1 x2 x3 f1 f2 f3 s _

include f2 f4 f5 in
theorem da_isR (s : Fin 2048) (f : Fin 2816) : IsR (da x2 x4 x5 s f) := by
  unfold da daR
  refine IsR.sum _ fun k _ => IsR.mul ?_ (f4 _)
  unfold dy dyR
  rw [bits_half]
  exact ((IsR.coe _).mul (f2 _)).mul (f5 _)

include f1 f2 f3 f4 f5

theorem dg3_eq (s : Fin 2048) (f : Fin 2816) : val_main_v50 (F := Ideal) x0 x1 x2 x3 x4 x5 (ix3 0 s f) = dg x0 x1 x2 x3 x4 x5 s f := by
  unfold dg dgR
  rw [dsilu ((da_isR x2 x4 x5 f2 f4 f5 s f).mul (us_isR x0 x1 x2 x3 f1 f2 f3 s f)) (gs_isR x0 x1 x2 x3 f1 f2 f3 s f), ← sg_eq, ← da_eq]
  unfold gs us
  pointwise [val_main_v50, val_main_call1_v2, val_main_call1_v1, val_main_call1_v0, val_main_v49, val_main_v31_1, val_main_call0_v7, val_main_call0_v6, val_main_call0_cst_1]

theorem lo_eq (s : Fin 2048) (f : Fin 2816) : val_main_v51 (F := Ideal) x0 x1 x2 x3 x4 x5 (ix3 0 s ⟨f.val, by omega⟩) = dg x0 x1 x2 x3 x4 x5 s f := by
  rw [← dg3_eq x0 x1 x2 x3 x4 x5 f1 f2 f3 f4 f5]
  pointwise [val_main_v51]

omit f1 f2 f3 f4 f5 in
theorem hi_eq (s : Fin 2048) (f : Fin 2816) : val_main_v51 (F := Ideal) x0 x1 x2 x3 x4 x5 (ix3 0 s ⟨2816 + f.val, by omega⟩) = du x0 x1 x2 x3 x4 x5 s f := by
  rw [← du3_eq]
  pointwise [val_main_v51]

theorem dg_eq (s : Fin 2048) (f : Fin 2816) : val_main_v96 (F := Ideal) x0 x1 x2 x3 x4 x5 (ix2 s f) = dg x0 x1 x2 x3 x4 x5 s f := by
  rw [← lo_eq x0 x1 x2 x3 x4 x5 f1 f2 f3 f4 f5]
  pointwise [val_main_v96, val_main_v95, val_main_v94]

omit f1 f2 f3 f4 f5 in
theorem du_eq (s : Fin 2048) (f : Fin 2816) : val_main_v99 (F := Ideal) x0 x1 x2 x3 x4 x5 (ix2 s f) = du x0 x1 x2 x3 x4 x5 s f := by
  rw [← hi_eq]
  pointwise [val_main_v99, val_main_v98, val_main_v97]

theorem dh_eq (s : Fin 2048) (k : Fin 1024) : val_main_v52 (F := Ideal) x0 x1 x2 x3 x4 x5 (ix3 0 s k) = dh x0 x1 x2 x3 x4 x5 s k := by
  have e : val_main_v52 (F := Ideal) x0 x1 x2 x3 x4 x5 (ix3 0 s k)
      = ∑ l : Fin 5632, val_main_v51 (F := Ideal) x0 x1 x2 x3 x4 x5 (ix3 0 s l) * x3 (ix2 k l) := by
    pointwise [val_main_v52]
  rw [e, Fin.sum_univ_add (a := 2816) (b := 2816) (fun l : Fin 5632 => val_main_v51 (F := Ideal) x0 x1 x2 x3 x4 x5 (ix3 0 s l) * x3 (ix2 k l))]
  unfold dh dhR
  refine congrArg₂ (· + ·) (Finset.sum_congr rfl fun f _ => ?_) (Finset.sum_congr rfl fun f _ => ?_)
  · rw [← lo_eq x0 x1 x2 x3 x4 x5 f1 f2 f3 f4 f5]; rfl
  · rw [← hi_eq]; rfl

theorem d_eq (s : Fin 2048) (k : Fin 1024) : val_main_v70 (F := Ideal) x0 x1 x2 x3 x4 x5 (ix3 0 s k)
    = dh x0 x1 x2 x3 x4 x5 s k * gm (fun k => x1 (ix1 k)) (sc x2) k := by
  unfold gm
  rw [← dh_eq x0 x1 x2 x3 x4 x5 f1 f2 f3 f4 f5, ← sc_eq x2 s k, mul_comm (x1 (ix1 k)), ← mul_assoc]
  pointwise [val_main_v70, val_main_v69, val_main_v16, val_main_v63, val_main_v62, val_main_v22]

/-- The share of a row's gradient that comes through its mean square. -/
theorem coef_eq (s : Fin 2048) : val_main_v79 (F := Ideal) x0 x1 x2 x3 x4 x5 (ix3 0 s 0)
    = Ideal.div ((∑ k, xr x0 s k * (dh x0 x1 x2 x3 x4 x5 s k * gm (fun k => x1 (ix1 k)) (sc x2) k))
      * (Ideal.ofBits .f32 0xBF000000#32 * Ideal.div (Ideal.rsqrt (rv (xr x0 s))) (rv (xr x0 s))))
      (Ideal.ofBits .f32 0x44800000#32) := by
  simp only [← d_eq x0 x1 x2 x3 x4 x5 f1 f2 f3 f4 f5, ← rs_eq]
  rw [← mean_eq]
  unfold xr
  pointwise [val_main_v79, val_main_v78, val_main_v77, val_main_v74, val_main_v73, val_main_v72, val_main_v13, val_main_v12, val_main_v11,
    val_main_cst_2, val_main_cst_14, val_main_cst_15]

omit f1 f2 f3 f4 f5 in
theorem coef_sum (s : Fin 2048) : val_main_v80 (F := Ideal) x0 x1 x2 x3 x4 x5 (ix1 s) = val_main_v79 (F := Ideal) x0 x1 x2 x3 x4 x5 (ix3 0 s 0) := by
  unfold val_main_v80
  simp only [Host.reduceAdd, Ideal.hostReduceAdd_def]
  rw [hostReduceAdd_mid, Fin.sum_univ_one, Fin.sum_univ_one]
  pointwise [val_main_cst_16]

theorem dx_eq (s : Fin 2048) (k : Fin 1024) : val_main_v93 (F := Ideal) x0 x1 x2 x3 x4 x5 (ix2 s k)
    = cr x5 s k + drow (xr x0 s) (fun k => x1 (ix1 k)) (sc x2) (dh x0 x1 x2 x3 x4 x5 s) k := by
  unfold drow xhat
  rw [rms_grad (xr x0 s) (fun k => dh x0 x1 x2 x3 x4 x5 s k * gm (fun k => x1 (ix1 k)) (sc x2) k),
    ← coef_eq x0 x1 x2 x3 x4 x5 f1 f2 f3 f4 f5, ← coef_sum, ← rs_eq, ← d_eq x0 x1 x2 x3 x4 x5 f1 f2 f3 f4 f5, ← add_assoc, ← add_assoc]
  unfold xr cr
  rw [add_assoc, add_assoc, ← add_assoc (val_main_v70 (F := Ideal) x0 x1 x2 x3 x4 x5 (ix3 0 s k) * _)]
  pointwise [val_main_v93, val_main_v92, val_main_v86, val_main_v85, val_main_v84, val_main_v83, val_main_v82, val_main_v81, val_main_v76, val_main_v75]

theorem dgain_eq (k : Fin 1024) : val_main_v88 (F := Ideal) x0 x1 x2 x3 x4 x5 (ix2 0 k)
    = ∑ s, dgain (xr x0 s) (sc x2) (dh x0 x1 x2 x3 x4 x5 s) k := by
  have e : val_main_v88 (F := Ideal) x0 x1 x2 x3 x4 x5 (ix2 0 k) = val_main_v71 (F := Ideal) x0 x1 x2 x3 x4 x5 (ix1 k) := by
    pointwise [val_main_v88]
  rw [e]
  unfold val_main_v71
  simp only [Host.reduceAdd, Ideal.hostReduceAdd_def]
  rw [hostReduceAdd_last, Fin.sum_univ_one, Fin.sum_univ_one]
  have c : ∀ s, dgain (xr x0 s) (sc x2) (dh x0 x1 x2 x3 x4 x5 s) k
      = val_main_v15 (F := Ideal) x0 (ix3 0 s k) * (val_main_v52 (F := Ideal) x0 x1 x2 x3 x4 x5 (ix3 0 s k) * val_main_v22 (F := Ideal) x2 (ix3 0 s k)) := fun s => by
    rw [dgain, dh_eq x0 x1 x2 x3 x4 x5 f1 f2 f3 f4 f5, xhat_eq, sc_eq, mul_comm (dh x0 x1 x2 x3 x4 x5 s k), mul_assoc]
  simp only [c]
  pointwise [val_main_v68, val_main_v67, val_main_v66, val_main_v63, val_main_v62, val_main_v22, val_main_cst_12, val_main_cst_13]

theorem dshift_eq (k : Fin 1024) : val_main_v58 (F := Ideal) x0 x1 x2 x3 x4 x5 (ix2 0 k) = ∑ s, dh x0 x1 x2 x3 x4 x5 s k := by
  have e : val_main_v58 (F := Ideal) x0 x1 x2 x3 x4 x5 (ix2 0 k) = val_main_v57 (F := Ideal) x0 x1 x2 x3 x4 x5 (ix1 k) := by
    pointwise [val_main_v58]
  rw [e]
  unfold val_main_v57
  simp only [Host.reduceAdd, Ideal.hostReduceAdd_def]
  rw [hostReduceAdd_last, Fin.sum_univ_one, Fin.sum_univ_one]
  simp only [← dh_eq x0 x1 x2 x3 x4 x5 f1 f2 f3 f4 f5]
  pointwise [val_main_v56, val_main_v55, val_main_cst_8, val_main_cst_9]

theorem dscale_eq (k : Fin 1024) : val_main_v65 (F := Ideal) x0 x1 x2 x3 x4 x5 (ix2 0 k)
    = ∑ s, dscale (xr x0 s) (fun k => x1 (ix1 k)) (dh x0 x1 x2 x3 x4 x5 s) k := by
  have e : val_main_v65 (F := Ideal) x0 x1 x2 x3 x4 x5 (ix2 0 k) = val_main_v64 (F := Ideal) x0 x1 x2 x3 x4 x5 (ix1 k) := by
    pointwise [val_main_v65]
  rw [e]
  unfold val_main_v64
  simp only [Host.reduceAdd, Ideal.hostReduceAdd_def]
  rw [hostReduceAdd_last, Fin.sum_univ_one, Fin.sum_univ_one]
  have c : ∀ s, dscale (xr x0 s) (fun k => x1 (ix1 k)) (dh x0 x1 x2 x3 x4 x5 s) k
      = val_main_v15 (F := Ideal) x0 (ix3 0 s k) * x1 (ix1 k) * val_main_v52 (F := Ideal) x0 x1 x2 x3 x4 x5 (ix3 0 s k) := fun s => by
    rw [dscale, dh_eq x0 x1 x2 x3 x4 x5 f1 f2 f3 f4 f5, xhat_eq, mul_assoc, mul_comm (dh x0 x1 x2 x3 x4 x5 s k)]
  simp only [c]
  pointwise [val_main_v61, val_main_v60, val_main_v59, val_main_v18, val_main_v17, val_main_v16, val_main_cst_10, val_main_cst_11]

omit f1 f2 f3 f4 f5 in
theorem dgate_eq (k : Fin 1024) : val_main_v54 (F := Ideal) x0 x1 x2 x3 x4 x5 (ix2 0 k)
    = ∑ s, Ideal.ofBits .f32 0x3F000000#32 * (cr x5 s k * ys x0 x1 x2 x3 x4 s k) := by
  have e : val_main_v54 (F := Ideal) x0 x1 x2 x3 x4 x5 (ix2 0 k) = val_main_v53 (F := Ideal) x0 x1 x2 x3 x4 x5 (ix1 k) := by
    pointwise [val_main_v54]
  rw [e]
  unfold val_main_v53
  simp only [Host.reduceAdd, Ideal.hostReduceAdd_def]
  rw [hostReduceAdd_last, Fin.sum_univ_one, Fin.sum_univ_one, bits_half, ← pos_mul_sum (by norm_num), ← bits_half]
  unfold cr ys
  pointwise [val_main_v46, val_main_v45, val_main_v44, val_main_v43, val_main_v42, val_main_v39, val_main_cst_5, val_main_cst_6, val_main_cst_7]

theorem dvec_eq (a : Fin 8) (k : Fin 1024) : val_main_v91 (F := Ideal) x0 x1 x2 x3 x4 x5 (ix2 a k)
    = rows4 (fun k => ∑ s, dgain (xr x0 s) (sc x2) (dh x0 x1 x2 x3 x4 x5 s) k) (fun k => ∑ s, dh x0 x1 x2 x3 x4 x5 s k)
      (fun k => ∑ s, dscale (xr x0 s) (fun k => x1 (ix1 k)) (dh x0 x1 x2 x3 x4 x5 s) k)
      (fun k => ∑ s, Ideal.ofBits .f32 0x3F000000#32 * (cr x5 s k * ys x0 x1 x2 x3 x4 s k)) a k := by
  unfold rows4
  simp only [← dgain_eq x0 x1 x2 x3 x4 x5 f1 f2 f3 f4 f5, ← dshift_eq x0 x1 x2 x3 x4 x5 f1 f2 f3 f4 f5, ← dscale_eq x0 x1 x2 x3 x4 x5 f1 f2 f3 f4 f5]
  rw [← dgate_eq x0 x1 x2 x3 x4 x5 k]
  pointwise [val_main_v91, val_main_v90, val_main_v89, val_main_v87, val_main_cst_17]
  by_cases h0 : a.val = 0
  · rw [dif_pos (by omega), if_pos h0]
    exact congrArg (fun j => val_main_v88 (F := Ideal) x0 x1 x2 x3 x4 x5 (ix2 j k)) (Fin.ext h0)
  rw [dif_neg (by omega), if_neg h0]
  by_cases h4 : a.val - 1 < 3
  swap
  · rw [dif_neg h4, if_neg (by omega), if_neg (by omega), if_neg (by omega)]
  rw [dif_pos h4]
  by_cases h1 : a.val = 1
  · rw [dif_pos (by omega), if_pos h1]
    exact congrArg (fun k => val_main_v58 (F := Ideal) x0 x1 x2 x3 x4 x5 (ix2 0 k)) (Fin.ext (by dsimp only; omega))
  rw [dif_neg (by omega), if_neg h1]
  by_cases h2 : a.val = 2
  · rw [dif_pos (by omega), if_pos h2]
    exact congrArg (fun k => val_main_v65 (F := Ideal) x0 x1 x2 x3 x4 x5 (ix2 0 k)) (Fin.ext (by dsimp only; omega))
  rw [dif_neg (by omega), if_neg h2, if_pos (show a.val = 3 by omega)]
  exact congrArg (fun k => val_main_v54 (F := Ideal) x0 x1 x2 x3 x4 x5 (ix2 0 k)) (Fin.ext (by dsimp only; omega))

end Finite

end Cert.FfnBwdRef

end
-- ==== Proof.FfnBwd.lean ====
/- Hand-written, untrusted: the claims of the feed-forward block's backward kernel. -/
module

public import proofs.«01_k».proof.Defs
public import proofs.«01_k».proof.Proof.Gen.FfnBwd.Frame
public import proofs.«01_k».proof.Proof.Gen.Pre_ffn_bwd_finite
public import proofs.«01_k».proof.Proof.FfnBwdKernel
public import proofs.«01_k».proof.Proof.FfnBwdRef
public import Idealize.ShloMosaic.Lib.Quiescent

@[expose] public section

noncomputable section

namespace Cert.FfnBwd

open Idealize.ShloMosaic Idealize.ShloMosaic.TcCoe Idealize.SL.Sem Cert.Lib

theorem frame_kernel : Cert.quiescent_FfnBwd := fun m ρ _ => by
  have h := Cert.FfnBwdIdeal.Body.frame_all (F := Bits) m ρ
  refine cast ?_ h
  sl_kernel_rfl

theorem frame_ideal : Cert.quiescent_FfnBwdIdeal := fun m ρ _ => Cert.FfnBwdIdeal.Body.frame_all m ρ

theorem frame_ref : Cert.quiescent_FfnBwdRefIdeal := fun m ρ _ =>
  (θ_run Cert.FfnBwdRefIdeal.defs _ _).mono
    (fun r h => ⟨fun c => (h c).2.2.2.2.2.2.2, sem_eq_zero_of_no_sems (by decide) r.2⟩)
    (Cert.FfnBwdRefIdeal.Value.run (F := Ideal) m ρ)

theorem frame_ideal_pre : Cert.quiescent_FfnBwdIdeal_pre_ffn_bwd_finite := fun m ρ _ => frame_ideal m ρ trivial

theorem frame_ref_pre : Cert.quiescent_FfnBwdRefIdeal_pre_ffn_bwd_finite := fun m ρ _ => frame_ref m ρ trivial

theorem split {x y : IVec Cert.Pre_ffn_bwd_finite.S_ 1} (h : andi x y ix0 = 1#1) : x ix0 = 1#1 ∧ y ix0 = 1#1 :=
  IntOp.andi_eq_one.mp h

/-- What the precondition says: every entry of the five arrays it tests is real. -/
theorem finite (m : (ℓ : Loc Cert.FfnBwdIdeal.nD Cert.FfnBwdIdeal.τ Cert.FfnBwdIdeal.sig) → Buf (Elt Ideal) ℓ) (h : Cert.Pre_FfnBwdIdeal_ffn_bwd_finite m) (c : Dev Cert.FfnBwdIdeal.nD) :
    (∀ i, IsR (m ((c.tc : Thread Cert.FfnBwdIdeal.nD Cert.FfnBwdIdeal.τ).loc Cert.FfnBwdIdeal.main_arg1) i))
    ∧ (∀ i, IsR (m ((c.tc : Thread Cert.FfnBwdIdeal.nD Cert.FfnBwdIdeal.τ).loc Cert.FfnBwdIdeal.main_arg2) i))
    ∧ (∀ i, IsR (m ((c.tc : Thread Cert.FfnBwdIdeal.nD Cert.FfnBwdIdeal.τ).loc Cert.FfnBwdIdeal.main_arg3) i))
    ∧ (∀ i, IsR (m ((c.tc : Thread Cert.FfnBwdIdeal.nD Cert.FfnBwdIdeal.τ).loc Cert.FfnBwdIdeal.main_arg4) i))
    ∧ (∀ i, IsR (m ((c.tc : Thread Cert.FfnBwdIdeal.nD Cert.FfnBwdIdeal.τ).loc Cert.FfnBwdIdeal.main_arg5) i)) := by
  have h' := congrFun (h c) ix0
  unfold Cert.Pre_ffn_bwd_finite.fn Cert.Pre_ffn_bwd_finite.fn_part1 at h'
  obtain ⟨h', h5⟩ := split h'
  obtain ⟨h', h4⟩ := split h'
  obtain ⟨h', h3⟩ := split h'
  obtain ⟨h1, h2⟩ := split h'
  exact ⟨isR_of_all _ _ _ _ _ h1, isR_of_all _ _ _ _ _ h2, isR_of_all _ _ _ _ _ h3, isR_of_all _ _ _ _ _ h4, isR_of_all _ _ _ _ _ h5⟩

/-! Each of the reference's results, at the kernel's arguments, is the kernel's. -/

theorem dx_eq (m : (ℓ : Loc Cert.FfnBwdIdeal.nD Cert.FfnBwdIdeal.τ Cert.FfnBwdIdeal.sig) → Buf (Elt Ideal) ℓ) (c : Dev Cert.FfnBwdIdeal.nD) (hp : Cert.Pre_FfnBwdIdeal_ffn_bwd_finite m) :
    Cert.FfnBwdRefIdeal.Read.val_main_v93 (F := Ideal) (m ((c.tc : Thread Cert.FfnBwdIdeal.nD Cert.FfnBwdIdeal.τ).loc Cert.FfnBwdIdeal.main_arg0))
        (m ((c.tc : Thread Cert.FfnBwdIdeal.nD Cert.FfnBwdIdeal.τ).loc Cert.FfnBwdIdeal.main_arg1))
        (m ((c.tc : Thread Cert.FfnBwdIdeal.nD Cert.FfnBwdIdeal.τ).loc Cert.FfnBwdIdeal.main_arg2))
        (m ((c.tc : Thread Cert.FfnBwdIdeal.nD Cert.FfnBwdIdeal.τ).loc Cert.FfnBwdIdeal.main_arg3))
        (m ((c.tc : Thread Cert.FfnBwdIdeal.nD Cert.FfnBwdIdeal.τ).loc Cert.FfnBwdIdeal.main_arg4))
        (m ((c.tc : Thread Cert.FfnBwdIdeal.nD Cert.FfnBwdIdeal.τ).loc Cert.FfnBwdIdeal.main_arg5))
      = (Cert.FfnBwdIdeal.Body.dats m 0 c).arrAt 9 Cert.FfnBwdIdeal.cfg0.N := by
  obtain ⟨f1, f2, f3, f4, f5⟩ := finite m hp c
  rw [Cert.FfnBwdKernel.value_dx]
  funext i
  have hi : i = ix2 (n0 := 2048) (n1 := 1024) (i 0) (i 1) := by blk_ext
  rw [hi]
  exact Cert.FfnBwdRef.dx_eq _ _ _ _ _ _ f1 f2 f3 f4 f5 (i 0) (i 1)

theorem dg_eq (m : (ℓ : Loc Cert.FfnBwdIdeal.nD Cert.FfnBwdIdeal.τ Cert.FfnBwdIdeal.sig) → Buf (Elt Ideal) ℓ) (c : Dev Cert.FfnBwdIdeal.nD) (hp : Cert.Pre_FfnBwdIdeal_ffn_bwd_finite m) :
    Cert.FfnBwdRefIdeal.Read.val_main_v96 (F := Ideal) (m ((c.tc : Thread Cert.FfnBwdIdeal.nD Cert.FfnBwdIdeal.τ).loc Cert.FfnBwdIdeal.main_arg0))
        (m ((c.tc : Thread Cert.FfnBwdIdeal.nD Cert.FfnBwdIdeal.τ).loc Cert.FfnBwdIdeal.main_arg1))
        (m ((c.tc : Thread Cert.FfnBwdIdeal.nD Cert.FfnBwdIdeal.τ).loc Cert.FfnBwdIdeal.main_arg2))
        (m ((c.tc : Thread Cert.FfnBwdIdeal.nD Cert.FfnBwdIdeal.τ).loc Cert.FfnBwdIdeal.main_arg3))
        (m ((c.tc : Thread Cert.FfnBwdIdeal.nD Cert.FfnBwdIdeal.τ).loc Cert.FfnBwdIdeal.main_arg4))
        (m ((c.tc : Thread Cert.FfnBwdIdeal.nD Cert.FfnBwdIdeal.τ).loc Cert.FfnBwdIdeal.main_arg5))
      = (Cert.FfnBwdIdeal.Body.dats m 0 c).arrAt 10 Cert.FfnBwdIdeal.cfg0.N := by
  obtain ⟨f1, f2, f3, f4, f5⟩ := finite m hp c
  rw [Cert.FfnBwdKernel.value_dg]
  funext i
  have hi : i = ix2 (n0 := 2048) (n1 := 2816) (i 0) (i 1) := by blk_ext
  rw [hi]
  exact Cert.FfnBwdRef.dg_eq _ _ _ _ _ _ f1 f2 f3 f4 f5 (i 0) (i 1)

theorem du_eq (m : (ℓ : Loc Cert.FfnBwdIdeal.nD Cert.FfnBwdIdeal.τ Cert.FfnBwdIdeal.sig) → Buf (Elt Ideal) ℓ) (c : Dev Cert.FfnBwdIdeal.nD) :
    Cert.FfnBwdRefIdeal.Read.val_main_v99 (F := Ideal) (m ((c.tc : Thread Cert.FfnBwdIdeal.nD Cert.FfnBwdIdeal.τ).loc Cert.FfnBwdIdeal.main_arg0))
        (m ((c.tc : Thread Cert.FfnBwdIdeal.nD Cert.FfnBwdIdeal.τ).loc Cert.FfnBwdIdeal.main_arg1))
        (m ((c.tc : Thread Cert.FfnBwdIdeal.nD Cert.FfnBwdIdeal.τ).loc Cert.FfnBwdIdeal.main_arg2))
        (m ((c.tc : Thread Cert.FfnBwdIdeal.nD Cert.FfnBwdIdeal.τ).loc Cert.FfnBwdIdeal.main_arg3))
        (m ((c.tc : Thread Cert.FfnBwdIdeal.nD Cert.FfnBwdIdeal.τ).loc Cert.FfnBwdIdeal.main_arg4))
        (m ((c.tc : Thread Cert.FfnBwdIdeal.nD Cert.FfnBwdIdeal.τ).loc Cert.FfnBwdIdeal.main_arg5))
      = (Cert.FfnBwdIdeal.Body.dats m 0 c).arrAt 11 Cert.FfnBwdIdeal.cfg0.N := by
  rw [Cert.FfnBwdKernel.value_du]
  funext i
  have hi : i = ix2 (n0 := 2048) (n1 := 2816) (i 0) (i 1) := by blk_ext
  rw [hi]
  exact Cert.FfnBwdRef.du_eq _ _ _ _ _ _ (i 0) (i 1)

theorem a_eq (m : (ℓ : Loc Cert.FfnBwdIdeal.nD Cert.FfnBwdIdeal.τ Cert.FfnBwdIdeal.sig) → Buf (Elt Ideal) ℓ) (c : Dev Cert.FfnBwdIdeal.nD) :
    Cert.FfnBwdRefIdeal.Read.val_main_v101 (F := Ideal) (m ((c.tc : Thread Cert.FfnBwdIdeal.nD Cert.FfnBwdIdeal.τ).loc Cert.FfnBwdIdeal.main_arg0))
        (m ((c.tc : Thread Cert.FfnBwdIdeal.nD Cert.FfnBwdIdeal.τ).loc Cert.FfnBwdIdeal.main_arg1))
        (m ((c.tc : Thread Cert.FfnBwdIdeal.nD Cert.FfnBwdIdeal.τ).loc Cert.FfnBwdIdeal.main_arg2))
        (m ((c.tc : Thread Cert.FfnBwdIdeal.nD Cert.FfnBwdIdeal.τ).loc Cert.FfnBwdIdeal.main_arg3))
      = (Cert.FfnBwdIdeal.Body.dats m 0 c).arrAt 12 Cert.FfnBwdIdeal.cfg0.N := by
  rw [Cert.FfnBwdKernel.value_a]
  funext i
  have hi : i = ix2 (n0 := 2048) (n1 := 2816) (i 0) (i 1) := by blk_ext
  rw [hi]
  exact Cert.FfnBwdRef.a_eq _ _ _ _ (i 0) (i 1)

theorem h_eq (m : (ℓ : Loc Cert.FfnBwdIdeal.nD Cert.FfnBwdIdeal.τ Cert.FfnBwdIdeal.sig) → Buf (Elt Ideal) ℓ) (c : Dev Cert.FfnBwdIdeal.nD) :
    Cert.FfnBwdRefIdeal.Read.val_main_v103 (F := Ideal) (m ((c.tc : Thread Cert.FfnBwdIdeal.nD Cert.FfnBwdIdeal.τ).loc Cert.FfnBwdIdeal.main_arg0))
        (m ((c.tc : Thread Cert.FfnBwdIdeal.nD Cert.FfnBwdIdeal.τ).loc Cert.FfnBwdIdeal.main_arg1))
        (m ((c.tc : Thread Cert.FfnBwdIdeal.nD Cert.FfnBwdIdeal.τ).loc Cert.FfnBwdIdeal.main_arg2))
      = (Cert.FfnBwdIdeal.Body.dats m 0 c).arrAt 13 Cert.FfnBwdIdeal.cfg0.N := by
  rw [Cert.FfnBwdKernel.value_h]
  funext i
  have hi : i = ix2 (n0 := 2048) (n1 := 1024) (i 0) (i 1) := by blk_ext
  rw [hi]
  exact Cert.FfnBwdRef.h_eq _ _ _ (i 0) (i 1)

theorem dy_eq (m : (ℓ : Loc Cert.FfnBwdIdeal.nD Cert.FfnBwdIdeal.τ Cert.FfnBwdIdeal.sig) → Buf (Elt Ideal) ℓ) (c : Dev Cert.FfnBwdIdeal.nD) :
    Cert.FfnBwdRefIdeal.Read.val_main_v105 (F := Ideal) (m ((c.tc : Thread Cert.FfnBwdIdeal.nD Cert.FfnBwdIdeal.τ).loc Cert.FfnBwdIdeal.main_arg2))
        (m ((c.tc : Thread Cert.FfnBwdIdeal.nD Cert.FfnBwdIdeal.τ).loc Cert.FfnBwdIdeal.main_arg5))
      = (Cert.FfnBwdIdeal.Body.dats m 0 c).arrAt 14 Cert.FfnBwdIdeal.cfg0.N := by
  rw [Cert.FfnBwdKernel.value_dy]
  funext i
  have hi : i = ix2 (n0 := 2048) (n1 := 1024) (i 0) (i 1) := by blk_ext
  rw [hi]
  exact Cert.FfnBwdRef.dy_eq _ _ (i 0) (i 1)

theorem dvec_eq (m : (ℓ : Loc Cert.FfnBwdIdeal.nD Cert.FfnBwdIdeal.τ Cert.FfnBwdIdeal.sig) → Buf (Elt Ideal) ℓ) (c : Dev Cert.FfnBwdIdeal.nD) (hp : Cert.Pre_FfnBwdIdeal_ffn_bwd_finite m) :
    Cert.FfnBwdRefIdeal.Read.val_main_v91 (F := Ideal) (m ((c.tc : Thread Cert.FfnBwdIdeal.nD Cert.FfnBwdIdeal.τ).loc Cert.FfnBwdIdeal.main_arg0))
        (m ((c.tc : Thread Cert.FfnBwdIdeal.nD Cert.FfnBwdIdeal.τ).loc Cert.FfnBwdIdeal.main_arg1))
        (m ((c.tc : Thread Cert.FfnBwdIdeal.nD Cert.FfnBwdIdeal.τ).loc Cert.FfnBwdIdeal.main_arg2))
        (m ((c.tc : Thread Cert.FfnBwdIdeal.nD Cert.FfnBwdIdeal.τ).loc Cert.FfnBwdIdeal.main_arg3))
        (m ((c.tc : Thread Cert.FfnBwdIdeal.nD Cert.FfnBwdIdeal.τ).loc Cert.FfnBwdIdeal.main_arg4))
        (m ((c.tc : Thread Cert.FfnBwdIdeal.nD Cert.FfnBwdIdeal.τ).loc Cert.FfnBwdIdeal.main_arg5))
      = (Cert.FfnBwdIdeal.Body.dats m 0 c).arrAt 15 Cert.FfnBwdIdeal.cfg0.N := by
  obtain ⟨f1, f2, f3, f4, f5⟩ := finite m hp c
  rw [Cert.FfnBwdKernel.value_dvec]
  funext i
  have hi : i = ix2 (n0 := 8) (n1 := 1024) (i 0) (i 1) := by blk_ext
  rw [hi]
  exact Cert.FfnBwdRef.dvec_eq _ _ _ _ _ _ f1 f2 f3 f4 f5 (i 0) (i 1)

theorem value : Cert.algebraic_FfnBwdIdeal_FfnBwdRefIdeal_pre_ffn_bwd_finite := by
  intro m ρ m' ρ' hp hagree
  refine ⟨_, _, _, _, _, _, _, Cert.FfnBwdIdeal.Body.run_blocks m ρ, ?_⟩
  refine (θ_run Cert.FfnBwdRefIdeal.defs _ _).mono (fun _ h c => ?_) (Cert.FfnBwdRefIdeal.Value.run m' ρ')
  obtain ⟨a0, a1, a2, a3, a4, a5⟩ := hagree c
  obtain ⟨q0, q1, q2, q3, q4, q5, q6, q⟩ := h c
  refine ⟨q0.trans (Eq.trans ?_ (dx_eq m c hp)), q1.trans (Eq.trans ?_ (dg_eq m c hp)), q2.trans (Eq.trans ?_ (du_eq m c)),
    q3.trans (Eq.trans ?_ (a_eq m c)), q4.trans (Eq.trans ?_ (h_eq m c)), q5.trans (Eq.trans ?_ (dy_eq m c)), q6.trans (Eq.trans ?_ (dvec_eq m c hp)), q⟩
  · rw [Cert.FfnBwdRefIdeal.Read.val_main_v93_eq, a0, a1, a2, a3, a4, a5]
  · rw [Cert.FfnBwdRefIdeal.Read.val_main_v96_eq, a0, a1, a2, a3, a4, a5]
  · rw [Cert.FfnBwdRefIdeal.Read.val_main_v99_eq, a0, a1, a2, a3, a4, a5]
  · rw [Cert.FfnBwdRefIdeal.Read.val_main_v101_eq, a0, a1, a2, a3]
  · rw [a0, a1, a2]; rfl
  · rw [a2, a5]; rfl
  · rw [Cert.FfnBwdRefIdeal.Read.val_main_v91_eq, a0, a1, a2, a3, a4, a5]

end Cert.FfnBwd

end
-- ==== Proof.lean ====
module

public import proofs.«01_k».proof.Defs
public import proofs.«01_k».proof.Proof.Loss
public import proofs.«01_k».proof.Proof.InProj
public import proofs.«01_k».proof.Proof.OutProj
public import proofs.«01_k».proof.Proof.Mix
public import proofs.«01_k».proof.Proof.FfnFwd
public import proofs.«01_k».proof.Proof.MixFwd
public import proofs.«01_k».proof.Proof.InFwd
public import proofs.«01_k».proof.Proof.PoolBwd
public import proofs.«01_k».proof.Proof.FfnBwd

@[expose] public section

noncomputable section

namespace Cert.Proof

theorem claim : Cert.Claim := ⟨
  Cert.Loss.Gen.facts, Cert.LossIdeal.Gen.facts, Cert.LossRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.FfnBwd.Gen.facts, Cert.FfnBwdIdeal.Gen.facts, Cert.FfnBwdRefIdeal.Gen.facts,
  Cert.FfnFwd.Gen.facts, Cert.FfnFwdIdeal.Gen.facts, Cert.FfnFwdRefIdeal.Gen.facts,
  Cert.PoolBwd.Gen.facts, Cert.PoolBwdIdeal.Gen.facts, Cert.PoolBwdRefIdeal.Gen.facts,
  Cert.Mix.Gen.facts, Cert.MixIdeal.Gen.facts, Cert.MixRefIdeal.Gen.facts,
  Cert.MixFwd.Gen.facts, Cert.MixFwdIdeal.Gen.facts, Cert.MixFwdRefIdeal.Gen.facts,
  Cert.InFwd.Gen.facts, Cert.InFwdIdeal.Gen.facts, Cert.InFwdRefIdeal.Gen.facts,
  Cert.Pre_ffn_bwd_finite.Gen.facts, Cert.Pre_pool_bwd_finite.Gen.facts, Cert.Pre_mix_bwd_finite.Gen.facts,
  Cert.Loss.frame_kernel, Cert.Loss.frame_ideal, Cert.Loss.frame_ref,
  Cert.InProj.frame_kernel, Cert.InProj.frame_ideal, Cert.InProj.frame_ref,
  Cert.OutProj.frame_kernel, Cert.OutProj.frame_ideal, Cert.OutProj.frame_ref,
  Cert.FfnBwd.frame_kernel, Cert.FfnBwd.frame_ideal, Cert.FfnBwd.frame_ideal_pre, Cert.FfnBwd.frame_ref, Cert.FfnBwd.frame_ref_pre,
  Cert.FfnFwd.frame_kernel, Cert.FfnFwd.frame_ideal, Cert.FfnFwd.frame_ref,
  Cert.PoolBwd.frame_kernel, Cert.PoolBwd.frame_ideal, Cert.PoolBwd.frame_ideal_pre, Cert.PoolBwd.frame_ref, Cert.PoolBwd.frame_ref_pre,
  Cert.Mix.frame_kernel, Cert.Mix.frame_ideal, Cert.Mix.frame_ideal_pre, Cert.Mix.frame_ref, Cert.Mix.frame_ref_pre,
  Cert.MixFwd.frame_kernel, Cert.MixFwd.frame_ideal, Cert.MixFwd.frame_ref,
  Cert.InFwd.frame_kernel, Cert.InFwd.frame_ideal, Cert.InFwd.frame_ref,
  trivial, Cert.Loss.value, trivial, Cert.InProj.value, trivial, Cert.OutProj.value, trivial, Cert.FfnBwd.value,
  trivial, Cert.FfnFwd.value, trivial, Cert.PoolBwd.value, Cert.Mix.preserves, Cert.Mix.value,
  Cert.MixFwd.preserves, Cert.MixFwd.value, trivial, Cert.InFwd.value⟩

end Cert.Proof

end
